-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWReferenceIdeal (m : (ℓ : Loc Cert.InWReferenceIdeal.nD Cert.InWReferenceIdeal.τ Cert.InWReferenceIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXIdeal_finite_x [hPre_finite_x : Cert.Pre_finite_x.Facts] (m : (ℓ : Loc Cert.InXIdeal.nD Cert.InXIdeal.τ Cert.InXIdeal.sig) → Buf (Elt Ideal) ℓ) : Prop :=
  ∀ c : Dev Cert.InXIdeal.nD,
    (Cert.Pre_finite_x.fn (F := Ideal) (m ((c.tc : Thread Cert.InXIdeal.nD Cert.InXIdeal.τ).loc Cert.InXIdeal.main_arg0)) (m ((c.tc : Thread Cert.InXIdeal.nD Cert.InXIdeal.τ).loc Cert.InXIdeal.main_arg1)) (m ((c.tc : Thread Cert.InXIdeal.nD Cert.InXIdeal.τ).loc Cert.InXIdeal.main_arg2)) (m ((c.tc : Thread Cert.InXIdeal.nD Cert.InXIdeal.τ).loc Cert.InXIdeal.main_arg3)) (m ((c.tc : Thread Cert.InXIdeal.nD Cert.InXIdeal.τ).loc Cert.InXIdeal.main_arg4))).1 = (fun _ => 1#1)
    ∧ (Cert.Pre_finite_x.fn (F := Ideal) (m ((c.tc : Thread Cert.InXIdeal.nD Cert.InXIdeal.τ).loc Cert.InXIdeal.main_arg0)) (m ((c.tc : Thread Cert.InXIdeal.nD Cert.InXIdeal.τ).loc Cert.InXIdeal.main_arg1)) (m ((c.tc : Thread Cert.InXIdeal.nD Cert.InXIdeal.τ).loc Cert.InXIdeal.main_arg2)) (m ((c.tc : Thread Cert.InXIdeal.nD Cert.InXIdeal.τ).loc Cert.InXIdeal.main_arg3)) (m ((c.tc : Thread Cert.InXIdeal.nD Cert.InXIdeal.τ).loc Cert.InXIdeal.main_arg4))).2.1 = (fun _ => 1#1)
    ∧ (Cert.Pre_finite_x.fn (F := Ideal) (m ((c.tc : Thread Cert.InXIdeal.nD Cert.InXIdeal.τ).loc Cert.InXIdeal.main_arg0)) (m ((c.tc : Thread Cert.InXIdeal.nD Cert.InXIdeal.τ).loc Cert.InXIdeal.main_arg1)) (m ((c.tc : Thread Cert.InXIdeal.nD Cert.InXIdeal.τ).loc Cert.InXIdeal.main_arg2)) (m ((c.tc : Thread Cert.InXIdeal.nD Cert.InXIdeal.τ).loc Cert.InXIdeal.main_arg3)) (m ((c.tc : Thread Cert.InXIdeal.nD Cert.InXIdeal.τ).loc Cert.InXIdeal.main_arg4))).2.2.1 = (fun _ => 1#1)
    ∧ (Cert.Pre_finite_x.fn (F := Ideal) (m ((c.tc : Thread Cert.InXIdeal.nD Cert.InXIdeal.τ).loc Cert.InXIdeal.main_arg0)) (m ((c.tc : Thread Cert.InXIdeal.nD Cert.InXIdeal.τ).loc Cert.InXIdeal.main_arg1)) (m ((c.tc : Thread Cert.InXIdeal.nD Cert.InXIdeal.τ).loc Cert.InXIdeal.main_arg2)) (m ((c.tc : Thread Cert.InXIdeal.nD Cert.InXIdeal.τ).loc Cert.InXIdeal.main_arg3)) (m ((c.tc : Thread Cert.InXIdeal.nD Cert.InXIdeal.τ).loc Cert.InXIdeal.main_arg4))).2.2.2.1 = (fun _ => 1#1)
    ∧ (Cert.Pre_finite_x.fn (F := Ideal) (m ((c.tc : Thread Cert.InXIdeal.nD Cert.InXIdeal.τ).loc Cert.InXIdeal.main_arg0)) (m ((c.tc : Thread Cert.InXIdeal.nD Cert.InXIdeal.τ).loc Cert.InXIdeal.main_arg1)) (m ((c.tc : Thread Cert.InXIdeal.nD Cert.InXIdeal.τ).loc Cert.InXIdeal.main_arg2)) (m ((c.tc : Thread Cert.InXIdeal.nD Cert.InXIdeal.τ).loc Cert.InXIdeal.main_arg3)) (m ((c.tc : Thread Cert.InXIdeal.nD Cert.InXIdeal.τ).loc Cert.InXIdeal.main_arg4))).2.2.2.2 = (fun _ => 1#1)

def Pre_InXReferenceIdeal (m : (ℓ : Loc Cert.InXReferenceIdeal.nD Cert.InXReferenceIdeal.τ Cert.InXReferenceIdeal.sig) → Buf (Elt Ideal) ℓ) : Prop :=
  True

def Pre_InXReferenceIdeal_finite_x [hPre_finite_x : Cert.Pre_finite_x.Facts] (m : (ℓ : Loc Cert.InXReferenceIdeal.nD Cert.InXReferenceIdeal.τ Cert.InXReferenceIdeal.sig) → Buf (Elt Ideal) ℓ) : Prop :=
  ∀ c : Dev Cert.InXReferenceIdeal.nD,
    (Cert.Pre_finite_x.fn (F := Ideal) (m ((c.tc : Thread Cert.InXReferenceIdeal.nD Cert.InXReferenceIdeal.τ).loc Cert.InXReferenceIdeal.main_arg0)) (m ((c.tc : Thread Cert.InXReferenceIdeal.nD Cert.InXReferenceIdeal.τ).loc Cert.InXReferenceIdeal.main_arg1)) (m ((c.tc : Thread Cert.InXReferenceIdeal.nD Cert.InXReferenceIdeal.τ).loc Cert.InXReferenceIdeal.main_arg2)) (m ((c.tc : Thread Cert.InXReferenceIdeal.nD Cert.InXReferenceIdeal.τ).loc Cert.InXReferenceIdeal.main_arg3)) (m ((c.tc : Thread Cert.InXReferenceIdeal.nD Cert.InXReferenceIdeal.τ).loc Cert.InXReferenceIdeal.main_arg4))).1 = (fun _ => 1#1)
    ∧ (Cert.Pre_finite_x.fn (F := Ideal) (m ((c.tc : Thread Cert.InXReferenceIdeal.nD Cert.InXReferenceIdeal.τ).loc Cert.InXReferenceIdeal.main_arg0)) (m ((c.tc : Thread Cert.InXReferenceIdeal.nD Cert.InXReferenceIdeal.τ).loc Cert.InXReferenceIdeal.main_arg1)) (m ((c.tc : Thread Cert.InXReferenceIdeal.nD Cert.InXReferenceIdeal.τ).loc Cert.InXReferenceIdeal.main_arg2)) (m ((c.tc : Thread Cert.InXReferenceIdeal.nD Cert.InXReferenceIdeal.τ).loc Cert.InXReferenceIdeal.main_arg3)) (m ((c.tc : Thread Cert.InXReferenceIdeal.nD Cert.InXReferenceIdeal.τ).loc Cert.InXReferenceIdeal.main_arg4))).2.1 = (fun _ => 1#1)
    ∧ (Cert.Pre_finite_x.fn (F := Ideal) (m ((c.tc : Thread Cert.InXReferenceIdeal.nD Cert.InXReferenceIdeal.τ).loc Cert.InXReferenceIdeal.main_arg0)) (m ((c.tc : Thread Cert.InXReferenceIdeal.nD Cert.InXReferenceIdeal.τ).loc Cert.InXReferenceIdeal.main_arg1)) (m ((c.tc : Thread Cert.InXReferenceIdeal.nD Cert.InXReferenceIdeal.τ).loc Cert.InXReferenceIdeal.main_arg2)) (m ((c.tc : Thread Cert.InXReferenceIdeal.nD Cert.InXReferenceIdeal.τ).loc Cert.InXReferenceIdeal.main_arg3)) (m ((c.tc : Thread Cert.InXReferenceIdeal.nD Cert.InXReferenceIdeal.τ).loc Cert.InXReferenceIdeal.main_arg4))).2.2.1 = (fun _ => 1#1)
    ∧ (Cert.Pre_finite_x.fn (F := Ideal) (m ((c.tc : Thread Cert.InXReferenceIdeal.nD Cert.InXReferenceIdeal.τ).loc Cert.InXReferenceIdeal.main_arg0)) (m ((c.tc : Thread Cert.InXReferenceIdeal.nD Cert.InXReferenceIdeal.τ).loc Cert.InXReferenceIdeal.main_arg1)) (m ((c.tc : Thread Cert.InXReferenceIdeal.nD Cert.InXReferenceIdeal.τ).loc Cert.InXReferenceIdeal.main_arg2)) (m ((c.tc : Thread Cert.InXReferenceIdeal.nD Cert.InXReferenceIdeal.τ).loc Cert.InXReferenceIdeal.main_arg3)) (m ((c.tc : Thread Cert.InXReferenceIdeal.nD Cert.InXReferenceIdeal.τ).loc Cert.InXReferenceIdeal.main_arg4))).2.2.2.1 = (fun _ => 1#1)
    ∧ (Cert.Pre_finite_x.fn (F := Ideal) (m ((c.tc : Thread Cert.InXReferenceIdeal.nD Cert.InXReferenceIdeal.τ).loc Cert.InXReferenceIdeal.main_arg0)) (m ((c.tc : Thread Cert.InXReferenceIdeal.nD Cert.InXReferenceIdeal.τ).loc Cert.InXReferenceIdeal.main_arg1)) (m ((c.tc : Thread Cert.InXReferenceIdeal.nD Cert.InXReferenceIdeal.τ).loc Cert.InXReferenceIdeal.main_arg2)) (m ((c.tc : Thread Cert.InXReferenceIdeal.nD Cert.InXReferenceIdeal.τ).loc Cert.InXReferenceIdeal.main_arg3)) (m ((c.tc : Thread Cert.InXReferenceIdeal.nD Cert.InXReferenceIdeal.τ).loc Cert.InXReferenceIdeal.main_arg4))).2.2.2.2 = (fun _ => 1#1)

def Pre_InP (m : (ℓ : Loc Cert.InP.nD Cert.InP.τ Cert.InP.sig) → Buf (Elt Bits) ℓ) : Prop :=
  True

def Pre_InPIdeal (m : (ℓ : Loc Cert.InPIdeal.nD Cert.InPIdeal.τ Cert.InPIdeal.sig) → Buf (Elt Ideal) ℓ) : Prop :=
  True

def Pre_InPReferenceIdeal (m : (ℓ : Loc Cert.InPReferenceIdeal.nD Cert.InPReferenceIdeal.τ Cert.InPReferenceIdeal.sig) → Buf (Elt Ideal) ℓ) : Prop :=
  True

def Pre_InXA (m : (ℓ : Loc Cert.InXA.nD Cert.InXA.τ Cert.InXA.sig) → Buf (Elt Bits) ℓ) : Prop :=
  True

def Pre_InXAIdeal (m : (ℓ : Loc Cert.InXAIdeal.nD Cert.InXAIdeal.τ Cert.InXAIdeal.sig) → Buf (Elt Ideal) ℓ) : Prop :=
  True

def Pre_InXAIdeal_finite_x [hPre_finite_x : Cert.Pre_finite_x.Facts] (m : (ℓ : Loc Cert.InXAIdeal.nD Cert.InXAIdeal.τ Cert.InXAIdeal.sig) → Buf (Elt Ideal) ℓ) : Prop :=
  ∀ c : Dev Cert.InXAIdeal.nD,
    (Cert.Pre_finite_x.fn (F := Ideal) (m ((c.tc : Thread Cert.InXAIdeal.nD Cert.InXAIdeal.τ).loc Cert.InXAIdeal.main_arg0)) (m ((c.tc : Thread Cert.InXAIdeal.nD Cert.InXAIdeal.τ).loc Cert.InXAIdeal.main_arg1)) (m ((c.tc : Thread Cert.InXAIdeal.nD Cert.InXAIdeal.τ).loc Cert.InXAIdeal.main_arg2)) (m ((c.tc : Thread Cert.InXAIdeal.nD Cert.InXAIdeal.τ).loc Cert.InXAIdeal.main_arg3)) (m ((c.tc : Thread Cert.InXAIdeal.nD Cert.InXAIdeal.τ).loc Cert.InXAIdeal.main_arg4))).1 = (fun _ => 1#1)
    ∧ (Cert.Pre_finite_x.fn (F := Ideal) (m ((c.tc : Thread Cert.InXAIdeal.nD Cert.InXAIdeal.τ).loc Cert.InXAIdeal.main_arg0)) (m ((c.tc : Thread Cert.InXAIdeal.nD Cert.InXAIdeal.τ).loc Cert.InXAIdeal.main_arg1)) (m ((c.tc : Thread Cert.InXAIdeal.nD Cert.InXAIdeal.τ).loc Cert.InXAIdeal.main_arg2)) (m ((c.tc : Thread Cert.InXAIdeal.nD Cert.InXAIdeal.τ).loc Cert.InXAIdeal.main_arg3)) (m ((c.tc : Thread Cert.InXAIdeal.nD Cert.InXAIdeal.τ).loc Cert.InXAIdeal.main_arg4))).2.1 = (fun _ => 1#1)
    ∧ (Cert.Pre_finite_x.fn (F := Ideal) (m ((c.tc : Thread Cert.InXAIdeal.nD Cert.InXAIdeal.τ).loc Cert.InXAIdeal.main_arg0)) (m ((c.tc : Thread Cert.InXAIdeal.nD Cert.InXAIdeal.τ).loc Cert.InXAIdeal.main_arg1)) (m ((c.tc : Thread Cert.InXAIdeal.nD Cert.InXAIdeal.τ).loc Cert.InXAIdeal.main_arg2)) (m ((c.tc : Thread Cert.InXAIdeal.nD Cert.InXAIdeal.τ).loc Cert.InXAIdeal.main_arg3)) (m ((c.tc : Thread Cert.InXAIdeal.nD Cert.InXAIdeal.τ).loc Cert.InXAIdeal.main_arg4))).2.2.1 = (fun _ => 1#1)
    ∧ (Cert.Pre_finite_x.fn (F := Ideal) (m ((c.tc : Thread Cert.InXAIdeal.nD Cert.InXAIdeal.τ).loc Cert.InXAIdeal.main_arg0)) (m ((c.tc : Thread Cert.InXAIdeal.nD Cert.InXAIdeal.τ).loc Cert.InXAIdeal.main_arg1)) (m ((c.tc : Thread Cert.InXAIdeal.nD Cert.InXAIdeal.τ).loc Cert.InXAIdeal.main_arg2)) (m ((c.tc : Thread Cert.InXAIdeal.nD Cert.InXAIdeal.τ).loc Cert.InXAIdeal.main_arg3)) (m ((c.tc : Thread Cert.InXAIdeal.nD Cert.InXAIdeal.τ).loc Cert.InXAIdeal.main_arg4))).2.2.2.1 = (fun _ => 1#1)
    ∧ (Cert.Pre_finite_x.fn (F := Ideal) (m ((c.tc : Thread Cert.InXAIdeal.nD Cert.InXAIdeal.τ).loc Cert.InXAIdeal.main_arg0)) (m ((c.tc : Thread Cert.InXAIdeal.nD Cert.InXAIdeal.τ).loc Cert.InXAIdeal.main_arg1)) (m ((c.tc : Thread Cert.InXAIdeal.nD Cert.InXAIdeal.τ).loc Cert.InXAIdeal.main_arg2)) (m ((c.tc : Thread Cert.InXAIdeal.nD Cert.InXAIdeal.τ).loc Cert.InXAIdeal.main_arg3)) (m ((c.tc : Thread Cert.InXAIdeal.nD Cert.InXAIdeal.τ).loc Cert.InXAIdeal.main_arg4))).2.2.2.2 = (fun _ => 1#1)

def Pre_InXAReferenceIdeal (m : (ℓ : Loc Cert.InXAReferenceIdeal.nD Cert.InXAReferenceIdeal.τ Cert.InXAReferenceIdeal.sig) → Buf (Elt Ideal) ℓ) : Prop :=
  True

def Pre_InXAReferenceIdeal_finite_x [hPre_finite_x : Cert.Pre_finite_x.Facts] (m : (ℓ : Loc Cert.InXAReferenceIdeal.nD Cert.InXAReferenceIdeal.τ Cert.InXAReferenceIdeal.sig) → Buf (Elt Ideal) ℓ) : Prop :=
  ∀ c : Dev Cert.InXAReferenceIdeal.nD,
    (Cert.Pre_finite_x.fn (F := Ideal) (m ((c.tc : Thread Cert.InXAReferenceIdeal.nD Cert.InXAReferenceIdeal.τ).loc Cert.InXAReferenceIdeal.main_arg0)) (m ((c.tc : Thread Cert.InXAReferenceIdeal.nD Cert.InXAReferenceIdeal.τ).loc Cert.InXAReferenceIdeal.main_arg1)) (m ((c.tc : Thread Cert.InXAReferenceIdeal.nD Cert.InXAReferenceIdeal.τ).loc Cert.InXAReferenceIdeal.main_arg2)) (m ((c.tc : Thread Cert.InXAReferenceIdeal.nD Cert.InXAReferenceIdeal.τ).loc Cert.InXAReferenceIdeal.main_arg3)) (m ((c.tc : Thread Cert.InXAReferenceIdeal.nD Cert.InXAReferenceIdeal.τ).loc Cert.InXAReferenceIdeal.main_arg4))).1 = (fun _ => 1#1)
    ∧ (Cert.Pre_finite_x.fn (F := Ideal) (m ((c.tc : Thread Cert.InXAReferenceIdeal.nD Cert.InXAReferenceIdeal.τ).loc Cert.InXAReferenceIdeal.main_arg0)) (m ((c.tc : Thread Cert.InXAReferenceIdeal.nD Cert.InXAReferenceIdeal.τ).loc Cert.InXAReferenceIdeal.main_arg1)) (m ((c.tc : Thread Cert.InXAReferenceIdeal.nD Cert.InXAReferenceIdeal.τ).loc Cert.InXAReferenceIdeal.main_arg2)) (m ((c.tc : Thread Cert.InXAReferenceIdeal.nD Cert.InXAReferenceIdeal.τ).loc Cert.InXAReferenceIdeal.main_arg3)) (m ((c.tc : Thread Cert.InXAReferenceIdeal.nD Cert.InXAReferenceIdeal.τ).loc Cert.InXAReferenceIdeal.main_arg4))).2.1 = (fun _ => 1#1)
    ∧ (Cert.Pre_finite_x.fn (F := Ideal) (m ((c.tc : Thread Cert.InXAReferenceIdeal.nD Cert.InXAReferenceIdeal.τ).loc Cert.InXAReferenceIdeal.main_arg0)) (m ((c.tc : Thread Cert.InXAReferenceIdeal.nD Cert.InXAReferenceIdeal.τ).loc Cert.InXAReferenceIdeal.main_arg1)) (m ((c.tc : Thread Cert.InXAReferenceIdeal.nD Cert.InXAReferenceIdeal.τ).loc Cert.InXAReferenceIdeal.main_arg2)) (m ((c.tc : Thread Cert.InXAReferenceIdeal.nD Cert.InXAReferenceIdeal.τ).loc Cert.InXAReferenceIdeal.main_arg3)) (m ((c.tc : Thread Cert.InXAReferenceIdeal.nD Cert.InXAReferenceIdeal.τ).loc Cert.InXAReferenceIdeal.main_arg4))).2.2.1 = (fun _ => 1#1)
    ∧ (Cert.Pre_finite_x.fn (F := Ideal) (m ((c.tc : Thread Cert.InXAReferenceIdeal.nD Cert.InXAReferenceIdeal.τ).loc Cert.InXAReferenceIdeal.main_arg0)) (m ((c.tc : Thread Cert.InXAReferenceIdeal.nD Cert.InXAReferenceIdeal.τ).loc Cert.InXAReferenceIdeal.main_arg1)) (m ((c.tc : Thread Cert.InXAReferenceIdeal.nD Cert.InXAReferenceIdeal.τ).loc Cert.InXAReferenceIdeal.main_arg2)) (m ((c.tc : Thread Cert.InXAReferenceIdeal.nD Cert.InXAReferenceIdeal.τ).loc Cert.InXAReferenceIdeal.main_arg3)) (m ((c.tc : Thread Cert.InXAReferenceIdeal.nD Cert.InXAReferenceIdeal.τ).loc Cert.InXAReferenceIdeal.main_arg4))).2.2.2.1 = (fun _ => 1#1)
    ∧ (Cert.Pre_finite_x.fn (F := Ideal) (m ((c.tc : Thread Cert.InXAReferenceIdeal.nD Cert.InXAReferenceIdeal.τ).loc Cert.InXAReferenceIdeal.main_arg0)) (m ((c.tc : Thread Cert.InXAReferenceIdeal.nD Cert.InXAReferenceIdeal.τ).loc Cert.InXAReferenceIdeal.main_arg1)) (m ((c.tc : Thread Cert.InXAReferenceIdeal.nD Cert.InXAReferenceIdeal.τ).loc Cert.InXAReferenceIdeal.main_arg2)) (m ((c.tc : Thread Cert.InXAReferenceIdeal.nD Cert.InXAReferenceIdeal.τ).loc Cert.InXAReferenceIdeal.main_arg3)) (m ((c.tc : Thread Cert.InXAReferenceIdeal.nD Cert.InXAReferenceIdeal.τ).loc Cert.InXAReferenceIdeal.main_arg4))).2.2.2.2 = (fun _ => 1#1)

def Pre_InXB (m : (ℓ : Loc Cert.InXB.nD Cert.InXB.τ Cert.InXB.sig) → Buf (Elt Bits) ℓ) : Prop :=
  True

def Pre_InXBIdeal (m : (ℓ : Loc Cert.InXBIdeal.nD Cert.InXBIdeal.τ Cert.InXBIdeal.sig) → Buf (Elt Ideal) ℓ) : Prop :=
  True

def Pre_InXBIdeal_finite_xb [hPre_finite_xb : Cert.Pre_finite_xb.Facts] (m : (ℓ : Loc Cert.InXBIdeal.nD Cert.InXBIdeal.τ Cert.InXBIdeal.sig) → Buf (Elt Ideal) ℓ) : Prop :=
  ∀ c : Dev Cert.InXBIdeal.nD,
    (Cert.Pre_finite_xb.fn (F := Ideal) (m ((c.tc : Thread Cert.InXBIdeal.nD Cert.InXBIdeal.τ).loc Cert.InXBIdeal.main_arg0)) (m ((c.tc : Thread Cert.InXBIdeal.nD Cert.InXBIdeal.τ).loc Cert.InXBIdeal.main_arg1)) (m ((c.tc : Thread Cert.InXBIdeal.nD Cert.InXBIdeal.τ).loc Cert.InXBIdeal.main_arg2)) (m ((c.tc : Thread Cert.InXBIdeal.nD Cert.InXBIdeal.τ).loc Cert.InXBIdeal.main_arg3)) (m ((c.tc : Thread Cert.InXBIdeal.nD Cert.InXBIdeal.τ).loc Cert.InXBIdeal.main_arg4)) (m ((c.tc : Thread Cert.InXBIdeal.nD Cert.InXBIdeal.τ).loc Cert.InXBIdeal.main_arg5))).1 = (fun _ => 1#1)
    ∧ (Cert.Pre_finite_xb.fn (F := Ideal) (m ((c.tc : Thread Cert.InXBIdeal.nD Cert.InXBIdeal.τ).loc Cert.InXBIdeal.main_arg0)) (m ((c.tc : Thread Cert.InXBIdeal.nD Cert.InXBIdeal.τ).loc Cert.InXBIdeal.main_arg1)) (m ((c.tc : Thread Cert.InXBIdeal.nD Cert.InXBIdeal.τ).loc Cert.InXBIdeal.main_arg2)) (m ((c.tc : Thread Cert.InXBIdeal.nD Cert.InXBIdeal.τ).loc Cert.InXBIdeal.main_arg3)) (m ((c.tc : Thread Cert.InXBIdeal.nD Cert.InXBIdeal.τ).loc Cert.InXBIdeal.main_arg4)) (m ((c.tc : Thread Cert.InXBIdeal.nD Cert.InXBIdeal.τ).loc Cert.InXBIdeal.main_arg5))).2.1 = (fun _ => 1#1)
    ∧ (Cert.Pre_finite_xb.fn (F := Ideal) (m ((c.tc : Thread Cert.InXBIdeal.nD Cert.InXBIdeal.τ).loc Cert.InXBIdeal.main_arg0)) (m ((c.tc : Thread Cert.InXBIdeal.nD Cert.InXBIdeal.τ).loc Cert.InXBIdeal.main_arg1)) (m ((c.tc : Thread Cert.InXBIdeal.nD Cert.InXBIdeal.τ).loc Cert.InXBIdeal.main_arg2)) (m ((c.tc : Thread Cert.InXBIdeal.nD Cert.InXBIdeal.τ).loc Cert.InXBIdeal.main_arg3)) (m ((c.tc : Thread Cert.InXBIdeal.nD Cert.InXBIdeal.τ).loc Cert.InXBIdeal.main_arg4)) (m ((c.tc : Thread Cert.InXBIdeal.nD Cert.InXBIdeal.τ).loc Cert.InXBIdeal.main_arg5))).2.2.1 = (fun _ => 1#1)
    ∧ (Cert.Pre_finite_xb.fn (F := Ideal) (m ((c.tc : Thread Cert.InXBIdeal.nD Cert.InXBIdeal.τ).loc Cert.InXBIdeal.main_arg0)) (m ((c.tc : Thread Cert.InXBIdeal.nD Cert.InXBIdeal.τ).loc Cert.InXBIdeal.main_arg1)) (m ((c.tc : Thread Cert.InXBIdeal.nD Cert.InXBIdeal.τ).loc Cert.InXBIdeal.main_arg2)) (m ((c.tc : Thread Cert.InXBIdeal.nD Cert.InXBIdeal.τ).loc Cert.InXBIdeal.main_arg3)) (m ((c.tc : Thread Cert.InXBIdeal.nD Cert.InXBIdeal.τ).loc Cert.InXBIdeal.main_arg4)) (m ((c.tc : Thread Cert.InXBIdeal.nD Cert.InXBIdeal.τ).loc Cert.InXBIdeal.main_arg5))).2.2.2.1 = (fun _ => 1#1)
    ∧ (Cert.Pre_finite_xb.fn (F := Ideal) (m ((c.tc : Thread Cert.InXBIdeal.nD Cert.InXBIdeal.τ).loc Cert.InXBIdeal.main_arg0)) (m ((c.tc : Thread Cert.InXBIdeal.nD Cert.InXBIdeal.τ).loc Cert.InXBIdeal.main_arg1)) (m ((c.tc : Thread Cert.InXBIdeal.nD Cert.InXBIdeal.τ).loc Cert.InXBIdeal.main_arg2)) (m ((c.tc : Thread Cert.InXBIdeal.nD Cert.InXBIdeal.τ).loc Cert.InXBIdeal.main_arg3)) (m ((c.tc : Thread Cert.InXBIdeal.nD Cert.InXBIdeal.τ).loc Cert.InXBIdeal.main_arg4)) (m ((c.tc : Thread Cert.InXBIdeal.nD Cert.InXBIdeal.τ).loc Cert.InXBIdeal.main_arg5))).2.2.2.2.1 = (fun _ => 1#1)
    ∧ (Cert.Pre_finite_xb.fn (F := Ideal) (m ((c.tc : Thread Cert.InXBIdeal.nD Cert.InXBIdeal.τ).loc Cert.InXBIdeal.main_arg0)) (m ((c.tc : Thread Cert.InXBIdeal.nD Cert.InXBIdeal.τ).loc Cert.InXBIdeal.main_arg1)) (m ((c.tc : Thread Cert.InXBIdeal.nD Cert.InXBIdeal.τ).loc Cert.InXBIdeal.main_arg2)) (m ((c.tc : Thread Cert.InXBIdeal.nD Cert.InXBIdeal.τ).loc Cert.InXBIdeal.main_arg3)) (m ((c.tc : Thread Cert.InXBIdeal.nD Cert.InXBIdeal.τ).loc Cert.InXBIdeal.main_arg4)) (m ((c.tc : Thread Cert.InXBIdeal.nD Cert.InXBIdeal.τ).loc Cert.InXBIdeal.main_arg5))).2.2.2.2.2 = (fun _ => 1#1)

def Pre_InXBReferenceIdeal (m : (ℓ : Loc Cert.InXBReferenceIdeal.nD Cert.InXBReferenceIdeal.τ Cert.InXBReferenceIdeal.sig) → Buf (Elt Ideal) ℓ) : Prop :=
  True

def Pre_InXBReferenceIdeal_finite_xb [hPre_finite_xb : Cert.Pre_finite_xb.Facts] (m : (ℓ : Loc Cert.InXBReferenceIdeal.nD Cert.InXBReferenceIdeal.τ Cert.InXBReferenceIdeal.sig) → Buf (Elt Ideal) ℓ) : Prop :=
  ∀ c : Dev Cert.InXBReferenceIdeal.nD,
    (Cert.Pre_finite_xb.fn (F := Ideal) (m ((c.tc : Thread Cert.InXBReferenceIdeal.nD Cert.InXBReferenceIdeal.τ).loc Cert.InXBReferenceIdeal.main_arg0)) (m ((c.tc : Thread Cert.InXBReferenceIdeal.nD Cert.InXBReferenceIdeal.τ).loc Cert.InXBReferenceIdeal.main_arg1)) (m ((c.tc : Thread Cert.InXBReferenceIdeal.nD Cert.InXBReferenceIdeal.τ).loc Cert.InXBReferenceIdeal.main_arg2)) (m ((c.tc : Thread Cert.InXBReferenceIdeal.nD Cert.InXBReferenceIdeal.τ).loc Cert.InXBReferenceIdeal.main_arg3)) (m ((c.tc : Thread Cert.InXBReferenceIdeal.nD Cert.InXBReferenceIdeal.τ).loc Cert.InXBReferenceIdeal.main_arg4)) (m ((c.tc : Thread Cert.InXBReferenceIdeal.nD Cert.InXBReferenceIdeal.τ).loc Cert.InXBReferenceIdeal.main_arg5))).1 = (fun _ => 1#1)
    ∧ (Cert.Pre_finite_xb.fn (F := Ideal) (m ((c.tc : Thread Cert.InXBReferenceIdeal.nD Cert.InXBReferenceIdeal.τ).loc Cert.InXBReferenceIdeal.main_arg0)) (m ((c.tc : Thread Cert.InXBReferenceIdeal.nD Cert.InXBReferenceIdeal.τ).loc Cert.InXBReferenceIdeal.main_arg1)) (m ((c.tc : Thread Cert.InXBReferenceIdeal.nD Cert.InXBReferenceIdeal.τ).loc Cert.InXBReferenceIdeal.main_arg2)) (m ((c.tc : Thread Cert.InXBReferenceIdeal.nD Cert.InXBReferenceIdeal.τ).loc Cert.InXBReferenceIdeal.main_arg3)) (m ((c.tc : Thread Cert.InXBReferenceIdeal.nD Cert.InXBReferenceIdeal.τ).loc Cert.InXBReferenceIdeal.main_arg4)) (m ((c.tc : Thread Cert.InXBReferenceIdeal.nD Cert.InXBReferenceIdeal.τ).loc Cert.InXBReferenceIdeal.main_arg5))).2.1 = (fun _ => 1#1)
    ∧ (Cert.Pre_finite_xb.fn (F := Ideal) (m ((c.tc : Thread Cert.InXBReferenceIdeal.nD Cert.InXBReferenceIdeal.τ).loc Cert.InXBReferenceIdeal.main_arg0)) (m ((c.tc : Thread Cert.InXBReferenceIdeal.nD Cert.InXBReferenceIdeal.τ).loc Cert.InXBReferenceIdeal.main_arg1)) (m ((c.tc : Thread Cert.InXBReferenceIdeal.nD Cert.InXBReferenceIdeal.τ).loc Cert.InXBReferenceIdeal.main_arg2)) (m ((c.tc : Thread Cert.InXBReferenceIdeal.nD Cert.InXBReferenceIdeal.τ).loc Cert.InXBReferenceIdeal.main_arg3)) (m ((c.tc : Thread Cert.InXBReferenceIdeal.nD Cert.InXBReferenceIdeal.τ).loc Cert.InXBReferenceIdeal.main_arg4)) (m ((c.tc : Thread Cert.InXBReferenceIdeal.nD Cert.InXBReferenceIdeal.τ).loc Cert.InXBReferenceIdeal.main_arg5))).2.2.1 = (fun _ => 1#1)
    ∧ (Cert.Pre_finite_xb.fn (F := Ideal) (m ((c.tc : Thread Cert.InXBReferenceIdeal.nD Cert.InXBReferenceIdeal.τ).loc Cert.InXBReferenceIdeal.main_arg0)) (m ((c.tc : Thread Cert.InXBReferenceIdeal.nD Cert.InXBReferenceIdeal.τ).loc Cert.InXBReferenceIdeal.main_arg1)) (m ((c.tc : Thread Cert.InXBReferenceIdeal.nD Cert.InXBReferenceIdeal.τ).loc Cert.InXBReferenceIdeal.main_arg2)) (m ((c.tc : Thread Cert.InXBReferenceIdeal.nD Cert.InXBReferenceIdeal.τ).loc Cert.InXBReferenceIdeal.main_arg3)) (m ((c.tc : Thread Cert.InXBReferenceIdeal.nD Cert.InXBReferenceIdeal.τ).loc Cert.InXBReferenceIdeal.main_arg4)) (m ((c.tc : Thread Cert.InXBReferenceIdeal.nD Cert.InXBReferenceIdeal.τ).loc Cert.InXBReferenceIdeal.main_arg5))).2.2.2.1 = (fun _ => 1#1)
    ∧ (Cert.Pre_finite_xb.fn (F := Ideal) (m ((c.tc : Thread Cert.InXBReferenceIdeal.nD Cert.InXBReferenceIdeal.τ).loc Cert.InXBReferenceIdeal.main_arg0)) (m ((c.tc : Thread Cert.InXBReferenceIdeal.nD Cert.InXBReferenceIdeal.τ).loc Cert.InXBReferenceIdeal.main_arg1)) (m ((c.tc : Thread Cert.InXBReferenceIdeal.nD Cert.InXBReferenceIdeal.τ).loc Cert.InXBReferenceIdeal.main_arg2)) (m ((c.tc : Thread Cert.InXBReferenceIdeal.nD Cert.InXBReferenceIdeal.τ).loc Cert.InXBReferenceIdeal.main_arg3)) (m ((c.tc : Thread Cert.InXBReferenceIdeal.nD Cert.InXBReferenceIdeal.τ).loc Cert.InXBReferenceIdeal.main_arg4)) (m ((c.tc : Thread Cert.InXBReferenceIdeal.nD Cert.InXBReferenceIdeal.τ).loc Cert.InXBReferenceIdeal.main_arg5))).2.2.2.2.1 = (fun _ => 1#1)
    ∧ (Cert.Pre_finite_xb.fn (F := Ideal) (m ((c.tc : Thread Cert.InXBReferenceIdeal.nD Cert.InXBReferenceIdeal.τ).loc Cert.InXBReferenceIdeal.main_arg0)) (m ((c.tc : Thread Cert.InXBReferenceIdeal.nD Cert.InXBReferenceIdeal.τ).loc Cert.InXBReferenceIdeal.main_arg1)) (m ((c.tc : Thread Cert.InXBReferenceIdeal.nD Cert.InXBReferenceIdeal.τ).loc Cert.InXBReferenceIdeal.main_arg2)) (m ((c.tc : Thread Cert.InXBReferenceIdeal.nD Cert.InXBReferenceIdeal.τ).loc Cert.InXBReferenceIdeal.main_arg3)) (m ((c.tc : Thread Cert.InXBReferenceIdeal.nD Cert.InXBReferenceIdeal.τ).loc Cert.InXBReferenceIdeal.main_arg4)) (m ((c.tc : Thread Cert.InXBReferenceIdeal.nD Cert.InXBReferenceIdeal.τ).loc Cert.InXBReferenceIdeal.main_arg5))).2.2.2.2.2 = (fun _ => 1#1)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15)
      ∧ r.2.mem ((c.tc : Thread Cert.Mix.nD Cert.Mix.τ).loc Cert.Mix.main_arg16) = m ((c.tc : Thread Cert.Mix.nD Cert.Mix.τ).loc Cert.Mix.main_arg16))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13)
      ∧ r.2.mem ((c.tc : Thread Cert.MixReferenceIdeal.nD Cert.MixReferenceIdeal.τ).loc Cert.MixReferenceIdeal.main_arg14) = m ((c.tc : Thread Cert.MixReferenceIdeal.nD Cert.MixReferenceIdeal.τ).loc Cert.MixReferenceIdeal.main_arg14)
      ∧ r.2.mem ((c.tc : Thread Cert.MixReferenceIdeal.nD Cert.MixReferenceIdeal.τ).loc Cert.MixReferenceIdeal.main_arg15) = m ((c.tc : Thread Cert.MixReferenceIdeal.nD Cert.MixReferenceIdeal.τ).loc Cert.MixReferenceIdeal.main_arg15)
      ∧ r.2.mem ((c.tc : Thread Cert.MixReferenceIdeal.nD Cert.MixReferenceIdeal.τ).loc Cert.MixReferenceIdeal.main_arg16) = m ((c.tc : Thread Cert.MixReferenceIdeal.nD Cert.MixReferenceIdeal.τ).loc Cert.MixReferenceIdeal.main_arg16))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWReferenceIdeal [hInWReferenceIdeal : Cert.InWReferenceIdeal.Facts] : Prop :=
  ∀ (m : (ℓ : Loc Cert.InWReferenceIdeal.nD Cert.InWReferenceIdeal.τ Cert.InWReferenceIdeal.sig) → Buf (Elt Ideal) ℓ) (g : Dev Cert.InWReferenceIdeal.nD → PrngReg), Pre_InWReferenceIdeal m →
    θ_run (Cert.InWReferenceIdeal.defs (F := Ideal)) (onTc (τ := Cert.InWReferenceIdeal.τ) (Cert.InWReferenceIdeal.main (F := Ideal))) ⟨m, fun _ => 0, g⟩ (fun r => (∀ c : Dev Cert.InWReferenceIdeal.nD,
      r.2.mem ((c.tc : Thread Cert.InWReferenceIdeal.nD Cert.InWReferenceIdeal.τ).loc Cert.InWReferenceIdeal.main_arg0) = m ((c.tc : Thread Cert.InWReferenceIdeal.nD Cert.InWReferenceIdeal.τ).loc Cert.InWReferenceIdeal.main_arg0)
      ∧ r.2.mem ((c.tc : Thread Cert.InWReferenceIdeal.nD Cert.InWReferenceIdeal.τ).loc Cert.InWReferenceIdeal.main_arg1) = m ((c.tc : Thread Cert.InWReferenceIdeal.nD Cert.InWReferenceIdeal.τ).loc Cert.InWReferenceIdeal.main_arg1))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1)
      ∧ r.2.mem ((c.tc : Thread Cert.InX.nD Cert.InX.τ).loc Cert.InX.main_arg2) = m ((c.tc : Thread Cert.InX.nD Cert.InX.τ).loc Cert.InX.main_arg2)
      ∧ r.2.mem ((c.tc : Thread Cert.InX.nD Cert.InX.τ).loc Cert.InX.main_arg3) = m ((c.tc : Thread Cert.InX.nD Cert.InX.τ).loc Cert.InX.main_arg3)
      ∧ r.2.mem ((c.tc : Thread Cert.InX.nD Cert.InX.τ).loc Cert.InX.main_arg4) = m ((c.tc : Thread Cert.InX.nD Cert.InX.τ).loc Cert.InX.main_arg4))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
      ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
      ∧ r.2.mem ((c.tc : Thread Cert.InXIdeal.nD Cert.InXIdeal.τ).loc Cert.InXIdeal.main_arg4) = m ((c.tc : Thread Cert.InXIdeal.nD Cert.InXIdeal.τ).loc Cert.InXIdeal.main_arg4))
      ∧ r.2.sem = fun _ => 0)

def quiescent_InXIdeal_pre_finite_x [hInXIdeal : Cert.InXIdeal.Facts] [hPre_finite_x : Cert.Pre_finite_x.Facts] : Prop :=
  ∀ (m : (ℓ : Loc Cert.InXIdeal.nD Cert.InXIdeal.τ Cert.InXIdeal.sig) → Buf (Elt Ideal) ℓ) (g : Dev Cert.InXIdeal.nD → PrngReg), Pre_InXIdeal_finite_x m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
      ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
      ∧ r.2.mem ((c.tc : Thread Cert.InXIdeal.nD Cert.InXIdeal.τ).loc Cert.InXIdeal.main_arg4) = m ((c.tc : Thread Cert.InXIdeal.nD Cert.InXIdeal.τ).loc Cert.InXIdeal.main_arg4))
      ∧ r.2.sem = fun _ => 0)

def quiescent_InXReferenceIdeal [hInXReferenceIdeal : Cert.InXReferenceIdeal.Facts] : Prop :=
  ∀ (m : (ℓ : Loc Cert.InXReferenceIdeal.nD Cert.InXReferenceIdeal.τ Cert.InXReferenceIdeal.sig) → Buf (Elt Ideal) ℓ) (g : Dev Cert.InXReferenceIdeal.nD → PrngReg), Pre_InXReferenceIdeal m →
    θ_run (Cert.InXReferenceIdeal.defs (F := Ideal)) (onTc (τ := Cert.InXReferenceIdeal.τ) (Cert.InXReferenceIdeal.main (F := Ideal))) ⟨m, fun _ => 0, g⟩ (fun r => (∀ c : Dev Cert.InXReferenceIdeal.nD,
      r.2.mem ((c.tc : Thread Cert.InXReferenceIdeal.nD Cert.InXReferenceIdeal.τ).loc Cert.InXReferenceIdeal.main_arg0) = m ((c.tc : Thread Cert.InXReferenceIdeal.nD Cert.InXReferenceIdeal.τ).loc Cert.InXReferenceIdeal.main_arg0)
      ∧ r.2.mem ((c.tc : Thread Cert.InXReferenceIdeal.nD Cert.InXReferenceIdeal.τ).loc Cert.InXReferenceIdeal.main_arg1) = m ((c.tc : Thread Cert.InXReferenceIdeal.nD Cert.InXReferenceIdeal.τ).loc Cert.InXReferenceIdeal.main_arg1)
      ∧ r.2.mem ((c.tc : Thread Cert.InXReferenceIdeal.nD Cert.InXReferenceIdeal.τ).loc Cert.InXReferenceIdeal.main_arg2) = m ((c.tc : Thread Cert.InXReferenceIdeal.nD Cert.InXReferenceIdeal.τ).loc Cert.InXReferenceIdeal.main_arg2)
      ∧ r.2.mem ((c.tc : Thread Cert.InXReferenceIdeal.nD Cert.InXReferenceIdeal.τ).loc Cert.InXReferenceIdeal.main_arg3) = m ((c.tc : Thread Cert.InXReferenceIdeal.nD Cert.InXReferenceIdeal.τ).loc Cert.InXReferenceIdeal.main_arg3)
      ∧ r.2.mem ((c.tc : Thread Cert.InXReferenceIdeal.nD Cert.InXReferenceIdeal.τ).loc Cert.InXReferenceIdeal.main_arg4) = m ((c.tc : Thread Cert.InXReferenceIdeal.nD Cert.InXReferenceIdeal.τ).loc Cert.InXReferenceIdeal.main_arg4))
      ∧ r.2.sem = fun _ => 0)

def quiescent_InXReferenceIdeal_pre_finite_x [hInXReferenceIdeal : Cert.InXReferenceIdeal.Facts] [hPre_finite_x : Cert.Pre_finite_x.Facts] : Prop :=
  ∀ (m : (ℓ : Loc Cert.InXReferenceIdeal.nD Cert.InXReferenceIdeal.τ Cert.InXReferenceIdeal.sig) → Buf (Elt Ideal) ℓ) (g : Dev Cert.InXReferenceIdeal.nD → PrngReg), Pre_InXReferenceIdeal_finite_x m →
    θ_run (Cert.InXReferenceIdeal.defs (F := Ideal)) (onTc (τ := Cert.InXReferenceIdeal.τ) (Cert.InXReferenceIdeal.main (F := Ideal))) ⟨m, fun _ => 0, g⟩ (fun r => (∀ c : Dev Cert.InXReferenceIdeal.nD,
      r.2.mem ((c.tc : Thread Cert.InXReferenceIdeal.nD Cert.InXReferenceIdeal.τ).loc Cert.InXReferenceIdeal.main_arg0) = m ((c.tc : Thread Cert.InXReferenceIdeal.nD Cert.InXReferenceIdeal.τ).loc Cert.InXReferenceIdeal.main_arg0)
      ∧ r.2.mem ((c.tc : Thread Cert.InXReferenceIdeal.nD Cert.InXReferenceIdeal.τ).loc Cert.InXReferenceIdeal.main_arg1) = m ((c.tc : Thread Cert.InXReferenceIdeal.nD Cert.InXReferenceIdeal.τ).loc Cert.InXReferenceIdeal.main_arg1)
      ∧ r.2.mem ((c.tc : Thread Cert.InXReferenceIdeal.nD Cert.InXReferenceIdeal.τ).loc Cert.InXReferenceIdeal.main_arg2) = m ((c.tc : Thread Cert.InXReferenceIdeal.nD Cert.InXReferenceIdeal.τ).loc Cert.InXReferenceIdeal.main_arg2)
      ∧ r.2.mem ((c.tc : Thread Cert.InXReferenceIdeal.nD Cert.InXReferenceIdeal.τ).loc Cert.InXReferenceIdeal.main_arg3) = m ((c.tc : Thread Cert.InXReferenceIdeal.nD Cert.InXReferenceIdeal.τ).loc Cert.InXReferenceIdeal.main_arg3)
      ∧ r.2.mem ((c.tc : Thread Cert.InXReferenceIdeal.nD Cert.InXReferenceIdeal.τ).loc Cert.InXReferenceIdeal.main_arg4) = m ((c.tc : Thread Cert.InXReferenceIdeal.nD Cert.InXReferenceIdeal.τ).loc Cert.InXReferenceIdeal.main_arg4))
      ∧ r.2.sem = fun _ => 0)

def quiescent_InP [hInP : Cert.InP.Facts] : Prop :=
  ∀ (m : (ℓ : Loc Cert.InP.nD Cert.InP.τ Cert.InP.sig) → Buf (Elt Bits) ℓ) (g : Dev Cert.InP.nD → PrngReg), Pre_InP m →
    θ_run (Cert.InP.defs (F := Bits)) (onTc (τ := Cert.InP.τ) (Cert.InP.main (F := Bits))) ⟨m, fun _ => 0, g⟩ (fun r => (∀ c : Dev Cert.InP.nD,
      r.2.mem ((c.tc : Thread Cert.InP.nD Cert.InP.τ).loc Cert.InP.main_arg0) = m ((c.tc : Thread Cert.InP.nD Cert.InP.τ).loc Cert.InP.main_arg0)
      ∧ r.2.mem ((c.tc : Thread Cert.InP.nD Cert.InP.τ).loc Cert.InP.main_arg1) = m ((c.tc : Thread Cert.InP.nD Cert.InP.τ).loc Cert.InP.main_arg1)
      ∧ r.2.mem ((c.tc : Thread Cert.InP.nD Cert.InP.τ).loc Cert.InP.main_arg2) = m ((c.tc : Thread Cert.InP.nD Cert.InP.τ).loc Cert.InP.main_arg2))
      ∧ r.2.sem = fun _ => 0)

def quiescent_InPIdeal [hInPIdeal : Cert.InPIdeal.Facts] : Prop :=
  ∀ (m : (ℓ : Loc Cert.InPIdeal.nD Cert.InPIdeal.τ Cert.InPIdeal.sig) → Buf (Elt Ideal) ℓ) (g : Dev Cert.InPIdeal.nD → PrngReg), Pre_InPIdeal m →
    θ_run (Cert.InPIdeal.defs (F := Ideal)) (onTc (τ := Cert.InPIdeal.τ) (Cert.InPIdeal.main (F := Ideal))) ⟨m, fun _ => 0, g⟩ (fun r => (∀ c : Dev Cert.InPIdeal.nD,
      r.2.mem ((c.tc : Thread Cert.InPIdeal.nD Cert.InPIdeal.τ).loc Cert.InPIdeal.main_arg0) = m ((c.tc : Thread Cert.InPIdeal.nD Cert.InPIdeal.τ).loc Cert.InPIdeal.main_arg0)
      ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
      ∧ r.2.mem ((c.tc : Thread Cert.InPIdeal.nD Cert.InPIdeal.τ).loc Cert.InPIdeal.main_arg2) = m ((c.tc : Thread Cert.InPIdeal.nD Cert.InPIdeal.τ).loc Cert.InPIdeal.main_arg2))
      ∧ r.2.sem = fun _ => 0)

def quiescent_InPReferenceIdeal [hInPReferenceIdeal : Cert.InPReferenceIdeal.Facts] : Prop :=
  ∀ (m : (ℓ : Loc Cert.InPReferenceIdeal.nD Cert.InPReferenceIdeal.τ Cert.InPReferenceIdeal.sig) → Buf (Elt Ideal) ℓ) (g : Dev Cert.InPReferenceIdeal.nD → PrngReg), Pre_InPReferenceIdeal m →
    θ_run (Cert.InPReferenceIdeal.defs (F := Ideal)) (onTc (τ := Cert.InPReferenceIdeal.τ) (Cert.InPReferenceIdeal.main (F := Ideal))) ⟨m, fun _ => 0, g⟩ (fun r => (∀ c : Dev Cert.InPReferenceIdeal.nD,
      r.2.mem ((c.tc : Thread Cert.InPReferenceIdeal.nD Cert.InPReferenceIdeal.τ).loc Cert.InPReferenceIdeal.main_arg0) = m ((c.tc : Thread Cert.InPReferenceIdeal.nD Cert.InPReferenceIdeal.τ).loc Cert.InPReferenceIdeal.main_arg0)
      ∧ r.2.mem ((c.tc : Thread Cert.InPReferenceIdeal.nD Cert.InPReferenceIdeal.τ).loc Cert.InPReferenceIdeal.main_arg1) = m ((c.tc : Thread Cert.InPReferenceIdeal.nD Cert.InPReferenceIdeal.τ).loc Cert.InPReferenceIdeal.main_arg1)
      ∧ r.2.mem ((c.tc : Thread Cert.InPReferenceIdeal.nD Cert.InPReferenceIdeal.τ).loc Cert.InPReferenceIdeal.main_arg2) = m ((c.tc : Thread Cert.InPReferenceIdeal.nD Cert.InPReferenceIdeal.τ).loc Cert.InPReferenceIdeal.main_arg2))
      ∧ r.2.sem = fun _ => 0)

def quiescent_InXA [hInXA : Cert.InXA.Facts] : Prop :=
  ∀ (m : (ℓ : Loc Cert.InXA.nD Cert.InXA.τ Cert.InXA.sig) → Buf (Elt Bits) ℓ) (g : Dev Cert.InXA.nD → PrngReg), Pre_InXA m →
    θ_run (Cert.InXA.defs (F := Bits)) (onTc (τ := Cert.InXA.τ) (Cert.InXA.main (F := Bits))) ⟨m, fun _ => 0, g⟩ (fun r => (∀ c : Dev Cert.InXA.nD,
      r.2.mem ((c.tc : Thread Cert.InXA.nD Cert.InXA.τ).loc Cert.InXA.main_arg0) = m ((c.tc : Thread Cert.InXA.nD Cert.InXA.τ).loc Cert.InXA.main_arg0)
      ∧ r.2.mem ((c.tc : Thread Cert.InXA.nD Cert.InXA.τ).loc Cert.InXA.main_arg1) = m ((c.tc : Thread Cert.InXA.nD Cert.InXA.τ).loc Cert.InXA.main_arg1)
      ∧ r.2.mem ((c.tc : Thread Cert.InXA.nD Cert.InXA.τ).loc Cert.InXA.main_arg2) = m ((c.tc : Thread Cert.InXA.nD Cert.InXA.τ).loc Cert.InXA.main_arg2)
      ∧ r.2.mem ((c.tc : Thread Cert.InXA.nD Cert.InXA.τ).loc Cert.InXA.main_arg3) = m ((c.tc : Thread Cert.InXA.nD Cert.InXA.τ).loc Cert.InXA.main_arg3)
      ∧ r.2.mem ((c.tc : Thread Cert.InXA.nD Cert.InXA.τ).loc Cert.InXA.main_arg4) = m ((c.tc : Thread Cert.InXA.nD Cert.InXA.τ).loc Cert.InXA.main_arg4))
      ∧ r.2.sem = fun _ => 0)

def quiescent_InXAIdeal [hInXAIdeal : Cert.InXAIdeal.Facts] : Prop :=
  ∀ (m : (ℓ : Loc Cert.InXAIdeal.nD Cert.InXAIdeal.τ Cert.InXAIdeal.sig) → Buf (Elt Ideal) ℓ) (g : Dev Cert.InXAIdeal.nD → PrngReg), Pre_InXAIdeal m →
    θ_run (Cert.InXAIdeal.defs (F := Ideal)) (onTc (τ := Cert.InXAIdeal.τ) (Cert.InXAIdeal.main (F := Ideal))) ⟨m, fun _ => 0, g⟩ (fun r => (∀ c : Dev Cert.InXAIdeal.nD,
      r.2.mem ((c.tc : Thread Cert.InXAIdeal.nD Cert.InXAIdeal.τ).loc Cert.InXAIdeal.main_arg0) = m ((c.tc : Thread Cert.InXAIdeal.nD Cert.InXAIdeal.τ).loc Cert.InXAIdeal.main_arg0)
      ∧ r.2.mem ((c.tc : Thread Cert.InXAIdeal.nD Cert.InXAIdeal.τ).loc Cert.InXAIdeal.main_arg1) = m ((c.tc : Thread Cert.InXAIdeal.nD Cert.InXAIdeal.τ).loc Cert.InXAIdeal.main_arg1)
      ∧ r.2.mem ((c.tc : Thread Cert.InXAIdeal.nD Cert.InXAIdeal.τ).loc Cert.InXAIdeal.main_arg2) = m ((c.tc : Thread Cert.InXAIdeal.nD Cert.InXAIdeal.τ).loc Cert.InXAIdeal.main_arg2)
      ∧ r.2.mem ((c.tc : Thread Cert.InXAIdeal.nD Cert.InXAIdeal.τ).loc Cert.InXAIdeal.main_arg3) = m ((c.tc : Thread Cert.InXAIdeal.nD Cert.InXAIdeal.τ).loc Cert.InXAIdeal.main_arg3)
      ∧ r.2.mem ((c.tc : Thread Cert.InXAIdeal.nD Cert.InXAIdeal.τ).loc Cert.InXAIdeal.main_arg4) = m ((c.tc : Thread Cert.InXAIdeal.nD Cert.InXAIdeal.τ).loc Cert.InXAIdeal.main_arg4))
      ∧ r.2.sem = fun _ => 0)

def quiescent_InXAIdeal_pre_finite_x [hInXAIdeal : Cert.InXAIdeal.Facts] [hPre_finite_x : Cert.Pre_finite_x.Facts] : Prop :=
  ∀ (m : (ℓ : Loc Cert.InXAIdeal.nD Cert.InXAIdeal.τ Cert.InXAIdeal.sig) → Buf (Elt Ideal) ℓ) (g : Dev Cert.InXAIdeal.nD → PrngReg), Pre_InXAIdeal_finite_x m →
    θ_run (Cert.InXAIdeal.defs (F := Ideal)) (onTc (τ := Cert.InXAIdeal.τ) (Cert.InXAIdeal.main (F := Ideal))) ⟨m, fun _ => 0, g⟩ (fun r => (∀ c : Dev Cert.InXAIdeal.nD,
      r.2.mem ((c.tc : Thread Cert.InXAIdeal.nD Cert.InXAIdeal.τ).loc Cert.InXAIdeal.main_arg0) = m ((c.tc : Thread Cert.InXAIdeal.nD Cert.InXAIdeal.τ).loc Cert.InXAIdeal.main_arg0)
      ∧ r.2.mem ((c.tc : Thread Cert.InXAIdeal.nD Cert.InXAIdeal.τ).loc Cert.InXAIdeal.main_arg1) = m ((c.tc : Thread Cert.InXAIdeal.nD Cert.InXAIdeal.τ).loc Cert.InXAIdeal.main_arg1)
      ∧ r.2.mem ((c.tc : Thread Cert.InXAIdeal.nD Cert.InXAIdeal.τ).loc Cert.InXAIdeal.main_arg2) = m ((c.tc : Thread Cert.InXAIdeal.nD Cert.InXAIdeal.τ).loc Cert.InXAIdeal.main_arg2)
      ∧ r.2.mem ((c.tc : Thread Cert.InXAIdeal.nD Cert.InXAIdeal.τ).loc Cert.InXAIdeal.main_arg3) = m ((c.tc : Thread Cert.InXAIdeal.nD Cert.InXAIdeal.τ).loc Cert.InXAIdeal.main_arg3)
      ∧ r.2.mem ((c.tc : Thread Cert.InXAIdeal.nD Cert.InXAIdeal.τ).loc Cert.InXAIdeal.main_arg4) = m ((c.tc : Thread Cert.InXAIdeal.nD Cert.InXAIdeal.τ).loc Cert.InXAIdeal.main_arg4))
      ∧ r.2.sem = fun _ => 0)

def quiescent_InXAReferenceIdeal [hInXAReferenceIdeal : Cert.InXAReferenceIdeal.Facts] : Prop :=
  ∀ (m : (ℓ : Loc Cert.InXAReferenceIdeal.nD Cert.InXAReferenceIdeal.τ Cert.InXAReferenceIdeal.sig) → Buf (Elt Ideal) ℓ) (g : Dev Cert.InXAReferenceIdeal.nD → PrngReg), Pre_InXAReferenceIdeal m →
    θ_run (Cert.InXAReferenceIdeal.defs (F := Ideal)) (onTc (τ := Cert.InXAReferenceIdeal.τ) (Cert.InXAReferenceIdeal.main (F := Ideal))) ⟨m, fun _ => 0, g⟩ (fun r => (∀ c : Dev Cert.InXAReferenceIdeal.nD,
      r.2.mem ((c.tc : Thread Cert.InXAReferenceIdeal.nD Cert.InXAReferenceIdeal.τ).loc Cert.InXAReferenceIdeal.main_arg0) = m ((c.tc : Thread Cert.InXAReferenceIdeal.nD Cert.InXAReferenceIdeal.τ).loc Cert.InXAReferenceIdeal.main_arg0)
      ∧ r.2.mem ((c.tc : Thread Cert.InXAReferenceIdeal.nD Cert.InXAReferenceIdeal.τ).loc Cert.InXAReferenceIdeal.main_arg1) = m ((c.tc : Thread Cert.InXAReferenceIdeal.nD Cert.InXAReferenceIdeal.τ).loc Cert.InXAReferenceIdeal.main_arg1)
      ∧ r.2.mem ((c.tc : Thread Cert.InXAReferenceIdeal.nD Cert.InXAReferenceIdeal.τ).loc Cert.InXAReferenceIdeal.main_arg2) = m ((c.tc : Thread Cert.InXAReferenceIdeal.nD Cert.InXAReferenceIdeal.τ).loc Cert.InXAReferenceIdeal.main_arg2)
      ∧ r.2.mem ((c.tc : Thread Cert.InXAReferenceIdeal.nD Cert.InXAReferenceIdeal.τ).loc Cert.InXAReferenceIdeal.main_arg3) = m ((c.tc : Thread Cert.InXAReferenceIdeal.nD Cert.InXAReferenceIdeal.τ).loc Cert.InXAReferenceIdeal.main_arg3)
      ∧ r.2.mem ((c.tc : Thread Cert.InXAReferenceIdeal.nD Cert.InXAReferenceIdeal.τ).loc Cert.InXAReferenceIdeal.main_arg4) = m ((c.tc : Thread Cert.InXAReferenceIdeal.nD Cert.InXAReferenceIdeal.τ).loc Cert.InXAReferenceIdeal.main_arg4))
      ∧ r.2.sem = fun _ => 0)

def quiescent_InXAReferenceIdeal_pre_finite_x [hInXAReferenceIdeal : Cert.InXAReferenceIdeal.Facts] [hPre_finite_x : Cert.Pre_finite_x.Facts] : Prop :=
  ∀ (m : (ℓ : Loc Cert.InXAReferenceIdeal.nD Cert.InXAReferenceIdeal.τ Cert.InXAReferenceIdeal.sig) → Buf (Elt Ideal) ℓ) (g : Dev Cert.InXAReferenceIdeal.nD → PrngReg), Pre_InXAReferenceIdeal_finite_x m →
    θ_run (Cert.InXAReferenceIdeal.defs (F := Ideal)) (onTc (τ := Cert.InXAReferenceIdeal.τ) (Cert.InXAReferenceIdeal.main (F := Ideal))) ⟨m, fun _ => 0, g⟩ (fun r => (∀ c : Dev Cert.InXAReferenceIdeal.nD,
      r.2.mem ((c.tc : Thread Cert.InXAReferenceIdeal.nD Cert.InXAReferenceIdeal.τ).loc Cert.InXAReferenceIdeal.main_arg0) = m ((c.tc : Thread Cert.InXAReferenceIdeal.nD Cert.InXAReferenceIdeal.τ).loc Cert.InXAReferenceIdeal.main_arg0)
      ∧ r.2.mem ((c.tc : Thread Cert.InXAReferenceIdeal.nD Cert.InXAReferenceIdeal.τ).loc Cert.InXAReferenceIdeal.main_arg1) = m ((c.tc : Thread Cert.InXAReferenceIdeal.nD Cert.InXAReferenceIdeal.τ).loc Cert.InXAReferenceIdeal.main_arg1)
      ∧ r.2.mem ((c.tc : Thread Cert.InXAReferenceIdeal.nD Cert.InXAReferenceIdeal.τ).loc Cert.InXAReferenceIdeal.main_arg2) = m ((c.tc : Thread Cert.InXAReferenceIdeal.nD Cert.InXAReferenceIdeal.τ).loc Cert.InXAReferenceIdeal.main_arg2)
      ∧ r.2.mem ((c.tc : Thread Cert.InXAReferenceIdeal.nD Cert.InXAReferenceIdeal.τ).loc Cert.InXAReferenceIdeal.main_arg3) = m ((c.tc : Thread Cert.InXAReferenceIdeal.nD Cert.InXAReferenceIdeal.τ).loc Cert.InXAReferenceIdeal.main_arg3)
      ∧ r.2.mem ((c.tc : Thread Cert.InXAReferenceIdeal.nD Cert.InXAReferenceIdeal.τ).loc Cert.InXAReferenceIdeal.main_arg4) = m ((c.tc : Thread Cert.InXAReferenceIdeal.nD Cert.InXAReferenceIdeal.τ).loc Cert.InXAReferenceIdeal.main_arg4))
      ∧ r.2.sem = fun _ => 0)

def quiescent_InXB [hInXB : Cert.InXB.Facts] : Prop :=
  ∀ (m : (ℓ : Loc Cert.InXB.nD Cert.InXB.τ Cert.InXB.sig) → Buf (Elt Bits) ℓ) (g : Dev Cert.InXB.nD → PrngReg), Pre_InXB m →
    θ_run (Cert.InXB.defs (F := Bits)) (onTc (τ := Cert.InXB.τ) (Cert.InXB.main (F := Bits))) ⟨m, fun _ => 0, g⟩ (fun r => (∀ c : Dev Cert.InXB.nD,
      r.2.mem ((c.tc : Thread Cert.InXB.nD Cert.InXB.τ).loc Cert.InXB.main_arg0) = m ((c.tc : Thread Cert.InXB.nD Cert.InXB.τ).loc Cert.InXB.main_arg0)
      ∧ r.2.mem ((c.tc : Thread Cert.InXB.nD Cert.InXB.τ).loc Cert.InXB.main_arg1) = m ((c.tc : Thread Cert.InXB.nD Cert.InXB.τ).loc Cert.InXB.main_arg1)
      ∧ r.2.mem ((c.tc : Thread Cert.InXB.nD Cert.InXB.τ).loc Cert.InXB.main_arg2) = m ((c.tc : Thread Cert.InXB.nD Cert.InXB.τ).loc Cert.InXB.main_arg2)
      ∧ r.2.mem ((c.tc : Thread Cert.InXB.nD Cert.InXB.τ).loc Cert.InXB.main_arg3) = m ((c.tc : Thread Cert.InXB.nD Cert.InXB.τ).loc Cert.InXB.main_arg3)
      ∧ r.2.mem ((c.tc : Thread Cert.InXB.nD Cert.InXB.τ).loc Cert.InXB.main_arg4) = m ((c.tc : Thread Cert.InXB.nD Cert.InXB.τ).loc Cert.InXB.main_arg4)
      ∧ r.2.mem ((c.tc : Thread Cert.InXB.nD Cert.InXB.τ).loc Cert.InXB.main_arg5) = m ((c.tc : Thread Cert.InXB.nD Cert.InXB.τ).loc Cert.InXB.main_arg5))
      ∧ r.2.sem = fun _ => 0)

def quiescent_InXBIdeal [hInXBIdeal : Cert.InXBIdeal.Facts] : Prop :=
  ∀ (m : (ℓ : Loc Cert.InXBIdeal.nD Cert.InXBIdeal.τ Cert.InXBIdeal.sig) → Buf (Elt Ideal) ℓ) (g : Dev Cert.InXBIdeal.nD → PrngReg), Pre_InXBIdeal m →
    θ_run (Cert.InXBIdeal.defs (F := Ideal)) (onTc (τ := Cert.InXBIdeal.τ) (Cert.InXBIdeal.main (F := Ideal))) ⟨m, fun _ => 0, g⟩ (fun r => (∀ c : Dev Cert.InXBIdeal.nD,
      r.2.mem ((c.tc : Thread Cert.InXBIdeal.nD Cert.InXBIdeal.τ).loc Cert.InXBIdeal.main_arg0) = m ((c.tc : Thread Cert.InXBIdeal.nD Cert.InXBIdeal.τ).loc Cert.InXBIdeal.main_arg0)
      ∧ r.2.mem ((c.tc : Thread Cert.InXBIdeal.nD Cert.InXBIdeal.τ).loc Cert.InXBIdeal.main_arg1) = m ((c.tc : Thread Cert.InXBIdeal.nD Cert.InXBIdeal.τ).loc Cert.InXBIdeal.main_arg1)
      ∧ r.2.mem ((c.tc : Thread Cert.InXBIdeal.nD Cert.InXBIdeal.τ).loc Cert.InXBIdeal.main_arg2) = m ((c.tc : Thread Cert.InXBIdeal.nD Cert.InXBIdeal.τ).loc Cert.InXBIdeal.main_arg2)
      ∧ r.2.mem ((c.tc : Thread Cert.InXBIdeal.nD Cert.InXBIdeal.τ).loc Cert.InXBIdeal.main_arg3) = m ((c.tc : Thread Cert.InXBIdeal.nD Cert.InXBIdeal.τ).loc Cert.InXBIdeal.main_arg3)
      ∧ r.2.mem ((c.tc : Thread Cert.InXBIdeal.nD Cert.InXBIdeal.τ).loc Cert.InXBIdeal.main_arg4) = m ((c.tc : Thread Cert.InXBIdeal.nD Cert.InXBIdeal.τ).loc Cert.InXBIdeal.main_arg4)
      ∧ r.2.mem ((c.tc : Thread Cert.InXBIdeal.nD Cert.InXBIdeal.τ).loc Cert.InXBIdeal.main_arg5) = m ((c.tc : Thread Cert.InXBIdeal.nD Cert.InXBIdeal.τ).loc Cert.InXBIdeal.main_arg5))
      ∧ r.2.sem = fun _ => 0)

def quiescent_InXBIdeal_pre_finite_xb [hInXBIdeal : Cert.InXBIdeal.Facts] [hPre_finite_xb : Cert.Pre_finite_xb.Facts] : Prop :=
  ∀ (m : (ℓ : Loc Cert.InXBIdeal.nD Cert.InXBIdeal.τ Cert.InXBIdeal.sig) → Buf (Elt Ideal) ℓ) (g : Dev Cert.InXBIdeal.nD → PrngReg), Pre_InXBIdeal_finite_xb m →
    θ_run (Cert.InXBIdeal.defs (F := Ideal)) (onTc (τ := Cert.InXBIdeal.τ) (Cert.InXBIdeal.main (F := Ideal))) ⟨m, fun _ => 0, g⟩ (fun r => (∀ c : Dev Cert.InXBIdeal.nD,
      r.2.mem ((c.tc : Thread Cert.InXBIdeal.nD Cert.InXBIdeal.τ).loc Cert.InXBIdeal.main_arg0) = m ((c.tc : Thread Cert.InXBIdeal.nD Cert.InXBIdeal.τ).loc Cert.InXBIdeal.main_arg0)
      ∧ r.2.mem ((c.tc : Thread Cert.InXBIdeal.nD Cert.InXBIdeal.τ).loc Cert.InXBIdeal.main_arg1) = m ((c.tc : Thread Cert.InXBIdeal.nD Cert.InXBIdeal.τ).loc Cert.InXBIdeal.main_arg1)
      ∧ r.2.mem ((c.tc : Thread Cert.InXBIdeal.nD Cert.InXBIdeal.τ).loc Cert.InXBIdeal.main_arg2) = m ((c.tc : Thread Cert.InXBIdeal.nD Cert.InXBIdeal.τ).loc Cert.InXBIdeal.main_arg2)
      ∧ r.2.mem ((c.tc : Thread Cert.InXBIdeal.nD Cert.InXBIdeal.τ).loc Cert.InXBIdeal.main_arg3) = m ((c.tc : Thread Cert.InXBIdeal.nD Cert.InXBIdeal.τ).loc Cert.InXBIdeal.main_arg3)
      ∧ r.2.mem ((c.tc : Thread Cert.InXBIdeal.nD Cert.InXBIdeal.τ).loc Cert.InXBIdeal.main_arg4) = m ((c.tc : Thread Cert.InXBIdeal.nD Cert.InXBIdeal.τ).loc Cert.InXBIdeal.main_arg4)
      ∧ r.2.mem ((c.tc : Thread Cert.InXBIdeal.nD Cert.InXBIdeal.τ).loc Cert.InXBIdeal.main_arg5) = m ((c.tc : Thread Cert.InXBIdeal.nD Cert.InXBIdeal.τ).loc Cert.InXBIdeal.main_arg5))
      ∧ r.2.sem = fun _ => 0)

def quiescent_InXBReferenceIdeal [hInXBReferenceIdeal : Cert.InXBReferenceIdeal.Facts] : Prop :=
  ∀ (m : (ℓ : Loc Cert.InXBReferenceIdeal.nD Cert.InXBReferenceIdeal.τ Cert.InXBReferenceIdeal.sig) → Buf (Elt Ideal) ℓ) (g : Dev Cert.InXBReferenceIdeal.nD → PrngReg), Pre_InXBReferenceIdeal m →
    θ_run (Cert.InXBReferenceIdeal.defs (F := Ideal)) (onTc (τ := Cert.InXBReferenceIdeal.τ) (Cert.InXBReferenceIdeal.main (F := Ideal))) ⟨m, fun _ => 0, g⟩ (fun r => (∀ c : Dev Cert.InXBReferenceIdeal.nD,
      r.2.mem ((c.tc : Thread Cert.InXBReferenceIdeal.nD Cert.InXBReferenceIdeal.τ).loc Cert.InXBReferenceIdeal.main_arg0) = m ((c.tc : Thread Cert.InXBReferenceIdeal.nD Cert.InXBReferenceIdeal.τ).loc Cert.InXBReferenceIdeal.main_arg0)
      ∧ r.2.mem ((c.tc : Thread Cert.InXBReferenceIdeal.nD Cert.InXBReferenceIdeal.τ).loc Cert.InXBReferenceIdeal.main_arg1) = m ((c.tc : Thread Cert.InXBReferenceIdeal.nD Cert.InXBReferenceIdeal.τ).loc Cert.InXBReferenceIdeal.main_arg1)
      ∧ r.2.mem ((c.tc : Thread Cert.InXBReferenceIdeal.nD Cert.InXBReferenceIdeal.τ).loc Cert.InXBReferenceIdeal.main_arg2) = m ((c.tc : Thread Cert.InXBReferenceIdeal.nD Cert.InXBReferenceIdeal.τ).loc Cert.InXBReferenceIdeal.main_arg2)
      ∧ r.2.mem ((c.tc : Thread Cert.InXBReferenceIdeal.nD Cert.InXBReferenceIdeal.τ).loc Cert.InXBReferenceIdeal.main_arg3) = m ((c.tc : Thread Cert.InXBReferenceIdeal.nD Cert.InXBReferenceIdeal.τ).loc Cert.InXBReferenceIdeal.main_arg3)
      ∧ r.2.mem ((c.tc : Thread Cert.InXBReferenceIdeal.nD Cert.InXBReferenceIdeal.τ).loc Cert.InXBReferenceIdeal.main_arg4) = m ((c.tc : Thread Cert.InXBReferenceIdeal.nD Cert.InXBReferenceIdeal.τ).loc Cert.InXBReferenceIdeal.main_arg4)
      ∧ r.2.mem ((c.tc : Thread Cert.InXBReferenceIdeal.nD Cert.InXBReferenceIdeal.τ).loc Cert.InXBReferenceIdeal.main_arg5) = m ((c.tc : Thread Cert.InXBReferenceIdeal.nD Cert.InXBReferenceIdeal.τ).loc Cert.InXBReferenceIdeal.main_arg5))
      ∧ r.2.sem = fun _ => 0)

def quiescent_InXBReferenceIdeal_pre_finite_xb [hInXBReferenceIdeal : Cert.InXBReferenceIdeal.Facts] [hPre_finite_xb : Cert.Pre_finite_xb.Facts] : Prop :=
  ∀ (m : (ℓ : Loc Cert.InXBReferenceIdeal.nD Cert.InXBReferenceIdeal.τ Cert.InXBReferenceIdeal.sig) → Buf (Elt Ideal) ℓ) (g : Dev Cert.InXBReferenceIdeal.nD → PrngReg), Pre_InXBReferenceIdeal_finite_xb m →
    θ_run (Cert.InXBReferenceIdeal.defs (F := Ideal)) (onTc (τ := Cert.InXBReferenceIdeal.τ) (Cert.InXBReferenceIdeal.main (F := Ideal))) ⟨m, fun _ => 0, g⟩ (fun r => (∀ c : Dev Cert.InXBReferenceIdeal.nD,
      r.2.mem ((c.tc : Thread Cert.InXBReferenceIdeal.nD Cert.InXBReferenceIdeal.τ).loc Cert.InXBReferenceIdeal.main_arg0) = m ((c.tc : Thread Cert.InXBReferenceIdeal.nD Cert.InXBReferenceIdeal.τ).loc Cert.InXBReferenceIdeal.main_arg0)
      ∧ r.2.mem ((c.tc : Thread Cert.InXBReferenceIdeal.nD Cert.InXBReferenceIdeal.τ).loc Cert.InXBReferenceIdeal.main_arg1) = m ((c.tc : Thread Cert.InXBReferenceIdeal.nD Cert.InXBReferenceIdeal.τ).loc Cert.InXBReferenceIdeal.main_arg1)
      ∧ r.2.mem ((c.tc : Thread Cert.InXBReferenceIdeal.nD Cert.InXBReferenceIdeal.τ).loc Cert.InXBReferenceIdeal.main_arg2) = m ((c.tc : Thread Cert.InXBReferenceIdeal.nD Cert.InXBReferenceIdeal.τ).loc Cert.InXBReferenceIdeal.main_arg2)
      ∧ r.2.mem ((c.tc : Thread Cert.InXBReferenceIdeal.nD Cert.InXBReferenceIdeal.τ).loc Cert.InXBReferenceIdeal.main_arg3) = m ((c.tc : Thread Cert.InXBReferenceIdeal.nD Cert.InXBReferenceIdeal.τ).loc Cert.InXBReferenceIdeal.main_arg3)
      ∧ r.2.mem ((c.tc : Thread Cert.InXBReferenceIdeal.nD Cert.InXBReferenceIdeal.τ).loc Cert.InXBReferenceIdeal.main_arg4) = m ((c.tc : Thread Cert.InXBReferenceIdeal.nD Cert.InXBReferenceIdeal.τ).loc Cert.InXBReferenceIdeal.main_arg4)
      ∧ r.2.mem ((c.tc : Thread Cert.InXBReferenceIdeal.nD Cert.InXBReferenceIdeal.τ).loc Cert.InXBReferenceIdeal.main_arg5) = m ((c.tc : Thread Cert.InXBReferenceIdeal.nD Cert.InXBReferenceIdeal.τ).loc Cert.InXBReferenceIdeal.main_arg5))
      ∧ r.2.sem = fun _ => 0)

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)
      ∧ m' ((c.tc : Thread Cert.MixReferenceIdeal.nD Cert.MixReferenceIdeal.τ).loc Cert.MixReferenceIdeal.main_arg12) = m ((c.tc : Thread Cert.MixIdeal.nD Cert.MixIdeal.τ).loc Cert.MixIdeal.main_arg12)
      ∧ m' ((c.tc : Thread Cert.MixReferenceIdeal.nD Cert.MixReferenceIdeal.τ).loc Cert.MixReferenceIdeal.main_arg13) = m ((c.tc : Thread Cert.MixIdeal.nD Cert.MixIdeal.τ).loc Cert.MixIdeal.main_arg13)
      ∧ m' ((c.tc : Thread Cert.MixReferenceIdeal.nD Cert.MixReferenceIdeal.τ).loc Cert.MixReferenceIdeal.main_arg14) = m ((c.tc : Thread Cert.MixIdeal.nD Cert.MixIdeal.τ).loc Cert.MixIdeal.main_arg14)
      ∧ m' ((c.tc : Thread Cert.MixReferenceIdeal.nD Cert.MixReferenceIdeal.τ).loc Cert.MixReferenceIdeal.main_arg15) = m ((c.tc : Thread Cert.MixIdeal.nD Cert.MixIdeal.τ).loc Cert.MixIdeal.main_arg15)
      ∧ m' ((c.tc : Thread Cert.MixReferenceIdeal.nD Cert.MixReferenceIdeal.τ).loc Cert.MixReferenceIdeal.main_arg16) = m ((c.tc : Thread Cert.MixIdeal.nD Cert.MixIdeal.τ).loc Cert.MixIdeal.main_arg16)) →
    ∃ (v0 : (c : Dev Cert.MixIdeal.nD) → Buf (Elt Ideal) ((c.tc : Thread Cert.MixIdeal.nD Cert.MixIdeal.τ).loc Cert.MixIdeal.main_v136)) (v1 : (c : Dev Cert.MixIdeal.nD) → Buf (Elt Ideal) ((c.tc : Thread Cert.MixIdeal.nD Cert.MixIdeal.τ).loc Cert.MixIdeal.main_v135_2)) (v2 : (c : Dev Cert.MixIdeal.nD) → Buf (Elt Ideal) ((c.tc : Thread Cert.MixIdeal.nD Cert.MixIdeal.τ).loc Cert.MixIdeal.main_v135_3)) (v3 : (c : Dev Cert.MixIdeal.nD) → Buf (Elt Ideal) ((c.tc : Thread Cert.MixIdeal.nD Cert.MixIdeal.τ).loc Cert.MixIdeal.main_v138)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v136) = v0 c
          ∧ r.2.mem ((c.tc : Thread Cert.MixIdeal.nD Cert.MixIdeal.τ).loc Cert.MixIdeal.main_v135_2) = v1 c
          ∧ r.2.mem ((c.tc : Thread Cert.MixIdeal.nD Cert.MixIdeal.τ).loc Cert.MixIdeal.main_v135_3) = v2 c
          ∧ r.2.mem ((c.tc : Thread Cert.MixIdeal.nD Cert.MixIdeal.τ).loc Cert.MixIdeal.main_v138) = v3 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
          ∧ r.2.mem ((c.tc : Thread Cert.MixIdeal.nD Cert.MixIdeal.τ).loc Cert.MixIdeal.main_arg16) = m ((c.tc : Thread Cert.MixIdeal.nD Cert.MixIdeal.τ).loc Cert.MixIdeal.main_arg16))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v99) = v0 c
          ∧ r.2.mem ((c.tc : Thread Cert.MixReferenceIdeal.nD Cert.MixReferenceIdeal.τ).loc Cert.MixReferenceIdeal.main_v100) = v1 c
          ∧ r.2.mem ((c.tc : Thread Cert.MixReferenceIdeal.nD Cert.MixReferenceIdeal.τ).loc Cert.MixReferenceIdeal.main_v102) = v2 c
          ∧ r.2.mem ((c.tc : Thread Cert.MixReferenceIdeal.nD Cert.MixReferenceIdeal.τ).loc Cert.MixReferenceIdeal.main_v98) = v3 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12)
          ∧ r.2.mem ((c.tc : Thread Cert.MixReferenceIdeal.nD Cert.MixReferenceIdeal.τ).loc Cert.MixReferenceIdeal.main_arg13) = m' ((c.tc : Thread Cert.MixReferenceIdeal.nD Cert.MixReferenceIdeal.τ).loc Cert.MixReferenceIdeal.main_arg13)
          ∧ r.2.mem ((c.tc : Thread Cert.MixReferenceIdeal.nD Cert.MixReferenceIdeal.τ).loc Cert.MixReferenceIdeal.main_arg14) = m' ((c.tc : Thread Cert.MixReferenceIdeal.nD Cert.MixReferenceIdeal.τ).loc Cert.MixReferenceIdeal.main_arg14)
          ∧ r.2.mem ((c.tc : Thread Cert.MixReferenceIdeal.nD Cert.MixReferenceIdeal.τ).loc Cert.MixReferenceIdeal.main_arg15) = m' ((c.tc : Thread Cert.MixReferenceIdeal.nD Cert.MixReferenceIdeal.τ).loc Cert.MixReferenceIdeal.main_arg15)
          ∧ r.2.mem ((c.tc : Thread Cert.MixReferenceIdeal.nD Cert.MixReferenceIdeal.τ).loc Cert.MixReferenceIdeal.main_arg16) = m' ((c.tc : Thread Cert.MixReferenceIdeal.nD Cert.MixReferenceIdeal.τ).loc Cert.MixReferenceIdeal.main_arg16))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)) (v2 : (c : Dev Cert.ProjIdeal.nD) → Buf (Elt Ideal) ((c.tc : Thread Cert.ProjIdeal.nD Cert.ProjIdeal.τ).loc Cert.ProjIdeal.main_v0_2)) (v3 : (c : Dev Cert.ProjIdeal.nD) → Buf (Elt Ideal) ((c.tc : Thread Cert.ProjIdeal.nD Cert.ProjIdeal.τ).loc Cert.ProjIdeal.main_v0_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_v0_2) = v2 c
          ∧ r.2.mem ((c.tc : Thread Cert.ProjIdeal.nD Cert.ProjIdeal.τ).loc Cert.ProjIdeal.main_v0_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v28) = v0 c
          ∧ r.2.mem ((c.tc : Thread Cert.ProjReferenceIdeal.nD Cert.ProjReferenceIdeal.τ).loc Cert.ProjReferenceIdeal.main_v26) = v1 c
          ∧ r.2.mem ((c.tc : Thread Cert.ProjReferenceIdeal.nD Cert.ProjReferenceIdeal.τ).loc Cert.ProjReferenceIdeal.main_v24) = v2 c
          ∧ r.2.mem ((c.tc : Thread Cert.ProjReferenceIdeal.nD Cert.ProjReferenceIdeal.τ).loc Cert.ProjReferenceIdeal.main_v22) = v3 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def preserves_InW_InWIdeal : Prop :=
  True

def algebraic_InWIdeal_InWReferenceIdeal [hInWIdeal : Cert.InWIdeal.Facts] [hInWReferenceIdeal : Cert.InWReferenceIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWReferenceIdeal.nD Cert.InWReferenceIdeal.τ Cert.InWReferenceIdeal.sig) → Buf (Elt Ideal) ℓ) (g' : Dev Cert.InWReferenceIdeal.nD → PrngReg), Pre_InWIdeal m →
    (∀ c : Dev Cert.InWIdeal.nD,
      m' ((c.tc : Thread Cert.InWReferenceIdeal.nD Cert.InWReferenceIdeal.τ).loc Cert.InWReferenceIdeal.main_arg0) = m ((c.tc : Thread Cert.InWIdeal.nD Cert.InWIdeal.τ).loc Cert.InWIdeal.main_arg0)
      ∧ m' ((c.tc : Thread Cert.InWReferenceIdeal.nD Cert.InWReferenceIdeal.τ).loc Cert.InWReferenceIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWReferenceIdeal.defs (F := Ideal)) (onTc (τ := Cert.InWReferenceIdeal.τ) (Cert.InWReferenceIdeal.main (F := Ideal))) ⟨m', fun _ => 0, g'⟩ (fun r => ∀ c : Dev Cert.InWReferenceIdeal.nD,
          r.2.mem ((c.tc : Thread Cert.InWReferenceIdeal.nD Cert.InWReferenceIdeal.τ).loc Cert.InWReferenceIdeal.main_v6) = v0 c
          ∧ r.2.mem ((c.tc : Thread Cert.InWReferenceIdeal.nD Cert.InWReferenceIdeal.τ).loc Cert.InWReferenceIdeal.main_arg0) = m' ((c.tc : Thread Cert.InWReferenceIdeal.nD Cert.InWReferenceIdeal.τ).loc Cert.InWReferenceIdeal.main_arg0)
          ∧ r.2.mem ((c.tc : Thread Cert.InWReferenceIdeal.nD Cert.InWReferenceIdeal.τ).loc Cert.InWReferenceIdeal.main_arg1) = m' ((c.tc : Thread Cert.InWReferenceIdeal.nD Cert.InWReferenceIdeal.τ).loc Cert.InWReferenceIdeal.main_arg1))

def preserves_InX_InXIdeal : Prop :=
  True

def algebraic_InXIdeal_InXReferenceIdeal_pre_finite_x [hInXIdeal : Cert.InXIdeal.Facts] [hInXReferenceIdeal : Cert.InXReferenceIdeal.Facts] [hPre_finite_x : Cert.Pre_finite_x.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXReferenceIdeal.nD Cert.InXReferenceIdeal.τ Cert.InXReferenceIdeal.sig) → Buf (Elt Ideal) ℓ) (g' : Dev Cert.InXReferenceIdeal.nD → PrngReg), Pre_InXIdeal_finite_x m →
    (∀ c : Dev Cert.InXIdeal.nD,
      m' ((c.tc : Thread Cert.InXReferenceIdeal.nD Cert.InXReferenceIdeal.τ).loc Cert.InXReferenceIdeal.main_arg0) = m ((c.tc : Thread Cert.InXIdeal.nD Cert.InXIdeal.τ).loc Cert.InXIdeal.main_arg0)
      ∧ m' ((c.tc : Thread Cert.InXReferenceIdeal.nD Cert.InXReferenceIdeal.τ).loc Cert.InXReferenceIdeal.main_arg1) = m ((c.tc : Thread Cert.InXIdeal.nD Cert.InXIdeal.τ).loc Cert.InXIdeal.main_arg1)
      ∧ m' ((c.tc : Thread Cert.InXReferenceIdeal.nD Cert.InXReferenceIdeal.τ).loc Cert.InXReferenceIdeal.main_arg2) = m ((c.tc : Thread Cert.InXIdeal.nD Cert.InXIdeal.τ).loc Cert.InXIdeal.main_arg2)
      ∧ m' ((c.tc : Thread Cert.InXReferenceIdeal.nD Cert.InXReferenceIdeal.τ).loc Cert.InXReferenceIdeal.main_arg3) = m ((c.tc : Thread Cert.InXIdeal.nD Cert.InXIdeal.τ).loc Cert.InXIdeal.main_arg3)
      ∧ m' ((c.tc : Thread Cert.InXReferenceIdeal.nD Cert.InXReferenceIdeal.τ).loc Cert.InXReferenceIdeal.main_arg4) = m ((c.tc : Thread Cert.InXIdeal.nD Cert.InXIdeal.τ).loc Cert.InXIdeal.main_arg4)) →
    ∃ (v0 : (c : Dev Cert.InXIdeal.nD) → Buf (Elt Ideal) ((c.tc : Thread Cert.InXIdeal.nD Cert.InXIdeal.τ).loc Cert.InXIdeal.main_v3_0)) (v1 : (c : Dev Cert.InXIdeal.nD) → Buf (Elt Ideal) ((c.tc : Thread Cert.InXIdeal.nD Cert.InXIdeal.τ).loc Cert.InXIdeal.main_v3_1)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v3_0) = v0 c
          ∧ r.2.mem ((c.tc : Thread Cert.InXIdeal.nD Cert.InXIdeal.τ).loc Cert.InXIdeal.main_v3_1) = v1 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
          ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
          ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
          ∧ r.2.mem ((c.tc : Thread Cert.InXIdeal.nD Cert.InXIdeal.τ).loc Cert.InXIdeal.main_arg4) = m ((c.tc : Thread Cert.InXIdeal.nD Cert.InXIdeal.τ).loc Cert.InXIdeal.main_arg4))
      ∧ θ_run (Cert.InXReferenceIdeal.defs (F := Ideal)) (onTc (τ := Cert.InXReferenceIdeal.τ) (Cert.InXReferenceIdeal.main (F := Ideal))) ⟨m', fun _ => 0, g'⟩ (fun r => ∀ c : Dev Cert.InXReferenceIdeal.nD,
          r.2.mem ((c.tc : Thread Cert.InXReferenceIdeal.nD Cert.InXReferenceIdeal.τ).loc Cert.InXReferenceIdeal.main_v39) = v0 c
          ∧ r.2.mem ((c.tc : Thread Cert.InXReferenceIdeal.nD Cert.InXReferenceIdeal.τ).loc Cert.InXReferenceIdeal.main_v41) = v1 c
          ∧ r.2.mem ((c.tc : Thread Cert.InXReferenceIdeal.nD Cert.InXReferenceIdeal.τ).loc Cert.InXReferenceIdeal.main_arg0) = m' ((c.tc : Thread Cert.InXReferenceIdeal.nD Cert.InXReferenceIdeal.τ).loc Cert.InXReferenceIdeal.main_arg0)
          ∧ r.2.mem ((c.tc : Thread Cert.InXReferenceIdeal.nD Cert.InXReferenceIdeal.τ).loc Cert.InXReferenceIdeal.main_arg1) = m' ((c.tc : Thread Cert.InXReferenceIdeal.nD Cert.InXReferenceIdeal.τ).loc Cert.InXReferenceIdeal.main_arg1)
          ∧ r.2.mem ((c.tc : Thread Cert.InXReferenceIdeal.nD Cert.InXReferenceIdeal.τ).loc Cert.InXReferenceIdeal.main_arg2) = m' ((c.tc : Thread Cert.InXReferenceIdeal.nD Cert.InXReferenceIdeal.τ).loc Cert.InXReferenceIdeal.main_arg2)
          ∧ r.2.mem ((c.tc : Thread Cert.InXReferenceIdeal.nD Cert.InXReferenceIdeal.τ).loc Cert.InXReferenceIdeal.main_arg3) = m' ((c.tc : Thread Cert.InXReferenceIdeal.nD Cert.InXReferenceIdeal.τ).loc Cert.InXReferenceIdeal.main_arg3)
          ∧ r.2.mem ((c.tc : Thread Cert.InXReferenceIdeal.nD Cert.InXReferenceIdeal.τ).loc Cert.InXReferenceIdeal.main_arg4) = m' ((c.tc : Thread Cert.InXReferenceIdeal.nD Cert.InXReferenceIdeal.τ).loc Cert.InXReferenceIdeal.main_arg4))

def preserves_InP_InPIdeal : Prop :=
  True

def algebraic_InPIdeal_InPReferenceIdeal [hInPIdeal : Cert.InPIdeal.Facts] [hInPReferenceIdeal : Cert.InPReferenceIdeal.Facts] : Prop :=
  ∀ (m : (ℓ : Loc Cert.InPIdeal.nD Cert.InPIdeal.τ Cert.InPIdeal.sig) → Buf (Elt Ideal) ℓ) (g : Dev Cert.InPIdeal.nD → PrngReg)
    (m' : (ℓ : Loc Cert.InPReferenceIdeal.nD Cert.InPReferenceIdeal.τ Cert.InPReferenceIdeal.sig) → Buf (Elt Ideal) ℓ) (g' : Dev Cert.InPReferenceIdeal.nD → PrngReg), Pre_InPIdeal m →
    (∀ c : Dev Cert.InPIdeal.nD,
      m' ((c.tc : Thread Cert.InPReferenceIdeal.nD Cert.InPReferenceIdeal.τ).loc Cert.InPReferenceIdeal.main_arg0) = m ((c.tc : Thread Cert.InPIdeal.nD Cert.InPIdeal.τ).loc Cert.InPIdeal.main_arg0)
      ∧ m' ((c.tc : Thread Cert.InPReferenceIdeal.nD Cert.InPReferenceIdeal.τ).loc Cert.InPReferenceIdeal.main_arg1) = m ((c.tc : Thread Cert.InPIdeal.nD Cert.InPIdeal.τ).loc Cert.InPIdeal.main_arg1)
      ∧ m' ((c.tc : Thread Cert.InPReferenceIdeal.nD Cert.InPReferenceIdeal.τ).loc Cert.InPReferenceIdeal.main_arg2) = m ((c.tc : Thread Cert.InPIdeal.nD Cert.InPIdeal.τ).loc Cert.InPIdeal.main_arg2)) →
    ∃ (v0 : (c : Dev Cert.InPIdeal.nD) → Buf (Elt Ideal) ((c.tc : Thread Cert.InPIdeal.nD Cert.InPIdeal.τ).loc Cert.InPIdeal.main_v3_0)) (v1 : (c : Dev Cert.InPIdeal.nD) → Buf (Elt Ideal) ((c.tc : Thread Cert.InPIdeal.nD Cert.InPIdeal.τ).loc Cert.InPIdeal.main_v3_1)),
      θ_run (Cert.InPIdeal.defs (F := Ideal)) (onTc (τ := Cert.InPIdeal.τ) (Cert.InPIdeal.main (F := Ideal))) ⟨m, fun _ => 0, g⟩ (fun r => ∀ c : Dev Cert.InPIdeal.nD,
          r.2.mem ((c.tc : Thread Cert.InPIdeal.nD Cert.InPIdeal.τ).loc Cert.InPIdeal.main_v3_0) = v0 c
          ∧ r.2.mem ((c.tc : Thread Cert.InPIdeal.nD Cert.InPIdeal.τ).loc Cert.InPIdeal.main_v3_1) = v1 c
          ∧ r.2.mem ((c.tc : Thread Cert.InPIdeal.nD Cert.InPIdeal.τ).loc Cert.InPIdeal.main_arg0) = m ((c.tc : Thread Cert.InPIdeal.nD Cert.InPIdeal.τ).loc Cert.InPIdeal.main_arg0)
          ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
          ∧ r.2.mem ((c.tc : Thread Cert.InPIdeal.nD Cert.InPIdeal.τ).loc Cert.InPIdeal.main_arg2) = m ((c.tc : Thread Cert.InPIdeal.nD Cert.InPIdeal.τ).loc Cert.InPIdeal.main_arg2))
      ∧ θ_run (Cert.InPReferenceIdeal.defs (F := Ideal)) (onTc (τ := Cert.InPReferenceIdeal.τ) (Cert.InPReferenceIdeal.main (F := Ideal))) ⟨m', fun _ => 0, g'⟩ (fun r => ∀ c : Dev Cert.InPReferenceIdeal.nD,
          r.2.mem ((c.tc : Thread Cert.InPReferenceIdeal.nD Cert.InPReferenceIdeal.τ).loc Cert.InPReferenceIdeal.main_v14) = v0 c
          ∧ r.2.mem ((c.tc : Thread Cert.InPReferenceIdeal.nD Cert.InPReferenceIdeal.τ).loc Cert.InPReferenceIdeal.main_v15) = v1 c
          ∧ r.2.mem ((c.tc : Thread Cert.InPReferenceIdeal.nD Cert.InPReferenceIdeal.τ).loc Cert.InPReferenceIdeal.main_arg0) = m' ((c.tc : Thread Cert.InPReferenceIdeal.nD Cert.InPReferenceIdeal.τ).loc Cert.InPReferenceIdeal.main_arg0)
          ∧ r.2.mem ((c.tc : Thread Cert.InPReferenceIdeal.nD Cert.InPReferenceIdeal.τ).loc Cert.InPReferenceIdeal.main_arg1) = m' ((c.tc : Thread Cert.InPReferenceIdeal.nD Cert.InPReferenceIdeal.τ).loc Cert.InPReferenceIdeal.main_arg1)
          ∧ r.2.mem ((c.tc : Thread Cert.InPReferenceIdeal.nD Cert.InPReferenceIdeal.τ).loc Cert.InPReferenceIdeal.main_arg2) = m' ((c.tc : Thread Cert.InPReferenceIdeal.nD Cert.InPReferenceIdeal.τ).loc Cert.InPReferenceIdeal.main_arg2))

def preserves_InXA_InXAIdeal : Prop :=
  True

def algebraic_InXAIdeal_InXAReferenceIdeal_pre_finite_x [hInXAIdeal : Cert.InXAIdeal.Facts] [hInXAReferenceIdeal : Cert.InXAReferenceIdeal.Facts] [hPre_finite_x : Cert.Pre_finite_x.Facts] : Prop :=
  ∀ (m : (ℓ : Loc Cert.InXAIdeal.nD Cert.InXAIdeal.τ Cert.InXAIdeal.sig) → Buf (Elt Ideal) ℓ) (g : Dev Cert.InXAIdeal.nD → PrngReg)
    (m' : (ℓ : Loc Cert.InXAReferenceIdeal.nD Cert.InXAReferenceIdeal.τ Cert.InXAReferenceIdeal.sig) → Buf (Elt Ideal) ℓ) (g' : Dev Cert.InXAReferenceIdeal.nD → PrngReg), Pre_InXAIdeal_finite_x m →
    (∀ c : Dev Cert.InXAIdeal.nD,
      m' ((c.tc : Thread Cert.InXAReferenceIdeal.nD Cert.InXAReferenceIdeal.τ).loc Cert.InXAReferenceIdeal.main_arg0) = m ((c.tc : Thread Cert.InXAIdeal.nD Cert.InXAIdeal.τ).loc Cert.InXAIdeal.main_arg0)
      ∧ m' ((c.tc : Thread Cert.InXAReferenceIdeal.nD Cert.InXAReferenceIdeal.τ).loc Cert.InXAReferenceIdeal.main_arg1) = m ((c.tc : Thread Cert.InXAIdeal.nD Cert.InXAIdeal.τ).loc Cert.InXAIdeal.main_arg1)
      ∧ m' ((c.tc : Thread Cert.InXAReferenceIdeal.nD Cert.InXAReferenceIdeal.τ).loc Cert.InXAReferenceIdeal.main_arg2) = m ((c.tc : Thread Cert.InXAIdeal.nD Cert.InXAIdeal.τ).loc Cert.InXAIdeal.main_arg2)
      ∧ m' ((c.tc : Thread Cert.InXAReferenceIdeal.nD Cert.InXAReferenceIdeal.τ).loc Cert.InXAReferenceIdeal.main_arg3) = m ((c.tc : Thread Cert.InXAIdeal.nD Cert.InXAIdeal.τ).loc Cert.InXAIdeal.main_arg3)
      ∧ m' ((c.tc : Thread Cert.InXAReferenceIdeal.nD Cert.InXAReferenceIdeal.τ).loc Cert.InXAReferenceIdeal.main_arg4) = m ((c.tc : Thread Cert.InXAIdeal.nD Cert.InXAIdeal.τ).loc Cert.InXAIdeal.main_arg4)) →
    ∃ (v0 : (c : Dev Cert.InXAIdeal.nD) → Buf (Elt Ideal) ((c.tc : Thread Cert.InXAIdeal.nD Cert.InXAIdeal.τ).loc Cert.InXAIdeal.main_v4)) (v1 : (c : Dev Cert.InXAIdeal.nD) → Buf (Elt Ideal) ((c.tc : Thread Cert.InXAIdeal.nD Cert.InXAIdeal.τ).loc Cert.InXAIdeal.main_v3_1)),
      θ_run (Cert.InXAIdeal.defs (F := Ideal)) (onTc (τ := Cert.InXAIdeal.τ) (Cert.InXAIdeal.main (F := Ideal))) ⟨m, fun _ => 0, g⟩ (fun r => ∀ c : Dev Cert.InXAIdeal.nD,
          r.2.mem ((c.tc : Thread Cert.InXAIdeal.nD Cert.InXAIdeal.τ).loc Cert.InXAIdeal.main_v4) = v0 c
          ∧ r.2.mem ((c.tc : Thread Cert.InXAIdeal.nD Cert.InXAIdeal.τ).loc Cert.InXAIdeal.main_v3_1) = v1 c
          ∧ r.2.mem ((c.tc : Thread Cert.InXAIdeal.nD Cert.InXAIdeal.τ).loc Cert.InXAIdeal.main_arg0) = m ((c.tc : Thread Cert.InXAIdeal.nD Cert.InXAIdeal.τ).loc Cert.InXAIdeal.main_arg0)
          ∧ r.2.mem ((c.tc : Thread Cert.InXAIdeal.nD Cert.InXAIdeal.τ).loc Cert.InXAIdeal.main_arg1) = m ((c.tc : Thread Cert.InXAIdeal.nD Cert.InXAIdeal.τ).loc Cert.InXAIdeal.main_arg1)
          ∧ r.2.mem ((c.tc : Thread Cert.InXAIdeal.nD Cert.InXAIdeal.τ).loc Cert.InXAIdeal.main_arg2) = m ((c.tc : Thread Cert.InXAIdeal.nD Cert.InXAIdeal.τ).loc Cert.InXAIdeal.main_arg2)
          ∧ r.2.mem ((c.tc : Thread Cert.InXAIdeal.nD Cert.InXAIdeal.τ).loc Cert.InXAIdeal.main_arg3) = m ((c.tc : Thread Cert.InXAIdeal.nD Cert.InXAIdeal.τ).loc Cert.InXAIdeal.main_arg3)
          ∧ r.2.mem ((c.tc : Thread Cert.InXAIdeal.nD Cert.InXAIdeal.τ).loc Cert.InXAIdeal.main_arg4) = m ((c.tc : Thread Cert.InXAIdeal.nD Cert.InXAIdeal.τ).loc Cert.InXAIdeal.main_arg4))
      ∧ θ_run (Cert.InXAReferenceIdeal.defs (F := Ideal)) (onTc (τ := Cert.InXAReferenceIdeal.τ) (Cert.InXAReferenceIdeal.main (F := Ideal))) ⟨m', fun _ => 0, g'⟩ (fun r => ∀ c : Dev Cert.InXAReferenceIdeal.nD,
          r.2.mem ((c.tc : Thread Cert.InXAReferenceIdeal.nD Cert.InXAReferenceIdeal.τ).loc Cert.InXAReferenceIdeal.main_v42) = v0 c
          ∧ r.2.mem ((c.tc : Thread Cert.InXAReferenceIdeal.nD Cert.InXAReferenceIdeal.τ).loc Cert.InXAReferenceIdeal.main_v44) = v1 c
          ∧ r.2.mem ((c.tc : Thread Cert.InXAReferenceIdeal.nD Cert.InXAReferenceIdeal.τ).loc Cert.InXAReferenceIdeal.main_arg0) = m' ((c.tc : Thread Cert.InXAReferenceIdeal.nD Cert.InXAReferenceIdeal.τ).loc Cert.InXAReferenceIdeal.main_arg0)
          ∧ r.2.mem ((c.tc : Thread Cert.InXAReferenceIdeal.nD Cert.InXAReferenceIdeal.τ).loc Cert.InXAReferenceIdeal.main_arg1) = m' ((c.tc : Thread Cert.InXAReferenceIdeal.nD Cert.InXAReferenceIdeal.τ).loc Cert.InXAReferenceIdeal.main_arg1)
          ∧ r.2.mem ((c.tc : Thread Cert.InXAReferenceIdeal.nD Cert.InXAReferenceIdeal.τ).loc Cert.InXAReferenceIdeal.main_arg2) = m' ((c.tc : Thread Cert.InXAReferenceIdeal.nD Cert.InXAReferenceIdeal.τ).loc Cert.InXAReferenceIdeal.main_arg2)
          ∧ r.2.mem ((c.tc : Thread Cert.InXAReferenceIdeal.nD Cert.InXAReferenceIdeal.τ).loc Cert.InXAReferenceIdeal.main_arg3) = m' ((c.tc : Thread Cert.InXAReferenceIdeal.nD Cert.InXAReferenceIdeal.τ).loc Cert.InXAReferenceIdeal.main_arg3)
          ∧ r.2.mem ((c.tc : Thread Cert.InXAReferenceIdeal.nD Cert.InXAReferenceIdeal.τ).loc Cert.InXAReferenceIdeal.main_arg4) = m' ((c.tc : Thread Cert.InXAReferenceIdeal.nD Cert.InXAReferenceIdeal.τ).loc Cert.InXAReferenceIdeal.main_arg4))

def preserves_InXB_InXBIdeal : Prop :=
  True

def algebraic_InXBIdeal_InXBReferenceIdeal_pre_finite_xb [hInXBIdeal : Cert.InXBIdeal.Facts] [hInXBReferenceIdeal : Cert.InXBReferenceIdeal.Facts] [hPre_finite_xb : Cert.Pre_finite_xb.Facts] : Prop :=
  ∀ (m : (ℓ : Loc Cert.InXBIdeal.nD Cert.InXBIdeal.τ Cert.InXBIdeal.sig) → Buf (Elt Ideal) ℓ) (g : Dev Cert.InXBIdeal.nD → PrngReg)
    (m' : (ℓ : Loc Cert.InXBReferenceIdeal.nD Cert.InXBReferenceIdeal.τ Cert.InXBReferenceIdeal.sig) → Buf (Elt Ideal) ℓ) (g' : Dev Cert.InXBReferenceIdeal.nD → PrngReg), Pre_InXBIdeal_finite_xb m →
    (∀ c : Dev Cert.InXBIdeal.nD,
      m' ((c.tc : Thread Cert.InXBReferenceIdeal.nD Cert.InXBReferenceIdeal.τ).loc Cert.InXBReferenceIdeal.main_arg0) = m ((c.tc : Thread Cert.InXBIdeal.nD Cert.InXBIdeal.τ).loc Cert.InXBIdeal.main_arg0)
      ∧ m' ((c.tc : Thread Cert.InXBReferenceIdeal.nD Cert.InXBReferenceIdeal.τ).loc Cert.InXBReferenceIdeal.main_arg1) = m ((c.tc : Thread Cert.InXBIdeal.nD Cert.InXBIdeal.τ).loc Cert.InXBIdeal.main_arg1)
      ∧ m' ((c.tc : Thread Cert.InXBReferenceIdeal.nD Cert.InXBReferenceIdeal.τ).loc Cert.InXBReferenceIdeal.main_arg2) = m ((c.tc : Thread Cert.InXBIdeal.nD Cert.InXBIdeal.τ).loc Cert.InXBIdeal.main_arg2)
      ∧ m' ((c.tc : Thread Cert.InXBReferenceIdeal.nD Cert.InXBReferenceIdeal.τ).loc Cert.InXBReferenceIdeal.main_arg3) = m ((c.tc : Thread Cert.InXBIdeal.nD Cert.InXBIdeal.τ).loc Cert.InXBIdeal.main_arg3)
      ∧ m' ((c.tc : Thread Cert.InXBReferenceIdeal.nD Cert.InXBReferenceIdeal.τ).loc Cert.InXBReferenceIdeal.main_arg4) = m ((c.tc : Thread Cert.InXBIdeal.nD Cert.InXBIdeal.τ).loc Cert.InXBIdeal.main_arg4)
      ∧ m' ((c.tc : Thread Cert.InXBReferenceIdeal.nD Cert.InXBReferenceIdeal.τ).loc Cert.InXBReferenceIdeal.main_arg5) = m ((c.tc : Thread Cert.InXBIdeal.nD Cert.InXBIdeal.τ).loc Cert.InXBIdeal.main_arg5)) →
    ∃ (v0 : (c : Dev Cert.InXBIdeal.nD) → Buf (Elt Ideal) ((c.tc : Thread Cert.InXBIdeal.nD Cert.InXBIdeal.τ).loc Cert.InXBIdeal.main_v3_0)) (v1 : (c : Dev Cert.InXBIdeal.nD) → Buf (Elt Ideal) ((c.tc : Thread Cert.InXBIdeal.nD Cert.InXBIdeal.τ).loc Cert.InXBIdeal.main_v3_1)),
      θ_run (Cert.InXBIdeal.defs (F := Ideal)) (onTc (τ := Cert.InXBIdeal.τ) (Cert.InXBIdeal.main (F := Ideal))) ⟨m, fun _ => 0, g⟩ (fun r => ∀ c : Dev Cert.InXBIdeal.nD,
          r.2.mem ((c.tc : Thread Cert.InXBIdeal.nD Cert.InXBIdeal.τ).loc Cert.InXBIdeal.main_v3_0) = v0 c
          ∧ r.2.mem ((c.tc : Thread Cert.InXBIdeal.nD Cert.InXBIdeal.τ).loc Cert.InXBIdeal.main_v3_1) = v1 c
          ∧ r.2.mem ((c.tc : Thread Cert.InXBIdeal.nD Cert.InXBIdeal.τ).loc Cert.InXBIdeal.main_arg0) = m ((c.tc : Thread Cert.InXBIdeal.nD Cert.InXBIdeal.τ).loc Cert.InXBIdeal.main_arg0)
          ∧ r.2.mem ((c.tc : Thread Cert.InXBIdeal.nD Cert.InXBIdeal.τ).loc Cert.InXBIdeal.main_arg1) = m ((c.tc : Thread Cert.InXBIdeal.nD Cert.InXBIdeal.τ).loc Cert.InXBIdeal.main_arg1)
          ∧ r.2.mem ((c.tc : Thread Cert.InXBIdeal.nD Cert.InXBIdeal.τ).loc Cert.InXBIdeal.main_arg2) = m ((c.tc : Thread Cert.InXBIdeal.nD Cert.InXBIdeal.τ).loc Cert.InXBIdeal.main_arg2)
          ∧ r.2.mem ((c.tc : Thread Cert.InXBIdeal.nD Cert.InXBIdeal.τ).loc Cert.InXBIdeal.main_arg3) = m ((c.tc : Thread Cert.InXBIdeal.nD Cert.InXBIdeal.τ).loc Cert.InXBIdeal.main_arg3)
          ∧ r.2.mem ((c.tc : Thread Cert.InXBIdeal.nD Cert.InXBIdeal.τ).loc Cert.InXBIdeal.main_arg4) = m ((c.tc : Thread Cert.InXBIdeal.nD Cert.InXBIdeal.τ).loc Cert.InXBIdeal.main_arg4)
          ∧ r.2.mem ((c.tc : Thread Cert.InXBIdeal.nD Cert.InXBIdeal.τ).loc Cert.InXBIdeal.main_arg5) = m ((c.tc : Thread Cert.InXBIdeal.nD Cert.InXBIdeal.τ).loc Cert.InXBIdeal.main_arg5))
      ∧ θ_run (Cert.InXBReferenceIdeal.defs (F := Ideal)) (onTc (τ := Cert.InXBReferenceIdeal.τ) (Cert.InXBReferenceIdeal.main (F := Ideal))) ⟨m', fun _ => 0, g'⟩ (fun r => ∀ c : Dev Cert.InXBReferenceIdeal.nD,
          r.2.mem ((c.tc : Thread Cert.InXBReferenceIdeal.nD Cert.InXBReferenceIdeal.τ).loc Cert.InXBReferenceIdeal.main_v46) = v0 c
          ∧ r.2.mem ((c.tc : Thread Cert.InXBReferenceIdeal.nD Cert.InXBReferenceIdeal.τ).loc Cert.InXBReferenceIdeal.main_v44) = v1 c
          ∧ r.2.mem ((c.tc : Thread Cert.InXBReferenceIdeal.nD Cert.InXBReferenceIdeal.τ).loc Cert.InXBReferenceIdeal.main_arg0) = m' ((c.tc : Thread Cert.InXBReferenceIdeal.nD Cert.InXBReferenceIdeal.τ).loc Cert.InXBReferenceIdeal.main_arg0)
          ∧ r.2.mem ((c.tc : Thread Cert.InXBReferenceIdeal.nD Cert.InXBReferenceIdeal.τ).loc Cert.InXBReferenceIdeal.main_arg1) = m' ((c.tc : Thread Cert.InXBReferenceIdeal.nD Cert.InXBReferenceIdeal.τ).loc Cert.InXBReferenceIdeal.main_arg1)
          ∧ r.2.mem ((c.tc : Thread Cert.InXBReferenceIdeal.nD Cert.InXBReferenceIdeal.τ).loc Cert.InXBReferenceIdeal.main_arg2) = m' ((c.tc : Thread Cert.InXBReferenceIdeal.nD Cert.InXBReferenceIdeal.τ).loc Cert.InXBReferenceIdeal.main_arg2)
          ∧ r.2.mem ((c.tc : Thread Cert.InXBReferenceIdeal.nD Cert.InXBReferenceIdeal.τ).loc Cert.InXBReferenceIdeal.main_arg3) = m' ((c.tc : Thread Cert.InXBReferenceIdeal.nD Cert.InXBReferenceIdeal.τ).loc Cert.InXBReferenceIdeal.main_arg3)
          ∧ r.2.mem ((c.tc : Thread Cert.InXBReferenceIdeal.nD Cert.InXBReferenceIdeal.τ).loc Cert.InXBReferenceIdeal.main_arg4) = m' ((c.tc : Thread Cert.InXBReferenceIdeal.nD Cert.InXBReferenceIdeal.τ).loc Cert.InXBReferenceIdeal.main_arg4)
          ∧ r.2.mem ((c.tc : Thread Cert.InXBReferenceIdeal.nD Cert.InXBReferenceIdeal.τ).loc Cert.InXBReferenceIdeal.main_arg5) = m' ((c.tc : Thread Cert.InXBReferenceIdeal.nD Cert.InXBReferenceIdeal.τ).loc Cert.InXBReferenceIdeal.main_arg5))

def Claim : Prop :=
  ∃ (hMix : Cert.Mix.Facts) (hMixIdeal : Cert.MixIdeal.Facts) (hMixReferenceIdeal : Cert.MixReferenceIdeal.Facts) (hProj : Cert.Proj.Facts) (hProjIdeal : Cert.ProjIdeal.Facts) (hProjReferenceIdeal : Cert.ProjReferenceIdeal.Facts) (hInW : Cert.InW.Facts) (hInWIdeal : Cert.InWIdeal.Facts) (hInWReferenceIdeal : Cert.InWReferenceIdeal.Facts) (hInX : Cert.InX.Facts) (hInXIdeal : Cert.InXIdeal.Facts) (hInXReferenceIdeal : Cert.InXReferenceIdeal.Facts) (hInP : Cert.InP.Facts) (hInPIdeal : Cert.InPIdeal.Facts) (hInPReferenceIdeal : Cert.InPReferenceIdeal.Facts) (hInXA : Cert.InXA.Facts) (hInXAIdeal : Cert.InXAIdeal.Facts) (hInXAReferenceIdeal : Cert.InXAReferenceIdeal.Facts) (hInXB : Cert.InXB.Facts) (hInXBIdeal : Cert.InXBIdeal.Facts) (hInXBReferenceIdeal : Cert.InXBReferenceIdeal.Facts) (hPre_finite_x : Cert.Pre_finite_x.Facts) (hPre_finite_xb : Cert.Pre_finite_xb.Facts),
    quiescent_Mix (hMix := hMix)
    ∧ quiescent_MixIdeal (hMixIdeal := hMixIdeal)
    ∧ quiescent_MixReferenceIdeal (hMixReferenceIdeal := hMixReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_InW (hInW := hInW)
    ∧ quiescent_InWIdeal (hInWIdeal := hInWIdeal)
    ∧ quiescent_InWReferenceIdeal (hInWReferenceIdeal := hInWReferenceIdeal)
    ∧ quiescent_InX (hInX := hInX)
    ∧ quiescent_InXIdeal (hInXIdeal := hInXIdeal)
    ∧ quiescent_InXIdeal_pre_finite_x (hInXIdeal := hInXIdeal) (hPre_finite_x := hPre_finite_x)
    ∧ quiescent_InXReferenceIdeal (hInXReferenceIdeal := hInXReferenceIdeal)
    ∧ quiescent_InXReferenceIdeal_pre_finite_x (hInXReferenceIdeal := hInXReferenceIdeal) (hPre_finite_x := hPre_finite_x)
    ∧ quiescent_InP (hInP := hInP)
    ∧ quiescent_InPIdeal (hInPIdeal := hInPIdeal)
    ∧ quiescent_InPReferenceIdeal (hInPReferenceIdeal := hInPReferenceIdeal)
    ∧ quiescent_InXA (hInXA := hInXA)
    ∧ quiescent_InXAIdeal (hInXAIdeal := hInXAIdeal)
    ∧ quiescent_InXAIdeal_pre_finite_x (hInXAIdeal := hInXAIdeal) (hPre_finite_x := hPre_finite_x)
    ∧ quiescent_InXAReferenceIdeal (hInXAReferenceIdeal := hInXAReferenceIdeal)
    ∧ quiescent_InXAReferenceIdeal_pre_finite_x (hInXAReferenceIdeal := hInXAReferenceIdeal) (hPre_finite_x := hPre_finite_x)
    ∧ quiescent_InXB (hInXB := hInXB)
    ∧ quiescent_InXBIdeal (hInXBIdeal := hInXBIdeal)
    ∧ quiescent_InXBIdeal_pre_finite_xb (hInXBIdeal := hInXBIdeal) (hPre_finite_xb := hPre_finite_xb)
    ∧ quiescent_InXBReferenceIdeal (hInXBReferenceIdeal := hInXBReferenceIdeal)
    ∧ quiescent_InXBReferenceIdeal_pre_finite_xb (hInXBReferenceIdeal := hInXBReferenceIdeal) (hPre_finite_xb := hPre_finite_xb)
    ∧ preserves_Mix_MixIdeal
    ∧ algebraic_MixIdeal_MixReferenceIdeal (hMixIdeal := hMixIdeal) (hMixReferenceIdeal := hMixReferenceIdeal)
    ∧ preserves_Proj_ProjIdeal
    ∧ algebraic_ProjIdeal_ProjReferenceIdeal (hProjIdeal := hProjIdeal) (hProjReferenceIdeal := hProjReferenceIdeal)
    ∧ preserves_InW_InWIdeal
    ∧ algebraic_InWIdeal_InWReferenceIdeal (hInWIdeal := hInWIdeal) (hInWReferenceIdeal := hInWReferenceIdeal)
    ∧ preserves_InX_InXIdeal
    ∧ algebraic_InXIdeal_InXReferenceIdeal_pre_finite_x (hInXIdeal := hInXIdeal) (hInXReferenceIdeal := hInXReferenceIdeal) (hPre_finite_x := hPre_finite_x)
    ∧ preserves_InP_InPIdeal
    ∧ algebraic_InPIdeal_InPReferenceIdeal (hInPIdeal := hInPIdeal) (hInPReferenceIdeal := hInPReferenceIdeal)
    ∧ preserves_InXA_InXAIdeal
    ∧ algebraic_InXAIdeal_InXAReferenceIdeal_pre_finite_x (hInXAIdeal := hInXAIdeal) (hInXAReferenceIdeal := hInXAReferenceIdeal) (hPre_finite_x := hPre_finite_x)
    ∧ preserves_InXB_InXBIdeal
    ∧ algebraic_InXBIdeal_InXBReferenceIdeal_pre_finite_xb (hInXBIdeal := hInXBIdeal) (hInXBReferenceIdeal := hInXBReferenceIdeal) (hPre_finite_xb := hPre_finite_xb)
-- ==== Pre_finite_x.lean ====
abbrev S8192x1024 : Shape := ⟨2, ![8192, 1024]⟩
abbrev S1024 : Shape := ⟨1, ![1024]⟩
abbrev S1024x7680 : Shape := ⟨2, ![1024, 7680]⟩
abbrev S8192x7680 : Shape := ⟨2, ![8192, 7680]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x7680 : S_.BroadcastsInDim S1024x7680 (![] : Fin 0 → Fin S1024x7680.rank)
  bitsLt_bf16_f32 : FTy.bits .bf16 < FTy.bits .f32
  bcast_S_S8192x7680 : S_.BroadcastsInDim S8192x7680 (![] : Fin 0 → Fin S8192x7680.rank)

variable [Facts]

def fn {F : FTy → Type} [FloatOps F] (main_arg0 : FVec F S8192x1024 .f32) (main_arg1 : FVec F S1024 .f32) (main_arg2 : FVec F S1024x7680 .f32) (main_arg3 : FVec F S8192x7680 .bf16) (main_arg4 : FVec F S8192x1024 .f32) : IVec S8192x1024 1 × IVec S1024 1 × IVec S1024x7680 1 × IVec S8192x7680 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x7680 .f32 := Host.absf main_arg2
  let main_cst_1 : FVec F S_ .f32 := constant S_ .f32 0x7F800000#32
  let main_v7 : FVec F S1024x7680 .f32 := broadcastInDim S1024x7680 ![] bcast_S_S1024x7680 main_cst_1
  let main_v8 : IVec S1024x7680 1 := cmpf .olt main_v6 main_v7
  let main_v9 : FVec F S8192x7680 .f32 := (extf .f32 · bitsLt_bf16_f32) main_arg3
  let main_v10 : FVec F S8192x7680 .f32 := Host.absf main_v9
  let main_cst_2 : FVec F S_ .f32 := constant S_ .f32 0x7F800000#32
  let main_v11 : FVec F S8192x7680 .f32 := broadcastInDim S8192x7680 ![] bcast_S_S8192x7680 main_cst_2
  let main_v12 : IVec S8192x7680 1 := cmpf .olt main_v10 main_v11
  let main_v13 : FVec F S8192x1024 .f32 := Host.absf main_arg4
  let main_cst_3 : FVec F S_ .f32 := constant S_ .f32 0x7F800000#32
  let main_v14 : FVec F S8192x1024 .f32 := broadcastInDim S8192x1024 ![] bcast_S_S8192x1024 main_cst_3
  let main_v15 : IVec S8192x1024 1 := cmpf .olt main_v13 main_v14
  (main_v2, main_v5, main_v8, main_v12, main_v15)
-- ==== Pre_finite_xb.lean ====
abbrev S8192x1024 : Shape := ⟨2, ![8192, 1024]⟩
abbrev S1024 : Shape := ⟨1, ![1024]⟩
abbrev S1024x7680 : Shape := ⟨2, ![1024, 7680]⟩
abbrev S8192x7680 : Shape := ⟨2, ![8192, 7680]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x7680 : S_.BroadcastsInDim S1024x7680 (![] : Fin 0 → Fin S1024x7680.rank)
  bitsLt_bf16_f32 : FTy.bits .bf16 < FTy.bits .f32
  bcast_S_S8192x7680 : S_.BroadcastsInDim S8192x7680 (![] : Fin 0 → Fin S8192x7680.rank)

variable [Facts]

def fn_part1 {F : FTy → Type} [FloatOps F] (main_v2 : IVec S8192x1024 1) (main_v5 : IVec S1024 1) (main_v8 : IVec S1024x7680 1) (main_v12 : IVec S8192x7680 1) (main_v15 : IVec S8192x1024 1) (main_v16 : FVec F S8192x1024 .f32) (main_v17 : FVec F S8192x1024 .f32) : IVec S8192x1024 1 × IVec S1024 1 × IVec S1024x7680 1 × IVec S8192x7680 1 × IVec S8192x1024 1 × IVec S8192x1024 1 :=
  let main_v18 : IVec S8192x1024 1 := cmpf .olt main_v16 main_v17
  (main_v2, main_v5, main_v8, main_v12, main_v15, main_v18)

def fn {F : FTy → Type} [FloatOps F] (main_arg0 : FVec F S8192x1024 .f32) (main_arg1 : FVec F S1024 .f32) (main_arg2 : FVec F S1024x7680 .f32) (main_arg3 : FVec F S8192x7680 .bf16) (main_arg4 : FVec F S8192x1024 .f32) (main_arg5 : FVec F S8192x1024 .f32) : IVec S8192x1024 1 × IVec S1024 1 × IVec S1024x7680 1 × IVec S8192x7680 1 × IVec S8192x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x7680 .f32 := Host.absf main_arg2
  let main_cst_1 : FVec F S_ .f32 := constant S_ .f32 0x7F800000#32
  let main_v7 : FVec F S1024x7680 .f32 := broadcastInDim S1024x7680 ![] bcast_S_S1024x7680 main_cst_1
  let main_v8 : IVec S1024x7680 1 := cmpf .olt main_v6 main_v7
  let main_v9 : FVec F S8192x7680 .f32 := (extf .f32 · bitsLt_bf16_f32) main_arg3
  let main_v10 : FVec F S8192x7680 .f32 := Host.absf main_v9
  let main_cst_2 : FVec F S_ .f32 := constant S_ .f32 0x7F800000#32
  let main_v11 : FVec F S8192x7680 .f32 := broadcastInDim S8192x7680 ![] bcast_S_S8192x7680 main_cst_2
  let main_v12 : IVec S8192x7680 1 := cmpf .olt main_v10 main_v11
  let main_v13 : FVec F S8192x1024 .f32 := Host.absf main_arg4
  let main_cst_3 : FVec F S_ .f32 := constant S_ .f32 0x7F800000#32
  let main_v14 : FVec F S8192x1024 .f32 := broadcastInDim S8192x1024 ![] bcast_S_S8192x1024 main_cst_3
  let main_v15 : IVec S8192x1024 1 := cmpf .olt main_v13 main_v14
  let main_v16 : FVec F S8192x1024 .f32 := Host.absf main_arg5
  let main_cst_4 : FVec F S_ .f32 := constant S_ .f32 0x7F800000#32
  let main_v17 : FVec F S8192x1024 .f32 := broadcastInDim S8192x1024 ![] bcast_S_S8192x1024 main_cst_4
  fn_part1 (F := F) main_v2 main_v5 main_v8 main_v12 main_v15 main_v16 main_v17
-- ==== Mix.lean ====
abbrev S8192x7680 : Shape := ⟨2, ![8192, 7680]⟩
abbrev S8192x1024 : Shape := ⟨2, ![8192, 1024]⟩
abbrev S512 : Shape := ⟨1, ![512]⟩
abbrev S8x128x128 : Shape := ⟨3, ![8, 128, 128]⟩
abbrev S8x128 : Shape := ⟨2, ![8, 128]⟩
abbrev S3x512 : Shape := ⟨2, ![3, 512]⟩
abbrev S4x128x128 : Shape := ⟨3, ![4, 128, 128]⟩
abbrev S512x1024 : Shape := ⟨2, ![512, 1024]⟩
abbrev S1024x1024 : Shape := ⟨2, ![1024, 1024]⟩
abbrev S_ : Shape := ⟨0, ![]⟩
abbrev S128x128 : Shape := ⟨2, ![128, 128]⟩
abbrev S1x512 : Shape := ⟨2, ![1, 512]⟩
abbrev S8x512 : Shape := ⟨2, ![8, 512]⟩
abbrev S128x8 : Shape := ⟨2, ![128, 8]⟩
abbrev S128x8x64 : Shape := ⟨3, ![128, 8, 64]⟩
abbrev S128x512 : Shape := ⟨2, ![128, 512]⟩
abbrev S128x8x128 : Shape := ⟨3, ![128, 8, 128]⟩
abbrev S128x1024 : Shape := ⟨2, ![128, 1024]⟩
abbrev S256 : Shape := ⟨1, ![256]⟩
abbrev S256x1 : Shape := ⟨2, ![256, 1]⟩
abbrev S384 : Shape := ⟨1, ![384]⟩
abbrev S1x384 : Shape := ⟨2, ![1, 384]⟩
abbrev S256x384 : Shape := ⟨2, ![256, 384]⟩
abbrev S1x256x384 : Shape := ⟨3, ![1, 256, 384]⟩
abbrev S4x256x384 : Shape := ⟨3, ![4, 256, 384]⟩
abbrev S8192x1536 : Shape := ⟨2, ![8192, 1536]⟩
abbrev S8192x3072 : Shape := ⟨2, ![8192, 3072]⟩
abbrev S1024x128 : Shape := ⟨2, ![1024, 128]⟩
abbrev S512x128 : Shape := ⟨2, ![512, 128]⟩
abbrev S256x7680 : Shape := ⟨2, ![256, 7680]⟩
abbrev S16x512 : Shape := ⟨2, ![16, 512]⟩
abbrev S256x1024 : Shape := ⟨2, ![256, 1024]⟩
abbrev S256x1536 : Shape := ⟨2, ![256, 1536]⟩
abbrev S256x3072 : Shape := ⟨2, ![256, 3072]⟩
abbrev S272x512 : Shape := ⟨2, ![272, 512]⟩
abbrev S256x512 : Shape := ⟨2, ![256, 512]⟩
abbrev S1024x512 : Shape := ⟨2, ![1024, 512]⟩
abbrev S112x512 : Shape := ⟨2, ![112, 512]⟩
abbrev S384x512 : Shape := ⟨2, ![384, 512]⟩
abbrev S256x128 : Shape := ⟨2, ![256, 128]⟩
abbrev S384x128 : Shape := ⟨2, ![384, 128]⟩
abbrev S1x128x128 : Shape := ⟨3, ![1, 128, 128]⟩

abbrev nBuf : Space → Nat
  | .hbm => 193
  | .vmem => 44
  | .smem => 0
  | _ => 0

abbrev hbmTy0_0 (i : Nat) : BufTy := match i % 128 with
  | 0 => ⟨S8192x7680, .bf16⟩
  | 1 => ⟨S8192x1024, .bf16⟩
  | 2 => ⟨S8192x1024, .bf16⟩
  | 3 => ⟨S8192x1024, .bf16⟩
  | 4 => ⟨S512, .f32⟩
  | 5 => ⟨S512, .f32⟩
  | 6 => ⟨S8x128x128, .f32⟩
  | 7 => ⟨S8x128, .f32⟩
  | 8 => ⟨S3x512, .f32⟩
  | 9 => ⟨S512, .f32⟩
  | 10 => ⟨S4x128x128, .f32⟩
  | 11 => ⟨S512, .f32⟩
  | 12 => ⟨S512x1024, .f32⟩
  | 13 => ⟨S512x1024, .f32⟩
  | 14 => ⟨S512x1024, .f32⟩
  | 15 => ⟨S1024x1024, .f32⟩
  | 16 => ⟨S8192x1024, .f32⟩
  | 17 => ⟨S_, .i1⟩
  | 18 => ⟨S128x128, .i1⟩
  | 19 => ⟨S128x128, .i32⟩
  | 20 => ⟨S_, .i32⟩
  | 21 => ⟨S128x128, .i32⟩
  | 22 => ⟨S128x128, .i32⟩
  | 23 => ⟨S128x128, .i32⟩
  | 24 => ⟨S128x128, .i1⟩
  | 25 => ⟨S_, .i1⟩
  | 26 => ⟨S128x128, .i1⟩
  | 27 => ⟨S128x128, .i1⟩
  | 28 => ⟨S_, .f32⟩
  | 29 => ⟨S_, .f32⟩
  | 30 => ⟨S8x128x128, .i1⟩
  | 31 => ⟨S8x128x128, .f32⟩
  | 32 => ⟨S8x128x128, .f32⟩
  | 33 => ⟨S1x512, .f32⟩
  | 34 => ⟨S1x512, .f32⟩
  | 35 => ⟨S1x512, .f32⟩
  | 36 => ⟨S1x512, .f32⟩
  | 37 => ⟨S_, .f32⟩
  | 38 => ⟨S1x512, .f32⟩
  | 39 => ⟨S8x512, .f32⟩
  | 40 => ⟨S512x1024, .bf16⟩
  | 41 => ⟨S512x1024, .bf16⟩
  | 42 => ⟨S512x1024, .bf16⟩
  | 43 => ⟨S1024x1024, .bf16⟩
  | 44 => ⟨S128x8, .f32⟩
  | 45 => ⟨S128x8x64, .f32⟩
  | 46 => ⟨S128x512, .f32⟩
  | 47 => ⟨S128x8x128, .f32⟩
  | 48 => ⟨S128x1024, .f32⟩
  | 49 => ⟨S128x1024, .bf16⟩
  | 50 => ⟨S128x8x128, .f32⟩
  | 51 => ⟨S128x1024, .f32⟩
  | 52 => ⟨S128x1024, .bf16⟩
  | 53 => ⟨S4x128x128, .bf16⟩
  | 54 => ⟨S256, .i32⟩
  | 55 => ⟨S256x1, .i32⟩
  | 56 => ⟨S384, .i32⟩
  | 57 => ⟨S1x384, .i32⟩
  | 58 => ⟨S_, .i32⟩
  | 59 => ⟨S256x1, .i32⟩
  | 60 => ⟨S256x1, .i32⟩
  | 61 => ⟨S_, .i32⟩
  | 62 => ⟨S256x1, .i32⟩
  | 63 => ⟨S256x1, .i32⟩
  | 64 => ⟨S256x384, .i32⟩
  | 65 => ⟨S256x384, .i32⟩
  | 66 => ⟨S256x384, .i1⟩
  | 67 => ⟨S_, .i32⟩
  | 68 => ⟨S256x1, .i32⟩
  | 69 => ⟨S256x1, .i32⟩
  | 70 => ⟨S256x384, .i32⟩
  | 71 => ⟨S256x384, .i32⟩
  | 72 => ⟨S256x384, .i1⟩
  | 73 => ⟨S256x384, .i1⟩
  | 74 => ⟨S_, .i32⟩
  | 75 => ⟨S256x1, .i32⟩
  | 76 => ⟨S256x1, .i32⟩
  | 77 => ⟨S_, .i32⟩
  | 78 => ⟨S256x1, .i32⟩
  | 79 => ⟨S256x1, .i32⟩
  | 80 => ⟨S256x384, .i32⟩
  | 81 => ⟨S256x384, .i32⟩
  | 82 => ⟨S256x384, .i1⟩
  | 83 => ⟨S_, .i32⟩
  | 84 => ⟨S256x1, .i32⟩
  | 85 => ⟨S256x1, .i32⟩
  | 86 => ⟨S256x384, .i32⟩
  | 87 => ⟨S256x384, .i32⟩
  | 88 => ⟨S256x384, .i1⟩
  | 89 => ⟨S256x384, .i1⟩
  | 90 => ⟨S_, .i32⟩
  | 91 => ⟨S256x1, .i32⟩
  | 92 => ⟨S256x1, .i32⟩
  | 93 => ⟨S_, .i32⟩
  | 94 => ⟨S256x1, .i32⟩
  | 95 => ⟨S256x1, .i32⟩
  | 96 => ⟨S256x384, .i32⟩
  | 97 => ⟨S256x384, .i32⟩
  | 98 => ⟨S256x384, .i1⟩
  | 99 => ⟨S_, .i32⟩
  | 100 => ⟨S256x1, .i32⟩
  | 101 => ⟨S256x1, .i32⟩
  | 102 => ⟨S256x384, .i32⟩
  | 103 => ⟨S256x384, .i32⟩
  | 104 => ⟨S256x384, .i1⟩
  | 105 => ⟨S256x384, .i1⟩
  | 106 => ⟨S_, .i32⟩
  | 107 => ⟨S256x1, .i32⟩
  | 108 => ⟨S256x1, .i32⟩
  | 109 => ⟨S_, .i32⟩
  | 110 => ⟨S256x1, .i32⟩
  | 111 => ⟨S256x1, .i32⟩
  | 112 => ⟨S256x384, .i32⟩
  | 113 => ⟨S256x384, .i32⟩
  | 114 => ⟨S256x384, .i1⟩
  | 115 => ⟨S_, .i32⟩
  | 116 => ⟨S256x1, .i32⟩
  | 117 => ⟨S256x1, .i32⟩
  | 118 => ⟨S256x384, .i32⟩
  | 119 => ⟨S256x384, .i32⟩
  | 120 => ⟨S256x384, .i1⟩
  | 121 => ⟨S256x384, .i1⟩
  | 122 => ⟨S1x256x384, .i1⟩
  | 123 => ⟨S1x256x384, .i1⟩
  | 124 => ⟨S1x256x384, .i1⟩
  | 125 => ⟨S1x256x384, .i1⟩
  | 126 => ⟨S4x256x384, .i1⟩
  | 127 => ⟨S4x256x384, .i32⟩
  | _ => ⟨S8192x7680, .bf16⟩

abbrev hbmTy0_1 (i : Nat) : BufTy := match i % 128 with
  | 0 => ⟨S4x256x384, .f32⟩
  | 1 => ⟨S4x256x384, .bf16⟩
  | 2 => ⟨S256, .i32⟩
  | 3 => ⟨S256x1, .i32⟩
  | 4 => ⟨S384, .i32⟩
  | 5 => ⟨S1x384, .i32⟩
  | 6 => ⟨S256x384, .i32⟩
  | 7 => ⟨S256x384, .i32⟩
  | 8 => ⟨S256x384, .i1⟩
  | 9 => ⟨S_, .i32⟩
  | 10 => ⟨S256x1, .i32⟩
  | 11 => ⟨S256x1, .i32⟩
  | 12 => ⟨S256x384, .i32⟩
  | 13 => ⟨S256x384, .i32⟩
  | 14 => ⟨S256x384, .i1⟩
  | 15 => ⟨S256x384, .i1⟩
  | 16 => ⟨S256x384, .i32⟩
  | 17 => ⟨S256x384, .i32⟩
  | 18 => ⟨S256x384, .i1⟩
  | 19 => ⟨S_, .i32⟩
  | 20 => ⟨S256x1, .i32⟩
  | 21 => ⟨S256x1, .i32⟩
  | 22 => ⟨S256x384, .i32⟩
  | 23 => ⟨S256x384, .i32⟩
  | 24 => ⟨S256x384, .i1⟩
  | 25 => ⟨S256x384, .i1⟩
  | 26 => ⟨S256x384, .i32⟩
  | 27 => ⟨S256x384, .i32⟩
  | 28 => ⟨S256x384, .i1⟩
  | 29 => ⟨S_, .i32⟩
  | 30 => ⟨S256x1, .i32⟩
  | 31 => ⟨S256x1, .i32⟩
  | 32 => ⟨S256x384, .i32⟩
  | 33 => ⟨S256x384, .i32⟩
  | 34 => ⟨S256x384, .i1⟩
  | 35 => ⟨S256x384, .i1⟩
  | 36 => ⟨S256x384, .i32⟩
  | 37 => ⟨S256x384, .i32⟩
  | 38 => ⟨S256x384, .i1⟩
  | 39 => ⟨S_, .i32⟩
  | 40 => ⟨S256x1, .i32⟩
  | 41 => ⟨S256x1, .i32⟩
  | 42 => ⟨S256x384, .i32⟩
  | 43 => ⟨S256x384, .i32⟩
  | 44 => ⟨S256x384, .i1⟩
  | 45 => ⟨S256x384, .i1⟩
  | 46 => ⟨S1x256x384, .i1⟩
  | 47 => ⟨S1x256x384, .i1⟩
  | 48 => ⟨S1x256x384, .i1⟩
  | 49 => ⟨S1x256x384, .i1⟩
  | 50 => ⟨S4x256x384, .i1⟩
  | 51 => ⟨S4x256x384, .i32⟩
  | 52 => ⟨S4x256x384, .f32⟩
  | 53 => ⟨S4x256x384, .bf16⟩
  | 54 => ⟨S8192x7680, .bf16⟩
  | 55 => ⟨S8192x1536, .bf16⟩
  | 56 => ⟨S8192x1024, .bf16⟩
  | 57 => ⟨S8192x3072, .bf16⟩
  | 58 => ⟨S1024x128, .f32⟩
  | 59 => ⟨S128x128, .f32⟩
  | 60 => ⟨S512x128, .f32⟩
  | 61 => ⟨S8x512, .f32⟩
  | 62 => ⟨S8192x3072, .bf16⟩
  | 63 => ⟨S1x512, .f32⟩
  | 64 => ⟨S512, .f32⟩
  | _ => ⟨S8192x7680, .bf16⟩

abbrev hbmTy (i : Nat) : BufTy := match i / 128 with
  | 0 => hbmTy0_0 i
  | 1 => hbmTy0_1 i
  | _ => ⟨S8192x7680, .bf16⟩

abbrev bufTy : (tb : Table) → Fin (tcTables nBuf tb) → BufTy
  | .hbm, ⟨i, _⟩ => hbmTy i
  | .local _ .vmem, ⟨0, _⟩ => ⟨S256x7680, .bf16⟩
  | .local _ .vmem, ⟨1, _⟩ => ⟨S256x7680, .bf16⟩
  | .local _ .vmem, ⟨2, _⟩ => ⟨S16x512, .bf16⟩
  | .local _ .vmem, ⟨3, _⟩ => ⟨S16x512, .bf16⟩
  | .local _ .vmem, ⟨4, _⟩ => ⟨S16x512, .bf16⟩
  | .local _ .vmem, ⟨5, _⟩ => ⟨S16x512, .bf16⟩
  | .local _ .vmem, ⟨6, _⟩ => ⟨S16x512, .bf16⟩
  | .local _ .vmem, ⟨7, _⟩ => ⟨S16x512, .bf16⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S8x512, .f32⟩
  | .local _ .vmem, ⟨17, _⟩ => ⟨S128x512, .f32⟩
  | .local _ .vmem, ⟨18, _⟩ => ⟨S128x1024, .bf16⟩
  | .local _ .vmem, ⟨19, _⟩ => ⟨S128x1024, .bf16⟩
  | .local _ .vmem, ⟨20, _⟩ => ⟨S4x128x128, .bf16⟩
  | .local _ .vmem, ⟨21, _⟩ => ⟨S4x256x384, .bf16⟩
  | .local _ .vmem, ⟨22, _⟩ => ⟨S4x256x384, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S1024x1024, .bf16⟩
  | .local _ .vmem, ⟨27, _⟩ => ⟨S256x7680, .bf16⟩
  | .local _ .vmem, ⟨28, _⟩ => ⟨S256x7680, .bf16⟩
  | .local _ .vmem, ⟨29, _⟩ => ⟨S256x1536, .bf16⟩
  | .local _ .vmem, ⟨30, _⟩ => ⟨S256x1536, .bf16⟩
  | .local _ .vmem, ⟨31, _⟩ => ⟨S256x1024, .bf16⟩
  | .local _ .vmem, ⟨32, _⟩ => ⟨S256x1024, .bf16⟩
  | .local _ .vmem, ⟨33, _⟩ => ⟨S256x3072, .bf16⟩
  | .local _ .vmem, ⟨34, _⟩ => ⟨S256x3072, .bf16⟩
  | .local _ .vmem, ⟨35, _⟩ => ⟨S1024x128, .f32⟩
  | .local _ .vmem, ⟨36, _⟩ => ⟨S128x128, .f32⟩
  | .local _ .vmem, ⟨37, _⟩ => ⟨S512x128, .f32⟩
  | .local _ .vmem, ⟨38, _⟩ => ⟨S8x512, .f32⟩
  | .local _ .vmem, ⟨39, _⟩ => ⟨S272x512, .f32⟩
  | .local _ .vmem, ⟨40, _⟩ => ⟨S272x512, .f32⟩
  | .local _ .vmem, ⟨41, _⟩ => ⟨S16x512, .f32⟩
  | .local _ .vmem, ⟨42, _⟩ => ⟨S16x512, .bf16⟩
  | .local _ .vmem, ⟨43, _⟩ => ⟨S128x512, .f32⟩
  | _, _ => ⟨S8192x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v1 : Ref sig .tc := ⟨.hbm, 27, rfl⟩
abbrev main_cst : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst_0 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_1 : Ref sig .tc := ⟨.hbm, 58, rfl⟩
abbrev main_v27 : Ref sig .tc := ⟨.hbm, 59, rfl⟩
abbrev main_v28 : Ref sig .tc := ⟨.hbm, 60, rfl⟩
abbrev main_c_2 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_c_3 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_c_4 : Ref sig .tc := ⟨.hbm, 74, rfl⟩
abbrev main_v40 : Ref sig .tc := ⟨.hbm, 75, rfl⟩
abbrev main_v41 : Ref sig .tc := ⟨.hbm, 76, rfl⟩
abbrev main_c_5 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_c_6 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_c_7 : Ref sig .tc := ⟨.hbm, 90, rfl⟩
abbrev main_v53 : Ref sig .tc := ⟨.hbm, 91, rfl⟩
abbrev main_v54 : Ref sig .tc := ⟨.hbm, 92, rfl⟩
abbrev main_c_8 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_c_9 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_c_10 : Ref sig .tc := ⟨.hbm, 106, rfl⟩
abbrev main_v66 : Ref sig .tc := ⟨.hbm, 107, rfl⟩
abbrev main_v67 : Ref sig .tc := ⟨.hbm, 108, rfl⟩
abbrev main_c_11 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_c_12 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_c_13 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_c_14 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_c_15 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_c_16 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135_0 : Ref sig .tc := ⟨.hbm, 182, rfl⟩
abbrev main_v135_1 : Ref sig .tc := ⟨.hbm, 183, rfl⟩
abbrev main_v135_2 : Ref sig .tc := ⟨.hbm, 184, rfl⟩
abbrev main_v135_3 : Ref sig .tc := ⟨.hbm, 185, rfl⟩
abbrev main_v135_4 : Ref sig .tc := ⟨.hbm, 186, rfl⟩
abbrev main_v135_5 : Ref sig .tc := ⟨.hbm, 187, rfl⟩
abbrev main_v135_6 : Ref sig .tc := ⟨.hbm, 188, rfl⟩
abbrev main_v135_7 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg24_0 : Ref sig .tc := ⟨.vmem, 36, rfl⟩
abbrev cc0_stg25_0 : Ref sig .tc := ⟨.vmem, 37, rfl⟩
abbrev cc0_stg26_0 : Ref sig .tc := ⟨.vmem, 38, rfl⟩
abbrev cc0_scratch0 : Ref sig .tc := ⟨.vmem, 39, rfl⟩
abbrev cc0_scratch1 : Ref sig .tc := ⟨.vmem, 40, rfl⟩
abbrev cc0_scratch2 : Ref sig .tc := ⟨.vmem, 41, rfl⟩
abbrev cc0_scratch3 : Ref sig .tc := ⟨.vmem, 42, rfl⟩
abbrev cc0_scratch4 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem24_0 : DmaSem sig := 36
abbrev cc0_sem25_0 : DmaSem sig := 37
abbrev cc0_sem26_0 : DmaSem sig := 38

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32_350 : BitVec 32 := 31#32
  let v728 : BitVec 1 := Scalar.cmpi .eq arg0 c31_i32_350
  let v729 : BitVec 32 := Scalar.extui v728
  let c0_i32_351 : BitVec 32 := 0#32
  let v730 : BitVec 1 := Scalar.cmpi .ne v729 c0_i32_351
  v730

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c3_i32 : BitVec 32 := 3#32
  let c0_i32_0 : BitVec 32 := 0#32
  ![v3.toNat, c3_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c5_i32 : BitVec 32 := 5#32
  let c0_i32_0 : BitVec 32 := 0#32
  ![v3.toNat, c5_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c7_i32 : BitVec 32 := 7#32
  let c0_i32_0 : BitVec 32 := 0#32
  ![v3.toNat, c7_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x7680 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x256x384 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x256x384 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x7680 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1536 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x3072 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S1024x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S512x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S8x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]
-- ==== MixReferenceIdeal.lean ====
abbrev S8192x7680 : Shape := ⟨2, ![8192, 7680]⟩
abbrev S8192x1024 : Shape := ⟨2, ![8192, 1024]⟩
abbrev S512 : Shape := ⟨1, ![512]⟩
abbrev S8x128x128 : Shape := ⟨3, ![8, 128, 128]⟩
abbrev S8x128 : Shape := ⟨2, ![8, 128]⟩
abbrev S3x512 : Shape := ⟨2, ![3, 512]⟩
abbrev S4x128x128 : Shape := ⟨3, ![4, 128, 128]⟩
abbrev S512x1024 : Shape := ⟨2, ![512, 1024]⟩
abbrev S1024x1024 : Shape := ⟨2, ![1024, 1024]⟩
abbrev S8192x3072 : Shape := ⟨2, ![8192, 3072]⟩
abbrev S_ : Shape := ⟨0, ![]⟩
abbrev S8192x512 : Shape := ⟨2, ![8192, 512]⟩
abbrev S8194x512 : Shape := ⟨2, ![8194, 512]⟩
abbrev S1x512 : Shape := ⟨2, ![1, 512]⟩

abbrev nBuf : Space → Nat
  | .hbm => 144
  | .vmem => 0
  | .smem => 0
  | _ => 0

abbrev hbmTy0_0 (i : Nat) : BufTy := match i % 128 with
  | 0 => ⟨S8192x7680, .bf16⟩
  | 1 => ⟨S8192x1024, .bf16⟩
  | 2 => ⟨S8192x1024, .bf16⟩
  | 3 => ⟨S8192x1024, .bf16⟩
  | 4 => ⟨S512, .f32⟩
  | 5 => ⟨S512, .f32⟩
  | 6 => ⟨S8x128x128, .f32⟩
  | 7 => ⟨S8x128, .f32⟩
  | 8 => ⟨S3x512, .f32⟩
  | 9 => ⟨S512, .f32⟩
  | 10 => ⟨S4x128x128, .f32⟩
  | 11 => ⟨S512, .f32⟩
  | 12 => ⟨S512x1024, .f32⟩
  | 13 => ⟨S512x1024, .f32⟩
  | 14 => ⟨S512x1024, .f32⟩
  | 15 => ⟨S1024x1024, .f32⟩
  | 16 => ⟨S8192x1024, .f32⟩
  | 17 => ⟨S8192x3072, .bf16⟩
  | 18 => ⟨S8192x3072, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S_, .f32⟩
  | 28 => ⟨S8192x1024, .f32⟩
  | 29 => ⟨S8192x1024, .f32⟩
  | 30 => ⟨S_, .f32⟩
  | 31 => ⟨S8192x1024, .f32⟩
  | 32 => ⟨S8192x1024, .f32⟩
  | 33 => ⟨S_, .f32⟩
  | 34 => ⟨S8192x1024, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S_, .f32⟩
  | 44 => ⟨S8192x1024, .f32⟩
  | 45 => ⟨S8192x1024, .f32⟩
  | 46 => ⟨S_, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S_, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S_, .f32⟩
  | 78 => ⟨S8192x3072, .f32⟩
  | 79 => ⟨S_, .f32⟩
  | 80 => ⟨S8192x3072, .f32⟩
  | 81 => ⟨S8192x3072, .f32⟩
  | 82 => ⟨S_, .f32⟩
  | 83 => ⟨S8192x3072, .f32⟩
  | 84 => ⟨S8192x3072, .f32⟩
  | 85 => ⟨S8192x512, .bf16⟩
  | 86 => ⟨S8192x512, .f32⟩
  | 87 => ⟨S8192x512, .bf16⟩
  | 88 => ⟨S8192x512, .f32⟩
  | 89 => ⟨S8192x512, .bf16⟩
  | 90 => ⟨S8192x512, .f32⟩
  | 91 => ⟨S8192x512, .bf16⟩
  | 92 => ⟨S8192x512, .f32⟩
  | 93 => ⟨S8192x512, .f32⟩
  | 94 => ⟨S_, .i32⟩
  | 95 => ⟨S_, .f32⟩
  | 96 => ⟨S8194x512, .f32⟩
  | 97 => ⟨S1x512, .f32⟩
  | 98 => ⟨S512, .f32⟩
  | 99 => ⟨S8192x512, .f32⟩
  | 100 => ⟨S1x512, .f32⟩
  | 101 => ⟨S8192x512, .f32⟩
  | 102 => ⟨S8192x512, .f32⟩
  | 103 => ⟨S1x512, .f32⟩
  | 104 => ⟨S512, .f32⟩
  | 105 => ⟨S8192x512, .f32⟩
  | 106 => ⟨S1x512, .f32⟩
  | 107 => ⟨S8192x512, .f32⟩
  | 108 => ⟨S8192x512, .f32⟩
  | 109 => ⟨S8192x512, .f32⟩
  | 110 => ⟨S1x512, .f32⟩
  | 111 => ⟨S512, .f32⟩
  | 112 => ⟨S8192x512, .f32⟩
  | 113 => ⟨S1x512, .f32⟩
  | 114 => ⟨S8192x512, .f32⟩
  | 115 => ⟨S8192x512, .f32⟩
  | 116 => ⟨S8192x512, .f32⟩
  | 117 => ⟨S1x512, .f32⟩
  | 118 => ⟨S8192x512, .f32⟩
  | 119 => ⟨S8192x512, .f32⟩
  | 120 => ⟨S8192x512, .f32⟩
  | 121 => ⟨S8192x512, .f32⟩
  | 122 => ⟨S8192x512, .f32⟩
  | 123 => ⟨S_, .f32⟩
  | 124 => ⟨S8192x512, .f32⟩
  | 125 => ⟨S8192x512, .f32⟩
  | 126 => ⟨S_, .f32⟩
  | 127 => ⟨S8192x512, .f32⟩
  | _ => ⟨S8192x7680, .bf16⟩

abbrev hbmTy0_1 (i : Nat) : BufTy := match i % 128 with
  | 0 => ⟨S8192x512, .f32⟩
  | 1 => ⟨S8192x512, .f32⟩
  | 2 => ⟨S8192x512, .f32⟩
  | 3 => ⟨S8192x1024, .f32⟩
  | 4 => ⟨S8192x512, .f32⟩
  | 5 => ⟨S8192x512, .f32⟩
  | 6 => ⟨S8192x512, .f32⟩
  | 7 => ⟨S_, .f32⟩
  | 8 => ⟨S512, .f32⟩
  | 9 => ⟨S1x512, .f32⟩
  | 10 => ⟨S_, .f32⟩
  | 11 => ⟨S512, .f32⟩
  | 12 => ⟨S8192x3072, .bf16⟩
  | 13 => ⟨S8192x1024, .bf16⟩
  | 14 => ⟨S8192x3072, .f32⟩
  | 15 => ⟨S8192x3072, .bf16⟩
  | _ => ⟨S8192x7680, .bf16⟩

abbrev hbmTy (i : Nat) : BufTy := match i / 128 with
  | 0 => hbmTy0_0 i
  | 1 => hbmTy0_1 i
  | _ => ⟨S8192x7680, .bf16⟩

abbrev bufTy : (tb : Table) → Fin (tcTables nBuf tb) → BufTy
  | .hbm, ⟨i, _⟩ => hbmTy i
  | _, _ => ⟨S8192x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩
abbrev main_v34 : Ref sig .tc := ⟨.hbm, 59, rfl⟩
abbrev main_cst_7 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c : Ref sig .tc := ⟨.hbm, 94, rfl⟩
abbrev main_call0_v0 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_call1_v0 : Ref sig .tc := ⟨.hbm, 121, rfl⟩
abbrev main_call1_v1 : Ref sig .tc := ⟨.hbm, 122, rfl⟩
abbrev main_call1_cst : Ref sig .tc := ⟨.hbm, 123, rfl⟩
abbrev main_call1_v2 : Ref sig .tc := ⟨.hbm, 124, rfl⟩
abbrev main_call1_v3 : Ref sig .tc := ⟨.hbm, 125, rfl⟩
abbrev main_call1_cst_0 : Ref sig .tc := ⟨.hbm, 126, rfl⟩
abbrev main_call1_v4 : Ref sig .tc := ⟨.hbm, 127, rfl⟩
abbrev main_call1_v5 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_11 : Ref sig .tc := ⟨.hbm, 135, rfl⟩
abbrev main_v96 : Ref sig .tc := ⟨.hbm, 136, rfl⟩
abbrev main_v97 : Ref sig .tc := ⟨.hbm, 137, rfl⟩
abbrev main_cst_12 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩

abbrev nD : Nat := 1
abbrev τ : Topo := Topo.v7x

variable {F : FTy → Type} [FloatOps F]
-- ==== Proj.lean ====
abbrev S8192x1536 : Shape := ⟨2, ![8192, 1536]⟩
abbrev S8192x1024 : Shape := ⟨2, ![8192, 1024]⟩
abbrev S8192x3072 : Shape := ⟨2, ![8192, 3072]⟩
abbrev S512x1024 : Shape := ⟨2, ![512, 1024]⟩
abbrev S1024x1024 : Shape := ⟨2, ![1024, 1024]⟩
abbrev S1024x1536 : Shape := ⟨2, ![1024, 1536]⟩
abbrev S1024x3072 : Shape := ⟨2, ![1024, 3072]⟩
abbrev S1024x512 : Shape := ⟨2, ![1024, 512]⟩

abbrev nBuf : Space → Nat
  | .hbm => 8
  | .vmem => 12
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S8192x3072, .bf16⟩
  | .hbm, ⟨3, _⟩ => ⟨S8192x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S1024x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1024x3072, .bf16⟩
  | .local _ .vmem, ⟨5, _⟩ => ⟨S1024x3072, .bf16⟩
  | .local _ .vmem, ⟨6, _⟩ => ⟨S1024x1024, .f32⟩
  | .local _ .vmem, ⟨7, _⟩ => ⟨S1024x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1024x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ProjReferenceIdeal.lean ====
abbrev S8192x1536 : Shape := ⟨2, ![8192, 1536]⟩
abbrev S8192x1024 : Shape := ⟨2, ![8192, 1024]⟩
abbrev S8192x3072 : Shape := ⟨2, ![8192, 3072]⟩
abbrev S8192x512 : Shape := ⟨2, ![8192, 512]⟩
abbrev S_ : Shape := ⟨0, ![]⟩
abbrev S512x1024 : Shape := ⟨2, ![512, 1024]⟩
abbrev S1024x1024 : Shape := ⟨2, ![1024, 1024]⟩
abbrev S1024x512 : Shape := ⟨2, ![1024, 512]⟩

abbrev nBuf : Space → Nat
  | .hbm => 37
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S8192x3072, .bf16⟩
  | .hbm, ⟨3, _⟩ => ⟨S8192x1024, .f32⟩
  | .hbm, ⟨4, _⟩ => ⟨S8192x512, .bf16⟩
  | .hbm, ⟨5, _⟩ => ⟨S8192x512, .f32⟩
  | .hbm, ⟨6, _⟩ => ⟨S8192x512, .bf16⟩
  | .hbm, ⟨7, _⟩ => ⟨S8192x512, .f32⟩
  | .hbm, ⟨8, _⟩ => ⟨S8192x512, .bf16⟩
  | .hbm, ⟨9, _⟩ => ⟨S8192x512, .f32⟩
  | .hbm, ⟨10, _⟩ => ⟨S_, .f32⟩
  | .hbm, ⟨11, _⟩ => ⟨S512x1024, .f32⟩
  | .hbm, ⟨12, _⟩ => ⟨S_, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S_, .f32⟩
  | .hbm, ⟨17, _⟩ => ⟨S1024x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S8192x1024, .f32⟩
  | .hbm, ⟨25, _⟩ => ⟨S8192x1024, .bf16⟩
  | .hbm, ⟨26, _⟩ => ⟨S8192x1024, .f32⟩
  | .hbm, ⟨27, _⟩ => ⟨S8192x1024, .bf16⟩
  | .hbm, ⟨28, _⟩ => ⟨S8192x1024, .f32⟩
  | .hbm, ⟨29, _⟩ => ⟨S1024x1024, .f32⟩
  | .hbm, ⟨30, _⟩ => ⟨S1024x1024, .f32⟩
  | .hbm, ⟨31, _⟩ => ⟨S1024x512, .f32⟩
  | .hbm, ⟨32, _⟩ => ⟨S512x1024, .f32⟩
  | .hbm, ⟨33, _⟩ => ⟨S1024x512, .f32⟩
  | .hbm, ⟨34, _⟩ => ⟨S512x1024, .f32⟩
  | .hbm, ⟨35, _⟩ => ⟨S1024x512, .f32⟩
  | .hbm, ⟨36, _⟩ => ⟨S512x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== InW.lean ====
abbrev S8192x1024 : Shape := ⟨2, ![8192, 1024]⟩
abbrev S8192x7680 : Shape := ⟨2, ![8192, 7680]⟩
abbrev S7680x1024 : Shape := ⟨2, ![7680, 1024]⟩
abbrev S2048x1536 : Shape := ⟨2, ![2048, 1536]⟩
abbrev S2048x1024 : Shape := ⟨2, ![2048, 1024]⟩
abbrev S1536x1024 : Shape := ⟨2, ![1536, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x7680, .bf16⟩
  | .hbm, ⟨2, _⟩ => ⟨S7680x1024, .f32⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .f32⟩
  | .local _ .vmem, ⟨5, _⟩ => ⟨S1536x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InWReferenceIdeal.lean ====
abbrev S8192x1024 : Shape := ⟨2, ![8192, 1024]⟩
abbrev S8192x7680 : Shape := ⟨2, ![8192, 7680]⟩
abbrev S_ : Shape := ⟨0, ![]⟩
abbrev S1024x7680 : Shape := ⟨2, ![1024, 7680]⟩
abbrev S7680x1024 : Shape := ⟨2, ![7680, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x7680, .bf16⟩
  | .hbm, ⟨2, _⟩ => ⟨S_, .f32⟩
  | .hbm, ⟨3, _⟩ => ⟨S1024x7680, .f32⟩
  | .hbm, ⟨4, _⟩ => ⟨S8192x1024, .f32⟩
  | .hbm, ⟨5, _⟩ => ⟨S8192x7680, .f32⟩
  | .hbm, ⟨6, _⟩ => ⟨S8192x7680, .f32⟩
  | .hbm, ⟨7, _⟩ => ⟨S7680x1024, .f32⟩
  | .hbm, ⟨8, _⟩ => ⟨S1024x7680, .f32⟩
  | .hbm, ⟨9, _⟩ => ⟨S7680x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InX.lean ====
abbrev S8192x1024 : Shape := ⟨2, ![8192, 1024]⟩
abbrev S1024 : Shape := ⟨1, ![1024]⟩
abbrev S1024x7680 : Shape := ⟨2, ![1024, 7680]⟩
abbrev S8192x7680 : Shape := ⟨2, ![8192, 7680]⟩
abbrev S7680x1024 : Shape := ⟨2, ![7680, 1024]⟩
abbrev S1x1024 : Shape := ⟨2, ![1, 1024]⟩
abbrev S8x1024 : Shape := ⟨2, ![8, 1024]⟩
abbrev S512x7680 : Shape := ⟨2, ![512, 7680]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7680, .f32⟩
  | .hbm, ⟨3, _⟩ => ⟨S8192x7680, .bf16⟩
  | .hbm, ⟨4, _⟩ => ⟨S8192x1024, .f32⟩
  | .hbm, ⟨5, _⟩ => ⟨S7680x1024, .f32⟩
  | .hbm, ⟨6, _⟩ => ⟨S7680x1024, .bf16⟩
  | .hbm, ⟨7, _⟩ => ⟨S1x1024, .f32⟩
  | .hbm, ⟨8, _⟩ => ⟨S8192x1024, .f32⟩
  | .hbm, ⟨9, _⟩ => ⟨S8x1024, .f32⟩
  | .local _ .vmem, ⟨0, _⟩ => ⟨S512x7680, .bf16⟩
  | .local _ .vmem, ⟨1, _⟩ => ⟨S512x7680, .bf16⟩
  | .local _ .vmem, ⟨2, _⟩ => ⟨S7680x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x7680 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7680x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InXReferenceIdeal.lean ====
abbrev S8192x1024 : Shape := ⟨2, ![8192, 1024]⟩
abbrev S1024 : Shape := ⟨1, ![1024]⟩
abbrev S1024x7680 : Shape := ⟨2, ![1024, 7680]⟩
abbrev S8192x7680 : Shape := ⟨2, ![8192, 7680]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7680, .f32⟩
  | .hbm, ⟨3, _⟩ => ⟨S8192x7680, .bf16⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x7680, .f32⟩
  | .hbm, ⟨26, _⟩ => ⟨S8192x7680, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S_, .i32⟩
  | .hbm, ⟨56, _⟩ => ⟨S_, .f32⟩
  | .hbm, ⟨57, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_call0_v0 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== InP.lean ====
abbrev S8192x1024 : Shape := ⟨2, ![8192, 1024]⟩
abbrev S1024 : Shape := ⟨1, ![1024]⟩
abbrev S1024x7680 : Shape := ⟨2, ![1024, 7680]⟩
abbrev S7680x1024 : Shape := ⟨2, ![7680, 1024]⟩
abbrev S1x1024 : Shape := ⟨2, ![1, 1024]⟩
abbrev S8192x7680 : Shape := ⟨2, ![8192, 7680]⟩
abbrev S1024x1024 : Shape := ⟨2, ![1024, 1024]⟩
abbrev S1536x1024 : Shape := ⟨2, ![1536, 1024]⟩
abbrev S1024x1536 : Shape := ⟨2, ![1024, 1536]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7680, .f32⟩
  | .hbm, ⟨3, _⟩ => ⟨S7680x1024, .f32⟩
  | .hbm, ⟨4, _⟩ => ⟨S7680x1024, .bf16⟩
  | .hbm, ⟨5, _⟩ => ⟨S1x1024, .f32⟩
  | .hbm, ⟨6, _⟩ => ⟨S8192x7680, .bf16⟩
  | .hbm, ⟨7, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1536x1024, .bf16⟩
  | .local _ .vmem, ⟨4, _⟩ => ⟨S1536x1024, .bf16⟩
  | .local _ .vmem, ⟨5, _⟩ => ⟨S1024x1536, .bf16⟩
  | .local _ .vmem, ⟨6, _⟩ => ⟨S1024x1536, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InPReferenceIdeal.lean ====
abbrev S8192x1024 : Shape := ⟨2, ![8192, 1024]⟩
abbrev S1024 : Shape := ⟨1, ![1024]⟩
abbrev S1024x7680 : Shape := ⟨2, ![1024, 7680]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x7680 : Shape := ⟨2, ![8192, 7680]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7680, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x7680, .f32⟩
  | .hbm, ⟨20, _⟩ => ⟨S8192x7680, .bf16⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== InXA.lean ====
abbrev S8192x1024 : Shape := ⟨2, ![8192, 1024]⟩
abbrev S1024 : Shape := ⟨1, ![1024]⟩
abbrev S1024x7680 : Shape := ⟨2, ![1024, 7680]⟩
abbrev S8192x7680 : Shape := ⟨2, ![8192, 7680]⟩
abbrev S7680x1024 : Shape := ⟨2, ![7680, 1024]⟩
abbrev S1x1024 : Shape := ⟨2, ![1, 1024]⟩
abbrev S8x1024 : Shape := ⟨2, ![8, 1024]⟩
abbrev S512x7680 : Shape := ⟨2, ![512, 7680]⟩
abbrev S512x1024 : Shape := ⟨2, ![512, 1024]⟩
abbrev S512 : Shape := ⟨1, ![512]⟩
abbrev S512x1 : Shape := ⟨2, ![512, 1]⟩
abbrev S2560x1024 : Shape := ⟨2, ![2560, 1024]⟩

abbrev nBuf : Space → Nat
  | .hbm => 11
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7680, .f32⟩
  | .hbm, ⟨3, _⟩ => ⟨S8192x7680, .bf16⟩
  | .hbm, ⟨4, _⟩ => ⟨S8192x1024, .f32⟩
  | .hbm, ⟨5, _⟩ => ⟨S7680x1024, .f32⟩
  | .hbm, ⟨6, _⟩ => ⟨S7680x1024, .bf16⟩
  | .hbm, ⟨7, _⟩ => ⟨S1x1024, .f32⟩
  | .hbm, ⟨8, _⟩ => ⟨S8192x1024, .f32⟩
  | .hbm, ⟨9, _⟩ => ⟨S8x1024, .f32⟩
  | .hbm, ⟨10, _⟩ => ⟨S2560x1024, .f32⟩
  | .local _ .vmem, ⟨0, _⟩ => ⟨S512x7680, .bf16⟩
  | .local _ .vmem, ⟨1, _⟩ => ⟨S512x7680, .bf16⟩
  | .local _ .vmem, ⟨2, _⟩ => ⟨S7680x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x7680 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7680x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InXAReferenceIdeal.lean ====
abbrev S8192x1024 : Shape := ⟨2, ![8192, 1024]⟩
abbrev S1024 : Shape := ⟨1, ![1024]⟩
abbrev S1024x7680 : Shape := ⟨2, ![1024, 7680]⟩
abbrev S8192x7680 : Shape := ⟨2, ![8192, 7680]⟩
abbrev S2560x1024 : Shape := ⟨2, ![2560, 1024]⟩
abbrev S2560x7680 : Shape := ⟨2, ![2560, 7680]⟩
abbrev S_ : Shape := ⟨0, ![]⟩
abbrev S2560 : Shape := ⟨1, ![2560]⟩
abbrev S2560x1 : Shape := ⟨2, ![2560, 1]⟩
abbrev S1x1024 : Shape := ⟨2, ![1, 1024]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7680, .f32⟩
  | .hbm, ⟨3, _⟩ => ⟨S8192x7680, .bf16⟩
  | .hbm, ⟨4, _⟩ => ⟨S8192x1024, .f32⟩
  | .hbm, ⟨5, _⟩ => ⟨S2560x1024, .f32⟩
  | .hbm, ⟨6, _⟩ => ⟨S2560x7680, .bf16⟩
  | .hbm, ⟨7, _⟩ => ⟨S2560x1024, .f32⟩
  | .hbm, ⟨8, _⟩ => ⟨S2560x1024, .f32⟩
  | .hbm, ⟨9, _⟩ => ⟨S_, .f32⟩
  | .hbm, ⟨10, _⟩ => ⟨S2560, .f32⟩
  | .hbm, ⟨11, _⟩ => ⟨S2560x1, .f32⟩
  | .hbm, ⟨12, _⟩ => ⟨S_, .f32⟩
  | .hbm, ⟨13, _⟩ => ⟨S2560x1, .f32⟩
  | .hbm, ⟨14, _⟩ => ⟨S2560x1, .f32⟩
  | .hbm, ⟨15, _⟩ => ⟨S_, .f32⟩
  | .hbm, ⟨16, _⟩ => ⟨S2560x1, .f32⟩
  | .hbm, ⟨17, _⟩ => ⟨S2560x1, .f32⟩
  | .hbm, ⟨18, _⟩ => ⟨S2560x1, .f32⟩
  | .hbm, ⟨19, _⟩ => ⟨S2560x1, .f32⟩
  | .hbm, ⟨20, _⟩ => ⟨S_, .f32⟩
  | .hbm, ⟨21, _⟩ => ⟨S2560x1, .f32⟩
  | .hbm, ⟨22, _⟩ => ⟨S2560x1, .f32⟩
  | .hbm, ⟨23, _⟩ => ⟨S2560x1024, .f32⟩
  | .hbm, ⟨24, _⟩ => ⟨S2560x1024, .f32⟩
  | .hbm, ⟨25, _⟩ => ⟨S1x1024, .f32⟩
  | .hbm, ⟨26, _⟩ => ⟨S2560x1024, .f32⟩
  | .hbm, ⟨27, _⟩ => ⟨S2560x1024, .f32⟩
  | .hbm, ⟨28, _⟩ => ⟨S2560x7680, .f32⟩
  | .hbm, ⟨29, _⟩ => ⟨S2560x7680, .f32⟩
  | .hbm, ⟨30, _⟩ => ⟨S2560x1024, .f32⟩
  | .hbm, ⟨31, _⟩ => ⟨S2560x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S2560x1024, .f32⟩
  | .hbm, ⟨36, _⟩ => ⟨S2560x1024, .f32⟩
  | .hbm, ⟨37, _⟩ => ⟨S_, .f32⟩
  | .hbm, ⟨38, _⟩ => ⟨S1024, .f32⟩
  | .hbm, ⟨39, _⟩ => ⟨S2560x1024, .f32⟩
  | .hbm, ⟨40, _⟩ => ⟨S_, .f32⟩
  | .hbm, ⟨41, _⟩ => ⟨S2560, .f32⟩
  | .hbm, ⟨42, _⟩ => ⟨S2560x1, .f32⟩
  | .hbm, ⟨43, _⟩ => ⟨S2560x1024, .f32⟩
  | .hbm, ⟨44, _⟩ => ⟨S2560x1024, .f32⟩
  | .hbm, ⟨45, _⟩ => ⟨S2560x1024, .f32⟩
  | .hbm, ⟨46, _⟩ => ⟨S2560x1, .f32⟩
  | .hbm, ⟨47, _⟩ => ⟨S_, .f32⟩
  | .hbm, ⟨48, _⟩ => ⟨S2560x1, .f32⟩
  | .hbm, ⟨49, _⟩ => ⟨S2560x1, .f32⟩
  | .hbm, ⟨50, _⟩ => ⟨S_, .f32⟩
  | .hbm, ⟨51, _⟩ => ⟨S2560, .f32⟩
  | .hbm, ⟨52, _⟩ => ⟨S2560x1024, .f32⟩
  | .hbm, ⟨53, _⟩ => ⟨S2560x1024, .f32⟩
  | .hbm, ⟨54, _⟩ => ⟨S2560x1024, .f32⟩
  | .hbm, ⟨55, _⟩ => ⟨S2560x1024, .f32⟩
  | .hbm, ⟨56, _⟩ => ⟨S2560x1024, .f32⟩
  | .hbm, ⟨57, _⟩ => ⟨S1x1024, .f32⟩
  | .hbm, ⟨58, _⟩ => ⟨S_, .i32⟩
  | .hbm, ⟨59, _⟩ => ⟨S_, .f32⟩
  | .hbm, ⟨60, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c : Ref sig .tc := ⟨.hbm, 58, rfl⟩
abbrev main_call0_v0 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== InXB.lean ====
abbrev S8192x1024 : Shape := ⟨2, ![8192, 1024]⟩
abbrev S1024 : Shape := ⟨1, ![1024]⟩
abbrev S1024x7680 : Shape := ⟨2, ![1024, 7680]⟩
abbrev S8192x7680 : Shape := ⟨2, ![8192, 7680]⟩
abbrev S7680x1024 : Shape := ⟨2, ![7680, 1024]⟩
abbrev S1x1024 : Shape := ⟨2, ![1, 1024]⟩
abbrev S8x1024 : Shape := ⟨2, ![8, 1024]⟩
abbrev S512x7680 : Shape := ⟨2, ![512, 7680]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7680, .f32⟩
  | .hbm, ⟨3, _⟩ => ⟨S8192x7680, .bf16⟩
  | .hbm, ⟨4, _⟩ => ⟨S8192x1024, .f32⟩
  | .hbm, ⟨5, _⟩ => ⟨S8192x1024, .f32⟩
  | .hbm, ⟨6, _⟩ => ⟨S7680x1024, .f32⟩
  | .hbm, ⟨7, _⟩ => ⟨S7680x1024, .bf16⟩
  | .hbm, ⟨8, _⟩ => ⟨S1x1024, .f32⟩
  | .hbm, ⟨9, _⟩ => ⟨S8192x1024, .f32⟩
  | .hbm, ⟨10, _⟩ => ⟨S8x1024, .f32⟩
  | .local _ .vmem, ⟨0, _⟩ => ⟨S512x7680, .bf16⟩
  | .local _ .vmem, ⟨1, _⟩ => ⟨S512x7680, .bf16⟩
  | .local _ .vmem, ⟨2, _⟩ => ⟨S7680x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c5_i32 : BitVec 32 := 5#32
  let v0 : BitVec 32 := Scalar.addi arg0 c5_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c5_i32 : BitVec 32 := 5#32
  let v0 : BitVec 32 := Scalar.addi arg0 c5_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c5_i32 : BitVec 32 := 5#32
  let v0 : BitVec 32 := Scalar.addi arg0 c5_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c5_i32 : BitVec 32 := 5#32
  let v0 : BitVec 32 := Scalar.addi arg0 c5_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x7680 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7680x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InXBReferenceIdeal.lean ====
abbrev S8192x1024 : Shape := ⟨2, ![8192, 1024]⟩
abbrev S1024 : Shape := ⟨1, ![1024]⟩
abbrev S1024x7680 : Shape := ⟨2, ![1024, 7680]⟩
abbrev S8192x7680 : Shape := ⟨2, ![8192, 7680]⟩
abbrev S5632x1024 : Shape := ⟨2, ![5632, 1024]⟩
abbrev S5632x7680 : Shape := ⟨2, ![5632, 7680]⟩
abbrev S_ : Shape := ⟨0, ![]⟩
abbrev S5632 : Shape := ⟨1, ![5632]⟩
abbrev S5632x1 : Shape := ⟨2, ![5632, 1]⟩
abbrev S1x1024 : Shape := ⟨2, ![1, 1024]⟩
abbrev S8x1024 : Shape := ⟨2, ![8, 1024]⟩
abbrev S2560x1024 : Shape := ⟨2, ![2560, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7680, .f32⟩
  | .hbm, ⟨3, _⟩ => ⟨S8192x7680, .bf16⟩
  | .hbm, ⟨4, _⟩ => ⟨S8192x1024, .f32⟩
  | .hbm, ⟨5, _⟩ => ⟨S8192x1024, .f32⟩
  | .hbm, ⟨6, _⟩ => ⟨S5632x1024, .f32⟩
  | .hbm, ⟨7, _⟩ => ⟨S5632x7680, .bf16⟩
  | .hbm, ⟨8, _⟩ => ⟨S5632x1024, .f32⟩
  | .hbm, ⟨9, _⟩ => ⟨S5632x1024, .f32⟩
  | .hbm, ⟨10, _⟩ => ⟨S_, .f32⟩
  | .hbm, ⟨11, _⟩ => ⟨S5632, .f32⟩
  | .hbm, ⟨12, _⟩ => ⟨S5632x1, .f32⟩
  | .hbm, ⟨13, _⟩ => ⟨S_, .f32⟩
  | .hbm, ⟨14, _⟩ => ⟨S5632x1, .f32⟩
  | .hbm, ⟨15, _⟩ => ⟨S5632x1, .f32⟩
  | .hbm, ⟨16, _⟩ => ⟨S_, .f32⟩
  | .hbm, ⟨17, _⟩ => ⟨S5632x1, .f32⟩
  | .hbm, ⟨18, _⟩ => ⟨S5632x1, .f32⟩
  | .hbm, ⟨19, _⟩ => ⟨S5632x1, .f32⟩
  | .hbm, ⟨20, _⟩ => ⟨S5632x1, .f32⟩
  | .hbm, ⟨21, _⟩ => ⟨S_, .f32⟩
  | .hbm, ⟨22, _⟩ => ⟨S5632x1, .f32⟩
  | .hbm, ⟨23, _⟩ => ⟨S5632x1, .f32⟩
  | .hbm, ⟨24, _⟩ => ⟨S5632x1024, .f32⟩
  | .hbm, ⟨25, _⟩ => ⟨S5632x1024, .f32⟩
  | .hbm, ⟨26, _⟩ => ⟨S1x1024, .f32⟩
  | .hbm, ⟨27, _⟩ => ⟨S5632x1024, .f32⟩
  | .hbm, ⟨28, _⟩ => ⟨S5632x1024, .f32⟩
  | .hbm, ⟨29, _⟩ => ⟨S5632x7680, .f32⟩
  | .hbm, ⟨30, _⟩ => ⟨S5632x7680, .f32⟩
  | .hbm, ⟨31, _⟩ => ⟨S5632x1024, .f32⟩
  | .hbm, ⟨32, _⟩ => ⟨S5632x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S5632x1024, .f32⟩
  | .hbm, ⟨37, _⟩ => ⟨S5632x1024, .f32⟩
  | .hbm, ⟨38, _⟩ => ⟨S_, .f32⟩
  | .hbm, ⟨39, _⟩ => ⟨S1024, .f32⟩
  | .hbm, ⟨40, _⟩ => ⟨S5632x1024, .f32⟩
  | .hbm, ⟨41, _⟩ => ⟨S_, .f32⟩
  | .hbm, ⟨42, _⟩ => ⟨S5632, .f32⟩
  | .hbm, ⟨43, _⟩ => ⟨S5632x1, .f32⟩
  | .hbm, ⟨44, _⟩ => ⟨S5632x1024, .f32⟩
  | .hbm, ⟨45, _⟩ => ⟨S5632x1024, .f32⟩
  | .hbm, ⟨46, _⟩ => ⟨S5632x1024, .f32⟩
  | .hbm, ⟨47, _⟩ => ⟨S5632x1, .f32⟩
  | .hbm, ⟨48, _⟩ => ⟨S_, .f32⟩
  | .hbm, ⟨49, _⟩ => ⟨S5632x1, .f32⟩
  | .hbm, ⟨50, _⟩ => ⟨S5632x1, .f32⟩
  | .hbm, ⟨51, _⟩ => ⟨S_, .f32⟩
  | .hbm, ⟨52, _⟩ => ⟨S5632, .f32⟩
  | .hbm, ⟨53, _⟩ => ⟨S5632x1024, .f32⟩
  | .hbm, ⟨54, _⟩ => ⟨S5632x1024, .f32⟩
  | .hbm, ⟨55, _⟩ => ⟨S5632x1024, .f32⟩
  | .hbm, ⟨56, _⟩ => ⟨S5632x1024, .f32⟩
  | .hbm, ⟨57, _⟩ => ⟨S5632x1024, .f32⟩
  | .hbm, ⟨58, _⟩ => ⟨S1x1024, .f32⟩
  | .hbm, ⟨59, _⟩ => ⟨S_, .i32⟩
  | .hbm, ⟨60, _⟩ => ⟨S_, .f32⟩
  | .hbm, ⟨61, _⟩ => ⟨S8x1024, .f32⟩
  | .hbm, ⟨62, _⟩ => ⟨S2560x1024, .f32⟩
  | .hbm, ⟨63, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Proof.Blocks.lean ====
module

public import Idealize.ShloMosaic.Lib.ValueIdx

@[expose] public section

namespace Cert.Blocks

/-- A sum over `S` blocks of `K` terms each is the sum over the whole range. -/
theorem sum_range_blocks {β : Type*} [AddCommMonoid β] (K : ℕ) (f : ℕ → β) (S : ℕ) :
    ∑ s ∈ Finset.range S, ∑ k ∈ Finset.range K, f (s * K + k) = ∑ i ∈ Finset.range (S * K), f i := by
  induction S with
  | zero => simp
  | succ S ih => rw [Finset.sum_range_succ, ih, Nat.succ_mul, Finset.sum_range_add]

/-- The same sum over finite index types: block `s`, place `k` is term `s·K + k`. -/
theorem sum_blocks {β : Type*} [AddCommMonoid β] {S K N : ℕ} (hN : S * K = N) (f : Fin N → β) (g : ℕ → Fin K → β)
    (hg : ∀ (s : ℕ) (_ : s < S) (k : Fin K) (h : s * K + k.val < N), g s k = f ⟨s * K + k.val, h⟩) :
    ∑ s ∈ Finset.range S, ∑ k : Fin K, g s k = ∑ i : Fin N, f i := by
  subst hN
  let f' : ℕ → β := fun n => if h : n < S * K then f ⟨n, h⟩ else 0
  have hlt : ∀ s, s < S → ∀ k : Fin K, s * K + k.val < S * K := fun s hs k => by
    calc s * K + k.val < s * K + K := by have := k.isLt; omega
      _ = (s + 1) * K := by rw [Nat.succ_mul]
      _ ≤ S * K := Nat.mul_le_mul_right K hs
  have e1 : ∀ s ∈ Finset.range S, ∑ k : Fin K, g s k = ∑ k ∈ Finset.range K, f' (s * K + k) := fun s hs => by
    have hs' := Finset.mem_range.1 hs
    rw [← Fin.sum_univ_eq_sum_range (fun k => f' (s * K + k)) K]
    refine Finset.sum_congr rfl fun k _ => ?_
    rw [hg s hs' k (hlt s hs' k)]
    simp only [f', dif_pos (hlt s hs' k)]
  rw [Finset.sum_congr rfl e1, sum_range_blocks, ← Fin.sum_univ_eq_sum_range f' (S * K)]
  refine Finset.sum_congr rfl fun i _ => ?_
  simp only [f', dif_pos i.isLt]

/-- A running sum: a first value and one more addend at each later point. -/
theorem acc_eq {N : ℕ} {ι β : Type*} [AddCommMonoid β] (f : (n : ℕ) → n < N → ι → β) (M : ℕ → ι → β)
    (h0 : ∀ (h : 0 < N) (i : ι), f 0 h i = M 0 i)
    (hs : ∀ (n : ℕ) (h : n + 1 < N) (i : ι), f (n + 1) h i = f n (Nat.lt_of_succ_lt h) i + M (n + 1) i) :
    ∀ (n : ℕ) (h : n < N) (i : ι), f n h i = ∑ s ∈ Finset.range (n + 1), M s i
  | 0, h, i => by rw [Finset.sum_range_one, h0 h i]
  | n + 1, h, i => by rw [hs n h i, acc_eq f M h0 hs n _ i, Finset.sum_range_succ _ (n + 1)]

end Cert.Blocks

end
-- ==== Proof.ProjVal.lean ====
module

public import proofs.«01_k».proof.Proof.Blocks
public import proofs.«01_k».proof.Proof.Gen.ProjIdeal.Value
public import proofs.«01_k».proof.Proof.Gen.ProjReferenceIdeal.Run
public import proofs.«01_k».proof.Proof.Gen.ProjReferenceIdeal.Read
public import Idealize.ShloMosaic.Lib.Pointwise

@[expose] public section

noncomputable section

namespace Cert.ProjVal

open Cert.ProjIdeal Cert.ProjIdeal.Gen Idealize.ShloMosaic Idealize.ShloMosaic.TcCoe Idealize.SL.Sem

theorem hz : (![0, 0] : Fin 2 → Nat) = fun _ => 0 := funext fun a => by fin_cases a <;> rfl

/-- The columns of a block from `o` on. -/
abbrev cols {R C W : ℕ} {φ : FTy} (x : FVec Ideal ⟨2, ![R, C]⟩ φ) (o : ℕ) (h : o + W ≤ C) : FVec Ideal ⟨2, ![R, W]⟩ φ :=
  fun i => x (ix2 (i 0) ⟨o + (i 1).val, Nat.lt_of_lt_of_le (Nat.add_lt_add_left (i 1).isLt o) h⟩)

/-- Reading a rectangle of whole rows reads those columns. -/
theorem ld_cols {R C W : ℕ} (x : Vec Ideal ⟨2, ![R, C]⟩ .bf16) (o : ℕ) (h : o + W ≤ C)
    (inb : ∀ a, (![0, o] : Fin 2 → ℕ) a + (![R, W] : Fin 2 → ℕ) a ≤ (⟨2, ![R, C]⟩ : Shape).size a) :
    @Eq (Vec Ideal ⟨2, ![R, W]⟩ .bf16) (View.ld (Val := Elt Ideal) (e' := .bf16) x (Rect.unit (s := ⟨2, ![R, C]⟩) ![0, o] ![R, W] inb))
      (cols (φ := .bf16) x o h) := by
  funext i
  show x _ = x _
  congr 1
  funext a; apply Fin.ext
  match a with
  | ⟨0, _⟩ => show 0 + 1 * (i 0).val = (i 0).val; omega
  | ⟨1, _⟩ => show o + 1 * (i 1).val = o + (i 1).val; omega

/-- At the first point, output 0's buffer holds the point's product over zero. -/
theorem out_A_4 (c : Dev nD) (i : grid0.Coords) (arg1 : Memref sig .tc .vmem S1024x1536 .bf16) (harg1 : arg1.IsWhole) (arg2 : Memref sig .tc .vmem S1024x1024 .bf16) (harg2 : arg2.IsWhole) (arg3 : Memref sig .tc .vmem S1024x3072 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1024x1024 .f32) (harg8 : arg8.IsWhole) (hc0 : cond0_0 i)
    (x0 : Vec Ideal S1024x1536 .bf16) (x1 : Vec Ideal S1024x1024 .bf16) (x2 : Vec Ideal S1024x3072 .bf16) (x3 : Vec Ideal S1024x1024 .f32) :
    out0_A_4 c i arg1 harg1 arg2 harg2 arg3 harg3 arg4 harg4 arg5 harg5 arg6 harg6 arg7 harg7 arg8 harg8 hc0 x0 x1 x2 x3 = k0_pay7 (F := Ideal) (k0_pay2 (F := Ideal)) (cols (φ := .bf16) (W := 512) x0 0 (by decide)) (cols (φ := .bf16) (W := 1024) x2 0 (by decide)) := by
  unfold out0_A_4
  rw [View.read_writes_eq_canon _ _ _ (cover0_A_4 c i arg1 harg1 arg2 harg2 arg3 harg3 arg4 harg4 arg5 harg5 arg6 harg6 arg7 harg7 arg8 harg8 hc0 x0 x1 x2 x3)]
  unfold kernelRun0_A
  dsimp only
  try sl_unfold_words
  rw [View.canon_cons_unit_zero (S := S512x1024) hz, View.readCov_unit_zero (S := S512x1024) _ hz]
  simp only [View.readAt_eq_ld, harg1.read_unread, harg2.read_unread, harg3.read_unread, harg4.read_unread, harg5.read_unread, harg6.read_unread, harg7.read_unread, harg8.read_unread, View.ld_unit_zero (S := S512x1024) hz, View.ld_unit_zero (S := S1024x1024) hz, shapeCast_self]
  exact congrArg₂ (k0_pay7 (F := Ideal) (k0_pay2 (F := Ideal))) (ld_cols (W := 512) x0 0 (by decide) _) (ld_cols (W := 1024) x2 0 (by decide) _)

/-- At a later point, output 0's buffer holds the point's product added to what was there. -/
theorem out_B_4 (c : Dev nD) (i : grid0.Coords) (arg1 : Memref sig .tc .vmem S1024x1536 .bf16) (harg1 : arg1.IsWhole) (arg2 : Memref sig .tc .vmem S1024x1024 .bf16) (harg2 : arg2.IsWhole) (arg3 : Memref sig .tc .vmem S1024x3072 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1024x1024 .f32) (harg8 : arg8.IsWhole) (hc0 : ¬cond0_0 i)
    (x0 : Vec Ideal S1024x1536 .bf16) (x1 : Vec Ideal S1024x1024 .bf16) (x2 : Vec Ideal S1024x3072 .bf16) (x3 : Vec Ideal S1024x1024 .f32) (xo4 : Vec Ideal S512x1024 .f32) (xo5 : Vec Ideal S512x1024 .f32) (xo6 : Vec Ideal S512x1024 .f32) (xo7 : Vec Ideal S1024x1024 .f32) :
    out0_B_4 c i arg1 harg1 arg2 harg2 arg3 harg3 arg4 harg4 arg5 harg5 arg6 harg6 arg7 harg7 arg8 harg8 hc0 x0 x1 x2 x3 xo4 xo5 xo6 xo7 = k0_pay7 (F := Ideal) xo4 (cols (φ := .bf16) (W := 512) x0 0 (by decide)) (cols (φ := .bf16) (W := 1024) x2 0 (by decide)) := by
  unfold out0_B_4
  rw [View.read_writes_eq_canon _ _ _ (cover0_B_4 c i arg1 harg1 arg2 harg2 arg3 harg3 arg4 harg4 arg5 harg5 arg6 harg6 arg7 harg7 arg8 harg8 hc0 x0 x1 x2 x3 xo4 xo5 xo6 xo7)]
  unfold kernelRun0_B
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S512x1024) hz, View.ld_unit_zero (S := S1024x1024) hz, shapeCast_self]
  exact congrArg₂ (k0_pay7 (F := Ideal) xo4) (ld_cols (W := 512) x0 0 (by decide) _) (ld_cols (W := 1024) x2 0 (by decide) _)

/-- At the first point, output 1's buffer holds the point's product over zero. -/
theorem out_A_5 (c : Dev nD) (i : grid0.Coords) (arg1 : Memref sig .tc .vmem S1024x1536 .bf16) (harg1 : arg1.IsWhole) (arg2 : Memref sig .tc .vmem S1024x1024 .bf16) (harg2 : arg2.IsWhole) (arg3 : Memref sig .tc .vmem S1024x3072 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1024x1024 .f32) (harg8 : arg8.IsWhole) (hc0 : cond0_0 i)
    (x0 : Vec Ideal S1024x1536 .bf16) (x1 : Vec Ideal S1024x1024 .bf16) (x2 : Vec Ideal S1024x3072 .bf16) (x3 : Vec Ideal S1024x1024 .f32) :
    out0_A_5 c i arg1 harg1 arg2 harg2 arg3 harg3 arg4 harg4 arg5 harg5 arg6 harg6 arg7 harg7 arg8 harg8 hc0 x0 x1 x2 x3 = k0_pay8 (F := Ideal) (k0_pay3 (F := Ideal)) (cols (φ := .bf16) (W := 512) x0 512 (by decide)) (cols (φ := .bf16) (W := 1024) x2 1024 (by decide)) := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3)]
  unfold kernelRun0_A
  dsimp only
  try sl_unfold_words
  rw [View.canon_cons_unit_zero (S := S512x1024) hz, View.readCov_unit_zero (S := S512x1024) _ hz]
  simp only [View.readAt_eq_ld, harg1.read_unread, harg2.read_unread, harg3.read_unread, harg4.read_unread, harg5.read_unread, harg6.read_unread, harg7.read_unread, harg8.read_unread, View.ld_unit_zero (S := S512x1024) hz, View.ld_unit_zero (S := S1024x1024) hz, shapeCast_self]
  exact congrArg₂ (k0_pay8 (F := Ideal) (k0_pay3 (F := Ideal))) (ld_cols (W := 512) x0 512 (by decide) _) (ld_cols (W := 1024) x2 1024 (by decide) _)

/-- At a later point, output 1's buffer holds the point's product added to what was there. -/
theorem out_B_5 (c : Dev nD) (i : grid0.Coords) (arg1 : Memref sig .tc .vmem S1024x1536 .bf16) (harg1 : arg1.IsWhole) (arg2 : Memref sig .tc .vmem S1024x1024 .bf16) (harg2 : arg2.IsWhole) (arg3 : Memref sig .tc .vmem S1024x3072 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1024x1024 .f32) (harg8 : arg8.IsWhole) (hc0 : ¬cond0_0 i)
    (x0 : Vec Ideal S1024x1536 .bf16) (x1 : Vec Ideal S1024x1024 .bf16) (x2 : Vec Ideal S1024x3072 .bf16) (x3 : Vec Ideal S1024x1024 .f32) (xo4 : Vec Ideal S512x1024 .f32) (xo5 : Vec Ideal S512x1024 .f32) (xo6 : Vec Ideal S512x1024 .f32) (xo7 : Vec Ideal S1024x1024 .f32) :
    out0_B_5 c i arg1 harg1 arg2 harg2 arg3 harg3 arg4 harg4 arg5 harg5 arg6 harg6 arg7 harg7 arg8 harg8 hc0 x0 x1 x2 x3 xo4 xo5 xo6 xo7 = k0_pay8 (F := Ideal) xo5 (cols (φ := .bf16) (W := 512) x0 512 (by decide)) (cols (φ := .bf16) (W := 1024) x2 1024 (by decide)) := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 xo4 xo5 xo6 xo7)]
  unfold kernelRun0_B
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S512x1024) hz, View.ld_unit_zero (S := S1024x1024) hz, shapeCast_self]
  exact congrArg₂ (k0_pay8 (F := Ideal) xo5) (ld_cols (W := 512) x0 512 (by decide) _) (ld_cols (W := 1024) x2 1024 (by decide) _)

/-- At the first point, output 2's buffer holds the point's product over zero. -/
theorem out_A_6 (c : Dev nD) (i : grid0.Coords) (arg1 : Memref sig .tc .vmem S1024x1536 .bf16) (harg1 : arg1.IsWhole) (arg2 : Memref sig .tc .vmem S1024x1024 .bf16) (harg2 : arg2.IsWhole) (arg3 : Memref sig .tc .vmem S1024x3072 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1024x1024 .f32) (harg8 : arg8.IsWhole) (hc0 : cond0_0 i)
    (x0 : Vec Ideal S1024x1536 .bf16) (x1 : Vec Ideal S1024x1024 .bf16) (x2 : Vec Ideal S1024x3072 .bf16) (x3 : Vec Ideal S1024x1024 .f32) :
    out0_A_6 c i arg1 harg1 arg2 harg2 arg3 harg3 arg4 harg4 arg5 harg5 arg6 harg6 arg7 harg7 arg8 harg8 hc0 x0 x1 x2 x3 = k0_pay1 (F := Ideal) (k0_pay4 (F := Ideal)) (cols (φ := .bf16) (W := 512) x0 1024 (by decide)) (cols (φ := .bf16) (W := 1024) x2 2048 (by decide)) := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3)]
  unfold kernelRun0_A
  dsimp only
  try sl_unfold_words
  rw [View.canon_cons_unit_zero (S := S512x1024) hz, View.readCov_unit_zero (S := S512x1024) _ hz]
  simp only [View.readAt_eq_ld, harg1.read_unread, harg2.read_unread, harg3.read_unread, harg4.read_unread, harg5.read_unread, harg6.read_unread, harg7.read_unread, harg8.read_unread, View.ld_unit_zero (S := S512x1024) hz, View.ld_unit_zero (S := S1024x1024) hz, shapeCast_self]
  exact congrArg₂ (k0_pay1 (F := Ideal) (k0_pay4 (F := Ideal))) (ld_cols (W := 512) x0 1024 (by decide) _) (ld_cols (W := 1024) x2 2048 (by decide) _)

/-- At a later point, output 2's buffer holds the point's product added to what was there. -/
theorem out_B_6 (c : Dev nD) (i : grid0.Coords) (arg1 : Memref sig .tc .vmem S1024x1536 .bf16) (harg1 : arg1.IsWhole) (arg2 : Memref sig .tc .vmem S1024x1024 .bf16) (harg2 : arg2.IsWhole) (arg3 : Memref sig .tc .vmem S1024x3072 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1024x1024 .f32) (harg8 : arg8.IsWhole) (hc0 : ¬cond0_0 i)
    (x0 : Vec Ideal S1024x1536 .bf16) (x1 : Vec Ideal S1024x1024 .bf16) (x2 : Vec Ideal S1024x3072 .bf16) (x3 : Vec Ideal S1024x1024 .f32) (xo4 : Vec Ideal S512x1024 .f32) (xo5 : Vec Ideal S512x1024 .f32) (xo6 : Vec Ideal S512x1024 .f32) (xo7 : Vec Ideal S1024x1024 .f32) :
    out0_B_6 c i arg1 harg1 arg2 harg2 arg3 harg3 arg4 harg4 arg5 harg5 arg6 harg6 arg7 harg7 arg8 harg8 hc0 x0 x1 x2 x3 xo4 xo5 xo6 xo7 = k0_pay1 (F := Ideal) xo6 (cols (φ := .bf16) (W := 512) x0 1024 (by decide)) (cols (φ := .bf16) (W := 1024) x2 2048 (by decide)) := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 xo4 xo5 xo6 xo7)]
  unfold kernelRun0_B
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S512x1024) hz, View.ld_unit_zero (S := S1024x1024) hz, shapeCast_self]
  exact congrArg₂ (k0_pay1 (F := Ideal) xo6) (ld_cols (W := 512) x0 1024 (by decide) _) (ld_cols (W := 1024) x2 2048 (by decide) _)

/-- At the first point, output 3's buffer holds the point's product over zero. -/
theorem out_A_7 (c : Dev nD) (i : grid0.Coords) (arg1 : Memref sig .tc .vmem S1024x1536 .bf16) (harg1 : arg1.IsWhole) (arg2 : Memref sig .tc .vmem S1024x1024 .bf16) (harg2 : arg2.IsWhole) (arg3 : Memref sig .tc .vmem S1024x3072 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1024x1024 .f32) (harg8 : arg8.IsWhole) (hc0 : cond0_0 i)
    (x0 : Vec Ideal S1024x1536 .bf16) (x1 : Vec Ideal S1024x1024 .bf16) (x2 : Vec Ideal S1024x3072 .bf16) (x3 : Vec Ideal S1024x1024 .f32) :
    out0_A_7 c i arg1 harg1 arg2 harg2 arg3 harg3 arg4 harg4 arg5 harg5 arg6 harg6 arg7 harg7 arg8 harg8 hc0 x0 x1 x2 x3 = k0_pay6 (F := Ideal) (k0_pay5 (F := Ideal)) x1 x3 := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3)]
  unfold kernelRun0_A
  dsimp only
  try sl_unfold_words
  rw [View.canon_cons_unit_zero (S := S1024x1024) hz, View.readCov_unit_zero (S := S1024x1024) _ hz]
  simp only [View.readAt_eq_ld, harg1.read_unread, harg2.read_unread, harg3.read_unread, harg4.read_unread, harg5.read_unread, harg6.read_unread, harg7.read_unread, harg8.read_unread, View.ld_unit_zero (S := S512x1024) hz, View.ld_unit_zero (S := S1024x1024) hz, shapeCast_self]

/-- At a later point, output 3's buffer holds the point's product added to what was there. -/
theorem out_B_7 (c : Dev nD) (i : grid0.Coords) (arg1 : Memref sig .tc .vmem S1024x1536 .bf16) (harg1 : arg1.IsWhole) (arg2 : Memref sig .tc .vmem S1024x1024 .bf16) (harg2 : arg2.IsWhole) (arg3 : Memref sig .tc .vmem S1024x3072 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1024x1024 .f32) (harg8 : arg8.IsWhole) (hc0 : ¬cond0_0 i)
    (x0 : Vec Ideal S1024x1536 .bf16) (x1 : Vec Ideal S1024x1024 .bf16) (x2 : Vec Ideal S1024x3072 .bf16) (x3 : Vec Ideal S1024x1024 .f32) (xo4 : Vec Ideal S512x1024 .f32) (xo5 : Vec Ideal S512x1024 .f32) (xo6 : Vec Ideal S512x1024 .f32) (xo7 : Vec Ideal S1024x1024 .f32) :
    out0_B_7 c i arg1 harg1 arg2 harg2 arg3 harg3 arg4 harg4 arg5 harg5 arg6 harg6 arg7 harg7 arg8 harg8 hc0 x0 x1 x2 x3 xo4 xo5 xo6 xo7 = k0_pay6 (F := Ideal) xo7 x1 x3 := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 xo4 xo5 xo6 xo7)]
  unfold kernelRun0_B
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S512x1024) hz, View.ld_unit_zero (S := S1024x1024) hz, shapeCast_self]

variable (m : (ℓ : Loc nD τ sig) → Buf (Elt Ideal) ℓ)

/-- The activations of the three branches, side by side. -/
abbrev actsA (c : Dev nD) : FVec Ideal S8192x1536 .bf16 := m ((c : Thread nD τ).loc main_arg0)
/-- The mixed activations the output projection read. -/
abbrev mergedA (c : Dev nD) : FVec Ideal S8192x1024 .bf16 := m ((c : Thread nD τ).loc main_arg1)
/-- The cotangents of the three branches, side by side. -/
abbrev dysA (c : Dev nD) : FVec Ideal S8192x3072 .bf16 := m ((c : Thread nD τ).loc main_arg2)
/-- The cotangent of the output. -/
abbrev ctA (c : Dev nD) : FVec Ideal S8192x1024 .f32 := m ((c : Thread nD τ).loc main_arg3)
/-- The block of the activations a point reads. -/
abbrev actsB (c : Dev nD) (t : Fin cfg0.N) : FVec Ideal S1024x1536 .bf16 := iblk m c 0 t
/-- The block of the mixed activations a point reads. -/
abbrev mergedB (c : Dev nD) (t : Fin cfg0.N) : FVec Ideal S1024x1024 .bf16 := iblk m c 1 t
/-- The block of the branches' cotangents a point reads. -/
abbrev dysB (c : Dev nD) (t : Fin cfg0.N) : FVec Ideal S1024x3072 .bf16 := iblk m c 2 t
/-- The block of the output's cotangent a point reads. -/
abbrev ctB (c : Dev nD) (t : Fin cfg0.N) : FVec Ideal S1024x1024 .f32 := iblk m c 3 t

/-- Point `t` reads row block `t` of each argument. -/
theorem idx_in : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- The one block of each output is the whole array. -/
theorem idx_out : ∀ t : Fin cfg0.N, (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

theorem actsB_apply (c : Dev nD) (t : Fin cfg0.N) (k : Fin 1024) (l : Fin 1536) (r : Fin 8192) (h : r.val = t.val * 1024 + k.val) :
    actsB m c t (ix2 k l) = actsA m c (ix2 r l) := by
  obtain ⟨⟨e0, e1⟩, -, -, -⟩ := idx_in t
  have hb0 : (((cfg0.win 0).blk t).view.emb (ix2 k l) 0).val = win0_0.index t (0 : Fin 2) * 1024 + 1 * k.val := rfl
  have hb1 : (((cfg0.win 0).blk t).view.emb (ix2 k l) 1).val = win0_0.index t (1 : Fin 2) * 1536 + 1 * l.val := rfl
  show actsA m c (((cfg0.win 0).blk t).view.emb (ix2 k l)) = _
  congr 1
  funext a; apply Fin.ext
  match a with
  | ⟨0, _⟩ => show (((cfg0.win 0).blk t).view.emb (ix2 k l) 0).val = r.val; rw [hb0, h, e0]; omega
  | ⟨1, _⟩ => show (((cfg0.win 0).blk t).view.emb (ix2 k l) 1).val = l.val; rw [hb1, e1]; omega

theorem mergedB_apply (c : Dev nD) (t : Fin cfg0.N) (k : Fin 1024) (l : Fin 1024) (r : Fin 8192) (h : r.val = t.val * 1024 + k.val) :
    mergedB m c t (ix2 k l) = mergedA m c (ix2 r l) := by
  obtain ⟨-, ⟨e0, e1⟩, -, -⟩ := idx_in t
  have hb0 : (((cfg0.win 1).blk t).view.emb (ix2 k l) 0).val = win0_1.index t (0 : Fin 2) * 1024 + 1 * k.val := rfl
  have hb1 : (((cfg0.win 1).blk t).view.emb (ix2 k l) 1).val = win0_1.index t (1 : Fin 2) * 1024 + 1 * l.val := rfl
  show mergedA m c (((cfg0.win 1).blk t).view.emb (ix2 k l)) = _
  congr 1
  funext a; apply Fin.ext
  match a with
  | ⟨0, _⟩ => show (((cfg0.win 1).blk t).view.emb (ix2 k l) 0).val = r.val; rw [hb0, h, e0]; omega
  | ⟨1, _⟩ => show (((cfg0.win 1).blk t).view.emb (ix2 k l) 1).val = l.val; rw [hb1, e1]; omega

theorem dysB_apply (c : Dev nD) (t : Fin cfg0.N) (k : Fin 1024) (l : Fin 3072) (r : Fin 8192) (h : r.val = t.val * 1024 + k.val) :
    dysB m c t (ix2 k l) = dysA m c (ix2 r l) := by
  obtain ⟨-, -, ⟨e0, e1⟩, -⟩ := idx_in t
  have hb0 : (((cfg0.win 2).blk t).view.emb (ix2 k l) 0).val = win0_2.index t (0 : Fin 2) * 1024 + 1 * k.val := rfl
  have hb1 : (((cfg0.win 2).blk t).view.emb (ix2 k l) 1).val = win0_2.index t (1 : Fin 2) * 3072 + 1 * l.val := rfl
  show dysA m c (((cfg0.win 2).blk t).view.emb (ix2 k l)) = _
  congr 1
  funext a; apply Fin.ext
  match a with
  | ⟨0, _⟩ => show (((cfg0.win 2).blk t).view.emb (ix2 k l) 0).val = r.val; rw [hb0, h, e0]; omega
  | ⟨1, _⟩ => show (((cfg0.win 2).blk t).view.emb (ix2 k l) 1).val = l.val; rw [hb1, e1]; omega

theorem ctB_apply (c : Dev nD) (t : Fin cfg0.N) (k : Fin 1024) (l : Fin 1024) (r : Fin 8192) (h : r.val = t.val * 1024 + k.val) :
    ctB m c t (ix2 k l) = ctA m c (ix2 r l) := by
  obtain ⟨-, -, -, ⟨e0, e1⟩⟩ := idx_in t
  have hb0 : (((cfg0.win 3).blk t).view.emb (ix2 k l) 0).val = win0_3.index t (0 : Fin 2) * 1024 + 1 * k.val := rfl
  have hb1 : (((cfg0.win 3).blk t).view.emb (ix2 k l) 1).val = win0_3.index t (1 : Fin 2) * 1024 + 1 * l.val := rfl
  show ctA m c (((cfg0.win 3).blk t).view.emb (ix2 k l)) = _
  congr 1
  funext a; apply Fin.ext
  match a with
  | ⟨0, _⟩ => show (((cfg0.win 3).blk t).view.emb (ix2 k l) 0).val = r.val; rw [hb0, h, e0]; omega
  | ⟨1, _⟩ => show (((cfg0.win 3).blk t).view.emb (ix2 k l) 1).val = l.val; rw [hb1, e1]; omega

theorem k0_pay7_apply (acc : FVec Ideal S512x1024 .f32) (a : FVec Ideal S1024x512 .bf16) (b : FVec Ideal S1024x1024 .bf16)
    (i : S512x1024.Idx) : k0_pay7 acc a b i = acc i + ∑ k : Fin 1024, a (ix2 k (i 0)) * b (ix2 k (i 1)) := by
  obtain ⟨r, l, rfl⟩ : ∃ r l, i = ix2 r l := ⟨i 0, i 1, eq_ix2 i⟩
  pointwise [k0_pay7]
theorem k0_pay2_apply (i : S512x1024.Idx) : k0_pay2 (F := Ideal) i = 0 := by
  obtain ⟨r, l, rfl⟩ : ∃ r l, i = ix2 r l := ⟨i 0, i 1, eq_ix2 i⟩
  pointwise [k0_pay2]

theorem k0_pay8_apply (acc : FVec Ideal S512x1024 .f32) (a : FVec Ideal S1024x512 .bf16) (b : FVec Ideal S1024x1024 .bf16)
    (i : S512x1024.Idx) : k0_pay8 acc a b i = acc i + ∑ k : Fin 1024, a (ix2 k (i 0)) * b (ix2 k (i 1)) := by
  obtain ⟨r, l, rfl⟩ : ∃ r l, i = ix2 r l := ⟨i 0, i 1, eq_ix2 i⟩
  pointwise [k0_pay8]
theorem k0_pay3_apply (i : S512x1024.Idx) : k0_pay3 (F := Ideal) i = 0 := by
  obtain ⟨r, l, rfl⟩ : ∃ r l, i = ix2 r l := ⟨i 0, i 1, eq_ix2 i⟩
  pointwise [k0_pay3]

theorem k0_pay1_apply (acc : FVec Ideal S512x1024 .f32) (a : FVec Ideal S1024x512 .bf16) (b : FVec Ideal S1024x1024 .bf16)
    (i : S512x1024.Idx) : k0_pay1 acc a b i = acc i + ∑ k : Fin 1024, a (ix2 k (i 0)) * b (ix2 k (i 1)) := by
  obtain ⟨r, l, rfl⟩ : ∃ r l, i = ix2 r l := ⟨i 0, i 1, eq_ix2 i⟩
  pointwise [k0_pay1]
theorem k0_pay4_apply (i : S512x1024.Idx) : k0_pay4 (F := Ideal) i = 0 := by
  obtain ⟨r, l, rfl⟩ : ∃ r l, i = ix2 r l := ⟨i 0, i 1, eq_ix2 i⟩
  pointwise [k0_pay4]

theorem k0_pay6_apply (acc : FVec Ideal S1024x1024 .f32) (a : FVec Ideal S1024x1024 .bf16) (b : FVec Ideal S1024x1024 .f32)
    (i : S1024x1024.Idx) : k0_pay6 acc a b i = acc i + ∑ k : Fin 1024, a (ix2 k (i 0)) * b (ix2 k (i 1)) := by
  obtain ⟨r, l, rfl⟩ : ∃ r l, i = ix2 r l := ⟨i 0, i 1, eq_ix2 i⟩
  pointwise [k0_pay6]
theorem k0_pay5_apply (i : S1024x1024.Idx) : k0_pay5 (F := Ideal) i = 0 := by
  obtain ⟨r, l, rfl⟩ : ∃ r l, i = ix2 r l := ⟨i 0, i 1, eq_ix2 i⟩
  pointwise [k0_pay5]

/-- The last point. -/
def t7 : Fin cfg0.N := ⟨7, lt_of_lt_of_eq (by decide : 7 < 8) N_0.symm⟩
theorem t7_mod : t7.val % 8 = 7 := by show 7 % 8 = 7; rfl

/-- A column of a part of three side by side. -/
abbrev col3 (W C o : ℕ) (h : o + W ≤ C) (l : Fin W) : Fin C := ⟨o + l.val, Nat.lt_of_lt_of_le (Nat.add_lt_add_left l.isLt o) h⟩

/-! ## Output 0 -/

/-- The point's product for output 0. -/
def M4 (c : Dev nD) (n : ℕ) (i : S512x1024.Idx) : EReal :=
  if h : n < cfg0.N then ∑ k : Fin 1024, actsB m c ⟨n, h⟩ (ix2 k (col3 512 1536 0 (by decide) (i 0))) * dysB m c ⟨n, h⟩ (ix2 k (col3 1024 3072 0 (by decide) (i 1))) else 0

/-- What output 0's buffer holds after a point, at an index. -/
abbrev f4 (c : Dev nD) (n : ℕ) (h : n < cfg0.N) (i : S512x1024.Idx) : EReal := (outsAt0 m c n h).1 i

theorem f4_zero (c : Dev nD) (h : 0 < cfg0.N) (i : S512x1024.Idx) : f4 m c 0 h i = M4 m c 0 i := by
  unfold f4 M4
  rw [outsAt0_A m c ⟨0, h⟩ (Nat.zero_mod 8), dif_pos h]
  dsimp only
  rw [out_A_4, k0_pay7_apply, k0_pay2_apply, zero_add]
  rfl

theorem f4_succ (c : Dev nD) (n : ℕ) (h : n + 1 < cfg0.N) (i : S512x1024.Idx) :
    f4 m c (n + 1) h i = f4 m c n (Nat.lt_of_succ_lt h) i + M4 m c (n + 1) i := by
  have hN : n + 1 < 8 := lt_of_lt_of_eq h N_0
  unfold f4 M4
  rw [outsAt0_B m c ⟨n + 1, h⟩ (by dsimp only; omega), dif_pos h]
  dsimp only
  rw [out_B_4, k0_pay7_apply]
  rfl

/-- The product over all 8192 rows. -/
def P4 (c : Dev nD) (i : S512x1024.Idx) : EReal :=
  ∑ k : Fin 8192, actsA m c (ix2 k (col3 512 1536 0 (by decide) (i 0))) * dysA m c (ix2 k (col3 1024 3072 0 (by decide) (i 1)))

/-- After the last point output 0's buffer holds the product over all rows. -/
theorem f4_last (c : Dev nD) (h : 7 < cfg0.N) (i : S512x1024.Idx) : f4 m c 7 h i = P4 m c i := by
  rw [Blocks.acc_eq (f4 m c) (M4 m c) (f4_zero m c) (f4_succ m c) 7 h i]
  have e : ∀ s ∈ Finset.range (7 + 1), M4 m c s i = ∑ k : Fin 1024, (if h : s * 1024 + k.val < 8192 then
      actsA m c (ix2 ⟨s * 1024 + k.val, h⟩ (col3 512 1536 0 (by decide) (i 0))) * dysA m c (ix2 ⟨s * 1024 + k.val, h⟩ (col3 1024 3072 0 (by decide) (i 1))) else (0 : EReal)) := fun s hs => by
    have hs' : s < 8 := Finset.mem_range.1 hs
    unfold M4
    rw [dif_pos (lt_of_lt_of_eq hs' N_0.symm)]
    refine Finset.sum_congr rfl fun k _ => ?_
    have hk := k.isLt
    have hlt : s * 1024 + k.val < 8192 := by omega
    rw [dif_pos hlt]
    exact congrArg₂ (· * ·) (actsB_apply m c ⟨s, lt_of_lt_of_eq hs' N_0.symm⟩ k _ ⟨s * 1024 + k.val, hlt⟩ (Eq.refl (s * 1024 + k.val)))
      (dysB_apply m c ⟨s, lt_of_lt_of_eq hs' N_0.symm⟩ k _ ⟨s * 1024 + k.val, hlt⟩ (Eq.refl (s * 1024 + k.val)))
  refine (Finset.sum_congr rfl e).trans ?_
  exact Blocks.sum_blocks (S := 8) (K := 1024) (N := 8192) rfl _ _ (fun s _ k h => dif_pos h)

/-- The block of output 0 is the whole array. -/
theorem emb4 (t : Fin cfg0.N) (y : S512x1024.Idx) : ((cfg0.win 4).blk t).view.emb y = y := by
  obtain ⟨⟨e0, e1⟩, -, -, -⟩ := idx_out t
  have hb0 : (((cfg0.win 4).blk t).view.emb y 0).val = win0_4.index t (0 : Fin 2) * 512 + 1 * (y 0).val := rfl
  have hb1 : (((cfg0.win 4).blk t).view.emb y 1).val = win0_4.index t (1 : Fin 2) * 1024 + 1 * (y 1).val := rfl
  funext a; apply Fin.ext
  match a with
  | ⟨0, _⟩ => show (((cfg0.win 4).blk t).view.emb y 0).val = (y 0).val; rw [hb0, e0]; omega
  | ⟨1, _⟩ => show (((cfg0.win 4).blk t).view.emb y 1).val = (y 1).val; rw [hb1, e1]; omega

theorem f4_at (c : Dev nD) (t : Fin cfg0.N) (ht : t.val = 7) (i : S512x1024.Idx) : (outsAt0 m c t.val t.isLt).1 i = P4 m c i := by
  rw [← f4_last m c t7.isLt i]
  have : t = t7 := Fin.ext ht
  subst this
  rfl

/-- Reading output 0's whole buffer back changes no index. -/
theorem xinj4 (t : Fin cfg0.N) (y : S512x1024.Idx) : (cfg0.win 4).xinj (grid0.coords t) y = y := by
  funext a; apply Fin.ext
  match a with
  | ⟨0, _⟩ => rfl
  | ⟨1, _⟩ => rfl

/-- What a point writes back to output 0, whatever function its buffer holds. -/
theorem written4 (c : Dev nD) (t : Fin cfg0.N) (G : Buf (Elt Ideal) ((c : Thread nD τ).loc main_v0_0))
    (hG : (outsAt0 m c t.val t.isLt).1 = G) :
    (dats m 0 c).flushed 4 t = ((cfg0.win 4).blk t).view.read (Elt Ideal) G := by
  rw [Value.flushed4, hG]
  funext y
  show G ((cfg0.win 4).xinj (grid0.coords t) y) = G (((cfg0.win 4).blk t).view.emb y)
  rw [emb4 t y, xinj4 t y]

/-- Output 0 after the run. -/
theorem final4 (c : Dev nD) : (dats m 0 c).arrAt 4 cfg0.N = P4 m c :=
  (dats m 0 c).arrAt_eq_of_cover 4 (P4 m c) (fun t hf => written4 m c t (P4 m c) (funext (f4_at m c t (by
      have h1 := (flush0_4 t).mp hf; have h2 := lt_of_lt_of_eq t.isLt N_0; omega))))
    (fun i => ⟨t7, (flush0_4 t7).mpr t7_mod, by
      have h := (((cfg0.win 4).blk t7).view).emb_mem_set i
      rwa [emb4 t7 i] at h⟩)
/-! ## Output 1 -/

/-- The point's product for output 1. -/
def M5 (c : Dev nD) (n : ℕ) (i : S512x1024.Idx) : EReal :=
  if h : n < cfg0.N then ∑ k : Fin 1024, actsB m c ⟨n, h⟩ (ix2 k (col3 512 1536 512 (by decide) (i 0))) * dysB m c ⟨n, h⟩ (ix2 k (col3 1024 3072 1024 (by decide) (i 1))) else 0

/-- What output 1's buffer holds after a point, at an index. -/
abbrev f5 (c : Dev nD) (n : ℕ) (h : n < cfg0.N) (i : S512x1024.Idx) : EReal := (outsAt0 m c n h).2.1 i

theorem f5_zero (c : Dev nD) (h : 0 < cfg0.N) (i : S512x1024.Idx) : f5 m c 0 h i = M5 m c 0 i := by
  unfold f5 M5
  rw [outsAt0_A m c ⟨0, h⟩ (Nat.zero_mod 8), dif_pos h]
  dsimp only
  rw [out_A_5, k0_pay8_apply, k0_pay3_apply, zero_add]
  rfl

theorem f5_succ (c : Dev nD) (n : ℕ) (h : n + 1 < cfg0.N) (i : S512x1024.Idx) :
    f5 m c (n + 1) h i = f5 m c n (Nat.lt_of_succ_lt h) i + M5 m c (n + 1) i := by
  have hN : n + 1 < 8 := lt_of_lt_of_eq h N_0
  unfold f5 M5
  rw [outsAt0_B m c ⟨n + 1, h⟩ (by dsimp only; omega), dif_pos h]
  dsimp only
  rw [out_B_5, k0_pay8_apply]
  rfl

/-- The product over all 8192 rows. -/
def P5 (c : Dev nD) (i : S512x1024.Idx) : EReal :=
  ∑ k : Fin 8192, actsA m c (ix2 k (col3 512 1536 512 (by decide) (i 0))) * dysA m c (ix2 k (col3 1024 3072 1024 (by decide) (i 1)))

/-- After the last point output 1's buffer holds the product over all rows. -/
theorem f5_last (c : Dev nD) (h : 7 < cfg0.N) (i : S512x1024.Idx) : f5 m c 7 h i = P5 m c i := by
  rw [Blocks.acc_eq (f5 m c) (M5 m c) (f5_zero m c) (f5_succ m c) 7 h i]
  have e : ∀ s ∈ Finset.range (7 + 1), M5 m c s i = ∑ k : Fin 1024, (if h : s * 1024 + k.val < 8192 then
      actsA m c (ix2 ⟨s * 1024 + k.val, h⟩ (col3 512 1536 512 (by decide) (i 0))) * dysA m c (ix2 ⟨s * 1024 + k.val, h⟩ (col3 1024 3072 1024 (by decide) (i 1))) else (0 : EReal)) := fun s hs => by
    have hs' : s < 8 := Finset.mem_range.1 hs
    unfold M5
    rw [dif_pos (lt_of_lt_of_eq hs' N_0.symm)]
    refine Finset.sum_congr rfl fun k _ => ?_
    have hk := k.isLt
    have hlt : s * 1024 + k.val < 8192 := by omega
    rw [dif_pos hlt]
    exact congrArg₂ (· * ·) (actsB_apply m c ⟨s, lt_of_lt_of_eq hs' N_0.symm⟩ k _ ⟨s * 1024 + k.val, hlt⟩ (Eq.refl (s * 1024 + k.val)))
      (dysB_apply m c ⟨s, lt_of_lt_of_eq hs' N_0.symm⟩ k _ ⟨s * 1024 + k.val, hlt⟩ (Eq.refl (s * 1024 + k.val)))
  refine (Finset.sum_congr rfl e).trans ?_
  exact Blocks.sum_blocks (S := 8) (K := 1024) (N := 8192) rfl _ _ (fun s _ k h => dif_pos h)

/-- The block of output 1 is the whole array. -/
theorem emb5 (t : Fin cfg0.N) (y : S512x1024.Idx) : ((cfg0.win 5).blk t).view.emb y = y := by
  obtain ⟨-, ⟨e0, e1⟩, -, -⟩ := idx_out t
  have hb0 : (((cfg0.win 5).blk t).view.emb y 0).val = win0_5.index t (0 : Fin 2) * 512 + 1 * (y 0).val := rfl
  have hb1 : (((cfg0.win 5).blk t).view.emb y 1).val = win0_5.index t (1 : Fin 2) * 1024 + 1 * (y 1).val := rfl
  funext a; apply Fin.ext
  match a with
  | ⟨0, _⟩ => show (((cfg0.win 5).blk t).view.emb y 0).val = (y 0).val; rw [hb0, e0]; omega
  | ⟨1, _⟩ => show (((cfg0.win 5).blk t).view.emb y 1).val = (y 1).val; rw [hb1, e1]; omega

theorem f5_at (c : Dev nD) (t : Fin cfg0.N) (ht : t.val = 7) (i : S512x1024.Idx) : (outsAt0 m c t.val t.isLt).2.1 i = P5 m c i := by
  rw [← f5_last m c t7.isLt i]
  have : t = t7 := Fin.ext ht
  subst this
  rfl

/-- Reading output 1's whole buffer back changes no index. -/
theorem xinj5 (t : Fin cfg0.N) (y : S512x1024.Idx) : (cfg0.win 5).xinj (grid0.coords t) y = y := by
  funext a; apply Fin.ext
  match a with
  | ⟨0, _⟩ => rfl
  | ⟨1, _⟩ => rfl

/-- What a point writes back to output 1, whatever function its buffer holds. -/
theorem written5 (c : Dev nD) (t : Fin cfg0.N) (G : Buf (Elt Ideal) ((c : Thread nD τ).loc main_v0_1))
    (hG : (outsAt0 m c t.val t.isLt).2.1 = G) :
    (dats m 0 c).flushed 5 t = ((cfg0.win 5).blk t).view.read (Elt Ideal) G := by
  rw [Value.flushed5, hG]
  funext y
  show G ((cfg0.win 5).xinj (grid0.coords t) y) = G (((cfg0.win 5).blk t).view.emb y)
  rw [emb5 t y, xinj5 t y]

/-- Output 1 after the run. -/
theorem final5 (c : Dev nD) : (dats m 0 c).arrAt 5 cfg0.N = P5 m c :=
  (dats m 0 c).arrAt_eq_of_cover 5 (P5 m c) (fun t hf => written5 m c t (P5 m c) (funext (f5_at m c t (by
      have h1 := (flush0_5 t).mp hf; have h2 := lt_of_lt_of_eq t.isLt N_0; omega))))
    (fun i => ⟨t7, (flush0_5 t7).mpr t7_mod, by
      have h := (((cfg0.win 5).blk t7).view).emb_mem_set i
      rwa [emb5 t7 i] at h⟩)
/-! ## Output 2 -/

/-- The point's product for output 2. -/
def M6 (c : Dev nD) (n : ℕ) (i : S512x1024.Idx) : EReal :=
  if h : n < cfg0.N then ∑ k : Fin 1024, actsB m c ⟨n, h⟩ (ix2 k (col3 512 1536 1024 (by decide) (i 0))) * dysB m c ⟨n, h⟩ (ix2 k (col3 1024 3072 2048 (by decide) (i 1))) else 0

/-- What output 2's buffer holds after a point, at an index. -/
abbrev f6 (c : Dev nD) (n : ℕ) (h : n < cfg0.N) (i : S512x1024.Idx) : EReal := (outsAt0 m c n h).2.2.1 i

theorem f6_zero (c : Dev nD) (h : 0 < cfg0.N) (i : S512x1024.Idx) : f6 m c 0 h i = M6 m c 0 i := by
  unfold f6 M6
  rw [outsAt0_A m c ⟨0, h⟩ (Nat.zero_mod 8), dif_pos h]
  dsimp only
  rw [out_A_6, k0_pay1_apply, k0_pay4_apply, zero_add]
  rfl

theorem f6_succ (c : Dev nD) (n : ℕ) (h : n + 1 < cfg0.N) (i : S512x1024.Idx) :
    f6 m c (n + 1) h i = f6 m c n (Nat.lt_of_succ_lt h) i + M6 m c (n + 1) i := by
  have hN : n + 1 < 8 := lt_of_lt_of_eq h N_0
  unfold f6 M6
  rw [outsAt0_B m c ⟨n + 1, h⟩ (by dsimp only; omega), dif_pos h]
  dsimp only
  rw [out_B_6, k0_pay1_apply]
  rfl

/-- The product over all 8192 rows. -/
def P6 (c : Dev nD) (i : S512x1024.Idx) : EReal :=
  ∑ k : Fin 8192, actsA m c (ix2 k (col3 512 1536 1024 (by decide) (i 0))) * dysA m c (ix2 k (col3 1024 3072 2048 (by decide) (i 1)))

/-- After the last point output 2's buffer holds the product over all rows. -/
theorem f6_last (c : Dev nD) (h : 7 < cfg0.N) (i : S512x1024.Idx) : f6 m c 7 h i = P6 m c i := by
  rw [Blocks.acc_eq (f6 m c) (M6 m c) (f6_zero m c) (f6_succ m c) 7 h i]
  have e : ∀ s ∈ Finset.range (7 + 1), M6 m c s i = ∑ k : Fin 1024, (if h : s * 1024 + k.val < 8192 then
      actsA m c (ix2 ⟨s * 1024 + k.val, h⟩ (col3 512 1536 1024 (by decide) (i 0))) * dysA m c (ix2 ⟨s * 1024 + k.val, h⟩ (col3 1024 3072 2048 (by decide) (i 1))) else (0 : EReal)) := fun s hs => by
    have hs' : s < 8 := Finset.mem_range.1 hs
    unfold M6
    rw [dif_pos (lt_of_lt_of_eq hs' N_0.symm)]
    refine Finset.sum_congr rfl fun k _ => ?_
    have hk := k.isLt
    have hlt : s * 1024 + k.val < 8192 := by omega
    rw [dif_pos hlt]
    exact congrArg₂ (· * ·) (actsB_apply m c ⟨s, lt_of_lt_of_eq hs' N_0.symm⟩ k _ ⟨s * 1024 + k.val, hlt⟩ (Eq.refl (s * 1024 + k.val)))
      (dysB_apply m c ⟨s, lt_of_lt_of_eq hs' N_0.symm⟩ k _ ⟨s * 1024 + k.val, hlt⟩ (Eq.refl (s * 1024 + k.val)))
  refine (Finset.sum_congr rfl e).trans ?_
  exact Blocks.sum_blocks (S := 8) (K := 1024) (N := 8192) rfl _ _ (fun s _ k h => dif_pos h)

/-- The block of output 2 is the whole array. -/
theorem emb6 (t : Fin cfg0.N) (y : S512x1024.Idx) : ((cfg0.win 6).blk t).view.emb y = y := by
  obtain ⟨-, -, ⟨e0, e1⟩, -⟩ := idx_out t
  have hb0 : (((cfg0.win 6).blk t).view.emb y 0).val = win0_6.index t (0 : Fin 2) * 512 + 1 * (y 0).val := rfl
  have hb1 : (((cfg0.win 6).blk t).view.emb y 1).val = win0_6.index t (1 : Fin 2) * 1024 + 1 * (y 1).val := rfl
  funext a; apply Fin.ext
  match a with
  | ⟨0, _⟩ => show (((cfg0.win 6).blk t).view.emb y 0).val = (y 0).val; rw [hb0, e0]; omega
  | ⟨1, _⟩ => show (((cfg0.win 6).blk t).view.emb y 1).val = (y 1).val; rw [hb1, e1]; omega

theorem f6_at (c : Dev nD) (t : Fin cfg0.N) (ht : t.val = 7) (i : S512x1024.Idx) : (outsAt0 m c t.val t.isLt).2.2.1 i = P6 m c i := by
  rw [← f6_last m c t7.isLt i]
  have : t = t7 := Fin.ext ht
  subst this
  rfl

/-- Reading output 2's whole buffer back changes no index. -/
theorem xinj6 (t : Fin cfg0.N) (y : S512x1024.Idx) : (cfg0.win 6).xinj (grid0.coords t) y = y := by
  funext a; apply Fin.ext
  match a with
  | ⟨0, _⟩ => rfl
  | ⟨1, _⟩ => rfl

/-- What a point writes back to output 2, whatever function its buffer holds. -/
theorem written6 (c : Dev nD) (t : Fin cfg0.N) (G : Buf (Elt Ideal) ((c : Thread nD τ).loc main_v0_2))
    (hG : (outsAt0 m c t.val t.isLt).2.2.1 = G) :
    (dats m 0 c).flushed 6 t = ((cfg0.win 6).blk t).view.read (Elt Ideal) G := by
  rw [Value.flushed6, hG]
  funext y
  show G ((cfg0.win 6).xinj (grid0.coords t) y) = G (((cfg0.win 6).blk t).view.emb y)
  rw [emb6 t y, xinj6 t y]

/-- Output 2 after the run. -/
theorem final6 (c : Dev nD) : (dats m 0 c).arrAt 6 cfg0.N = P6 m c :=
  (dats m 0 c).arrAt_eq_of_cover 6 (P6 m c) (fun t hf => written6 m c t (P6 m c) (funext (f6_at m c t (by
      have h1 := (flush0_6 t).mp hf; have h2 := lt_of_lt_of_eq t.isLt N_0; omega))))
    (fun i => ⟨t7, (flush0_6 t7).mpr t7_mod, by
      have h := (((cfg0.win 6).blk t7).view).emb_mem_set i
      rwa [emb6 t7 i] at h⟩)
/-! ## Output 3 -/

/-- The point's product for output 3. -/
def M7 (c : Dev nD) (n : ℕ) (i : S1024x1024.Idx) : EReal :=
  if h : n < cfg0.N then ∑ k : Fin 1024, mergedB m c ⟨n, h⟩ (ix2 k (i 0)) * ctB m c ⟨n, h⟩ (ix2 k (i 1)) else 0

/-- What output 3's buffer holds after a point, at an index. -/
abbrev f7 (c : Dev nD) (n : ℕ) (h : n < cfg0.N) (i : S1024x1024.Idx) : EReal := (outsAt0 m c n h).2.2.2 i

theorem f7_zero (c : Dev nD) (h : 0 < cfg0.N) (i : S1024x1024.Idx) : f7 m c 0 h i = M7 m c 0 i := by
  unfold f7 M7
  rw [outsAt0_A m c ⟨0, h⟩ (Nat.zero_mod 8), dif_pos h]
  dsimp only
  rw [out_A_7, k0_pay6_apply, k0_pay5_apply, zero_add]

theorem f7_succ (c : Dev nD) (n : ℕ) (h : n + 1 < cfg0.N) (i : S1024x1024.Idx) :
    f7 m c (n + 1) h i = f7 m c n (Nat.lt_of_succ_lt h) i + M7 m c (n + 1) i := by
  have hN : n + 1 < 8 := lt_of_lt_of_eq h N_0
  unfold f7 M7
  rw [outsAt0_B m c ⟨n + 1, h⟩ (by dsimp only; omega), dif_pos h]
  dsimp only
  rw [out_B_7, k0_pay6_apply]
  rfl

/-- The product over all 8192 rows. -/
def P7 (c : Dev nD) (i : S1024x1024.Idx) : EReal :=
  ∑ k : Fin 8192, mergedA m c (ix2 k (i 0)) * ctA m c (ix2 k (i 1))

/-- After the last point output 3's buffer holds the product over all rows. -/
theorem f7_last (c : Dev nD) (h : 7 < cfg0.N) (i : S1024x1024.Idx) : f7 m c 7 h i = P7 m c i := by
  rw [Blocks.acc_eq (f7 m c) (M7 m c) (f7_zero m c) (f7_succ m c) 7 h i]
  have e : ∀ s ∈ Finset.range (7 + 1), M7 m c s i = ∑ k : Fin 1024, (if h : s * 1024 + k.val < 8192 then
      mergedA m c (ix2 ⟨s * 1024 + k.val, h⟩ (i 0)) * ctA m c (ix2 ⟨s * 1024 + k.val, h⟩ (i 1)) else (0 : EReal)) := fun s hs => by
    have hs' : s < 8 := Finset.mem_range.1 hs
    unfold M7
    rw [dif_pos (lt_of_lt_of_eq hs' N_0.symm)]
    refine Finset.sum_congr rfl fun k _ => ?_
    have hk := k.isLt
    have hlt : s * 1024 + k.val < 8192 := by omega
    rw [dif_pos hlt]
    exact congrArg₂ (· * ·) (mergedB_apply m c ⟨s, lt_of_lt_of_eq hs' N_0.symm⟩ k _ ⟨s * 1024 + k.val, hlt⟩ (Eq.refl (s * 1024 + k.val)))
      (ctB_apply m c ⟨s, lt_of_lt_of_eq hs' N_0.symm⟩ k _ ⟨s * 1024 + k.val, hlt⟩ (Eq.refl (s * 1024 + k.val)))
  refine (Finset.sum_congr rfl e).trans ?_
  exact Blocks.sum_blocks (S := 8) (K := 1024) (N := 8192) rfl _ _ (fun s _ k h => dif_pos h)

/-- The block of output 3 is the whole array. -/
theorem emb7 (t : Fin cfg0.N) (y : S1024x1024.Idx) : ((cfg0.win 7).blk t).view.emb y = y := by
  obtain ⟨-, -, -, ⟨e0, e1⟩⟩ := idx_out t
  have hb0 : (((cfg0.win 7).blk t).view.emb y 0).val = win0_7.index t (0 : Fin 2) * 1024 + 1 * (y 0).val := rfl
  have hb1 : (((cfg0.win 7).blk t).view.emb y 1).val = win0_7.index t (1 : Fin 2) * 1024 + 1 * (y 1).val := rfl
  funext a; apply Fin.ext
  match a with
  | ⟨0, _⟩ => show (((cfg0.win 7).blk t).view.emb y 0).val = (y 0).val; rw [hb0, e0]; omega
  | ⟨1, _⟩ => show (((cfg0.win 7).blk t).view.emb y 1).val = (y 1).val; rw [hb1, e1]; omega

theorem f7_at (c : Dev nD) (t : Fin cfg0.N) (ht : t.val = 7) (i : S1024x1024.Idx) : (outsAt0 m c t.val t.isLt).2.2.2 i = P7 m c i := by
  rw [← f7_last m c t7.isLt i]
  have : t = t7 := Fin.ext ht
  subst this
  rfl

/-- Reading output 3's whole buffer back changes no index. -/
theorem xinj7 (t : Fin cfg0.N) (y : S1024x1024.Idx) : (cfg0.win 7).xinj (grid0.coords t) y = y := by
  funext a; apply Fin.ext
  match a with
  | ⟨0, _⟩ => rfl
  | ⟨1, _⟩ => rfl

/-- What a point writes back to output 3, whatever function its buffer holds. -/
theorem written7 (c : Dev nD) (t : Fin cfg0.N) (G : Buf (Elt Ideal) ((c : Thread nD τ).loc main_v0_3))
    (hG : (outsAt0 m c t.val t.isLt).2.2.2 = G) :
    (dats m 0 c).flushed 7 t = ((cfg0.win 7).blk t).view.read (Elt Ideal) G := by
  rw [Value.flushed7, hG]
  funext y
  show G ((cfg0.win 7).xinj (grid0.coords t) y) = G (((cfg0.win 7).blk t).view.emb y)
  rw [emb7 t y, xinj7 t y]

/-- Output 3 after the run. -/
theorem final7 (c : Dev nD) : (dats m 0 c).arrAt 7 cfg0.N = P7 m c :=
  (dats m 0 c).arrAt_eq_of_cover 7 (P7 m c) (fun t hf => written7 m c t (P7 m c) (funext (f7_at m c t (by
      have h1 := (flush0_7 t).mp hf; have h2 := lt_of_lt_of_eq t.isLt N_0; omega))))
    (fun i => ⟨t7, (flush0_7 t7).mpr t7_mod, by
      have h := (((cfg0.win 7).blk t7).view).emb_mem_set i
      rwa [emb7 t7 i] at h⟩)
/-- The reference's result 0 at an index is the same product. -/
theorem ref4 (acts : FVec Ideal S8192x1536 .bf16) (dys : FVec Ideal S8192x3072 .bf16) (i : S512x1024.Idx) :
    Cert.ProjReferenceIdeal.Read.val_main_v28 (F := Ideal) acts dys i = ∑ k : Fin 8192, acts (ix2 k (col3 512 1536 0 (by decide) (i 0)))
      * dys (ix2 k (col3 1024 3072 0 (by decide) (i 1))) := by
  rw [Cert.ProjReferenceIdeal.Read.val_main_v28_apply, Cert.ProjReferenceIdeal.Read.val_main_v27_apply]
  refine Finset.sum_congr rfl fun k _ => ?_
  rw [Cert.ProjReferenceIdeal.Read.val_main_v16_apply, Cert.ProjReferenceIdeal.Read.val_main_v15_apply, Cert.ProjReferenceIdeal.Read.val_main_v1_apply, Cert.ProjReferenceIdeal.Read.val_main_v0_apply, mul_comm]
  show acts _ * dys _ = _
  congr 2
  all_goals
    funext a; apply Fin.ext
    match a with
    | ⟨0, _⟩ => rfl
    | ⟨1, _⟩ => first | rfl | exact (Nat.zero_add _).symm

/-- The reference's result 1 at an index is the same product. -/
theorem ref5 (acts : FVec Ideal S8192x1536 .bf16) (dys : FVec Ideal S8192x3072 .bf16) (i : S512x1024.Idx) :
    Cert.ProjReferenceIdeal.Read.val_main_v26 (F := Ideal) acts dys i = ∑ k : Fin 8192, acts (ix2 k (col3 512 1536 512 (by decide) (i 0)))
      * dys (ix2 k (col3 1024 3072 1024 (by decide) (i 1))) := by
  rw [Cert.ProjReferenceIdeal.Read.val_main_v26_apply, Cert.ProjReferenceIdeal.Read.val_main_v25_apply]
  refine Finset.sum_congr rfl fun k _ => ?_
  rw [Cert.ProjReferenceIdeal.Read.val_main_v18_apply, Cert.ProjReferenceIdeal.Read.val_main_v17_apply, Cert.ProjReferenceIdeal.Read.val_main_v3_apply, Cert.ProjReferenceIdeal.Read.val_main_v2_apply, mul_comm]
  show acts _ * dys _ = _
  congr 2
  all_goals
    funext a; apply Fin.ext
    match a with
    | ⟨0, _⟩ => rfl
    | ⟨1, _⟩ => first | rfl | exact (Nat.zero_add _).symm

/-- The reference's result 2 at an index is the same product. -/
theorem ref6 (acts : FVec Ideal S8192x1536 .bf16) (dys : FVec Ideal S8192x3072 .bf16) (i : S512x1024.Idx) :
    Cert.ProjReferenceIdeal.Read.val_main_v24 (F := Ideal) acts dys i = ∑ k : Fin 8192, acts (ix2 k (col3 512 1536 1024 (by decide) (i 0)))
      * dys (ix2 k (col3 1024 3072 2048 (by decide) (i 1))) := by
  rw [Cert.ProjReferenceIdeal.Read.val_main_v24_apply, Cert.ProjReferenceIdeal.Read.val_main_v23_apply]
  refine Finset.sum_congr rfl fun k _ => ?_
  rw [Cert.ProjReferenceIdeal.Read.val_main_v20_apply, Cert.ProjReferenceIdeal.Read.val_main_v19_apply, Cert.ProjReferenceIdeal.Read.val_main_v5_apply, Cert.ProjReferenceIdeal.Read.val_main_v4_apply, mul_comm]
  show acts _ * dys _ = _
  congr 2
  all_goals
    funext a; apply Fin.ext
    match a with
    | ⟨0, _⟩ => rfl
    | ⟨1, _⟩ => first | rfl | exact (Nat.zero_add _).symm

/-- The reference's result 3 at an index is the same product. -/
theorem ref7 (merged : FVec Ideal S8192x1024 .bf16) (ct : FVec Ideal S8192x1024 .f32) (i : S1024x1024.Idx) :
    Cert.ProjReferenceIdeal.Read.val_main_v22 (F := Ideal) merged ct i = ∑ k : Fin 8192, merged (ix2 k (i 0)) * ct (ix2 k (i 1)) := by
  rw [Cert.ProjReferenceIdeal.Read.val_main_v22_apply, Cert.ProjReferenceIdeal.Read.val_main_v21_apply]
  refine Finset.sum_congr rfl fun k _ => ?_
  rw [Cert.ProjReferenceIdeal.Read.val_main_v13_apply, mul_comm]
  show merged _ * ct _ = _
  congr 2
  all_goals
    funext a; apply Fin.ext
    match a with
    | ⟨0, _⟩ => rfl
    | ⟨1, _⟩ => first | rfl | exact (Nat.zero_add _).symm

end Cert.ProjVal

end
-- ==== Proof.InWVal.lean ====
module

public import proofs.«01_k».proof.Proof.Blocks
public import proofs.«01_k».proof.Proof.Gen.InWIdeal.Value
public import proofs.«01_k».proof.Proof.Gen.InWReferenceIdeal.Run
public import proofs.«01_k».proof.Proof.Gen.InWReferenceIdeal.Read
public import Idealize.ShloMosaic.Lib.ValueIdx
public import Idealize.ShloMosaic.Lib.Pointwise

@[expose] public section

noncomputable section

namespace Cert.InWVal

open Cert.InWIdeal Cert.InWIdeal.Gen Idealize.ShloMosaic Idealize.ShloMosaic.TcCoe Idealize.SL.Sem

variable (m : (ℓ : Loc nD τ sig) → Buf (Elt Ideal) ℓ)

/-- The argument `h`: the normalised rows. -/
abbrev hA (c : Dev nD) : FVec Ideal S8192x1024 .bf16 := m ((c : Thread nD τ).loc main_arg0)
/-- The argument `dp`: the cotangent of the projection. -/
abbrev dpA (c : Dev nD) : FVec Ideal S8192x7680 .bf16 := m ((c : Thread nD τ).loc main_arg1)
/-- The block of `dp` a point reads. -/
abbrev dpB (c : Dev nD) (t : Fin cfg0.N) : FVec Ideal S2048x1536 .bf16 := iblk m c 0 t
/-- The block of `h` a point reads. -/
abbrev hB (c : Dev nD) (t : Fin cfg0.N) : FVec Ideal S2048x1024 .bf16 := iblk m c 1 t
/-- The array the generated run names, as a function of its index. -/
abbrev outA (c : Dev nD) : FVec Ideal S7680x1024 .f32 := Value.G2 m c

/-- The points of a run read the blocks of one column of `dp` and of all of `h`, from top to bottom. -/
theorem idx_in : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0 :=
  (by decide +kernel : ∀ t : Fin grid0.N, _)

/-- One point's product: the block of `dp`, transposed, against the block of `h`. -/
def M (c : Dev nD) (n : ℕ) (i : S1536x1024.Idx) : EReal :=
  if h : n < cfg0.N then
    ∑ k : Fin 2048, dpB m c ⟨n, h⟩ (ix2 k (i 0))
      * hB m c ⟨n, h⟩ (ix2 k (i 1))
  else 0

/-- A step adds the point's product to what it found. -/
theorem pay2_apply (acc : FVec Ideal S1536x1024 .f32) (a : FVec Ideal S2048x1536 .bf16) (b : FVec Ideal S2048x1024 .bf16)
    (i : S1536x1024.Idx) :
    k0_pay2 acc a b i = acc i + ∑ k : Fin 2048, a (ix2 k (i 0)) * b (ix2 k (i 1)) := by
  obtain ⟨r, l, rfl⟩ : ∃ r l, i = ix2 r l := ⟨i 0, i 1, eq_ix2 i⟩
  pointwise [k0_pay2]

/-- The block the first point of a run starts from is zero. -/
theorem pay1_apply (i : S1536x1024.Idx) : k0_pay1 (F := Ideal) i = 0 := by
  obtain ⟨r, l, rfl⟩ : ∃ r l, i = ix2 r l := ⟨i 0, i 1, eq_ix2 i⟩
  pointwise [k0_pay1]

/-- The block of `dp` a point reads, at an index. -/
theorem blk0_apply (c : Dev nD) (t : Fin cfg0.N) (y : S2048x1536.Idx) (i : S8192x7680.Idx)
    (h0 : (i 0).val = t.val % 4 * 2048 + (y 0).val) (h1 : (i 1).val = t.val / 4 * 1536 + (y 1).val) :
    dpB m c t y = dpA m c i := by
  obtain ⟨e0, e1, -, -⟩ := idx_in t
  have hb0 : (((cfg0.win 0).blk t).view.emb y 0).val = win0_0.index t (0 : Fin 2) * 2048 + 1 * (y 0).val := rfl
  have hb1 : (((cfg0.win 0).blk t).view.emb y 1).val = win0_0.index t (1 : Fin 2) * 1536 + 1 * (y 1).val := rfl
  show dpA m c (((cfg0.win 0).blk t).view.emb y) = _
  congr 1
  funext a; apply Fin.ext
  match a with
  | ⟨0, _⟩ => show (((cfg0.win 0).blk t).view.emb y 0).val = (i 0).val; rw [hb0, h0, e0]; omega
  | ⟨1, _⟩ => show (((cfg0.win 0).blk t).view.emb y 1).val = (i 1).val; rw [hb1, h1, e1]; omega

/-- The block of `h` a point reads, at an index. -/
theorem blk1_apply (c : Dev nD) (t : Fin cfg0.N) (y : S2048x1024.Idx) (i : S8192x1024.Idx)
    (h0 : (i 0).val = t.val % 4 * 2048 + (y 0).val) (h1 : (i 1).val = (y 1).val) :
    hB m c t y = hA m c i := by
  obtain ⟨-, -, e0, e1⟩ := idx_in t
  have hb0 : (((cfg0.win 1).blk t).view.emb y 0).val = win0_1.index t (0 : Fin 2) * 2048 + 1 * (y 0).val := rfl
  have hb1 : (((cfg0.win 1).blk t).view.emb y 1).val = win0_1.index t (1 : Fin 2) * 1024 + 1 * (y 1).val := rfl
  show hA m c (((cfg0.win 1).blk t).view.emb y) = _
  congr 1
  funext a; apply Fin.ext
  match a with
  | ⟨0, _⟩ => show (((cfg0.win 1).blk t).view.emb y 0).val = (i 0).val; rw [hb0, h0, e0]; omega
  | ⟨1, _⟩ => show (((cfg0.win 1).blk t).view.emb y 1).val = (i 1).val; rw [hb1, h1, e1]; omega

/-- The array the kernel leaves, at an index: the product over all 8192 rows. -/
theorem G2_apply (c : Dev nD) (i : S7680x1024.Idx) :
    outA m c i = ∑ k : Fin 8192, dpA m c (ix2 k (i 0))
      * hA m c (ix2 k (i 1)) := by
  have hi0 : (i 0).val < 7680 := (i 0).isLt
  have hi1 : (i 1).val < 1024 := (i 1).isLt
  have hN : cfg0.N = 20 := N_0
  have hr : Value.run2Of i = (i 0).val / 1536 := by simp only [Value.run2Of]; omega
  have hlt : 4 * Value.run2Of i + 3 < cfg0.N := by rw [hr, hN]; omega
  show Value.G2 m c i = _
  unfold Value.G2
  rw [dif_pos hlt]
  refine (Pipeline.accAt_add_apply (β := EReal) (Value.reset2 m c) (Value.step2 m c) (fun _ => (0 : EReal)) (M m c) (4 * Value.run2Of i) 3
    (fun h y => by unfold Value.reset2 M; rw [pay2_apply, pay1_apply, dif_pos h])
    (fun n h acc y _ _ => by unfold Value.step2 M; rw [pay2_apply, dif_pos h]) 3 le_rfl hlt _).trans ?_
  rw [zero_add]
  have e : ∀ s ∈ Finset.range (3 + 1), M m c (4 * Value.run2Of i + s) (Value.loc2Of i)
      = ∑ k : Fin 2048, (if h : s * 2048 + k.val < 8192 then
          dpA m c (ix2 ⟨s * 2048 + k.val, h⟩ (i 0))
            * hA m c (ix2 ⟨s * 2048 + k.val, h⟩ (i 1)) else (0 : EReal)) := fun s hs => by
    have hs' : s < 4 := Finset.mem_range.1 hs
    unfold M
    rw [dif_pos (by rw [hr, hN]; omega)]
    refine Finset.sum_congr rfl fun k _ => ?_
    have hk := k.isLt
    rw [dif_pos (by omega)]
    rw [blk0_apply m c _ _ (ix2 ⟨s * 2048 + k.val, by omega⟩ (i 0))
        (by show s * 2048 + k.val = (4 * Value.run2Of i + s) % 4 * 2048 + k.val; omega)
        (by show (i 0).val = (4 * Value.run2Of i + s) / 4 * 1536 + (i 0).val % 1536; rw [hr]; omega),
      blk1_apply m c _ _ (ix2 ⟨s * 2048 + k.val, by omega⟩ (i 1))
        (by show s * 2048 + k.val = (4 * Value.run2Of i + s) % 4 * 2048 + k.val; omega)
        (by show (i 1).val = (i 1).val % 1024; omega)]
  refine (Finset.sum_congr rfl e).trans ?_
  exact Blocks.sum_blocks (S := 4) (K := 2048) (N := 8192) rfl _ _ (fun s _ k h => dif_pos h)

/-- The reference's array at an index: the same product. -/
theorem ref_apply (h : FVec Ideal S8192x1024 .bf16) (dp : FVec Ideal S8192x7680 .bf16) (i : S7680x1024.Idx) :
    Cert.InWReferenceIdeal.Read.val_main_v6 (F := Ideal) h dp i
      = ∑ k : Fin 8192, dp (ix2 k (i 0)) * h (ix2 k (i 1)) := by
  rw [Cert.InWReferenceIdeal.Read.val_main_v6_apply, Cert.InWReferenceIdeal.Read.val_main_v5_apply,
    Cert.InWReferenceIdeal.Read.val_main_v4_apply]
  refine Finset.sum_congr rfl fun k _ => ?_
  rw [Cert.InWReferenceIdeal.Read.val_main_v3_apply, Cert.InWReferenceIdeal.Read.val_main_v1_apply]
  show dp _ * h _ = _
  congr 2
  all_goals
    funext a
    match a with
    | ⟨0, _⟩ => rfl
    | ⟨1, _⟩ => rfl

end Cert.InWVal

end
-- ==== Proof.InXOpen.lean ====
module

public import proofs.«01_k».proof.Proof.Blocks
public import proofs.«01_k».proof.Proof.Gen.InXIdeal.Value
public import Idealize.ShloMosaic.Lib.Pointwise

@[expose] public section

noncomputable section

namespace Cert.InXOpen

open Cert.InXIdeal Cert.InXIdeal.Gen Idealize.ShloMosaic Idealize.ShloMosaic.TcCoe Idealize.SL.Sem

theorem hz : (![0, 0] : Fin 2 → Nat) = fun _ => 0 := funext fun a => by fin_cases a <;> rfl

/-- The block of `d_x` from the point's blocks: the cotangent, plus the gradient through the normalisation. -/
def dxOf (x0 : Vec Ideal S512x7680 .bf16) (x1 : Vec Ideal S7680x1024 .bf16) (x2 : Vec Ideal S512x1024 .f32)
    (x3 : Vec Ideal S1x1024 .f32) (x4 : Vec Ideal S512x1024 .f32) : FVec Ideal S512x1024 .f32 :=
  k0_pay1 (F := Ideal) (k0_pay4 x2) (k0_pay5 x2) (k0_pay7 x0 x1 x3) x4 (k0_pay8 x0 x1 x2 x3) k0_pay9

/-- Row 0 of an array of eight rows. -/
def row0 (x : FVec Ideal S8x1024 .f32) : FVec Ideal S1x1024 .f32 := fun i => x (ix2 0 (i 1))

/-- The rectangle of row 0. -/
abbrev r0 : Rect S8x1024 := Rect.unit (s := S8x1024) ![0, 0] S1x1024.size inb_S8x1024_S1x1024_0_0

theorem ld_r0 (x : Vec Ideal S8x1024 .f32) :
    @Eq (Vec Ideal S1x1024 .f32) (View.ld (Val := Elt Ideal) (e' := .f32) x r0) (row0 x) := by
  funext i
  show x _ = x _
  congr 1
  funext a; apply Fin.ext
  match a with
  | ⟨0, _⟩ => show 0 + 1 * (i 0).val = 0; have h : (i 0).val < 1 := (i 0).isLt; omega
  | ⟨1, _⟩ => show 0 + 1 * (i 1).val = (i 1).val; omega

/-- Row 0 read back from a buffer just written whole. -/
theorem readCov_r0 {κ : Kind} {sp : Space} (v : View sig κ sp S8x1024 .f32) (inb : ∀ a, (![0, 0] : Fin 2 → Nat) a + S8x1024.size a ≤ S8x1024.size a)
    (w : FVec Ideal S8x1024 .f32) :
    @Eq (Vec Ideal S1x1024 .f32) (v.readCov (Val := Elt Ideal) [⟨Rect.unit (s := S8x1024) ![0, 0] S8x1024.size inb, w⟩] r0.toLoadRect) (row0 w) := by
  have hc := View.readCov_eq_canon_ld (Val := Elt Ideal) v [⟨Rect.unit (s := S8x1024) ![0, 0] S8x1024.size inb, w⟩] r0
    (fun y => ⟨_, List.mem_singleton_self _, View.mem_set_unit_zero (S := S8x1024) hz inb y⟩)
  refine hc.trans ?_
  rw [View.canon_unit_zero (S := S8x1024) hz]
  exact ld_r0 w

theorem r0_emb (y : S8x1024.Idx) (h : (y 0).val = 0) : y = r0.emb (ix2 0 (y 1) : S1x1024.Idx) := by
  funext a; apply Fin.ext
  match a with
  | ⟨0, _⟩ => show (y 0).val = 0 + 1 * 0; omega
  | ⟨1, _⟩ => show (y 1).val = 0 + 1 * (y 1).val; omega

theorem r0_not (y : S8x1024.Idx) (h : (y 0).val ≠ 0) : y ∉ r0.set := by
  rw [Rect.mem_set_unit]
  intro hh
  have h2 : (y 0).val < 0 + 1 := (hh 0).2
  omega

/-- What a point leaves in the buffer of `d_x`. -/
theorem out_A_5 (c : Dev nD) (i : grid0.Coords) (arg1 : Memref sig .tc .vmem S512x7680 .bf16) (harg1 : arg1.IsWhole) (arg2 : Memref sig .tc .vmem S7680x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1024 .f32) (harg7 : arg7.IsWhole) (hc0 : cond0_0 i)
    (x0 : Vec Ideal S512x7680 .bf16) (x1 : Vec Ideal S7680x1024 .bf16) (x2 : Vec Ideal S512x1024 .f32) (x3 : Vec Ideal S1x1024 .f32) (x4 : Vec Ideal S512x1024 .f32) : out0_A_5 c i arg1 harg1 arg2 harg2 arg3 harg3 arg4 harg4 arg5 harg5 arg6 harg6 arg7 harg7 hc0 x0 x1 x2 x3 x4 = dxOf x0 x1 x2 x3 x4 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  try sl_unfold_words
  rw [View.canon_unit_zero hz]
  simp only [View.readAt_eq_ld, harg1.read_unread, harg2.read_unread, harg3.read_unread, harg4.read_unread, harg5.read_unread, harg6.read_unread, harg7.read_unread, View.ld_unit_zero (S := S512x7680) hz, View.ld_unit_zero (S := S7680x1024) hz, View.ld_unit_zero (S := S512x1024) hz, View.ld_unit_zero (S := S1x1024) hz, shapeCast_self]
  rfl

/-- What a point leaves in the buffer of `d_x`. -/
theorem out_B_5 (c : Dev nD) (i : grid0.Coords) (arg1 : Memref sig .tc .vmem S512x7680 .bf16) (harg1 : arg1.IsWhole) (arg2 : Memref sig .tc .vmem S7680x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1024 .f32) (harg7 : arg7.IsWhole) (hc0 : ¬cond0_0 i)
    (x0 : Vec Ideal S512x7680 .bf16) (x1 : Vec Ideal S7680x1024 .bf16) (x2 : Vec Ideal S512x1024 .f32) (x3 : Vec Ideal S1x1024 .f32) (x4 : Vec Ideal S512x1024 .f32) (xo6 : Vec Ideal S8x1024 .f32) : out0_B_5 c i arg1 harg1 arg2 harg2 arg3 harg3 arg4 harg4 arg5 harg5 arg6 harg6 arg7 harg7 hc0 x0 x1 x2 x3 x4 xo6 = dxOf x0 x1 x2 x3 x4 := by
  unfold out0_B_5
  rw [View.read_writes_eq_canon _ _ _ (cover0_B_5 c i arg1 harg1 arg2 harg2 arg3 harg3 arg4 harg4 arg5 harg5 arg6 harg6 arg7 harg7 hc0 x0 x1 x2 x3 x4 xo6)]
  unfold kernelRun0_B
  dsimp only
  try sl_unfold_words
  rw [View.canon_unit_zero hz]
  simp only [View.readAt_eq_ld, harg1.read_unread, harg2.read_unread, harg3.read_unread, harg4.read_unread, harg5.read_unread, harg6.read_unread, harg7.read_unread, View.ld_unit_zero (S := S512x7680) hz, View.ld_unit_zero (S := S7680x1024) hz, View.ld_unit_zero (S := S512x1024) hz, View.ld_unit_zero (S := S1x1024) hz, shapeCast_self]
  rfl

/-- At the first point the buffer of `d_g` holds the point's row sum over zero in row 0, zero elsewhere. -/
theorem out_A_6 (c : Dev nD) (i : grid0.Coords) (arg1 : Memref sig .tc .vmem S512x7680 .bf16) (harg1 : arg1.IsWhole) (arg2 : Memref sig .tc .vmem S7680x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1024 .f32) (harg7 : arg7.IsWhole) (hc0 : cond0_0 i)
    (x0 : Vec Ideal S512x7680 .bf16) (x1 : Vec Ideal S7680x1024 .bf16) (x2 : Vec Ideal S512x1024 .f32) (x3 : Vec Ideal S1x1024 .f32) (x4 : Vec Ideal S512x1024 .f32) (y : S8x1024.Idx) :
    out0_A_6 c i arg1 harg1 arg2 harg2 arg3 harg3 arg4 harg4 arg5 harg5 arg6 harg6 arg7 harg7 hc0 x0 x1 x2 x3 x4 y
      = if (y 0).val = 0 then k0_pay6 (F := Ideal) x0 x1 x2 (row0 (k0_pay2 (F := Ideal))) (ix2 0 (y 1)) else k0_pay2 (F := Ideal) y := by
  unfold out0_A_6
  rw [View.read_writes_eq_canon _ _ _ (cover0_A_6 c i arg1 harg1 arg2 harg2 arg3 harg3 arg4 harg4 arg5 harg5 arg6 harg6 arg7 harg7 hc0 x0 x1 x2 x3 x4)]
  unfold kernelRun0_A
  dsimp only
  try sl_unfold_words
  split_ifs with h
  · conv_lhs => rw [r0_emb y h]
    refine (View.canon_cons_emb (Val := Elt Ideal) r0 _ _ _).trans ?_
    simp only [View.readAt_eq_ld, harg1.read_unread, harg2.read_unread, harg3.read_unread, harg4.read_unread, harg5.read_unread, harg6.read_unread, harg7.read_unread, View.ld_unit_zero (S := S512x7680) hz, View.ld_unit_zero (S := S7680x1024) hz, View.ld_unit_zero (S := S512x1024) hz, View.ld_unit_zero (S := S1x1024) hz, shapeCast_self]
    exact congrArg (fun v => k0_pay6 (F := Ideal) x0 x1 x2 v (ix2 0 (y 1))) (readCov_r0 _ inb_S8x1024_S8x1024_0_0 (k0_pay2 (F := Ideal)))
  · refine (View.canon_cons_of_not_mem (Val := Elt Ideal) ⟨r0, _⟩ _ (r0_not y h)).trans ?_
    rw [View.canon_unit_zero hz]

/-- At a later point row 0 of the buffer of `d_g` holds the point's row sum added to what was there, the rest is kept. -/
theorem out_B_6 (c : Dev nD) (i : grid0.Coords) (arg1 : Memref sig .tc .vmem S512x7680 .bf16) (harg1 : arg1.IsWhole) (arg2 : Memref sig .tc .vmem S7680x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1024 .f32) (harg7 : arg7.IsWhole) (hc0 : ¬cond0_0 i)
    (x0 : Vec Ideal S512x7680 .bf16) (x1 : Vec Ideal S7680x1024 .bf16) (x2 : Vec Ideal S512x1024 .f32) (x3 : Vec Ideal S1x1024 .f32) (x4 : Vec Ideal S512x1024 .f32) (xo6 : Vec Ideal S8x1024 .f32) (y : S8x1024.Idx) :
    out0_B_6 c i arg1 harg1 arg2 harg2 arg3 harg3 arg4 harg4 arg5 harg5 arg6 harg6 arg7 harg7 hc0 x0 x1 x2 x3 x4 xo6 y
      = if (y 0).val = 0 then k0_pay6 (F := Ideal) x0 x1 x2 (row0 xo6) (ix2 0 (y 1)) else xo6 y := by
  unfold out0_B_6
  unfold kernelRun0_B
  dsimp only
  try sl_unfold_words
  split_ifs with h
  · conv_lhs => rw [r0_emb y h]
    rw [View.read_writes_cons_emb]
    simp only [View.readAt_eq_ld, harg1.read_unread, harg2.read_unread, harg3.read_unread, harg4.read_unread, harg5.read_unread, harg6.read_unread, harg7.read_unread, View.ld_unit_zero (S := S512x7680) hz, View.ld_unit_zero (S := S7680x1024) hz, View.ld_unit_zero (S := S512x1024) hz, View.ld_unit_zero (S := S1x1024) hz, shapeCast_self]
    exact congrArg (fun v => k0_pay6 (F := Ideal) x0 x1 x2 v (ix2 0 (y 1))) (ld_r0 xo6)
  · rw [View.read_writes_apply_of_forall_not_mem _ _ y _ (fun p hp => by
      rw [List.mem_singleton.1 hp]; exact r0_not y h), harg7.read_unread]

end Cert.InXOpen

end
-- ==== Proof.Up.lean ====
/- Extended-real vector operations on arrays of real numbers: each operation of a program, read at
   coerced reals, is the coercion of the real operation. -/
module

public import Idealize.ShloMosaic.Lib.Pointwise
public import Idealize.ShloMosaic.Lib.IdealHost
public import Idealize.ShloMosaic.Lib.StableHlo
public import Idealize.ShloMosaic.PureOps

@[expose] public section

noncomputable section

namespace Cert.Up

open Idealize.ShloMosaic
open scoped BigOperators

/-! ### Scalars -/

variable {φ : FTy}

/-- A sum of two reals. -/
theorem c_add (x y : ℝ) : FloatOps.addf (F := Ideal) (φ := φ) (x : EReal) (y : EReal) = ((x + y : ℝ) : EReal) :=
  (EReal.coe_add x y).symm
/-- A difference of two reals. -/
theorem c_sub (x y : ℝ) : FloatOps.subf (F := Ideal) (φ := φ) (x : EReal) (y : EReal) = ((x - y : ℝ) : EReal) :=
  (EReal.coe_sub x y).symm
/-- A product of two reals. -/
theorem c_mul (x y : ℝ) : FloatOps.mulf (F := Ideal) (φ := φ) (x : EReal) (y : EReal) = ((x * y : ℝ) : EReal) :=
  (EReal.coe_mul x y).symm
/-- The lesser of two reals. -/
theorem c_min (x y : ℝ) : FloatOps.minimumf (F := Ideal) (φ := φ) (x : EReal) (y : EReal) = ((min x y : ℝ) : EReal) :=
  (EReal.coe_strictMono.monotone.map_min).symm
/-- A quotient of two reals by a nonzero one, as the ideal division gives it. -/
theorem e_div (x : ℝ) {y : ℝ} (h : y ≠ 0) : Ideal.div (x : EReal) (y : EReal) = ((x / y : ℝ) : EReal) := by
  rw [Ideal.div_coe h, ← EReal.coe_mul, mul_one_div]
/-- A quotient on the host. -/
theorem c_hdiv (x : ℝ) {y : ℝ} (h : y ≠ 0) :
    FloatOps.hostDivf (F := Ideal) (φ := φ) (x : EReal) (y : EReal) = ((x / y : ℝ) : EReal) := e_div x h
/-- A quotient on the device. -/
theorem c_div (x : ℝ) {y : ℝ} (h : y ≠ 0) :
    FloatOps.divf (F := Ideal) (φ := φ) (x : EReal) (y : EReal) = ((x / y : ℝ) : EReal) := e_div x h
/-- A negation on the host. -/
theorem c_hneg (x : ℝ) : FloatOps.hostNegf (F := Ideal) (φ := φ) (x : EReal) = ((-x : ℝ) : EReal) :=
  (EReal.coe_neg x).symm
/-- An exponential on the host. -/
theorem c_hexp (x : ℝ) : FloatOps.hostUnary (F := Ideal) (φ := φ) .exp (x : EReal) = ((Real.exp x : ℝ) : EReal) := rfl
/-- A hyperbolic tangent on the host. -/
theorem c_htanh (x : ℝ) : FloatOps.hostUnary (F := Ideal) (φ := φ) .tanh (x : EReal) = ((Real.tanh x : ℝ) : EReal) := rfl
/-- The ideal reciprocal square root at a positive real. -/
theorem e_rsqrt {x : ℝ} (h : 0 < x) : Ideal.rsqrt (x : EReal) = (((Real.sqrt x)⁻¹ : ℝ) : EReal) := by
  rw [Ideal.rsqrt_coe, if_neg (not_lt.2 h.le), if_neg h.ne']
/-- A reciprocal square root on the host. -/
theorem c_hrsqrt {x : ℝ} (h : 0 < x) :
    FloatOps.hostUnary (F := Ideal) (φ := φ) .rsqrt (x : EReal) = (((Real.sqrt x)⁻¹ : ℝ) : EReal) := e_rsqrt h

/-! ### Constants -/

theorem k_0 : FloatOps.ofBits (F := Ideal) .f32 0x00000000#32 = ((0 : ℝ) : EReal) := by
  rw [Ideal.ofBits_def]; simp
theorem k_1 : FloatOps.ofBits (F := Ideal) .f32 0x3F800000#32 = ((1 : ℝ) : EReal) := by
  rw [Ideal.ofBits_def]; simp [Ideal.ofBits, Ideal.ieee]; rw [← EReal.coe_mul]; norm_num
theorem k_2 : FloatOps.ofBits (F := Ideal) .f32 0x40000000#32 = ((2 : ℝ) : EReal) := by
  rw [Ideal.ofBits_def]; simp [Ideal.ofBits, Ideal.ieee]; rw [← EReal.coe_mul]; norm_num
theorem k_3 : FloatOps.ofBits (F := Ideal) .f32 0x40400000#32 = ((3 : ℝ) : EReal) := by
  rw [Ideal.ofBits_def]; simp [Ideal.ofBits, Ideal.ieee]; rw [← EReal.coe_mul]; norm_num
theorem k_4 : FloatOps.ofBits (F := Ideal) .f32 0x40800000#32 = ((4 : ℝ) : EReal) := by
  rw [Ideal.ofBits_def]; simp [Ideal.ofBits, Ideal.ieee]; rw [← EReal.coe_mul]; norm_num
theorem k_8 : FloatOps.ofBits (F := Ideal) .f32 0x41000000#32 = ((8 : ℝ) : EReal) := by
  rw [Ideal.ofBits_def]; simp [Ideal.ofBits, Ideal.ieee]; rw [← EReal.coe_mul]; norm_num
theorem k_16 : FloatOps.ofBits (F := Ideal) .f32 0x41800000#32 = ((16 : ℝ) : EReal) := by
  rw [Ideal.ofBits_def]; simp [Ideal.ofBits, Ideal.ieee]; rw [← EReal.coe_mul]; norm_num
theorem k_half : FloatOps.ofBits (F := Ideal) .f32 0x3F000000#32 = ((1 / 2 : ℝ) : EReal) := by
  rw [Ideal.ofBits_def]; simp [Ideal.ofBits, Ideal.ieee]; rw [← EReal.coe_mul]; norm_num
theorem k_mhalf : FloatOps.ofBits (F := Ideal) .f32 0xBF000000#32 = ((-(1 / 2) : ℝ) : EReal) := by
  rw [Ideal.ofBits_def]; simp [Ideal.ofBits, Ideal.ieee]; rw [← EReal.coe_mul]; norm_num
theorem k_512 : FloatOps.ofBits (F := Ideal) .f32 0x44000000#32 = ((512 : ℝ) : EReal) := by
  rw [Ideal.ofBits_def]; simp [Ideal.ofBits, Ideal.ieee]; rw [← EReal.coe_mul]; norm_num
theorem k_8943 : FloatOps.ofBits (F := Ideal) .f32 0x460BBC00#32 = ((8943 : ℝ) : EReal) := by
  rw [Ideal.ofBits_def]; simp [Ideal.ofBits, Ideal.ieee]; rw [← EReal.coe_mul]; norm_num
theorem k_200000 : FloatOps.ofBits (F := Ideal) .f32 0x48435000#32 = ((200000 : ℝ) : EReal) := by
  rw [Ideal.ofBits_def]; simp [Ideal.ofBits, Ideal.ieee]; rw [← EReal.coe_mul]; norm_num
/-- The rounded `√(2/π)` both programs use. -/
def kc : ℝ := 13386282 / 16777216
theorem k_c : FloatOps.ofBits (F := Ideal) .f32 0x3F4C422A#32 = ((kc : ℝ) : EReal) := by
  rw [Ideal.ofBits_def]; simp [Ideal.ofBits, Ideal.ieee, kc]; rw [← EReal.coe_mul]; norm_num
/-- The rounded `1e-5` both programs add to the variance. -/
def keps : ℝ := 10995116 / 1099511627776
theorem keps_pos : 0 < keps := by norm_num [keps]
theorem k_eps : FloatOps.ofBits (F := Ideal) .f32 0x3727C5AC#32 = ((keps : ℝ) : EReal) := by
  rw [Ideal.ofBits_def]; simp [Ideal.ofBits, Ideal.ieee, keps]; rw [← EReal.coe_mul]; norm_num

/-! ### Sums -/

/-- A sum of coerced reals over `Fin n` is the coerced sum over a range. -/
theorem e_sum {n : ℕ} (f : Fin n → EReal) (g : ℕ → ℝ) (h : ∀ k : Fin n, f k = ((g k.val : ℝ) : EReal)) :
    ∑ k, f k = ((∑ k ∈ Finset.range n, g k : ℝ) : EReal) := by
  rw [Finset.sum_congr rfl fun k _ => h k, Fin.sum_univ_eq_sum_range (fun k => ((g k : ℝ) : EReal)) n]
  induction n with
  | zero => simp
  | succ n ih =>
    rw [Finset.sum_range_succ, Finset.sum_range_succ, EReal.coe_add, ih (fun k => ((g k.val : ℝ) : EReal)) fun k => rfl]
/-- A sum started at zero. -/
theorem c_sum {n : ℕ} (f : Fin n → EReal) (g : ℕ → ℝ) (h : ∀ k : Fin n, f k = ((g k.val : ℝ) : EReal)) :
    ((0 : ℝ) : EReal) + ∑ k, f k = ((∑ k ∈ Finset.range n, g k : ℝ) : EReal) := by
  rw [e_sum f g h, EReal.coe_zero, zero_add]
/-- A contraction of coerced reals. -/
theorem c_dot {n : ℕ} (x y : Fin n → EReal) (f g : ℕ → ℝ) (hx : ∀ k : Fin n, x k = ((f k.val : ℝ) : EReal))
    (hy : ∀ k : Fin n, y k = ((g k.val : ℝ) : EReal)) :
    ∑ k, x k * y k = ((∑ k ∈ Finset.range n, f k * g k : ℝ) : EReal) :=
  e_sum _ (fun k => f k * g k) fun k => by rw [hx, hy, EReal.coe_mul]

end Cert.Up

end
-- ==== Proof.InXVal.lean ====
module

public import proofs.«01_k».proof.Proof.InXOpen
public import proofs.«01_k».proof.Proof.Up
public import proofs.«01_k».proof.Proof.Gen.InXReferenceIdeal.Read
public import proofs.«01_k».proof.Pre_finite_x

@[expose] public section

noncomputable section

namespace Cert.InXVal

open Cert.InXIdeal Cert.InXIdeal.Gen Cert.InXOpen Idealize.ShloMosaic Idealize.ShloMosaic.TcCoe Idealize.SL.Sem

/-! ### The function both programs compute, row by row -/

/-- The divisor 1024, as the programs write it. -/
abbrev c1024 : EReal := Ideal.ofBits .f32 0x44800000#32
/-- The constant added under the root. -/
abbrev ceps : EReal := Ideal.ofBits .f32 0x358637BD#32

/-- The gradient of the normalised rows: the cotangent against the transposed weight. -/
def dh (w : FVec Ideal S1024x7680 .f32) (dp : FVec Ideal S8192x7680 .bf16) (R : Fin 8192) (l : Fin 1024) : EReal :=
  ∑ k : Fin 7680, (dp (ix2 R k) : EReal) * (w (ix2 l k) : EReal)
/-- A row's mean square plus the constant. -/
def den (x : FVec Ideal S8192x1024 .f32) (R : Fin 8192) : EReal :=
  Ideal.div (∑ k : Fin 1024, (x (ix2 R k) : EReal) * (x (ix2 R k) : EReal)) c1024 + ceps
/-- A row's reciprocal root mean square. -/
def rs (x : FVec Ideal S8192x1024 .f32) (R : Fin 8192) : EReal := Ideal.rsqrt (den x R)
/-- A normalised element. -/
def xh (x : FVec Ideal S8192x1024 .f32) (R : Fin 8192) (l : Fin 1024) : EReal := (x (ix2 R l) : EReal) * rs x R
/-- The gradient before the normalisation's scale. -/
def dg1 (g : FVec Ideal S1024 .f32) (w : FVec Ideal S1024x7680 .f32) (dp : FVec Ideal S8192x7680 .bf16) (R : Fin 8192)
    (l : Fin 1024) : EReal := dh w dp R l * (g (ix1 l) : EReal)
/-- The kernel's `d_x`. -/
def DX (x : FVec Ideal S8192x1024 .f32) (g : FVec Ideal S1024 .f32) (w : FVec Ideal S1024x7680 .f32)
    (dp : FVec Ideal S8192x7680 .bf16) (ct : FVec Ideal S8192x1024 .f32) : FVec Ideal S8192x1024 .f32 := fun i =>
  (ct i : EReal) + rs x (i 0) * (dg1 g w dp (i 0) (i 1) - xh x (i 0) (i 1)
    * Ideal.div (∑ k : Fin 1024, dg1 g w dp (i 0) k * xh x (i 0) k) c1024)
/-- The kernel's `d_g`: the sum over the rows in row 0, zero below. -/
def DG (x : FVec Ideal S8192x1024 .f32) (w : FVec Ideal S1024x7680 .f32) (dp : FVec Ideal S8192x7680 .bf16) :
    FVec Ideal S8x1024 .f32 := fun i =>
  if (i 0).val = 0 then ∑ R : Fin 8192, dh w dp R (i 1) * xh x R (i 1) else (0 : EReal)

/-! ### The point's payloads, at an index -/

theorem pay3_apply (a : FVec Ideal S512x7680 .bf16) (b : FVec Ideal S7680x1024 .bf16) (r : Fin 512) (l : Fin 1024) :
    (k0_pay3 (F := Ideal) a b (ix2 r l) : EReal) = ∑ k : Fin 7680, (a (ix2 r k) : EReal) * (b (ix2 k l) : EReal) := by
  pointwise [k0_pay3]

theorem pay4_apply (x : FVec Ideal S512x1024 .f32) (r : Fin 512) (l : Fin 1) :
    k0_pay4 (F := Ideal) x (ix2 r l) = Ideal.rsqrt (Ideal.div (∑ k : Fin 1024, (x (ix2 r k) : EReal) * (x (ix2 r k) : EReal)) c1024 + ceps) := by
  pointwise [k0_pay4]

theorem pay5_apply (x : FVec Ideal S512x1024 .f32) (r : Fin 512) (l : Fin 1024) :
    k0_pay5 (F := Ideal) x (ix2 r l) = (x (ix2 r l) : EReal) * (k0_pay4 (F := Ideal) x (ix2 r 0) : EReal) := by
  pointwise [k0_pay5]

theorem pay6_apply (a : FVec Ideal S512x7680 .bf16) (b : FVec Ideal S7680x1024 .bf16) (x : FVec Ideal S512x1024 .f32)
    (v : FVec Ideal S1x1024 .f32) (r : Fin 1) (l : Fin 1024) :
    k0_pay6 (F := Ideal) a b x v (ix2 r l)
      = (v (ix2 r l) : EReal) + ∑ k : Fin 512, (k0_pay3 (F := Ideal) a b (ix2 k l) : EReal) * (k0_pay5 (F := Ideal) x (ix2 k l) : EReal) := by
  obtain rfl : r = 0 := Subsingleton.elim _ _
  pointwise [k0_pay6]

theorem pay7_apply (a : FVec Ideal S512x7680 .bf16) (b : FVec Ideal S7680x1024 .bf16) (g : FVec Ideal S1x1024 .f32)
    (r : Fin 512) (l : Fin 1024) :
    k0_pay7 (F := Ideal) a b g (ix2 r l) = (k0_pay3 (F := Ideal) a b (ix2 r l) : EReal) * (g (ix2 0 l) : EReal) := by
  pointwise [k0_pay7]

theorem pay8_apply (a : FVec Ideal S512x7680 .bf16) (b : FVec Ideal S7680x1024 .bf16) (x : FVec Ideal S512x1024 .f32)
    (g : FVec Ideal S1x1024 .f32) (r : Fin 512) (l : Fin 1) :
    k0_pay8 (F := Ideal) a b x g (ix2 r l)
      = ∑ k : Fin 1024, (k0_pay7 (F := Ideal) a b g (ix2 r k) : EReal) * (k0_pay5 (F := Ideal) x (ix2 r k) : EReal) := by
  pointwise [k0_pay8]

theorem pay1_apply (a d : FVec Ideal S512x1 .f32) (b x g : FVec Ideal S512x1024 .f32) (r : Fin 512) (l : Fin 1024) :
    k0_pay1 (F := Ideal) a b x g d k0_pay9 (ix2 r l)
      = (g (ix2 r l) : EReal) + (a (ix2 r 0) : EReal) * ((x (ix2 r l) : EReal) - (b (ix2 r l) : EReal) * Ideal.div (d (ix2 r 0)) c1024) := by
  pointwise [k0_pay1, k0_pay9]

theorem pay2_apply (i : S8x1024.Idx) : k0_pay2 (F := Ideal) i = (0 : EReal) := by
  obtain ⟨r, l, rfl⟩ : ∃ r l, i = ix2 r l := ⟨i 0, i 1, eq_ix2 i⟩
  pointwise [k0_pay2]

/-! ### The blocks a point reads -/

section Kernel
variable (m : (ℓ : Loc nD τ sig) → Buf (Elt Ideal) ℓ)

abbrev xA (c : Dev nD) : FVec Ideal S8192x1024 .f32 := m ((c : Thread nD τ).loc main_arg0)
abbrev gA (c : Dev nD) : FVec Ideal S1024 .f32 := m ((c : Thread nD τ).loc main_arg1)
abbrev wA (c : Dev nD) : FVec Ideal S1024x7680 .f32 := m ((c : Thread nD τ).loc main_arg2)
abbrev dpA (c : Dev nD) : FVec Ideal S8192x7680 .bf16 := m ((c : Thread nD τ).loc main_arg3)
abbrev ctA (c : Dev nD) : FVec Ideal S8192x1024 .f32 := m ((c : Thread nD τ).loc main_arg4)

abbrev b0 (c : Dev nD) (t : Fin cfg0.N) : FVec Ideal S512x7680 .bf16 := iblk m c 0 t
abbrev b1 (c : Dev nD) (t : Fin cfg0.N) : FVec Ideal S7680x1024 .bf16 := iblk m c 1 t
abbrev b2 (c : Dev nD) (t : Fin cfg0.N) : FVec Ideal S512x1024 .f32 := iblk m c 2 t
abbrev b3 (c : Dev nD) (t : Fin cfg0.N) : FVec Ideal S1x1024 .f32 := iblk m c 3 t
abbrev b4 (c : Dev nD) (t : Fin cfg0.N) : FVec Ideal S512x1024 .f32 := iblk m c 4 t

/-- The host's transposed and rounded weight, at an index. -/
theorem V1_apply (c : Dev nD) (k : Fin 7680) (l : Fin 1024) :
    (V m c main_v1 : FVec Ideal S7680x1024 .bf16) (ix2 k l) = (wA m c (ix2 l k) : EReal) := by
  have e : (V m c main_v1 : FVec Ideal S7680x1024 .bf16)
      = truncf .bf16 (transpose S7680x1024 [1, 0] (wA m c) transposes_S1024x7680_S7680x1024_1_0) bitsLt_bf16_f32 := by
    show StableHlo.after hostOps0 _ _ = _
    unfold hostOps0
    after_results
  rw [e]
  pointwise

/-- The host's scale as a row, at an index. -/
theorem V2_apply (c : Dev nD) (l : Fin 1024) :
    (V m c main_v2 : FVec Ideal S1x1024 .f32) (ix2 0 l) = (gA m c (ix1 l) : EReal) := by
  have e : (V m c main_v2 : FVec Ideal S1x1024 .f32) = shapeCast S1x1024 (gA m c) shapeCasts_S1024_S1x1024 := by
    show StableHlo.after hostOps0 _ _ = _
    unfold hostOps0
    after_results
    rfl
  rw [e]
  pointwise

theorem idx_in : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0) :=
  (by decide +kernel : ∀ t : Fin grid0.N, _)

theorem b0_apply (c : Dev nD) (t : Fin cfg0.N) (r : Fin 512) (k : Fin 7680) (R : Fin 8192) (h : R.val = t.val * 512 + r.val) :
    b0 m c t (ix2 r k) = dpA m c (ix2 R k) := by
  obtain ⟨⟨e0, e1⟩, -⟩ := idx_in t
  have hb0 : (((cfg0.win 0).blk t).view.emb (ix2 r k) 0).val = win0_0.index t (0 : Fin 2) * 512 + 1 * r.val := rfl
  have hb1 : (((cfg0.win 0).blk t).view.emb (ix2 r k) 1).val = win0_0.index t (1 : Fin 2) * 7680 + 1 * k.val := rfl
  show V m c main_arg3 (((cfg0.win 0).blk t).view.emb (ix2 r k)) = _
  rw [V_main_arg3]
  show dpA m c _ = dpA m c _
  congr 1
  funext a; apply Fin.ext
  match a with
  | ⟨0, _⟩ => show (((cfg0.win 0).blk t).view.emb (ix2 r k) 0).val = R.val; rw [hb0, h, e0]; omega
  | ⟨1, _⟩ => show (((cfg0.win 0).blk t).view.emb (ix2 r k) 1).val = k.val; rw [hb1, e1]; omega

theorem b1_apply (c : Dev nD) (t : Fin cfg0.N) (k : Fin 7680) (l : Fin 1024) :
    b1 m c t (ix2 k l) = (wA m c (ix2 l k) : EReal) := by
  obtain ⟨-, ⟨e0, e1⟩, -⟩ := idx_in t
  have hb0 : (((cfg0.win 1).blk t).view.emb (ix2 k l) 0).val = win0_1.index t (0 : Fin 2) * 7680 + 1 * k.val := rfl
  have hb1 : (((cfg0.win 1).blk t).view.emb (ix2 k l) 1).val = win0_1.index t (1 : Fin 2) * 1024 + 1 * l.val := rfl
  rw [← V1_apply m c k l]
  show (V m c main_v1 : FVec Ideal S7680x1024 .bf16) (((cfg0.win 1).blk t).view.emb (ix2 k l)) = _
  congr 1
  funext a; apply Fin.ext
  match a with
  | ⟨0, _⟩ => show (((cfg0.win 1).blk t).view.emb (ix2 k l) 0).val = k.val; rw [hb0, e0]; omega
  | ⟨1, _⟩ => show (((cfg0.win 1).blk t).view.emb (ix2 k l) 1).val = l.val; rw [hb1, e1]; omega

theorem b2_apply (c : Dev nD) (t : Fin cfg0.N) (r : Fin 512) (k : Fin 1024) (R : Fin 8192) (h : R.val = t.val * 512 + r.val) :
    b2 m c t (ix2 r k) = xA m c (ix2 R k) := by
  obtain ⟨-, -, ⟨e0, e1⟩, -⟩ := idx_in t
  have hb0 : (((cfg0.win 2).blk t).view.emb (ix2 r k) 0).val = win0_2.index t (0 : Fin 2) * 512 + 1 * r.val := rfl
  have hb1 : (((cfg0.win 2).blk t).view.emb (ix2 r k) 1).val = win0_2.index t (1 : Fin 2) * 1024 + 1 * k.val := rfl
  show V m c main_arg0 (((cfg0.win 2).blk t).view.emb (ix2 r k)) = _
  rw [V_main_arg0]
  show xA m c _ = xA m c _
  congr 1
  funext a; apply Fin.ext
  match a with
  | ⟨0, _⟩ => show (((cfg0.win 2).blk t).view.emb (ix2 r k) 0).val = R.val; rw [hb0, h, e0]; omega
  | ⟨1, _⟩ => show (((cfg0.win 2).blk t).view.emb (ix2 r k) 1).val = k.val; rw [hb1, e1]; omega

theorem b3_apply (c : Dev nD) (t : Fin cfg0.N) (l : Fin 1024) :
    b3 m c t (ix2 0 l) = (gA m c (ix1 l) : EReal) := by
  obtain ⟨-, -, -, ⟨e0, e1⟩, -⟩ := idx_in t
  have hb0 : (((cfg0.win 3).blk t).view.emb (ix2 0 l) 0).val = win0_3.index t (0 : Fin 2) * 1 + 1 * 0 := rfl
  have hb1 : (((cfg0.win 3).blk t).view.emb (ix2 0 l) 1).val = win0_3.index t (1 : Fin 2) * 1024 + 1 * l.val := rfl
  rw [← V2_apply m c l]
  show (V m c main_v2 : FVec Ideal S1x1024 .f32) (((cfg0.win 3).blk t).view.emb (ix2 0 l)) = _
  congr 1
  funext a; apply Fin.ext
  match a with
  | ⟨0, _⟩ => show (((cfg0.win 3).blk t).view.emb (ix2 0 l) 0).val = 0; rw [hb0, e0]
  | ⟨1, _⟩ => show (((cfg0.win 3).blk t).view.emb (ix2 0 l) 1).val = l.val; rw [hb1, e1]; omega

theorem b4_apply (c : Dev nD) (t : Fin cfg0.N) (r : Fin 512) (k : Fin 1024) (R : Fin 8192) (h : R.val = t.val * 512 + r.val) :
    b4 m c t (ix2 r k) = ctA m c (ix2 R k) := by
  obtain ⟨-, -, -, -, ⟨e0, e1⟩, -⟩ := idx_in t
  have hb0 : (((cfg0.win 4).blk t).view.emb (ix2 r k) 0).val = win0_4.index t (0 : Fin 2) * 512 + 1 * r.val := rfl
  have hb1 : (((cfg0.win 4).blk t).view.emb (ix2 r k) 1).val = win0_4.index t (1 : Fin 2) * 1024 + 1 * k.val := rfl
  show V m c main_arg4 (((cfg0.win 4).blk t).view.emb (ix2 r k)) = _
  rw [V_main_arg4]
  show ctA m c _ = ctA m c _
  congr 1
  funext a; apply Fin.ext
  match a with
  | ⟨0, _⟩ => show (((cfg0.win 4).blk t).view.emb (ix2 r k) 0).val = R.val; rw [hb0, h, e0]; omega
  | ⟨1, _⟩ => show (((cfg0.win 4).blk t).view.emb (ix2 r k) 1).val = k.val; rw [hb1, e1]; omega

/-! ### The point's payloads, over the arrays -/

theorem p3_at (c : Dev nD) (t : Fin cfg0.N) (r : Fin 512) (l : Fin 1024) (R : Fin 8192) (h : R.val = t.val * 512 + r.val) :
    k0_pay3 (F := Ideal) (b0 m c t) (b1 m c t) (ix2 r l) = dh (wA m c) (dpA m c) R l :=
  (pay3_apply _ _ r l).trans (Finset.sum_congr rfl fun k _ =>
    congrArg₂ (· * ·) (b0_apply m c t r k R h) (b1_apply m c t k l))

theorem p4_at (c : Dev nD) (t : Fin cfg0.N) (r : Fin 512) (l : Fin 1) (R : Fin 8192) (h : R.val = t.val * 512 + r.val) :
    k0_pay4 (F := Ideal) (b2 m c t) (ix2 r l) = rs (xA m c) R :=
  (pay4_apply _ r l).trans (congrArg (fun s => Ideal.rsqrt (Ideal.div s c1024 + ceps)) (Finset.sum_congr rfl fun k _ =>
    congrArg₂ (· * ·) (b2_apply m c t r k R h) (b2_apply m c t r k R h)))

theorem p5_at (c : Dev nD) (t : Fin cfg0.N) (r : Fin 512) (l : Fin 1024) (R : Fin 8192) (h : R.val = t.val * 512 + r.val) :
    k0_pay5 (F := Ideal) (b2 m c t) (ix2 r l) = xh (xA m c) R l :=
  (pay5_apply _ r l).trans (congrArg₂ (· * ·) (b2_apply m c t r l R h) (p4_at m c t r 0 R h))

theorem p7_at (c : Dev nD) (t : Fin cfg0.N) (r : Fin 512) (l : Fin 1024) (R : Fin 8192) (h : R.val = t.val * 512 + r.val) :
    k0_pay7 (F := Ideal) (b0 m c t) (b1 m c t) (b3 m c t) (ix2 r l) = dg1 (gA m c) (wA m c) (dpA m c) R l :=
  (pay7_apply _ _ _ r l).trans (congrArg₂ (· * ·) (p3_at m c t r l R h) (b3_apply m c t l))

theorem p8_at (c : Dev nD) (t : Fin cfg0.N) (r : Fin 512) (l : Fin 1) (R : Fin 8192) (h : R.val = t.val * 512 + r.val) :
    k0_pay8 (F := Ideal) (b0 m c t) (b1 m c t) (b2 m c t) (b3 m c t) (ix2 r l)
      = ∑ k : Fin 1024, dg1 (gA m c) (wA m c) (dpA m c) R k * xh (xA m c) R k :=
  (pay8_apply _ _ _ _ r l).trans (Finset.sum_congr rfl fun k _ =>
    congrArg₂ (· * ·) (p7_at m c t r k R h) (p5_at m c t r k R h))

/-- The block of `d_x` a point leaves, over the arrays. -/
theorem dx_at (c : Dev nD) (t : Fin cfg0.N) (r : Fin 512) (l : Fin 1024) (R : Fin 8192) (h : R.val = t.val * 512 + r.val) :
    dxOf (b0 m c t) (b1 m c t) (b2 m c t) (b3 m c t) (b4 m c t) (ix2 r l)
      = DX (xA m c) (gA m c) (wA m c) (dpA m c) (ctA m c) (ix2 R l) := by
  refine (pay1_apply _ _ _ _ _ r l).trans ?_
  rw [p4_at m c t r 0 R h, p5_at m c t r l R h, p7_at m c t r l R h, p8_at m c t r 0 R h, b4_apply m c t r l R h]
  rfl

/-! ### `d_x` -/

theorem outs5 (c : Dev nD) (t : Fin cfg0.N) :
    (outsAt0 m c t.val t.isLt).1 = dxOf (b0 m c t) (b1 m c t) (b2 m c t) (b3 m c t) (b4 m c t) := by
  by_cases h0 : t.val % 16 = 0
  · rw [outsAt0_A m c t h0]
    dsimp only
    rw [out_A_5]
  · rw [outsAt0_B m c t h0]
    dsimp only
    rw [out_B_5]

theorem emb5 (t : Fin cfg0.N) (r : Fin 512) (l : Fin 1024) (R : Fin 8192) (h : R.val = t.val * 512 + r.val) :
    ((cfg0.win 5).blk t).view.emb (ix2 r l) = (ix2 R l : S8192x1024.Idx) := by
  obtain ⟨-, -, -, -, -, ⟨e0, e1⟩, -⟩ := idx_in t
  have hb0 : (((cfg0.win 5).blk t).view.emb (ix2 r l) 0).val = win0_5.index t (0 : Fin 2) * 512 + 1 * r.val := rfl
  have hb1 : (((cfg0.win 5).blk t).view.emb (ix2 r l) 1).val = win0_5.index t (1 : Fin 2) * 1024 + 1 * l.val := rfl
  funext a; apply Fin.ext
  match a with
  | ⟨0, _⟩ => show (((cfg0.win 5).blk t).view.emb (ix2 r l) 0).val = R.val; rw [hb0, h, e0]; omega
  | ⟨1, _⟩ => show (((cfg0.win 5).blk t).view.emb (ix2 r l) 1).val = l.val; rw [hb1, e1]; omega

theorem xinj5 (t : Fin cfg0.N) (y : S512x1024.Idx) : (cfg0.win 5).xinj (grid0.coords t) y = y := by
  funext a; apply Fin.ext
  match a with
  | ⟨0, _⟩ => rfl
  | ⟨1, _⟩ => rfl

theorem written5 (c : Dev nD) (t : Fin cfg0.N) (G : Buf (Elt Ideal) ((c : Thread nD τ).loc main_v3_0))
    (hG : ∀ (r : Fin 512) (l : Fin 1024) (R : Fin 8192), R.val = t.val * 512 + r.val →
      (outsAt0 m c t.val t.isLt).1 (ix2 r l) = G (ix2 R l : S8192x1024.Idx)) :
    (dats m 0 c).flushed 5 t = ((cfg0.win 5).blk t).view.read (Elt Ideal) G := by
  rw [Value.flushed5]
  funext y
  obtain ⟨r, l, rfl⟩ : ∃ (r : Fin 512) (l : Fin 1024), y = (ix2 r l : S512x1024.Idx) := ⟨y 0, y 1, eq_ix2 (n0 := 512) (n1 := 1024) y⟩
  have ht := lt_of_lt_of_eq t.isLt N_0
  have hr := r.isLt
  show (outsAt0 m c t.val t.isLt).1 ((cfg0.win 5).xinj (grid0.coords t) (ix2 r l : S512x1024.Idx)) = G (((cfg0.win 5).blk t).view.emb (ix2 r l : S512x1024.Idx))
  rw [emb5 t r l ⟨t.val * 512 + r.val, by omega⟩ rfl, xinj5 t (ix2 r l)]
  exact hG r l _ rfl

/-- Every element lies in the block of the point its row belongs to. -/
theorem cov5 (i : S8192x1024.Idx) : ∃ t : Fin cfg0.N, (cfg0.win 5).flush t = true ∧ i ∈ ((cfg0.win 5).blk t).view.set := by
  obtain ⟨R, l, rfl⟩ : ∃ (R : Fin 8192) (l : Fin 1024), i = (ix2 R l : S8192x1024.Idx) := ⟨i 0, i 1, eq_ix2 (n0 := 8192) (n1 := 1024) i⟩
  have hR := R.isLt
  have hlt : R.val / 512 < cfg0.N := lt_of_lt_of_eq (by omega : R.val / 512 < 16) N_0.symm
  refine ⟨⟨R.val / 512, hlt⟩, flush0_5 _, ?_⟩
  have e := emb5 ⟨R.val / 512, hlt⟩ ⟨R.val % 512, by omega⟩ l R (by show R.val = R.val / 512 * 512 + R.val % 512; omega)
  have h := (((cfg0.win 5).blk ⟨R.val / 512, hlt⟩).view).emb_mem_set (ix2 ⟨R.val % 512, by omega⟩ l : S512x1024.Idx)
  exact Eq.mp (congrArg (· ∈ ((cfg0.win 5).blk ⟨R.val / 512, hlt⟩).view.set) e) h

/-- The array of `d_x` the kernel leaves. -/
theorem final5 (c : Dev nD) : (dats m 0 c).arrAt 5 cfg0.N = DX (xA m c) (gA m c) (wA m c) (dpA m c) (ctA m c) :=
  (dats m 0 c).arrAt_eq_of_cover 5 (DX (xA m c) (gA m c) (wA m c) (dpA m c) (ctA m c))
    (fun t _ => written5 m c t _ (fun r l R h => by rw [outs5 m c t]; exact dx_at m c t r l R h))
    cov5

/-! ### `d_g` -/

/-- What a point adds to `d_g`. -/
def M (c : Dev nD) (n : ℕ) (l : Fin 1024) : EReal :=
  if h : n < cfg0.N then
    ∑ k : Fin 512, (k0_pay3 (F := Ideal) (b0 m c ⟨n, h⟩) (b1 m c ⟨n, h⟩) (ix2 k l) : EReal) * (k0_pay5 (F := Ideal) (b2 m c ⟨n, h⟩) (ix2 k l) : EReal)
  else 0

/-- Row 0 of the buffer of `d_g` after a point. -/
def f6 (c : Dev nD) (n : ℕ) (h : n < cfg0.N) (l : Fin 1024) : EReal := (outsAt0 m c n h).2 (ix2 0 l : S8x1024.Idx)

theorem f6_zero (c : Dev nD) (h : 0 < cfg0.N) (l : Fin 1024) : f6 m c 0 h l = M m c 0 l := by
  unfold f6
  rw [outsAt0_A m c ⟨0, h⟩ (Nat.zero_mod _)]
  dsimp only
  rw [out_A_6]
  refine (if_pos (rfl : ((ix2 0 l : S8x1024.Idx) 0).val = 0)).trans ?_
  refine (pay6_apply _ _ _ _ 0 l).trans ?_
  unfold M
  rw [dif_pos h]
  refine (congrArg (· + _) (pay2_apply _)).trans ?_
  rw [zero_add]

theorem f6_succ (c : Dev nD) (n : ℕ) (h : n + 1 < cfg0.N) (l : Fin 1024) :
    f6 m c (n + 1) h l = f6 m c n (Nat.lt_of_succ_lt h) l + M m c (n + 1) l := by
  have hN := lt_of_lt_of_eq h N_0
  unfold f6
  rw [outsAt0_B m c ⟨n + 1, h⟩ (by dsimp only; omega)]
  dsimp only
  rw [out_B_6]
  refine (if_pos (rfl : ((ix2 0 l : S8x1024.Idx) 0).val = 0)).trans ?_
  refine (pay6_apply _ _ _ _ 0 l).trans ?_
  unfold M
  rw [dif_pos h]
  rfl

theorem f6_last (c : Dev nD) (h : 15 < cfg0.N) (l : Fin 1024) :
    f6 m c 15 h l = ∑ R : Fin 8192, dh (wA m c) (dpA m c) R l * xh (xA m c) R l := by
  rw [Blocks.acc_eq (f6 m c) (M m c) (f6_zero m c) (f6_succ m c) 15 h l]
  have e : ∀ s ∈ Finset.range (15 + 1), M m c s l
      = ∑ k : Fin 512, (if h : s * 512 + k.val < 8192 then
          dh (wA m c) (dpA m c) ⟨s * 512 + k.val, h⟩ l * xh (xA m c) ⟨s * 512 + k.val, h⟩ l else (0 : EReal)) := fun s hs => by
    have hs' : s < 16 := Finset.mem_range.1 hs
    unfold M
    rw [dif_pos (lt_of_lt_of_eq hs' N_0.symm)]
    refine Finset.sum_congr rfl fun k _ => ?_
    have hk := k.isLt
    have hlt : s * 512 + k.val < 8192 := by omega
    rw [dif_pos hlt]
    exact congrArg₂ (· * ·) (p3_at m c ⟨s, lt_of_lt_of_eq hs' N_0.symm⟩ k l ⟨s * 512 + k.val, hlt⟩ (Eq.refl (s * 512 + k.val)))
      (p5_at m c ⟨s, lt_of_lt_of_eq hs' N_0.symm⟩ k l ⟨s * 512 + k.val, hlt⟩ (Eq.refl (s * 512 + k.val)))
  refine (Finset.sum_congr rfl e).trans ?_
  exact Blocks.sum_blocks (S := 16) (K := 512) (N := 8192) rfl _ _ (fun s _ k h => dif_pos h)

/-- The rows below row 0 stay zero. -/
theorem f6_low (c : Dev nD) : ∀ (n : ℕ) (h : n < cfg0.N) (y : S8x1024.Idx), (y 0).val ≠ 0 → (outsAt0 m c n h).2 y = (0 : EReal)
  | 0, h, y, hy => by
    rw [outsAt0_A m c ⟨0, h⟩ (Nat.zero_mod _)]
    dsimp only
    rw [out_A_6, if_neg hy]
    exact pay2_apply _
  | n + 1, h, y, hy => by
    have hN := lt_of_lt_of_eq h N_0
    rw [outsAt0_B m c ⟨n + 1, h⟩ (by dsimp only; omega)]
    dsimp only
    rw [out_B_6, if_neg hy]
    exact f6_low c n (Nat.lt_of_succ_lt h) y hy

theorem f6_at (c : Dev nD) (t : Fin cfg0.N) (ht : t.val = 15) (y : S8x1024.Idx) :
    (outsAt0 m c t.val t.isLt).2 y = DG (xA m c) (wA m c) (dpA m c) y := by
  unfold DG
  split_ifs with h
  · have hy : y = (ix2 0 (y 1) : S8x1024.Idx) := (eq_ix2 (n0 := 8) (n1 := 1024) y).trans (congrArg (fun r => (ix2 r (y 1) : S8x1024.Idx)) (Fin.ext h))
    obtain ⟨n, hn⟩ := t
    obtain rfl : n = 15 := ht
    refine Eq.trans ?_ (f6_last m c hn (y 1))
    unfold f6
    exact congrArg (outsAt0 m c 15 hn).2 hy
  · exact f6_low m c t.val t.isLt y h

theorem emb6 (t : Fin cfg0.N) (y : S8x1024.Idx) : ((cfg0.win 6).blk t).view.emb y = y := by
  obtain ⟨-, -, -, -, -, -, ⟨e0, e1⟩⟩ := idx_in t
  have hb0 : (((cfg0.win 6).blk t).view.emb y 0).val = win0_6.index t (0 : Fin 2) * 8 + 1 * (y 0).val := rfl
  have hb1 : (((cfg0.win 6).blk t).view.emb y 1).val = win0_6.index t (1 : Fin 2) * 1024 + 1 * (y 1).val := rfl
  funext a; apply Fin.ext
  match a with
  | ⟨0, _⟩ => show (((cfg0.win 6).blk t).view.emb y 0).val = (y 0).val; rw [hb0, e0]; omega
  | ⟨1, _⟩ => show (((cfg0.win 6).blk t).view.emb y 1).val = (y 1).val; rw [hb1, e1]; omega

theorem xinj6 (t : Fin cfg0.N) (y : S8x1024.Idx) : (cfg0.win 6).xinj (grid0.coords t) y = y := by
  funext a; apply Fin.ext
  match a with
  | ⟨0, _⟩ => rfl
  | ⟨1, _⟩ => rfl

theorem written6 (c : Dev nD) (t : Fin cfg0.N) (G : Buf (Elt Ideal) ((c : Thread nD τ).loc main_v3_1))
    (hG : ∀ y : S8x1024.Idx, (outsAt0 m c t.val t.isLt).2 y = G y) :
    (dats m 0 c).flushed 6 t = ((cfg0.win 6).blk t).view.read (Elt Ideal) G := by
  rw [Value.flushed6]
  funext y
  show (outsAt0 m c t.val t.isLt).2 ((cfg0.win 6).xinj (grid0.coords t) y) = G (((cfg0.win 6).blk t).view.emb y)
  rw [emb6 t y, xinj6 t y]
  exact hG y

def t15 : Fin cfg0.N := ⟨15, lt_of_lt_of_eq (by decide : 15 < 16) N_0.symm⟩
theorem t15_mod : t15.val % 16 = 15 := by show 15 % 16 = 15; rfl

/-- The array of `d_g` the kernel leaves. -/
theorem final6 (c : Dev nD) : (dats m 0 c).arrAt 6 cfg0.N = DG (xA m c) (wA m c) (dpA m c) :=
  (dats m 0 c).arrAt_eq_of_cover 6 (DG (xA m c) (wA m c) (dpA m c))
    (fun t hf => written6 m c t _ (fun y => f6_at m c t (by
      have h1 := (flush0_6 t).mp hf; have h2 := lt_of_lt_of_eq t.isLt N_0; omega) y))
    (fun i => ⟨t15, (flush0_6 t15).mpr t15_mod, by
      have h := (((cfg0.win 6).blk t15).view).emb_mem_set i
      rwa [emb6 t15 i] at h⟩)

end Kernel

/-! ### The reference's arrays -/

section Reference
open Cert.InXReferenceIdeal.Read

variable (x : FVec Ideal S8192x1024 .f32) (g : FVec Ideal S1024 .f32) (w : FVec Ideal S1024x7680 .f32)
  (dp : FVec Ideal S8192x7680 .bf16) (ct : FVec Ideal S8192x1024 .f32)

theorem s6 (i : Cert.InXReferenceIdeal.S8192x1.Idx) : val_main_v6 (F := Ideal) x i = den x (i 0) := by
  rw [val_main_v6_apply, val_main_v5_apply, val_main_v4_apply, val_main_v3_apply, val_main_v2_apply, val_main_v1_apply]
  show Ideal.div (Ideal.ofBits .f32 0x00000000#32 + _) c1024 + ceps = _
  rw [Ideal.ofBits_zero_f32, zero_add]
  unfold den
  refine congrArg (fun s => Ideal.div s c1024 + ceps) (Finset.sum_congr rfl fun k _ => ?_)
  show (x _ : EReal) * (x _ : EReal) = _
  congr 2 <;> (funext a; match a with | ⟨0, _⟩ => rfl | ⟨1, _⟩ => rfl)

theorem s7 (i : Cert.InXReferenceIdeal.S8192x1.Idx) : val_main_v7 (F := Ideal) x i = rs x (i 0) := by
  rw [val_main_v7_apply, s6]; rfl

theorem s12 (i : S8192x1024.Idx) : val_main_v12 (F := Ideal) x i = xh x (i 0) (i 1) := by
  rw [val_main_v12_apply, val_main_v11_apply, s7]
  show (x i : EReal) * rs x (i 0) = (x (ix2 (i 0) (i 1)) : EReal) * rs x (i 0)
  exact congrArg (fun j => (x j : EReal) * rs x (i 0)) (eq_ix2 i)

theorem s18 (i : S8192x1024.Idx) : val_main_v18 (F := Ideal) w dp i = dh w dp (i 0) (i 1) := by
  rw [val_main_v18_apply]
  unfold dh
  refine Finset.sum_congr rfl fun k _ => ?_
  rw [val_main_v17_apply]
  show (dp _ : EReal) * (w _ : EReal) = _
  congr 2 <;> (funext a; match a with | ⟨0, _⟩ => rfl | ⟨1, _⟩ => rfl)

theorem s23 (i : S8192x1024.Idx) : val_main_v23 (F := Ideal) g w dp i = dg1 g w dp (i 0) (i 1) := by
  rw [val_main_v23_apply, s18, val_main_v22_apply]
  show dh w dp (i 0) (i 1) * (val_main_v13 (F := Ideal) g _ : EReal) = _
  unfold dg1
  rw [val_main_v13_apply]
  refine congrArg (fun j => dh w dp (i 0) (i 1) * (g j : EReal)) ?_
  funext a; match a with | ⟨0, _⟩ => rfl

/-- The sum over the rows, as the reference takes it. -/
theorem s20 (i : S1024.Idx) : val_main_v20 (F := Ideal) x w dp i = ∑ R : Fin 8192, dh w dp R (i 0) * xh x R (i 0) := by
  rw [val_main_v20_apply]
  show Ideal.ofBits .f32 0x00000000#32 + _ = _
  rw [Ideal.ofBits_zero_f32, zero_add]
  have e : ∀ j : S8192x1024.Idx, val_main_v19 (F := Ideal) x w dp j = dh w dp (j 0) (j 1) * xh x (j 0) (j 1) := fun j => by
    rw [val_main_v19_apply, s12, s18]
    exact mul_comm (xh x (j 0) (j 1)) (dh w dp (j 0) (j 1))
  exact Finset.sum_congr rfl fun k _ => e _

theorem s40 (i : S1x1024.Idx) : val_main_v40 (F := Ideal) x w dp i = ∑ R : Fin 8192, dh w dp R (i 1) * xh x R (i 1) := by
  rw [val_main_v40_apply, val_main_v24_apply, Fin.sum_univ_one, val_main_v21_apply, s20]
  show Ideal.ofBits .f32 0x00000000#32 + _ = _
  rw [Ideal.ofBits_zero_f32, zero_add]
  refine congrArg (fun q : Fin 1024 => ∑ R : Fin 8192, dh w dp R q * xh x R q) (Fin.ext ?_)
  show 0 * 1024 + (i 1).val = (i 1).val
  omega

/-- The reference's `d_g` is the kernel's. -/
theorem ref_dg : val_main_v41 (F := Ideal) x w dp = DG x w dp := by
  funext i
  obtain ⟨r, l, rfl⟩ : ∃ r l, i = ix2 r l := ⟨i 0, i 1, eq_ix2 i⟩
  unfold val_main_v41 DG
  rw [pad_apply]
  by_cases h : r.val = 0
  · rw [dif_pos, if_pos]
    · rw [s40]
      refine congrArg (fun q : Fin 1024 => ∑ R : Fin 8192, dh w dp R q * xh x R q) (Fin.ext ?_)
      show (l.val - 0) / (0 + 1) = l.val
      omega
    · exact h
    · intro a
      match a with
      | ⟨0, _⟩ => exact ⟨Nat.zero_le _, by show (r.val - 0) % (0 + 1) = 0; omega, by show (r.val - 0) / (0 + 1) < 1; omega⟩
      | ⟨1, _⟩ => exact ⟨Nat.zero_le _, by show (l.val - 0) % (0 + 1) = 0; omega, by show (l.val - 0) / (0 + 1) < 1024; have := l.isLt; omega⟩
  · rw [dif_neg, if_neg]
    · rw [val_main_call0_v0_apply]
      show (((0#32 : BitVec 32).toInt : ℝ) : EReal) = 0
      simp
    · exact h
    · intro hh
      have h2 : (r.val - 0) / (0 + 1) < 1 := (hh (0 : Fin 2)).2.2
      omega

/-- The mean square's share of the reference's `d_x`, before the factor `2 x`. -/
def Q (R : Fin 8192) : EReal :=
  Ideal.div ((∑ k : Fin 1024, (x (ix2 R k) : EReal) * dg1 g w dp R k)
    * (Ideal.ofBits .f32 0xBF000000#32 * Ideal.div (rs x R) (den x R))) c1024

theorem s35 (i : S8192x1024.Idx) : val_main_v35 (F := Ideal) x g w dp i = Q x g w dp (i 0) := by
  rw [val_main_v35_apply, val_main_v34_apply, Fin.sum_univ_one, val_main_v33_apply, val_main_v32_apply, val_main_v31_apply,
    val_main_v27_apply, val_main_v26_apply, val_main_v10_apply, val_main_v9_apply, val_main_v8_apply, s7, s6]
  show Ideal.ofBits .f32 0x00000000#32 + Ideal.div ((Ideal.ofBits .f32 0x00000000#32 + ∑ k : Fin 1024, (val_main_v25 (F := Ideal) x g w dp (idx_main_v26 _ k) : EReal))
    * (Ideal.ofBits .f32 0xBF000000#32 * Ideal.div (rs x (i 0)) (den x (i 0)))) c1024 = _
  rw [Ideal.ofBits_zero_f32, zero_add, zero_add]
  unfold Q
  refine congrArg (fun s => Ideal.div (s * (Ideal.ofBits .f32 0xBF000000#32 * Ideal.div (rs x (i 0)) (den x (i 0)))) c1024)
    (Finset.sum_congr rfl fun k _ => ?_)
  have e : ∀ j : S8192x1024.Idx, val_main_v25 (F := Ideal) x g w dp j = (x j : EReal) * dg1 g w dp (j 0) (j 1) := fun j => by
    rw [val_main_v25_apply, s23]; rfl
  refine (e _).trans ?_
  refine congrArg (fun j : S8192x1024.Idx => (x j : EReal) * dg1 g w dp (j 0) (j 1)) (?_ : _ = (ix2 (i 0) k : S8192x1024.Idx))
  funext a; apply Fin.ext
  match a with
  | ⟨0, _⟩ => show (i 0).val * 1 + 0 = (i 0).val; omega
  | ⟨1, _⟩ => rfl

theorem ref_dx (i : S8192x1024.Idx) : val_main_v39 (F := Ideal) x g w dp ct i
    = (((ct i : EReal) + dg1 g w dp (i 0) (i 1) * rs x (i 0)) + (x i : EReal) * Q x g w dp (i 0)) + Q x g w dp (i 0) * (x i : EReal) := by
  rw [val_main_v39_apply, val_main_v38_apply, val_main_v37_apply, val_main_v36_apply, s35,
    val_main_v30_apply, val_main_v29_apply, val_main_v28_apply, s7, s23]
  rfl

/-- A sum of reals, as the ideal scalars hold it. -/
theorem sum_coe {n : ℕ} (f : Fin n → ℝ) : ∑ k, ((f k : ℝ) : EReal) = ((∑ k, f k : ℝ) : EReal) := by
  induction (Finset.univ : Finset (Fin n)) using Finset.induction_on with
  | empty => simp
  | insert a s ha ih => rw [Finset.sum_insert ha, Finset.sum_insert ha, EReal.coe_add, ih]

theorem k1024 : c1024 = ((1024 : ℝ) : EReal) := by
  simp [c1024, Ideal.ofBits, Ideal.ieee]; rw [← EReal.coe_mul]; norm_num

theorem kmh : Ideal.ofBits .f32 0xBF000000#32 = ((-(1 / 2) : ℝ) : EReal) := by
  rw [← Ideal.ofBits_def]; exact Up.k_mhalf

/-- The constant under the root, as a real. -/
def er : ℝ := 8796093 / 8796093022208
theorem er_pos : 0 < er := by norm_num [er]
theorem keps : ceps = ((er : ℝ) : EReal) := by
  simp [ceps, Ideal.ofBits, Ideal.ieee, er]; rw [← EReal.coe_mul]; norm_num

/-- Over finite rows the kernel's `d_x` is the reference's. -/
theorem dx_eq (hx : ∀ i, ∃ r : ℝ, (x i : EReal) = (r : EReal)) (hg : ∀ i, ∃ r : ℝ, (g i : EReal) = (r : EReal))
    (hw : ∀ i, ∃ r : ℝ, (w i : EReal) = (r : EReal)) (hdp : ∀ i, ∃ r : ℝ, (dp i : EReal) = (r : EReal)) :
    val_main_v39 (F := Ideal) x g w dp ct = DX x g w dp ct := by
  choose xr hx using hx
  choose gr hg using hg
  choose wr hw using hw
  choose dr hdp using hdp
  funext i
  rw [ref_dx]
  set R : Fin 8192 := i 0 with hR
  set l : Fin 1024 := i 1 with hl
  have ei : i = ix2 R l := eq_ix2 i
  -- the row's reals
  have hdh : ∀ j, dh w dp R j = ((∑ k : Fin 7680, dr (ix2 R k) * wr (ix2 j k) : ℝ) : EReal) := fun j => by
    unfold dh
    rw [← sum_coe]
    exact Finset.sum_congr rfl fun k _ => by rw [hdp, hw, EReal.coe_mul]
  obtain ⟨d, hd⟩ : ∃ d : Fin 1024 → ℝ, ∀ j, dg1 g w dp R j = ((d j : ℝ) : EReal) :=
    ⟨fun j => (∑ k : Fin 7680, dr (ix2 R k) * wr (ix2 j k)) * gr (ix1 j), fun j => by
      unfold dg1; rw [hdh, hg, EReal.coe_mul]⟩
  obtain ⟨v, hv0, hv⟩ : ∃ v : ℝ, 0 < v ∧ den x R = ((v : ℝ) : EReal) := by
    refine ⟨(∑ k : Fin 1024, xr (ix2 R k) * xr (ix2 R k)) / 1024 + er, ?_, ?_⟩
    · have h1 : 0 ≤ ∑ k : Fin 1024, xr (ix2 R k) * xr (ix2 R k) := Finset.sum_nonneg fun k _ => mul_self_nonneg _
      have h2 := er_pos
      positivity
    · unfold den
      have : ∑ k : Fin 1024, (x (ix2 R k) : EReal) * (x (ix2 R k) : EReal) = ((∑ k : Fin 1024, xr (ix2 R k) * xr (ix2 R k) : ℝ) : EReal) := by
        rw [← sum_coe]
        exact Finset.sum_congr rfl fun k _ => by rw [hx, EReal.coe_mul]
      rw [this, k1024, Up.e_div _ (by norm_num : (1024 : ℝ) ≠ 0), keps, ← EReal.coe_add]
  have hs : rs x R = (((Real.sqrt v)⁻¹ : ℝ) : EReal) := by unfold rs; rw [hv, Up.e_rsqrt hv0]
  have hss : (Real.sqrt v)⁻¹ * (Real.sqrt v)⁻¹ = v⁻¹ := by rw [← mul_inv, Real.mul_self_sqrt hv0.le]
  set s : ℝ := (Real.sqrt v)⁻¹ with hsdef
  have hxh : ∀ j, xh x R j = ((xr (ix2 R j) * s : ℝ) : EReal) := fun j => by unfold xh; rw [hs, hx, EReal.coe_mul]
  have hT : ∑ k : Fin 1024, (x (ix2 R k) : EReal) * dg1 g w dp R k = ((∑ k : Fin 1024, xr (ix2 R k) * d k : ℝ) : EReal) := by
    rw [← sum_coe]
    exact Finset.sum_congr rfl fun k _ => by rw [hx, hd, EReal.coe_mul]
  have hT' : ∑ k : Fin 1024, dg1 g w dp R k * xh x R k = ((s * ∑ k : Fin 1024, xr (ix2 R k) * d k : ℝ) : EReal) := by
    rw [Finset.mul_sum, ← sum_coe]
    exact Finset.sum_congr rfl fun k _ => by rw [hxh, hd, ← EReal.coe_mul]; congr 1; ring
  set T : ℝ := ∑ k : Fin 1024, xr (ix2 R k) * d k with hTdef
  have hQ : Q x g w dp R = ((T * (-(1 / 2) * (s / v)) / 1024 : ℝ) : EReal) := by
    unfold Q
    rw [hT, hs, hv, Up.e_div _ hv0.ne', kmh, ← EReal.coe_mul, ← EReal.coe_mul, k1024, Up.e_div _ (by norm_num : (1024 : ℝ) ≠ 0)]
  show _ = (ct i : EReal) + rs x R * (dg1 g w dp R l - xh x R l * Ideal.div (∑ k : Fin 1024, dg1 g w dp R k * xh x R k) c1024)
  rw [hQ, hs, hd, hxh, hT', k1024, Up.e_div _ (by norm_num : (1024 : ℝ) ≠ 0), hx i, ei]
  simp only [← EReal.coe_mul, ← EReal.coe_sub]
  rw [add_assoc, add_assoc, ← EReal.coe_add, ← EReal.coe_add]
  refine congrArg (fun z : ℝ => (ct (ix2 R l) : EReal) + (z : EReal)) ?_
  rw [div_eq_mul_inv s v, ← hss]
  ring

end Reference

/-! ### The precondition -/

/-- An ideal scalar whose magnitude the comparison finds below infinity is a real. -/
theorem real_of_lt {φ : FTy} (a : Ideal φ) (h : Ideal.cmp .olt (max (a : EReal) (-(a : EReal))) (Ideal.ofBits .f32 0x7F800000#32) = 1#1) :
    ∃ r : ℝ, (a : EReal) = (r : EReal) := by
  have htop : Ideal.ofBits .f32 0x7F800000#32 = ⊤ := by simp [Ideal.ofBits, Ideal.ieee]
  rw [htop] at h
  unfold Ideal.cmp at h
  have hlt : max (a : EReal) (-(a : EReal)) < ⊤ := by
    by_contra hn
    simp [hn] at h
  rw [max_lt_iff] at hlt
  refine ⟨(a : EReal).toReal, (EReal.coe_toReal hlt.1.ne ?_).symm⟩
  intro hb
  have h2 := hlt.2
  rw [hb] at h2
  simp at h2

section Pre
variable [Cert.Pre_finite_x.Facts]

/-- The precondition gives real elements. -/
theorem finite_of (x : FVec Ideal S8192x1024 .f32) (g : FVec Ideal S1024 .f32) (w : FVec Ideal S1024x7680 .f32)
    (dp : FVec Ideal S8192x7680 .bf16) (ct : FVec Ideal S8192x1024 .f32)
    (h0 : (Cert.Pre_finite_x.fn (F := Ideal) x g w dp ct).1 = fun _ => 1#1)
    (h1 : (Cert.Pre_finite_x.fn (F := Ideal) x g w dp ct).2.1 = fun _ => 1#1)
    (h2 : (Cert.Pre_finite_x.fn (F := Ideal) x g w dp ct).2.2.1 = fun _ => 1#1)
    (h3 : (Cert.Pre_finite_x.fn (F := Ideal) x g w dp ct).2.2.2.1 = fun _ => 1#1) :
    (∀ i, ∃ r : ℝ, (x i : EReal) = (r : EReal)) ∧ (∀ i, ∃ r : ℝ, (g i : EReal) = (r : EReal))
      ∧ (∀ i, ∃ r : ℝ, (w i : EReal) = (r : EReal)) ∧ (∀ i, ∃ r : ℝ, (dp i : EReal) = (r : EReal)) :=
  ⟨fun i => real_of_lt (φ := .f32) (x i) (congrFun h0 i), fun i => real_of_lt (φ := .f32) (g i) (congrFun h1 i), fun i => real_of_lt (φ := .f32) (w i) (congrFun h2 i),
    fun i => real_of_lt (φ := .bf16) (dp i) (congrFun h3 i)⟩

end Pre

end Cert.InXVal
-- ==== Proof.InXAOpen.lean ====
module

public import proofs.«01_k».proof.Proof.Blocks
public import proofs.«01_k».proof.Proof.Gen.InXAIdeal.Frame
public import Idealize.ShloMosaic.Lib.Pointwise

@[expose] public section

noncomputable section

namespace Cert.InXAOpen

open Cert.InXAIdeal Cert.InXAIdeal.Gen Idealize.ShloMosaic Idealize.ShloMosaic.TcCoe Idealize.SL.Sem

theorem hz : (![0, 0] : Fin 2 → Nat) = fun _ => 0 := funext fun a => by fin_cases a <;> rfl

/-- The block of `d_x` from the point's blocks: the cotangent, plus the gradient through the normalisation. -/
def dxOf (x0 : Vec Ideal S512x7680 .bf16) (x1 : Vec Ideal S7680x1024 .bf16) (x2 : Vec Ideal S512x1024 .f32)
    (x3 : Vec Ideal S1x1024 .f32) (x4 : Vec Ideal S512x1024 .f32) : FVec Ideal S512x1024 .f32 :=
  k0_pay1 (F := Ideal) (k0_pay4 x2) (k0_pay5 x2) (k0_pay7 x0 x1 x3) x4 (k0_pay8 x0 x1 x2 x3) k0_pay9

/-- Row 0 of an array of eight rows. -/
def row0 (x : FVec Ideal S8x1024 .f32) : FVec Ideal S1x1024 .f32 := fun i => x (ix2 0 (i 1))

/-- The rectangle of row 0. -/
abbrev r0 : Rect S8x1024 := Rect.unit (s := S8x1024) ![0, 0] S1x1024.size inb_S8x1024_S1x1024_0_0

theorem ld_r0 (x : Vec Ideal S8x1024 .f32) :
    @Eq (Vec Ideal S1x1024 .f32) (View.ld (Val := Elt Ideal) (e' := .f32) x r0) (row0 x) := by
  funext i
  show x _ = x _
  congr 1
  funext a; apply Fin.ext
  match a with
  | ⟨0, _⟩ => show 0 + 1 * (i 0).val = 0; have h : (i 0).val < 1 := (i 0).isLt; omega
  | ⟨1, _⟩ => show 0 + 1 * (i 1).val = (i 1).val; omega

/-- Row 0 read back from a buffer just written whole. -/
theorem readCov_r0 {κ : Kind} {sp : Space} (v : View sig κ sp S8x1024 .f32) (inb : ∀ a, (![0, 0] : Fin 2 → Nat) a + S8x1024.size a ≤ S8x1024.size a)
    (w : FVec Ideal S8x1024 .f32) :
    @Eq (Vec Ideal S1x1024 .f32) (v.readCov (Val := Elt Ideal) [⟨Rect.unit (s := S8x1024) ![0, 0] S8x1024.size inb, w⟩] r0.toLoadRect) (row0 w) := by
  have hc := View.readCov_eq_canon_ld (Val := Elt Ideal) v [⟨Rect.unit (s := S8x1024) ![0, 0] S8x1024.size inb, w⟩] r0
    (fun y => ⟨_, List.mem_singleton_self _, View.mem_set_unit_zero (S := S8x1024) hz inb y⟩)
  refine hc.trans ?_
  rw [View.canon_unit_zero (S := S8x1024) hz]
  exact ld_r0 w

theorem r0_emb (y : S8x1024.Idx) (h : (y 0).val = 0) : y = r0.emb (ix2 0 (y 1) : S1x1024.Idx) := by
  funext a; apply Fin.ext
  match a with
  | ⟨0, _⟩ => show (y 0).val = 0 + 1 * 0; omega
  | ⟨1, _⟩ => show (y 1).val = 0 + 1 * (y 1).val; omega

theorem r0_not (y : S8x1024.Idx) (h : (y 0).val ≠ 0) : y ∉ r0.set := by
  rw [Rect.mem_set_unit]
  intro hh
  have h2 : (y 0).val < 0 + 1 := (hh 0).2
  omega

/-- What a point leaves in the buffer of `d_x`. -/
theorem out_A_5 (c : Dev nD) (i : grid0.Coords) (arg1 : Memref sig .tc .vmem S512x7680 .bf16) (harg1 : arg1.IsWhole) (arg2 : Memref sig .tc .vmem S7680x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1024 .f32) (harg7 : arg7.IsWhole) (hc0 : cond0_0 i)
    (x0 : Vec Ideal S512x7680 .bf16) (x1 : Vec Ideal S7680x1024 .bf16) (x2 : Vec Ideal S512x1024 .f32) (x3 : Vec Ideal S1x1024 .f32) (x4 : Vec Ideal S512x1024 .f32) : out0_A_5 c i arg1 harg1 arg2 harg2 arg3 harg3 arg4 harg4 arg5 harg5 arg6 harg6 arg7 harg7 hc0 x0 x1 x2 x3 x4 = dxOf x0 x1 x2 x3 x4 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  try sl_unfold_words
  rw [View.canon_unit_zero hz]
  simp only [View.readAt_eq_ld, harg1.read_unread, harg2.read_unread, harg3.read_unread, harg4.read_unread, harg5.read_unread, harg6.read_unread, harg7.read_unread, View.ld_unit_zero (S := S512x7680) hz, View.ld_unit_zero (S := S7680x1024) hz, View.ld_unit_zero (S := S512x1024) hz, View.ld_unit_zero (S := S1x1024) hz, shapeCast_self]
  rfl

/-- What a point leaves in the buffer of `d_x`. -/
theorem out_B_5 (c : Dev nD) (i : grid0.Coords) (arg1 : Memref sig .tc .vmem S512x7680 .bf16) (harg1 : arg1.IsWhole) (arg2 : Memref sig .tc .vmem S7680x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1024 .f32) (harg7 : arg7.IsWhole) (hc0 : ¬cond0_0 i)
    (x0 : Vec Ideal S512x7680 .bf16) (x1 : Vec Ideal S7680x1024 .bf16) (x2 : Vec Ideal S512x1024 .f32) (x3 : Vec Ideal S1x1024 .f32) (x4 : Vec Ideal S512x1024 .f32) (xo6 : Vec Ideal S8x1024 .f32) : out0_B_5 c i arg1 harg1 arg2 harg2 arg3 harg3 arg4 harg4 arg5 harg5 arg6 harg6 arg7 harg7 hc0 x0 x1 x2 x3 x4 xo6 = dxOf x0 x1 x2 x3 x4 := by
  unfold out0_B_5
  rw [View.read_writes_eq_canon _ _ _ (cover0_B_5 c i arg1 harg1 arg2 harg2 arg3 harg3 arg4 harg4 arg5 harg5 arg6 harg6 arg7 harg7 hc0 x0 x1 x2 x3 x4 xo6)]
  unfold kernelRun0_B
  dsimp only
  try sl_unfold_words
  rw [View.canon_unit_zero hz]
  simp only [View.readAt_eq_ld, harg1.read_unread, harg2.read_unread, harg3.read_unread, harg4.read_unread, harg5.read_unread, harg6.read_unread, harg7.read_unread, View.ld_unit_zero (S := S512x7680) hz, View.ld_unit_zero (S := S7680x1024) hz, View.ld_unit_zero (S := S512x1024) hz, View.ld_unit_zero (S := S1x1024) hz, shapeCast_self]
  rfl

/-- At the first point the buffer of `d_g` holds the point's row sum over zero in row 0, zero elsewhere. -/
theorem out_A_6 (c : Dev nD) (i : grid0.Coords) (arg1 : Memref sig .tc .vmem S512x7680 .bf16) (harg1 : arg1.IsWhole) (arg2 : Memref sig .tc .vmem S7680x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1024 .f32) (harg7 : arg7.IsWhole) (hc0 : cond0_0 i)
    (x0 : Vec Ideal S512x7680 .bf16) (x1 : Vec Ideal S7680x1024 .bf16) (x2 : Vec Ideal S512x1024 .f32) (x3 : Vec Ideal S1x1024 .f32) (x4 : Vec Ideal S512x1024 .f32) (y : S8x1024.Idx) :
    out0_A_6 c i arg1 harg1 arg2 harg2 arg3 harg3 arg4 harg4 arg5 harg5 arg6 harg6 arg7 harg7 hc0 x0 x1 x2 x3 x4 y
      = if (y 0).val = 0 then k0_pay6 (F := Ideal) x0 x1 x2 (row0 (k0_pay2 (F := Ideal))) (ix2 0 (y 1)) else k0_pay2 (F := Ideal) y := by
  unfold out0_A_6
  rw [View.read_writes_eq_canon _ _ _ (cover0_A_6 c i arg1 harg1 arg2 harg2 arg3 harg3 arg4 harg4 arg5 harg5 arg6 harg6 arg7 harg7 hc0 x0 x1 x2 x3 x4)]
  unfold kernelRun0_A
  dsimp only
  try sl_unfold_words
  split_ifs with h
  · conv_lhs => rw [r0_emb y h]
    refine (View.canon_cons_emb (Val := Elt Ideal) r0 _ _ _).trans ?_
    simp only [View.readAt_eq_ld, harg1.read_unread, harg2.read_unread, harg3.read_unread, harg4.read_unread, harg5.read_unread, harg6.read_unread, harg7.read_unread, View.ld_unit_zero (S := S512x7680) hz, View.ld_unit_zero (S := S7680x1024) hz, View.ld_unit_zero (S := S512x1024) hz, View.ld_unit_zero (S := S1x1024) hz, shapeCast_self]
    exact congrArg (fun v => k0_pay6 (F := Ideal) x0 x1 x2 v (ix2 0 (y 1))) (readCov_r0 _ inb_S8x1024_S8x1024_0_0 (k0_pay2 (F := Ideal)))
  · refine (View.canon_cons_of_not_mem (Val := Elt Ideal) ⟨r0, _⟩ _ (r0_not y h)).trans ?_
    rw [View.canon_unit_zero hz]

/-- At a later point row 0 of the buffer of `d_g` holds the point's row sum added to what was there, the rest is kept. -/
theorem out_B_6 (c : Dev nD) (i : grid0.Coords) (arg1 : Memref sig .tc .vmem S512x7680 .bf16) (harg1 : arg1.IsWhole) (arg2 : Memref sig .tc .vmem S7680x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1024 .f32) (harg7 : arg7.IsWhole) (hc0 : ¬cond0_0 i)
    (x0 : Vec Ideal S512x7680 .bf16) (x1 : Vec Ideal S7680x1024 .bf16) (x2 : Vec Ideal S512x1024 .f32) (x3 : Vec Ideal S1x1024 .f32) (x4 : Vec Ideal S512x1024 .f32) (xo6 : Vec Ideal S8x1024 .f32) (y : S8x1024.Idx) :
    out0_B_6 c i arg1 harg1 arg2 harg2 arg3 harg3 arg4 harg4 arg5 harg5 arg6 harg6 arg7 harg7 hc0 x0 x1 x2 x3 x4 xo6 y
      = if (y 0).val = 0 then k0_pay6 (F := Ideal) x0 x1 x2 (row0 xo6) (ix2 0 (y 1)) else xo6 y := by
  unfold out0_B_6
  unfold kernelRun0_B
  dsimp only
  try sl_unfold_words
  split_ifs with h
  · conv_lhs => rw [r0_emb y h]
    rw [View.read_writes_cons_emb]
    simp only [View.readAt_eq_ld, harg1.read_unread, harg2.read_unread, harg3.read_unread, harg4.read_unread, harg5.read_unread, harg6.read_unread, harg7.read_unread, View.ld_unit_zero (S := S512x7680) hz, View.ld_unit_zero (S := S7680x1024) hz, View.ld_unit_zero (S := S512x1024) hz, View.ld_unit_zero (S := S1x1024) hz, shapeCast_self]
    exact congrArg (fun v => k0_pay6 (F := Ideal) x0 x1 x2 v (ix2 0 (y 1))) (ld_r0 xo6)
  · rw [View.read_writes_apply_of_forall_not_mem _ _ y _ (fun p hp => by
      rw [List.mem_singleton.1 hp]; exact r0_not y h), harg7.read_unread]

end Cert.InXAOpen

end
-- ==== Proof.InXAVal.lean ====
module

public import proofs.«01_k».proof.Proof.InXAOpen
public import proofs.«01_k».proof.Proof.Up
public import proofs.«01_k».proof.Proof.Gen.InXAReferenceIdeal.Read
public import proofs.«01_k».proof.Pre_finite_x

@[expose] public section

noncomputable section

namespace Cert.InXAVal

open Cert.InXAIdeal Cert.InXAIdeal.Gen Cert.InXAOpen Idealize.ShloMosaic Idealize.ShloMosaic.TcCoe Idealize.SL.Sem

/-! ### The rows of the piece -/

/-- The piece's rows of an array as wide as the stream, and of one as wide as the projection. -/
abbrev TX : Shape := Cert.InXAReferenceIdeal.S2560x1024
abbrev TP : Shape := Cert.InXAReferenceIdeal.S2560x7680
/-- A row of the piece among all rows. -/
abbrev up (R : Fin 2560) : Fin 8192 := ⟨0 + R.val, by have := R.isLt; omega⟩
abbrev cutX (x : FVec Ideal S8192x1024 .f32) : FVec Ideal TX .f32 := fun i => x (ix2 (up (i 0)) (i 1))
abbrev cutP (x : FVec Ideal S8192x7680 .bf16) : FVec Ideal TP .bf16 := fun i => x (ix2 (up (i 0)) (i 1))

/-! ### The function both programs compute, row by row -/

/-- The divisor 1024, as the programs write it. -/
abbrev c1024 : EReal := Ideal.ofBits .f32 0x44800000#32
/-- The constant added under the root. -/
abbrev ceps : EReal := Ideal.ofBits .f32 0x358637BD#32

/-- The gradient of the normalised rows: the cotangent against the transposed weight. -/
def dh (w : FVec Ideal S1024x7680 .f32) (dp : FVec Ideal TP .bf16) (R : Fin 2560) (l : Fin 1024) : EReal :=
  ∑ k : Fin 7680, (dp (ix2 R k) : EReal) * (w (ix2 l k) : EReal)
/-- A row's mean square plus the constant. -/
def den (x : FVec Ideal TX .f32) (R : Fin 2560) : EReal :=
  Ideal.div (∑ k : Fin 1024, (x (ix2 R k) : EReal) * (x (ix2 R k) : EReal)) c1024 + ceps
/-- A row's reciprocal root mean square. -/
def rs (x : FVec Ideal TX .f32) (R : Fin 2560) : EReal := Ideal.rsqrt (den x R)
/-- A normalised element. -/
def xh (x : FVec Ideal TX .f32) (R : Fin 2560) (l : Fin 1024) : EReal := (x (ix2 R l) : EReal) * rs x R
/-- The gradient before the normalisation's scale. -/
def dg1 (g : FVec Ideal S1024 .f32) (w : FVec Ideal S1024x7680 .f32) (dp : FVec Ideal TP .bf16) (R : Fin 2560)
    (l : Fin 1024) : EReal := dh w dp R l * (g (ix1 l) : EReal)
/-- The kernel's `d_x`. -/
def DX (x : FVec Ideal TX .f32) (g : FVec Ideal S1024 .f32) (w : FVec Ideal S1024x7680 .f32)
    (dp : FVec Ideal TP .bf16) (ct : FVec Ideal TX .f32) : FVec Ideal TX .f32 := fun i =>
  (ct i : EReal) + rs x (i 0) * (dg1 g w dp (i 0) (i 1) - xh x (i 0) (i 1)
    * Ideal.div (∑ k : Fin 1024, dg1 g w dp (i 0) k * xh x (i 0) k) c1024)
/-- The kernel's `d_g`: the sum over the rows in row 0, zero below. -/
def DG (x : FVec Ideal TX .f32) (w : FVec Ideal S1024x7680 .f32) (dp : FVec Ideal TP .bf16) :
    FVec Ideal S8x1024 .f32 := fun i =>
  if (i 0).val = 0 then ∑ R : Fin 2560, dh w dp R (i 1) * xh x R (i 1) else (0 : EReal)

/-! ### The point's payloads, at an index -/

theorem pay3_apply (a : FVec Ideal S512x7680 .bf16) (b : FVec Ideal S7680x1024 .bf16) (r : Fin 512) (l : Fin 1024) :
    (k0_pay3 (F := Ideal) a b (ix2 r l) : EReal) = ∑ k : Fin 7680, (a (ix2 r k) : EReal) * (b (ix2 k l) : EReal) := by
  pointwise [k0_pay3]

theorem pay4_apply (x : FVec Ideal S512x1024 .f32) (r : Fin 512) (l : Fin 1) :
    k0_pay4 (F := Ideal) x (ix2 r l) = Ideal.rsqrt (Ideal.div (∑ k : Fin 1024, (x (ix2 r k) : EReal) * (x (ix2 r k) : EReal)) c1024 + ceps) := by
  pointwise [k0_pay4]

theorem pay5_apply (x : FVec Ideal S512x1024 .f32) (r : Fin 512) (l : Fin 1024) :
    k0_pay5 (F := Ideal) x (ix2 r l) = (x (ix2 r l) : EReal) * (k0_pay4 (F := Ideal) x (ix2 r 0) : EReal) := by
  pointwise [k0_pay5]

theorem pay6_apply (a : FVec Ideal S512x7680 .bf16) (b : FVec Ideal S7680x1024 .bf16) (x : FVec Ideal S512x1024 .f32)
    (v : FVec Ideal S1x1024 .f32) (r : Fin 1) (l : Fin 1024) :
    k0_pay6 (F := Ideal) a b x v (ix2 r l)
      = (v (ix2 r l) : EReal) + ∑ k : Fin 512, (k0_pay3 (F := Ideal) a b (ix2 k l) : EReal) * (k0_pay5 (F := Ideal) x (ix2 k l) : EReal) := by
  obtain rfl : r = 0 := Subsingleton.elim _ _
  pointwise [k0_pay6]

theorem pay7_apply (a : FVec Ideal S512x7680 .bf16) (b : FVec Ideal S7680x1024 .bf16) (g : FVec Ideal S1x1024 .f32)
    (r : Fin 512) (l : Fin 1024) :
    k0_pay7 (F := Ideal) a b g (ix2 r l) = (k0_pay3 (F := Ideal) a b (ix2 r l) : EReal) * (g (ix2 0 l) : EReal) := by
  pointwise [k0_pay7]

theorem pay8_apply (a : FVec Ideal S512x7680 .bf16) (b : FVec Ideal S7680x1024 .bf16) (x : FVec Ideal S512x1024 .f32)
    (g : FVec Ideal S1x1024 .f32) (r : Fin 512) (l : Fin 1) :
    k0_pay8 (F := Ideal) a b x g (ix2 r l)
      = ∑ k : Fin 1024, (k0_pay7 (F := Ideal) a b g (ix2 r k) : EReal) * (k0_pay5 (F := Ideal) x (ix2 r k) : EReal) := by
  pointwise [k0_pay8]

theorem pay1_apply (a d : FVec Ideal S512x1 .f32) (b x g : FVec Ideal S512x1024 .f32) (r : Fin 512) (l : Fin 1024) :
    k0_pay1 (F := Ideal) a b x g d k0_pay9 (ix2 r l)
      = (g (ix2 r l) : EReal) + (a (ix2 r 0) : EReal) * ((x (ix2 r l) : EReal) - (b (ix2 r l) : EReal) * Ideal.div (d (ix2 r 0)) c1024) := by
  pointwise [k0_pay1, k0_pay9]

theorem pay2_apply (i : S8x1024.Idx) : k0_pay2 (F := Ideal) i = (0 : EReal) := by
  obtain ⟨r, l, rfl⟩ : ∃ r l, i = ix2 r l := ⟨i 0, i 1, eq_ix2 i⟩
  pointwise [k0_pay2]

/-! ### The blocks a point reads -/

section Kernel
variable (m : (ℓ : Loc nD τ sig) → Buf (Elt Ideal) ℓ)

abbrev xF (c : Dev nD) : FVec Ideal S8192x1024 .f32 := m ((c : Thread nD τ).loc main_arg0)
abbrev gA (c : Dev nD) : FVec Ideal S1024 .f32 := m ((c : Thread nD τ).loc main_arg1)
abbrev wA (c : Dev nD) : FVec Ideal S1024x7680 .f32 := m ((c : Thread nD τ).loc main_arg2)
abbrev dpF (c : Dev nD) : FVec Ideal S8192x7680 .bf16 := m ((c : Thread nD τ).loc main_arg3)
abbrev ctF (c : Dev nD) : FVec Ideal S8192x1024 .f32 := m ((c : Thread nD τ).loc main_arg4)
abbrev xA (c : Dev nD) : FVec Ideal TX .f32 := cutX (xF m c)
abbrev dpA (c : Dev nD) : FVec Ideal TP .bf16 := cutP (dpF m c)
abbrev ctA (c : Dev nD) : FVec Ideal TX .f32 := cutX (ctF m c)

abbrev b0 (c : Dev nD) (t : Fin cfg0.N) : FVec Ideal S512x7680 .bf16 := iblk m c 0 t
abbrev b1 (c : Dev nD) (t : Fin cfg0.N) : FVec Ideal S7680x1024 .bf16 := iblk m c 1 t
abbrev b2 (c : Dev nD) (t : Fin cfg0.N) : FVec Ideal S512x1024 .f32 := iblk m c 2 t
abbrev b3 (c : Dev nD) (t : Fin cfg0.N) : FVec Ideal S1x1024 .f32 := iblk m c 3 t
abbrev b4 (c : Dev nD) (t : Fin cfg0.N) : FVec Ideal S512x1024 .f32 := iblk m c 4 t

/-- The host's transposed and rounded weight, at an index. -/
theorem V1_apply (c : Dev nD) (k : Fin 7680) (l : Fin 1024) :
    (V m c main_v1 : FVec Ideal S7680x1024 .bf16) (ix2 k l) = (wA m c (ix2 l k) : EReal) := by
  have e : (V m c main_v1 : FVec Ideal S7680x1024 .bf16)
      = truncf .bf16 (transpose S7680x1024 [1, 0] (wA m c) transposes_S1024x7680_S7680x1024_1_0) bitsLt_bf16_f32 := by
    show StableHlo.after hostOps0 _ _ = _
    unfold hostOps0
    after_results
  rw [e]
  pointwise

/-- The host's scale as a row, at an index. -/
theorem V2_apply (c : Dev nD) (l : Fin 1024) :
    (V m c main_v2 : FVec Ideal S1x1024 .f32) (ix2 0 l) = (gA m c (ix1 l) : EReal) := by
  have e : (V m c main_v2 : FVec Ideal S1x1024 .f32) = shapeCast S1x1024 (gA m c) shapeCasts_S1024_S1x1024 := by
    show StableHlo.after hostOps0 _ _ = _
    unfold hostOps0
    after_results
    rfl
  rw [e]
  pointwise

theorem idx_in : ∀ t : Fin cfg0.N, (win0_0.index t (0 : Fin 2) = t.val + 0 ∧ win0_0.index t (1 : Fin 2) = 0)
    ∧ (win0_1.index t (0 : Fin 2) = 0 ∧ win0_1.index t (1 : Fin 2) = 0)
    ∧ (win0_2.index t (0 : Fin 2) = t.val + 0 ∧ win0_2.index t (1 : Fin 2) = 0)
    ∧ (win0_3.index t (0 : Fin 2) = 0 ∧ win0_3.index t (1 : Fin 2) = 0)
    ∧ (win0_4.index t (0 : Fin 2) = t.val + 0 ∧ win0_4.index t (1 : Fin 2) = 0)
    ∧ (win0_5.index t (0 : Fin 2) = t.val + 0 ∧ win0_5.index t (1 : Fin 2) = 0)
    ∧ (win0_6.index t (0 : Fin 2) = 0 ∧ win0_6.index t (1 : Fin 2) = 0) :=
  (by decide +kernel : ∀ t : Fin grid0.N, _)

theorem b0_apply (c : Dev nD) (t : Fin cfg0.N) (r : Fin 512) (k : Fin 7680) (R : Fin 2560) (h : R.val = t.val * 512 + r.val) :
    b0 m c t (ix2 r k) = dpA m c (ix2 R k) := by
  obtain ⟨⟨e0, e1⟩, -⟩ := idx_in t
  have hb0 : (((cfg0.win 0).blk t).view.emb (ix2 r k) 0).val = win0_0.index t (0 : Fin 2) * 512 + 1 * r.val := rfl
  have hb1 : (((cfg0.win 0).blk t).view.emb (ix2 r k) 1).val = win0_0.index t (1 : Fin 2) * 7680 + 1 * k.val := rfl
  show V m c main_arg3 (((cfg0.win 0).blk t).view.emb (ix2 r k)) = _
  rw [V_main_arg3]
  show dpF m c _ = dpF m c (ix2 (up R) k)
  congr 1
  funext a; apply Fin.ext
  match a with
  | ⟨0, _⟩ => show (((cfg0.win 0).blk t).view.emb (ix2 r k) 0).val = 0 + R.val; rw [hb0, h, e0]; omega
  | ⟨1, _⟩ => show (((cfg0.win 0).blk t).view.emb (ix2 r k) 1).val = k.val; rw [hb1, e1]; omega

theorem b1_apply (c : Dev nD) (t : Fin cfg0.N) (k : Fin 7680) (l : Fin 1024) :
    b1 m c t (ix2 k l) = (wA m c (ix2 l k) : EReal) := by
  obtain ⟨-, ⟨e0, e1⟩, -⟩ := idx_in t
  have hb0 : (((cfg0.win 1).blk t).view.emb (ix2 k l) 0).val = win0_1.index t (0 : Fin 2) * 7680 + 1 * k.val := rfl
  have hb1 : (((cfg0.win 1).blk t).view.emb (ix2 k l) 1).val = win0_1.index t (1 : Fin 2) * 1024 + 1 * l.val := rfl
  rw [← V1_apply m c k l]
  show (V m c main_v1 : FVec Ideal S7680x1024 .bf16) (((cfg0.win 1).blk t).view.emb (ix2 k l)) = _
  congr 1
  funext a; apply Fin.ext
  match a with
  | ⟨0, _⟩ => show (((cfg0.win 1).blk t).view.emb (ix2 k l) 0).val = k.val; rw [hb0, e0]; omega
  | ⟨1, _⟩ => show (((cfg0.win 1).blk t).view.emb (ix2 k l) 1).val = l.val; rw [hb1, e1]; omega

theorem b2_apply (c : Dev nD) (t : Fin cfg0.N) (r : Fin 512) (k : Fin 1024) (R : Fin 2560) (h : R.val = t.val * 512 + r.val) :
    b2 m c t (ix2 r k) = xA m c (ix2 R k) := by
  obtain ⟨-, -, ⟨e0, e1⟩, -⟩ := idx_in t
  have hb0 : (((cfg0.win 2).blk t).view.emb (ix2 r k) 0).val = win0_2.index t (0 : Fin 2) * 512 + 1 * r.val := rfl
  have hb1 : (((cfg0.win 2).blk t).view.emb (ix2 r k) 1).val = win0_2.index t (1 : Fin 2) * 1024 + 1 * k.val := rfl
  show V m c main_arg0 (((cfg0.win 2).blk t).view.emb (ix2 r k)) = _
  rw [V_main_arg0]
  show xF m c _ = xF m c (ix2 (up R) k)
  congr 1
  funext a; apply Fin.ext
  match a with
  | ⟨0, _⟩ => show (((cfg0.win 2).blk t).view.emb (ix2 r k) 0).val = 0 + R.val; rw [hb0, h, e0]; omega
  | ⟨1, _⟩ => show (((cfg0.win 2).blk t).view.emb (ix2 r k) 1).val = k.val; rw [hb1, e1]; omega

theorem b3_apply (c : Dev nD) (t : Fin cfg0.N) (l : Fin 1024) :
    b3 m c t (ix2 0 l) = (gA m c (ix1 l) : EReal) := by
  obtain ⟨-, -, -, ⟨e0, e1⟩, -⟩ := idx_in t
  have hb0 : (((cfg0.win 3).blk t).view.emb (ix2 0 l) 0).val = win0_3.index t (0 : Fin 2) * 1 + 1 * 0 := rfl
  have hb1 : (((cfg0.win 3).blk t).view.emb (ix2 0 l) 1).val = win0_3.index t (1 : Fin 2) * 1024 + 1 * l.val := rfl
  rw [← V2_apply m c l]
  show (V m c main_v2 : FVec Ideal S1x1024 .f32) (((cfg0.win 3).blk t).view.emb (ix2 0 l)) = _
  congr 1
  funext a; apply Fin.ext
  match a with
  | ⟨0, _⟩ => show (((cfg0.win 3).blk t).view.emb (ix2 0 l) 0).val = 0; rw [hb0, e0]
  | ⟨1, _⟩ => show (((cfg0.win 3).blk t).view.emb (ix2 0 l) 1).val = l.val; rw [hb1, e1]; omega

theorem b4_apply (c : Dev nD) (t : Fin cfg0.N) (r : Fin 512) (k : Fin 1024) (R : Fin 2560) (h : R.val = t.val * 512 + r.val) :
    b4 m c t (ix2 r k) = ctA m c (ix2 R k) := by
  obtain ⟨-, -, -, -, ⟨e0, e1⟩, -⟩ := idx_in t
  have hb0 : (((cfg0.win 4).blk t).view.emb (ix2 r k) 0).val = win0_4.index t (0 : Fin 2) * 512 + 1 * r.val := rfl
  have hb1 : (((cfg0.win 4).blk t).view.emb (ix2 r k) 1).val = win0_4.index t (1 : Fin 2) * 1024 + 1 * k.val := rfl
  show V m c main_arg4 (((cfg0.win 4).blk t).view.emb (ix2 r k)) = _
  rw [V_main_arg4]
  show ctF m c _ = ctF m c (ix2 (up R) k)
  congr 1
  funext a; apply Fin.ext
  match a with
  | ⟨0, _⟩ => show (((cfg0.win 4).blk t).view.emb (ix2 r k) 0).val = 0 + R.val; rw [hb0, h, e0]; omega
  | ⟨1, _⟩ => show (((cfg0.win 4).blk t).view.emb (ix2 r k) 1).val = k.val; rw [hb1, e1]; omega

/-! ### The point's payloads, over the arrays -/

theorem p3_at (c : Dev nD) (t : Fin cfg0.N) (r : Fin 512) (l : Fin 1024) (R : Fin 2560) (h : R.val = t.val * 512 + r.val) :
    k0_pay3 (F := Ideal) (b0 m c t) (b1 m c t) (ix2 r l) = dh (wA m c) (dpA m c) R l :=
  (pay3_apply _ _ r l).trans (Finset.sum_congr rfl fun k _ =>
    congrArg₂ (· * ·) (b0_apply m c t r k R h) (b1_apply m c t k l))

theorem p4_at (c : Dev nD) (t : Fin cfg0.N) (r : Fin 512) (l : Fin 1) (R : Fin 2560) (h : R.val = t.val * 512 + r.val) :
    k0_pay4 (F := Ideal) (b2 m c t) (ix2 r l) = rs (xA m c) R :=
  (pay4_apply _ r l).trans (congrArg (fun s => Ideal.rsqrt (Ideal.div s c1024 + ceps)) (Finset.sum_congr rfl fun k _ =>
    congrArg₂ (· * ·) (b2_apply m c t r k R h) (b2_apply m c t r k R h)))

theorem p5_at (c : Dev nD) (t : Fin cfg0.N) (r : Fin 512) (l : Fin 1024) (R : Fin 2560) (h : R.val = t.val * 512 + r.val) :
    k0_pay5 (F := Ideal) (b2 m c t) (ix2 r l) = xh (xA m c) R l :=
  (pay5_apply _ r l).trans (congrArg₂ (· * ·) (b2_apply m c t r l R h) (p4_at m c t r 0 R h))

theorem p7_at (c : Dev nD) (t : Fin cfg0.N) (r : Fin 512) (l : Fin 1024) (R : Fin 2560) (h : R.val = t.val * 512 + r.val) :
    k0_pay7 (F := Ideal) (b0 m c t) (b1 m c t) (b3 m c t) (ix2 r l) = dg1 (gA m c) (wA m c) (dpA m c) R l :=
  (pay7_apply _ _ _ r l).trans (congrArg₂ (· * ·) (p3_at m c t r l R h) (b3_apply m c t l))

theorem p8_at (c : Dev nD) (t : Fin cfg0.N) (r : Fin 512) (l : Fin 1) (R : Fin 2560) (h : R.val = t.val * 512 + r.val) :
    k0_pay8 (F := Ideal) (b0 m c t) (b1 m c t) (b2 m c t) (b3 m c t) (ix2 r l)
      = ∑ k : Fin 1024, dg1 (gA m c) (wA m c) (dpA m c) R k * xh (xA m c) R k :=
  (pay8_apply _ _ _ _ r l).trans (Finset.sum_congr rfl fun k _ =>
    congrArg₂ (· * ·) (p7_at m c t r k R h) (p5_at m c t r k R h))

/-- The block of `d_x` a point leaves, over the arrays. -/
theorem dx_at (c : Dev nD) (t : Fin cfg0.N) (r : Fin 512) (l : Fin 1024) (R : Fin 2560) (h : R.val = t.val * 512 + r.val) :
    dxOf (b0 m c t) (b1 m c t) (b2 m c t) (b3 m c t) (b4 m c t) (ix2 r l)
      = DX (xA m c) (gA m c) (wA m c) (dpA m c) (ctA m c) (ix2 R l) := by
  refine (pay1_apply _ _ _ _ _ r l).trans ?_
  rw [p4_at m c t r 0 R h, p5_at m c t r l R h, p7_at m c t r l R h, p8_at m c t r 0 R h, b4_apply m c t r l R h]
  rfl

/-! ### `d_x` -/

theorem outs5 (c : Dev nD) (t : Fin cfg0.N) :
    (outsAt0 m c t.val t.isLt).1 = dxOf (b0 m c t) (b1 m c t) (b2 m c t) (b3 m c t) (b4 m c t) := by
  by_cases h0 : t.val % 5 = 0
  · rw [outsAt0_A m c t h0]
    dsimp only
    rw [out_A_5]
  · rw [outsAt0_B m c t h0]
    dsimp only
    rw [out_B_5]

theorem emb5 (t : Fin cfg0.N) (r : Fin 512) (l : Fin 1024) (R : Fin 2560) (h : R.val = t.val * 512 + r.val) :
    ((cfg0.win 5).blk t).view.emb (ix2 r l) = (ix2 (up R) l : S8192x1024.Idx) := by
  obtain ⟨-, -, -, -, -, ⟨e0, e1⟩, -⟩ := idx_in t
  have hb0 : (((cfg0.win 5).blk t).view.emb (ix2 r l) 0).val = win0_5.index t (0 : Fin 2) * 512 + 1 * r.val := rfl
  have hb1 : (((cfg0.win 5).blk t).view.emb (ix2 r l) 1).val = win0_5.index t (1 : Fin 2) * 1024 + 1 * l.val := rfl
  funext a; apply Fin.ext
  match a with
  | ⟨0, _⟩ => show (((cfg0.win 5).blk t).view.emb (ix2 r l) 0).val = 0 + R.val; rw [hb0, h, e0]; omega
  | ⟨1, _⟩ => show (((cfg0.win 5).blk t).view.emb (ix2 r l) 1).val = l.val; rw [hb1, e1]; omega

theorem xinj5 (t : Fin cfg0.N) (y : S512x1024.Idx) : (cfg0.win 5).xinj (grid0.coords t) y = y := by
  funext a; apply Fin.ext
  match a with
  | ⟨0, _⟩ => rfl
  | ⟨1, _⟩ => rfl

theorem idx5_inj : ∀ t t' : Fin cfg0.N, win0_5.index t = win0_5.index t' → t = t' :=
  (by decide +kernel : ∀ t t' : Fin grid0.N, win0_5.index t = win0_5.index t' → t = t')

/-- The array of `d_x` the kernel leaves, in the rows of the piece. -/
theorem final5_at (c : Dev nD) (R : Fin 2560) (l : Fin 1024) :
    ((dats m 0 c).arrAt 5 cfg0.N : FVec Ideal S8192x1024 .f32) (ix2 (up R) l)
      = DX (xA m c) (gA m c) (wA m c) (dpA m c) (ctA m c) (ix2 R l) := by
  have hR := R.isLt
  have hlt : R.val / 512 < cfg0.N := lt_of_lt_of_eq (by omega : R.val / 512 < 5) N_0.symm
  have hs : R.val = (⟨R.val / 512, hlt⟩ : Fin cfg0.N).val * 512 + (⟨R.val % 512, by omega⟩ : Fin 512).val := by
    show R.val = R.val / 512 * 512 + R.val % 512; omega
  have h := congrFun ((dats m 0 c).read_blk_arrAt_eq_flushed 5 (fun t t' _ _ hne => (cfg0.win 5).disjoint_blk fun h => hne (idx5_inj t t' h))
    cfg0.N ⟨R.val / 512, hlt⟩ hlt (flush0_5 _)) (ix2 ⟨R.val % 512, by omega⟩ l : S512x1024.Idx)
  have e := emb5 ⟨R.val / 512, hlt⟩ ⟨R.val % 512, by omega⟩ l R hs
  have h2 : ((dats m 0 c).arrAt 5 cfg0.N : FVec Ideal S8192x1024 .f32) (((cfg0.win 5).blk ⟨R.val / 512, hlt⟩).view.emb (ix2 ⟨R.val % 512, by omega⟩ l : S512x1024.Idx))
      = (outsAt0 m c (R.val / 512) hlt).1 ((cfg0.win 5).xinj (grid0.coords ⟨R.val / 512, hlt⟩) (ix2 ⟨R.val % 512, by omega⟩ l : S512x1024.Idx)) :=
    h.trans (by
      show (cfg0.win 5).cut (grid0.coords ⟨R.val / 512, hlt⟩) ((dats m 0 c).after 5 ⟨R.val / 512, hlt⟩) _ = _
      rw [after0_5])
  rw [e, xinj5 ⟨R.val / 512, hlt⟩ (ix2 ⟨R.val % 512, by omega⟩ l : S512x1024.Idx)] at h2
  refine h2.trans ?_
  rw [outs5 m c ⟨R.val / 512, hlt⟩]
  exact dx_at m c ⟨R.val / 512, hlt⟩ ⟨R.val % 512, by omega⟩ l R hs

/-! ### `d_g` -/

/-- What a point adds to `d_g`. -/
def M (c : Dev nD) (n : ℕ) (l : Fin 1024) : EReal :=
  if h : n < cfg0.N then
    ∑ k : Fin 512, (k0_pay3 (F := Ideal) (b0 m c ⟨n, h⟩) (b1 m c ⟨n, h⟩) (ix2 k l) : EReal) * (k0_pay5 (F := Ideal) (b2 m c ⟨n, h⟩) (ix2 k l) : EReal)
  else 0

/-- Row 0 of the buffer of `d_g` after a point. -/
def f6 (c : Dev nD) (n : ℕ) (h : n < cfg0.N) (l : Fin 1024) : EReal := (outsAt0 m c n h).2 (ix2 0 l : S8x1024.Idx)

theorem f6_zero (c : Dev nD) (h : 0 < cfg0.N) (l : Fin 1024) : f6 m c 0 h l = M m c 0 l := by
  unfold f6
  rw [outsAt0_A m c ⟨0, h⟩ (Nat.zero_mod _)]
  dsimp only
  rw [out_A_6]
  refine (if_pos (rfl : ((ix2 0 l : S8x1024.Idx) 0).val = 0)).trans ?_
  refine (pay6_apply _ _ _ _ 0 l).trans ?_
  unfold M
  rw [dif_pos h]
  refine (congrArg (· + _) (pay2_apply _)).trans ?_
  rw [zero_add]

theorem f6_succ (c : Dev nD) (n : ℕ) (h : n + 1 < cfg0.N) (l : Fin 1024) :
    f6 m c (n + 1) h l = f6 m c n (Nat.lt_of_succ_lt h) l + M m c (n + 1) l := by
  have hN := lt_of_lt_of_eq h N_0
  unfold f6
  rw [outsAt0_B m c ⟨n + 1, h⟩ (by dsimp only; omega)]
  dsimp only
  rw [out_B_6]
  refine (if_pos (rfl : ((ix2 0 l : S8x1024.Idx) 0).val = 0)).trans ?_
  refine (pay6_apply _ _ _ _ 0 l).trans ?_
  unfold M
  rw [dif_pos h]
  rfl

theorem f6_last (c : Dev nD) (h : 4 < cfg0.N) (l : Fin 1024) :
    f6 m c 4 h l = ∑ R : Fin 2560, dh (wA m c) (dpA m c) R l * xh (xA m c) R l := by
  rw [Blocks.acc_eq (f6 m c) (M m c) (f6_zero m c) (f6_succ m c) 4 h l]
  have e : ∀ s ∈ Finset.range (4 + 1), M m c s l
      = ∑ k : Fin 512, (if h : s * 512 + k.val < 2560 then
          dh (wA m c) (dpA m c) ⟨s * 512 + k.val, h⟩ l * xh (xA m c) ⟨s * 512 + k.val, h⟩ l else (0 : EReal)) := fun s hs => by
    have hs' : s < 5 := Finset.mem_range.1 hs
    unfold M
    rw [dif_pos (lt_of_lt_of_eq hs' N_0.symm)]
    refine Finset.sum_congr rfl fun k _ => ?_
    have hk := k.isLt
    have hlt : s * 512 + k.val < 2560 := by omega
    rw [dif_pos hlt]
    exact congrArg₂ (· * ·) (p3_at m c ⟨s, lt_of_lt_of_eq hs' N_0.symm⟩ k l ⟨s * 512 + k.val, hlt⟩ (Eq.refl (s * 512 + k.val)))
      (p5_at m c ⟨s, lt_of_lt_of_eq hs' N_0.symm⟩ k l ⟨s * 512 + k.val, hlt⟩ (Eq.refl (s * 512 + k.val)))
  refine (Finset.sum_congr rfl e).trans ?_
  exact Blocks.sum_blocks (S := 5) (K := 512) (N := 2560) rfl _ _ (fun s _ k h => dif_pos h)

/-- The rows below row 0 stay zero. -/
theorem f6_low (c : Dev nD) : ∀ (n : ℕ) (h : n < cfg0.N) (y : S8x1024.Idx), (y 0).val ≠ 0 → (outsAt0 m c n h).2 y = (0 : EReal)
  | 0, h, y, hy => by
    rw [outsAt0_A m c ⟨0, h⟩ (Nat.zero_mod _)]
    dsimp only
    rw [out_A_6, if_neg hy]
    exact pay2_apply _
  | n + 1, h, y, hy => by
    have hN := lt_of_lt_of_eq h N_0
    rw [outsAt0_B m c ⟨n + 1, h⟩ (by dsimp only; omega)]
    dsimp only
    rw [out_B_6, if_neg hy]
    exact f6_low c n (Nat.lt_of_succ_lt h) y hy

theorem f6_at (c : Dev nD) (t : Fin cfg0.N) (ht : t.val = 4) (y : S8x1024.Idx) :
    (outsAt0 m c t.val t.isLt).2 y = DG (xA m c) (wA m c) (dpA m c) y := by
  unfold DG
  split_ifs with h
  · have hy : y = (ix2 0 (y 1) : S8x1024.Idx) := (eq_ix2 (n0 := 8) (n1 := 1024) y).trans (congrArg (fun r => (ix2 r (y 1) : S8x1024.Idx)) (Fin.ext h))
    obtain ⟨n, hn⟩ := t
    obtain rfl : n = 4 := ht
    refine Eq.trans ?_ (f6_last m c hn (y 1))
    unfold f6
    exact congrArg (outsAt0 m c 4 hn).2 hy
  · exact f6_low m c t.val t.isLt y h

theorem emb6 (t : Fin cfg0.N) (y : S8x1024.Idx) : ((cfg0.win 6).blk t).view.emb y = y := by
  obtain ⟨-, -, -, -, -, -, ⟨e0, e1⟩⟩ := idx_in t
  have hb0 : (((cfg0.win 6).blk t).view.emb y 0).val = win0_6.index t (0 : Fin 2) * 8 + 1 * (y 0).val := rfl
  have hb1 : (((cfg0.win 6).blk t).view.emb y 1).val = win0_6.index t (1 : Fin 2) * 1024 + 1 * (y 1).val := rfl
  funext a; apply Fin.ext
  match a with
  | ⟨0, _⟩ => show (((cfg0.win 6).blk t).view.emb y 0).val = (y 0).val; rw [hb0, e0]; omega
  | ⟨1, _⟩ => show (((cfg0.win 6).blk t).view.emb y 1).val = (y 1).val; rw [hb1, e1]; omega

theorem xinj6 (t : Fin cfg0.N) (y : S8x1024.Idx) : (cfg0.win 6).xinj (grid0.coords t) y = y := by
  funext a; apply Fin.ext
  match a with
  | ⟨0, _⟩ => rfl
  | ⟨1, _⟩ => rfl

theorem written6 (c : Dev nD) (t : Fin cfg0.N) (G : Buf (Elt Ideal) ((c : Thread nD τ).loc main_v3_1))
    (hG : ∀ y : S8x1024.Idx, (outsAt0 m c t.val t.isLt).2 y = G y) :
    (dats m 0 c).flushed 6 t = ((cfg0.win 6).blk t).view.read (Elt Ideal) G := by
  show (cfg0.win 6).cut (grid0.coords t) ((dats m 0 c).after 6 t) = _
  rw [after0_6]
  funext y
  show (outsAt0 m c t.val t.isLt).2 ((cfg0.win 6).xinj (grid0.coords t) y) = G (((cfg0.win 6).blk t).view.emb y)
  rw [emb6 t y, xinj6 t y]
  exact hG y

def tEnd : Fin cfg0.N := ⟨4, lt_of_lt_of_eq (by decide : 4 < 5) N_0.symm⟩
theorem tEnd_mod : tEnd.val % 5 = 4 := by show 4 % 5 = 4; rfl

/-- The array of `d_g` the kernel leaves. -/
theorem final6 (c : Dev nD) : (dats m 0 c).arrAt 6 cfg0.N = DG (xA m c) (wA m c) (dpA m c) :=
  (dats m 0 c).arrAt_eq_of_cover 6 (DG (xA m c) (wA m c) (dpA m c))
    (fun t hf => written6 m c t _ (fun y => f6_at m c t (by
      have h1 := (flush0_6 t).mp hf; have h2 := lt_of_lt_of_eq t.isLt N_0; omega) y))
    (fun i => ⟨tEnd, (flush0_6 tEnd).mpr tEnd_mod, by
      have h := (((cfg0.win 6).blk tEnd).view).emb_mem_set i
      rwa [emb6 tEnd i] at h⟩)

/-- The host's slice of it after the kernel. -/
theorem final5 (c : Dev nD) :
    (Pipeline.afterTail₀ cfgs (dats m) 0 (V0 m) [hostOps1] c main_v4 : FVec Ideal TX .f32)
      = DX (xA m c) (gA m c) (wA m c) (dpA m c) (ctA m c) := by
  have e : (Pipeline.afterTail₀ cfgs (dats m) 0 (V0 m) [hostOps1] c main_v4 : FVec Ideal TX .f32)
      = extractStridedSlice TX ![0, 0] ((dats m 0 c).arrAt 5 cfg0.N : FVec Ideal S8192x1024 .f32) slices_S8192x1024_S2560x1024_0_0 := by
    unfold Pipeline.afterTail₀
    show StableHlo.after hostOps1 _ _ = _
    unfold hostOps1
    after_results
    exact congrArg (fun v : FVec Ideal S8192x1024 .f32 => extractStridedSlice TX ![0, 0] v slices_S8192x1024_S2560x1024_0_0)
      (Pipeline.withArrays_arr spec0 launch0.win.arr_inj c (V0 m c) (fun w => (dats m 0 c).arrAt w cfg0.N) 5)
  rw [e]
  funext i
  obtain ⟨R, l, rfl⟩ : ∃ (R : Fin 2560) (l : Fin 1024), i = (ix2 R l : TX.Idx) := ⟨i 0, i 1, eq_ix2 (n0 := 2560) (n1 := 1024) i⟩
  refine (extractStridedSlice_apply ![0, 0] _ slices_S8192x1024_S2560x1024_0_0 (ix2 R l) (ix2 (up R) l) (fun a => match a with
    | ⟨0, _⟩ => rfl
    | ⟨1, _⟩ => by show l.val = 0 + l.val; omega)).trans ?_
  exact final5_at m c R l

end Kernel

/-! ### The derivative's form of `d_x` -/

section Algebra
variable (x : FVec Ideal TX .f32) (g : FVec Ideal S1024 .f32) (w : FVec Ideal S1024x7680 .f32)
  (dp : FVec Ideal TP .bf16) (ct : FVec Ideal TX .f32)

/-- The mean square's share of the reference's `d_x`, before the factor `2 x`. -/
def Q (R : Fin 2560) : EReal :=
  Ideal.div ((∑ k : Fin 1024, (x (ix2 R k) : EReal) * dg1 g w dp R k)
    * (Ideal.ofBits .f32 0xBF000000#32 * Ideal.div (rs x R) (den x R))) c1024

/-- A sum of reals, as the ideal scalars hold it. -/
theorem sum_coe {n : ℕ} (f : Fin n → ℝ) : ∑ k, ((f k : ℝ) : EReal) = ((∑ k, f k : ℝ) : EReal) := by
  induction (Finset.univ : Finset (Fin n)) using Finset.induction_on with
  | empty => simp
  | insert a s ha ih => rw [Finset.sum_insert ha, Finset.sum_insert ha, EReal.coe_add, ih]

theorem k1024 : c1024 = ((1024 : ℝ) : EReal) := by
  simp [c1024, Ideal.ofBits, Ideal.ieee]; rw [← EReal.coe_mul]; norm_num

theorem kmh : Ideal.ofBits .f32 0xBF000000#32 = ((-(1 / 2) : ℝ) : EReal) := by
  rw [← Ideal.ofBits_def]; exact Up.k_mhalf

/-- The constant under the root, as a real. -/
def er : ℝ := 8796093 / 8796093022208
theorem er_pos : 0 < er := by norm_num [er]
theorem keps : ceps = ((er : ℝ) : EReal) := by
  simp [ceps, Ideal.ofBits, Ideal.ieee, er]; rw [← EReal.coe_mul]; norm_num

/-- Over finite rows the kernel's `d_x` is what the derivative gives. -/
theorem dx_core (hx : ∀ i, ∃ r : ℝ, (x i : EReal) = (r : EReal)) (hg : ∀ i, ∃ r : ℝ, (g i : EReal) = (r : EReal))
    (hw : ∀ i, ∃ r : ℝ, (w i : EReal) = (r : EReal)) (hdp : ∀ i, ∃ r : ℝ, (dp i : EReal) = (r : EReal)) :
    ∀ i, (((ct i : EReal) + dg1 g w dp (i 0) (i 1) * rs x (i 0)) + (x i : EReal) * Q x g w dp (i 0)) + Q x g w dp (i 0) * (x i : EReal) = DX x g w dp ct i := by
  choose xr hx using hx
  choose gr hg using hg
  choose wr hw using hw
  choose dr hdp using hdp
  intro i
  set R : Fin 2560 := i 0 with hR
  set l : Fin 1024 := i 1 with hl
  have ei : i = ix2 R l := eq_ix2 i
  -- the row's reals
  have hdh : ∀ j, dh w dp R j = ((∑ k : Fin 7680, dr (ix2 R k) * wr (ix2 j k) : ℝ) : EReal) := fun j => by
    unfold dh
    rw [← sum_coe]
    exact Finset.sum_congr rfl fun k _ => by rw [hdp, hw, EReal.coe_mul]
  obtain ⟨d, hd⟩ : ∃ d : Fin 1024 → ℝ, ∀ j, dg1 g w dp R j = ((d j : ℝ) : EReal) :=
    ⟨fun j => (∑ k : Fin 7680, dr (ix2 R k) * wr (ix2 j k)) * gr (ix1 j), fun j => by
      unfold dg1; rw [hdh, hg, EReal.coe_mul]⟩
  obtain ⟨v, hv0, hv⟩ : ∃ v : ℝ, 0 < v ∧ den x R = ((v : ℝ) : EReal) := by
    refine ⟨(∑ k : Fin 1024, xr (ix2 R k) * xr (ix2 R k)) / 1024 + er, ?_, ?_⟩
    · have h1 : 0 ≤ ∑ k : Fin 1024, xr (ix2 R k) * xr (ix2 R k) := Finset.sum_nonneg fun k _ => mul_self_nonneg _
      have h2 := er_pos
      positivity
    · unfold den
      have : ∑ k : Fin 1024, (x (ix2 R k) : EReal) * (x (ix2 R k) : EReal) = ((∑ k : Fin 1024, xr (ix2 R k) * xr (ix2 R k) : ℝ) : EReal) := by
        rw [← sum_coe]
        exact Finset.sum_congr rfl fun k _ => by rw [hx, EReal.coe_mul]
      rw [this, k1024, Up.e_div _ (by norm_num : (1024 : ℝ) ≠ 0), keps, ← EReal.coe_add]
  have hs : rs x R = (((Real.sqrt v)⁻¹ : ℝ) : EReal) := by unfold rs; rw [hv, Up.e_rsqrt hv0]
  have hss : (Real.sqrt v)⁻¹ * (Real.sqrt v)⁻¹ = v⁻¹ := by rw [← mul_inv, Real.mul_self_sqrt hv0.le]
  set s : ℝ := (Real.sqrt v)⁻¹ with hsdef
  have hxh : ∀ j, xh x R j = ((xr (ix2 R j) * s : ℝ) : EReal) := fun j => by unfold xh; rw [hs, hx, EReal.coe_mul]
  have hT : ∑ k : Fin 1024, (x (ix2 R k) : EReal) * dg1 g w dp R k = ((∑ k : Fin 1024, xr (ix2 R k) * d k : ℝ) : EReal) := by
    rw [← sum_coe]
    exact Finset.sum_congr rfl fun k _ => by rw [hx, hd, EReal.coe_mul]
  have hT' : ∑ k : Fin 1024, dg1 g w dp R k * xh x R k = ((s * ∑ k : Fin 1024, xr (ix2 R k) * d k : ℝ) : EReal) := by
    rw [Finset.mul_sum, ← sum_coe]
    exact Finset.sum_congr rfl fun k _ => by rw [hxh, hd, ← EReal.coe_mul]; congr 1; ring
  set T : ℝ := ∑ k : Fin 1024, xr (ix2 R k) * d k with hTdef
  have hQ : Q x g w dp R = ((T * (-(1 / 2) * (s / v)) / 1024 : ℝ) : EReal) := by
    unfold Q
    rw [hT, hs, hv, Up.e_div _ hv0.ne', kmh, ← EReal.coe_mul, ← EReal.coe_mul, k1024, Up.e_div _ (by norm_num : (1024 : ℝ) ≠ 0)]
  show _ = (ct i : EReal) + rs x R * (dg1 g w dp R l - xh x R l * Ideal.div (∑ k : Fin 1024, dg1 g w dp R k * xh x R k) c1024)
  rw [hQ, hs, hd, hxh, hT', k1024, Up.e_div _ (by norm_num : (1024 : ℝ) ≠ 0), hx i, ei]
  simp only [← EReal.coe_mul, ← EReal.coe_sub]
  rw [add_assoc, add_assoc, ← EReal.coe_add, ← EReal.coe_add]
  refine congrArg (fun z : ℝ => (ct (ix2 R l) : EReal) + (z : EReal)) ?_
  rw [div_eq_mul_inv s v, ← hss]
  ring

end Algebra

/-! ### The reference's arrays -/

section Reference
open Cert.InXAReferenceIdeal.Read

variable (x0 : FVec Ideal S8192x1024 .f32) (g : FVec Ideal S1024 .f32) (w : FVec Ideal S1024x7680 .f32)
  (x3 : FVec Ideal S8192x7680 .bf16) (x4 : FVec Ideal S8192x1024 .f32)

abbrev sx : FVec Ideal TX .f32 := val_main_v0 (F := Ideal) x0
abbrev sp : FVec Ideal TP .bf16 := val_main_v1 (F := Ideal) x3
abbrev sc : FVec Ideal TX .f32 := val_main_v2 (F := Ideal) x4

theorem cutX_eq0 : sx x0 = cutX x0 := by
  funext i
  show val_main_v0 (F := Ideal) x0 i = _
  rw [val_main_v0_apply]
  show x0 _ = x0 _
  congr 1
  funext a; apply Fin.ext
  match a with
  | ⟨0, _⟩ => show (i 0).val = 0 + (i 0).val; omega
  | ⟨1, _⟩ => rfl
theorem cutX_eq4 : sc x4 = cutX x4 := by
  funext i
  show val_main_v2 (F := Ideal) x4 i = _
  rw [val_main_v2_apply]
  show x4 _ = x4 _
  congr 1
  funext a; apply Fin.ext
  match a with
  | ⟨0, _⟩ => show (i 0).val = 0 + (i 0).val; omega
  | ⟨1, _⟩ => rfl
theorem cutP_eq : sp x3 = cutP x3 := by
  funext i
  show val_main_v1 (F := Ideal) x3 i = _
  rw [val_main_v1_apply]
  show x3 _ = x3 _
  congr 1
  funext a; apply Fin.ext
  match a with
  | ⟨0, _⟩ => show (i 0).val = 0 + (i 0).val; omega
  | ⟨1, _⟩ => rfl

theorem s6 (i : Cert.InXAReferenceIdeal.S2560x1.Idx) : val_main_v9 (F := Ideal) x0 i = den (sx x0) (i 0) := by
  rw [val_main_v9_apply, val_main_v8_apply, val_main_v7_apply, val_main_v6_apply, val_main_v5_apply, val_main_v4_apply]
  show Ideal.div (Ideal.ofBits .f32 0x00000000#32 + _) c1024 + ceps = _
  rw [Ideal.ofBits_zero_f32, zero_add]
  unfold den
  refine congrArg (fun s => Ideal.div s c1024 + ceps) (Finset.sum_congr rfl fun k _ => ?_)
  show ((sx x0) _ : EReal) * ((sx x0) _ : EReal) = _
  congr 2 <;> (funext a; match a with | ⟨0, _⟩ => rfl | ⟨1, _⟩ => rfl)

theorem s7 (i : Cert.InXAReferenceIdeal.S2560x1.Idx) : val_main_v10 (F := Ideal) x0 i = rs (sx x0) (i 0) := by
  rw [val_main_v10_apply, s6]; rfl

theorem s12 (i : TX.Idx) : val_main_v15 (F := Ideal) x0 i = xh (sx x0) (i 0) (i 1) := by
  rw [val_main_v15_apply, val_main_v14_apply, s7]
  show ((sx x0) i : EReal) * rs (sx x0) (i 0) = ((sx x0) (ix2 (i 0) (i 1)) : EReal) * rs (sx x0) (i 0)
  exact congrArg (fun j => ((sx x0) j : EReal) * rs (sx x0) (i 0)) (eq_ix2 i)

theorem s18 (i : TX.Idx) : val_main_v21 (F := Ideal) w x3 i = dh w (sp x3) (i 0) (i 1) := by
  rw [val_main_v21_apply]
  unfold dh
  refine Finset.sum_congr rfl fun k _ => ?_
  rw [val_main_v20_apply]
  show ((sp x3) _ : EReal) * (w _ : EReal) = _
  congr 2 <;> (funext a; match a with | ⟨0, _⟩ => rfl | ⟨1, _⟩ => rfl)

theorem s23 (i : TX.Idx) : val_main_v26 (F := Ideal) g w x3 i = dg1 g w (sp x3) (i 0) (i 1) := by
  rw [val_main_v26_apply, s18, val_main_v25_apply]
  show dh w (sp x3) (i 0) (i 1) * (val_main_v16 (F := Ideal) g _ : EReal) = _
  unfold dg1
  rw [val_main_v16_apply]
  refine congrArg (fun j => dh w (sp x3) (i 0) (i 1) * (g j : EReal)) ?_
  funext a; match a with | ⟨0, _⟩ => rfl

/-- The sum over the rows, as the reference takes it. -/
theorem s20 (i : S1024.Idx) : val_main_v23 (F := Ideal) x0 w x3 i = ∑ R : Fin 2560, dh w (sp x3) R (i 0) * xh (sx x0) R (i 0) := by
  rw [val_main_v23_apply]
  show Ideal.ofBits .f32 0x00000000#32 + _ = _
  rw [Ideal.ofBits_zero_f32, zero_add]
  have e : ∀ j : TX.Idx, val_main_v22 (F := Ideal) x0 w x3 j = dh w (sp x3) (j 0) (j 1) * xh (sx x0) (j 0) (j 1) := fun j => by
    rw [val_main_v22_apply, s12, s18]
    exact mul_comm (xh (sx x0) (j 0) (j 1)) (dh w (sp x3) (j 0) (j 1))
  exact Finset.sum_congr rfl fun k _ => e _

theorem s40 (i : S1x1024.Idx) : val_main_v43 (F := Ideal) x0 w x3 i = ∑ R : Fin 2560, dh w (sp x3) R (i 1) * xh (sx x0) R (i 1) := by
  rw [val_main_v43_apply, val_main_v27_apply, Fin.sum_univ_one, val_main_v24_apply, s20]
  show Ideal.ofBits .f32 0x00000000#32 + _ = _
  rw [Ideal.ofBits_zero_f32, zero_add]
  refine congrArg (fun q : Fin 1024 => ∑ R : Fin 2560, dh w (sp x3) R q * xh (sx x0) R q) (Fin.ext ?_)
  show 0 * 1024 + (i 1).val = (i 1).val
  omega

/-- The reference's `d_g` is the kernel's. -/
theorem ref_dg : val_main_v44 (F := Ideal) x0 w x3 = DG (sx x0) w (sp x3) := by
  funext i
  obtain ⟨r, l, rfl⟩ : ∃ r l, i = ix2 r l := ⟨i 0, i 1, eq_ix2 i⟩
  unfold val_main_v44 DG
  rw [pad_apply]
  by_cases h : r.val = 0
  · rw [dif_pos, if_pos]
    · rw [s40]
      refine congrArg (fun q : Fin 1024 => ∑ R : Fin 2560, dh w (sp x3) R q * xh (sx x0) R q) (Fin.ext ?_)
      show (l.val - 0) / (0 + 1) = l.val
      omega
    · exact h
    · intro a
      match a with
      | ⟨0, _⟩ => exact ⟨Nat.zero_le _, by show (r.val - 0) % (0 + 1) = 0; omega, by show (r.val - 0) / (0 + 1) < 1; omega⟩
      | ⟨1, _⟩ => exact ⟨Nat.zero_le _, by show (l.val - 0) % (0 + 1) = 0; omega, by show (l.val - 0) / (0 + 1) < 1024; have := l.isLt; omega⟩
  · rw [dif_neg, if_neg]
    · rw [val_main_call0_v0_apply]
      show (((0#32 : BitVec 32).toInt : ℝ) : EReal) = 0
      simp
    · exact h
    · intro hh
      have h2 : (r.val - 0) / (0 + 1) < 1 := (hh (0 : Fin 2)).2.2
      omega

theorem s35 (i : TX.Idx) : val_main_v38 (F := Ideal) x0 g w x3 i = Q (sx x0) g w (sp x3) (i 0) := by
  rw [val_main_v38_apply, val_main_v37_apply, Fin.sum_univ_one, val_main_v36_apply, val_main_v35_apply, val_main_v34_apply,
    val_main_v30_apply, val_main_v29_apply, val_main_v13_apply, val_main_v12_apply, val_main_v11_apply, s7, s6]
  show Ideal.ofBits .f32 0x00000000#32 + Ideal.div ((Ideal.ofBits .f32 0x00000000#32 + ∑ k : Fin 1024, (val_main_v28 (F := Ideal) x0 g w x3 (idx_main_v29 _ k) : EReal))
    * (Ideal.ofBits .f32 0xBF000000#32 * Ideal.div (rs (sx x0) (i 0)) (den (sx x0) (i 0)))) c1024 = _
  rw [Ideal.ofBits_zero_f32, zero_add, zero_add]
  unfold Q
  refine congrArg (fun s => Ideal.div (s * (Ideal.ofBits .f32 0xBF000000#32 * Ideal.div (rs (sx x0) (i 0)) (den (sx x0) (i 0)))) c1024)
    (Finset.sum_congr rfl fun k _ => ?_)
  have e : ∀ j : TX.Idx, val_main_v28 (F := Ideal) x0 g w x3 j = ((sx x0) j : EReal) * dg1 g w (sp x3) (j 0) (j 1) := fun j => by
    rw [val_main_v28_apply, s23]; rfl
  refine (e _).trans ?_
  refine congrArg (fun j : TX.Idx => ((sx x0) j : EReal) * dg1 g w (sp x3) (j 0) (j 1)) (?_ : _ = (ix2 (i 0) k : TX.Idx))
  funext a; apply Fin.ext
  match a with
  | ⟨0, _⟩ => show (i 0).val * 1 + 0 = (i 0).val; omega
  | ⟨1, _⟩ => rfl

theorem ref_dx (i : TX.Idx) : val_main_v42 (F := Ideal) x0 g w x3 x4 i
    = ((((sc x4) i : EReal) + dg1 g w (sp x3) (i 0) (i 1) * rs (sx x0) (i 0)) + ((sx x0) i : EReal) * Q (sx x0) g w (sp x3) (i 0)) + Q (sx x0) g w (sp x3) (i 0) * ((sx x0) i : EReal) := by
  rw [val_main_v42_apply, val_main_v41_apply, val_main_v40_apply, val_main_v39_apply, s35,
    val_main_v33_apply, val_main_v32_apply, val_main_v31_apply, s7, s23]
  rfl

theorem dx_eq (hx : ∀ i, ∃ r : ℝ, (x0 i : EReal) = (r : EReal)) (hg : ∀ i, ∃ r : ℝ, (g i : EReal) = (r : EReal))
    (hw : ∀ i, ∃ r : ℝ, (w i : EReal) = (r : EReal)) (hdp : ∀ i, ∃ r : ℝ, (x3 i : EReal) = (r : EReal)) :
    val_main_v42 (F := Ideal) x0 g w x3 x4 = DX (cutX x0) g w (cutP x3) (cutX x4) := by
  rw [← cutX_eq0, ← cutX_eq4, ← cutP_eq]
  funext i
  refine (ref_dx x0 g w x3 x4 i).trans (dx_core (sx x0) g w (sp x3) (sc x4) ?_ hg hw ?_ i)
  · rw [cutX_eq0]; exact fun i => hx _
  · rw [cutP_eq]; exact fun i => hdp _

end Reference

/-! ### The precondition -/

/-- An ideal scalar whose magnitude the comparison finds below infinity is a real. -/
theorem real_of_lt {φ : FTy} (a : Ideal φ) (h : Ideal.cmp .olt (max (a : EReal) (-(a : EReal))) (Ideal.ofBits .f32 0x7F800000#32) = 1#1) :
    ∃ r : ℝ, (a : EReal) = (r : EReal) := by
  have htop : Ideal.ofBits .f32 0x7F800000#32 = ⊤ := by simp [Ideal.ofBits, Ideal.ieee]
  rw [htop] at h
  unfold Ideal.cmp at h
  have hlt : max (a : EReal) (-(a : EReal)) < ⊤ := by
    by_contra hn
    simp [hn] at h
  rw [max_lt_iff] at hlt
  refine ⟨(a : EReal).toReal, (EReal.coe_toReal hlt.1.ne ?_).symm⟩
  intro hb
  have h2 := hlt.2
  rw [hb] at h2
  simp at h2

section Pre
variable [Cert.Pre_finite_x.Facts]

/-- The precondition gives real elements. -/
theorem finite_of (x : FVec Ideal S8192x1024 .f32) (g : FVec Ideal S1024 .f32) (w : FVec Ideal S1024x7680 .f32)
    (dp : FVec Ideal S8192x7680 .bf16) (ct : FVec Ideal S8192x1024 .f32)
    (h0 : (Cert.Pre_finite_x.fn (F := Ideal) x g w dp ct).1 = fun _ => 1#1)
    (h1 : (Cert.Pre_finite_x.fn (F := Ideal) x g w dp ct).2.1 = fun _ => 1#1)
    (h2 : (Cert.Pre_finite_x.fn (F := Ideal) x g w dp ct).2.2.1 = fun _ => 1#1)
    (h3 : (Cert.Pre_finite_x.fn (F := Ideal) x g w dp ct).2.2.2.1 = fun _ => 1#1) :
    (∀ i, ∃ r : ℝ, (x i : EReal) = (r : EReal)) ∧ (∀ i, ∃ r : ℝ, (g i : EReal) = (r : EReal))
      ∧ (∀ i, ∃ r : ℝ, (w i : EReal) = (r : EReal)) ∧ (∀ i, ∃ r : ℝ, (dp i : EReal) = (r : EReal)) :=
  ⟨fun i => real_of_lt (φ := .f32) (x i) (congrFun h0 i), fun i => real_of_lt (φ := .f32) (g i) (congrFun h1 i), fun i => real_of_lt (φ := .f32) (w i) (congrFun h2 i),
    fun i => real_of_lt (φ := .bf16) (dp i) (congrFun h3 i)⟩

end Pre

end Cert.InXAVal
-- ==== Proof.InXBOpen.lean ====
module

public import proofs.«01_k».proof.Proof.Blocks
public import proofs.«01_k».proof.Proof.Gen.InXBIdeal.Value
public import Idealize.ShloMosaic.Lib.Pointwise

@[expose] public section

noncomputable section

namespace Cert.InXBOpen

open Cert.InXBIdeal Cert.InXBIdeal.Gen Idealize.ShloMosaic Idealize.ShloMosaic.TcCoe Idealize.SL.Sem

theorem hz : (![0, 0] : Fin 2 → Nat) = fun _ => 0 := funext fun a => by fin_cases a <;> rfl

/-- The block of `d_x` from the point's blocks: the cotangent, plus the gradient through the normalisation. -/
def dxOf (x0 : Vec Ideal S512x7680 .bf16) (x1 : Vec Ideal S7680x1024 .bf16) (x2 : Vec Ideal S512x1024 .f32)
    (x3 : Vec Ideal S1x1024 .f32) (x4 : Vec Ideal S512x1024 .f32) : FVec Ideal S512x1024 .f32 :=
  k0_pay1 (F := Ideal) (k0_pay4 x2) (k0_pay5 x2) (k0_pay7 x0 x1 x3) x4 (k0_pay8 x0 x1 x2 x3) k0_pay9

/-- Row 0 of an array of eight rows. -/
def row0 (x : FVec Ideal S8x1024 .f32) : FVec Ideal S1x1024 .f32 := fun i => x (ix2 0 (i 1))

/-- The rectangle of row 0. -/
abbrev r0 : Rect S8x1024 := Rect.unit (s := S8x1024) ![0, 0] S1x1024.size inb_S8x1024_S1x1024_0_0

theorem ld_r0 (x : Vec Ideal S8x1024 .f32) :
    @Eq (Vec Ideal S1x1024 .f32) (View.ld (Val := Elt Ideal) (e' := .f32) x r0) (row0 x) := by
  funext i
  show x _ = x _
  congr 1
  funext a; apply Fin.ext
  match a with
  | ⟨0, _⟩ => show 0 + 1 * (i 0).val = 0; have h : (i 0).val < 1 := (i 0).isLt; omega
  | ⟨1, _⟩ => show 0 + 1 * (i 1).val = (i 1).val; omega

/-- Row 0 read back from a buffer just written whole. -/
theorem readCov_r0 {κ : Kind} {sp : Space} (v : View sig κ sp S8x1024 .f32) (inb : ∀ a, (![0, 0] : Fin 2 → Nat) a + S8x1024.size a ≤ S8x1024.size a)
    (w : FVec Ideal S8x1024 .f32) :
    @Eq (Vec Ideal S1x1024 .f32) (v.readCov (Val := Elt Ideal) [⟨Rect.unit (s := S8x1024) ![0, 0] S8x1024.size inb, w⟩] r0.toLoadRect) (row0 w) := by
  have hc := View.readCov_eq_canon_ld (Val := Elt Ideal) v [⟨Rect.unit (s := S8x1024) ![0, 0] S8x1024.size inb, w⟩] r0
    (fun y => ⟨_, List.mem_singleton_self _, View.mem_set_unit_zero (S := S8x1024) hz inb y⟩)
  refine hc.trans ?_
  rw [View.canon_unit_zero (S := S8x1024) hz]
  exact ld_r0 w

theorem r0_emb (y : S8x1024.Idx) (h : (y 0).val = 0) : y = r0.emb (ix2 0 (y 1) : S1x1024.Idx) := by
  funext a; apply Fin.ext
  match a with
  | ⟨0, _⟩ => show (y 0).val = 0 + 1 * 0; omega
  | ⟨1, _⟩ => show (y 1).val = 0 + 1 * (y 1).val; omega

theorem r0_not (y : S8x1024.Idx) (h : (y 0).val ≠ 0) : y ∉ r0.set := by
  rw [Rect.mem_set_unit]
  intro hh
  have h2 : (y 0).val < 0 + 1 := (hh 0).2
  omega

/-- What a point leaves in the buffer of `d_x`. -/
theorem out_A_5 (c : Dev nD) (i : grid0.Coords) (arg1 : Memref sig .tc .vmem S512x7680 .bf16) (harg1 : arg1.IsWhole) (arg2 : Memref sig .tc .vmem S7680x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1024 .f32) (harg7 : arg7.IsWhole) (hc0 : cond0_0 i)
    (x0 : Vec Ideal S512x7680 .bf16) (x1 : Vec Ideal S7680x1024 .bf16) (x2 : Vec Ideal S512x1024 .f32) (x3 : Vec Ideal S1x1024 .f32) (x4 : Vec Ideal S512x1024 .f32) : out0_A_5 c i arg1 harg1 arg2 harg2 arg3 harg3 arg4 harg4 arg5 harg5 arg6 harg6 arg7 harg7 hc0 x0 x1 x2 x3 x4 = dxOf x0 x1 x2 x3 x4 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  try sl_unfold_words
  rw [View.canon_unit_zero hz]
  simp only [View.readAt_eq_ld, harg1.read_unread, harg2.read_unread, harg3.read_unread, harg4.read_unread, harg5.read_unread, harg6.read_unread, harg7.read_unread, View.ld_unit_zero (S := S512x7680) hz, View.ld_unit_zero (S := S7680x1024) hz, View.ld_unit_zero (S := S512x1024) hz, View.ld_unit_zero (S := S1x1024) hz, shapeCast_self]
  rfl

/-- What a point leaves in the buffer of `d_x`. -/
theorem out_B_5 (c : Dev nD) (i : grid0.Coords) (arg1 : Memref sig .tc .vmem S512x7680 .bf16) (harg1 : arg1.IsWhole) (arg2 : Memref sig .tc .vmem S7680x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1024 .f32) (harg7 : arg7.IsWhole) (hc0 : ¬cond0_0 i)
    (x0 : Vec Ideal S512x7680 .bf16) (x1 : Vec Ideal S7680x1024 .bf16) (x2 : Vec Ideal S512x1024 .f32) (x3 : Vec Ideal S1x1024 .f32) (x4 : Vec Ideal S512x1024 .f32) (xo6 : Vec Ideal S8x1024 .f32) : out0_B_5 c i arg1 harg1 arg2 harg2 arg3 harg3 arg4 harg4 arg5 harg5 arg6 harg6 arg7 harg7 hc0 x0 x1 x2 x3 x4 xo6 = dxOf x0 x1 x2 x3 x4 := by
  unfold out0_B_5
  rw [View.read_writes_eq_canon _ _ _ (cover0_B_5 c i arg1 harg1 arg2 harg2 arg3 harg3 arg4 harg4 arg5 harg5 arg6 harg6 arg7 harg7 hc0 x0 x1 x2 x3 x4 xo6)]
  unfold kernelRun0_B
  dsimp only
  try sl_unfold_words
  rw [View.canon_unit_zero hz]
  simp only [View.readAt_eq_ld, harg1.read_unread, harg2.read_unread, harg3.read_unread, harg4.read_unread, harg5.read_unread, harg6.read_unread, harg7.read_unread, View.ld_unit_zero (S := S512x7680) hz, View.ld_unit_zero (S := S7680x1024) hz, View.ld_unit_zero (S := S512x1024) hz, View.ld_unit_zero (S := S1x1024) hz, shapeCast_self]
  rfl

/-- At the first point the buffer of `d_g` holds the point's row sum over zero in row 0, zero elsewhere. -/
theorem out_A_6 (c : Dev nD) (i : grid0.Coords) (arg1 : Memref sig .tc .vmem S512x7680 .bf16) (harg1 : arg1.IsWhole) (arg2 : Memref sig .tc .vmem S7680x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1024 .f32) (harg7 : arg7.IsWhole) (hc0 : cond0_0 i)
    (x0 : Vec Ideal S512x7680 .bf16) (x1 : Vec Ideal S7680x1024 .bf16) (x2 : Vec Ideal S512x1024 .f32) (x3 : Vec Ideal S1x1024 .f32) (x4 : Vec Ideal S512x1024 .f32) (y : S8x1024.Idx) :
    out0_A_6 c i arg1 harg1 arg2 harg2 arg3 harg3 arg4 harg4 arg5 harg5 arg6 harg6 arg7 harg7 hc0 x0 x1 x2 x3 x4 y
      = if (y 0).val = 0 then k0_pay6 (F := Ideal) x0 x1 x2 (row0 (k0_pay2 (F := Ideal))) (ix2 0 (y 1)) else k0_pay2 (F := Ideal) y := by
  unfold out0_A_6
  rw [View.read_writes_eq_canon _ _ _ (cover0_A_6 c i arg1 harg1 arg2 harg2 arg3 harg3 arg4 harg4 arg5 harg5 arg6 harg6 arg7 harg7 hc0 x0 x1 x2 x3 x4)]
  unfold kernelRun0_A
  dsimp only
  try sl_unfold_words
  split_ifs with h
  · conv_lhs => rw [r0_emb y h]
    refine (View.canon_cons_emb (Val := Elt Ideal) r0 _ _ _).trans ?_
    simp only [View.readAt_eq_ld, harg1.read_unread, harg2.read_unread, harg3.read_unread, harg4.read_unread, harg5.read_unread, harg6.read_unread, harg7.read_unread, View.ld_unit_zero (S := S512x7680) hz, View.ld_unit_zero (S := S7680x1024) hz, View.ld_unit_zero (S := S512x1024) hz, View.ld_unit_zero (S := S1x1024) hz, shapeCast_self]
    exact congrArg (fun v => k0_pay6 (F := Ideal) x0 x1 x2 v (ix2 0 (y 1))) (readCov_r0 _ inb_S8x1024_S8x1024_0_0 (k0_pay2 (F := Ideal)))
  · refine (View.canon_cons_of_not_mem (Val := Elt Ideal) ⟨r0, _⟩ _ (r0_not y h)).trans ?_
    rw [View.canon_unit_zero hz]

/-- At a later point row 0 of the buffer of `d_g` holds the point's row sum added to what was there, the rest is kept. -/
theorem out_B_6 (c : Dev nD) (i : grid0.Coords) (arg1 : Memref sig .tc .vmem S512x7680 .bf16) (harg1 : arg1.IsWhole) (arg2 : Memref sig .tc .vmem S7680x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1024 .f32) (harg7 : arg7.IsWhole) (hc0 : ¬cond0_0 i)
    (x0 : Vec Ideal S512x7680 .bf16) (x1 : Vec Ideal S7680x1024 .bf16) (x2 : Vec Ideal S512x1024 .f32) (x3 : Vec Ideal S1x1024 .f32) (x4 : Vec Ideal S512x1024 .f32) (xo6 : Vec Ideal S8x1024 .f32) (y : S8x1024.Idx) :
    out0_B_6 c i arg1 harg1 arg2 harg2 arg3 harg3 arg4 harg4 arg5 harg5 arg6 harg6 arg7 harg7 hc0 x0 x1 x2 x3 x4 xo6 y
      = if (y 0).val = 0 then k0_pay6 (F := Ideal) x0 x1 x2 (row0 xo6) (ix2 0 (y 1)) else xo6 y := by
  unfold out0_B_6
  unfold kernelRun0_B
  dsimp only
  try sl_unfold_words
  split_ifs with h
  · conv_lhs => rw [r0_emb y h]
    rw [View.read_writes_cons_emb]
    simp only [View.readAt_eq_ld, harg1.read_unread, harg2.read_unread, harg3.read_unread, harg4.read_unread, harg5.read_unread, harg6.read_unread, harg7.read_unread, View.ld_unit_zero (S := S512x7680) hz, View.ld_unit_zero (S := S7680x1024) hz, View.ld_unit_zero (S := S512x1024) hz, View.ld_unit_zero (S := S1x1024) hz, shapeCast_self]
    exact congrArg (fun v => k0_pay6 (F := Ideal) x0 x1 x2 v (ix2 0 (y 1))) (ld_r0 xo6)
  · rw [View.read_writes_apply_of_forall_not_mem _ _ y _ (fun p hp => by
      rw [List.mem_singleton.1 hp]; exact r0_not y h), harg7.read_unread]

end Cert.InXBOpen

end
-- ==== Proof.InXBVal.lean ====
module

public import proofs.«01_k».proof.Proof.InXBOpen
public import proofs.«01_k».proof.Proof.Up
public import proofs.«01_k».proof.Proof.Gen.InXBReferenceIdeal.Read
public import proofs.«01_k».proof.Pre_finite_xb

@[expose] public section

noncomputable section

namespace Cert.InXBVal

open Cert.InXBIdeal Cert.InXBIdeal.Gen Cert.InXBOpen Idealize.ShloMosaic Idealize.ShloMosaic.TcCoe Idealize.SL.Sem

/-! ### The rows of the piece -/

/-- The piece's rows of an array as wide as the stream, and of one as wide as the projection. -/
abbrev TX : Shape := Cert.InXBReferenceIdeal.S5632x1024
abbrev TP : Shape := Cert.InXBReferenceIdeal.S5632x7680
/-- A row of the piece among all rows. -/
abbrev up (R : Fin 5632) : Fin 8192 := ⟨2560 + R.val, by have := R.isLt; omega⟩
abbrev cutX (x : FVec Ideal S8192x1024 .f32) : FVec Ideal TX .f32 := fun i => x (ix2 (up (i 0)) (i 1))
abbrev cutP (x : FVec Ideal S8192x7680 .bf16) : FVec Ideal TP .bf16 := fun i => x (ix2 (up (i 0)) (i 1))

/-! ### The function both programs compute, row by row -/

/-- The divisor 1024, as the programs write it. -/
abbrev c1024 : EReal := Ideal.ofBits .f32 0x44800000#32
/-- The constant added under the root. -/
abbrev ceps : EReal := Ideal.ofBits .f32 0x358637BD#32

/-- The gradient of the normalised rows: the cotangent against the transposed weight. -/
def dh (w : FVec Ideal S1024x7680 .f32) (dp : FVec Ideal TP .bf16) (R : Fin 5632) (l : Fin 1024) : EReal :=
  ∑ k : Fin 7680, (dp (ix2 R k) : EReal) * (w (ix2 l k) : EReal)
/-- A row's mean square plus the constant. -/
def den (x : FVec Ideal TX .f32) (R : Fin 5632) : EReal :=
  Ideal.div (∑ k : Fin 1024, (x (ix2 R k) : EReal) * (x (ix2 R k) : EReal)) c1024 + ceps
/-- A row's reciprocal root mean square. -/
def rs (x : FVec Ideal TX .f32) (R : Fin 5632) : EReal := Ideal.rsqrt (den x R)
/-- A normalised element. -/
def xh (x : FVec Ideal TX .f32) (R : Fin 5632) (l : Fin 1024) : EReal := (x (ix2 R l) : EReal) * rs x R
/-- The gradient before the normalisation's scale. -/
def dg1 (g : FVec Ideal S1024 .f32) (w : FVec Ideal S1024x7680 .f32) (dp : FVec Ideal TP .bf16) (R : Fin 5632)
    (l : Fin 1024) : EReal := dh w dp R l * (g (ix1 l) : EReal)
/-- The kernel's `d_x`. -/
def DX (x : FVec Ideal TX .f32) (g : FVec Ideal S1024 .f32) (w : FVec Ideal S1024x7680 .f32)
    (dp : FVec Ideal TP .bf16) (ct : FVec Ideal TX .f32) : FVec Ideal TX .f32 := fun i =>
  (ct i : EReal) + rs x (i 0) * (dg1 g w dp (i 0) (i 1) - xh x (i 0) (i 1)
    * Ideal.div (∑ k : Fin 1024, dg1 g w dp (i 0) k * xh x (i 0) k) c1024)
/-- The kernel's `d_g`: the sum over the rows in row 0, zero below. -/
def DG (x : FVec Ideal TX .f32) (w : FVec Ideal S1024x7680 .f32) (dp : FVec Ideal TP .bf16) :
    FVec Ideal S8x1024 .f32 := fun i =>
  if (i 0).val = 0 then ∑ R : Fin 5632, dh w dp R (i 1) * xh x R (i 1) else (0 : EReal)

/-! ### The point's payloads, at an index -/

theorem pay3_apply (a : FVec Ideal S512x7680 .bf16) (b : FVec Ideal S7680x1024 .bf16) (r : Fin 512) (l : Fin 1024) :
    (k0_pay3 (F := Ideal) a b (ix2 r l) : EReal) = ∑ k : Fin 7680, (a (ix2 r k) : EReal) * (b (ix2 k l) : EReal) := by
  pointwise [k0_pay3]

theorem pay4_apply (x : FVec Ideal S512x1024 .f32) (r : Fin 512) (l : Fin 1) :
    k0_pay4 (F := Ideal) x (ix2 r l) = Ideal.rsqrt (Ideal.div (∑ k : Fin 1024, (x (ix2 r k) : EReal) * (x (ix2 r k) : EReal)) c1024 + ceps) := by
  pointwise [k0_pay4]

theorem pay5_apply (x : FVec Ideal S512x1024 .f32) (r : Fin 512) (l : Fin 1024) :
    k0_pay5 (F := Ideal) x (ix2 r l) = (x (ix2 r l) : EReal) * (k0_pay4 (F := Ideal) x (ix2 r 0) : EReal) := by
  pointwise [k0_pay5]

theorem pay6_apply (a : FVec Ideal S512x7680 .bf16) (b : FVec Ideal S7680x1024 .bf16) (x : FVec Ideal S512x1024 .f32)
    (v : FVec Ideal S1x1024 .f32) (r : Fin 1) (l : Fin 1024) :
    k0_pay6 (F := Ideal) a b x v (ix2 r l)
      = (v (ix2 r l) : EReal) + ∑ k : Fin 512, (k0_pay3 (F := Ideal) a b (ix2 k l) : EReal) * (k0_pay5 (F := Ideal) x (ix2 k l) : EReal) := by
  obtain rfl : r = 0 := Subsingleton.elim _ _
  pointwise [k0_pay6]

theorem pay7_apply (a : FVec Ideal S512x7680 .bf16) (b : FVec Ideal S7680x1024 .bf16) (g : FVec Ideal S1x1024 .f32)
    (r : Fin 512) (l : Fin 1024) :
    k0_pay7 (F := Ideal) a b g (ix2 r l) = (k0_pay3 (F := Ideal) a b (ix2 r l) : EReal) * (g (ix2 0 l) : EReal) := by
  pointwise [k0_pay7]

theorem pay8_apply (a : FVec Ideal S512x7680 .bf16) (b : FVec Ideal S7680x1024 .bf16) (x : FVec Ideal S512x1024 .f32)
    (g : FVec Ideal S1x1024 .f32) (r : Fin 512) (l : Fin 1) :
    k0_pay8 (F := Ideal) a b x g (ix2 r l)
      = ∑ k : Fin 1024, (k0_pay7 (F := Ideal) a b g (ix2 r k) : EReal) * (k0_pay5 (F := Ideal) x (ix2 r k) : EReal) := by
  pointwise [k0_pay8]

theorem pay1_apply (a d : FVec Ideal S512x1 .f32) (b x g : FVec Ideal S512x1024 .f32) (r : Fin 512) (l : Fin 1024) :
    k0_pay1 (F := Ideal) a b x g d k0_pay9 (ix2 r l)
      = (g (ix2 r l) : EReal) + (a (ix2 r 0) : EReal) * ((x (ix2 r l) : EReal) - (b (ix2 r l) : EReal) * Ideal.div (d (ix2 r 0)) c1024) := by
  pointwise [k0_pay1, k0_pay9]

theorem pay2_apply (i : S8x1024.Idx) : k0_pay2 (F := Ideal) i = (0 : EReal) := by
  obtain ⟨r, l, rfl⟩ : ∃ r l, i = ix2 r l := ⟨i 0, i 1, eq_ix2 i⟩
  pointwise [k0_pay2]

/-! ### The blocks a point reads -/

section Kernel
variable (m : (ℓ : Loc nD τ sig) → Buf (Elt Ideal) ℓ)

abbrev xF (c : Dev nD) : FVec Ideal S8192x1024 .f32 := m ((c : Thread nD τ).loc main_arg0)
abbrev gA (c : Dev nD) : FVec Ideal S1024 .f32 := m ((c : Thread nD τ).loc main_arg1)
abbrev wA (c : Dev nD) : FVec Ideal S1024x7680 .f32 := m ((c : Thread nD τ).loc main_arg2)
abbrev dpF (c : Dev nD) : FVec Ideal S8192x7680 .bf16 := m ((c : Thread nD τ).loc main_arg3)
abbrev ctF (c : Dev nD) : FVec Ideal S8192x1024 .f32 := m ((c : Thread nD τ).loc main_arg4)
abbrev xA (c : Dev nD) : FVec Ideal TX .f32 := cutX (xF m c)
abbrev dpA (c : Dev nD) : FVec Ideal TP .bf16 := cutP (dpF m c)
abbrev ctA (c : Dev nD) : FVec Ideal TX .f32 := cutX (ctF m c)
abbrev fillA (c : Dev nD) : FVec Ideal S8192x1024 .f32 := m ((c : Thread nD τ).loc main_arg5)

abbrev b0 (c : Dev nD) (t : Fin cfg0.N) : FVec Ideal S512x7680 .bf16 := iblk m c 0 t
abbrev b1 (c : Dev nD) (t : Fin cfg0.N) : FVec Ideal S7680x1024 .bf16 := iblk m c 1 t
abbrev b2 (c : Dev nD) (t : Fin cfg0.N) : FVec Ideal S512x1024 .f32 := iblk m c 2 t
abbrev b3 (c : Dev nD) (t : Fin cfg0.N) : FVec Ideal S1x1024 .f32 := iblk m c 3 t
abbrev b4 (c : Dev nD) (t : Fin cfg0.N) : FVec Ideal S512x1024 .f32 := iblk m c 4 t

/-- The host's transposed and rounded weight, at an index. -/
theorem V1_apply (c : Dev nD) (k : Fin 7680) (l : Fin 1024) :
    (V m c main_v1 : FVec Ideal S7680x1024 .bf16) (ix2 k l) = (wA m c (ix2 l k) : EReal) := by
  have e : (V m c main_v1 : FVec Ideal S7680x1024 .bf16)
      = truncf .bf16 (transpose S7680x1024 [1, 0] (wA m c) transposes_S1024x7680_S7680x1024_1_0) bitsLt_bf16_f32 := by
    show StableHlo.after hostOps0 _ _ = _
    unfold hostOps0
    after_results
  rw [e]
  pointwise

/-- The host's scale as a row, at an index. -/
theorem V2_apply (c : Dev nD) (l : Fin 1024) :
    (V m c main_v2 : FVec Ideal S1x1024 .f32) (ix2 0 l) = (gA m c (ix1 l) : EReal) := by
  have e : (V m c main_v2 : FVec Ideal S1x1024 .f32) = shapeCast S1x1024 (gA m c) shapeCasts_S1024_S1x1024 := by
    show StableHlo.after hostOps0 _ _ = _
    unfold hostOps0
    after_results
    rfl
  rw [e]
  pointwise

theorem idx_in : ∀ t : Fin cfg0.N, (win0_0.index t (0 : Fin 2) = t.val + 5 ∧ win0_0.index t (1 : Fin 2) = 0)
    ∧ (win0_1.index t (0 : Fin 2) = 0 ∧ win0_1.index t (1 : Fin 2) = 0)
    ∧ (win0_2.index t (0 : Fin 2) = t.val + 5 ∧ win0_2.index t (1 : Fin 2) = 0)
    ∧ (win0_3.index t (0 : Fin 2) = 0 ∧ win0_3.index t (1 : Fin 2) = 0)
    ∧ (win0_4.index t (0 : Fin 2) = t.val + 5 ∧ win0_4.index t (1 : Fin 2) = 0)
    ∧ (win0_5.index t (0 : Fin 2) = t.val + 5 ∧ win0_5.index t (1 : Fin 2) = 0)
    ∧ (win0_6.index t (0 : Fin 2) = 0 ∧ win0_6.index t (1 : Fin 2) = 0) :=
  (by decide +kernel : ∀ t : Fin grid0.N, _)

theorem b0_apply (c : Dev nD) (t : Fin cfg0.N) (r : Fin 512) (k : Fin 7680) (R : Fin 5632) (h : R.val = t.val * 512 + r.val) :
    b0 m c t (ix2 r k) = dpA m c (ix2 R k) := by
  obtain ⟨⟨e0, e1⟩, -⟩ := idx_in t
  have hb0 : (((cfg0.win 0).blk t).view.emb (ix2 r k) 0).val = win0_0.index t (0 : Fin 2) * 512 + 1 * r.val := rfl
  have hb1 : (((cfg0.win 0).blk t).view.emb (ix2 r k) 1).val = win0_0.index t (1 : Fin 2) * 7680 + 1 * k.val := rfl
  show V m c main_arg3 (((cfg0.win 0).blk t).view.emb (ix2 r k)) = _
  rw [V_main_arg3]
  show dpF m c _ = dpF m c (ix2 (up R) k)
  congr 1
  funext a; apply Fin.ext
  match a with
  | ⟨0, _⟩ => show (((cfg0.win 0).blk t).view.emb (ix2 r k) 0).val = 2560 + R.val; rw [hb0, h, e0]; omega
  | ⟨1, _⟩ => show (((cfg0.win 0).blk t).view.emb (ix2 r k) 1).val = k.val; rw [hb1, e1]; omega

theorem b1_apply (c : Dev nD) (t : Fin cfg0.N) (k : Fin 7680) (l : Fin 1024) :
    b1 m c t (ix2 k l) = (wA m c (ix2 l k) : EReal) := by
  obtain ⟨-, ⟨e0, e1⟩, -⟩ := idx_in t
  have hb0 : (((cfg0.win 1).blk t).view.emb (ix2 k l) 0).val = win0_1.index t (0 : Fin 2) * 7680 + 1 * k.val := rfl
  have hb1 : (((cfg0.win 1).blk t).view.emb (ix2 k l) 1).val = win0_1.index t (1 : Fin 2) * 1024 + 1 * l.val := rfl
  rw [← V1_apply m c k l]
  show (V m c main_v1 : FVec Ideal S7680x1024 .bf16) (((cfg0.win 1).blk t).view.emb (ix2 k l)) = _
  congr 1
  funext a; apply Fin.ext
  match a with
  | ⟨0, _⟩ => show (((cfg0.win 1).blk t).view.emb (ix2 k l) 0).val = k.val; rw [hb0, e0]; omega
  | ⟨1, _⟩ => show (((cfg0.win 1).blk t).view.emb (ix2 k l) 1).val = l.val; rw [hb1, e1]; omega

theorem b2_apply (c : Dev nD) (t : Fin cfg0.N) (r : Fin 512) (k : Fin 1024) (R : Fin 5632) (h : R.val = t.val * 512 + r.val) :
    b2 m c t (ix2 r k) = xA m c (ix2 R k) := by
  obtain ⟨-, -, ⟨e0, e1⟩, -⟩ := idx_in t
  have hb0 : (((cfg0.win 2).blk t).view.emb (ix2 r k) 0).val = win0_2.index t (0 : Fin 2) * 512 + 1 * r.val := rfl
  have hb1 : (((cfg0.win 2).blk t).view.emb (ix2 r k) 1).val = win0_2.index t (1 : Fin 2) * 1024 + 1 * k.val := rfl
  show V m c main_arg0 (((cfg0.win 2).blk t).view.emb (ix2 r k)) = _
  rw [V_main_arg0]
  show xF m c _ = xF m c (ix2 (up R) k)
  congr 1
  funext a; apply Fin.ext
  match a with
  | ⟨0, _⟩ => show (((cfg0.win 2).blk t).view.emb (ix2 r k) 0).val = 2560 + R.val; rw [hb0, h, e0]; omega
  | ⟨1, _⟩ => show (((cfg0.win 2).blk t).view.emb (ix2 r k) 1).val = k.val; rw [hb1, e1]; omega

theorem b3_apply (c : Dev nD) (t : Fin cfg0.N) (l : Fin 1024) :
    b3 m c t (ix2 0 l) = (gA m c (ix1 l) : EReal) := by
  obtain ⟨-, -, -, ⟨e0, e1⟩, -⟩ := idx_in t
  have hb0 : (((cfg0.win 3).blk t).view.emb (ix2 0 l) 0).val = win0_3.index t (0 : Fin 2) * 1 + 1 * 0 := rfl
  have hb1 : (((cfg0.win 3).blk t).view.emb (ix2 0 l) 1).val = win0_3.index t (1 : Fin 2) * 1024 + 1 * l.val := rfl
  rw [← V2_apply m c l]
  show (V m c main_v2 : FVec Ideal S1x1024 .f32) (((cfg0.win 3).blk t).view.emb (ix2 0 l)) = _
  congr 1
  funext a; apply Fin.ext
  match a with
  | ⟨0, _⟩ => show (((cfg0.win 3).blk t).view.emb (ix2 0 l) 0).val = 0; rw [hb0, e0]
  | ⟨1, _⟩ => show (((cfg0.win 3).blk t).view.emb (ix2 0 l) 1).val = l.val; rw [hb1, e1]; omega

theorem b4_apply (c : Dev nD) (t : Fin cfg0.N) (r : Fin 512) (k : Fin 1024) (R : Fin 5632) (h : R.val = t.val * 512 + r.val) :
    b4 m c t (ix2 r k) = ctA m c (ix2 R k) := by
  obtain ⟨-, -, -, -, ⟨e0, e1⟩, -⟩ := idx_in t
  have hb0 : (((cfg0.win 4).blk t).view.emb (ix2 r k) 0).val = win0_4.index t (0 : Fin 2) * 512 + 1 * r.val := rfl
  have hb1 : (((cfg0.win 4).blk t).view.emb (ix2 r k) 1).val = win0_4.index t (1 : Fin 2) * 1024 + 1 * k.val := rfl
  show V m c main_arg4 (((cfg0.win 4).blk t).view.emb (ix2 r k)) = _
  rw [V_main_arg4]
  show ctF m c _ = ctF m c (ix2 (up R) k)
  congr 1
  funext a; apply Fin.ext
  match a with
  | ⟨0, _⟩ => show (((cfg0.win 4).blk t).view.emb (ix2 r k) 0).val = 2560 + R.val; rw [hb0, h, e0]; omega
  | ⟨1, _⟩ => show (((cfg0.win 4).blk t).view.emb (ix2 r k) 1).val = k.val; rw [hb1, e1]; omega

/-! ### The point's payloads, over the arrays -/

theorem p3_at (c : Dev nD) (t : Fin cfg0.N) (r : Fin 512) (l : Fin 1024) (R : Fin 5632) (h : R.val = t.val * 512 + r.val) :
    k0_pay3 (F := Ideal) (b0 m c t) (b1 m c t) (ix2 r l) = dh (wA m c) (dpA m c) R l :=
  (pay3_apply _ _ r l).trans (Finset.sum_congr rfl fun k _ =>
    congrArg₂ (· * ·) (b0_apply m c t r k R h) (b1_apply m c t k l))

theorem p4_at (c : Dev nD) (t : Fin cfg0.N) (r : Fin 512) (l : Fin 1) (R : Fin 5632) (h : R.val = t.val * 512 + r.val) :
    k0_pay4 (F := Ideal) (b2 m c t) (ix2 r l) = rs (xA m c) R :=
  (pay4_apply _ r l).trans (congrArg (fun s => Ideal.rsqrt (Ideal.div s c1024 + ceps)) (Finset.sum_congr rfl fun k _ =>
    congrArg₂ (· * ·) (b2_apply m c t r k R h) (b2_apply m c t r k R h)))

theorem p5_at (c : Dev nD) (t : Fin cfg0.N) (r : Fin 512) (l : Fin 1024) (R : Fin 5632) (h : R.val = t.val * 512 + r.val) :
    k0_pay5 (F := Ideal) (b2 m c t) (ix2 r l) = xh (xA m c) R l :=
  (pay5_apply _ r l).trans (congrArg₂ (· * ·) (b2_apply m c t r l R h) (p4_at m c t r 0 R h))

theorem p7_at (c : Dev nD) (t : Fin cfg0.N) (r : Fin 512) (l : Fin 1024) (R : Fin 5632) (h : R.val = t.val * 512 + r.val) :
    k0_pay7 (F := Ideal) (b0 m c t) (b1 m c t) (b3 m c t) (ix2 r l) = dg1 (gA m c) (wA m c) (dpA m c) R l :=
  (pay7_apply _ _ _ r l).trans (congrArg₂ (· * ·) (p3_at m c t r l R h) (b3_apply m c t l))

theorem p8_at (c : Dev nD) (t : Fin cfg0.N) (r : Fin 512) (l : Fin 1) (R : Fin 5632) (h : R.val = t.val * 512 + r.val) :
    k0_pay8 (F := Ideal) (b0 m c t) (b1 m c t) (b2 m c t) (b3 m c t) (ix2 r l)
      = ∑ k : Fin 1024, dg1 (gA m c) (wA m c) (dpA m c) R k * xh (xA m c) R k :=
  (pay8_apply _ _ _ _ r l).trans (Finset.sum_congr rfl fun k _ =>
    congrArg₂ (· * ·) (p7_at m c t r k R h) (p5_at m c t r k R h))

/-- The block of `d_x` a point leaves, over the arrays. -/
theorem dx_at (c : Dev nD) (t : Fin cfg0.N) (r : Fin 512) (l : Fin 1024) (R : Fin 5632) (h : R.val = t.val * 512 + r.val) :
    dxOf (b0 m c t) (b1 m c t) (b2 m c t) (b3 m c t) (b4 m c t) (ix2 r l)
      = DX (xA m c) (gA m c) (wA m c) (dpA m c) (ctA m c) (ix2 R l) := by
  refine (pay1_apply _ _ _ _ _ r l).trans ?_
  rw [p4_at m c t r 0 R h, p5_at m c t r l R h, p7_at m c t r l R h, p8_at m c t r 0 R h, b4_apply m c t r l R h]
  rfl

/-! ### `d_x` -/

theorem outs5 (c : Dev nD) (t : Fin cfg0.N) :
    (outsAt0 m c t.val t.isLt).1 = dxOf (b0 m c t) (b1 m c t) (b2 m c t) (b3 m c t) (b4 m c t) := by
  by_cases h0 : t.val % 11 = 0
  · rw [outsAt0_A m c t h0]
    dsimp only
    rw [out_A_5]
  · rw [outsAt0_B m c t h0]
    dsimp only
    rw [out_B_5]

theorem emb5 (t : Fin cfg0.N) (r : Fin 512) (l : Fin 1024) (R : Fin 5632) (h : R.val = t.val * 512 + r.val) :
    ((cfg0.win 5).blk t).view.emb (ix2 r l) = (ix2 (up R) l : S8192x1024.Idx) := by
  obtain ⟨-, -, -, -, -, ⟨e0, e1⟩, -⟩ := idx_in t
  have hb0 : (((cfg0.win 5).blk t).view.emb (ix2 r l) 0).val = win0_5.index t (0 : Fin 2) * 512 + 1 * r.val := rfl
  have hb1 : (((cfg0.win 5).blk t).view.emb (ix2 r l) 1).val = win0_5.index t (1 : Fin 2) * 1024 + 1 * l.val := rfl
  funext a; apply Fin.ext
  match a with
  | ⟨0, _⟩ => show (((cfg0.win 5).blk t).view.emb (ix2 r l) 0).val = 2560 + R.val; rw [hb0, h, e0]; omega
  | ⟨1, _⟩ => show (((cfg0.win 5).blk t).view.emb (ix2 r l) 1).val = l.val; rw [hb1, e1]; omega

theorem xinj5 (t : Fin cfg0.N) (y : S512x1024.Idx) : (cfg0.win 5).xinj (grid0.coords t) y = y := by
  funext a; apply Fin.ext
  match a with
  | ⟨0, _⟩ => rfl
  | ⟨1, _⟩ => rfl

theorem idx5_inj : ∀ t t' : Fin cfg0.N, win0_5.index t = win0_5.index t' → t = t' :=
  (by decide +kernel : ∀ t t' : Fin grid0.N, win0_5.index t = win0_5.index t' → t = t')

/-- The array of `d_x` the kernel leaves, in the rows of the piece. -/
theorem final5_at (c : Dev nD) (R : Fin 5632) (l : Fin 1024) :
    ((dats m 0 c).arrAt 5 cfg0.N : FVec Ideal S8192x1024 .f32) (ix2 (up R) l)
      = DX (xA m c) (gA m c) (wA m c) (dpA m c) (ctA m c) (ix2 R l) := by
  have hR := R.isLt
  have hlt : R.val / 512 < cfg0.N := lt_of_lt_of_eq (by omega : R.val / 512 < 11) N_0.symm
  have hs : R.val = (⟨R.val / 512, hlt⟩ : Fin cfg0.N).val * 512 + (⟨R.val % 512, by omega⟩ : Fin 512).val := by
    show R.val = R.val / 512 * 512 + R.val % 512; omega
  have h := congrFun ((dats m 0 c).read_blk_arrAt_eq_flushed 5 (fun t t' _ _ hne => (cfg0.win 5).disjoint_blk fun h => hne (idx5_inj t t' h))
    cfg0.N ⟨R.val / 512, hlt⟩ hlt (flush0_5 _)) (ix2 ⟨R.val % 512, by omega⟩ l : S512x1024.Idx)
  have e := emb5 ⟨R.val / 512, hlt⟩ ⟨R.val % 512, by omega⟩ l R hs
  have h2 : ((dats m 0 c).arrAt 5 cfg0.N : FVec Ideal S8192x1024 .f32) (((cfg0.win 5).blk ⟨R.val / 512, hlt⟩).view.emb (ix2 ⟨R.val % 512, by omega⟩ l : S512x1024.Idx))
      = (outsAt0 m c (R.val / 512) hlt).1 ((cfg0.win 5).xinj (grid0.coords ⟨R.val / 512, hlt⟩) (ix2 ⟨R.val % 512, by omega⟩ l : S512x1024.Idx)) :=
    h.trans (by
      show (cfg0.win 5).cut (grid0.coords ⟨R.val / 512, hlt⟩) ((dats m 0 c).after 5 ⟨R.val / 512, hlt⟩) _ = _
      rw [after0_5])
  rw [e, xinj5 ⟨R.val / 512, hlt⟩ (ix2 ⟨R.val % 512, by omega⟩ l : S512x1024.Idx)] at h2
  refine h2.trans ?_
  rw [outs5 m c ⟨R.val / 512, hlt⟩]
  exact dx_at m c ⟨R.val / 512, hlt⟩ ⟨R.val % 512, by omega⟩ l R hs

/-! ### `d_g` -/

/-- What a point adds to `d_g`. -/
def M (c : Dev nD) (n : ℕ) (l : Fin 1024) : EReal :=
  if h : n < cfg0.N then
    ∑ k : Fin 512, (k0_pay3 (F := Ideal) (b0 m c ⟨n, h⟩) (b1 m c ⟨n, h⟩) (ix2 k l) : EReal) * (k0_pay5 (F := Ideal) (b2 m c ⟨n, h⟩) (ix2 k l) : EReal)
  else 0

/-- Row 0 of the buffer of `d_g` after a point. -/
def f6 (c : Dev nD) (n : ℕ) (h : n < cfg0.N) (l : Fin 1024) : EReal := (outsAt0 m c n h).2 (ix2 0 l : S8x1024.Idx)

theorem f6_zero (c : Dev nD) (h : 0 < cfg0.N) (l : Fin 1024) : f6 m c 0 h l = M m c 0 l := by
  unfold f6
  rw [outsAt0_A m c ⟨0, h⟩ (Nat.zero_mod _)]
  dsimp only
  rw [out_A_6]
  refine (if_pos (rfl : ((ix2 0 l : S8x1024.Idx) 0).val = 0)).trans ?_
  refine (pay6_apply _ _ _ _ 0 l).trans ?_
  unfold M
  rw [dif_pos h]
  refine (congrArg (· + _) (pay2_apply _)).trans ?_
  rw [zero_add]

theorem f6_succ (c : Dev nD) (n : ℕ) (h : n + 1 < cfg0.N) (l : Fin 1024) :
    f6 m c (n + 1) h l = f6 m c n (Nat.lt_of_succ_lt h) l + M m c (n + 1) l := by
  have hN := lt_of_lt_of_eq h N_0
  unfold f6
  rw [outsAt0_B m c ⟨n + 1, h⟩ (by dsimp only; omega)]
  dsimp only
  rw [out_B_6]
  refine (if_pos (rfl : ((ix2 0 l : S8x1024.Idx) 0).val = 0)).trans ?_
  refine (pay6_apply _ _ _ _ 0 l).trans ?_
  unfold M
  rw [dif_pos h]
  rfl

theorem f6_last (c : Dev nD) (h : 10 < cfg0.N) (l : Fin 1024) :
    f6 m c 10 h l = ∑ R : Fin 5632, dh (wA m c) (dpA m c) R l * xh (xA m c) R l := by
  rw [Blocks.acc_eq (f6 m c) (M m c) (f6_zero m c) (f6_succ m c) 10 h l]
  have e : ∀ s ∈ Finset.range (10 + 1), M m c s l
      = ∑ k : Fin 512, (if h : s * 512 + k.val < 5632 then
          dh (wA m c) (dpA m c) ⟨s * 512 + k.val, h⟩ l * xh (xA m c) ⟨s * 512 + k.val, h⟩ l else (0 : EReal)) := fun s hs => by
    have hs' : s < 11 := Finset.mem_range.1 hs
    unfold M
    rw [dif_pos (lt_of_lt_of_eq hs' N_0.symm)]
    refine Finset.sum_congr rfl fun k _ => ?_
    have hk := k.isLt
    have hlt : s * 512 + k.val < 5632 := by omega
    rw [dif_pos hlt]
    exact congrArg₂ (· * ·) (p3_at m c ⟨s, lt_of_lt_of_eq hs' N_0.symm⟩ k l ⟨s * 512 + k.val, hlt⟩ (Eq.refl (s * 512 + k.val)))
      (p5_at m c ⟨s, lt_of_lt_of_eq hs' N_0.symm⟩ k l ⟨s * 512 + k.val, hlt⟩ (Eq.refl (s * 512 + k.val)))
  refine (Finset.sum_congr rfl e).trans ?_
  exact Blocks.sum_blocks (S := 11) (K := 512) (N := 5632) rfl _ _ (fun s _ k h => dif_pos h)

/-- The rows below row 0 stay zero. -/
theorem f6_low (c : Dev nD) : ∀ (n : ℕ) (h : n < cfg0.N) (y : S8x1024.Idx), (y 0).val ≠ 0 → (outsAt0 m c n h).2 y = (0 : EReal)
  | 0, h, y, hy => by
    rw [outsAt0_A m c ⟨0, h⟩ (Nat.zero_mod _)]
    dsimp only
    rw [out_A_6, if_neg hy]
    exact pay2_apply _
  | n + 1, h, y, hy => by
    have hN := lt_of_lt_of_eq h N_0
    rw [outsAt0_B m c ⟨n + 1, h⟩ (by dsimp only; omega)]
    dsimp only
    rw [out_B_6, if_neg hy]
    exact f6_low c n (Nat.lt_of_succ_lt h) y hy

theorem f6_at (c : Dev nD) (t : Fin cfg0.N) (ht : t.val = 10) (y : S8x1024.Idx) :
    (outsAt0 m c t.val t.isLt).2 y = DG (xA m c) (wA m c) (dpA m c) y := by
  unfold DG
  split_ifs with h
  · have hy : y = (ix2 0 (y 1) : S8x1024.Idx) := (eq_ix2 (n0 := 8) (n1 := 1024) y).trans (congrArg (fun r => (ix2 r (y 1) : S8x1024.Idx)) (Fin.ext h))
    obtain ⟨n, hn⟩ := t
    obtain rfl : n = 10 := ht
    refine Eq.trans ?_ (f6_last m c hn (y 1))
    unfold f6
    exact congrArg (outsAt0 m c 10 hn).2 hy
  · exact f6_low m c t.val t.isLt y h

theorem emb6 (t : Fin cfg0.N) (y : S8x1024.Idx) : ((cfg0.win 6).blk t).view.emb y = y := by
  obtain ⟨-, -, -, -, -, -, ⟨e0, e1⟩⟩ := idx_in t
  have hb0 : (((cfg0.win 6).blk t).view.emb y 0).val = win0_6.index t (0 : Fin 2) * 8 + 1 * (y 0).val := rfl
  have hb1 : (((cfg0.win 6).blk t).view.emb y 1).val = win0_6.index t (1 : Fin 2) * 1024 + 1 * (y 1).val := rfl
  funext a; apply Fin.ext
  match a with
  | ⟨0, _⟩ => show (((cfg0.win 6).blk t).view.emb y 0).val = (y 0).val; rw [hb0, e0]; omega
  | ⟨1, _⟩ => show (((cfg0.win 6).blk t).view.emb y 1).val = (y 1).val; rw [hb1, e1]; omega

theorem xinj6 (t : Fin cfg0.N) (y : S8x1024.Idx) : (cfg0.win 6).xinj (grid0.coords t) y = y := by
  funext a; apply Fin.ext
  match a with
  | ⟨0, _⟩ => rfl
  | ⟨1, _⟩ => rfl

theorem written6 (c : Dev nD) (t : Fin cfg0.N) (G : Buf (Elt Ideal) ((c : Thread nD τ).loc main_v3_1))
    (hG : ∀ y : S8x1024.Idx, (outsAt0 m c t.val t.isLt).2 y = G y) :
    (dats m 0 c).flushed 6 t = ((cfg0.win 6).blk t).view.read (Elt Ideal) G := by
  show (cfg0.win 6).cut (grid0.coords t) ((dats m 0 c).after 6 t) = _
  rw [after0_6]
  funext y
  show (outsAt0 m c t.val t.isLt).2 ((cfg0.win 6).xinj (grid0.coords t) y) = G (((cfg0.win 6).blk t).view.emb y)
  rw [emb6 t y, xinj6 t y]
  exact hG y

def tEnd : Fin cfg0.N := ⟨10, lt_of_lt_of_eq (by decide : 10 < 11) N_0.symm⟩
theorem tEnd_mod : tEnd.val % 11 = 10 := by show 10 % 11 = 10; rfl

/-- The array of `d_g` the kernel leaves. -/
theorem final6 (c : Dev nD) : (dats m 0 c).arrAt 6 cfg0.N = DG (xA m c) (wA m c) (dpA m c) :=
  (dats m 0 c).arrAt_eq_of_cover 6 (DG (xA m c) (wA m c) (dpA m c))
    (fun t hf => written6 m c t _ (fun y => f6_at m c t (by
      have h1 := (flush0_6 t).mp hf; have h2 := lt_of_lt_of_eq t.isLt N_0; omega) y))
    (fun i => ⟨tEnd, (flush0_6 tEnd).mpr tEnd_mod, by
      have h := (((cfg0.win 6).blk tEnd).view).emb_mem_set i
      rwa [emb6 tEnd i] at h⟩)

/-- The rows of the first piece keep the array given. -/
theorem fill5 (c : Dev nD) (R : Fin 8192) (l : Fin 1024) (h : R.val < 2560) :
    ((dats m 0 c).arrAt 5 cfg0.N : FVec Ideal S8192x1024 .f32) (ix2 R l) = fillA m c (ix2 R l) := by
  have e : (V m c main_v3_0 : FVec Ideal S8192x1024 .f32) = fillA m c := by
    show StableHlo.after hostOps0 _ _ = _
    unfold hostOps0
    after_results
    rfl
  refine (Value.entry5 m c (ix2 R l : S8192x1024.Idx) (fun t _ hi => ?_)).trans (congrFun e _)
  obtain ⟨y, -, hy⟩ := Finset.mem_map.1 hi
  obtain ⟨r, k, rfl⟩ : ∃ (r : Fin 512) (k : Fin 1024), y = (ix2 r k : S512x1024.Idx) := ⟨y 0, y 1, eq_ix2 (n0 := 512) (n1 := 1024) y⟩
  have ht := lt_of_lt_of_eq t.isLt N_0
  have hr := r.isLt
  have e5 := (emb5 t r k ⟨t.val * 512 + r.val, by omega⟩ rfl).symm.trans hy
  have h0 : 2560 + (t.val * 512 + r.val) = R.val := congrArg (fun i : S8192x1024.Idx => (i 0).val) e5
  omega

/-- The array of `d_x` the kernel leaves. -/
def DXF (c : Dev nD) : FVec Ideal S8192x1024 .f32 := fun i =>
  if h : (i 0).val < 2560 then fillA m c i
  else DX (xA m c) (gA m c) (wA m c) (dpA m c) (ctA m c) (ix2 ⟨(i 0).val - 2560, by have h1 : (i 0).val < 8192 := (i 0).isLt; omega⟩ (i 1))

theorem final5 (c : Dev nD) : (dats m 0 c).arrAt 5 cfg0.N = DXF m c := by
  funext i
  obtain ⟨R, l, rfl⟩ : ∃ (R : Fin 8192) (l : Fin 1024), i = (ix2 R l : S8192x1024.Idx) := ⟨i 0, i 1, eq_ix2 (n0 := 8192) (n1 := 1024) i⟩
  have hR := R.isLt
  unfold DXF
  by_cases h : R.val < 2560
  · have h1 : ((ix2 R l : S8192x1024.Idx) 0).val < 2560 := h
    rw [dif_pos h1]
    exact fill5 m c R l h
  · have h1 : ¬((ix2 R l : S8192x1024.Idx) 0).val < 2560 := h
    rw [dif_neg h1]
    have e : up ⟨R.val - 2560, by omega⟩ = R := Fin.ext (by show 2560 + (R.val - 2560) = R.val; omega)
    have h5 := final5_at m c ⟨R.val - 2560, by omega⟩ l
    rw [e] at h5
    exact h5

end Kernel

/-! ### The derivative's form of `d_x` -/

section Algebra
variable (x : FVec Ideal TX .f32) (g : FVec Ideal S1024 .f32) (w : FVec Ideal S1024x7680 .f32)
  (dp : FVec Ideal TP .bf16) (ct : FVec Ideal TX .f32)

/-- The mean square's share of the reference's `d_x`, before the factor `2 x`. -/
def Q (R : Fin 5632) : EReal :=
  Ideal.div ((∑ k : Fin 1024, (x (ix2 R k) : EReal) * dg1 g w dp R k)
    * (Ideal.ofBits .f32 0xBF000000#32 * Ideal.div (rs x R) (den x R))) c1024

/-- A sum of reals, as the ideal scalars hold it. -/
theorem sum_coe {n : ℕ} (f : Fin n → ℝ) : ∑ k, ((f k : ℝ) : EReal) = ((∑ k, f k : ℝ) : EReal) := by
  induction (Finset.univ : Finset (Fin n)) using Finset.induction_on with
  | empty => simp
  | insert a s ha ih => rw [Finset.sum_insert ha, Finset.sum_insert ha, EReal.coe_add, ih]

theorem k1024 : c1024 = ((1024 : ℝ) : EReal) := by
  simp [c1024, Ideal.ofBits, Ideal.ieee]; rw [← EReal.coe_mul]; norm_num

theorem kmh : Ideal.ofBits .f32 0xBF000000#32 = ((-(1 / 2) : ℝ) : EReal) := by
  rw [← Ideal.ofBits_def]; exact Up.k_mhalf

/-- The constant under the root, as a real. -/
def er : ℝ := 8796093 / 8796093022208
theorem er_pos : 0 < er := by norm_num [er]
theorem keps : ceps = ((er : ℝ) : EReal) := by
  simp [ceps, Ideal.ofBits, Ideal.ieee, er]; rw [← EReal.coe_mul]; norm_num

/-- Over finite rows the kernel's `d_x` is what the derivative gives. -/
theorem dx_core (hx : ∀ i, ∃ r : ℝ, (x i : EReal) = (r : EReal)) (hg : ∀ i, ∃ r : ℝ, (g i : EReal) = (r : EReal))
    (hw : ∀ i, ∃ r : ℝ, (w i : EReal) = (r : EReal)) (hdp : ∀ i, ∃ r : ℝ, (dp i : EReal) = (r : EReal)) :
    ∀ i, (((ct i : EReal) + dg1 g w dp (i 0) (i 1) * rs x (i 0)) + (x i : EReal) * Q x g w dp (i 0)) + Q x g w dp (i 0) * (x i : EReal) = DX x g w dp ct i := by
  choose xr hx using hx
  choose gr hg using hg
  choose wr hw using hw
  choose dr hdp using hdp
  intro i
  set R : Fin 5632 := i 0 with hR
  set l : Fin 1024 := i 1 with hl
  have ei : i = ix2 R l := eq_ix2 i
  -- the row's reals
  have hdh : ∀ j, dh w dp R j = ((∑ k : Fin 7680, dr (ix2 R k) * wr (ix2 j k) : ℝ) : EReal) := fun j => by
    unfold dh
    rw [← sum_coe]
    exact Finset.sum_congr rfl fun k _ => by rw [hdp, hw, EReal.coe_mul]
  obtain ⟨d, hd⟩ : ∃ d : Fin 1024 → ℝ, ∀ j, dg1 g w dp R j = ((d j : ℝ) : EReal) :=
    ⟨fun j => (∑ k : Fin 7680, dr (ix2 R k) * wr (ix2 j k)) * gr (ix1 j), fun j => by
      unfold dg1; rw [hdh, hg, EReal.coe_mul]⟩
  obtain ⟨v, hv0, hv⟩ : ∃ v : ℝ, 0 < v ∧ den x R = ((v : ℝ) : EReal) := by
    refine ⟨(∑ k : Fin 1024, xr (ix2 R k) * xr (ix2 R k)) / 1024 + er, ?_, ?_⟩
    · have h1 : 0 ≤ ∑ k : Fin 1024, xr (ix2 R k) * xr (ix2 R k) := Finset.sum_nonneg fun k _ => mul_self_nonneg _
      have h2 := er_pos
      positivity
    · unfold den
      have : ∑ k : Fin 1024, (x (ix2 R k) : EReal) * (x (ix2 R k) : EReal) = ((∑ k : Fin 1024, xr (ix2 R k) * xr (ix2 R k) : ℝ) : EReal) := by
        rw [← sum_coe]
        exact Finset.sum_congr rfl fun k _ => by rw [hx, EReal.coe_mul]
      rw [this, k1024, Up.e_div _ (by norm_num : (1024 : ℝ) ≠ 0), keps, ← EReal.coe_add]
  have hs : rs x R = (((Real.sqrt v)⁻¹ : ℝ) : EReal) := by unfold rs; rw [hv, Up.e_rsqrt hv0]
  have hss : (Real.sqrt v)⁻¹ * (Real.sqrt v)⁻¹ = v⁻¹ := by rw [← mul_inv, Real.mul_self_sqrt hv0.le]
  set s : ℝ := (Real.sqrt v)⁻¹ with hsdef
  have hxh : ∀ j, xh x R j = ((xr (ix2 R j) * s : ℝ) : EReal) := fun j => by unfold xh; rw [hs, hx, EReal.coe_mul]
  have hT : ∑ k : Fin 1024, (x (ix2 R k) : EReal) * dg1 g w dp R k = ((∑ k : Fin 1024, xr (ix2 R k) * d k : ℝ) : EReal) := by
    rw [← sum_coe]
    exact Finset.sum_congr rfl fun k _ => by rw [hx, hd, EReal.coe_mul]
  have hT' : ∑ k : Fin 1024, dg1 g w dp R k * xh x R k = ((s * ∑ k : Fin 1024, xr (ix2 R k) * d k : ℝ) : EReal) := by
    rw [Finset.mul_sum, ← sum_coe]
    exact Finset.sum_congr rfl fun k _ => by rw [hxh, hd, ← EReal.coe_mul]; congr 1; ring
  set T : ℝ := ∑ k : Fin 1024, xr (ix2 R k) * d k with hTdef
  have hQ : Q x g w dp R = ((T * (-(1 / 2) * (s / v)) / 1024 : ℝ) : EReal) := by
    unfold Q
    rw [hT, hs, hv, Up.e_div _ hv0.ne', kmh, ← EReal.coe_mul, ← EReal.coe_mul, k1024, Up.e_div _ (by norm_num : (1024 : ℝ) ≠ 0)]
  show _ = (ct i : EReal) + rs x R * (dg1 g w dp R l - xh x R l * Ideal.div (∑ k : Fin 1024, dg1 g w dp R k * xh x R k) c1024)
  rw [hQ, hs, hd, hxh, hT', k1024, Up.e_div _ (by norm_num : (1024 : ℝ) ≠ 0), hx i, ei]
  simp only [← EReal.coe_mul, ← EReal.coe_sub]
  rw [add_assoc, add_assoc, ← EReal.coe_add, ← EReal.coe_add]
  refine congrArg (fun z : ℝ => (ct (ix2 R l) : EReal) + (z : EReal)) ?_
  rw [div_eq_mul_inv s v, ← hss]
  ring

end Algebra

/-! ### The reference's arrays -/

section Reference
open Cert.InXBReferenceIdeal.Read

variable (x0 : FVec Ideal S8192x1024 .f32) (g : FVec Ideal S1024 .f32) (w : FVec Ideal S1024x7680 .f32)
  (x3 : FVec Ideal S8192x7680 .bf16) (x4 : FVec Ideal S8192x1024 .f32)

abbrev sx : FVec Ideal TX .f32 := val_main_v0 (F := Ideal) x0
abbrev sp : FVec Ideal TP .bf16 := val_main_v1 (F := Ideal) x3
abbrev sc : FVec Ideal TX .f32 := val_main_v2 (F := Ideal) x4

theorem cutX_eq0 : sx x0 = cutX x0 := by
  funext i
  show val_main_v0 (F := Ideal) x0 i = _
  rw [val_main_v0_apply]
  show x0 _ = x0 _
  congr 1
  funext a; apply Fin.ext
  match a with
  | ⟨0, _⟩ => rfl
  | ⟨1, _⟩ => rfl
theorem cutX_eq4 : sc x4 = cutX x4 := by
  funext i
  show val_main_v2 (F := Ideal) x4 i = _
  rw [val_main_v2_apply]
  show x4 _ = x4 _
  congr 1
  funext a; apply Fin.ext
  match a with
  | ⟨0, _⟩ => rfl
  | ⟨1, _⟩ => rfl
theorem cutP_eq : sp x3 = cutP x3 := by
  funext i
  show val_main_v1 (F := Ideal) x3 i = _
  rw [val_main_v1_apply]
  show x3 _ = x3 _
  congr 1
  funext a; apply Fin.ext
  match a with
  | ⟨0, _⟩ => rfl
  | ⟨1, _⟩ => rfl

theorem s6 (i : Cert.InXBReferenceIdeal.S5632x1.Idx) : val_main_v9 (F := Ideal) x0 i = den (sx x0) (i 0) := by
  rw [val_main_v9_apply, val_main_v8_apply, val_main_v7_apply, val_main_v6_apply, val_main_v5_apply, val_main_v4_apply]
  show Ideal.div (Ideal.ofBits .f32 0x00000000#32 + _) c1024 + ceps = _
  rw [Ideal.ofBits_zero_f32, zero_add]
  unfold den
  refine congrArg (fun s => Ideal.div s c1024 + ceps) (Finset.sum_congr rfl fun k _ => ?_)
  show ((sx x0) _ : EReal) * ((sx x0) _ : EReal) = _
  congr 2 <;> (funext a; match a with | ⟨0, _⟩ => rfl | ⟨1, _⟩ => rfl)

theorem s7 (i : Cert.InXBReferenceIdeal.S5632x1.Idx) : val_main_v10 (F := Ideal) x0 i = rs (sx x0) (i 0) := by
  rw [val_main_v10_apply, s6]; rfl

theorem s12 (i : TX.Idx) : val_main_v15 (F := Ideal) x0 i = xh (sx x0) (i 0) (i 1) := by
  rw [val_main_v15_apply, val_main_v14_apply, s7]
  show ((sx x0) i : EReal) * rs (sx x0) (i 0) = ((sx x0) (ix2 (i 0) (i 1)) : EReal) * rs (sx x0) (i 0)
  exact congrArg (fun j => ((sx x0) j : EReal) * rs (sx x0) (i 0)) (eq_ix2 i)

theorem s18 (i : TX.Idx) : val_main_v21 (F := Ideal) w x3 i = dh w (sp x3) (i 0) (i 1) := by
  rw [val_main_v21_apply]
  unfold dh
  refine Finset.sum_congr rfl fun k _ => ?_
  rw [val_main_v20_apply]
  show ((sp x3) _ : EReal) * (w _ : EReal) = _
  congr 2 <;> (funext a; match a with | ⟨0, _⟩ => rfl | ⟨1, _⟩ => rfl)

theorem s23 (i : TX.Idx) : val_main_v26 (F := Ideal) g w x3 i = dg1 g w (sp x3) (i 0) (i 1) := by
  rw [val_main_v26_apply, s18, val_main_v25_apply]
  show dh w (sp x3) (i 0) (i 1) * (val_main_v16 (F := Ideal) g _ : EReal) = _
  unfold dg1
  rw [val_main_v16_apply]
  refine congrArg (fun j => dh w (sp x3) (i 0) (i 1) * (g j : EReal)) ?_
  funext a; match a with | ⟨0, _⟩ => rfl

/-- The sum over the rows, as the reference takes it. -/
theorem s20 (i : S1024.Idx) : val_main_v23 (F := Ideal) x0 w x3 i = ∑ R : Fin 5632, dh w (sp x3) R (i 0) * xh (sx x0) R (i 0) := by
  rw [val_main_v23_apply]
  show Ideal.ofBits .f32 0x00000000#32 + _ = _
  rw [Ideal.ofBits_zero_f32, zero_add]
  have e : ∀ j : TX.Idx, val_main_v22 (F := Ideal) x0 w x3 j = dh w (sp x3) (j 0) (j 1) * xh (sx x0) (j 0) (j 1) := fun j => by
    rw [val_main_v22_apply, s12, s18]
    exact mul_comm (xh (sx x0) (j 0) (j 1)) (dh w (sp x3) (j 0) (j 1))
  exact Finset.sum_congr rfl fun k _ => e _

theorem s40 (i : S1x1024.Idx) : val_main_v43 (F := Ideal) x0 w x3 i = ∑ R : Fin 5632, dh w (sp x3) R (i 1) * xh (sx x0) R (i 1) := by
  rw [val_main_v43_apply, val_main_v27_apply, Fin.sum_univ_one, val_main_v24_apply, s20]
  show Ideal.ofBits .f32 0x00000000#32 + _ = _
  rw [Ideal.ofBits_zero_f32, zero_add]
  refine congrArg (fun q : Fin 1024 => ∑ R : Fin 5632, dh w (sp x3) R q * xh (sx x0) R q) (Fin.ext ?_)
  show 0 * 1024 + (i 1).val = (i 1).val
  omega

/-- The reference's `d_g` is the kernel's. -/
theorem ref_dg : val_main_v44 (F := Ideal) x0 w x3 = DG (sx x0) w (sp x3) := by
  funext i
  obtain ⟨r, l, rfl⟩ : ∃ r l, i = ix2 r l := ⟨i 0, i 1, eq_ix2 i⟩
  unfold val_main_v44 DG
  rw [pad_apply]
  by_cases h : r.val = 0
  · rw [dif_pos, if_pos]
    · rw [s40]
      refine congrArg (fun q : Fin 1024 => ∑ R : Fin 5632, dh w (sp x3) R q * xh (sx x0) R q) (Fin.ext ?_)
      show (l.val - 0) / (0 + 1) = l.val
      omega
    · exact h
    · intro a
      match a with
      | ⟨0, _⟩ => exact ⟨Nat.zero_le _, by show (r.val - 0) % (0 + 1) = 0; omega, by show (r.val - 0) / (0 + 1) < 1; omega⟩
      | ⟨1, _⟩ => exact ⟨Nat.zero_le _, by show (l.val - 0) % (0 + 1) = 0; omega, by show (l.val - 0) / (0 + 1) < 1024; have := l.isLt; omega⟩
  · rw [dif_neg, if_neg]
    · rw [val_main_call0_v0_apply]
      show (((0#32 : BitVec 32).toInt : ℝ) : EReal) = 0
      simp
    · exact h
    · intro hh
      have h2 : (r.val - 0) / (0 + 1) < 1 := (hh (0 : Fin 2)).2.2
      omega

theorem s35 (i : TX.Idx) : val_main_v38 (F := Ideal) x0 g w x3 i = Q (sx x0) g w (sp x3) (i 0) := by
  rw [val_main_v38_apply, val_main_v37_apply, Fin.sum_univ_one, val_main_v36_apply, val_main_v35_apply, val_main_v34_apply,
    val_main_v30_apply, val_main_v29_apply, val_main_v13_apply, val_main_v12_apply, val_main_v11_apply, s7, s6]
  show Ideal.ofBits .f32 0x00000000#32 + Ideal.div ((Ideal.ofBits .f32 0x00000000#32 + ∑ k : Fin 1024, (val_main_v28 (F := Ideal) x0 g w x3 (idx_main_v29 _ k) : EReal))
    * (Ideal.ofBits .f32 0xBF000000#32 * Ideal.div (rs (sx x0) (i 0)) (den (sx x0) (i 0)))) c1024 = _
  rw [Ideal.ofBits_zero_f32, zero_add, zero_add]
  unfold Q
  refine congrArg (fun s => Ideal.div (s * (Ideal.ofBits .f32 0xBF000000#32 * Ideal.div (rs (sx x0) (i 0)) (den (sx x0) (i 0)))) c1024)
    (Finset.sum_congr rfl fun k _ => ?_)
  have e : ∀ j : TX.Idx, val_main_v28 (F := Ideal) x0 g w x3 j = ((sx x0) j : EReal) * dg1 g w (sp x3) (j 0) (j 1) := fun j => by
    rw [val_main_v28_apply, s23]; rfl
  refine (e _).trans ?_
  refine congrArg (fun j : TX.Idx => ((sx x0) j : EReal) * dg1 g w (sp x3) (j 0) (j 1)) (?_ : _ = (ix2 (i 0) k : TX.Idx))
  funext a; apply Fin.ext
  match a with
  | ⟨0, _⟩ => show (i 0).val * 1 + 0 = (i 0).val; omega
  | ⟨1, _⟩ => rfl

theorem ref_dx (i : TX.Idx) : val_main_v42 (F := Ideal) x0 g w x3 x4 i
    = ((((sc x4) i : EReal) + dg1 g w (sp x3) (i 0) (i 1) * rs (sx x0) (i 0)) + ((sx x0) i : EReal) * Q (sx x0) g w (sp x3) (i 0)) + Q (sx x0) g w (sp x3) (i 0) * ((sx x0) i : EReal) := by
  rw [val_main_v42_apply, val_main_v41_apply, val_main_v40_apply, val_main_v39_apply, s35,
    val_main_v33_apply, val_main_v32_apply, val_main_v31_apply, s7, s23]
  rfl

theorem dx_eq (hx : ∀ i, ∃ r : ℝ, (x0 i : EReal) = (r : EReal)) (hg : ∀ i, ∃ r : ℝ, (g i : EReal) = (r : EReal))
    (hw : ∀ i, ∃ r : ℝ, (w i : EReal) = (r : EReal)) (hdp : ∀ i, ∃ r : ℝ, (x3 i : EReal) = (r : EReal)) :
    val_main_v42 (F := Ideal) x0 g w x3 x4 = DX (cutX x0) g w (cutP x3) (cutX x4) := by
  rw [← cutX_eq0, ← cutX_eq4, ← cutP_eq]
  funext i
  refine (ref_dx x0 g w x3 x4 i).trans (dx_core (sx x0) g w (sp x3) (sc x4) ?_ hg hw ?_ i)
  · rw [cutX_eq0]; exact fun i => hx _
  · rw [cutP_eq]; exact fun i => hdp _

/-- The reference's rows: the array given in the first piece's, the gradient in the second's. -/
theorem ref_full (x5 : FVec Ideal S8192x1024 .f32) (R : Fin 8192) (l : Fin 1024) :
    val_main_v46 (F := Ideal) x0 g w x3 x4 x5 (ix2 R l)
      = if h : R.val < 2560 then x5 (ix2 R l)
        else val_main_v42 (F := Ideal) x0 g w x3 x4 (ix2 ⟨R.val - 2560, by have := R.isLt; omega⟩ l) := by
  have hR := R.isLt
  unfold val_main_v46
  split_ifs with h
  · refine (concatenate_pair_apply_left (s₁ := Cert.InXBReferenceIdeal.S2560x1024) (s₂ := TX) 0 _ _ _ (ix2 R l : S8192x1024.Idx) rfl (ix2 ⟨R.val, h⟩ l) (fun b => by
      match b with
      | ⟨0, _⟩ => rfl
      | ⟨1, _⟩ => rfl)).trans ?_
    rw [val_main_v45_apply]
    show x5 _ = x5 _
    congr 1
    funext a; apply Fin.ext
    match a with
    | ⟨0, _⟩ => rfl
    | ⟨1, _⟩ => rfl
  · refine concatenate_pair_apply_right (s₁ := Cert.InXBReferenceIdeal.S2560x1024) (s₂ := TX) 0 _ _ _ (ix2 R l : S8192x1024.Idx) rfl rfl (ix2 ⟨R.val - 2560, by omega⟩ l) (fun b hb => by
      match b with
      | ⟨0, _⟩ => exact absurd rfl hb
      | ⟨1, _⟩ => rfl) ?_
    show R.val - 2560 + 2560 = R.val
    omega

end Reference

/-- The reference's whole `d_x` is the kernel's. -/
theorem ref_all (m : (ℓ : Loc nD τ sig) → Buf (Elt Ideal) ℓ) (c : Dev nD) (hx : ∀ i, ∃ r : ℝ, (xF m c i : EReal) = (r : EReal)) (hg : ∀ i, ∃ r : ℝ, (gA m c i : EReal) = (r : EReal))
    (hw : ∀ i, ∃ r : ℝ, (wA m c i : EReal) = (r : EReal)) (hdp : ∀ i, ∃ r : ℝ, (dpF m c i : EReal) = (r : EReal)) :
    Cert.InXBReferenceIdeal.Read.val_main_v46 (F := Ideal) (xF m c) (gA m c) (wA m c) (dpF m c) (ctF m c) (fillA m c) = DXF m c := by
  funext i
  obtain ⟨R, l, rfl⟩ : ∃ (R : Fin 8192) (l : Fin 1024), i = (ix2 R l : S8192x1024.Idx) := ⟨i 0, i 1, eq_ix2 (n0 := 8192) (n1 := 1024) i⟩
  rw [ref_full, dx_eq (xF m c) (gA m c) (wA m c) (dpF m c) (ctF m c) hx hg hw hdp]
  rfl

/-! ### The precondition -/

/-- An ideal scalar whose magnitude the comparison finds below infinity is a real. -/
theorem real_of_lt {φ : FTy} (a : Ideal φ) (h : Ideal.cmp .olt (max (a : EReal) (-(a : EReal))) (Ideal.ofBits .f32 0x7F800000#32) = 1#1) :
    ∃ r : ℝ, (a : EReal) = (r : EReal) := by
  have htop : Ideal.ofBits .f32 0x7F800000#32 = ⊤ := by simp [Ideal.ofBits, Ideal.ieee]
  rw [htop] at h
  unfold Ideal.cmp at h
  have hlt : max (a : EReal) (-(a : EReal)) < ⊤ := by
    by_contra hn
    simp [hn] at h
  rw [max_lt_iff] at hlt
  refine ⟨(a : EReal).toReal, (EReal.coe_toReal hlt.1.ne ?_).symm⟩
  intro hb
  have h2 := hlt.2
  rw [hb] at h2
  simp at h2

section Pre
variable [Cert.Pre_finite_xb.Facts]

/-- The precondition gives real elements. -/
theorem finite_of (x : FVec Ideal S8192x1024 .f32) (g : FVec Ideal S1024 .f32) (w : FVec Ideal S1024x7680 .f32)
    (dp : FVec Ideal S8192x7680 .bf16) (ct fl : FVec Ideal S8192x1024 .f32)
    (h0 : (Cert.Pre_finite_xb.fn (F := Ideal) x g w dp ct fl).1 = fun _ => 1#1)
    (h1 : (Cert.Pre_finite_xb.fn (F := Ideal) x g w dp ct fl).2.1 = fun _ => 1#1)
    (h2 : (Cert.Pre_finite_xb.fn (F := Ideal) x g w dp ct fl).2.2.1 = fun _ => 1#1)
    (h3 : (Cert.Pre_finite_xb.fn (F := Ideal) x g w dp ct fl).2.2.2.1 = fun _ => 1#1) :
    (∀ i, ∃ r : ℝ, (x i : EReal) = (r : EReal)) ∧ (∀ i, ∃ r : ℝ, (g i : EReal) = (r : EReal))
      ∧ (∀ i, ∃ r : ℝ, (w i : EReal) = (r : EReal)) ∧ (∀ i, ∃ r : ℝ, (dp i : EReal) = (r : EReal)) :=
  ⟨fun i => real_of_lt (φ := .f32) (x i) (congrFun h0 i), fun i => real_of_lt (φ := .f32) (g i) (congrFun h1 i), fun i => real_of_lt (φ := .f32) (w i) (congrFun h2 i),
    fun i => real_of_lt (φ := .bf16) (dp i) (congrFun h3 i)⟩

end Pre

end Cert.InXBVal
-- ==== Proof.InPFrame.lean ====
module

public import proofs.«01_k».proof.Proof.Gen.InPIdeal.Frame
public import Idealize.ShloMosaic.Lib.Pipeline.Value
public import Idealize.ShloMosaic.Lib.Claim

@[expose] public section

set_option maxRecDepth 16384

noncomputable section

namespace Cert.InPIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel's body: what it stores -/

/-- The normalised activations of one row block, as the body computes them from the block of `x` and the norm's gain. -/
noncomputable def hpay (v9 : Vec F S1024x1024 .f32) (v20 : Vec F S1x1024 .f32) : FVec F S1024x1024 .bf16 :=
  have v10 : FVec F S1024x1024 .f32 := mulf v9 v9
  have v11 : FVec F S1024 .f32 := multiReduction .add [1] S1024 v10 0x00000000#32 reduces_S1024x1024_S1024 (.inl rfl) rfl
  have v12 : FVec F S1024x1 .f32 := shapeCast S1024x1 v11 shapeCasts_S1024_S1024x1
  have cst_9 : F .f32 := Scalar.ofBits .f32 0x44800000#32
  have v13 : FVec F S1024x1 .f32 := broadcast S1024x1 cst_9
  have v14 : FVec F S1024x1 .f32 := divf v12 v13
  have cst_10 : F .f32 := Scalar.ofBits .f32 0x358637BD#32
  have v15 : FVec F S1024x1 .f32 := broadcast S1024x1 cst_10
  have v16 : FVec F S1024x1 .f32 := addf v14 v15
  have v17 : FVec F S1024x1 .f32 := rsqrt v16
  have v18 : FVec F S1024x1024 .f32 := broadcastTo S1024x1024 v17 broadcasts_S1024x1_S1024x1024
  have v19 : FVec F S1024x1024 .f32 := mulf v9 v18
  have v21 : FVec F S1x1024 .f32 := shapeCast S1x1024 v20 shapeCasts_S1x1024_S1x1024
  have v22 : FVec F S1024x1024 .f32 := broadcastTo S1024x1024 v21 broadcasts_S1x1024_S1024x1024
  have v23 : FVec F S1024x1024 .f32 := mulf v19 v22
  have v24 : FVec F S1024x1024 .bf16 := truncf .bf16 v23 bitsLt_bf16_f32
  v24

/-- The same as it is kept in the scratch buffer for the later column blocks. -/
noncomputable def hspay (v9 : Vec F S1024x1024 .f32) (v20 : Vec F S1x1024 .f32) : FVec F S1024x1024 .bf16 :=
  shapeCast S1024x1024 (hpay v9 v20) shapeCasts_S1024x1024_S1024x1024

/-- One block of the projection: the kept activations against one block of rows of the transposed weight. -/
noncomputable def ppay (v3 : Vec F S1024x1024 .bf16) (v4 : Vec F S1536x1024 .bf16) : FVec F S1024x1536 .bf16 :=
  have v5 : FVec F S1536x1024 .bf16 := shapeCast S1536x1024 v4 shapeCasts_S1536x1024_S1536x1024
  have cst : FVec F S1024x1536 .f32 := constant S1024x1536 .f32 0x00000000#32
  have v6 : FVec F S1024x1536 .f32 := matmul dot_S1024x1024_S1536x1024_S1024x1536_1_1_0_0_n_n none v3 v5 cst
  have v7 : FVec F S1024x1536 .bf16 := truncf .bf16 v6 bitsLt_bf16_f32
  v7

/-- The body with its payloads named. -/
noncomputable def body_skel (i : grid0.Coords) (arg2 : Memref sig .tc .vmem S1024x1024 .f32) (harg2 : arg2.IsWhole) (arg3 : Memref sig .tc .vmem S1x1024 .f32) (harg3 : arg3.IsWhole) (arg4 : Memref sig .tc .vmem S1536x1024 .bf16) (harg4 : arg4.IsWhole) (arg5 : Memref sig .tc .vmem S1024x1536 .bf16) (harg5 : arg5.IsWhole) (arg6 : Memref sig .tc .vmem S1024x1024 .bf16) (harg6 : arg6.IsWhole) (arg7 : Memref sig .tc .vmem S1024x1024 .bf16) (harg7 : arg7.IsWhole) :
    Prog (TpuEff nD τ sig (Elt F) Λ₀ .tc) PUnit := do
  if k0_h1 : k0_cond1 i = 1#1 then do
    let v9 : Vec F S1024x1024 .f32 ← Prog.lift (.load arg2 (Rect.unit (s := S1024x1024) ![0, 0] S1024x1024.size inb_S1024x1024_S1024x1024_0_0).toLoadRect (View.loadsAt_vmem h_S1024x1024))
    let v20 : Vec F S1x1024 .f32 ← Prog.lift (.load arg3 (Rect.unit (s := S1x1024) ![0, 0] S1x1024.size inb_S1x1024_S1x1024_0_0).toLoadRect (View.loadsAt_vmem h_S1x1024))
    let v25 : Vec F S1024x1024 .bf16 ← Prog.lift (.load arg7 (Rect.unit (s := S1024x1024) ![0, 0] S1024x1024.size inb_S1024x1024_S1024x1024_0_0).toLoadRect (View.loadsAt_vmem h_S1024x1024))
    Prog.lift (.store arg7 (Rect.unit (s := S1024x1024) ![0, 0] S1024x1024.size inb_S1024x1024_S1024x1024_0_0) (hspay v9 v20) Finset.univ (View.stores_vmem h_S1024x1024 (harg7.storeExact_slice rfl _ packedbf16_S1024x1024_S1024x1024_0_0) (fun _ => rfl)) (.inl rfl))
    let v28 : Vec F S1024x1024 .bf16 ← Prog.lift (.load arg6 (Rect.unit (s := S1024x1024) ![0, 0] S1024x1024.size inb_S1024x1024_S1024x1024_0_0).toLoadRect (View.loadsAt_vmem h_S1024x1024))
    Prog.lift (.store arg6 (Rect.unit (s := S1024x1024) ![0, 0] S1024x1024.size inb_S1024x1024_S1024x1024_0_0) (hpay v9 v20) Finset.univ (View.stores_vmem h_S1024x1024 (harg6.storeExact_slice rfl _ packedbf16_S1024x1024_S1024x1024_0_0) (fun _ => rfl)) (.inl rfl))
    pure ⟨⟩
  else do
    pure ⟨⟩
  let v3 : Vec F S1024x1024 .bf16 ← Prog.lift (.load arg7 (Rect.unit (s := S1024x1024) ![0, 0] S1024x1024.size inb_S1024x1024_S1024x1024_0_0).toLoadRect (View.loadsAt_vmem h_S1024x1024))
  let v4 : Vec F S1536x1024 .bf16 ← Prog.lift (.load arg4 (Rect.unit (s := S1536x1024) ![0, 0] S1536x1024.size inb_S1536x1024_S1536x1024_0_0).toLoadRect (View.loadsAt_vmem h_S1536x1024))
  let v8 : Vec F S1024x1536 .bf16 ← Prog.lift (.load arg5 (Rect.unit (s := S1024x1536) ![0, 0] S1024x1536.size inb_S1024x1536_S1024x1536_0_0).toLoadRect (View.loadsAt_vmem h_S1024x1536))
  Prog.lift (.store arg5 (Rect.unit (s := S1024x1536) ![0, 0] S1024x1536.size inb_S1024x1536_S1024x1536_0_0) (ppay v3 v4) Finset.univ (View.stores_vmem h_S1024x1536 (harg5.storeExact_slice rfl _ packedbf16_S1024x1536_S1024x1536_0_0) (fun _ => rfl)) (.inl rfl))
  pure ⟨⟩

set_option maxRecDepth 65536 in
/-- The printed body is the one with its payloads named. -/
theorem body_eq_skel : cc0_inproj_1 (F := F) = body_skel (F := F) := rfl

/-! ## The branch condition and the windows' memrefs -/

/-- The branch's condition from the grid coordinates. -/
abbrev cond0_0 (i : grid0.Coords) : Prop := k0_cond1 i = 1#1
/-- It holds at the first column block of every row block. -/
theorem hcond0_0 : ∀ t : Fin cfg0.N, cond0_0 (grid0.coords t) ↔ t.val % 5 = 0 := by decide +kernel

/-- Window 4 is live where the branch is taken. -/
theorem liveAt0_4 : ∀ t : Fin cfg0.N, t.val % 5 = 0 → cfg0.idle 4 (grid0.coords t) = false := by decide +kernel
/-- It is idle elsewhere. -/
theorem idleAt0_4 : ∀ t : Fin cfg0.N, ¬t.val % 5 = 0 → cfg0.idle 4 (grid0.coords t) = true := by decide +kernel

/-- Input window 0's current staging memref at point `t`, and that it is whole. -/
abbrev ms0_0 (t : Fin cfg0.N) : Memref sig .tc .vmem S1024x1024 .f32 := win0_0.stage (cfg0.slots t 0)
/-- Window 0's memref is whole. -/
abbrev hs0_0 (t : Fin cfg0.N) : (ms0_0 t).IsWhole := hstage0_0 ((cfg0.slots t 0).cast nbuf0_0)
/-- Input window 1's current staging memref. -/
abbrev ms0_1 (t : Fin cfg0.N) : Memref sig .tc .vmem S1x1024 .f32 := win0_1.stage (cfg0.slots t 1)
/-- Window 1's memref is whole. -/
abbrev hs0_1 (t : Fin cfg0.N) : (ms0_1 t).IsWhole := hstage0_1 ((cfg0.slots t 1).cast nbuf0_1)
/-- Input window 2's current staging memref. -/
abbrev ms0_2 (t : Fin cfg0.N) : Memref sig .tc .vmem S1536x1024 .bf16 := win0_2.stage (cfg0.slots t 2)
/-- Window 2's memref is whole. -/
abbrev hs0_2 (t : Fin cfg0.N) : (ms0_2 t).IsWhole := hstage0_2 ((cfg0.slots t 2).cast nbuf0_2)
/-- Output window 3's current staging memref. -/
abbrev ms0_3 (t : Fin cfg0.N) : Memref sig .tc .vmem S1024x1536 .bf16 := win0_3.stage (cfg0.slots t 3)
/-- Window 3's memref is whole. -/
abbrev hs0_3 (t : Fin cfg0.N) : (ms0_3 t).IsWhole := hstage0_3 ((cfg0.slots t 3).cast nbuf0_3)
/-- Output window 4's current staging memref. -/
abbrev ms0_4 (t : Fin cfg0.N) : Memref sig .tc .vmem S1024x1024 .bf16 := win0_4.stage (cfg0.slots t 4)
/-- Window 4's memref is whole. -/
abbrev hs0_4 (t : Fin cfg0.N) : (ms0_4 t).IsWhole := hstage0_4 ((cfg0.slots t 4).cast nbuf0_4)
/-- The scratch buffer. -/
abbrev scM0_0 : Memref sig .tc .vmem S1024x1024 .bf16 := Memref.whole cc0_scratch0

/-- The launch's invariant: the scratch at anything, the generator register at some state. -/
theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

/-- Membership of a rectangle over a whole shape. -/
abbrev rH : Rect S1024x1024 := Rect.unit (s := S1024x1024) ![0, 0] S1024x1024.size inb_S1024x1024_S1024x1024_0_0
/-- The whole block of the projection's output. -/
abbrev rP : Rect S1024x1536 := Rect.unit (s := S1024x1536) ![0, 0] S1024x1536.size inb_S1024x1536_S1024x1536_0_0

/-! ## The body's run, in its two cases -/

set_option maxHeartbeats 1000000 in
/-- The run of the body at the first column block of a row block: the activations are computed, kept and stored, and the
    first block of the projection is stored. -/
noncomputable def kernelRun0_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1536x1024 .bf16) (harg4 : arg4.IsWhole) (arg5 : Memref sig .tc .vmem S1024x1536 .bf16) (harg5 : arg5.IsWhole) (arg6 : Memref sig .tc .vmem S1024x1024 .bf16) (harg6 : arg6.IsWhole) (arg7 : Memref sig .tc .vmem S1024x1024 .bf16) (harg7 : arg7.IsWhole) (hc0 : cond0_0 i)
    (x0 : Vec F S1024x1024 .f32) (x1 : Vec F S1x1024 .f32) (x2 : Vec F S1536x1024 .bf16) :
    Σ' (L3 : List (View.Piece (Elt F) S1024x1536 .bf16)) (L4 : List (View.Piece (Elt F) S1024x1024 .bf16)), { L5 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0_inproj_1 i arg2 harg2 arg3 harg3 arg4 harg4 arg5 harg5 arg6 harg6 arg7 harg7) K } := by
  refine ⟨?_, ?_, ?_, fun E K => ?run⟩
  case run =>
    simp only [body_eq_skel]; unfold body_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact H5

set_option maxHeartbeats 1000000 in
/-- The run of the body at a later column block: the kept activations are read and one more block of the projection is
    stored. -/
noncomputable def kernelRun0_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1536x1024 .bf16) (harg4 : arg4.IsWhole) (arg5 : Memref sig .tc .vmem S1024x1536 .bf16) (harg5 : arg5.IsWhole) (arg6 : Memref sig .tc .vmem S1024x1024 .bf16) (harg6 : arg6.IsWhole) (arg7 : Memref sig .tc .vmem S1024x1024 .bf16) (harg7 : arg7.IsWhole) (hc0 : ¬cond0_0 i)
    (x2 : Vec F S1536x1024 .bf16) (xs : Vec F S1024x1024 .bf16) :
    { L3 : List (View.Piece (Elt F) S1024x1536 .bf16) //
      ∀ (E : Set ℕ) (K : PUnit → sProp 𝕄),
        iprop(owns (c : Thread nD τ) arg4 fullShare x2 ∗ (∃ d, owns (c : Thread nD τ) arg5 fullShare d) ∗ owns (c : Thread nD τ) arg7 fullShare xs
            ∗ (iprop(owns (c : Thread nD τ) arg4 fullShare x2 ∗ (∃ f, arg5.view.loc (c : Thread nD τ) ↦[arg5.view.set]{fullShare} arg5.view.writes (Elt F) f L3) ∗ owns (c : Thread nD τ) arg7 fullShare xs) -∗ K ⟨⟩))
          ⊢ wp frame (wpE (defs₀ (F := F)) Variants.none c none) E (cc0_inproj_1 i arg2 harg2 arg3 harg3 arg4 harg4 arg5 harg5 arg6 harg6 arg7 harg7) K } := by
  refine ⟨?_, fun E K => ?run⟩
  case run =>
    simp only [body_eq_skel]; unfold body_skel
    unfold owns
    iintro ⟨⟨%f2, %hf2, H2⟩, ⟨%d3, %f3, -, H3⟩, ⟨%f5, %hf5, H5⟩, Hk⟩
    obtain rfl := harg4.eq_unread hf2; obtain rfl := harg7.eq_unread hf5
    sl_exec (disch := first | sl_exact hc0)
    sl_step
    iapply Hk
    isplitl [H2]
    · iexists _; isplitr; · ipureintro; exact harg4.read_unread _
      iexact H2
    isplitl [H3]; · iexists _; iexact H3
    iexists _; isplitr; · ipureintro; exact harg7.read_unread _
    iexact H5

/-! ## What the runs' stores leave -/

/-- The zero offsets, spelt as the program spells them. -/
theorem hz2 : (![0, 0] : Fin 2 → Nat) = fun _ => 0 := by decide

/-- At the first column block the projection's buffer ends with the product of the activations just computed. -/
theorem readA_3 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1536x1024 .bf16) (harg4 : arg4.IsWhole) (arg5 : Memref sig .tc .vmem S1024x1536 .bf16) (harg5 : arg5.IsWhole) (arg6 : Memref sig .tc .vmem S1024x1024 .bf16) (harg6 : arg6.IsWhole) (arg7 : Memref sig .tc .vmem S1024x1024 .bf16) (harg7 : arg7.IsWhole) (hc0 : cond0_0 i)
    (x0 : Vec F S1024x1024 .f32) (x1 : Vec F S1x1024 .f32) (x2 : Vec F S1536x1024 .bf16) (f) :
    arg5.view.read (Elt F) (arg5.view.writes (Elt F) f (kernelRun0_A c i arg2 harg2 arg3 harg3 arg4 harg4 arg5 harg5 arg6 harg6 arg7 harg7 hc0 x0 x1 x2).1) = ppay (hspay x0 x1) x2 := by
  have hcov : ∀ y, ∃ pc ∈ (kernelRun0_A c i arg2 harg2 arg3 harg3 arg4 harg4 arg5 harg5 arg6 harg6 arg7 harg7 hc0 x0 x1 x2).1, y ∈ pc.1.set :=
    fun y => View.cover_of_tiledL (kernelRun0_A c i arg2 harg2 arg3 harg3 arg4 harg4 arg5 harg5 arg6 harg6 arg7 harg7 hc0 x0 x1 x2).1 S1024x1536.size (by sl_kernel_rfl) y
  rw [View.read_writes_eq_canon _ _ _ hcov]
  unfold kernelRun0_A
  dsimp only
  try sl_unfold_words
  rw [View.canon_unit_zero hz2]
  simp only [View.readAt_eq_ld, View.readCov_unit_zero (S := S1024x1024) _ hz2, harg2.read_unread, harg3.read_unread, harg4.read_unread, View.ld_unit_zero (S := S1024x1024) hz2, View.ld_unit_zero (S := S1x1024) hz2, View.ld_unit_zero (S := S1536x1024) hz2]

/-- At the first column block the activations' buffer ends with the activations of the row block. -/
theorem readA_4 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1536x1024 .bf16) (harg4 : arg4.IsWhole) (arg5 : Memref sig .tc .vmem S1024x1536 .bf16) (harg5 : arg5.IsWhole) (arg6 : Memref sig .tc .vmem S1024x1024 .bf16) (harg6 : arg6.IsWhole) (arg7 : Memref sig .tc .vmem S1024x1024 .bf16) (harg7 : arg7.IsWhole) (hc0 : cond0_0 i)
    (x0 : Vec F S1024x1024 .f32) (x1 : Vec F S1x1024 .f32) (x2 : Vec F S1536x1024 .bf16) (f) :
    arg6.view.read (Elt F) (arg6.view.writes (Elt F) f (kernelRun0_A c i arg2 harg2 arg3 harg3 arg4 harg4 arg5 harg5 arg6 harg6 arg7 harg7 hc0 x0 x1 x2).2.1) = hpay x0 x1 := by
  have hcov : ∀ y, ∃ pc ∈ (kernelRun0_A c i arg2 harg2 arg3 harg3 arg4 harg4 arg5 harg5 arg6 harg6 arg7 harg7 hc0 x0 x1 x2).2.1, y ∈ pc.1.set :=
    fun y => View.cover_of_tiledL (kernelRun0_A c i arg2 harg2 arg3 harg3 arg4 harg4 arg5 harg5 arg6 harg6 arg7 harg7 hc0 x0 x1 x2).2.1 S1024x1024.size (by sl_kernel_rfl) y
  rw [View.read_writes_eq_canon _ _ _ hcov]
  unfold kernelRun0_A
  dsimp only
  try sl_unfold_words
  rw [View.canon_unit_zero hz2]
  simp only [View.readAt_eq_ld, harg2.read_unread, harg3.read_unread, View.ld_unit_zero (S := S1024x1024) hz2, View.ld_unit_zero (S := S1x1024) hz2]

/-- At the first column block the scratch buffer ends with the same activations. -/
theorem readA_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1536x1024 .bf16) (harg4 : arg4.IsWhole) (arg5 : Memref sig .tc .vmem S1024x1536 .bf16) (harg5 : arg5.IsWhole) (arg6 : Memref sig .tc .vmem S1024x1024 .bf16) (harg6 : arg6.IsWhole) (arg7 : Memref sig .tc .vmem S1024x1024 .bf16) (harg7 : arg7.IsWhole) (hc0 : cond0_0 i)
    (x0 : Vec F S1024x1024 .f32) (x1 : Vec F S1x1024 .f32) (x2 : Vec F S1536x1024 .bf16) (f) :
    arg7.view.read (Elt F) (arg7.view.writes (Elt F) f (kernelRun0_A c i arg2 harg2 arg3 harg3 arg4 harg4 arg5 harg5 arg6 harg6 arg7 harg7 hc0 x0 x1 x2).2.2.1) = hspay x0 x1 := by
  have hcov : ∀ y, ∃ pc ∈ (kernelRun0_A c i arg2 harg2 arg3 harg3 arg4 harg4 arg5 harg5 arg6 harg6 arg7 harg7 hc0 x0 x1 x2).2.2.1, y ∈ pc.1.set :=
    fun y => View.cover_of_tiledL (kernelRun0_A c i arg2 harg2 arg3 harg3 arg4 harg4 arg5 harg5 arg6 harg6 arg7 harg7 hc0 x0 x1 x2).2.2.1 S1024x1024.size (by sl_kernel_rfl) y
  rw [View.read_writes_eq_canon _ _ _ hcov]
  unfold kernelRun0_A
  dsimp only
  try sl_unfold_words
  rw [View.canon_unit_zero hz2]
  simp only [View.readAt_eq_ld, harg2.read_unread, harg3.read_unread, View.ld_unit_zero (S := S1024x1024) hz2, View.ld_unit_zero (S := S1x1024) hz2]

/-- At a later column block the projection's buffer ends with the product of the kept activations. -/
theorem readB_3 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1536x1024 .bf16) (harg4 : arg4.IsWhole) (arg5 : Memref sig .tc .vmem S1024x1536 .bf16) (harg5 : arg5.IsWhole) (arg6 : Memref sig .tc .vmem S1024x1024 .bf16) (harg6 : arg6.IsWhole) (arg7 : Memref sig .tc .vmem S1024x1024 .bf16) (harg7 : arg7.IsWhole) (hc0 : ¬cond0_0 i)
    (x2 : Vec F S1536x1024 .bf16) (xs : Vec F S1024x1024 .bf16) (f) :
    arg5.view.read (Elt F) (arg5.view.writes (Elt F) f (kernelRun0_B c i arg2 harg2 arg3 harg3 arg4 harg4 arg5 harg5 arg6 harg6 arg7 harg7 hc0 x2 xs).1) = ppay xs x2 := by
  have hcov : ∀ y, ∃ pc ∈ (kernelRun0_B c i arg2 harg2 arg3 harg3 arg4 harg4 arg5 harg5 arg6 harg6 arg7 harg7 hc0 x2 xs).1, y ∈ pc.1.set :=
    fun y => View.cover_of_tiledL (kernelRun0_B c i arg2 harg2 arg3 harg3 arg4 harg4 arg5 harg5 arg6 harg6 arg7 harg7 hc0 x2 xs).1 S1024x1536.size (by sl_kernel_rfl) y
  rw [View.read_writes_eq_canon _ _ _ hcov]
  unfold kernelRun0_B
  dsimp only
  try sl_unfold_words
  rw [View.canon_unit_zero hz2]
  simp only [View.readAt_eq_ld, harg4.read_unread, harg7.read_unread, View.ld_unit_zero (S := S1024x1024) hz2, View.ld_unit_zero (S := S1536x1024) hz2]

/-! ## What a point finds and leaves -/

/-- The blocks of `x` and of the gain: a point's row of blocks is its number over five. -/
theorem idx_in : ∀ t : Fin cfg0.N, win0_0.index t (0 : Fin 2) = t.val / 5 ∧ win0_0.index t (1 : Fin 2) = 0
    ∧ win0_1.index t (0 : Fin 2) = 0 ∧ win0_1.index t (1 : Fin 2) = 0
    ∧ win0_2.index t (0 : Fin 2) = t.val % 5 ∧ win0_2.index t (1 : Fin 2) = 0 :=
  (by decide +kernel : ∀ t : Fin grid0.N, _)

/-- The block of `x` a point reads. -/
abbrev xB (c : Dev nD) (t : Fin cfg0.N) : Vec F S1024x1024 .f32 := iblk m c 0 t
/-- The gain a point reads. -/
abbrev gB (c : Dev nD) (t : Fin cfg0.N) : Vec F S1x1024 .f32 := iblk m c 1 t
/-- The block of the transposed weight a point reads. -/
abbrev wB (c : Dev nD) (t : Fin cfg0.N) : Vec F S1536x1024 .bf16 := iblk m c 2 t

/-- Points of one row block read the same block of `x`. -/
theorem xB_eq (c : Dev nD) (t t' : Fin cfg0.N) (h : t.val / 5 = t'.val / 5) : xB m c t = xB m c t' := by
  funext y
  show V m c (Pipeline.arrRef spec0 0) (((cfg0.win 0).blk t).view.emb y) = V m c (Pipeline.arrRef spec0 0) (((cfg0.win 0).blk t').view.emb y)
  obtain ⟨e0, e1, -⟩ := idx_in t
  obtain ⟨e0', e1', -⟩ := idx_in t'
  congr 1
  funext a; apply Fin.ext
  match a with
  | ⟨0, _⟩ => show win0_0.index t (0 : Fin 2) * 1024 + 1 * (y 0).val = win0_0.index t' (0 : Fin 2) * 1024 + 1 * (y 0).val; rw [e0, e0', h]
  | ⟨1, _⟩ => show win0_0.index t (1 : Fin 2) * 1024 + 1 * (y 1).val = win0_0.index t' (1 : Fin 2) * 1024 + 1 * (y 1).val; rw [e1, e1']

/-- All points read the same gain. -/
theorem gB_eq (c : Dev nD) (t t' : Fin cfg0.N) : gB m c t = gB m c t' := by
  funext y
  show V m c (Pipeline.arrRef spec0 1) (((cfg0.win 1).blk t).view.emb y) = V m c (Pipeline.arrRef spec0 1) (((cfg0.win 1).blk t').view.emb y)
  rfl

/-- The activations of a point's row block. -/
def hAt (c : Dev nD) (t : Fin cfg0.N) : Vec F S1024x1024 .bf16 := hpay (xB m c t) (gB m c t)
/-- The same, as the scratch keeps them. -/
def hsAt (c : Dev nD) (t : Fin cfg0.N) : Vec F S1024x1024 .bf16 := hspay (xB m c t) (gB m c t)
/-- A point's block of the projection. -/
def pAt (c : Dev nD) (t : Fin cfg0.N) : Vec F S1024x1536 .bf16 := ppay (hsAt m c t) (wB m c t)

/-- Within a row block the activations stay. -/
theorem hAt_eq (c : Dev nD) (t t' : Fin cfg0.N) (h : t.val / 5 = t'.val / 5) : hAt m c t = hAt m c t' := by
  unfold hAt; rw [xB_eq m c t t' h, gB_eq m c t t']
/-- Within a row block the kept activations stay. -/
theorem hsAt_eq (c : Dev nD) (t t' : Fin cfg0.N) (h : t.val / 5 = t'.val / 5) : hsAt m c t = hsAt m c t' := by
  unfold hsAt; rw [xB_eq m c t t' h, gB_eq m c t t']

/-- The invariant before a point: at the start the launch's own, afterwards the scratch at the activations the point before
    left in it. -/
def PhiS (c : Dev nD) : (n : ℕ) → n ≤ cfg0.N → sProp 𝕄
  | 0, _ => Pipeline.ΦA spec0 c
  | n + 1, hn => iprop(owns (c : Thread nD τ) scM0_0 fullShare (hsAt m c ⟨n, hn⟩) ∗ (∃ r, prngReg c r))

/-- Before the first point it is the launch's. -/
theorem PhiS_zero (c : Dev nD) (n : ℕ) (h : n ≤ cfg0.N) (hz : n = 0) : PhiS m c n h = Pipeline.ΦA spec0 c := by
  subst hz; rfl
/-- After a point it names the scratch. -/
theorem PhiS_succ (c : Dev nD) (n : ℕ) (hn : n < cfg0.N) :
    PhiS m c (n + 1) hn = iprop(owns (c : Thread nD τ) scM0_0 fullShare (hsAt m c ⟨n, hn⟩) ∗ (∃ r, prngReg c r)) := rfl
/-- The same, before a point that is not the first. -/
theorem PhiS_pos (c : Dev nD) (n : ℕ) (h : n ≤ cfg0.N) (hz : n ≠ 0) :
    PhiS m c n h = iprop(owns (c : Thread nD τ) scM0_0 fullShare (hsAt m c ⟨n - 1, by omega⟩) ∗ (∃ r, prngReg c r)) := by
  cases n with
  | zero => exact absurd rfl hz
  | succ n => rfl

/-- The proof data of the pipeline: the arrays as the region finds them, each input's buffer left at its block, the
    outputs' at the point's block of the projection and at the row block's activations. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => pAt m c t
    | ⟨4, _⟩ => hAt m c t
    | ⟨_ + 5, h⟩ => absurd h (Nat.not_lt.2 (Nat.le_add_left _ _))
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]
/-- The invariant at a point's start, at the point's number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- The body leaves window 0 at its block. -/
theorem after0_0 (c : Dev nD) (t : Fin cfg0.N) : (dats m 0 c).after 0 t = iblk m c 0 t := by dsimp only [dats]
/-- The body leaves window 1 at its block. -/
theorem after0_1 (c : Dev nD) (t : Fin cfg0.N) : (dats m 0 c).after 1 t = iblk m c 1 t := by dsimp only [dats]
/-- The body leaves window 2 at its block. -/
theorem after0_2 (c : Dev nD) (t : Fin cfg0.N) : (dats m 0 c).after 2 t = iblk m c 2 t := by dsimp only [dats]
/-- The body leaves the projection's block in window 3. -/
theorem after0_3 (c : Dev nD) (t : Fin cfg0.N) : (dats m 0 c).after 3 t = pAt m c t := by dsimp only [dats]
/-- The body leaves the activations in window 4. -/
theorem after0_4 (c : Dev nD) (t : Fin cfg0.N) : (dats m 0 c).after 4 t = hAt m c t := by dsimp only [dats]

/-- The body finds window 0 at its block. -/
theorem before0_0 (c : Dev nD) (t : Fin cfg0.N) (d) : (dats m 0 c).before 0 t d = iblk m c 0 t :=
  before0_0_of m (dats m 0 c) (A_eq m c 0) (after0_0 m c) t d
/-- The body finds window 1 at its block. -/
theorem before0_1 (c : Dev nD) (t : Fin cfg0.N) (d) : (dats m 0 c).before 1 t d = iblk m c 1 t :=
  before0_1_of m (dats m 0 c) (A_eq m c 1) (after0_1 m c) t d
/-- The body finds window 2 at its block. -/
theorem before0_2 (c : Dev nD) (t : Fin cfg0.N) (d) : (dats m 0 c).before 2 t d = iblk m c 2 t :=
  before0_2_of m (dats m 0 c) (A_eq m c 2) (after0_2 m c) t d

/-- At a later column block window 4 still holds the row block's activations: nothing has written it back or over since
    they were stored. -/
theorem before0_4_B (c : Dev nD) : ∀ (n : ℕ) (hn : n < cfg0.N) (h0 : ¬n % 5 = 0) (d),
    (dats m 0 c).before 4 ⟨n, hn⟩ d = hAt m c ⟨n, hn⟩ := by
  intro n
  induction n with
  | zero => intro hn h0; exact absurd (Nat.zero_mod _) h0
  | succ n ih =>
    intro hn h0 d
    have hn' : n < cfg0.N := Nat.lt_of_succ_lt hn
    rw [Dat.before_of_pos _ 4 ⟨n + 1, hn⟩ (Nat.succ_ne_zero n) ((cfg0.win 4).fetch_out rfl _)]
    have hf : ¬(cfg0.win 4).flush ⟨n, hn'⟩ = true := fun h => by
      have := (flush0_4 _).mp h; dsimp only at this; omega
    refine (if_neg hf).trans ?_
    show (dats m 0 c).left 4 ⟨n, hn'⟩ d = _
    have he : hAt m c ⟨n + 1, hn⟩ = hAt m c ⟨n, hn'⟩ := hAt_eq m c _ _ (by show (n + 1) / 5 = n / 5; omega)
    rw [he]
    unfold Dat.left
    by_cases h5 : n % 5 = 0
    · rw [liveAt0_4 ⟨n, hn'⟩ h5]
      dsimp only
      unfold Dat.kept
      rw [Pipeline.fill_of_clip_none 4 _ (fun _ => rfl) d ((dats m 0 c).after 4 ⟨n, hn'⟩), Pipeline.Window.fill_cut]
      exact after0_4 m c _
    · rw [idleAt0_4 ⟨n, hn'⟩ h5]
      exact ih hn' h5 d

/-! ## The body obligation -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (dats m 0 c).leavesExact 4 t)

set_option maxHeartbeats 1600000 in
/-- The body at a point: it takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ]
  have hN : t.val < 40 := lt_of_lt_of_eq t.isLt (show cfg0.N = 40 from N_0)
  by_cases h0 : t.val % 5 = 0
  · rw [show (dats m 0 c).leavesExact 4 t = owns (c : Thread nD τ) (ms0_4 t) fullShare ((dats m 0 c).after 4 t) from by
      unfold Dat.leavesExact; rw [liveAt0_4 t h0], after0_4]
    have hΦ : (dats m 0 c).Φ t.castSucc ⊢ iprop((∃ d, owns (c : Thread nD τ) scM0_0 fullShare d) ∗ (∃ r, prngReg c r)) := by
      rw [PhiS_castSucc]
      by_cases hz : t.val = 0
      · rw [PhiS_zero m c _ _ hz, PhiA0_eq]
      · rw [PhiS_pos m c _ _ hz]
        iintro ⟨HS, Hg⟩
        isplitl [HS]
        · iexists _; iexact HS
        iexact Hg
    refine (sep_mono hΦ .rfl).trans ?_
    iintro ⟨⟨HS, Hg⟩, Ho, ⟨%d0, H0⟩, ⟨%d1, H1⟩, ⟨%d2, H2⟩, ⟨%d3, H3⟩, ⟨%d4, H4⟩⟩
    iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t)).2.2.2 Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, ⟨%e3, H3⟩, ⟨%e4, H4⟩, ⟨%e5, HS⟩⟩
    isplitl [HS Hg]
    · isplitl [HS]
      · unfold owns; iexists _; isplitr
        swap; · iexact HS
        ipureintro; exact readA_5 c _ _ _ _ _ _ _ _ _ _ _ _ _ _ _ _ _ _
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact readA_3 c _ _ _ _ _ _ _ _ _ _ _ _ _ _ _ _ _ _
    unfold owns; iexists _; isplitr
    swap; · iexact H4
    ipureintro; exact readA_4 c _ _ _ _ _ _ _ _ _ _ _ _ _ _ _ _ _ _
  · have hz : t.val ≠ 0 := fun h => h0 (by rw [h])
    have hs : hsAt m c ⟨t.val - 1, Nat.lt_of_le_of_lt (Nat.sub_le _ _) t.isLt⟩ = hsAt m c t :=
      hsAt_eq m c _ _ (by show (t.val - 1) / 5 = t.val / 5; omega)
    rw [PhiS_castSucc, PhiS_pos m c _ _ hz, hs]
    have h4 : ∀ d, (dats m 0 c).before 4 t d = hAt m c t := fun d => before0_4_B m c t.val t.isLt h0 d
    have hl : iprop(owns (c : Thread nD τ) (ms0_4 t) fullShare (hAt m c t)) ⊢ ((dats m 0 c).leavesExact 4 t : sProp 𝕄) := by
      by_cases hf : (cfg0.win 4).flush t = true
      · unfold Dat.leavesExact; rw [idleAt0_4 t h0]; dsimp only; rw [hf]; dsimp only
        rw [after0_4]
      · rw [Dat.leavesExact_idle (dats m 0 c) 4 t (idleAt0_4 t h0) (Bool.eq_false_iff.mpr hf)]
        iintro H; iexists (hAt m c t); rw [h4]; iexact H
    refine BIBase.Entails.trans ?_ (wp_mono _ _ _ fun _ => sep_mono .rfl (sep_mono .rfl (sep_mono .rfl (sep_mono .rfl (sep_mono .rfl (sep_mono .rfl hl))))))
    simp only [h4]
    iintro ⟨⟨HS, Hg⟩, Ho, ⟨%d0, H0⟩, ⟨%d1, H1⟩, ⟨%d2, H2⟩, ⟨%d3, H3⟩, ⟨%d4, H4⟩⟩
    iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 2 t) (hsAt m c t)).2 Set.univ _)
    isplitl [H2]; · iexact H2
    isplitl [H3]; · iexists _; iexact H3
    isplitl [HS]; · iexact HS
    iintro ⟨H2, ⟨%e3, H3⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact readB_3 c _ _ _ _ _ _ _ _ _ _ _ _ _ _ _ _ _
    iexact H4

/-- The body table's row at a point is the body as the point spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch's invariant is the one before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back. -/
theorem hout (c : Dev nD) : (dats m 0 c).Φ (Fin.last cfg0.N) ⊢ Pipeline.ΦA spec0 c := by
  have ht : (Fin.last cfg0.N).val ≠ 0 := by rw [Fin.val_last]; have : cfg0.N = 40 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS, Hg⟩
  isplitl [HS]
  · iexists _; iexact HS
  iexact Hg

/-! ## The run and the frame -/

set_option backward.isDefEq.respectTransparency.types false in
/-- The launch: every fair execution ends, with the pipeline's arrays at what the proof data says and every counter at
    zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The three arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: every fair execution ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.InPIdeal.Gen

end
-- ==== Proof.InPVal.lean ====
module

public import proofs.«01_k».proof.Defs
public import proofs.«01_k».proof.Proof.InPFrame
public import proofs.«01_k».proof.Proof.Gen.InP
public import proofs.«01_k».proof.Proof.Gen.InPReferenceIdeal
public import proofs.«01_k».proof.Proof.Gen.InPReferenceIdeal.Run
public import proofs.«01_k».proof.Proof.Gen.InPReferenceIdeal.Read
public import Idealize.ShloMosaic.Lib.ValueIdx
public import Idealize.ShloMosaic.Lib.Pointwise

@[expose] public section

noncomputable section

namespace Cert.InPVal

open Cert.InPIdeal Cert.InPIdeal.Gen Idealize.ShloMosaic Idealize.ShloMosaic.TcCoe Idealize.SL.Sem

/-! ### The functions both programs compute -/

/-- The divisor 1024, as the programs write it. -/
abbrev c1024 : EReal := Ideal.ofBits .f32 0x44800000#32
/-- The constant added under the root. -/
abbrev ceps : EReal := Ideal.ofBits .f32 0x358637BD#32

/-- A row's reciprocal root mean square. -/
def rs (x : FVec Ideal S8192x1024 .f32) (R : Fin 8192) : EReal :=
  Ideal.rsqrt (Ideal.div (∑ k : Fin 1024, (x (ix2 R k) : EReal) * (x (ix2 R k) : EReal)) c1024 + ceps)
/-- The normalised layer input at a row and a column. -/
def hAtR (x : FVec Ideal S8192x1024 .f32) (g : FVec Ideal S1024 .f32) (R : Fin 8192) (l : Fin 1024) : EReal :=
  (x (ix2 R l) : EReal) * rs x R * (g (ix1 l) : EReal)
/-- The normalised layer input. -/
def H (x : FVec Ideal S8192x1024 .f32) (g : FVec Ideal S1024 .f32) : FVec Ideal S8192x1024 .bf16 := fun i =>
  hAtR x g (i 0) (i 1)
/-- The input projection: the normalised input against the weight. -/
def P (x : FVec Ideal S8192x1024 .f32) (g : FVec Ideal S1024 .f32) (w : FVec Ideal S1024x7680 .f32) :
    FVec Ideal S8192x7680 .bf16 := fun i =>
  ∑ k : Fin 1024, hAtR x g (i 0) k * (w (ix2 k (i 1)) : EReal)

/-! ### The body's stores, at an index -/

/-- The activations of a block, at an index. -/
theorem hpay_apply (x : FVec Ideal S1024x1024 .f32) (g : FVec Ideal S1x1024 .f32) (r l : Fin 1024) :
    (hpay (F := Ideal) x g (ix2 r l) : EReal)
      = (x (ix2 r l) : EReal) * Ideal.rsqrt (Ideal.div (∑ k : Fin 1024, (x (ix2 r k) : EReal) * (x (ix2 r k) : EReal)) c1024 + ceps)
        * (g (ix2 0 l) : EReal) := by
  pointwise [hpay]

/-- The kept activations are the same. -/
theorem hspay_eq (x : FVec Ideal S1024x1024 .f32) (g : FVec Ideal S1x1024 .f32) :
    hspay (F := Ideal) x g = hpay (F := Ideal) x g := by
  unfold hspay; exact shapeCast_self _ _

/-- A block of the projection, at an index. -/
theorem ppay_apply (h : FVec Ideal S1024x1024 .bf16) (w : FVec Ideal S1536x1024 .bf16) (r : Fin 1024) (l : Fin 1536) :
    (ppay (F := Ideal) h w (ix2 r l) : EReal) = ∑ k : Fin 1024, (h (ix2 r k) : EReal) * (w (ix2 l k) : EReal) := by
  pointwise [ppay]

/-! ### The kernel's arrays -/

section Kernel
variable (m : (ℓ : Loc nD τ sig) → Buf (Elt Ideal) ℓ)

/-- The argument `x`. -/
abbrev xA (c : Dev nD) : FVec Ideal S8192x1024 .f32 := m ((c : Thread nD τ).loc main_arg0)
/-- The norm's gain. -/
abbrev gA (c : Dev nD) : FVec Ideal S1024 .f32 := m ((c : Thread nD τ).loc main_arg1)
/-- The input projection's weight. -/
abbrev wA (c : Dev nD) : FVec Ideal S1024x7680 .f32 := m ((c : Thread nD τ).loc main_arg2)

/-- The host's transposed weight, at an index. -/
theorem V1_apply (c : Dev nD) (k : Fin 7680) (l : Fin 1024) :
    (V m c main_v1 : FVec Ideal S7680x1024 .bf16) (ix2 k l) = (wA m c (ix2 l k) : EReal) := by
  have e : (V m c main_v1 : FVec Ideal S7680x1024 .bf16)
      = truncf .bf16 (transpose S7680x1024 [1, 0] (wA m c) transposes_S1024x7680_S7680x1024_1_0) bitsLt_bf16_f32 := by
    show StableHlo.after hostOps0 _ _ = _
    unfold hostOps0
    after_results
  rw [e]
  pointwise

/-- The host's gain as a row, at an index. -/
theorem V2_apply (c : Dev nD) (l : Fin 1024) :
    (V m c main_v2 : FVec Ideal S1x1024 .f32) (ix2 0 l) = (gA m c (ix1 l) : EReal) := by
  have e : (V m c main_v2 : FVec Ideal S1x1024 .f32) = shapeCast S1x1024 (gA m c) shapeCasts_S1024_S1x1024 := by
    show StableHlo.after hostOps0 _ _ = _
    unfold hostOps0
    after_results
    rfl
  rw [e]
  pointwise

/-- The block of `x` a point reads, at an index. -/
theorem xB_apply (c : Dev nD) (t : Fin cfg0.N) (r k : Fin 1024) (R : Fin 8192) (h : R.val = t.val / 5 * 1024 + r.val) :
    (xB m c t (ix2 r k) : EReal) = xA m c (ix2 R k) := by
  obtain ⟨e0, e1, -⟩ := idx_in t
  have hb0 : (((cfg0.win 0).blk t).view.emb (ix2 r k) 0).val = win0_0.index t (0 : Fin 2) * 1024 + 1 * r.val := rfl
  have hb1 : (((cfg0.win 0).blk t).view.emb (ix2 r k) 1).val = win0_0.index t (1 : Fin 2) * 1024 + 1 * k.val := rfl
  show V m c main_arg0 (((cfg0.win 0).blk t).view.emb (ix2 r k)) = _
  rw [V_main_arg0]
  show xA m c _ = xA m c _
  congr 1
  funext a; apply Fin.ext
  match a with
  | ⟨0, _⟩ => show (((cfg0.win 0).blk t).view.emb (ix2 r k) 0).val = R.val; rw [hb0, h, e0]; omega
  | ⟨1, _⟩ => show (((cfg0.win 0).blk t).view.emb (ix2 r k) 1).val = k.val; rw [hb1, e1]; omega

/-- The gain a point reads, at an index. -/
theorem gB_apply (c : Dev nD) (t : Fin cfg0.N) (l : Fin 1024) :
    (gB m c t (ix2 0 l) : EReal) = gA m c (ix1 l) := by
  obtain ⟨-, -, e0, e1, -⟩ := idx_in t
  have hb0 : (((cfg0.win 1).blk t).view.emb (ix2 0 l) 0).val = win0_1.index t (0 : Fin 2) * 1 + 1 * 0 := rfl
  have hb1 : (((cfg0.win 1).blk t).view.emb (ix2 0 l) 1).val = win0_1.index t (1 : Fin 2) * 1024 + 1 * l.val := rfl
  refine Eq.trans ?_ (V2_apply m c l)
  show (V m c main_v2 : FVec Ideal S1x1024 .f32) (((cfg0.win 1).blk t).view.emb (ix2 0 l)) = (V m c main_v2 : FVec Ideal S1x1024 .f32) (ix2 0 l)
  congr 1
  funext a; apply Fin.ext
  match a with
  | ⟨0, _⟩ => show (((cfg0.win 1).blk t).view.emb (ix2 0 l) 0).val = 0; rw [hb0, e0]
  | ⟨1, _⟩ => show (((cfg0.win 1).blk t).view.emb (ix2 0 l) 1).val = l.val; rw [hb1, e1]; omega

/-- The block of the transposed weight a point reads, at an index. -/
theorem wB_apply (c : Dev nD) (t : Fin cfg0.N) (l : Fin 1536) (k : Fin 1024) (L : Fin 7680) (h : L.val = t.val % 5 * 1536 + l.val) :
    (wB m c t (ix2 l k) : EReal) = wA m c (ix2 k L) := by
  obtain ⟨-, -, -, -, e0, e1⟩ := idx_in t
  have hb0 : (((cfg0.win 2).blk t).view.emb (ix2 l k) 0).val = win0_2.index t (0 : Fin 2) * 1536 + 1 * l.val := rfl
  have hb1 : (((cfg0.win 2).blk t).view.emb (ix2 l k) 1).val = win0_2.index t (1 : Fin 2) * 1024 + 1 * k.val := rfl
  refine Eq.trans ?_ (V1_apply m c L k)
  show (V m c main_v1 : FVec Ideal S7680x1024 .bf16) (((cfg0.win 2).blk t).view.emb (ix2 l k)) = (V m c main_v1 : FVec Ideal S7680x1024 .bf16) (ix2 L k)
  congr 1
  funext a; apply Fin.ext
  match a with
  | ⟨0, _⟩ => show (((cfg0.win 2).blk t).view.emb (ix2 l k) 0).val = L.val; rw [hb0, h, e0]; omega
  | ⟨1, _⟩ => show (((cfg0.win 2).blk t).view.emb (ix2 l k) 1).val = k.val; rw [hb1, e1]; omega

/-- The activations of a point's row block, at an index. -/
theorem hAt_apply (c : Dev nD) (t : Fin cfg0.N) (r l : Fin 1024) (R : Fin 8192) (h : R.val = t.val / 5 * 1024 + r.val) :
    (hAt m c t (ix2 r l) : EReal) = hAtR (xA m c) (gA m c) R l := by
  unfold hAt
  refine (hpay_apply _ _ r l).trans ?_
  rw [xB_apply m c t r l R h, gB_apply m c t l]
  unfold hAtR rs
  refine congrArg (fun s => (xA m c (ix2 R l) : EReal) * Ideal.rsqrt (Ideal.div s c1024 + ceps) * (gA m c (ix1 l) : EReal))
    (Finset.sum_congr rfl fun k _ => ?_)
  rw [xB_apply m c t r k R h]

/-- A point's block of the projection, at an index. -/
theorem pAt_apply (c : Dev nD) (t : Fin cfg0.N) (r : Fin 1024) (l : Fin 1536) (R : Fin 8192) (L : Fin 7680)
    (h : R.val = t.val / 5 * 1024 + r.val) (hL : L.val = t.val % 5 * 1536 + l.val) :
    (pAt m c t (ix2 r l) : EReal) = ∑ k : Fin 1024, hAtR (xA m c) (gA m c) R k * (wA m c (ix2 k L) : EReal) := by
  have e : hsAt m c t = hAt m c t := by unfold hsAt hAt; exact hspay_eq _ _
  unfold pAt
  rw [e]
  refine (ppay_apply _ _ r l).trans (Finset.sum_congr rfl fun k _ => ?_)
  rw [hAt_apply m c t r k R h, wB_apply m c t l k L hL]

/-- The outputs' blocks: window 3 by row block and column block, window 4 by row block. -/
theorem idx_out : ∀ t : Fin cfg0.N, win0_3.index t (0 : Fin 2) = t.val / 5 ∧ win0_3.index t (1 : Fin 2) = t.val % 5
    ∧ win0_4.index t (0 : Fin 2) = t.val / 5 ∧ win0_4.index t (1 : Fin 2) = 0 :=
  (by decide +kernel : ∀ t : Fin grid0.N, _)

/-- Where window 3's block lies. -/
theorem emb3 (t : Fin cfg0.N) (r : Fin 1024) (l : Fin 1536) (R : Fin 8192) (L : Fin 7680)
    (h : R.val = t.val / 5 * 1024 + r.val) (hL : L.val = t.val % 5 * 1536 + l.val) :
    ((cfg0.win 3).blk t).view.emb (ix2 r l) = (ix2 R L : S8192x7680.Idx) := by
  obtain ⟨e0, e1, -⟩ := idx_out t
  have hb0 : (((cfg0.win 3).blk t).view.emb (ix2 r l) 0).val = win0_3.index t (0 : Fin 2) * 1024 + 1 * r.val := rfl
  have hb1 : (((cfg0.win 3).blk t).view.emb (ix2 r l) 1).val = win0_3.index t (1 : Fin 2) * 1536 + 1 * l.val := rfl
  funext a; apply Fin.ext
  match a with
  | ⟨0, _⟩ => show (((cfg0.win 3).blk t).view.emb (ix2 r l) 0).val = R.val; rw [hb0, h, e0]; omega
  | ⟨1, _⟩ => show (((cfg0.win 3).blk t).view.emb (ix2 r l) 1).val = L.val; rw [hb1, hL, e1]; omega

/-- Where window 4's block lies. -/
theorem emb4 (t : Fin cfg0.N) (r l : Fin 1024) (R : Fin 8192) (h : R.val = t.val / 5 * 1024 + r.val) :
    ((cfg0.win 4).blk t).view.emb (ix2 r l) = (ix2 R l : S8192x1024.Idx) := by
  obtain ⟨-, -, e0, e1⟩ := idx_out t
  have hb0 : (((cfg0.win 4).blk t).view.emb (ix2 r l) 0).val = win0_4.index t (0 : Fin 2) * 1024 + 1 * r.val := rfl
  have hb1 : (((cfg0.win 4).blk t).view.emb (ix2 r l) 1).val = win0_4.index t (1 : Fin 2) * 1024 + 1 * l.val := rfl
  funext a; apply Fin.ext
  match a with
  | ⟨0, _⟩ => show (((cfg0.win 4).blk t).view.emb (ix2 r l) 0).val = R.val; rw [hb0, h, e0]; omega
  | ⟨1, _⟩ => show (((cfg0.win 4).blk t).view.emb (ix2 r l) 1).val = l.val; rw [hb1, e1]; omega

/-- Window 3's blocks are whole. -/
theorem xinj3 (t : Fin cfg0.N) (y : S1024x1536.Idx) : (cfg0.win 3).xinj (grid0.coords t) y = y := by
  funext a; apply Fin.ext
  match a with
  | ⟨0, _⟩ => rfl
  | ⟨1, _⟩ => rfl

/-- Window 4's blocks are whole. -/
theorem xinj4 (t : Fin cfg0.N) (y : S1024x1024.Idx) : (cfg0.win 4).xinj (grid0.coords t) y = y := by
  funext a; apply Fin.ext
  match a with
  | ⟨0, _⟩ => rfl
  | ⟨1, _⟩ => rfl

/-- A point's write-back of window 3 is that block of the projection. -/
theorem written3 (c : Dev nD) (t : Fin cfg0.N) :
    (dats m 0 c).flushed 3 t = ((cfg0.win 3).blk t).view.read (Elt Ideal) (P (xA m c) (gA m c) (wA m c)) := by
  show (cfg0.win 3).cut (grid0.coords t) ((dats m 0 c).after 3 t) = _
  rw [after0_3]
  funext y
  obtain ⟨r, l, rfl⟩ : ∃ (r : Fin 1024) (l : Fin 1536), y = (ix2 r l : S1024x1536.Idx) := ⟨y 0, y 1, eq_ix2 (n0 := 1024) (n1 := 1536) y⟩
  have ht := lt_of_lt_of_eq t.isLt N_0
  have hr := r.isLt
  have hl := l.isLt
  show pAt m c t ((cfg0.win 3).xinj (grid0.coords t) (ix2 r l : S1024x1536.Idx)) = P (xA m c) (gA m c) (wA m c) (((cfg0.win 3).blk t).view.emb (ix2 r l : S1024x1536.Idx))
  rw [emb3 t r l ⟨t.val / 5 * 1024 + r.val, by omega⟩ ⟨t.val % 5 * 1536 + l.val, by omega⟩ rfl rfl, xinj3 t (ix2 r l)]
  exact pAt_apply m c t r l _ _ rfl rfl

/-- A write-back of window 4 is that block of the normalised input. -/
theorem written4 (c : Dev nD) (t : Fin cfg0.N) :
    (dats m 0 c).flushed 4 t = ((cfg0.win 4).blk t).view.read (Elt Ideal) (H (xA m c) (gA m c)) := by
  show (cfg0.win 4).cut (grid0.coords t) ((dats m 0 c).after 4 t) = _
  rw [after0_4]
  funext y
  obtain ⟨r, l, rfl⟩ : ∃ (r : Fin 1024) (l : Fin 1024), y = (ix2 r l : S1024x1024.Idx) := ⟨y 0, y 1, eq_ix2 (n0 := 1024) (n1 := 1024) y⟩
  have ht := lt_of_lt_of_eq t.isLt N_0
  have hr := r.isLt
  show hAt m c t ((cfg0.win 4).xinj (grid0.coords t) (ix2 r l : S1024x1024.Idx)) = H (xA m c) (gA m c) (((cfg0.win 4).blk t).view.emb (ix2 r l : S1024x1024.Idx))
  rw [emb4 t r l ⟨t.val / 5 * 1024 + r.val, by omega⟩ rfl, xinj4 t (ix2 r l)]
  exact hAt_apply m c t r l _ rfl

/-- Every element of the projection lies in the block of a point. -/
theorem cov3 (i : S8192x7680.Idx) : ∃ t : Fin cfg0.N, (cfg0.win 3).flush t = true ∧ i ∈ ((cfg0.win 3).blk t).view.set := by
  obtain ⟨R, L, rfl⟩ : ∃ (R : Fin 8192) (L : Fin 7680), i = (ix2 R L : S8192x7680.Idx) := ⟨i 0, i 1, eq_ix2 (n0 := 8192) (n1 := 7680) i⟩
  have hR := R.isLt
  have hL := L.isLt
  have hlt : R.val / 1024 * 5 + L.val / 1536 < cfg0.N := lt_of_lt_of_eq (by omega : R.val / 1024 * 5 + L.val / 1536 < 40) N_0.symm
  refine ⟨⟨R.val / 1024 * 5 + L.val / 1536, hlt⟩, flush0_3 _, ?_⟩
  have e := emb3 ⟨R.val / 1024 * 5 + L.val / 1536, hlt⟩ ⟨R.val % 1024, by omega⟩ ⟨L.val % 1536, by omega⟩ R L
    (by show R.val = (R.val / 1024 * 5 + L.val / 1536) / 5 * 1024 + R.val % 1024; omega)
    (by show L.val = (R.val / 1024 * 5 + L.val / 1536) % 5 * 1536 + L.val % 1536; omega)
  have h := (((cfg0.win 3).blk ⟨R.val / 1024 * 5 + L.val / 1536, hlt⟩).view).emb_mem_set (ix2 ⟨R.val % 1024, by omega⟩ ⟨L.val % 1536, by omega⟩ : S1024x1536.Idx)
  exact Eq.mp (congrArg (· ∈ ((cfg0.win 3).blk ⟨R.val / 1024 * 5 + L.val / 1536, hlt⟩).view.set) e) h

/-- Every element of the normalised input lies in the block written back at the last point of its row block. -/
theorem cov4 (i : S8192x1024.Idx) : ∃ t : Fin cfg0.N, (cfg0.win 4).flush t = true ∧ i ∈ ((cfg0.win 4).blk t).view.set := by
  obtain ⟨R, l, rfl⟩ : ∃ (R : Fin 8192) (l : Fin 1024), i = (ix2 R l : S8192x1024.Idx) := ⟨i 0, i 1, eq_ix2 (n0 := 8192) (n1 := 1024) i⟩
  have hR := R.isLt
  have hlt : R.val / 1024 * 5 + 4 < cfg0.N := lt_of_lt_of_eq (by omega : R.val / 1024 * 5 + 4 < 40) N_0.symm
  refine ⟨⟨R.val / 1024 * 5 + 4, hlt⟩, (flush0_4 _).mpr (by show (R.val / 1024 * 5 + 4) % 5 = 4; omega), ?_⟩
  have e := emb4 ⟨R.val / 1024 * 5 + 4, hlt⟩ ⟨R.val % 1024, by omega⟩ l R
    (by show R.val = (R.val / 1024 * 5 + 4) / 5 * 1024 + R.val % 1024; omega)
  have h := (((cfg0.win 4).blk ⟨R.val / 1024 * 5 + 4, hlt⟩).view).emb_mem_set (ix2 ⟨R.val % 1024, by omega⟩ l : S1024x1024.Idx)
  exact Eq.mp (congrArg (· ∈ ((cfg0.win 4).blk ⟨R.val / 1024 * 5 + 4, hlt⟩).view.set) e) h

/-- The projection the kernel leaves. -/
theorem final3 (c : Dev nD) : (dats m 0 c).arrAt 3 cfg0.N = P (xA m c) (gA m c) (wA m c) :=
  (dats m 0 c).arrAt_eq_of_cover 3 (P (xA m c) (gA m c) (wA m c)) (fun t _ => written3 m c t) cov3

/-- The normalised input the kernel leaves. -/
theorem final4 (c : Dev nD) : (dats m 0 c).arrAt 4 cfg0.N = H (xA m c) (gA m c) :=
  (dats m 0 c).arrAt_eq_of_cover 4 (H (xA m c) (gA m c)) (fun t _ => written4 m c t) cov4

end Kernel

/-! ### The reference's arrays -/

section Reference
open Cert.InPReferenceIdeal.Read

variable (x : FVec Ideal S8192x1024 .f32) (g : FVec Ideal S1024 .f32) (w : FVec Ideal S1024x7680 .f32)

/-- The reference's reciprocal root mean square. -/
theorem s7 (i : Cert.InPReferenceIdeal.S8192x1.Idx) : val_main_v7 (F := Ideal) x i = rs x (i 0) := by
  rw [val_main_v7_apply, val_main_v6_apply, val_main_v5_apply, val_main_v4_apply, val_main_v3_apply, val_main_v2_apply, val_main_v1_apply]
  show Ideal.rsqrt (Ideal.div (Ideal.ofBits .f32 0x00000000#32 + _) c1024 + ceps) = _
  rw [Ideal.ofBits_zero_f32, zero_add]
  unfold rs
  refine congrArg (fun s => Ideal.rsqrt (Ideal.div s c1024 + ceps)) (Finset.sum_congr rfl fun k _ => ?_)
  show (x _ : EReal) * (x _ : EReal) = _
  congr 2 <;> (funext a; match a with | ⟨0, _⟩ => rfl | ⟨1, _⟩ => rfl)

/-- The reference's normalised input before its cast. -/
theorem s12 (i : S8192x1024.Idx) : val_main_v12 (F := Ideal) x g i = hAtR x g (i 0) (i 1) := by
  rw [val_main_v12_apply, val_main_v9_apply, val_main_v8_apply, s7, val_main_v11_apply, val_main_v10_apply]
  show (x i : EReal) * rs x (i 0) * (g _ : EReal) = (x (ix2 (i 0) (i 1)) : EReal) * rs x (i 0) * (g (ix1 (i 1)) : EReal)
  have e1 : i = (ix2 (i 0) (i 1) : S8192x1024.Idx) := eq_ix2 i
  have e2 : idx_main_v10 (idx_main_v11 i) = (ix1 (i 1) : S1024.Idx) := by
    funext a; match a with | ⟨0, _⟩ => rfl
  rw [e2]
  exact congrArg (fun j => (x j : EReal) * rs x (i 0) * (g (ix1 (i 1)) : EReal)) e1

/-- The reference's normalised input. -/
theorem ref_h : val_main_v15 (F := Ideal) x g = H x g := by
  funext i
  rw [val_main_v15_apply, s12]
  rfl

/-- The reference's projection. -/
theorem ref_p : val_main_v14 (F := Ideal) x g w = P x g w := by
  funext i
  rw [val_main_v14_apply, val_main_v13_apply]
  show ∑ k : Fin 1024, (val_main_v12 (F := Ideal) x g (lidx_main_v13 i k) : EReal) * (w (ridx_main_v13 i k) : EReal) = _
  unfold P
  refine Finset.sum_congr rfl fun k _ => ?_
  rw [s12]
  have e : ridx_main_v13 i k = (ix2 k (i 1) : S1024x7680.Idx) := by
    funext a; match a with | ⟨0, _⟩ => rfl | ⟨1, _⟩ => rfl
  rw [e]
  rfl

end Reference

/-! ### The claims -/

/-- The two prints of the kernel have the same body, -/
theorem bodies_eq : (@Cert.InP.defs₀ Bits _ _) = (@Cert.InPIdeal.defs₀ Bits _ _) := by
  unfold Cert.InP.defs₀ Cert.InPIdeal.defs₀
  refine congrArg (Defs.onTc (nD := Cert.InP.nD) (τ := Cert.InP.τ) (sig := Cert.InP.sig) (Val := Elt Bits) (Λ := Cert.InP.Λ₀)) ?_
  funext l x
  match l, x with
  | 0, (t, s) => rfl
  | ⟨_ + 1, h⟩, _ => exact absurd h (Nat.not_lt.2 (Nat.le_add_left _ _))

/-- … and the same table of bodies and pipelines. -/
theorem defs_eq : (@Cert.InP.defs Bits _ _) = (@Cert.InPIdeal.defs Bits _ _) := by
  unfold Cert.InP.defs Cert.InPIdeal.defs
  exact congrArg (Pipeline.defs (Cert.InP.pcfgs (F := Bits))) bodies_eq

/-- The kernel as the processor computes it: every fair execution ends, the arguments unchanged. One run serves both prints. -/
theorem frame_InP : quiescent_InP := fun m ρ _ => by
  rw [defs_eq]
  exact Cert.InPIdeal.Gen.frame (F := Bits) m ρ

/-- The same at the extended reals. -/
theorem frame_InPIdeal : quiescent_InPIdeal := fun m ρ _ => Cert.InPIdeal.Gen.frame m ρ

/-- The reference: host operations only. -/
theorem frame_InPReference : quiescent_InPReferenceIdeal := fun m ρ _ =>
  (θ_run _ _ _).mono (fun r h => ⟨fun c => (h c).2.2, sem_eq_zero_of_no_sems rfl r.2⟩) (Cert.InPReferenceIdeal.Value.run m ρ)

/-- The input projection and the normalised layer input: kernel and reference leave the same arrays. -/
theorem values_InP : algebraic_InPIdeal_InPReferenceIdeal := fun m g m' g' _ hm =>
  ⟨fun c => P (xA m c) (gA m c) (wA m c), fun c => H (xA m c) (gA m c),
    (θ_run _ _ _).mono (fun r h c => ⟨((h c).1 3).trans (final3 m c), ((h c).1 4).trans (final4 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
      (run_main m g),
    (θ_run _ _ _).mono (fun r h c => by
      obtain ⟨e0, e1, e2⟩ := hm c
      refine ⟨(h c).1.trans ?_, (h c).2.1.trans ?_, (h c).2.2⟩
      · rw [Cert.InPReferenceIdeal.Read.val_main_v14_eq, e0, e1, e2]
        exact ref_p (xA m c) (gA m c) (wA m c)
      · rw [Cert.InPReferenceIdeal.Read.val_main_v15_eq, e0, e1]
        exact ref_h (xA m c) (gA m c))
      (Cert.InPReferenceIdeal.Value.run m' g')⟩

end Cert.InPVal

end
-- ==== Proof.MixRunA.lean ====
module

public import proofs.«01_k».proof.Proof.Gen.MixIdeal.Frame.Runs

@[expose] public section

-- membership in a rectangle of production extents (`View.cover_of_tiled`): the elaborator's structural look
-- recurses once per coordinate of the long axes
set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 20000000 in
/-- The run of the kernel's body at the first grid point, which zeroes the accumulators. -/
noncomputable def kernelRun0_A (c : Dev nD) (i : grid0.Coords) (arg1 : Memref sig .tc .vmem S256x7680 .bf16) (harg1 : arg1.IsWhole) (arg2 : Memref sig .tc .vmem S16x512 .bf16) (harg2 : arg2.IsWhole) (arg3 : Memref sig .tc .vmem S16x512 .bf16) (harg3 : arg3.IsWhole) (arg4 : Memref sig .tc .vmem S16x512 .bf16) (harg4 : arg4.IsWhole) (arg5 : Memref sig .tc .vmem S256x1024 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S8x512 .f32) (harg9 : arg9.IsWhole) (arg10 : Memref sig .tc .vmem S128x512 .f32) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S4x128x128 .bf16) (harg13 : arg13.IsWhole) (arg14 : Memref sig .tc .vmem S4x256x384 .bf16) (harg14 : arg14.IsWhole) (arg15 : Memref sig .tc .vmem S4x256x384 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S1024x1024 .bf16) (harg19 : arg19.IsWhole) (arg20 : Memref sig .tc .vmem S256x7680 .bf16) (harg20 : arg20.IsWhole) (arg21 : Memref sig .tc .vmem S256x1536 .bf16) (harg21 : arg21.IsWhole) (arg22 : Memref sig .tc .vmem S256x1024 .bf16) (harg22 : arg22.IsWhole) (arg23 : Memref sig .tc .vmem S256x3072 .bf16) (harg23 : arg23.IsWhole) (arg24 : Memref sig .tc .vmem S1024x128 .f32) (harg24 : arg24.IsWhole) (arg25 : Memref sig .tc .vmem S128x128 .f32) (harg25 : arg25.IsWhole) (arg26 : Memref sig .tc .vmem S512x128 .f32) (harg26 : arg26.IsWhole) (arg27 : Memref sig .tc .vmem S8x512 .f32) (harg27 : arg27.IsWhole) (arg28 : Memref sig .tc .vmem S272x512 .f32) (harg28 : arg28.IsWhole) (arg29 : Memref sig .tc .vmem S272x512 .f32) (harg29 : arg29.IsWhole) (arg30 : Memref sig .tc .vmem S16x512 .f32) (harg30 : arg30.IsWhole) (arg31 : Memref sig .tc .vmem S16x512 .bf16) (harg31 : arg31.IsWhole) (arg32 : Memref sig .tc .vmem S128x512 .f32) (harg32 : arg32.IsWhole) (hc0 : cond0_0 i) (hc1 : ¬cond0_1 i)
    (x0 : Vec F S256x7680 .bf16) (x1 : Vec F S16x512 .bf16) (x2 : Vec F S16x512 .bf16) (x3 : Vec F S16x512 .bf16) (x4 : Vec F S256x1024 .f32) (x5 : Vec F S256x1024 .bf16) (x6 : Vec F S256x1024 .bf16) (x7 : Vec F S256x1024 .bf16) (x8 : Vec F S8x512 .f32) (x9 : Vec F S128x512 .f32) (x10 : Vec F S128x1024 .bf16) (x11 : Vec F S128x1024 .bf16) (x12 : Vec F S4x128x128 .bf16) (x13 : Vec F S4x256x384 .bf16) (x14 : Vec F S4x256x384 .bf16) (x15 : Vec F S512x1024 .bf16) (x16 : Vec F S512x1024 .bf16) (x17 : Vec F S512x1024 .bf16) (x18 : Vec F S1024x1024 .bf16) :
    Σ' (L19 : List (View.Piece (Elt F) S256x7680 .bf16)), Σ' (L20 : List (View.Piece (Elt F) S256x1536 .bf16)), Σ' (L21 : List (View.Piece (Elt F) S256x1024 .bf16)), Σ' (L22 : List (View.Piece (Elt F) S256x3072 .bf16)), Σ' (L23 : List (View.Piece (Elt F) S1024x128 .f32)), Σ' (L24 : List (View.Piece (Elt F) S128x128 .f32)), Σ' (L25 : List (View.Piece (Elt F) S512x128 .f32)), Σ' (L26 : List (View.Piece (Elt F) S8x512 .f32)), Σ' (LS2 : List (View.Piece (Elt F) S16x512 .f32)), Σ' (LS3 : List (View.Piece (Elt F) S16x512 .bf16)), Σ' (LS4 : List (View.Piece (Elt F) S128x512 .f32)), Σ' (LT0 : List (View.Piece (Elt F) S272x512 .f32)), { LT1 : List (View.Piece (Elt F) S272x512 .f32) //
      ∀ (xi24 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ owns (c : Thread nD τ) arg25 fullShare xi24 ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ owns (c : Thread nD τ) arg25 fullShare xi24 ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f LT0) ∗ (∃ f, arg29.view.loc (c : Thread nD τ) ↦[arg29.view.set]{fullShare} arg29.view.writes (Elt F) f LT1) ∗ (∃ f, arg30.view.loc (c : Thread nD τ) ↦[arg30.view.set]{fullShare} arg30.view.writes (Elt F) f LS2) ∗ (∃ f, arg31.view.loc (c : Thread nD τ) ↦[arg31.view.set]{fullShare} arg31.view.writes (Elt F) f LS3) ∗ (∃ f, arg32.view.loc (c : Thread nD τ) ↦[arg32.view.set]{fullShare} arg32.view.writes (Elt F) f LS4)) -∗ K ⟨⟩))
          ⊢ wp frame (wpE (defs₀ (F := F)) Variants.none c none) E (cc0_mix_bwd_1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K } := by
  refine ⟨?_, ?_, ?_, ?_, ?_, [], ?_, ?_, ?_, ?_, ?_, ?_, ?_, fun xi24 E K => ?run⟩
  case run =>
    simp only [cc0_mix_bwd_1_eq_skeleton]; unfold cc0_mix_bwd_1_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%f24, %hf24, H24⟩, ⟨%d25, %f25, -, H25⟩, ⟨%d26, %f26, -, H26⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg25.eq_unread hf24
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]
    · iexists _; isplitr; · ipureintro; exact harg25.read_unread _
      iexact H24
    isplitl [H25]; · iexists _; iexact H25
    isplitl [H26]; · iexists _; iexact H26
    isplitl [HS0]; · iexists _; iexact HS0
    isplitl [HS1]; · iexists _; iexact HS1
    isplitl [HS2]; · iexists _; iexact HS2
    isplitl [HS3]; · iexists _; iexact HS3
    iexists _; iexact HS4

end Cert.MixIdeal.Gen

end
-- ==== Proof.MixRunC.lean ====
module

public import proofs.«01_k».proof.Proof.MixRunB

@[expose] public section

-- membership in a rectangle of production extents (`View.cover_of_tiled`): the elaborator's structural look
-- recurses once per coordinate of the long axes
set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 20000000 in
/-- The run of the kernel's body at the last grid point, which masks and folds the accumulators. -/
noncomputable def kernelRun0_C (c : Dev nD) (i : grid0.Coords) (arg1 : Memref sig .tc .vmem S256x7680 .bf16) (harg1 : arg1.IsWhole) (arg2 : Memref sig .tc .vmem S16x512 .bf16) (harg2 : arg2.IsWhole) (arg3 : Memref sig .tc .vmem S16x512 .bf16) (harg3 : arg3.IsWhole) (arg4 : Memref sig .tc .vmem S16x512 .bf16) (harg4 : arg4.IsWhole) (arg5 : Memref sig .tc .vmem S256x1024 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S8x512 .f32) (harg9 : arg9.IsWhole) (arg10 : Memref sig .tc .vmem S128x512 .f32) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S4x128x128 .bf16) (harg13 : arg13.IsWhole) (arg14 : Memref sig .tc .vmem S4x256x384 .bf16) (harg14 : arg14.IsWhole) (arg15 : Memref sig .tc .vmem S4x256x384 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S1024x1024 .bf16) (harg19 : arg19.IsWhole) (arg20 : Memref sig .tc .vmem S256x7680 .bf16) (harg20 : arg20.IsWhole) (arg21 : Memref sig .tc .vmem S256x1536 .bf16) (harg21 : arg21.IsWhole) (arg22 : Memref sig .tc .vmem S256x1024 .bf16) (harg22 : arg22.IsWhole) (arg23 : Memref sig .tc .vmem S256x3072 .bf16) (harg23 : arg23.IsWhole) (arg24 : Memref sig .tc .vmem S1024x128 .f32) (harg24 : arg24.IsWhole) (arg25 : Memref sig .tc .vmem S128x128 .f32) (harg25 : arg25.IsWhole) (arg26 : Memref sig .tc .vmem S512x128 .f32) (harg26 : arg26.IsWhole) (arg27 : Memref sig .tc .vmem S8x512 .f32) (harg27 : arg27.IsWhole) (arg28 : Memref sig .tc .vmem S272x512 .f32) (harg28 : arg28.IsWhole) (arg29 : Memref sig .tc .vmem S272x512 .f32) (harg29 : arg29.IsWhole) (arg30 : Memref sig .tc .vmem S16x512 .f32) (harg30 : arg30.IsWhole) (arg31 : Memref sig .tc .vmem S16x512 .bf16) (harg31 : arg31.IsWhole) (arg32 : Memref sig .tc .vmem S128x512 .f32) (harg32 : arg32.IsWhole) (hc0 : ¬cond0_0 i) (hc1 : cond0_1 i)
    (x0 : Vec F S256x7680 .bf16) (x1 : Vec F S16x512 .bf16) (x2 : Vec F S16x512 .bf16) (x3 : Vec F S16x512 .bf16) (x4 : Vec F S256x1024 .f32) (x5 : Vec F S256x1024 .bf16) (x6 : Vec F S256x1024 .bf16) (x7 : Vec F S256x1024 .bf16) (x8 : Vec F S8x512 .f32) (x9 : Vec F S128x512 .f32) (x10 : Vec F S128x1024 .bf16) (x11 : Vec F S128x1024 .bf16) (x12 : Vec F S4x128x128 .bf16) (x13 : Vec F S4x256x384 .bf16) (x14 : Vec F S4x256x384 .bf16) (x15 : Vec F S512x1024 .bf16) (x16 : Vec F S512x1024 .bf16) (x17 : Vec F S512x1024 .bf16) (x18 : Vec F S1024x1024 .bf16) (xo23 : Vec F S1024x128 .f32) (xo25 : Vec F S512x128 .f32) (xo26 : Vec F S8x512 .f32) (xs2 : Vec F S16x512 .f32) (xs3 : Vec F S16x512 .bf16) (xs4 : Vec F S128x512 .f32) :
    Σ' (L19 : List (View.Piece (Elt F) S256x7680 .bf16)), Σ' (L20 : List (View.Piece (Elt F) S256x1536 .bf16)), Σ' (L21 : List (View.Piece (Elt F) S256x1024 .bf16)), Σ' (L22 : List (View.Piece (Elt F) S256x3072 .bf16)), Σ' (L23 : List (View.Piece (Elt F) S1024x128 .f32)), Σ' (L24 : List (View.Piece (Elt F) S128x128 .f32)), Σ' (L25 : List (View.Piece (Elt F) S512x128 .f32)), Σ' (L26 : List (View.Piece (Elt F) S8x512 .f32)), Σ' (LS2 : List (View.Piece (Elt F) S16x512 .f32)), Σ' (LS3 : List (View.Piece (Elt F) S16x512 .bf16)), Σ' (LS4 : List (View.Piece (Elt F) S128x512 .f32)), Σ' (LT0 : List (View.Piece (Elt F) S272x512 .f32)), { LT1 : List (View.Piece (Elt F) S272x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xo23 ∗ (∃ d, owns (c : Thread nD τ) arg25 fullShare d) ∗ owns (c : Thread nD τ) arg26 fullShare xo25 ∗ owns (c : Thread nD τ) arg27 fullShare xo26 ∗ (∃ d, owns (c : Thread nD τ) arg28 fullShare d) ∗ (∃ d, owns (c : Thread nD τ) arg29 fullShare d) ∗ owns (c : Thread nD τ) arg30 fullShare xs2 ∗ owns (c : Thread nD τ) arg31 fullShare xs3 ∗ owns (c : Thread nD τ) arg32 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (arg27.view.loc (c : Thread nD τ) ↦[arg27.view.set]{fullShare} arg27.view.writes (Elt F) (harg27.unread xo26) L26) ∗ (∃ f, arg28.view.loc (c : Thread nD τ) ↦[arg28.view.set]{fullShare} arg28.view.writes (Elt F) f LT0) ∗ (∃ f, arg29.view.loc (c : Thread nD τ) ↦[arg29.view.set]{fullShare} arg29.view.writes (Elt F) f LT1) ∗ (∃ f, arg30.view.loc (c : Thread nD τ) ↦[arg30.view.set]{fullShare} arg30.view.writes (Elt F) f LS2) ∗ (∃ f, arg31.view.loc (c : Thread nD τ) ↦[arg31.view.set]{fullShare} arg31.view.writes (Elt F) f LS3) ∗ (∃ f, arg32.view.loc (c : Thread nD τ) ↦[arg32.view.set]{fullShare} arg32.view.writes (Elt F) f LS4)) -∗ K ⟨⟩))
          ⊢ wp frame (wpE (defs₀ (F := F)) Variants.none c none) E (cc0_mix_bwd_1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K } := by
  refine ⟨?_, ?_, ?_, ?_, ?_, ?_, ?_, ?_, ?_, ?_, ?_, ?_, ?_, fun E K => ?run⟩
  case run =>
    simp only [cc0_mix_bwd_1_eq_skeleton]; unfold cc0_mix_bwd_1_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%f23, %hf23, H23⟩, ⟨%d24, %f24, -, H24⟩, ⟨%f25, %hf25, H25⟩, ⟨%f26, %hf26, H26⟩, ⟨%ds0, %fs0, -, HS0⟩, ⟨%ds1, %fs1, -, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg24.eq_unread hf23; obtain rfl := harg26.eq_unread hf25; obtain rfl := harg27.eq_unread hf26; obtain rfl := harg30.eq_unread hfs2; obtain rfl := harg31.eq_unread hfs3; obtain rfl := harg32.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexact H26
    isplitl [HS0]; · iexists _; iexact HS0
    isplitl [HS1]; · iexists _; iexact HS1
    isplitl [HS2]; · iexists _; iexact HS2
    isplitl [HS3]; · iexists _; iexact HS3
    iexists _; iexact HS4

end Cert.MixIdeal.Gen

end
-- ==== Proof.MixOuts.lean ====
module

public import proofs.«01_k».proof.Proof.MixRunC
public import Idealize.ShloMosaic.Lib.Claim

@[expose] public section

-- membership in a rectangle of production extents (`View.cover_of_tiled`): the elaborator's structural look
-- recurses once per coordinate of the long axes
set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's run at a grid point: the body's run at the point's staging memrefs and input blocks. -/
noncomputable def runA (c : Dev nD) (t : Fin cfg0.N) (hc0 : cond0_0 (grid0.coords t)) (hc1 : ¬cond0_1 (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)

/-- Case B's run at a grid point: the body's run at the point's staging memrefs and input blocks. -/
noncomputable def runB (c : Dev nD) (t : Fin cfg0.N) (hc0 : ¬cond0_0 (grid0.coords t)) (hc1 : ¬cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xo23 xo25 xo26 xs2 xs3 xs4

/-- Case C's run at a grid point: the body's run at the point's staging memrefs and input blocks. -/
noncomputable def runC (c : Dev nD) (t : Fin cfg0.N) (hc0 : ¬cond0_0 (grid0.coords t)) (hc1 : cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xo23 xo25 xo26 xs2 xs3 xs4

/-- Case A's stores cover output 19's whole buffer. -/
theorem cover0_A_19 (c : Dev nD) (t : Fin cfg0.N) (hc0 : cond0_0 (grid0.coords t)) (hc1 : ¬cond0_1 (grid0.coords t)) (y : S256x7680.Idx) :
    ∃ pc ∈ (runA m c t hc0 hc1).1, y ∈ pc.1.set :=
  View.cover_of_tiledBy (runA m c t hc0 hc1).1 ![256, 128] (by sl_kernel_rfl) y

/-- What case A leaves in output 19's buffer: its stores read back. -/
def out0_A_19 (c : Dev nD) (t : Fin cfg0.N) (hc0 : cond0_0 (grid0.coords t)) (hc1 : ¬cond0_1 (grid0.coords t)) : Vec F S256x7680 .bf16 :=
  VO0_19.read (Elt F) (VO0_19.writes (Elt F) VO0_19.junk (runA m c t hc0 hc1).1)

/-- Case A's stores cover output 20's whole buffer. -/
theorem cover0_A_20 (c : Dev nD) (t : Fin cfg0.N) (hc0 : cond0_0 (grid0.coords t)) (hc1 : ¬cond0_1 (grid0.coords t)) (y : S256x1536.Idx) :
    ∃ pc ∈ (runA m c t hc0 hc1).2.1, y ∈ pc.1.set :=
  View.cover_of_tiledL (runA m c t hc0 hc1).2.1 S256x512.size (by sl_kernel_rfl) y

/-- What case A leaves in output 20's buffer: its stores read back. -/
def out0_A_20 (c : Dev nD) (t : Fin cfg0.N) (hc0 : cond0_0 (grid0.coords t)) (hc1 : ¬cond0_1 (grid0.coords t)) : Vec F S256x1536 .bf16 :=
  VO0_20.read (Elt F) (VO0_20.writes (Elt F) VO0_20.junk (runA m c t hc0 hc1).2.1)

/-- Case A's stores cover output 21's whole buffer. -/
theorem cover0_A_21 (c : Dev nD) (t : Fin cfg0.N) (hc0 : cond0_0 (grid0.coords t)) (hc1 : ¬cond0_1 (grid0.coords t)) (y : S256x1024.Idx) :
    ∃ pc ∈ (runA m c t hc0 hc1).2.2.1, y ∈ pc.1.set :=
  View.cover_of_tiledL (runA m c t hc0 hc1).2.2.1 S256x1024.size (by sl_kernel_rfl) y

/-- What case A leaves in output 21's buffer: its stores read back. -/
def out0_A_21 (c : Dev nD) (t : Fin cfg0.N) (hc0 : cond0_0 (grid0.coords t)) (hc1 : ¬cond0_1 (grid0.coords t)) : Vec F S256x1024 .bf16 :=
  VO0_21.read (Elt F) (VO0_21.writes (Elt F) VO0_21.junk (runA m c t hc0 hc1).2.2.1)

/-- Case A's stores cover output 22's whole buffer. -/
theorem cover0_A_22 (c : Dev nD) (t : Fin cfg0.N) (hc0 : cond0_0 (grid0.coords t)) (hc1 : ¬cond0_1 (grid0.coords t)) (y : S256x3072.Idx) :
    ∃ pc ∈ (runA m c t hc0 hc1).2.2.2.1, y ∈ pc.1.set :=
  View.cover_of_tiledL (runA m c t hc0 hc1).2.2.2.1 S256x1024.size (by sl_kernel_rfl) y

/-- What case A leaves in output 22's buffer: its stores read back. -/
def out0_A_22 (c : Dev nD) (t : Fin cfg0.N) (hc0 : cond0_0 (grid0.coords t)) (hc1 : ¬cond0_1 (grid0.coords t)) : Vec F S256x3072 .bf16 :=
  VO0_22.read (Elt F) (VO0_22.writes (Elt F) VO0_22.junk (runA m c t hc0 hc1).2.2.2.1)

/-- Case A's stores cover output 23's whole buffer. -/
theorem cover0_A_23 (c : Dev nD) (t : Fin cfg0.N) (hc0 : cond0_0 (grid0.coords t)) (hc1 : ¬cond0_1 (grid0.coords t)) (y : S1024x128.Idx) :
    ∃ pc ∈ (runA m c t hc0 hc1).2.2.2.2.1, y ∈ pc.1.set :=
  View.cover_of_tiledL (runA m c t hc0 hc1).2.2.2.2.1 S1024x128.size (by sl_kernel_rfl) y

/-- What case A leaves in output 23's buffer: its stores read back. -/
def out0_A_23 (c : Dev nD) (t : Fin cfg0.N) (hc0 : cond0_0 (grid0.coords t)) (hc1 : ¬cond0_1 (grid0.coords t)) : Vec F S1024x128 .f32 :=
  VO0_23.read (Elt F) (VO0_23.writes (Elt F) VO0_23.junk (runA m c t hc0 hc1).2.2.2.2.1)

/-- What case A leaves in output 24's buffer: its stores read back. -/
def out0_A_24 (c : Dev nD) (t : Fin cfg0.N) (hc0 : cond0_0 (grid0.coords t)) (hc1 : ¬cond0_1 (grid0.coords t)) : Vec F S128x128 .f32 :=
  VO0_24.read (Elt F) (VO0_24.writes (Elt F) VO0_24.junk (runA m c t hc0 hc1).2.2.2.2.2.1)

/-- Case A's stores cover output 25's whole buffer. -/
theorem cover0_A_25 (c : Dev nD) (t : Fin cfg0.N) (hc0 : cond0_0 (grid0.coords t)) (hc1 : ¬cond0_1 (grid0.coords t)) (y : S512x128.Idx) :
    ∃ pc ∈ (runA m c t hc0 hc1).2.2.2.2.2.2.1, y ∈ pc.1.set :=
  View.cover_of_tiledBy (runA m c t hc0 hc1).2.2.2.2.2.2.1 ![128, 128] (by sl_kernel_rfl) y

/-- What case A leaves in output 25's buffer: its stores read back. -/
def out0_A_25 (c : Dev nD) (t : Fin cfg0.N) (hc0 : cond0_0 (grid0.coords t)) (hc1 : ¬cond0_1 (grid0.coords t)) : Vec F S512x128 .f32 :=
  VO0_25.read (Elt F) (VO0_25.writes (Elt F) VO0_25.junk (runA m c t hc0 hc1).2.2.2.2.2.2.1)

/-- Case A's stores cover output 26's whole buffer. -/
theorem cover0_A_26 (c : Dev nD) (t : Fin cfg0.N) (hc0 : cond0_0 (grid0.coords t)) (hc1 : ¬cond0_1 (grid0.coords t)) (y : S8x512.Idx) :
    ∃ pc ∈ (runA m c t hc0 hc1).2.2.2.2.2.2.2.1, y ∈ pc.1.set :=
  View.cover_of_tiledBy (runA m c t hc0 hc1).2.2.2.2.2.2.2.1 ![1, 512] (by sl_kernel_rfl) y

/-- What case A leaves in output 26's buffer: its stores read back. -/
def out0_A_26 (c : Dev nD) (t : Fin cfg0.N) (hc0 : cond0_0 (grid0.coords t)) (hc1 : ¬cond0_1 (grid0.coords t)) : Vec F S8x512 .f32 :=
  VO0_26.read (Elt F) (VO0_26.writes (Elt F) VO0_26.junk (runA m c t hc0 hc1).2.2.2.2.2.2.2.1)

/-- Case A's stores cover scratch 2's whole buffer. -/
theorem scover0_A_2 (c : Dev nD) (t : Fin cfg0.N) (hc0 : cond0_0 (grid0.coords t)) (hc1 : ¬cond0_1 (grid0.coords t)) (y : S16x512.Idx) :
    ∃ pc ∈ (runA m c t hc0 hc1).2.2.2.2.2.2.2.2.1, y ∈ pc.1.set :=
  View.cover_of_tiledL (runA m c t hc0 hc1).2.2.2.2.2.2.2.2.1 S16x512.size (by sl_kernel_rfl) y

/-- What case A leaves in scratch 2's buffer: its stores read back. -/
def sout0_A_2 (c : Dev nD) (t : Fin cfg0.N) (hc0 : cond0_0 (grid0.coords t)) (hc1 : ¬cond0_1 (grid0.coords t)) : Vec F S16x512 .f32 :=
  VS0_2.read (Elt F) (VS0_2.writes (Elt F) VS0_2.junk (runA m c t hc0 hc1).2.2.2.2.2.2.2.2.1)

/-- Case A's stores cover scratch 3's whole buffer. -/
theorem scover0_A_3 (c : Dev nD) (t : Fin cfg0.N) (hc0 : cond0_0 (grid0.coords t)) (hc1 : ¬cond0_1 (grid0.coords t)) (y : S16x512.Idx) :
    ∃ pc ∈ (runA m c t hc0 hc1).2.2.2.2.2.2.2.2.2.1, y ∈ pc.1.set :=
  View.cover_of_tiledL (runA m c t hc0 hc1).2.2.2.2.2.2.2.2.2.1 S16x512.size (by sl_kernel_rfl) y

/-- What case A leaves in scratch 3's buffer: its stores read back. -/
def sout0_A_3 (c : Dev nD) (t : Fin cfg0.N) (hc0 : cond0_0 (grid0.coords t)) (hc1 : ¬cond0_1 (grid0.coords t)) : Vec F S16x512 .bf16 :=
  VS0_3.read (Elt F) (VS0_3.writes (Elt F) VS0_3.junk (runA m c t hc0 hc1).2.2.2.2.2.2.2.2.2.1)

/-- Case A's stores cover scratch 4's whole buffer. -/
theorem scover0_A_4 (c : Dev nD) (t : Fin cfg0.N) (hc0 : cond0_0 (grid0.coords t)) (hc1 : ¬cond0_1 (grid0.coords t)) (y : S128x512.Idx) :
    ∃ pc ∈ (runA m c t hc0 hc1).2.2.2.2.2.2.2.2.2.2.1, y ∈ pc.1.set :=
  View.cover_of_tiledL (runA m c t hc0 hc1).2.2.2.2.2.2.2.2.2.2.1 S128x512.size (by sl_kernel_rfl) y

/-- What case A leaves in scratch 4's buffer: its stores read back. -/
def sout0_A_4 (c : Dev nD) (t : Fin cfg0.N) (hc0 : cond0_0 (grid0.coords t)) (hc1 : ¬cond0_1 (grid0.coords t)) : Vec F S128x512 .f32 :=
  VS0_4.read (Elt F) (VS0_4.writes (Elt F) VS0_4.junk (runA m c t hc0 hc1).2.2.2.2.2.2.2.2.2.2.1)

/-- Case B's stores cover output 19's whole buffer. -/
theorem cover0_B_19 (c : Dev nD) (t : Fin cfg0.N) (hc0 : ¬cond0_0 (grid0.coords t)) (hc1 : ¬cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) (y : S256x7680.Idx) :
    ∃ pc ∈ (runB m c t hc0 hc1 xo23 xo25 xo26 xs2 xs3 xs4).1, y ∈ pc.1.set :=
  View.cover_of_tiledBy (runB m c t hc0 hc1 xo23 xo25 xo26 xs2 xs3 xs4).1 ![256, 128] (by sl_kernel_rfl) y

/-- What case B leaves in output 19's buffer: its stores read back. -/
def out0_B_19 (c : Dev nD) (t : Fin cfg0.N) (hc0 : ¬cond0_0 (grid0.coords t)) (hc1 : ¬cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) : Vec F S256x7680 .bf16 :=
  VO0_19.read (Elt F) (VO0_19.writes (Elt F) VO0_19.junk (runB m c t hc0 hc1 xo23 xo25 xo26 xs2 xs3 xs4).1)

/-- Case B's stores cover output 20's whole buffer. -/
theorem cover0_B_20 (c : Dev nD) (t : Fin cfg0.N) (hc0 : ¬cond0_0 (grid0.coords t)) (hc1 : ¬cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) (y : S256x1536.Idx) :
    ∃ pc ∈ (runB m c t hc0 hc1 xo23 xo25 xo26 xs2 xs3 xs4).2.1, y ∈ pc.1.set :=
  View.cover_of_tiledL (runB m c t hc0 hc1 xo23 xo25 xo26 xs2 xs3 xs4).2.1 S256x512.size (by sl_kernel_rfl) y

/-- What case B leaves in output 20's buffer: its stores read back. -/
def out0_B_20 (c : Dev nD) (t : Fin cfg0.N) (hc0 : ¬cond0_0 (grid0.coords t)) (hc1 : ¬cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) : Vec F S256x1536 .bf16 :=
  VO0_20.read (Elt F) (VO0_20.writes (Elt F) VO0_20.junk (runB m c t hc0 hc1 xo23 xo25 xo26 xs2 xs3 xs4).2.1)

/-- Case B's stores cover output 21's whole buffer. -/
theorem cover0_B_21 (c : Dev nD) (t : Fin cfg0.N) (hc0 : ¬cond0_0 (grid0.coords t)) (hc1 : ¬cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) (y : S256x1024.Idx) :
    ∃ pc ∈ (runB m c t hc0 hc1 xo23 xo25 xo26 xs2 xs3 xs4).2.2.1, y ∈ pc.1.set :=
  View.cover_of_tiledL (runB m c t hc0 hc1 xo23 xo25 xo26 xs2 xs3 xs4).2.2.1 S256x1024.size (by sl_kernel_rfl) y

/-- What case B leaves in output 21's buffer: its stores read back. -/
def out0_B_21 (c : Dev nD) (t : Fin cfg0.N) (hc0 : ¬cond0_0 (grid0.coords t)) (hc1 : ¬cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) : Vec F S256x1024 .bf16 :=
  VO0_21.read (Elt F) (VO0_21.writes (Elt F) VO0_21.junk (runB m c t hc0 hc1 xo23 xo25 xo26 xs2 xs3 xs4).2.2.1)

/-- Case B's stores cover output 22's whole buffer. -/
theorem cover0_B_22 (c : Dev nD) (t : Fin cfg0.N) (hc0 : ¬cond0_0 (grid0.coords t)) (hc1 : ¬cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) (y : S256x3072.Idx) :
    ∃ pc ∈ (runB m c t hc0 hc1 xo23 xo25 xo26 xs2 xs3 xs4).2.2.2.1, y ∈ pc.1.set :=
  View.cover_of_tiledL (runB m c t hc0 hc1 xo23 xo25 xo26 xs2 xs3 xs4).2.2.2.1 S256x1024.size (by sl_kernel_rfl) y

/-- What case B leaves in output 22's buffer: its stores read back. -/
def out0_B_22 (c : Dev nD) (t : Fin cfg0.N) (hc0 : ¬cond0_0 (grid0.coords t)) (hc1 : ¬cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) : Vec F S256x3072 .bf16 :=
  VO0_22.read (Elt F) (VO0_22.writes (Elt F) VO0_22.junk (runB m c t hc0 hc1 xo23 xo25 xo26 xs2 xs3 xs4).2.2.2.1)

/-- Case B's stores cover output 23's whole buffer. -/
theorem cover0_B_23 (c : Dev nD) (t : Fin cfg0.N) (hc0 : ¬cond0_0 (grid0.coords t)) (hc1 : ¬cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) (y : S1024x128.Idx) :
    ∃ pc ∈ (runB m c t hc0 hc1 xo23 xo25 xo26 xs2 xs3 xs4).2.2.2.2.1, y ∈ pc.1.set :=
  View.cover_of_tiledL (runB m c t hc0 hc1 xo23 xo25 xo26 xs2 xs3 xs4).2.2.2.2.1 S1024x128.size (by sl_kernel_rfl) y

/-- What case B leaves in output 23's buffer: its stores read back. -/
def out0_B_23 (c : Dev nD) (t : Fin cfg0.N) (hc0 : ¬cond0_0 (grid0.coords t)) (hc1 : ¬cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) : Vec F S1024x128 .f32 :=
  VO0_23.read (Elt F) (VO0_23.writes (Elt F) VO0_23.junk (runB m c t hc0 hc1 xo23 xo25 xo26 xs2 xs3 xs4).2.2.2.2.1)

/-- What case B leaves in output 24's buffer: its stores read back. -/
def out0_B_24 (c : Dev nD) (t : Fin cfg0.N) (hc0 : ¬cond0_0 (grid0.coords t)) (hc1 : ¬cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) : Vec F S128x128 .f32 :=
  VO0_24.read (Elt F) (VO0_24.writes (Elt F) VO0_24.junk (runB m c t hc0 hc1 xo23 xo25 xo26 xs2 xs3 xs4).2.2.2.2.2.1)

/-- Case B's stores cover output 25's whole buffer. -/
theorem cover0_B_25 (c : Dev nD) (t : Fin cfg0.N) (hc0 : ¬cond0_0 (grid0.coords t)) (hc1 : ¬cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) (y : S512x128.Idx) :
    ∃ pc ∈ (runB m c t hc0 hc1 xo23 xo25 xo26 xs2 xs3 xs4).2.2.2.2.2.2.1, y ∈ pc.1.set :=
  View.cover_of_tiledL (runB m c t hc0 hc1 xo23 xo25 xo26 xs2 xs3 xs4).2.2.2.2.2.2.1 S128x128.size (by sl_kernel_rfl) y

/-- What case B leaves in output 25's buffer: its stores read back. -/
def out0_B_25 (c : Dev nD) (t : Fin cfg0.N) (hc0 : ¬cond0_0 (grid0.coords t)) (hc1 : ¬cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) : Vec F S512x128 .f32 :=
  VO0_25.read (Elt F) (VO0_25.writes (Elt F) VO0_25.junk (runB m c t hc0 hc1 xo23 xo25 xo26 xs2 xs3 xs4).2.2.2.2.2.2.1)

/-- What case B leaves in output 26's buffer: its stores read back. -/
def out0_B_26 (c : Dev nD) (t : Fin cfg0.N) (hc0 : ¬cond0_0 (grid0.coords t)) (hc1 : ¬cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) : Vec F S8x512 .f32 :=
  (ms0_26 t).view.read (Elt F) ((ms0_26 t).view.writes (Elt F) ((hs0_26 t).unread xo26) (runB m c t hc0 hc1 xo23 xo25 xo26 xs2 xs3 xs4).2.2.2.2.2.2.2.1)

/-- Case B's stores cover scratch 2's whole buffer. -/
theorem scover0_B_2 (c : Dev nD) (t : Fin cfg0.N) (hc0 : ¬cond0_0 (grid0.coords t)) (hc1 : ¬cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) (y : S16x512.Idx) :
    ∃ pc ∈ (runB m c t hc0 hc1 xo23 xo25 xo26 xs2 xs3 xs4).2.2.2.2.2.2.2.2.1, y ∈ pc.1.set :=
  View.cover_of_tiledL (runB m c t hc0 hc1 xo23 xo25 xo26 xs2 xs3 xs4).2.2.2.2.2.2.2.2.1 S16x512.size (by sl_kernel_rfl) y

/-- What case B leaves in scratch 2's buffer: its stores read back. -/
def sout0_B_2 (c : Dev nD) (t : Fin cfg0.N) (hc0 : ¬cond0_0 (grid0.coords t)) (hc1 : ¬cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) : Vec F S16x512 .f32 :=
  VS0_2.read (Elt F) (VS0_2.writes (Elt F) VS0_2.junk (runB m c t hc0 hc1 xo23 xo25 xo26 xs2 xs3 xs4).2.2.2.2.2.2.2.2.1)

/-- Case B's stores cover scratch 3's whole buffer. -/
theorem scover0_B_3 (c : Dev nD) (t : Fin cfg0.N) (hc0 : ¬cond0_0 (grid0.coords t)) (hc1 : ¬cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) (y : S16x512.Idx) :
    ∃ pc ∈ (runB m c t hc0 hc1 xo23 xo25 xo26 xs2 xs3 xs4).2.2.2.2.2.2.2.2.2.1, y ∈ pc.1.set :=
  View.cover_of_tiledL (runB m c t hc0 hc1 xo23 xo25 xo26 xs2 xs3 xs4).2.2.2.2.2.2.2.2.2.1 S16x512.size (by sl_kernel_rfl) y

/-- What case B leaves in scratch 3's buffer: its stores read back. -/
def sout0_B_3 (c : Dev nD) (t : Fin cfg0.N) (hc0 : ¬cond0_0 (grid0.coords t)) (hc1 : ¬cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) : Vec F S16x512 .bf16 :=
  VS0_3.read (Elt F) (VS0_3.writes (Elt F) VS0_3.junk (runB m c t hc0 hc1 xo23 xo25 xo26 xs2 xs3 xs4).2.2.2.2.2.2.2.2.2.1)

/-- Case B's stores cover scratch 4's whole buffer. -/
theorem scover0_B_4 (c : Dev nD) (t : Fin cfg0.N) (hc0 : ¬cond0_0 (grid0.coords t)) (hc1 : ¬cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) (y : S128x512.Idx) :
    ∃ pc ∈ (runB m c t hc0 hc1 xo23 xo25 xo26 xs2 xs3 xs4).2.2.2.2.2.2.2.2.2.2.1, y ∈ pc.1.set :=
  View.cover_of_tiledL (runB m c t hc0 hc1 xo23 xo25 xo26 xs2 xs3 xs4).2.2.2.2.2.2.2.2.2.2.1 S128x512.size (by sl_kernel_rfl) y

/-- What case B leaves in scratch 4's buffer: its stores read back. -/
def sout0_B_4 (c : Dev nD) (t : Fin cfg0.N) (hc0 : ¬cond0_0 (grid0.coords t)) (hc1 : ¬cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) : Vec F S128x512 .f32 :=
  VS0_4.read (Elt F) (VS0_4.writes (Elt F) VS0_4.junk (runB m c t hc0 hc1 xo23 xo25 xo26 xs2 xs3 xs4).2.2.2.2.2.2.2.2.2.2.1)

/-- Case C's stores cover output 19's whole buffer. -/
theorem cover0_C_19 (c : Dev nD) (t : Fin cfg0.N) (hc0 : ¬cond0_0 (grid0.coords t)) (hc1 : cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) (y : S256x7680.Idx) :
    ∃ pc ∈ (runC m c t hc0 hc1 xo23 xo25 xo26 xs2 xs3 xs4).1, y ∈ pc.1.set :=
  View.cover_of_tiledBy (runC m c t hc0 hc1 xo23 xo25 xo26 xs2 xs3 xs4).1 ![256, 128] (by sl_kernel_rfl) y

/-- What case C leaves in output 19's buffer: its stores read back. -/
def out0_C_19 (c : Dev nD) (t : Fin cfg0.N) (hc0 : ¬cond0_0 (grid0.coords t)) (hc1 : cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) : Vec F S256x7680 .bf16 :=
  VO0_19.read (Elt F) (VO0_19.writes (Elt F) VO0_19.junk (runC m c t hc0 hc1 xo23 xo25 xo26 xs2 xs3 xs4).1)

/-- Case C's stores cover output 20's whole buffer. -/
theorem cover0_C_20 (c : Dev nD) (t : Fin cfg0.N) (hc0 : ¬cond0_0 (grid0.coords t)) (hc1 : cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) (y : S256x1536.Idx) :
    ∃ pc ∈ (runC m c t hc0 hc1 xo23 xo25 xo26 xs2 xs3 xs4).2.1, y ∈ pc.1.set :=
  View.cover_of_tiledL (runC m c t hc0 hc1 xo23 xo25 xo26 xs2 xs3 xs4).2.1 S256x512.size (by sl_kernel_rfl) y

/-- What case C leaves in output 20's buffer: its stores read back. -/
def out0_C_20 (c : Dev nD) (t : Fin cfg0.N) (hc0 : ¬cond0_0 (grid0.coords t)) (hc1 : cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) : Vec F S256x1536 .bf16 :=
  VO0_20.read (Elt F) (VO0_20.writes (Elt F) VO0_20.junk (runC m c t hc0 hc1 xo23 xo25 xo26 xs2 xs3 xs4).2.1)

/-- Case C's stores cover output 21's whole buffer. -/
theorem cover0_C_21 (c : Dev nD) (t : Fin cfg0.N) (hc0 : ¬cond0_0 (grid0.coords t)) (hc1 : cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) (y : S256x1024.Idx) :
    ∃ pc ∈ (runC m c t hc0 hc1 xo23 xo25 xo26 xs2 xs3 xs4).2.2.1, y ∈ pc.1.set :=
  View.cover_of_tiledL (runC m c t hc0 hc1 xo23 xo25 xo26 xs2 xs3 xs4).2.2.1 S256x1024.size (by sl_kernel_rfl) y

/-- What case C leaves in output 21's buffer: its stores read back. -/
def out0_C_21 (c : Dev nD) (t : Fin cfg0.N) (hc0 : ¬cond0_0 (grid0.coords t)) (hc1 : cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) : Vec F S256x1024 .bf16 :=
  VO0_21.read (Elt F) (VO0_21.writes (Elt F) VO0_21.junk (runC m c t hc0 hc1 xo23 xo25 xo26 xs2 xs3 xs4).2.2.1)

/-- Case C's stores cover output 22's whole buffer. -/
theorem cover0_C_22 (c : Dev nD) (t : Fin cfg0.N) (hc0 : ¬cond0_0 (grid0.coords t)) (hc1 : cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) (y : S256x3072.Idx) :
    ∃ pc ∈ (runC m c t hc0 hc1 xo23 xo25 xo26 xs2 xs3 xs4).2.2.2.1, y ∈ pc.1.set :=
  View.cover_of_tiledL (runC m c t hc0 hc1 xo23 xo25 xo26 xs2 xs3 xs4).2.2.2.1 S256x1024.size (by sl_kernel_rfl) y

/-- What case C leaves in output 22's buffer: its stores read back. -/
def out0_C_22 (c : Dev nD) (t : Fin cfg0.N) (hc0 : ¬cond0_0 (grid0.coords t)) (hc1 : cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) : Vec F S256x3072 .bf16 :=
  VO0_22.read (Elt F) (VO0_22.writes (Elt F) VO0_22.junk (runC m c t hc0 hc1 xo23 xo25 xo26 xs2 xs3 xs4).2.2.2.1)

/-- Case C's stores cover output 23's whole buffer. -/
theorem cover0_C_23 (c : Dev nD) (t : Fin cfg0.N) (hc0 : ¬cond0_0 (grid0.coords t)) (hc1 : cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) (y : S1024x128.Idx) :
    ∃ pc ∈ (runC m c t hc0 hc1 xo23 xo25 xo26 xs2 xs3 xs4).2.2.2.2.1, y ∈ pc.1.set :=
  View.cover_of_tiledL (runC m c t hc0 hc1 xo23 xo25 xo26 xs2 xs3 xs4).2.2.2.2.1 S1024x128.size (by sl_kernel_rfl) y

/-- What case C leaves in output 23's buffer: its stores read back. -/
def out0_C_23 (c : Dev nD) (t : Fin cfg0.N) (hc0 : ¬cond0_0 (grid0.coords t)) (hc1 : cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) : Vec F S1024x128 .f32 :=
  VO0_23.read (Elt F) (VO0_23.writes (Elt F) VO0_23.junk (runC m c t hc0 hc1 xo23 xo25 xo26 xs2 xs3 xs4).2.2.2.2.1)

/-- Case C's stores cover output 24's whole buffer. -/
theorem cover0_C_24 (c : Dev nD) (t : Fin cfg0.N) (hc0 : ¬cond0_0 (grid0.coords t)) (hc1 : cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) (y : S128x128.Idx) :
    ∃ pc ∈ (runC m c t hc0 hc1 xo23 xo25 xo26 xs2 xs3 xs4).2.2.2.2.2.1, y ∈ pc.1.set :=
  View.cover_of_tiledL (runC m c t hc0 hc1 xo23 xo25 xo26 xs2 xs3 xs4).2.2.2.2.2.1 S128x128.size (by sl_kernel_rfl) y

/-- What case C leaves in output 24's buffer: its stores read back. -/
def out0_C_24 (c : Dev nD) (t : Fin cfg0.N) (hc0 : ¬cond0_0 (grid0.coords t)) (hc1 : cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) : Vec F S128x128 .f32 :=
  VO0_24.read (Elt F) (VO0_24.writes (Elt F) VO0_24.junk (runC m c t hc0 hc1 xo23 xo25 xo26 xs2 xs3 xs4).2.2.2.2.2.1)

/-- Case C's stores cover output 25's whole buffer. -/
theorem cover0_C_25 (c : Dev nD) (t : Fin cfg0.N) (hc0 : ¬cond0_0 (grid0.coords t)) (hc1 : cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) (y : S512x128.Idx) :
    ∃ pc ∈ (runC m c t hc0 hc1 xo23 xo25 xo26 xs2 xs3 xs4).2.2.2.2.2.2.1, y ∈ pc.1.set :=
  View.cover_of_tiledL (runC m c t hc0 hc1 xo23 xo25 xo26 xs2 xs3 xs4).2.2.2.2.2.2.1 S128x128.size (by sl_kernel_rfl) y

/-- What case C leaves in output 25's buffer: its stores read back. -/
def out0_C_25 (c : Dev nD) (t : Fin cfg0.N) (hc0 : ¬cond0_0 (grid0.coords t)) (hc1 : cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) : Vec F S512x128 .f32 :=
  VO0_25.read (Elt F) (VO0_25.writes (Elt F) VO0_25.junk (runC m c t hc0 hc1 xo23 xo25 xo26 xs2 xs3 xs4).2.2.2.2.2.2.1)

/-- What case C leaves in output 26's buffer: its stores read back. -/
def out0_C_26 (c : Dev nD) (t : Fin cfg0.N) (hc0 : ¬cond0_0 (grid0.coords t)) (hc1 : cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) : Vec F S8x512 .f32 :=
  (ms0_26 t).view.read (Elt F) ((ms0_26 t).view.writes (Elt F) ((hs0_26 t).unread xo26) (runC m c t hc0 hc1 xo23 xo25 xo26 xs2 xs3 xs4).2.2.2.2.2.2.2.1)

/-- Case C's stores cover scratch 2's whole buffer. -/
theorem scover0_C_2 (c : Dev nD) (t : Fin cfg0.N) (hc0 : ¬cond0_0 (grid0.coords t)) (hc1 : cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) (y : S16x512.Idx) :
    ∃ pc ∈ (runC m c t hc0 hc1 xo23 xo25 xo26 xs2 xs3 xs4).2.2.2.2.2.2.2.2.1, y ∈ pc.1.set :=
  View.cover_of_tiledL (runC m c t hc0 hc1 xo23 xo25 xo26 xs2 xs3 xs4).2.2.2.2.2.2.2.2.1 S16x512.size (by sl_kernel_rfl) y

/-- What case C leaves in scratch 2's buffer: its stores read back. -/
def sout0_C_2 (c : Dev nD) (t : Fin cfg0.N) (hc0 : ¬cond0_0 (grid0.coords t)) (hc1 : cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) : Vec F S16x512 .f32 :=
  VS0_2.read (Elt F) (VS0_2.writes (Elt F) VS0_2.junk (runC m c t hc0 hc1 xo23 xo25 xo26 xs2 xs3 xs4).2.2.2.2.2.2.2.2.1)

/-- Case C's stores cover scratch 3's whole buffer. -/
theorem scover0_C_3 (c : Dev nD) (t : Fin cfg0.N) (hc0 : ¬cond0_0 (grid0.coords t)) (hc1 : cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) (y : S16x512.Idx) :
    ∃ pc ∈ (runC m c t hc0 hc1 xo23 xo25 xo26 xs2 xs3 xs4).2.2.2.2.2.2.2.2.2.1, y ∈ pc.1.set :=
  View.cover_of_tiledL (runC m c t hc0 hc1 xo23 xo25 xo26 xs2 xs3 xs4).2.2.2.2.2.2.2.2.2.1 S16x512.size (by sl_kernel_rfl) y

/-- What case C leaves in scratch 3's buffer: its stores read back. -/
def sout0_C_3 (c : Dev nD) (t : Fin cfg0.N) (hc0 : ¬cond0_0 (grid0.coords t)) (hc1 : cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) : Vec F S16x512 .bf16 :=
  VS0_3.read (Elt F) (VS0_3.writes (Elt F) VS0_3.junk (runC m c t hc0 hc1 xo23 xo25 xo26 xs2 xs3 xs4).2.2.2.2.2.2.2.2.2.1)

/-- Case C's stores cover scratch 4's whole buffer. -/
theorem scover0_C_4 (c : Dev nD) (t : Fin cfg0.N) (hc0 : ¬cond0_0 (grid0.coords t)) (hc1 : cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) (y : S128x512.Idx) :
    ∃ pc ∈ (runC m c t hc0 hc1 xo23 xo25 xo26 xs2 xs3 xs4).2.2.2.2.2.2.2.2.2.2.1, y ∈ pc.1.set :=
  View.cover_of_tiledL (runC m c t hc0 hc1 xo23 xo25 xo26 xs2 xs3 xs4).2.2.2.2.2.2.2.2.2.2.1 S128x512.size (by sl_kernel_rfl) y

/-- What case C leaves in scratch 4's buffer: its stores read back. -/
def sout0_C_4 (c : Dev nD) (t : Fin cfg0.N) (hc0 : ¬cond0_0 (grid0.coords t)) (hc1 : cond0_1 (grid0.coords t)) (xo23 : Vec F S1024x128 .f32) (xo25 : Vec F S512x128 .f32) (xo26 : Vec F S8x512 .f32) (xs2 : Vec F S16x512 .f32) (xs3 : Vec F S16x512 .bf16) (xs4 : Vec F S128x512 .f32) : Vec F S128x512 .f32 :=
  VS0_4.read (Elt F) (VS0_4.writes (Elt F) VS0_4.junk (runC m c t hc0 hc1 xo23 xo25 xo26 xs2 xs3 xs4).2.2.2.2.2.2.2.2.2.2.1)

end Cert.MixIdeal.Gen

end
-- ==== Proof.MixFrame.lean ====
module

public import proofs.«01_k».proof.Proof.MixOuts
public import Idealize.ShloMosaic.Lib.Claim

@[expose] public section

-- membership in a rectangle of production extents (`View.cover_of_tiled`): the elaborator's structural look
-- recurses once per coordinate of the long axes
set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x7680 .bf16 × Vec F S256x1536 .bf16 × Vec F S256x1024 .bf16 × Vec F S256x3072 .bf16 × Vec F S1024x128 .f32 × Vec F S128x128 .f32 × Vec F S512x128 .f32 × Vec F S8x512 .f32 × Vec F S16x512 .f32 × Vec F S16x512 .bf16 × Vec F S128x512 .f32
  | 0, hn => (out0_A_19 m c ⟨0, hn⟩ ((hcond0_0 ⟨0, hn⟩).mpr (Nat.zero_mod _)) (fun h => (fun h => by (try dsimp only at h); omega) ((hcond0_1 ⟨0, hn⟩).mp h)), out0_A_20 m c ⟨0, hn⟩ ((hcond0_0 ⟨0, hn⟩).mpr (Nat.zero_mod _)) (fun h => (fun h => by (try dsimp only at h); omega) ((hcond0_1 ⟨0, hn⟩).mp h)), out0_A_21 m c ⟨0, hn⟩ ((hcond0_0 ⟨0, hn⟩).mpr (Nat.zero_mod _)) (fun h => (fun h => by (try dsimp only at h); omega) ((hcond0_1 ⟨0, hn⟩).mp h)), out0_A_22 m c ⟨0, hn⟩ ((hcond0_0 ⟨0, hn⟩).mpr (Nat.zero_mod _)) (fun h => (fun h => by (try dsimp only at h); omega) ((hcond0_1 ⟨0, hn⟩).mp h)), out0_A_23 m c ⟨0, hn⟩ ((hcond0_0 ⟨0, hn⟩).mpr (Nat.zero_mod _)) (fun h => (fun h => by (try dsimp only at h); omega) ((hcond0_1 ⟨0, hn⟩).mp h)), out0_A_24 m c ⟨0, hn⟩ ((hcond0_0 ⟨0, hn⟩).mpr (Nat.zero_mod _)) (fun h => (fun h => by (try dsimp only at h); omega) ((hcond0_1 ⟨0, hn⟩).mp h)), out0_A_25 m c ⟨0, hn⟩ ((hcond0_0 ⟨0, hn⟩).mpr (Nat.zero_mod _)) (fun h => (fun h => by (try dsimp only at h); omega) ((hcond0_1 ⟨0, hn⟩).mp h)), out0_A_26 m c ⟨0, hn⟩ ((hcond0_0 ⟨0, hn⟩).mpr (Nat.zero_mod _)) (fun h => (fun h => by (try dsimp only at h); omega) ((hcond0_1 ⟨0, hn⟩).mp h)), sout0_A_2 m c ⟨0, hn⟩ ((hcond0_0 ⟨0, hn⟩).mpr (Nat.zero_mod _)) (fun h => (fun h => by (try dsimp only at h); omega) ((hcond0_1 ⟨0, hn⟩).mp h)), sout0_A_3 m c ⟨0, hn⟩ ((hcond0_0 ⟨0, hn⟩).mpr (Nat.zero_mod _)) (fun h => (fun h => by (try dsimp only at h); omega) ((hcond0_1 ⟨0, hn⟩).mp h)), sout0_A_4 m c ⟨0, hn⟩ ((hcond0_0 ⟨0, hn⟩).mpr (Nat.zero_mod _)) (fun h => (fun h => by (try dsimp only at h); omega) ((hcond0_1 ⟨0, hn⟩).mp h)))
  | n + 1, hn =>
    if h0 : (n + 1) % 32 = 0 then
      if h1 : (n + 1) % 32 = 31 then
        False.elim (by have hN : n + 1 < 32 := lt_of_lt_of_eq hn (show cfg0.N = 32 from N_0); omega)
      else
        (out0_A_19 m c ⟨n + 1, hn⟩ ((hcond0_0 ⟨n + 1, hn⟩).mpr h0) (fun h => h1 ((hcond0_1 ⟨n + 1, hn⟩).mp h)), out0_A_20 m c ⟨n + 1, hn⟩ ((hcond0_0 ⟨n + 1, hn⟩).mpr h0) (fun h => h1 ((hcond0_1 ⟨n + 1, hn⟩).mp h)), out0_A_21 m c ⟨n + 1, hn⟩ ((hcond0_0 ⟨n + 1, hn⟩).mpr h0) (fun h => h1 ((hcond0_1 ⟨n + 1, hn⟩).mp h)), out0_A_22 m c ⟨n + 1, hn⟩ ((hcond0_0 ⟨n + 1, hn⟩).mpr h0) (fun h => h1 ((hcond0_1 ⟨n + 1, hn⟩).mp h)), out0_A_23 m c ⟨n + 1, hn⟩ ((hcond0_0 ⟨n + 1, hn⟩).mpr h0) (fun h => h1 ((hcond0_1 ⟨n + 1, hn⟩).mp h)), out0_A_24 m c ⟨n + 1, hn⟩ ((hcond0_0 ⟨n + 1, hn⟩).mpr h0) (fun h => h1 ((hcond0_1 ⟨n + 1, hn⟩).mp h)), out0_A_25 m c ⟨n + 1, hn⟩ ((hcond0_0 ⟨n + 1, hn⟩).mpr h0) (fun h => h1 ((hcond0_1 ⟨n + 1, hn⟩).mp h)), out0_A_26 m c ⟨n + 1, hn⟩ ((hcond0_0 ⟨n + 1, hn⟩).mpr h0) (fun h => h1 ((hcond0_1 ⟨n + 1, hn⟩).mp h)), sout0_A_2 m c ⟨n + 1, hn⟩ ((hcond0_0 ⟨n + 1, hn⟩).mpr h0) (fun h => h1 ((hcond0_1 ⟨n + 1, hn⟩).mp h)), sout0_A_3 m c ⟨n + 1, hn⟩ ((hcond0_0 ⟨n + 1, hn⟩).mpr h0) (fun h => h1 ((hcond0_1 ⟨n + 1, hn⟩).mp h)), sout0_A_4 m c ⟨n + 1, hn⟩ ((hcond0_0 ⟨n + 1, hn⟩).mpr h0) (fun h => h1 ((hcond0_1 ⟨n + 1, hn⟩).mp h)))
    else
      if h1 : (n + 1) % 32 = 31 then
        (out0_C_19 m c ⟨n + 1, hn⟩ (fun h => h0 ((hcond0_0 ⟨n + 1, hn⟩).mp h)) ((hcond0_1 ⟨n + 1, hn⟩).mpr h1) (outsAt0 c n (Nat.lt_of_succ_lt hn)).2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_C_20 m c ⟨n + 1, hn⟩ (fun h => h0 ((hcond0_0 ⟨n + 1, hn⟩).mp h)) ((hcond0_1 ⟨n + 1, hn⟩).mpr h1) (outsAt0 c n (Nat.lt_of_succ_lt hn)).2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_C_21 m c ⟨n + 1, hn⟩ (fun h => h0 ((hcond0_0 ⟨n + 1, hn⟩).mp h)) ((hcond0_1 ⟨n + 1, hn⟩).mpr h1) (outsAt0 c n (Nat.lt_of_succ_lt hn)).2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_C_22 m c ⟨n + 1, hn⟩ (fun h => h0 ((hcond0_0 ⟨n + 1, hn⟩).mp h)) ((hcond0_1 ⟨n + 1, hn⟩).mpr h1) (outsAt0 c n (Nat.lt_of_succ_lt hn)).2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_C_23 m c ⟨n + 1, hn⟩ (fun h => h0 ((hcond0_0 ⟨n + 1, hn⟩).mp h)) ((hcond0_1 ⟨n + 1, hn⟩).mpr h1) (outsAt0 c n (Nat.lt_of_succ_lt hn)).2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_C_24 m c ⟨n + 1, hn⟩ (fun h => h0 ((hcond0_0 ⟨n + 1, hn⟩).mp h)) ((hcond0_1 ⟨n + 1, hn⟩).mpr h1) (outsAt0 c n (Nat.lt_of_succ_lt hn)).2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_C_25 m c ⟨n + 1, hn⟩ (fun h => h0 ((hcond0_0 ⟨n + 1, hn⟩).mp h)) ((hcond0_1 ⟨n + 1, hn⟩).mpr h1) (outsAt0 c n (Nat.lt_of_succ_lt hn)).2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_C_26 m c ⟨n + 1, hn⟩ (fun h => h0 ((hcond0_0 ⟨n + 1, hn⟩).mp h)) ((hcond0_1 ⟨n + 1, hn⟩).mpr h1) (outsAt0 c n (Nat.lt_of_succ_lt hn)).2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, sout0_C_2 m c ⟨n + 1, hn⟩ (fun h => h0 ((hcond0_0 ⟨n + 1, hn⟩).mp h)) ((hcond0_1 ⟨n + 1, hn⟩).mpr h1) (outsAt0 c n (Nat.lt_of_succ_lt hn)).2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, sout0_C_3 m c ⟨n + 1, hn⟩ (fun h => h0 ((hcond0_0 ⟨n + 1, hn⟩).mp h)) ((hcond0_1 ⟨n + 1, hn⟩).mpr h1) (outsAt0 c n (Nat.lt_of_succ_lt hn)).2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, sout0_C_4 m c ⟨n + 1, hn⟩ (fun h => h0 ((hcond0_0 ⟨n + 1, hn⟩).mp h)) ((hcond0_1 ⟨n + 1, hn⟩).mpr h1) (outsAt0 c n (Nat.lt_of_succ_lt hn)).2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2)
      else
        (out0_B_19 m c ⟨n + 1, hn⟩ (fun h => h0 ((hcond0_0 ⟨n + 1, hn⟩).mp h)) (fun h => h1 ((hcond0_1 ⟨n + 1, hn⟩).mp h)) (outsAt0 c n (Nat.lt_of_succ_lt hn)).2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_B_20 m c ⟨n + 1, hn⟩ (fun h => h0 ((hcond0_0 ⟨n + 1, hn⟩).mp h)) (fun h => h1 ((hcond0_1 ⟨n + 1, hn⟩).mp h)) (outsAt0 c n (Nat.lt_of_succ_lt hn)).2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_B_21 m c ⟨n + 1, hn⟩ (fun h => h0 ((hcond0_0 ⟨n + 1, hn⟩).mp h)) (fun h => h1 ((hcond0_1 ⟨n + 1, hn⟩).mp h)) (outsAt0 c n (Nat.lt_of_succ_lt hn)).2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_B_22 m c ⟨n + 1, hn⟩ (fun h => h0 ((hcond0_0 ⟨n + 1, hn⟩).mp h)) (fun h => h1 ((hcond0_1 ⟨n + 1, hn⟩).mp h)) (outsAt0 c n (Nat.lt_of_succ_lt hn)).2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_B_23 m c ⟨n + 1, hn⟩ (fun h => h0 ((hcond0_0 ⟨n + 1, hn⟩).mp h)) (fun h => h1 ((hcond0_1 ⟨n + 1, hn⟩).mp h)) (outsAt0 c n (Nat.lt_of_succ_lt hn)).2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_B_24 m c ⟨n + 1, hn⟩ (fun h => h0 ((hcond0_0 ⟨n + 1, hn⟩).mp h)) (fun h => h1 ((hcond0_1 ⟨n + 1, hn⟩).mp h)) (outsAt0 c n (Nat.lt_of_succ_lt hn)).2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_B_25 m c ⟨n + 1, hn⟩ (fun h => h0 ((hcond0_0 ⟨n + 1, hn⟩).mp h)) (fun h => h1 ((hcond0_1 ⟨n + 1, hn⟩).mp h)) (outsAt0 c n (Nat.lt_of_succ_lt hn)).2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_B_26 m c ⟨n + 1, hn⟩ (fun h => h0 ((hcond0_0 ⟨n + 1, hn⟩).mp h)) (fun h => h1 ((hcond0_1 ⟨n + 1, hn⟩).mp h)) (outsAt0 c n (Nat.lt_of_succ_lt hn)).2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, sout0_B_2 m c ⟨n + 1, hn⟩ (fun h => h0 ((hcond0_0 ⟨n + 1, hn⟩).mp h)) (fun h => h1 ((hcond0_1 ⟨n + 1, hn⟩).mp h)) (outsAt0 c n (Nat.lt_of_succ_lt hn)).2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, sout0_B_3 m c ⟨n + 1, hn⟩ (fun h => h0 ((hcond0_0 ⟨n + 1, hn⟩).mp h)) (fun h => h1 ((hcond0_1 ⟨n + 1, hn⟩).mp h)) (outsAt0 c n (Nat.lt_of_succ_lt hn)).2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, sout0_B_4 m c ⟨n + 1, hn⟩ (fun h => h0 ((hcond0_0 ⟨n + 1, hn⟩).mp h)) (fun h => h1 ((hcond0_1 ⟨n + 1, hn⟩).mp h)) (outsAt0 c n (Nat.lt_of_succ_lt hn)).2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2)

/-- `outsAt0` at a point of case A: that case's contents. -/
theorem outsAt0_A (c : Dev nD) (t : Fin cfg0.N) (h0 : t.val % 32 = 0) (h1 : ¬t.val % 32 = 31) :
    outsAt0 m c t.val t.isLt = (out0_A_19 m c t ((hcond0_0 t).mpr h0) (fun h => h1 ((hcond0_1 t).mp h)), out0_A_20 m c t ((hcond0_0 t).mpr h0) (fun h => h1 ((hcond0_1 t).mp h)), out0_A_21 m c t ((hcond0_0 t).mpr h0) (fun h => h1 ((hcond0_1 t).mp h)), out0_A_22 m c t ((hcond0_0 t).mpr h0) (fun h => h1 ((hcond0_1 t).mp h)), out0_A_23 m c t ((hcond0_0 t).mpr h0) (fun h => h1 ((hcond0_1 t).mp h)), out0_A_24 m c t ((hcond0_0 t).mpr h0) (fun h => h1 ((hcond0_1 t).mp h)), out0_A_25 m c t ((hcond0_0 t).mpr h0) (fun h => h1 ((hcond0_1 t).mp h)), out0_A_26 m c t ((hcond0_0 t).mpr h0) (fun h => h1 ((hcond0_1 t).mp h)), sout0_A_2 m c t ((hcond0_0 t).mpr h0) (fun h => h1 ((hcond0_1 t).mp h)), sout0_A_3 m c t ((hcond0_0 t).mpr h0) (fun h => h1 ((hcond0_1 t).mp h)), sout0_A_4 m c t ((hcond0_0 t).mpr h0) (fun h => h1 ((hcond0_1 t).mp h))) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 32 = 0) (h1 : ¬t.val % 32 = 31) :
    outsAt0 m c t.val t.isLt = (out0_B_19 m c t (fun h => h0 ((hcond0_0 t).mp h)) (fun h => h1 ((hcond0_1 t).mp h)) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, out0_B_20 m c t (fun h => h0 ((hcond0_0 t).mp h)) (fun h => h1 ((hcond0_1 t).mp h)) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, out0_B_21 m c t (fun h => h0 ((hcond0_0 t).mp h)) (fun h => h1 ((hcond0_1 t).mp h)) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, out0_B_22 m c t (fun h => h0 ((hcond0_0 t).mp h)) (fun h => h1 ((hcond0_1 t).mp h)) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, out0_B_23 m c t (fun h => h0 ((hcond0_0 t).mp h)) (fun h => h1 ((hcond0_1 t).mp h)) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, out0_B_24 m c t (fun h => h0 ((hcond0_0 t).mp h)) (fun h => h1 ((hcond0_1 t).mp h)) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, out0_B_25 m c t (fun h => h0 ((hcond0_0 t).mp h)) (fun h => h1 ((hcond0_1 t).mp h)) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, out0_B_26 m c t (fun h => h0 ((hcond0_0 t).mp h)) (fun h => h1 ((hcond0_1 t).mp h)) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, sout0_B_2 m c t (fun h => h0 ((hcond0_0 t).mp h)) (fun h => h1 ((hcond0_1 t).mp h)) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, sout0_B_3 m c t (fun h => h0 ((hcond0_0 t).mp h)) (fun h => h1 ((hcond0_1 t).mp h)) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, sout0_B_4 m c t (fun h => h0 ((hcond0_0 t).mp h)) (fun h => h1 ((hcond0_1 t).mp h)) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 32 = 0) (h1 : t.val % 32 = 31) :
    outsAt0 m c t.val t.isLt = (out0_C_19 m c t (fun h => h0 ((hcond0_0 t).mp h)) ((hcond0_1 t).mpr h1) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, out0_C_20 m c t (fun h => h0 ((hcond0_0 t).mp h)) ((hcond0_1 t).mpr h1) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, out0_C_21 m c t (fun h => h0 ((hcond0_0 t).mp h)) ((hcond0_1 t).mpr h1) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, out0_C_22 m c t (fun h => h0 ((hcond0_0 t).mp h)) ((hcond0_1 t).mpr h1) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, out0_C_23 m c t (fun h => h0 ((hcond0_0 t).mp h)) ((hcond0_1 t).mpr h1) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, out0_C_24 m c t (fun h => h0 ((hcond0_0 t).mp h)) ((hcond0_1 t).mpr h1) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, out0_C_25 m c t (fun h => h0 ((hcond0_0 t).mp h)) ((hcond0_1 t).mpr h1) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, out0_C_26 m c t (fun h => h0 ((hcond0_0 t).mp h)) ((hcond0_1 t).mpr h1) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, sout0_C_2 m c t (fun h => h0 ((hcond0_0 t).mp h)) ((hcond0_1 t).mpr h1) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, sout0_C_3 m c t (fun h => h0 ((hcond0_0 t).mp h)) ((hcond0_1 t).mpr h1) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2, sout0_C_4 m c t (fun h => h0 ((hcond0_0 t).mp h)) ((hcond0_1 t).mpr h1) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare ((outsAt0 m c n hn).2.2.2.2.2.2.2.2.1) ∗ owns (c : Thread nD τ) scM0_3 fullShare ((outsAt0 m c n hn).2.2.2.2.2.2.2.2.2.1) ∗ owns (c : Thread nD τ) scM0_4 fullShare ((outsAt0 m c n hn).2.2.2.2.2.2.2.2.2.2)) ∗ (∃ r, prngReg c r))

/-- Before the first point the invariant is the launch's own. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ owns (c : Thread nD τ) scM0_2 fullShare ((outsAt0 m c n hn).2.2.2.2.2.2.2.2.1) ∗ owns (c : Thread nD τ) scM0_3 fullShare ((outsAt0 m c n hn).2.2.2.2.2.2.2.2.2.1) ∗ owns (c : Thread nD τ) scM0_4 fullShare ((outsAt0 m c n hn).2.2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare ((outsAt0 m c (n - 1) (by omega)).2.2.2.2.2.2.2.2.1) ∗ owns (c : Thread nD τ) scM0_3 fullShare ((outsAt0 m c (n - 1) (by omega)).2.2.2.2.2.2.2.2.2.1) ∗ owns (c : Thread nD τ) scM0_4 fullShare ((outsAt0 m c (n - 1) (by omega)).2.2.2.2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt0 m c t.val t.isLt).1
    | ⟨20, _⟩ => (outsAt0 m c t.val t.isLt).2.1
    | ⟨21, _⟩ => (outsAt0 m c t.val t.isLt).2.2.1
    | ⟨22, _⟩ => (outsAt0 m c t.val t.isLt).2.2.2.1
    | ⟨23, _⟩ => (outsAt0 m c t.val t.isLt).2.2.2.2.1
    | ⟨24, _⟩ => (outsAt0 m c t.val t.isLt).2.2.2.2.2.1
    | ⟨25, _⟩ => (outsAt0 m c t.val t.isLt).2.2.2.2.2.2.1
    | ⟨26, _⟩ => (outsAt0 m c t.val t.isLt).2.2.2.2.2.2.2.1
    | ⟨_ + 27, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = iblk m c 6 t := by dsimp only [dats]
/-- What the body leaves in window 7. -/
theorem after0_7 (c : Dev nD) (t : Fin cfg0.N) : (dats m 0 c).after 7 t = iblk m c 7 t := by dsimp only [dats]
/-- What the body leaves in window 8. -/
theorem after0_8 (c : Dev nD) (t : Fin cfg0.N) : (dats m 0 c).after 8 t = iblk m c 8 t := by dsimp only [dats]
/-- What the body leaves in window 9. -/
theorem after0_9 (c : Dev nD) (t : Fin cfg0.N) : (dats m 0 c).after 9 t = iblk m c 9 t := by dsimp only [dats]
/-- What the body leaves in window 10. -/
theorem after0_10 (c : Dev nD) (t : Fin cfg0.N) : (dats m 0 c).after 10 t = iblk m c 10 t := by dsimp only [dats]
/-- What the body leaves in window 11. -/
theorem after0_11 (c : Dev nD) (t : Fin cfg0.N) : (dats m 0 c).after 11 t = iblk m c 11 t := by dsimp only [dats]
/-- What the body leaves in window 12. -/
theorem after0_12 (c : Dev nD) (t : Fin cfg0.N) : (dats m 0 c).after 12 t = iblk m c 12 t := by dsimp only [dats]
/-- What the body leaves in window 13. -/
theorem after0_13 (c : Dev nD) (t : Fin cfg0.N) : (dats m 0 c).after 13 t = iblk m c 13 t := by dsimp only [dats]
/-- What the body leaves in window 14. -/
theorem after0_14 (c : Dev nD) (t : Fin cfg0.N) : (dats m 0 c).after 14 t = iblk m c 14 t := by dsimp only [dats]
/-- What the body leaves in window 15. -/
theorem after0_15 (c : Dev nD) (t : Fin cfg0.N) : (dats m 0 c).after 15 t = iblk m c 15 t := by dsimp only [dats]
/-- What the body leaves in window 16. -/
theorem after0_16 (c : Dev nD) (t : Fin cfg0.N) : (dats m 0 c).after 16 t = iblk m c 16 t := by dsimp only [dats]
/-- What the body leaves in window 17. -/
theorem after0_17 (c : Dev nD) (t : Fin cfg0.N) : (dats m 0 c).after 17 t = iblk m c 17 t := by dsimp only [dats]
/-- What the body leaves in window 18. -/
theorem after0_18 (c : Dev nD) (t : Fin cfg0.N) : (dats m 0 c).after 18 t = iblk m c 18 t := by dsimp only [dats]
/-- What the body leaves in window 19. -/
theorem after0_19 (c : Dev nD) (t : Fin cfg0.N) : (dats m 0 c).after 19 t = (outsAt0 m c t.val t.isLt).1 := by dsimp only [dats]
/-- What the body leaves in window 20. -/
theorem after0_20 (c : Dev nD) (t : Fin cfg0.N) : (dats m 0 c).after 20 t = (outsAt0 m c t.val t.isLt).2.1 := by dsimp only [dats]
/-- What the body leaves in window 21. -/
theorem after0_21 (c : Dev nD) (t : Fin cfg0.N) : (dats m 0 c).after 21 t = (outsAt0 m c t.val t.isLt).2.2.1 := by dsimp only [dats]
/-- What the body leaves in window 22. -/
theorem after0_22 (c : Dev nD) (t : Fin cfg0.N) : (dats m 0 c).after 22 t = (outsAt0 m c t.val t.isLt).2.2.2.1 := by dsimp only [dats]
/-- What the body leaves in window 23. -/
theorem after0_23 (c : Dev nD) (t : Fin cfg0.N) : (dats m 0 c).after 23 t = (outsAt0 m c t.val t.isLt).2.2.2.2.1 := by dsimp only [dats]
/-- What the body leaves in window 24. -/
theorem after0_24 (c : Dev nD) (t : Fin cfg0.N) : (dats m 0 c).after 24 t = (outsAt0 m c t.val t.isLt).2.2.2.2.2.1 := by dsimp only [dats]
/-- What the body leaves in window 25. -/
theorem after0_25 (c : Dev nD) (t : Fin cfg0.N) : (dats m 0 c).after 25 t = (outsAt0 m c t.val t.isLt).2.2.2.2.2.2.1 := by dsimp only [dats]
/-- What the body leaves in window 26. -/
theorem after0_26 (c : Dev nD) (t : Fin cfg0.N) : (dats m 0 c).after 26 t = (outsAt0 m c t.val t.isLt).2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What the body finds in window 1: its block. -/
theorem before0_1 (c : Dev nD) (t : Fin cfg0.N) (d) : (dats m 0 c).before 1 t d = iblk m c 1 t :=
  before0_1_of m (dats m 0 c) (A_eq m c 1) (after0_1 m c) t d
/-- What the body finds in window 2: its block. -/
theorem before0_2 (c : Dev nD) (t : Fin cfg0.N) (d) : (dats m 0 c).before 2 t d = iblk m c 2 t :=
  before0_2_of m (dats m 0 c) (A_eq m c 2) (after0_2 m c) t d
/-- What the body finds in window 3: its block. -/
theorem before0_3 (c : Dev nD) (t : Fin cfg0.N) (d) : (dats m 0 c).before 3 t d = iblk m c 3 t :=
  before0_3_of m (dats m 0 c) (A_eq m c 3) (after0_3 m c) t d
/-- What the body finds in window 4: its block. -/
theorem before0_4 (c : Dev nD) (t : Fin cfg0.N) (d) : (dats m 0 c).before 4 t d = iblk m c 4 t :=
  before0_4_of m (dats m 0 c) (A_eq m c 4) (after0_4 m c) t d
/-- What the body finds in window 5: its block. -/
theorem before0_5 (c : Dev nD) (t : Fin cfg0.N) (d) : (dats m 0 c).before 5 t d = iblk m c 5 t :=
  before0_5_of m (dats m 0 c) (A_eq m c 5) (after0_5 m c) t d
/-- What the body finds in window 6: its block. -/
theorem before0_6 (c : Dev nD) (t : Fin cfg0.N) (d) : (dats m 0 c).before 6 t d = iblk m c 6 t :=
  before0_6_of m (dats m 0 c) (A_eq m c 6) (after0_6 m c) t d
/-- What the body finds in window 7: its block. -/
theorem before0_7 (c : Dev nD) (t : Fin cfg0.N) (d) : (dats m 0 c).before 7 t d = iblk m c 7 t :=
  before0_7_of m (dats m 0 c) (A_eq m c 7) (after0_7 m c) t d
/-- What the body finds in window 8: its block. -/
theorem before0_8 (c : Dev nD) (t : Fin cfg0.N) (d) : (dats m 0 c).before 8 t d = iblk m c 8 t :=
  before0_8_of m (dats m 0 c) (A_eq m c 8) (after0_8 m c) t d
/-- What the body finds in window 9: its block. -/
theorem before0_9 (c : Dev nD) (t : Fin cfg0.N) (d) : (dats m 0 c).before 9 t d = iblk m c 9 t :=
  before0_9_of m (dats m 0 c) (A_eq m c 9) (after0_9 m c) t d
/-- What the body finds in window 10: its block. -/
theorem before0_10 (c : Dev nD) (t : Fin cfg0.N) (d) : (dats m 0 c).before 10 t d = iblk m c 10 t :=
  before0_10_of m (dats m 0 c) (A_eq m c 10) (after0_10 m c) t d
/-- What the body finds in window 11: its block. -/
theorem before0_11 (c : Dev nD) (t : Fin cfg0.N) (d) : (dats m 0 c).before 11 t d = iblk m c 11 t :=
  before0_11_of m (dats m 0 c) (A_eq m c 11) (after0_11 m c) t d
/-- What the body finds in window 12: its block. -/
theorem before0_12 (c : Dev nD) (t : Fin cfg0.N) (d) : (dats m 0 c).before 12 t d = iblk m c 12 t :=
  before0_12_of m (dats m 0 c) (A_eq m c 12) (after0_12 m c) t d
/-- What the body finds in window 13: its block. -/
theorem before0_13 (c : Dev nD) (t : Fin cfg0.N) (d) : (dats m 0 c).before 13 t d = iblk m c 13 t :=
  before0_13_of m (dats m 0 c) (A_eq m c 13) (after0_13 m c) t d
/-- What the body finds in window 14: its block. -/
theorem before0_14 (c : Dev nD) (t : Fin cfg0.N) (d) : (dats m 0 c).before 14 t d = iblk m c 14 t :=
  before0_14_of m (dats m 0 c) (A_eq m c 14) (after0_14 m c) t d
/-- What the body finds in window 15: its block. -/
theorem before0_15 (c : Dev nD) (t : Fin cfg0.N) (d) : (dats m 0 c).before 15 t d = iblk m c 15 t :=
  before0_15_of m (dats m 0 c) (A_eq m c 15) (after0_15 m c) t d
/-- What the body finds in window 16: its block. -/
theorem before0_16 (c : Dev nD) (t : Fin cfg0.N) (d) : (dats m 0 c).before 16 t d = iblk m c 16 t :=
  before0_16_of m (dats m 0 c) (A_eq m c 16) (after0_16 m c) t d
/-- What the body finds in window 17: its block. -/
theorem before0_17 (c : Dev nD) (t : Fin cfg0.N) (d) : (dats m 0 c).before 17 t d = iblk m c 17 t :=
  before0_17_of m (dats m 0 c) (A_eq m c 17) (after0_17 m c) t d
/-- What the body finds in window 18: its block. -/
theorem before0_18 (c : Dev nD) (t : Fin cfg0.N) (d) : (dats m 0 c).before 18 t d = iblk m c 18 t :=
  before0_18_of m (dats m 0 c) (A_eq m c 18) (after0_18 m c) t d
/-- At a point of case B output 23's current staging buffer holds what the body left at the point before: the point is
    not the first, the buffer was not written back between (`flush0_23`), the window is live and uncut (Lib/Pipeline/Frame.lean
    `Dat.before_out_kept`). -/
theorem before0_23_B (c : Dev nD) (t : Fin cfg0.N) (h0 : ¬t.val % 32 = 0) (h1 : ¬t.val % 32 = 31) (d) :
    (dats m 0 c).before 23 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 23 rfl t (by omega) (Bool.eq_false_iff.mpr fun h => by have := (flush0_23 _).mp h; dsimp only at this; omega)
    (fun _ => rfl) (fun _ _ => rfl)]
  dsimp only [dats]
/-- At a point of case B output 25's current staging buffer holds what the body left at the point before: the point is
    not the first, the buffer was not written back between (`flush0_25`), the window is live and uncut (Lib/Pipeline/Frame.lean
    `Dat.before_out_kept`). -/
theorem before0_25_B (c : Dev nD) (t : Fin cfg0.N) (h0 : ¬t.val % 32 = 0) (h1 : ¬t.val % 32 = 31) (d) :
    (dats m 0 c).before 25 t d = (outsAt0 m c (t.val - 1) (Nat.lt_of_le_of_lt (Nat.sub_le _ _) t.isLt)).2.2.2.2.2.2.1 := by
  have hN : t.val < 32 := lt_of_lt_of_eq t.isLt (show cfg0.N = 32 from N_0)
  rw [Dat.before_out_kept _ 25 rfl t (by omega) (Bool.eq_false_iff.mpr fun h => by have := (flush0_25 _).mp h; dsimp only at this; omega)
    (fun _ => rfl) (fun _ _ => rfl)]
  dsimp only [dats]
/-- At a point of case B output 26's current staging buffer holds what the body left at the point before: the point is
    not the first, the buffer was not written back between (`flush0_26`), the window is live and uncut (Lib/Pipeline/Frame.lean
    `Dat.before_out_kept`). -/
theorem before0_26_B (c : Dev nD) (t : Fin cfg0.N) (h0 : ¬t.val % 32 = 0) (h1 : ¬t.val % 32 = 31) (d) :
    (dats m 0 c).before 26 t d = (outsAt0 m c (t.val - 1) (Nat.lt_of_le_of_lt (Nat.sub_le _ _) t.isLt)).2.2.2.2.2.2.2.1 := by
  have hN : t.val < 32 := lt_of_lt_of_eq t.isLt (show cfg0.N = 32 from N_0)
  rw [Dat.before_out_kept _ 26 rfl t (by omega) (Bool.eq_false_iff.mpr fun h => by have := (flush0_26 _).mp h; dsimp only at this; omega)
    (fun _ => rfl) (fun _ _ => rfl)]
  dsimp only [dats]
/-- At a point of case C output 23's current staging buffer holds what the body left at the point before: the point is
    not the first, the buffer was not written back between (`flush0_23`), the window is live and uncut (Lib/Pipeline/Frame.lean
    `Dat.before_out_kept`). -/
theorem before0_23_C (c : Dev nD) (t : Fin cfg0.N) (h0 : ¬t.val % 32 = 0) (h1 : t.val % 32 = 31) (d) :
    (dats m 0 c).before 23 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 23 rfl t (by omega) (Bool.eq_false_iff.mpr fun h => by have := (flush0_23 _).mp h; dsimp only at this; omega)
    (fun _ => rfl) (fun _ _ => rfl)]
  dsimp only [dats]
/-- At a point of case C output 25's current staging buffer holds what the body left at the point before: the point is
    not the first, the buffer was not written back between (`flush0_25`), the window is live and uncut (Lib/Pipeline/Frame.lean
    `Dat.before_out_kept`). -/
theorem before0_25_C (c : Dev nD) (t : Fin cfg0.N) (h0 : ¬t.val % 32 = 0) (h1 : t.val % 32 = 31) (d) :
    (dats m 0 c).before 25 t d = (outsAt0 m c (t.val - 1) (Nat.lt_of_le_of_lt (Nat.sub_le _ _) t.isLt)).2.2.2.2.2.2.1 := by
  have hN : t.val < 32 := lt_of_lt_of_eq t.isLt (show cfg0.N = 32 from N_0)
  rw [Dat.before_out_kept _ 25 rfl t (by omega) (Bool.eq_false_iff.mpr fun h => by have := (flush0_25 _).mp h; dsimp only at this; omega)
    (fun _ => rfl) (fun _ _ => rfl)]
  dsimp only [dats]
/-- At a point of case C output 26's current staging buffer holds what the body left at the point before: the point is
    not the first, the buffer was not written back between (`flush0_26`), the window is live and uncut (Lib/Pipeline/Frame.lean
    `Dat.before_out_kept`). -/
theorem before0_26_C (c : Dev nD) (t : Fin cfg0.N) (h0 : ¬t.val % 32 = 0) (h1 : t.val % 32 = 31) (d) :
    (dats m 0 c).before 26 t d = (outsAt0 m c (t.val - 1) (Nat.lt_of_le_of_lt (Nat.sub_le _ _) t.isLt)).2.2.2.2.2.2.2.1 := by
  have hN : t.val < 32 := lt_of_lt_of_eq t.isLt (show cfg0.N = 32 from N_0)
  rw [Dat.before_out_kept _ 26 rfl t (by omega) (Bool.eq_false_iff.mpr fun h => by have := (flush0_26 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t)

set_option maxHeartbeats 38400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases h1 : t.val % 32 = 31
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [show (dats m 0 c).leavesExact 22 t = owns (c : Thread nD τ) (ms0_22 t) fullShare ((dats m 0 c).after 22 t) from by
      unfold Dat.leavesExact; rw [liveAt0_22 t], after0_22]
      rw [show (dats m 0 c).leavesExact 23 t = owns (c : Thread nD τ) (ms0_23 t) fullShare ((dats m 0 c).after 23 t) from by
      unfold Dat.leavesExact; rw [liveAt0_23 t], after0_23]
      rw [Dat.leavesExact_idle (dats m 0 c) 24 t (idleAt0_24_A t ((hcond0_0 t).mpr h0) (fun h => h1 ((hcond0_1 t).mp h))) (noFlush0_24_A t ((hcond0_0 t).mpr h0) (fun h => h1 ((hcond0_1 t).mp h)))]
      rw [show (dats m 0 c).leavesExact 25 t = owns (c : Thread nD τ) (ms0_25 t) fullShare ((dats m 0 c).after 25 t) from by
      unfold Dat.leavesExact; rw [liveAt0_25 t], after0_25]
      rw [show (dats m 0 c).leavesExact 26 t = owns (c : Thread nD τ) (ms0_26 t) fullShare ((dats m 0 c).after 26 t) from by
      unfold Dat.leavesExact; rw [liveAt0_26 t], after0_26]
      by_cases hz : t.val = 0
      · rw [PhiS_castSucc m c t, PhiS_zero m c _ _ hz, PhiA0_eq]
        rw [outsAt0_A m c t h0 h1]
        unfold out0_A_19 out0_A_20 out0_A_21 out0_A_22 out0_A_23 out0_A_25 out0_A_26 sout0_A_2 sout0_A_3 sout0_A_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
        iapply ((runA m c t ((hcond0_0 t).mpr h0) (fun h => h1 ((hcond0_1 t).mp h))).2.2.2.2.2.2.2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexists _; iexact H19
        isplitl [H20]; · iexists _; iexact H20
        isplitl [H21]; · iexists _; iexact H21
        isplitl [H22]; · iexists _; iexact H22
        isplitl [H23]; · iexists _; iexact H23
        isplitl [H24]; · iexact H24
        isplitl [H25]; · iexists _; iexact H25
        isplitl [H26]; · iexists _; iexact H26
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, H24, ⟨%e25, H25⟩, ⟨%e26, H26⟩, ⟨%fT0, HS0⟩, ⟨%fT1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_A_2 m c _ _ _)
            isplitl [HS3]
            · unfold owns; iexists _; isplitr
              swap; · iexact HS3
              ipureintro; exact View.read_writes_of_cover _ _ _ _ _ (scover0_A_3 m c _ _ _)
            unfold owns; iexists _; isplitr
            swap; · iexact HS4
            ipureintro; exact View.read_writes_of_cover _ _ _ _ _ (scover0_A_4 m c _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]
        · unfold owns; iexists _; isplitr
          swap; · iexact H19
          ipureintro; exact View.read_writes_of_cover _ _ _ _ _ (cover0_A_19 m c _ _ _)
        isplitl [H20]
        · unfold owns; iexists _; isplitr
          swap; · iexact H20
          ipureintro; exact View.read_writes_of_cover _ _ _ _ _ (cover0_A_20 m c _ _ _)
        isplitl [H21]
        · unfold owns; iexists _; isplitr
          swap; · iexact H21
          ipureintro; exact View.read_writes_of_cover _ _ _ _ _ (cover0_A_21 m c _ _ _)
        isplitl [H22]
        · unfold owns; iexists _; isplitr
          swap; · iexact H22
          ipureintro; exact View.read_writes_of_cover _ _ _ _ _ (cover0_A_22 m c _ _ _)
        isplitl [H23]
        · unfold owns; iexists _; isplitr
          swap; · iexact H23
          ipureintro; exact View.read_writes_of_cover _ _ _ _ _ (cover0_A_23 m c _ _ _)
        isplitl [H24]; · iexists _; iexact H24
        isplitl [H25]
        · unfold owns; iexists _; isplitr
          swap; · iexact H25
          ipureintro; exact View.read_writes_of_cover _ _ _ _ _ (cover0_A_25 m c _ _ _)
        unfold owns; iexists _; isplitr
        swap; · iexact H26
        ipureintro; exact View.read_writes_of_cover _ _ _ _ _ (cover0_A_26 m c _ _ _)
      · exfalso; have hN : t.val < 32 := lt_of_lt_of_eq t.isLt (show cfg0.N = 32 from N_0); omega
  · by_cases h1 : t.val % 32 = 31
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [show (dats m 0 c).leavesExact 22 t = owns (c : Thread nD τ) (ms0_22 t) fullShare ((dats m 0 c).after 22 t) from by
      unfold Dat.leavesExact; rw [liveAt0_22 t], after0_22]
      rw [show (dats m 0 c).leavesExact 23 t = owns (c : Thread nD τ) (ms0_23 t) fullShare ((dats m 0 c).after 23 t) from by
      unfold Dat.leavesExact; rw [liveAt0_23 t], after0_23]
      rw [show (dats m 0 c).leavesExact 24 t = owns (c : Thread nD τ) (ms0_24 t) fullShare ((dats m 0 c).after 24 t) from by
      unfold Dat.leavesExact; rw [liveAt0_24_C t (fun h => h0 ((hcond0_0 t).mp h)) ((hcond0_1 t).mpr h1)], after0_24]
      rw [show (dats m 0 c).leavesExact 25 t = owns (c : Thread nD τ) (ms0_25 t) fullShare ((dats m 0 c).after 25 t) from by
      unfold Dat.leavesExact; rw [liveAt0_25 t], after0_25]
      rw [show (dats m 0 c).leavesExact 26 t = owns (c : Thread nD τ) (ms0_26 t) fullShare ((dats m 0 c).after 26 t) from by
      unfold Dat.leavesExact; rw [liveAt0_26 t], after0_26]
      by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        simp only [before0_23_C m c t h0 h1, before0_25_C m c t h0 h1, before0_26_C m c t h0 h1]
        unfold out0_C_19 out0_C_20 out0_C_21 out0_C_22 out0_C_23 out0_C_24 out0_C_25 out0_C_26 sout0_C_2 sout0_C_3 sout0_C_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
        iapply ((runC m c t (fun h => h0 ((hcond0_0 t).mp h)) ((hcond0_1 t).mpr h1) _ _ _ _ _ _).2.2.2.2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexists _; iexact H19
        isplitl [H20]; · iexists _; iexact H20
        isplitl [H21]; · iexists _; iexact H21
        isplitl [H22]; · iexists _; iexact H22
        isplitl [H23]; · iexact H23
        isplitl [H24]; · iexists _; iexact H24
        isplitl [H25]; · iexact H25
        isplitl [H26]; · iexact H26
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, ⟨%e24, H24⟩, ⟨%e25, H25⟩, H26, ⟨%fT0, HS0⟩, ⟨%fT1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_C_2 m c _ _ _ _ _ _ _ _ _)
            isplitl [HS3]
            · unfold owns; iexists _; isplitr
              swap; · iexact HS3
              ipureintro; exact View.read_writes_of_cover _ _ _ _ _ (scover0_C_3 m c _ _ _ _ _ _ _ _ _)
            unfold owns; iexists _; isplitr
            swap; · iexact HS4
            ipureintro; exact View.read_writes_of_cover _ _ _ _ _ (scover0_C_4 m c _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]
        · unfold owns; iexists _; isplitr
          swap; · iexact H19
          ipureintro; exact View.read_writes_of_cover _ _ _ _ _ (cover0_C_19 m c _ _ _ _ _ _ _ _ _)
        isplitl [H20]
        · unfold owns; iexists _; isplitr
          swap; · iexact H20
          ipureintro; exact View.read_writes_of_cover _ _ _ _ _ (cover0_C_20 m c _ _ _ _ _ _ _ _ _)
        isplitl [H21]
        · unfold owns; iexists _; isplitr
          swap; · iexact H21
          ipureintro; exact View.read_writes_of_cover _ _ _ _ _ (cover0_C_21 m c _ _ _ _ _ _ _ _ _)
        isplitl [H22]
        · unfold owns; iexists _; isplitr
          swap; · iexact H22
          ipureintro; exact View.read_writes_of_cover _ _ _ _ _ (cover0_C_22 m c _ _ _ _ _ _ _ _ _)
        isplitl [H23]
        · unfold owns; iexists _; isplitr
          swap; · iexact H23
          ipureintro; exact View.read_writes_of_cover _ _ _ _ _ (cover0_C_23 m c _ _ _ _ _ _ _ _ _)
        isplitl [H24]
        · unfold owns; iexists _; isplitr
          swap; · iexact H24
          ipureintro; exact View.read_writes_of_cover _ _ _ _ _ (cover0_C_24 m c _ _ _ _ _ _ _ _ _)
        isplitl [H25]
        · unfold owns; iexists _; isplitr
          swap; · iexact H25
          ipureintro; exact View.read_writes_of_cover _ _ _ _ _ (cover0_C_25 m c _ _ _ _ _ _ _ _ _)
        unfold owns; iexists _; isplitr
        swap; · iexact H26
        ipureintro; rfl
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [show (dats m 0 c).leavesExact 22 t = owns (c : Thread nD τ) (ms0_22 t) fullShare ((dats m 0 c).after 22 t) from by
      unfold Dat.leavesExact; rw [liveAt0_22 t], after0_22]
      rw [show (dats m 0 c).leavesExact 23 t = owns (c : Thread nD τ) (ms0_23 t) fullShare ((dats m 0 c).after 23 t) from by
      unfold Dat.leavesExact; rw [liveAt0_23 t], after0_23]
      rw [Dat.leavesExact_idle (dats m 0 c) 24 t (idleAt0_24_B t (fun h => h0 ((hcond0_0 t).mp h)) (fun h => h1 ((hcond0_1 t).mp h))) (noFlush0_24_B t (fun h => h0 ((hcond0_0 t).mp h)) (fun h => h1 ((hcond0_1 t).mp h)))]
      rw [show (dats m 0 c).leavesExact 25 t = owns (c : Thread nD τ) (ms0_25 t) fullShare ((dats m 0 c).after 25 t) from by
      unfold Dat.leavesExact; rw [liveAt0_25 t], after0_25]
      rw [show (dats m 0 c).leavesExact 26 t = owns (c : Thread nD τ) (ms0_26 t) fullShare ((dats m 0 c).after 26 t) from by
      unfold Dat.leavesExact; rw [liveAt0_26 t], after0_26]
      by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        simp only [before0_23_B m c t h0 h1, before0_25_B m c t h0 h1, before0_26_B m c t h0 h1]
        unfold out0_B_19 out0_B_20 out0_B_21 out0_B_22 out0_B_23 out0_B_25 out0_B_26 sout0_B_2 sout0_B_3 sout0_B_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
        iapply ((runB m c t (fun h => h0 ((hcond0_0 t).mp h)) (fun h => h1 ((hcond0_1 t).mp h)) _ _ _ _ _ _).2.2.2.2.2.2.2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexists _; iexact H19
        isplitl [H20]; · iexists _; iexact H20
        isplitl [H21]; · iexists _; iexact H21
        isplitl [H22]; · iexists _; iexact H22
        isplitl [H23]; · iexact H23
        isplitl [H24]; · iexact H24
        isplitl [H25]; · iexact H25
        isplitl [H26]; · iexact H26
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, H24, ⟨%e25, H25⟩, H26, ⟨%fT0, HS0⟩, ⟨%fT1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_B_2 m c _ _ _ _ _ _ _ _ _)
            isplitl [HS3]
            · unfold owns; iexists _; isplitr
              swap; · iexact HS3
              ipureintro; exact View.read_writes_of_cover _ _ _ _ _ (scover0_B_3 m c _ _ _ _ _ _ _ _ _)
            unfold owns; iexists _; isplitr
            swap; · iexact HS4
            ipureintro; exact View.read_writes_of_cover _ _ _ _ _ (scover0_B_4 m c _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]
        · unfold owns; iexists _; isplitr
          swap; · iexact H19
          ipureintro; exact View.read_writes_of_cover _ _ _ _ _ (cover0_B_19 m c _ _ _ _ _ _ _ _ _)
        isplitl [H20]
        · unfold owns; iexists _; isplitr
          swap; · iexact H20
          ipureintro; exact View.read_writes_of_cover _ _ _ _ _ (cover0_B_20 m c _ _ _ _ _ _ _ _ _)
        isplitl [H21]
        · unfold owns; iexists _; isplitr
          swap; · iexact H21
          ipureintro; exact View.read_writes_of_cover _ _ _ _ _ (cover0_B_21 m c _ _ _ _ _ _ _ _ _)
        isplitl [H22]
        · unfold owns; iexists _; isplitr
          swap; · iexact H22
          ipureintro; exact View.read_writes_of_cover _ _ _ _ _ (cover0_B_22 m c _ _ _ _ _ _ _ _ _)
        isplitl [H23]
        · unfold owns; iexists _; isplitr
          swap; · iexact H23
          ipureintro; exact View.read_writes_of_cover _ _ _ _ _ (cover0_B_23 m c _ _ _ _ _ _ _ _ _)
        isplitl [H24]; · iexists _; iexact H24
        isplitl [H25]
        · unfold owns; iexists _; isplitr
          swap; · iexact H25
          ipureintro; exact View.read_writes_of_cover _ _ _ _ _ (cover0_B_25 m c _ _ _ _ _ _ _ _ _)
        unfold owns; iexists _; isplitr
        swap; · iexact H26
        ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexact HS0
    isplitl [HS1]
    · iexact HS1
    isplitl [HS2]
    · iexists _; iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_around_track_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

/-- THE FRAME: `Cert.quiescent_MixIdeal`'s statement (Defs.lean) at any `F` — Proof.lean cites it at `Bits`:
    `theorem Cert.Proof.claim : Cert.Claim := ⟨Cert.MixIdeal.Gen.facts, fun m ρ _ => Cert.MixIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.MixIdeal.Gen

end
-- ==== Proof.MixOpen.lean ====
module

public import proofs.«01_k».proof.Proof.MixOuts
public import Idealize.ShloMosaic.Lib.Pipeline.Value
public import Idealize.ShloMosaic.Lib.ValueIdx
public import Idealize.ShloMosaic.Lib.Pointwise

@[expose] public section

set_option maxRecDepth 16384

noncomputable section

namespace Cert.MixOpen

open Cert.MixIdeal Cert.MixIdeal.Gen Idealize.ShloMosaic Idealize.ShloMosaic.TcCoe Idealize.ShloMosaic.Tactic Idealize.SL.Sem

theorem hz : (![0, 0] : Fin 2 → Nat) = fun _ => 0 := funext fun a => by fin_cases a <;> rfl

/-- The cast product of the cotangent and the output projection's weight. -/
abbrev dmB (dx : FVec Ideal S256x1024 .f32) (wo : FVec Ideal S1024x1024 .bf16) : FVec Ideal S256x1024 .bf16 := k0_pay78 (F := Ideal) dx wo
/-- The columns of the first gate. -/
abbrev q0 (p : Vec Ideal S256x7680 .bf16) : Vec Ideal S256x1024 .bf16 :=
  View.ld (Val := Elt Ideal) (e' := .bf16) p (Rect.unit (s := S256x7680) ![0, 4608] ![256, 1024] inb_S256x7680_S256x1024_0_4608)
/-- The columns of the second gate. -/
abbrev q1 (p : Vec Ideal S256x7680 .bf16) : Vec Ideal S256x1024 .bf16 :=
  View.ld (Val := Elt Ideal) (e' := .bf16) p (Rect.unit (s := S256x7680) ![0, 5632] ![256, 1024] inb_S256x7680_S256x1024_0_5632)
/-- The columns of the third gate. -/
abbrev q2 (p : Vec Ideal S256x7680 .bf16) : Vec Ideal S256x1024 .bf16 :=
  View.ld (Val := Elt Ideal) (e' := .bf16) p (Rect.unit (s := S256x7680) ![0, 6656] ![256, 1024] inb_S256x7680_S256x1024_0_6656)
/-- The constant one of the sigmoid's quotient. -/
abbrev one : Ideal .bf16 := FloatOps.ofBits (F := Ideal) .bf16 0x3F80#16

/-- A block of the merge, from the block's inputs. -/
def mrgB (p : Vec Ideal S256x7680 .bf16) (ya yb yc : Vec Ideal S256x1024 .bf16) : FVec Ideal S256x1024 .bf16 :=
  k0_pay83 (F := Ideal) ya yb yc (k0_pay79 (F := Ideal) (q0 p)) one (q1 p) (q2 p)

/-- The branches' cotangents a block stores, last first. -/
def dysL (p : Vec Ideal S256x7680 .bf16) (dx : Vec Ideal S256x1024 .f32) (wo : Vec Ideal S1024x1024 .bf16) :
    List (View.Piece (Elt Ideal) S256x3072 .bf16) :=
  [⟨Rect.unit (s := S256x3072) ![0, 2048] ![256, 1024] inb_S256x3072_S256x1024_0_2048, k0_pay93 (F := Ideal) (dmB dx wo) (k0_pay82 (F := Ideal) (q2 p))⟩,
   ⟨Rect.unit (s := S256x3072) ![0, 1024] ![256, 1024] inb_S256x3072_S256x1024_0_1024, k0_pay89 (F := Ideal) (dmB dx wo) (k0_pay81 (F := Ideal) (q1 p))⟩,
   ⟨Rect.unit (s := S256x3072) ![0, 0] ![256, 1024] inb_S256x3072_S256x1024_0_0, k0_pay84 (F := Ideal) (dmB dx wo) (k0_pay79 (F := Ideal) (q0 p)) one⟩]

/-- The gates' cotangents a block stores, last first. -/
def gatesL (p : Vec Ideal S256x7680 .bf16) (dx : Vec Ideal S256x1024 .f32) (wo : Vec Ideal S1024x1024 .bf16)
    (ya yb yc : Vec Ideal S256x1024 .bf16) : List (View.Piece (Elt Ideal) S256x7680 .bf16) :=
  [⟨Rect.unit (s := S256x7680) ![0, 6656] ![256, 1024] inb_S256x7680_S256x1024_0_6656, k0_pay94 (F := Ideal) (dmB dx wo) yc (k0_pay82 (F := Ideal) (q2 p))⟩,
   ⟨Rect.unit (s := S256x7680) ![0, 5632] ![256, 1024] inb_S256x7680_S256x1024_0_5632, k0_pay90 (F := Ideal) (dmB dx wo) yb (k0_pay81 (F := Ideal) (q1 p))⟩,
   ⟨Rect.unit (s := S256x7680) ![0, 4608] ![256, 1024] inb_S256x7680_S256x1024_0_4608, k0_pay85 (F := Ideal) (dmB dx wo) ya (k0_pay79 (F := Ideal) (q0 p)) one⟩]

/-- The rectangles a block stores after the gates' columns, all to their left. -/
abbrev leftRects : List (Rect S256x7680) :=
  [Rect.unit (s := S256x7680) ![0, 3968] ![256, 128] inb_S256x7680_S256x128_0_3968,
   Rect.unit (s := S256x7680) ![0, 3840] ![256, 128] inb_S256x7680_S256x128_0_3840,
   Rect.unit (s := S256x7680) ![0, 3712] ![256, 128] inb_S256x7680_S256x128_0_3712,
   Rect.unit (s := S256x7680) ![0, 3584] ![256, 128] inb_S256x7680_S256x128_0_3584,
   Rect.unit (s := S256x7680) ![0, 4096] ![256, 512] inb_S256x7680_S256x512_0_4096,
   Rect.unit (s := S256x7680) ![0, 1536] ![256, 512] inb_S256x7680_S256x512_0_1536,
   Rect.unit (s := S256x7680) ![0, 2560] ![256, 512] inb_S256x7680_S256x512_0_2560,
   Rect.unit (s := S256x7680) ![0, 2048] ![256, 512] inb_S256x7680_S256x512_0_2048,
   Rect.unit (s := S256x7680) ![0, 3072] ![256, 512] inb_S256x7680_S256x512_0_3072,
   Rect.unit (s := S256x7680) ![0, 512] ![256, 512] inb_S256x7680_S256x512_0_512,
   Rect.unit (s := S256x7680) ![0, 0] ![256, 512] inb_S256x7680_S256x512_0_0,
   Rect.unit (s := S256x7680) ![0, 1024] ![256, 512] inb_S256x7680_S256x512_0_1024]

variable (m : (ℓ : Loc nD τ sig) → Buf (Elt Ideal) ℓ)

/-- Case A: the merge's block as stored. -/
theorem e21_A (c : Dev nD) (t : Fin cfg0.N) (hc0 : cond0_0 (grid0.coords t)) (hc1 : ¬cond0_1 (grid0.coords t)) :
    (runA m c t hc0 hc1).2.2.1
      = [⟨Rect.unit (s := S256x1024) ![0, 0] ![256, 1024] inb_S256x1024_S256x1024_0_0, mrgB (iblk m c 0 t) (iblk m c 5 t) (iblk m c 6 t) (iblk m c 7 t)⟩] := by
  unfold runA kernelRun0_A
  dsimp only
  sl_unfold_words
  simp only [View.readAt_eq_ld, (hs0_0 t).read_unread, (hs0_4 t).read_unread, (hs0_5 t).read_unread, (hs0_6 t).read_unread, (hs0_7 t).read_unread, (hs0_18 t).read_unread, View.ld_unit_zero (S := S256x1024) hz, View.ld_unit_zero (S := S1024x1024) hz]
  rfl

/-- Case A: the branches' cotangents as stored. -/
theorem e22_A (c : Dev nD) (t : Fin cfg0.N) (hc0 : cond0_0 (grid0.coords t)) (hc1 : ¬cond0_1 (grid0.coords t)) :
    (runA m c t hc0 hc1).2.2.2.1 = dysL (iblk m c 0 t) (iblk m c 4 t) (iblk m c 18 t) := by
  unfold runA kernelRun0_A
  dsimp only
  sl_unfold_words
  simp only [View.readAt_eq_ld, (hs0_0 t).read_unread, (hs0_4 t).read_unread, (hs0_5 t).read_unread, (hs0_6 t).read_unread, (hs0_7 t).read_unread, (hs0_18 t).read_unread, View.ld_unit_zero (S := S256x1024) hz, View.ld_unit_zero (S := S1024x1024) hz]
  rfl

/-- Case A: the gates' cotangents as stored. -/
theorem e19_A (c : Dev nD) (t : Fin cfg0.N) (hc0 : cond0_0 (grid0.coords t)) (hc1 : ¬cond0_1 (grid0.coords t)) :
    (runA m c t hc0 hc1).1.drop 12 = gatesL (iblk m c 0 t) (iblk m c 4 t) (iblk m c 18 t) (iblk m c 5 t) (iblk m c 6 t) (iblk m c 7 t) := by
  unfold runA kernelRun0_A
  dsimp only [List.drop]
  sl_unfold_words
  simp only [View.readAt_eq_ld, (hs0_0 t).read_unread, (hs0_4 t).read_unread, (hs0_5 t).read_unread, (hs0_6 t).read_unread, (hs0_7 t).read_unread, (hs0_18 t).read_unread, View.ld_unit_zero (S := S256x1024) hz, View.ld_unit_zero (S := S1024x1024) hz]
  rfl

/-- Case A: what is stored after them lies to their left. -/
theorem r19_A (c : Dev nD) (t : Fin cfg0.N) (hc0 : cond0_0 (grid0.coords t)) (hc1 : ¬cond0_1 (grid0.coords t)) :
    ((runA m c t hc0 hc1).1.take 12).map (fun pc => pc.1) = leftRects := by
  unfold runA kernelRun0_A
  rfl

/-- Case B: the merge's block as stored. -/
theorem e21_B (c : Dev nD) (t : Fin cfg0.N) (hc0 : ¬cond0_0 (grid0.coords t)) (hc1 : ¬cond0_1 (grid0.coords t)) (xo23 : Vec Ideal S1024x128 .f32) (xo25 : Vec Ideal S512x128 .f32) (xo26 : Vec Ideal S8x512 .f32) (xs2 : Vec Ideal S16x512 .f32) (xs3 : Vec Ideal S16x512 .bf16) (xs4 : Vec Ideal S128x512 .f32) :
    (runB m c t hc0 hc1 xo23 xo25 xo26 xs2 xs3 xs4).2.2.1
      = [⟨Rect.unit (s := S256x1024) ![0, 0] ![256, 1024] inb_S256x1024_S256x1024_0_0, mrgB (iblk m c 0 t) (iblk m c 5 t) (iblk m c 6 t) (iblk m c 7 t)⟩] := by
  unfold runB kernelRun0_B
  dsimp only
  sl_unfold_words
  simp only [View.readAt_eq_ld, (hs0_0 t).read_unread, (hs0_4 t).read_unread, (hs0_5 t).read_unread, (hs0_6 t).read_unread, (hs0_7 t).read_unread, (hs0_18 t).read_unread, View.ld_unit_zero (S := S256x1024) hz, View.ld_unit_zero (S := S1024x1024) hz]
  rfl

/-- Case B: the branches' cotangents as stored. -/
theorem e22_B (c : Dev nD) (t : Fin cfg0.N) (hc0 : ¬cond0_0 (grid0.coords t)) (hc1 : ¬cond0_1 (grid0.coords t)) (xo23 : Vec Ideal S1024x128 .f32) (xo25 : Vec Ideal S512x128 .f32) (xo26 : Vec Ideal S8x512 .f32) (xs2 : Vec Ideal S16x512 .f32) (xs3 : Vec Ideal S16x512 .bf16) (xs4 : Vec Ideal S128x512 .f32) :
    (runB m c t hc0 hc1 xo23 xo25 xo26 xs2 xs3 xs4).2.2.2.1 = dysL (iblk m c 0 t) (iblk m c 4 t) (iblk m c 18 t) := by
  unfold runB kernelRun0_B
  dsimp only
  sl_unfold_words
  simp only [View.readAt_eq_ld, (hs0_0 t).read_unread, (hs0_4 t).read_unread, (hs0_5 t).read_unread, (hs0_6 t).read_unread, (hs0_7 t).read_unread, (hs0_18 t).read_unread, View.ld_unit_zero (S := S256x1024) hz, View.ld_unit_zero (S := S1024x1024) hz]
  rfl

/-- Case B: the gates' cotangents as stored. -/
theorem e19_B (c : Dev nD) (t : Fin cfg0.N) (hc0 : ¬cond0_0 (grid0.coords t)) (hc1 : ¬cond0_1 (grid0.coords t)) (xo23 : Vec Ideal S1024x128 .f32) (xo25 : Vec Ideal S512x128 .f32) (xo26 : Vec Ideal S8x512 .f32) (xs2 : Vec Ideal S16x512 .f32) (xs3 : Vec Ideal S16x512 .bf16) (xs4 : Vec Ideal S128x512 .f32) :
    (runB m c t hc0 hc1 xo23 xo25 xo26 xs2 xs3 xs4).1.drop 12 = gatesL (iblk m c 0 t) (iblk m c 4 t) (iblk m c 18 t) (iblk m c 5 t) (iblk m c 6 t) (iblk m c 7 t) := by
  unfold runB kernelRun0_B
  dsimp only [List.drop]
  sl_unfold_words
  simp only [View.readAt_eq_ld, (hs0_0 t).read_unread, (hs0_4 t).read_unread, (hs0_5 t).read_unread, (hs0_6 t).read_unread, (hs0_7 t).read_unread, (hs0_18 t).read_unread, View.ld_unit_zero (S := S256x1024) hz, View.ld_unit_zero (S := S1024x1024) hz]
  rfl

/-- Case B: what is stored after them lies to their left. -/
theorem r19_B (c : Dev nD) (t : Fin cfg0.N) (hc0 : ¬cond0_0 (grid0.coords t)) (hc1 : ¬cond0_1 (grid0.coords t)) (xo23 : Vec Ideal S1024x128 .f32) (xo25 : Vec Ideal S512x128 .f32) (xo26 : Vec Ideal S8x512 .f32) (xs2 : Vec Ideal S16x512 .f32) (xs3 : Vec Ideal S16x512 .bf16) (xs4 : Vec Ideal S128x512 .f32) :
    ((runB m c t hc0 hc1 xo23 xo25 xo26 xs2 xs3 xs4).1.take 12).map (fun pc => pc.1) = leftRects := by
  unfold runB kernelRun0_B
  rfl

/-- Case C: the merge's block as stored. -/
theorem e21_C (c : Dev nD) (t : Fin cfg0.N) (hc0 : ¬cond0_0 (grid0.coords t)) (hc1 : cond0_1 (grid0.coords t)) (xo23 : Vec Ideal S1024x128 .f32) (xo25 : Vec Ideal S512x128 .f32) (xo26 : Vec Ideal S8x512 .f32) (xs2 : Vec Ideal S16x512 .f32) (xs3 : Vec Ideal S16x512 .bf16) (xs4 : Vec Ideal S128x512 .f32) :
    (runC m c t hc0 hc1 xo23 xo25 xo26 xs2 xs3 xs4).2.2.1
      = [⟨Rect.unit (s := S256x1024) ![0, 0] ![256, 1024] inb_S256x1024_S256x1024_0_0, mrgB (iblk m c 0 t) (iblk m c 5 t) (iblk m c 6 t) (iblk m c 7 t)⟩] := by
  unfold runC kernelRun0_C
  dsimp only
  sl_unfold_words
  simp only [View.readAt_eq_ld, (hs0_0 t).read_unread, (hs0_4 t).read_unread, (hs0_5 t).read_unread, (hs0_6 t).read_unread, (hs0_7 t).read_unread, (hs0_18 t).read_unread, View.ld_unit_zero (S := S256x1024) hz, View.ld_unit_zero (S := S1024x1024) hz]
  rfl

/-- Case C: the branches' cotangents as stored. -/
theorem e22_C (c : Dev nD) (t : Fin cfg0.N) (hc0 : ¬cond0_0 (grid0.coords t)) (hc1 : cond0_1 (grid0.coords t)) (xo23 : Vec Ideal S1024x128 .f32) (xo25 : Vec Ideal S512x128 .f32) (xo26 : Vec Ideal S8x512 .f32) (xs2 : Vec Ideal S16x512 .f32) (xs3 : Vec Ideal S16x512 .bf16) (xs4 : Vec Ideal S128x512 .f32) :
    (runC m c t hc0 hc1 xo23 xo25 xo26 xs2 xs3 xs4).2.2.2.1 = dysL (iblk m c 0 t) (iblk m c 4 t) (iblk m c 18 t) := by
  unfold runC kernelRun0_C
  dsimp only
  sl_unfold_words
  simp only [View.readAt_eq_ld, (hs0_0 t).read_unread, (hs0_4 t).read_unread, (hs0_5 t).read_unread, (hs0_6 t).read_unread, (hs0_7 t).read_unread, (hs0_18 t).read_unread, View.ld_unit_zero (S := S256x1024) hz, View.ld_unit_zero (S := S1024x1024) hz]
  rfl

/-- Case C: the gates' cotangents as stored. -/
theorem e19_C (c : Dev nD) (t : Fin cfg0.N) (hc0 : ¬cond0_0 (grid0.coords t)) (hc1 : cond0_1 (grid0.coords t)) (xo23 : Vec Ideal S1024x128 .f32) (xo25 : Vec Ideal S512x128 .f32) (xo26 : Vec Ideal S8x512 .f32) (xs2 : Vec Ideal S16x512 .f32) (xs3 : Vec Ideal S16x512 .bf16) (xs4 : Vec Ideal S128x512 .f32) :
    (runC m c t hc0 hc1 xo23 xo25 xo26 xs2 xs3 xs4).1.drop 12 = gatesL (iblk m c 0 t) (iblk m c 4 t) (iblk m c 18 t) (iblk m c 5 t) (iblk m c 6 t) (iblk m c 7 t) := by
  unfold runC kernelRun0_C
  dsimp only [List.drop]
  sl_unfold_words
  simp only [View.readAt_eq_ld, (hs0_0 t).read_unread, (hs0_4 t).read_unread, (hs0_5 t).read_unread, (hs0_6 t).read_unread, (hs0_7 t).read_unread, (hs0_18 t).read_unread, View.ld_unit_zero (S := S256x1024) hz, View.ld_unit_zero (S := S1024x1024) hz]
  rfl

/-- Case C: what is stored after them lies to their left. -/
theorem r19_C (c : Dev nD) (t : Fin cfg0.N) (hc0 : ¬cond0_0 (grid0.coords t)) (hc1 : cond0_1 (grid0.coords t)) (xo23 : Vec Ideal S1024x128 .f32) (xo25 : Vec Ideal S512x128 .f32) (xo26 : Vec Ideal S8x512 .f32) (xs2 : Vec Ideal S16x512 .f32) (xs3 : Vec Ideal S16x512 .bf16) (xs4 : Vec Ideal S128x512 .f32) :
    ((runC m c t hc0 hc1 xo23 xo25 xo26 xs2 xs3 xs4).1.take 12).map (fun pc => pc.1) = leftRects := by
  unfold runC kernelRun0_C
  rfl

end Cert.MixOpen

end
-- ==== Proof.MixPay.lean ====
module

public import proofs.«01_k».proof.Proof.MixOpen

@[expose] public section

set_option maxRecDepth 16384

noncomputable section

namespace Cert.MixOpen

open Cert.MixIdeal Cert.MixIdeal.Gen Idealize.ShloMosaic Idealize.ShloMosaic.TcCoe Idealize.ShloMosaic.Tactic Idealize.SL.Sem

/-- The logistic function. -/
def sg (z : EReal) : EReal := Ideal.div 1 (1 + Ideal.exp (-z))

/-- The column `o + l` of a row's block. -/
abbrev col (o : ℕ) (h : o + 1024 ≤ 7680) (l : Fin 1024) : Fin 7680 := ⟨o + l.val, by have := l.isLt; omega⟩

theorem q0_apply (p : Vec Ideal S256x7680 .bf16) (r : Fin 256) (l : Fin 1024) :
    (q0 p (ix2 r l) : EReal) = p (ix2 r (col 4608 (by decide) l)) := by
  show p _ = p _
  congr 1
  funext a; apply Fin.ext
  match a with
  | ⟨0, _⟩ => show 0 + 1 * r.val = r.val; omega
  | ⟨1, _⟩ => show 4608 + 1 * l.val = 4608 + l.val; omega

theorem q1_apply (p : Vec Ideal S256x7680 .bf16) (r : Fin 256) (l : Fin 1024) :
    (q1 p (ix2 r l) : EReal) = p (ix2 r (col 5632 (by decide) l)) := by
  show p _ = p _
  congr 1
  funext a; apply Fin.ext
  match a with
  | ⟨0, _⟩ => show 0 + 1 * r.val = r.val; omega
  | ⟨1, _⟩ => show 5632 + 1 * l.val = 5632 + l.val; omega

theorem q2_apply (p : Vec Ideal S256x7680 .bf16) (r : Fin 256) (l : Fin 1024) :
    (q2 p (ix2 r l) : EReal) = p (ix2 r (col 6656 (by decide) l)) := by
  show p _ = p _
  congr 1
  funext a; apply Fin.ext
  match a with
  | ⟨0, _⟩ => show 0 + 1 * r.val = r.val; omega
  | ⟨1, _⟩ => show 6656 + 1 * l.val = 6656 + l.val; omega

/-- The constant one is the number one. -/
theorem one_eq : (Ideal.ofBits .bf16 0x3F80#16 : EReal) = 1 := Ideal.ofBits_one_bf16

/-- The first gate's sigmoid. -/
theorem s0_apply (v : FVec Ideal S256x1024 .bf16) (r : Fin 256) (l : Fin 1024) :
    (k0_pay80 (F := Ideal) (k0_pay79 (F := Ideal) v) one (ix2 r l) : EReal) = sg (v (ix2 r l)) := by
  show Ideal.div (Ideal.ofBits .bf16 0x3F80#16) (Ideal.ofBits .bf16 0x3F80#16 + Ideal.exp (Ideal.ofBits .bf16 0x0000#16 - (v (ix2 r l) : EReal))) = _
  rw [one_eq, Ideal.ofBits_zero_bf16, sub_eq_add_neg, zero_add]
  rfl

/-- The second gate's sigmoid. -/
theorem s1_apply (v : FVec Ideal S256x1024 .bf16) (r : Fin 256) (l : Fin 1024) :
    (k0_pay81 (F := Ideal) v (ix2 r l) : EReal) = sg (v (ix2 r l)) := s0_apply v r l

/-- The third gate's sigmoid. -/
theorem s2_apply (v : FVec Ideal S256x1024 .bf16) (r : Fin 256) (l : Fin 1024) :
    (k0_pay82 (F := Ideal) v (ix2 r l) : EReal) = sg (v (ix2 r l)) := s0_apply v r l

/-- The merged cotangent of a block, at an index. -/
theorem dmB_apply (dx : FVec Ideal S256x1024 .f32) (wo : FVec Ideal S1024x1024 .bf16) (r : Fin 256) (l : Fin 1024) :
    (dmB dx wo (ix2 r l) : EReal) = ∑ k : Fin 1024, (dx (ix2 r k) : EReal) * (wo (ix2 l k) : EReal) := by
  pointwise [k0_pay78]

/-- The merge's block, at an index. -/
theorem mrgB_apply (p : Vec Ideal S256x7680 .bf16) (ya yb yc : FVec Ideal S256x1024 .bf16) (r : Fin 256) (l : Fin 1024) :
    (mrgB p ya yb yc (ix2 r l) : EReal)
      = sg (p (ix2 r (col 4608 (by decide) l))) * (ya (ix2 r l) : EReal) + sg (p (ix2 r (col 5632 (by decide) l))) * (yb (ix2 r l) : EReal)
        + sg (p (ix2 r (col 6656 (by decide) l))) * (yc (ix2 r l) : EReal) := by
  show (k0_pay80 (F := Ideal) (k0_pay79 (F := Ideal) (q0 p)) one (ix2 r l) : EReal) * (ya (ix2 r l) : EReal)
      + (k0_pay81 (F := Ideal) (q1 p) (ix2 r l) : EReal) * (yb (ix2 r l) : EReal)
      + (k0_pay82 (F := Ideal) (q2 p) (ix2 r l) : EReal) * (yc (ix2 r l) : EReal) = _
  rw [s0_apply, s1_apply, s2_apply, q0_apply, q1_apply, q2_apply]

/-- Reading past stores that do not reach the index. -/
theorem canon_skip {S : Shape} {e : EltTy} : ∀ (L L' : List (View.Piece (Elt Ideal) S e)) (y : S.Idx), (∀ pc ∈ L, y ∉ pc.1.set) →
    View.canon (Val := Elt Ideal) (L ++ L') y = View.canon (Val := Elt Ideal) L' y
  | [], _, _, _ => rfl
  | pc :: L, L', y, h => (View.canon_cons_of_not_mem (Val := Elt Ideal) pc (L ++ L') (h pc (List.mem_cons_self ..))).trans
      (canon_skip L L' y fun q hq => h q (List.mem_cons_of_mem _ hq))

/-- An index in the gates' columns lies in none of the rectangles to their left. -/
theorem left_not (r : Fin 256) (L : Fin 7680) (h : 4608 ≤ L.val) : ∀ R ∈ leftRects, (ix2 r L : S256x7680.Idx) ∉ R.set := by
  intro R hR
  simp only [List.mem_cons, List.not_mem_nil, or_false] at hR
  rcases hR with rfl | rfl | rfl | rfl | rfl | rfl | rfl | rfl | rfl | rfl | rfl | rfl <;>
  · rw [Rect.mem_set_unit]
    intro hh
    have h2 := (hh (1 : Fin 2)).2
    have h3 : L.val < _ := h2
    simp at h3
    omega

/-- What a block's stores leave in the gates' columns: the stores to the left do not reach them. -/
theorem canon19 (Q : List (View.Piece (Elt Ideal) S256x7680 .bf16)) (p : Vec Ideal S256x7680 .bf16) (dx : FVec Ideal S256x1024 .f32)
    (wo : FVec Ideal S1024x1024 .bf16) (ya yb yc : FVec Ideal S256x1024 .bf16)
    (h1 : Q.drop 12 = gatesL p dx wo ya yb yc) (h2 : (Q.take 12).map (fun pc => pc.1) = leftRects) (r : Fin 256) (L : Fin 7680) (h : 4608 ≤ L.val) :
    View.canon (Val := Elt Ideal) Q (ix2 r L) = View.canon (Val := Elt Ideal) (gatesL p dx wo ya yb yc) (ix2 r L) := by
  rw [← h1]
  conv_lhs => rw [← List.take_append_drop 12 Q]
  refine canon_skip _ _ _ fun pc hpc => left_not r L h _ ?_
  rw [← h2]
  exact List.mem_map_of_mem hpc

/-- Gate 0's columns after a block, at an index. -/
theorem gates0 (p : Vec Ideal S256x7680 .bf16) (dx : FVec Ideal S256x1024 .f32) (wo : FVec Ideal S1024x1024 .bf16)
    (ya yb yc : FVec Ideal S256x1024 .bf16) (r : Fin 256) (l : Fin 1024) :
    (View.canon (Val := Elt Ideal) (gatesL p dx wo ya yb yc) (ix2 r (col 4608 (by decide) l)) : EReal)
      = (∑ k : Fin 1024, (dx (ix2 r k) : EReal) * (wo (ix2 l k) : EReal)) * sg (p (ix2 r (col 4608 (by decide) l))) * (ya (ix2 r l) : EReal)
        * (1 - sg (p (ix2 r (col 4608 (by decide) l)))) := by
  unfold gatesL
  refine (View.canon_cons_of_not_mem (Val := Elt Ideal) ⟨Rect.unit (s := S256x7680) ![0, 6656] ![256, 1024] inb_S256x7680_S256x1024_0_6656, _⟩ _ (by
    rw [Rect.mem_set_unit]; intro hh
    have h2 : 6656 ≤ 4608 + l.val := (hh (1 : Fin 2)).1
    have := l.isLt; omega)).trans ?_
  refine (View.canon_cons_of_not_mem (Val := Elt Ideal) ⟨Rect.unit (s := S256x7680) ![0, 5632] ![256, 1024] inb_S256x7680_S256x1024_0_5632, _⟩ _ (by
    rw [Rect.mem_set_unit]; intro hh
    have h2 : 5632 ≤ 4608 + l.val := (hh (1 : Fin 2)).1
    have := l.isLt; omega)).trans ?_
  have e : (ix2 r (col 4608 (by decide) l) : S256x7680.Idx)
      = (Rect.unit (s := S256x7680) ![0, 4608] ![256, 1024] inb_S256x7680_S256x1024_0_4608).emb (ix2 r l : S256x1024.Idx) := by
    funext a; apply Fin.ext
    match a with
    | ⟨0, _⟩ => show r.val = 0 + 1 * r.val; omega
    | ⟨1, _⟩ => show 4608 + l.val = 4608 + 1 * l.val; omega
  rw [e]
  refine (View.canon_cons_emb (Val := Elt Ideal) (Rect.unit (s := S256x7680) ![0, 4608] ![256, 1024] inb_S256x7680_S256x1024_0_4608) _ _ _).trans ?_
  rw [← e]
  show (dmB dx wo (ix2 r l) : EReal) * (k0_pay80 (F := Ideal) (k0_pay79 (F := Ideal) (q0 p)) one (ix2 r l) : EReal) * (ya (ix2 r l) : EReal)
      * (Ideal.ofBits .bf16 0x3F80#16 - (k0_pay80 (F := Ideal) (k0_pay79 (F := Ideal) (q0 p)) one (ix2 r l) : EReal)) = _
  rw [dmB_apply, s0_apply, q0_apply, one_eq]

/-- Gate 1's columns after a block, at an index. -/
theorem gates1 (p : Vec Ideal S256x7680 .bf16) (dx : FVec Ideal S256x1024 .f32) (wo : FVec Ideal S1024x1024 .bf16)
    (ya yb yc : FVec Ideal S256x1024 .bf16) (r : Fin 256) (l : Fin 1024) :
    (View.canon (Val := Elt Ideal) (gatesL p dx wo ya yb yc) (ix2 r (col 5632 (by decide) l)) : EReal)
      = (∑ k : Fin 1024, (dx (ix2 r k) : EReal) * (wo (ix2 l k) : EReal)) * sg (p (ix2 r (col 5632 (by decide) l))) * (yb (ix2 r l) : EReal)
        * (1 - sg (p (ix2 r (col 5632 (by decide) l)))) := by
  unfold gatesL
  refine (View.canon_cons_of_not_mem (Val := Elt Ideal) ⟨Rect.unit (s := S256x7680) ![0, 6656] ![256, 1024] inb_S256x7680_S256x1024_0_6656, _⟩ _ (by
    rw [Rect.mem_set_unit]; intro hh
    have h2 : 6656 ≤ 5632 + l.val := (hh (1 : Fin 2)).1
    have := l.isLt; omega)).trans ?_
  have e : (ix2 r (col 5632 (by decide) l) : S256x7680.Idx)
      = (Rect.unit (s := S256x7680) ![0, 5632] ![256, 1024] inb_S256x7680_S256x1024_0_5632).emb (ix2 r l : S256x1024.Idx) := by
    funext a; apply Fin.ext
    match a with
    | ⟨0, _⟩ => show r.val = 0 + 1 * r.val; omega
    | ⟨1, _⟩ => show 5632 + l.val = 5632 + 1 * l.val; omega
  rw [e]
  refine (View.canon_cons_emb (Val := Elt Ideal) (Rect.unit (s := S256x7680) ![0, 5632] ![256, 1024] inb_S256x7680_S256x1024_0_5632) _ _ _).trans ?_
  rw [← e]
  show (dmB dx wo (ix2 r l) : EReal) * (k0_pay81 (F := Ideal) (q1 p) (ix2 r l) : EReal) * (yb (ix2 r l) : EReal)
      * (Ideal.ofBits .bf16 0x3F80#16 - (k0_pay81 (F := Ideal) (q1 p) (ix2 r l) : EReal)) = _
  rw [dmB_apply, s1_apply, q1_apply, one_eq]

/-- Gate 2's columns after a block, at an index. -/
theorem gates2 (p : Vec Ideal S256x7680 .bf16) (dx : FVec Ideal S256x1024 .f32) (wo : FVec Ideal S1024x1024 .bf16)
    (ya yb yc : FVec Ideal S256x1024 .bf16) (r : Fin 256) (l : Fin 1024) :
    (View.canon (Val := Elt Ideal) (gatesL p dx wo ya yb yc) (ix2 r (col 6656 (by decide) l)) : EReal)
      = (∑ k : Fin 1024, (dx (ix2 r k) : EReal) * (wo (ix2 l k) : EReal)) * sg (p (ix2 r (col 6656 (by decide) l))) * (yc (ix2 r l) : EReal)
        * (1 - sg (p (ix2 r (col 6656 (by decide) l)))) := by
  unfold gatesL
  have e : (ix2 r (col 6656 (by decide) l) : S256x7680.Idx)
      = (Rect.unit (s := S256x7680) ![0, 6656] ![256, 1024] inb_S256x7680_S256x1024_0_6656).emb (ix2 r l : S256x1024.Idx) := by
    funext a; apply Fin.ext
    match a with
    | ⟨0, _⟩ => show r.val = 0 + 1 * r.val; omega
    | ⟨1, _⟩ => show 6656 + l.val = 6656 + 1 * l.val; omega
  rw [e]
  refine (View.canon_cons_emb (Val := Elt Ideal) (Rect.unit (s := S256x7680) ![0, 6656] ![256, 1024] inb_S256x7680_S256x1024_0_6656) _ _ _).trans ?_
  rw [← e]
  show (dmB dx wo (ix2 r l) : EReal) * (k0_pay82 (F := Ideal) (q2 p) (ix2 r l) : EReal) * (yc (ix2 r l) : EReal)
      * (Ideal.ofBits .bf16 0x3F80#16 - (k0_pay82 (F := Ideal) (q2 p) (ix2 r l) : EReal)) = _
  rw [dmB_apply, s2_apply, q2_apply, one_eq]

/-- Branch 0's cotangent after a block, at an index. -/
theorem dys0 (p : Vec Ideal S256x7680 .bf16) (dx : FVec Ideal S256x1024 .f32) (wo : FVec Ideal S1024x1024 .bf16) (r : Fin 256) (l : Fin 1024) :
    (View.canon (Val := Elt Ideal) (dysL p dx wo) (ix2 r (⟨0 + l.val, by have := l.isLt; omega⟩ : Fin 3072) : S256x3072.Idx) : EReal)
      = (∑ k : Fin 1024, (dx (ix2 r k) : EReal) * (wo (ix2 l k) : EReal)) * sg (p (ix2 r (col 4608 (by decide) l))) := by
  unfold dysL
  refine (View.canon_cons_of_not_mem (Val := Elt Ideal) ⟨Rect.unit (s := S256x3072) ![0, 2048] ![256, 1024] inb_S256x3072_S256x1024_0_2048, _⟩ _ (by
    rw [Rect.mem_set_unit]; intro hh
    have h2 : 2048 ≤ 0 + l.val := (hh (1 : Fin 2)).1
    have := l.isLt; omega)).trans ?_
  refine (View.canon_cons_of_not_mem (Val := Elt Ideal) ⟨Rect.unit (s := S256x3072) ![0, 1024] ![256, 1024] inb_S256x3072_S256x1024_0_1024, _⟩ _ (by
    rw [Rect.mem_set_unit]; intro hh
    have h2 : 1024 ≤ 0 + l.val := (hh (1 : Fin 2)).1
    have := l.isLt; omega)).trans ?_
  have e : (ix2 r (⟨0 + l.val, by have := l.isLt; omega⟩ : Fin 3072) : S256x3072.Idx)
      = (Rect.unit (s := S256x3072) ![0, 0] ![256, 1024] inb_S256x3072_S256x1024_0_0).emb (ix2 r l : S256x1024.Idx) := by
    funext a; apply Fin.ext
    match a with
    | ⟨0, _⟩ => show r.val = 0 + 1 * r.val; omega
    | ⟨1, _⟩ => show 0 + l.val = 0 + 1 * l.val; omega
  rw [e]
  refine (View.canon_cons_emb (Val := Elt Ideal) (Rect.unit (s := S256x3072) ![0, 0] ![256, 1024] inb_S256x3072_S256x1024_0_0) _ _ _).trans ?_
  show (dmB dx wo (ix2 r l) : EReal) * (k0_pay80 (F := Ideal) (k0_pay79 (F := Ideal) (q0 p)) one (ix2 r l) : EReal) = _
  rw [dmB_apply, s0_apply, q0_apply]

/-- Branch 1's cotangent after a block, at an index. -/
theorem dys1 (p : Vec Ideal S256x7680 .bf16) (dx : FVec Ideal S256x1024 .f32) (wo : FVec Ideal S1024x1024 .bf16) (r : Fin 256) (l : Fin 1024) :
    (View.canon (Val := Elt Ideal) (dysL p dx wo) (ix2 r (⟨1024 + l.val, by have := l.isLt; omega⟩ : Fin 3072) : S256x3072.Idx) : EReal)
      = (∑ k : Fin 1024, (dx (ix2 r k) : EReal) * (wo (ix2 l k) : EReal)) * sg (p (ix2 r (col 5632 (by decide) l))) := by
  unfold dysL
  refine (View.canon_cons_of_not_mem (Val := Elt Ideal) ⟨Rect.unit (s := S256x3072) ![0, 2048] ![256, 1024] inb_S256x3072_S256x1024_0_2048, _⟩ _ (by
    rw [Rect.mem_set_unit]; intro hh
    have h2 : 2048 ≤ 1024 + l.val := (hh (1 : Fin 2)).1
    have := l.isLt; omega)).trans ?_
  have e : (ix2 r (⟨1024 + l.val, by have := l.isLt; omega⟩ : Fin 3072) : S256x3072.Idx)
      = (Rect.unit (s := S256x3072) ![0, 1024] ![256, 1024] inb_S256x3072_S256x1024_0_1024).emb (ix2 r l : S256x1024.Idx) := by
    funext a; apply Fin.ext
    match a with
    | ⟨0, _⟩ => show r.val = 0 + 1 * r.val; omega
    | ⟨1, _⟩ => show 1024 + l.val = 1024 + 1 * l.val; omega
  rw [e]
  refine (View.canon_cons_emb (Val := Elt Ideal) (Rect.unit (s := S256x3072) ![0, 1024] ![256, 1024] inb_S256x3072_S256x1024_0_1024) _ _ _).trans ?_
  show (dmB dx wo (ix2 r l) : EReal) * (k0_pay81 (F := Ideal) (q1 p) (ix2 r l) : EReal) = _
  rw [dmB_apply, s1_apply, q1_apply]

/-- Branch 2's cotangent after a block, at an index. -/
theorem dys2 (p : Vec Ideal S256x7680 .bf16) (dx : FVec Ideal S256x1024 .f32) (wo : FVec Ideal S1024x1024 .bf16) (r : Fin 256) (l : Fin 1024) :
    (View.canon (Val := Elt Ideal) (dysL p dx wo) (ix2 r (⟨2048 + l.val, by have := l.isLt; omega⟩ : Fin 3072) : S256x3072.Idx) : EReal)
      = (∑ k : Fin 1024, (dx (ix2 r k) : EReal) * (wo (ix2 l k) : EReal)) * sg (p (ix2 r (col 6656 (by decide) l))) := by
  unfold dysL
  have e : (ix2 r (⟨2048 + l.val, by have := l.isLt; omega⟩ : Fin 3072) : S256x3072.Idx)
      = (Rect.unit (s := S256x3072) ![0, 2048] ![256, 1024] inb_S256x3072_S256x1024_0_2048).emb (ix2 r l : S256x1024.Idx) := by
    funext a; apply Fin.ext
    match a with
    | ⟨0, _⟩ => show r.val = 0 + 1 * r.val; omega
    | ⟨1, _⟩ => show 2048 + l.val = 2048 + 1 * l.val; omega
  rw [e]
  refine (View.canon_cons_emb (Val := Elt Ideal) (Rect.unit (s := S256x3072) ![0, 2048] ![256, 1024] inb_S256x3072_S256x1024_0_2048) _ _ _).trans ?_
  show (dmB dx wo (ix2 r l) : EReal) * (k0_pay82 (F := Ideal) (q2 p) (ix2 r l) : EReal) = _
  rw [dmB_apply, s2_apply, q2_apply]

end Cert.MixOpen

end
-- ==== Proof.MixFun.lean ====
module

public import proofs.«01_k».proof.Proof.MixPay

@[expose] public section

noncomputable section

namespace Cert.MixVal

open Cert.MixIdeal Cert.MixOpen Idealize.ShloMosaic Idealize.ShloMosaic.TcCoe

/-! ### The functions both programs compute -/

/-- The merged branches' cotangent at a row and a column: the output's cotangent against the output projection's weight. -/
def dm (dx : FVec Ideal S8192x1024 .f32) (wo : FVec Ideal S1024x1024 .f32) (R : Fin 8192) (l : Fin 1024) : EReal :=
  ∑ k : Fin 1024, (dx (ix2 R k) : EReal) * (wo (ix2 l k) : EReal)

/-- Where a gate's column lies in the input projection. -/
abbrev gc (J : Fin 3072) : Fin 7680 := ⟨4608 + J.val, by have := J.isLt; omega⟩
/-- The column of its branch. -/
abbrev lc (J : Fin 3072) : Fin 1024 := ⟨J.val % 1024, Nat.mod_lt _ (by decide)⟩

/-- The branch's output a gate's column multiplies. -/
def yg (ya yb yc : FVec Ideal S8192x1024 .bf16) (R : Fin 8192) (J : Fin 3072) : EReal :=
  if J.val < 1024 then ya (ix2 R (lc J)) else if J.val < 2048 then yb (ix2 R (lc J)) else yc (ix2 R (lc J))

/-- The gates' cotangent at a row and a column: the branch's output times the sigmoid's derivative times the merged cotangent. -/
def gtAt (p : FVec Ideal S8192x7680 .bf16) (ya yb yc : FVec Ideal S8192x1024 .bf16) (wo : FVec Ideal S1024x1024 .f32)
    (dx : FVec Ideal S8192x1024 .f32) (R : Fin 8192) (J : Fin 3072) : EReal :=
  dm dx wo R (lc J) * sg (p (ix2 R (gc J))) * yg ya yb yc R J * (1 - sg (p (ix2 R (gc J))))

/-- The branches' cotangent at a row and a column: the gate's sigmoid times the merged cotangent. -/
def dyAt (p : FVec Ideal S8192x7680 .bf16) (wo : FVec Ideal S1024x1024 .f32) (dx : FVec Ideal S8192x1024 .f32)
    (R : Fin 8192) (J : Fin 3072) : EReal :=
  dm dx wo R (lc J) * sg (p (ix2 R (gc J)))

/-- The merged branches at a row and a column: the sum of the branches' outputs, each times its gate's sigmoid. -/
def mgAt (p : FVec Ideal S8192x7680 .bf16) (ya yb yc : FVec Ideal S8192x1024 .bf16) (R : Fin 8192) (l : Fin 1024) : EReal :=
  sg (p (ix2 R (col 4608 (by decide) l))) * (ya (ix2 R l) : EReal) + sg (p (ix2 R (col 5632 (by decide) l))) * (yb (ix2 R l) : EReal)
    + sg (p (ix2 R (col 6656 (by decide) l))) * (yc (ix2 R l) : EReal)

/-- The gates' cotangent. -/
def GT (p : FVec Ideal S8192x7680 .bf16) (ya yb yc : FVec Ideal S8192x1024 .bf16) (wo : FVec Ideal S1024x1024 .f32)
    (dx : FVec Ideal S8192x1024 .f32) : FVec Ideal S8192x3072 .bf16 := fun i => gtAt p ya yb yc wo dx (i 0) (i 1)
/-- The merged branches. -/
def MG (p : FVec Ideal S8192x7680 .bf16) (ya yb yc : FVec Ideal S8192x1024 .bf16) : FVec Ideal S8192x1024 .bf16 :=
  fun i => mgAt p ya yb yc (i 0) (i 1)
/-- The branches' cotangent. -/
def DY (p : FVec Ideal S8192x7680 .bf16) (wo : FVec Ideal S1024x1024 .f32) (dx : FVec Ideal S8192x1024 .f32) :
    FVec Ideal S8192x3072 .bf16 := fun i => dyAt p wo dx (i 0) (i 1)

/-- A gate's column by its gate. -/
theorem J_cases (J : Fin 3072) : ∃ (g : Fin 3) (l : Fin 1024), J = ⟨1024 * g.val + l.val, by have := g.isLt; have := l.isLt; omega⟩ :=
  ⟨⟨J.val / 1024, by have := J.isLt; omega⟩, lc J, Fin.ext (by show J.val = 1024 * (J.val / 1024) + J.val % 1024; omega)⟩

end Cert.MixVal

end
-- ==== Proof.MixAt.lean ====
module

public import proofs.«01_k».proof.Proof.MixFrame
public import proofs.«01_k».proof.Proof.MixFun

@[expose] public section

set_option maxRecDepth 16384

noncomputable section

namespace Cert.MixVal

open Cert.MixIdeal Cert.MixIdeal.Gen Cert.MixOpen Idealize.ShloMosaic Idealize.ShloMosaic.TcCoe Idealize.SL.Sem

variable (m : (ℓ : Loc nD τ sig) → Buf (Elt Ideal) ℓ)

/-! ### What a grid point leaves in the three outputs, by case -/

/-- Case A: the merge's block. -/
theorem o21_A (c : Dev nD) (t : Fin cfg0.N) (hc0 : cond0_0 (grid0.coords t)) (hc1 : ¬cond0_1 (grid0.coords t)) :
    out0_A_21 m c t hc0 hc1 = mrgB (iblk m c 0 t) (iblk m c 5 t) (iblk m c 6 t) (iblk m c 7 t) := by
  unfold out0_A_21
  rw [View.read_writes_eq_canon _ _ _ (cover0_A_21 m c t hc0 hc1), e21_A, View.canon_unit_zero hz]

/-- Case A: the branches' cotangents. -/
theorem o22_A (c : Dev nD) (t : Fin cfg0.N) (hc0 : cond0_0 (grid0.coords t)) (hc1 : ¬cond0_1 (grid0.coords t)) :
    out0_A_22 m c t hc0 hc1 = View.canon (Val := Elt Ideal) (dysL (iblk m c 0 t) (iblk m c 4 t) (iblk m c 18 t)) := by
  unfold out0_A_22
  rw [View.read_writes_eq_canon _ _ _ (cover0_A_22 m c t hc0 hc1), e22_A]

/-- Case A: the gates' cotangents, the columns from 4608 on. -/
theorem o19_A (c : Dev nD) (t : Fin cfg0.N) (hc0 : cond0_0 (grid0.coords t)) (hc1 : ¬cond0_1 (grid0.coords t)) (r : Fin 256) (L : Fin 7680) (h : 4608 ≤ L.val) :
    out0_A_19 m c t hc0 hc1 (ix2 r L)
      = View.canon (Val := Elt Ideal) (gatesL (iblk m c 0 t) (iblk m c 4 t) (iblk m c 18 t) (iblk m c 5 t) (iblk m c 6 t) (iblk m c 7 t)) (ix2 r L) := by
  unfold out0_A_19
  rw [View.read_writes_eq_canon _ _ _ (cover0_A_19 m c t hc0 hc1)]
  exact canon19 _ _ _ _ _ _ _ (e19_A m c t hc0 hc1) (r19_A m c t hc0 hc1) r L h

/-- Case B: the merge's block. -/
theorem o21_B (c : Dev nD) (t : Fin cfg0.N) (hc0 : ¬cond0_0 (grid0.coords t)) (hc1 : ¬cond0_1 (grid0.coords t)) (xo23 : Vec Ideal S1024x128 .f32) (xo25 : Vec Ideal S512x128 .f32) (xo26 : Vec Ideal S8x512 .f32) (xs2 : Vec Ideal S16x512 .f32) (xs3 : Vec Ideal S16x512 .bf16) (xs4 : Vec Ideal S128x512 .f32) :
    out0_B_21 m c t hc0 hc1 xo23 xo25 xo26 xs2 xs3 xs4 = mrgB (iblk m c 0 t) (iblk m c 5 t) (iblk m c 6 t) (iblk m c 7 t) := by
  unfold out0_B_21
  rw [View.read_writes_eq_canon _ _ _ (cover0_B_21 m c t hc0 hc1 xo23 xo25 xo26 xs2 xs3 xs4), e21_B, View.canon_unit_zero hz]

/-- Case B: the branches' cotangents. -/
theorem o22_B (c : Dev nD) (t : Fin cfg0.N) (hc0 : ¬cond0_0 (grid0.coords t)) (hc1 : ¬cond0_1 (grid0.coords t)) (xo23 : Vec Ideal S1024x128 .f32) (xo25 : Vec Ideal S512x128 .f32) (xo26 : Vec Ideal S8x512 .f32) (xs2 : Vec Ideal S16x512 .f32) (xs3 : Vec Ideal S16x512 .bf16) (xs4 : Vec Ideal S128x512 .f32) :
    out0_B_22 m c t hc0 hc1 xo23 xo25 xo26 xs2 xs3 xs4 = View.canon (Val := Elt Ideal) (dysL (iblk m c 0 t) (iblk m c 4 t) (iblk m c 18 t)) := by
  unfold out0_B_22
  rw [View.read_writes_eq_canon _ _ _ (cover0_B_22 m c t hc0 hc1 xo23 xo25 xo26 xs2 xs3 xs4), e22_B]

/-- Case B: the gates' cotangents, the columns from 4608 on. -/
theorem o19_B (c : Dev nD) (t : Fin cfg0.N) (hc0 : ¬cond0_0 (grid0.coords t)) (hc1 : ¬cond0_1 (grid0.coords t)) (xo23 : Vec Ideal S1024x128 .f32) (xo25 : Vec Ideal S512x128 .f32) (xo26 : Vec Ideal S8x512 .f32) (xs2 : Vec Ideal S16x512 .f32) (xs3 : Vec Ideal S16x512 .bf16) (xs4 : Vec Ideal S128x512 .f32) (r : Fin 256) (L : Fin 7680) (h : 4608 ≤ L.val) :
    out0_B_19 m c t hc0 hc1 xo23 xo25 xo26 xs2 xs3 xs4 (ix2 r L)
      = View.canon (Val := Elt Ideal) (gatesL (iblk m c 0 t) (iblk m c 4 t) (iblk m c 18 t) (iblk m c 5 t) (iblk m c 6 t) (iblk m c 7 t)) (ix2 r L) := by
  unfold out0_B_19
  rw [View.read_writes_eq_canon _ _ _ (cover0_B_19 m c t hc0 hc1 xo23 xo25 xo26 xs2 xs3 xs4)]
  exact canon19 _ _ _ _ _ _ _ (e19_B m c t hc0 hc1 xo23 xo25 xo26 xs2 xs3 xs4) (r19_B m c t hc0 hc1 xo23 xo25 xo26 xs2 xs3 xs4) r L h

/-- Case C: the merge's block. -/
theorem o21_C (c : Dev nD) (t : Fin cfg0.N) (hc0 : ¬cond0_0 (grid0.coords t)) (hc1 : cond0_1 (grid0.coords t)) (xo23 : Vec Ideal S1024x128 .f32) (xo25 : Vec Ideal S512x128 .f32) (xo26 : Vec Ideal S8x512 .f32) (xs2 : Vec Ideal S16x512 .f32) (xs3 : Vec Ideal S16x512 .bf16) (xs4 : Vec Ideal S128x512 .f32) :
    out0_C_21 m c t hc0 hc1 xo23 xo25 xo26 xs2 xs3 xs4 = mrgB (iblk m c 0 t) (iblk m c 5 t) (iblk m c 6 t) (iblk m c 7 t) := by
  unfold out0_C_21
  rw [View.read_writes_eq_canon _ _ _ (cover0_C_21 m c t hc0 hc1 xo23 xo25 xo26 xs2 xs3 xs4), e21_C, View.canon_unit_zero hz]

/-- Case C: the branches' cotangents. -/
theorem o22_C (c : Dev nD) (t : Fin cfg0.N) (hc0 : ¬cond0_0 (grid0.coords t)) (hc1 : cond0_1 (grid0.coords t)) (xo23 : Vec Ideal S1024x128 .f32) (xo25 : Vec Ideal S512x128 .f32) (xo26 : Vec Ideal S8x512 .f32) (xs2 : Vec Ideal S16x512 .f32) (xs3 : Vec Ideal S16x512 .bf16) (xs4 : Vec Ideal S128x512 .f32) :
    out0_C_22 m c t hc0 hc1 xo23 xo25 xo26 xs2 xs3 xs4 = View.canon (Val := Elt Ideal) (dysL (iblk m c 0 t) (iblk m c 4 t) (iblk m c 18 t)) := by
  unfold out0_C_22
  rw [View.read_writes_eq_canon _ _ _ (cover0_C_22 m c t hc0 hc1 xo23 xo25 xo26 xs2 xs3 xs4), e22_C]

/-- Case C: the gates' cotangents, the columns from 4608 on. -/
theorem o19_C (c : Dev nD) (t : Fin cfg0.N) (hc0 : ¬cond0_0 (grid0.coords t)) (hc1 : cond0_1 (grid0.coords t)) (xo23 : Vec Ideal S1024x128 .f32) (xo25 : Vec Ideal S512x128 .f32) (xo26 : Vec Ideal S8x512 .f32) (xs2 : Vec Ideal S16x512 .f32) (xs3 : Vec Ideal S16x512 .bf16) (xs4 : Vec Ideal S128x512 .f32) (r : Fin 256) (L : Fin 7680) (h : 4608 ≤ L.val) :
    out0_C_19 m c t hc0 hc1 xo23 xo25 xo26 xs2 xs3 xs4 (ix2 r L)
      = View.canon (Val := Elt Ideal) (gatesL (iblk m c 0 t) (iblk m c 4 t) (iblk m c 18 t) (iblk m c 5 t) (iblk m c 6 t) (iblk m c 7 t)) (ix2 r L) := by
  unfold out0_C_19
  rw [View.read_writes_eq_canon _ _ _ (cover0_C_19 m c t hc0 hc1 xo23 xo25 xo26 xs2 xs3 xs4)]
  exact canon19 _ _ _ _ _ _ _ (e19_C m c t hc0 hc1 xo23 xo25 xo26 xs2 xs3 xs4) (r19_C m c t hc0 hc1 xo23 xo25 xo26 xs2 xs3 xs4) r L h

/-! ### … at every grid point -/

theorem cA0 (t : Fin cfg0.N) (h0 : t.val % 32 = 0) : cond0_0 (grid0.coords t) := (hcond0_0 t).mpr h0
theorem cA1 (t : Fin cfg0.N) (h1 : t.val % 32 = 31) : cond0_1 (grid0.coords t) := (hcond0_1 t).mpr h1
theorem cB0 (t : Fin cfg0.N) (h0 : ¬t.val % 32 = 0) : ¬cond0_0 (grid0.coords t) := fun h => h0 ((hcond0_0 t).mp h)
theorem cB1 (t : Fin cfg0.N) (h1 : ¬t.val % 32 = 31) : ¬cond0_1 (grid0.coords t) := fun h => h1 ((hcond0_1 t).mp h)

/-- Case A: which of the outputs are meant. -/
theorem at_A (c : Dev nD) (t : Fin cfg0.N) (h0 : t.val % 32 = 0) (h1 : ¬t.val % 32 = 31) :
    (outsAt0 m c t.val t.isLt).1 = out0_A_19 m c t (cA0 t h0) (cB1 t h1)
      ∧ (outsAt0 m c t.val t.isLt).2.2.1 = out0_A_21 m c t (cA0 t h0) (cB1 t h1)
      ∧ (outsAt0 m c t.val t.isLt).2.2.2.1 = out0_A_22 m c t (cA0 t h0) (cB1 t h1) := by
  rw [outsAt0_A m c t h0 h1]
  refine ⟨?_, ?_, ?_⟩ <;> with_reducible rfl

/-- Case B: which of the outputs are meant. -/
theorem at_B (c : Dev nD) (t : Fin cfg0.N) (h0 : ¬t.val % 32 = 0) (h1 : ¬t.val % 32 = 31) :
    ∃ (xo23 : Vec Ideal S1024x128 .f32) (xo25 : Vec Ideal S512x128 .f32) (xo26 : Vec Ideal S8x512 .f32) (xs2 : Vec Ideal S16x512 .f32) (xs3 : Vec Ideal S16x512 .bf16) (xs4 : Vec Ideal S128x512 .f32), (outsAt0 m c t.val t.isLt).1 = out0_B_19 m c t (cB0 t h0) (cB1 t h1) xo23 xo25 xo26 xs2 xs3 xs4
      ∧ (outsAt0 m c t.val t.isLt).2.2.1 = out0_B_21 m c t (cB0 t h0) (cB1 t h1) xo23 xo25 xo26 xs2 xs3 xs4
      ∧ (outsAt0 m c t.val t.isLt).2.2.2.1 = out0_B_22 m c t (cB0 t h0) (cB1 t h1) xo23 xo25 xo26 xs2 xs3 xs4 := by
  have e := outsAt0_B m c t h0 h1
  generalize outsAt0 m c (t.val - 1) (Nat.lt_of_le_of_lt (Nat.sub_le _ _) t.isLt) = P at e
  rw [e]
  refine ⟨P.2.2.2.2.1, P.2.2.2.2.2.2.1, P.2.2.2.2.2.2.2.1, P.2.2.2.2.2.2.2.2.1, P.2.2.2.2.2.2.2.2.2.1, P.2.2.2.2.2.2.2.2.2.2, ?_, ?_, ?_⟩ <;>
    with_reducible rfl

/-- Case C: which of the outputs are meant. -/
theorem at_C (c : Dev nD) (t : Fin cfg0.N) (h0 : ¬t.val % 32 = 0) (h1 : t.val % 32 = 31) :
    ∃ (xo23 : Vec Ideal S1024x128 .f32) (xo25 : Vec Ideal S512x128 .f32) (xo26 : Vec Ideal S8x512 .f32) (xs2 : Vec Ideal S16x512 .f32) (xs3 : Vec Ideal S16x512 .bf16) (xs4 : Vec Ideal S128x512 .f32), (outsAt0 m c t.val t.isLt).1 = out0_C_19 m c t (cB0 t h0) (cA1 t h1) xo23 xo25 xo26 xs2 xs3 xs4
      ∧ (outsAt0 m c t.val t.isLt).2.2.1 = out0_C_21 m c t (cB0 t h0) (cA1 t h1) xo23 xo25 xo26 xs2 xs3 xs4
      ∧ (outsAt0 m c t.val t.isLt).2.2.2.1 = out0_C_22 m c t (cB0 t h0) (cA1 t h1) xo23 xo25 xo26 xs2 xs3 xs4 := by
  have e := outsAt0_C m c t h0 h1
  generalize outsAt0 m c (t.val - 1) (Nat.lt_of_le_of_lt (Nat.sub_le _ _) t.isLt) = P at e
  rw [e]
  refine ⟨P.2.2.2.2.1, P.2.2.2.2.2.2.1, P.2.2.2.2.2.2.2.1, P.2.2.2.2.2.2.2.2.1, P.2.2.2.2.2.2.2.2.2.1, P.2.2.2.2.2.2.2.2.2.2, ?_, ?_, ?_⟩ <;>
    with_reducible rfl

/-- The gates' cotangents, the merge's block and the branches' cotangents a grid point leaves. -/
theorem outs (c : Dev nD) (t : Fin cfg0.N) :
    (∀ (r : Fin 256) (L : Fin 7680), 4608 ≤ L.val → (outsAt0 m c t.val t.isLt).1 (ix2 r L)
      = View.canon (Val := Elt Ideal) (gatesL (iblk m c 0 t) (iblk m c 4 t) (iblk m c 18 t) (iblk m c 5 t) (iblk m c 6 t) (iblk m c 7 t)) (ix2 r L))
    ∧ (outsAt0 m c t.val t.isLt).2.2.1 = mrgB (iblk m c 0 t) (iblk m c 5 t) (iblk m c 6 t) (iblk m c 7 t)
    ∧ (outsAt0 m c t.val t.isLt).2.2.2.1 = View.canon (Val := Elt Ideal) (dysL (iblk m c 0 t) (iblk m c 4 t) (iblk m c 18 t)) := by
  by_cases h0 : t.val % 32 = 0
  · have h1 : ¬t.val % 32 = 31 := by omega
    obtain ⟨e1, e2, e3⟩ := at_A m c t h0 h1
    exact ⟨fun r L h => (congrFun e1 _).trans (o19_A m c t _ _ r L h), e2.trans (o21_A m c t _ _), e3.trans (o22_A m c t _ _)⟩
  · by_cases h1 : t.val % 32 = 31
    · obtain ⟨x1, x2, x3, x4, x5, x6, e1, e2, e3⟩ := at_C m c t h0 h1
      exact ⟨fun r L h => (congrFun e1 _).trans (o19_C m c t _ _ x1 x2 x3 x4 x5 x6 r L h), e2.trans (o21_C m c t _ _ x1 x2 x3 x4 x5 x6), e3.trans (o22_C m c t _ _ x1 x2 x3 x4 x5 x6)⟩
    · obtain ⟨x1, x2, x3, x4, x5, x6, e1, e2, e3⟩ := at_B m c t h0 h1
      exact ⟨fun r L h => (congrFun e1 _).trans (o19_B m c t _ _ x1 x2 x3 x4 x5 x6 r L h), e2.trans (o21_B m c t _ _ x1 x2 x3 x4 x5 x6), e3.trans (o22_B m c t _ _ x1 x2 x3 x4 x5 x6)⟩

end Cert.MixVal

end
-- ==== Proof.MixKer.lean ====
module

public import proofs.«01_k».proof.Proof.MixAt

@[expose] public section

set_option maxRecDepth 16384

noncomputable section

namespace Cert.MixVal

open Cert.MixIdeal Cert.MixIdeal.Gen Cert.MixOpen Idealize.ShloMosaic Idealize.ShloMosaic.TcCoe Idealize.SL.Sem

variable (m : (ℓ : Loc nD τ sig) → Buf (Elt Ideal) ℓ)

/-- The input projection. -/
abbrev pA (c : Dev nD) : FVec Ideal S8192x7680 .bf16 := m ((c : Thread nD τ).loc main_arg0)
/-- The first branch's output. -/
abbrev aA (c : Dev nD) : FVec Ideal S8192x1024 .bf16 := m ((c : Thread nD τ).loc main_arg1)
/-- The second branch's output. -/
abbrev bA (c : Dev nD) : FVec Ideal S8192x1024 .bf16 := m ((c : Thread nD τ).loc main_arg2)
/-- The third branch's output. -/
abbrev cA (c : Dev nD) : FVec Ideal S8192x1024 .bf16 := m ((c : Thread nD τ).loc main_arg3)
/-- The output projection's weight. -/
abbrev wA (c : Dev nD) : FVec Ideal S1024x1024 .f32 := m ((c : Thread nD τ).loc main_arg15)
/-- The output's cotangent. -/
abbrev xA (c : Dev nD) : FVec Ideal S8192x1024 .f32 := m ((c : Thread nD τ).loc main_arg16)

/-! ### The blocks a grid point reads -/

/-- The host's cast weight. -/
theorem V12 (c : Dev nD) : (V m c main_v12 : FVec Ideal S1024x1024 .bf16) = truncf .bf16 (wA m c) bitsLt_bf16_f32 := by
  show StableHlo.after (List.flatten [hostOps0, hostOps0_1, hostOps0_2, hostOps0_3, hostOps0_4]) _ _ = _
  unfold hostOps0 hostOps0_1 hostOps0_2 hostOps0_3 hostOps0_4
  simp only [List.flatten_cons, List.flatten_nil, List.append_nil, List.cons_append, List.nil_append]
  after_results

/-- The blocks lie in the rows' order reversed; the weight is one block. -/
theorem idx : ∀ t : Fin cfg0.N, win0_0.index t (0 : Fin 2) = 31 - t.val ∧ win0_0.index t (1 : Fin 2) = 0
    ∧ win0_4.index t (0 : Fin 2) = 31 - t.val ∧ win0_4.index t (1 : Fin 2) = 0
    ∧ win0_5.index t (0 : Fin 2) = 31 - t.val ∧ win0_5.index t (1 : Fin 2) = 0
    ∧ win0_6.index t (0 : Fin 2) = 31 - t.val ∧ win0_6.index t (1 : Fin 2) = 0
    ∧ win0_7.index t (0 : Fin 2) = 31 - t.val ∧ win0_7.index t (1 : Fin 2) = 0
    ∧ win0_19.index t (0 : Fin 2) = 31 - t.val ∧ win0_19.index t (1 : Fin 2) = 0
    ∧ win0_21.index t (0 : Fin 2) = 31 - t.val ∧ win0_21.index t (1 : Fin 2) = 0
    ∧ win0_22.index t (0 : Fin 2) = 31 - t.val ∧ win0_22.index t (1 : Fin 2) = 0
    ∧ win0_18.index t (0 : Fin 2) = 0 ∧ win0_18.index t (1 : Fin 2) = 0 :=
  (by decide +kernel : ∀ t : Fin grid0.N, _)

/-- The block of the input projection a point reads, at an index. -/
theorem blk0 (c : Dev nD) (t : Fin cfg0.N) (r : Fin 256) (l : Fin 7680) (R : Fin 8192) (h : R.val = (31 - t.val) * 256 + r.val) :
    ((iblk m c 0 t : FVec Ideal S256x7680 .bf16) (ix2 r l) : EReal) = pA m c (ix2 R l) := by
  obtain ⟨e0, e1, -⟩ := idx t
  have hb0 : (((cfg0.win 0).blk t).view.emb (ix2 r l) 0).val = win0_0.index t (0 : Fin 2) * 256 + 1 * r.val := rfl
  have hb1 : (((cfg0.win 0).blk t).view.emb (ix2 r l) 1).val = win0_0.index t (1 : Fin 2) * 7680 + 1 * l.val := rfl
  show V m c main_arg0 (((cfg0.win 0).blk t).view.emb (ix2 r l)) = _
  rw [V_main_arg0]
  show pA m c _ = pA m c _
  congr 1
  funext a; apply Fin.ext
  match a with
  | ⟨0, _⟩ => show (((cfg0.win 0).blk t).view.emb (ix2 r l) 0).val = R.val; rw [hb0, h, e0]; omega
  | ⟨1, _⟩ => show (((cfg0.win 0).blk t).view.emb (ix2 r l) 1).val = l.val; rw [hb1, e1]; omega

/-- The block of the output's cotangent a point reads, at an index. -/
theorem blk4 (c : Dev nD) (t : Fin cfg0.N) (r : Fin 256) (l : Fin 1024) (R : Fin 8192) (h : R.val = (31 - t.val) * 256 + r.val) :
    ((iblk m c 4 t : FVec Ideal S256x1024 .f32) (ix2 r l) : EReal) = xA m c (ix2 R l) := by
  obtain ⟨-, -, e0, e1, -⟩ := idx t
  have hb0 : (((cfg0.win 4).blk t).view.emb (ix2 r l) 0).val = win0_4.index t (0 : Fin 2) * 256 + 1 * r.val := rfl
  have hb1 : (((cfg0.win 4).blk t).view.emb (ix2 r l) 1).val = win0_4.index t (1 : Fin 2) * 1024 + 1 * l.val := rfl
  show V m c main_arg16 (((cfg0.win 4).blk t).view.emb (ix2 r l)) = _
  rw [V_main_arg16]
  show xA m c _ = xA m c _
  congr 1
  funext a; apply Fin.ext
  match a with
  | ⟨0, _⟩ => show (((cfg0.win 4).blk t).view.emb (ix2 r l) 0).val = R.val; rw [hb0, h, e0]; omega
  | ⟨1, _⟩ => show (((cfg0.win 4).blk t).view.emb (ix2 r l) 1).val = l.val; rw [hb1, e1]; omega

/-- The block of the first branch's output a point reads, at an index. -/
theorem blk5 (c : Dev nD) (t : Fin cfg0.N) (r : Fin 256) (l : Fin 1024) (R : Fin 8192) (h : R.val = (31 - t.val) * 256 + r.val) :
    ((iblk m c 5 t : FVec Ideal S256x1024 .bf16) (ix2 r l) : EReal) = aA m c (ix2 R l) := by
  obtain ⟨-, -, -, -, e0, e1, -⟩ := idx t
  have hb0 : (((cfg0.win 5).blk t).view.emb (ix2 r l) 0).val = win0_5.index t (0 : Fin 2) * 256 + 1 * r.val := rfl
  have hb1 : (((cfg0.win 5).blk t).view.emb (ix2 r l) 1).val = win0_5.index t (1 : Fin 2) * 1024 + 1 * l.val := rfl
  show V m c main_arg1 (((cfg0.win 5).blk t).view.emb (ix2 r l)) = _
  rw [V_main_arg1]
  show aA m c _ = aA m c _
  congr 1
  funext a; apply Fin.ext
  match a with
  | ⟨0, _⟩ => show (((cfg0.win 5).blk t).view.emb (ix2 r l) 0).val = R.val; rw [hb0, h, e0]; omega
  | ⟨1, _⟩ => show (((cfg0.win 5).blk t).view.emb (ix2 r l) 1).val = l.val; rw [hb1, e1]; omega

/-- The block of the second branch's output a point reads, at an index. -/
theorem blk6 (c : Dev nD) (t : Fin cfg0.N) (r : Fin 256) (l : Fin 1024) (R : Fin 8192) (h : R.val = (31 - t.val) * 256 + r.val) :
    ((iblk m c 6 t : FVec Ideal S256x1024 .bf16) (ix2 r l) : EReal) = bA m c (ix2 R l) := by
  obtain ⟨-, -, -, -, -, -, e0, e1, -⟩ := idx t
  have hb0 : (((cfg0.win 6).blk t).view.emb (ix2 r l) 0).val = win0_6.index t (0 : Fin 2) * 256 + 1 * r.val := rfl
  have hb1 : (((cfg0.win 6).blk t).view.emb (ix2 r l) 1).val = win0_6.index t (1 : Fin 2) * 1024 + 1 * l.val := rfl
  show V m c main_arg2 (((cfg0.win 6).blk t).view.emb (ix2 r l)) = _
  rw [V_main_arg2]
  show bA m c _ = bA m c _
  congr 1
  funext a; apply Fin.ext
  match a with
  | ⟨0, _⟩ => show (((cfg0.win 6).blk t).view.emb (ix2 r l) 0).val = R.val; rw [hb0, h, e0]; omega
  | ⟨1, _⟩ => show (((cfg0.win 6).blk t).view.emb (ix2 r l) 1).val = l.val; rw [hb1, e1]; omega

/-- The block of the third branch's output a point reads, at an index. -/
theorem blk7 (c : Dev nD) (t : Fin cfg0.N) (r : Fin 256) (l : Fin 1024) (R : Fin 8192) (h : R.val = (31 - t.val) * 256 + r.val) :
    ((iblk m c 7 t : FVec Ideal S256x1024 .bf16) (ix2 r l) : EReal) = cA m c (ix2 R l) := by
  obtain ⟨-, -, -, -, -, -, -, -, e0, e1, -⟩ := idx t
  have hb0 : (((cfg0.win 7).blk t).view.emb (ix2 r l) 0).val = win0_7.index t (0 : Fin 2) * 256 + 1 * r.val := rfl
  have hb1 : (((cfg0.win 7).blk t).view.emb (ix2 r l) 1).val = win0_7.index t (1 : Fin 2) * 1024 + 1 * l.val := rfl
  show V m c main_arg3 (((cfg0.win 7).blk t).view.emb (ix2 r l)) = _
  rw [V_main_arg3]
  show cA m c _ = cA m c _
  congr 1
  funext a; apply Fin.ext
  match a with
  | ⟨0, _⟩ => show (((cfg0.win 7).blk t).view.emb (ix2 r l) 0).val = R.val; rw [hb0, h, e0]; omega
  | ⟨1, _⟩ => show (((cfg0.win 7).blk t).view.emb (ix2 r l) 1).val = l.val; rw [hb1, e1]; omega

/-- The weight a point reads, at an index. -/
theorem blk18 (c : Dev nD) (t : Fin cfg0.N) (l k : Fin 1024) :
    ((iblk m c 18 t : FVec Ideal S1024x1024 .bf16) (ix2 l k) : EReal) = wA m c (ix2 l k) := by
  obtain ⟨-, -, -, -, -, -, -, -, -, -, -, -, -, -, -, -, e0, e1⟩ := idx t
  have hb0 : (((cfg0.win 18).blk t).view.emb (ix2 l k) 0).val = win0_18.index t (0 : Fin 2) * 1024 + 1 * l.val := rfl
  have hb1 : (((cfg0.win 18).blk t).view.emb (ix2 l k) 1).val = win0_18.index t (1 : Fin 2) * 1024 + 1 * k.val := rfl
  show (V m c main_v12 : FVec Ideal S1024x1024 .bf16) (((cfg0.win 18).blk t).view.emb (ix2 l k)) = _
  rw [V12]
  show wA m c _ = wA m c _
  congr 1
  funext a; apply Fin.ext
  match a with
  | ⟨0, _⟩ => show (((cfg0.win 18).blk t).view.emb (ix2 l k) 0).val = l.val; rw [hb0, e0]; omega
  | ⟨1, _⟩ => show (((cfg0.win 18).blk t).view.emb (ix2 l k) 1).val = k.val; rw [hb1, e1]; omega

/-- The cotangent's block and the weight's, as arrays. -/
abbrev dxB (c : Dev nD) (t : Fin cfg0.N) : FVec Ideal S256x1024 .f32 := iblk m c 4 t
abbrev woB (c : Dev nD) (t : Fin cfg0.N) : FVec Ideal S1024x1024 .bf16 := iblk m c 18 t

/-- The product in a block is the merged cotangent at the block's row. -/
theorem dm_blk (c : Dev nD) (t : Fin cfg0.N) (r : Fin 256) (l : Fin 1024) (R : Fin 8192) (h : R.val = (31 - t.val) * 256 + r.val) :
    (∑ k : Fin 1024, dxB m c t (ix2 r k) * woB m c t (ix2 l k))
      = dm (xA m c) (wA m c) R l := by
  unfold dm
  exact Finset.sum_congr rfl fun k _ => congrArg₂ (fun a b : EReal => a * b) (blk4 m c t r k R h) (blk18 m c t l k)

/-! ### The outputs of a grid point, at an index -/

/-- The merge. -/
theorem mg_at (c : Dev nD) (t : Fin cfg0.N) (r : Fin 256) (l : Fin 1024) (R : Fin 8192) (h : R.val = (31 - t.val) * 256 + r.val) :
    ((outsAt0 m c t.val t.isLt).2.2.1 (ix2 r l) : EReal) = mgAt (pA m c) (aA m c) (bA m c) (cA m c) R l := by
  rw [(outs m c t).2.1]
  refine (mrgB_apply _ _ _ _ r l).trans ?_
  unfold mgAt
  rw [blk0 m c t r _ R h, blk0 m c t r _ R h, blk0 m c t r _ R h, blk5 m c t r l R h, blk6 m c t r l R h, blk7 m c t r l R h]

/-- The branches' cotangent. -/
theorem dy_at (c : Dev nD) (t : Fin cfg0.N) (r : Fin 256) (J : Fin 3072) (R : Fin 8192) (h : R.val = (31 - t.val) * 256 + r.val) :
    ((outsAt0 m c t.val t.isLt).2.2.2.1 (ix2 r J) : EReal) = dyAt (pA m c) (wA m c) (xA m c) R J := by
  rw [(outs m c t).2.2]
  obtain ⟨g, l, rfl⟩ := J_cases J
  have hl := l.isLt
  have hlc : ∀ (q : ℕ) (h : 1024 * q + l.val < 3072), lc ⟨1024 * q + l.val, h⟩ = l := fun q h => Fin.ext (by show (1024 * q + l.val) % 1024 = l.val; omega)
  match g with
  | ⟨0, _⟩ =>
    have eJ : (⟨1024 * 0 + l.val, by omega⟩ : Fin 3072) = ⟨0 + l.val, by omega⟩ := Fin.ext (by show 1024 * 0 + l.val = 0 + l.val; omega)
    have eL : gc ⟨1024 * 0 + l.val, by omega⟩ = col 4608 (by decide) l := Fin.ext (by show 4608 + (1024 * 0 + l.val) = 4608 + l.val; omega)
    show View.canon (Val := Elt Ideal) (dysL (iblk m c 0 t) (iblk m c 4 t) (iblk m c 18 t)) (ix2 r (⟨1024 * 0 + l.val, by omega⟩ : Fin 3072) : S256x3072.Idx) = dyAt _ _ _ R (⟨1024 * 0 + l.val, by omega⟩ : Fin 3072)
    unfold dyAt
    rw [hlc, eL, eJ]
    refine (dys0 _ _ _ r l).trans ?_
    exact congrArg₂ (fun a b : EReal => a * sg b) (dm_blk m c t r l R h) (blk0 m c t r _ R h)
  | ⟨1, _⟩ =>
    have eJ : (⟨1024 * 1 + l.val, by omega⟩ : Fin 3072) = ⟨1024 + l.val, by omega⟩ := Fin.ext (by show 1024 * 1 + l.val = 1024 + l.val; omega)
    have eL : gc ⟨1024 * 1 + l.val, by omega⟩ = col 5632 (by decide) l := Fin.ext (by show 4608 + (1024 * 1 + l.val) = 5632 + l.val; omega)
    show View.canon (Val := Elt Ideal) (dysL (iblk m c 0 t) (iblk m c 4 t) (iblk m c 18 t)) (ix2 r (⟨1024 * 1 + l.val, by omega⟩ : Fin 3072) : S256x3072.Idx) = dyAt _ _ _ R (⟨1024 * 1 + l.val, by omega⟩ : Fin 3072)
    unfold dyAt
    rw [hlc, eL, eJ]
    refine (dys1 _ _ _ r l).trans ?_
    exact congrArg₂ (fun a b : EReal => a * sg b) (dm_blk m c t r l R h) (blk0 m c t r _ R h)
  | ⟨2, _⟩ =>
    have eJ : (⟨1024 * 2 + l.val, by omega⟩ : Fin 3072) = ⟨2048 + l.val, by omega⟩ := Fin.ext (by show 1024 * 2 + l.val = 2048 + l.val; omega)
    have eL : gc ⟨1024 * 2 + l.val, by omega⟩ = col 6656 (by decide) l := Fin.ext (by show 4608 + (1024 * 2 + l.val) = 6656 + l.val; omega)
    show View.canon (Val := Elt Ideal) (dysL (iblk m c 0 t) (iblk m c 4 t) (iblk m c 18 t)) (ix2 r (⟨1024 * 2 + l.val, by omega⟩ : Fin 3072) : S256x3072.Idx) = dyAt _ _ _ R (⟨1024 * 2 + l.val, by omega⟩ : Fin 3072)
    unfold dyAt
    rw [hlc, eL, eJ]
    refine (dys2 _ _ _ r l).trans ?_
    exact congrArg₂ (fun a b : EReal => a * sg b) (dm_blk m c t r l R h) (blk0 m c t r _ R h)

/-- The gate's product, factor by factor. -/
theorem gmul {a a' b b' y y' : EReal} (ha : a = a') (hb : b = b') (hy : y = y') :
    a * sg b * y * (1 - sg b) = a' * sg b' * y' * (1 - sg b') := by subst ha; subst hb; subst hy; rfl

/-- The gates' cotangent. -/
theorem gt_at (c : Dev nD) (t : Fin cfg0.N) (r : Fin 256) (J : Fin 3072) (R : Fin 8192) (h : R.val = (31 - t.val) * 256 + r.val) :
    ((outsAt0 m c t.val t.isLt).1 (ix2 r (gc J)) : EReal) = gtAt (pA m c) (aA m c) (bA m c) (cA m c) (wA m c) (xA m c) R J := by
  rw [(outs m c t).1 r (gc J) (by show 4608 ≤ 4608 + J.val; omega)]
  obtain ⟨g, l, rfl⟩ := J_cases J
  have hl := l.isLt
  have hlc : ∀ (q : ℕ) (h : 1024 * q + l.val < 3072), lc ⟨1024 * q + l.val, h⟩ = l := fun q h => Fin.ext (by show (1024 * q + l.val) % 1024 = l.val; omega)
  match g with
  | ⟨0, _⟩ =>
    have eL : gc ⟨1024 * 0 + l.val, by omega⟩ = col 4608 (by decide) l := Fin.ext (by show 4608 + (1024 * 0 + l.val) = 4608 + l.val; omega)
    have eY : yg (aA m c) (bA m c) (cA m c) R ⟨1024 * 0 + l.val, by omega⟩ = aA m c (ix2 R l) := by
      unfold yg
      rw [if_pos (show 1024 * 0 + l.val < 1024 by omega)]
      rw [hlc]
    show View.canon (Val := Elt Ideal) (gatesL (iblk m c 0 t) (iblk m c 4 t) (iblk m c 18 t) (iblk m c 5 t) (iblk m c 6 t) (iblk m c 7 t)) (ix2 r (gc ⟨1024 * 0 + l.val, by omega⟩) : S256x7680.Idx) = gtAt _ _ _ _ _ _ R (⟨1024 * 0 + l.val, by omega⟩ : Fin 3072)
    unfold gtAt
    rw [eY, hlc, eL]
    refine (gates0 _ _ _ _ _ _ r l).trans ?_
    exact gmul (dm_blk m c t r l R h) (blk0 m c t r (col 4608 (by decide) l) R h) (blk5 m c t r l R h)
  | ⟨1, _⟩ =>
    have eL : gc ⟨1024 * 1 + l.val, by omega⟩ = col 5632 (by decide) l := Fin.ext (by show 4608 + (1024 * 1 + l.val) = 5632 + l.val; omega)
    have eY : yg (aA m c) (bA m c) (cA m c) R ⟨1024 * 1 + l.val, by omega⟩ = bA m c (ix2 R l) := by
      unfold yg
      rw [if_neg (show ¬1024 * 1 + l.val < 1024 by omega), if_pos (show 1024 * 1 + l.val < 2048 by omega)]
      rw [hlc]
    show View.canon (Val := Elt Ideal) (gatesL (iblk m c 0 t) (iblk m c 4 t) (iblk m c 18 t) (iblk m c 5 t) (iblk m c 6 t) (iblk m c 7 t)) (ix2 r (gc ⟨1024 * 1 + l.val, by omega⟩) : S256x7680.Idx) = gtAt _ _ _ _ _ _ R (⟨1024 * 1 + l.val, by omega⟩ : Fin 3072)
    unfold gtAt
    rw [eY, hlc, eL]
    refine (gates1 _ _ _ _ _ _ r l).trans ?_
    exact gmul (dm_blk m c t r l R h) (blk0 m c t r (col 5632 (by decide) l) R h) (blk6 m c t r l R h)
  | ⟨2, _⟩ =>
    have eL : gc ⟨1024 * 2 + l.val, by omega⟩ = col 6656 (by decide) l := Fin.ext (by show 4608 + (1024 * 2 + l.val) = 6656 + l.val; omega)
    have eY : yg (aA m c) (bA m c) (cA m c) R ⟨1024 * 2 + l.val, by omega⟩ = cA m c (ix2 R l) := by
      unfold yg
      rw [if_neg (show ¬1024 * 2 + l.val < 1024 by omega), if_neg (show ¬1024 * 2 + l.val < 2048 by omega)]
      rw [hlc]
    show View.canon (Val := Elt Ideal) (gatesL (iblk m c 0 t) (iblk m c 4 t) (iblk m c 18 t) (iblk m c 5 t) (iblk m c 6 t) (iblk m c 7 t)) (ix2 r (gc ⟨1024 * 2 + l.val, by omega⟩) : S256x7680.Idx) = gtAt _ _ _ _ _ _ R (⟨1024 * 2 + l.val, by omega⟩ : Fin 3072)
    unfold gtAt
    rw [eY, hlc, eL]
    refine (gates2 _ _ _ _ _ _ r l).trans ?_
    exact gmul (dm_blk m c t r l R h) (blk0 m c t r (col 6656 (by decide) l) R h) (blk7 m c t r l R h)

/-! ### The arrays the kernel leaves -/

/-- The point that writes a row, -/
def pt (R : Fin 8192) : Fin cfg0.N := ⟨31 - R.val / 256, lt_of_lt_of_eq (by omega : 31 - R.val / 256 < 32) N_0.symm⟩
/-- … and the row within its block. -/
abbrev rw' (R : Fin 8192) : Fin 256 := ⟨R.val % 256, Nat.mod_lt _ (by decide)⟩

theorem pt_row (R : Fin 8192) : R.val = (31 - (pt R).val) * 256 + (rw' R).val := by
  have := R.isLt
  show R.val = (31 - (31 - R.val / 256)) * 256 + R.val % 256
  omega

/-- A point's rows are its own. -/
theorem pt_of (t : Fin cfg0.N) (r : Fin 256) (R : Fin 8192) (h : R.val = (31 - t.val) * 256 + r.val) : pt R = t ∧ rw' R = r := by
  have ht := lt_of_lt_of_eq t.isLt N_0
  have hr := r.isLt
  exact ⟨Fin.ext (by show 31 - R.val / 256 = t.val; omega), Fin.ext (by show R.val % 256 = r.val; omega)⟩

/-- The cotangent of the projection, whose columns from 4608 on are the gates': each row as its point leaves it. -/
def DP (c : Dev nD) : FVec Ideal S8192x7680 .bf16 := fun i => (outsAt0 m c (pt (i 0)).val (pt (i 0)).isLt).1 (ix2 (rw' (i 0)) (i 1))

/-- Where window 19's block lies. -/
theorem emb19 (t : Fin cfg0.N) (r : Fin 256) (l : Fin 7680) (R : Fin 8192) (h : R.val = (31 - t.val) * 256 + r.val) :
    ((cfg0.win 19).blk t).view.emb (ix2 r l) = (ix2 R l : S8192x7680.Idx) := by
  obtain ⟨-, -, -, -, -, -, -, -, -, -, e0, e1, -⟩ := idx t
  have hb0 : (((cfg0.win 19).blk t).view.emb (ix2 r l) 0).val = win0_19.index t (0 : Fin 2) * 256 + 1 * r.val := rfl
  have hb1 : (((cfg0.win 19).blk t).view.emb (ix2 r l) 1).val = win0_19.index t (1 : Fin 2) * 7680 + 1 * l.val := rfl
  funext a; apply Fin.ext
  match a with
  | ⟨0, _⟩ => show (((cfg0.win 19).blk t).view.emb (ix2 r l) 0).val = R.val; rw [hb0, h, e0]; omega
  | ⟨1, _⟩ => show (((cfg0.win 19).blk t).view.emb (ix2 r l) 1).val = l.val; rw [hb1, e1]; omega

/-- Window 19's blocks are whole. -/
theorem xinj19 (t : Fin cfg0.N) (y : S256x7680.Idx) : (cfg0.win 19).xinj (grid0.coords t) y = y := by
  funext a; apply Fin.ext
  match a with
  | ⟨0, _⟩ => rfl
  | ⟨1, _⟩ => rfl

/-- What a point writes back of window 19. -/
theorem written19 (c : Dev nD) (t : Fin cfg0.N) :
    (dats m 0 c).flushed 19 t = ((cfg0.win 19).blk t).view.read (Elt Ideal) (DP m c) := by
  show (cfg0.win 19).cut (grid0.coords t) ((dats m 0 c).after 19 t) = _
  rw [after0_19]
  funext y
  obtain ⟨r, l, rfl⟩ : ∃ (r : Fin 256) (l : Fin 7680), y = (ix2 r l : S256x7680.Idx) := ⟨y 0, y 1, eq_ix2 (n0 := 256) (n1 := 7680) y⟩
  have ht := lt_of_lt_of_eq t.isLt N_0
  have hr := r.isLt
  show (outsAt0 m c t.val t.isLt).1 ((cfg0.win 19).xinj (grid0.coords t) (ix2 r l : S256x7680.Idx)) = (DP m c) (((cfg0.win 19).blk t).view.emb (ix2 r l : S256x7680.Idx))
  rw [emb19 t r l ⟨(31 - t.val) * 256 + r.val, by omega⟩ rfl, xinj19 t (ix2 r l)]
  obtain ⟨e1, e2⟩ := pt_of t r ⟨(31 - t.val) * 256 + r.val, by omega⟩ rfl
  show (outsAt0 m c t.val t.isLt).1 (ix2 r l) = (outsAt0 m c (pt ⟨(31 - t.val) * 256 + r.val, by omega⟩).val (pt ⟨(31 - t.val) * 256 + r.val, by omega⟩).isLt).1 (ix2 (rw' ⟨(31 - t.val) * 256 + r.val, by omega⟩) l)
  rw [e1, e2]

/-- Every element of window 19's array lies in the block of a point. -/
theorem cov19 (i : S8192x7680.Idx) : ∃ t : Fin cfg0.N, (cfg0.win 19).flush t = true ∧ i ∈ ((cfg0.win 19).blk t).view.set := by
  obtain ⟨R, l, rfl⟩ : ∃ (R : Fin 8192) (l : Fin 7680), i = (ix2 R l : S8192x7680.Idx) := ⟨i 0, i 1, eq_ix2 (n0 := 8192) (n1 := 7680) i⟩
  refine ⟨pt R, flush0_19 _, ?_⟩
  have h := (((cfg0.win 19).blk (pt R)).view).emb_mem_set (ix2 (rw' R) l : S256x7680.Idx)
  exact Eq.mp (congrArg (· ∈ ((cfg0.win 19).blk (pt R)).view.set) (emb19 (pt R) (rw' R) l R (pt_row R))) h

/-- The array of window 19 the kernel leaves. -/
theorem final19 (c : Dev nD) : (dats m 0 c).arrAt 19 cfg0.N = DP m c :=
  (dats m 0 c).arrAt_eq_of_cover 19 (DP m c) (fun t _ => written19 m c t) cov19

/-- Where window 21's block lies. -/
theorem emb21 (t : Fin cfg0.N) (r : Fin 256) (l : Fin 1024) (R : Fin 8192) (h : R.val = (31 - t.val) * 256 + r.val) :
    ((cfg0.win 21).blk t).view.emb (ix2 r l) = (ix2 R l : S8192x1024.Idx) := by
  obtain ⟨-, -, -, -, -, -, -, -, -, -, -, -, e0, e1, -⟩ := idx t
  have hb0 : (((cfg0.win 21).blk t).view.emb (ix2 r l) 0).val = win0_21.index t (0 : Fin 2) * 256 + 1 * r.val := rfl
  have hb1 : (((cfg0.win 21).blk t).view.emb (ix2 r l) 1).val = win0_21.index t (1 : Fin 2) * 1024 + 1 * l.val := rfl
  funext a; apply Fin.ext
  match a with
  | ⟨0, _⟩ => show (((cfg0.win 21).blk t).view.emb (ix2 r l) 0).val = R.val; rw [hb0, h, e0]; omega
  | ⟨1, _⟩ => show (((cfg0.win 21).blk t).view.emb (ix2 r l) 1).val = l.val; rw [hb1, e1]; omega

/-- Window 21's blocks are whole. -/
theorem xinj21 (t : Fin cfg0.N) (y : S256x1024.Idx) : (cfg0.win 21).xinj (grid0.coords t) y = y := by
  funext a; apply Fin.ext
  match a with
  | ⟨0, _⟩ => rfl
  | ⟨1, _⟩ => rfl

/-- What a point writes back of window 21. -/
theorem written21 (c : Dev nD) (t : Fin cfg0.N) :
    (dats m 0 c).flushed 21 t = ((cfg0.win 21).blk t).view.read (Elt Ideal) (MG (pA m c) (aA m c) (bA m c) (cA m c)) := by
  show (cfg0.win 21).cut (grid0.coords t) ((dats m 0 c).after 21 t) = _
  rw [after0_21]
  funext y
  obtain ⟨r, l, rfl⟩ : ∃ (r : Fin 256) (l : Fin 1024), y = (ix2 r l : S256x1024.Idx) := ⟨y 0, y 1, eq_ix2 (n0 := 256) (n1 := 1024) y⟩
  have ht := lt_of_lt_of_eq t.isLt N_0
  have hr := r.isLt
  show (outsAt0 m c t.val t.isLt).2.2.1 ((cfg0.win 21).xinj (grid0.coords t) (ix2 r l : S256x1024.Idx)) = (MG (pA m c) (aA m c) (bA m c) (cA m c)) (((cfg0.win 21).blk t).view.emb (ix2 r l : S256x1024.Idx))
  rw [emb21 t r l ⟨(31 - t.val) * 256 + r.val, by omega⟩ rfl, xinj21 t (ix2 r l)]
  exact mg_at m c t r l _ rfl

/-- Every element of window 21's array lies in the block of a point. -/
theorem cov21 (i : S8192x1024.Idx) : ∃ t : Fin cfg0.N, (cfg0.win 21).flush t = true ∧ i ∈ ((cfg0.win 21).blk t).view.set := by
  obtain ⟨R, l, rfl⟩ : ∃ (R : Fin 8192) (l : Fin 1024), i = (ix2 R l : S8192x1024.Idx) := ⟨i 0, i 1, eq_ix2 (n0 := 8192) (n1 := 1024) i⟩
  refine ⟨pt R, flush0_21 _, ?_⟩
  have h := (((cfg0.win 21).blk (pt R)).view).emb_mem_set (ix2 (rw' R) l : S256x1024.Idx)
  exact Eq.mp (congrArg (· ∈ ((cfg0.win 21).blk (pt R)).view.set) (emb21 (pt R) (rw' R) l R (pt_row R))) h

/-- The array of window 21 the kernel leaves. -/
theorem final21 (c : Dev nD) : (dats m 0 c).arrAt 21 cfg0.N = MG (pA m c) (aA m c) (bA m c) (cA m c) :=
  (dats m 0 c).arrAt_eq_of_cover 21 (MG (pA m c) (aA m c) (bA m c) (cA m c)) (fun t _ => written21 m c t) cov21

/-- Where window 22's block lies. -/
theorem emb22 (t : Fin cfg0.N) (r : Fin 256) (l : Fin 3072) (R : Fin 8192) (h : R.val = (31 - t.val) * 256 + r.val) :
    ((cfg0.win 22).blk t).view.emb (ix2 r l) = (ix2 R l : S8192x3072.Idx) := by
  obtain ⟨-, -, -, -, -, -, -, -, -, -, -, -, -, -, e0, e1, -⟩ := idx t
  have hb0 : (((cfg0.win 22).blk t).view.emb (ix2 r l) 0).val = win0_22.index t (0 : Fin 2) * 256 + 1 * r.val := rfl
  have hb1 : (((cfg0.win 22).blk t).view.emb (ix2 r l) 1).val = win0_22.index t (1 : Fin 2) * 3072 + 1 * l.val := rfl
  funext a; apply Fin.ext
  match a with
  | ⟨0, _⟩ => show (((cfg0.win 22).blk t).view.emb (ix2 r l) 0).val = R.val; rw [hb0, h, e0]; omega
  | ⟨1, _⟩ => show (((cfg0.win 22).blk t).view.emb (ix2 r l) 1).val = l.val; rw [hb1, e1]; omega

/-- Window 22's blocks are whole. -/
theorem xinj22 (t : Fin cfg0.N) (y : S256x3072.Idx) : (cfg0.win 22).xinj (grid0.coords t) y = y := by
  funext a; apply Fin.ext
  match a with
  | ⟨0, _⟩ => rfl
  | ⟨1, _⟩ => rfl

/-- What a point writes back of window 22. -/
theorem written22 (c : Dev nD) (t : Fin cfg0.N) :
    (dats m 0 c).flushed 22 t = ((cfg0.win 22).blk t).view.read (Elt Ideal) (DY (pA m c) (wA m c) (xA m c)) := by
  show (cfg0.win 22).cut (grid0.coords t) ((dats m 0 c).after 22 t) = _
  rw [after0_22]
  funext y
  obtain ⟨r, l, rfl⟩ : ∃ (r : Fin 256) (l : Fin 3072), y = (ix2 r l : S256x3072.Idx) := ⟨y 0, y 1, eq_ix2 (n0 := 256) (n1 := 3072) y⟩
  have ht := lt_of_lt_of_eq t.isLt N_0
  have hr := r.isLt
  show (outsAt0 m c t.val t.isLt).2.2.2.1 ((cfg0.win 22).xinj (grid0.coords t) (ix2 r l : S256x3072.Idx)) = (DY (pA m c) (wA m c) (xA m c)) (((cfg0.win 22).blk t).view.emb (ix2 r l : S256x3072.Idx))
  rw [emb22 t r l ⟨(31 - t.val) * 256 + r.val, by omega⟩ rfl, xinj22 t (ix2 r l)]
  exact dy_at m c t r l _ rfl

/-- Every element of window 22's array lies in the block of a point. -/
theorem cov22 (i : S8192x3072.Idx) : ∃ t : Fin cfg0.N, (cfg0.win 22).flush t = true ∧ i ∈ ((cfg0.win 22).blk t).view.set := by
  obtain ⟨R, l, rfl⟩ : ∃ (R : Fin 8192) (l : Fin 3072), i = (ix2 R l : S8192x3072.Idx) := ⟨i 0, i 1, eq_ix2 (n0 := 8192) (n1 := 3072) i⟩
  refine ⟨pt R, flush0_22 _, ?_⟩
  have h := (((cfg0.win 22).blk (pt R)).view).emb_mem_set (ix2 (rw' R) l : S256x3072.Idx)
  exact Eq.mp (congrArg (· ∈ ((cfg0.win 22).blk (pt R)).view.set) (emb22 (pt R) (rw' R) l R (pt_row R))) h

/-- The array of window 22 the kernel leaves. -/
theorem final22 (c : Dev nD) : (dats m 0 c).arrAt 22 cfg0.N = DY (pA m c) (wA m c) (xA m c) :=
  (dats m 0 c).arrAt_eq_of_cover 22 (DY (pA m c) (wA m c) (xA m c)) (fun t _ => written22 m c t) cov22

/-- The gates' columns of the projection's cotangent. -/
theorem DP_gates (c : Dev nD) (R : Fin 8192) (J : Fin 3072) :
    (DP m c (ix2 R (gc J)) : EReal) = gtAt (pA m c) (aA m c) (bA m c) (cA m c) (wA m c) (xA m c) R J :=
  gt_at m c (pt R) (rw' R) J R (pt_row R)

/-- The host's slice of it after the kernel. -/
theorem final136 (c : Dev nD) :
    (Pipeline.afterTail₀ cfgs (dats m) 0 (V0 m) [hostOps1] c main_v136 : FVec Ideal S8192x3072 .bf16)
      = GT (pA m c) (aA m c) (bA m c) (cA m c) (wA m c) (xA m c) := by
  have e : (Pipeline.afterTail₀ cfgs (dats m) 0 (V0 m) [hostOps1] c main_v136 : FVec Ideal S8192x3072 .bf16)
      = extractStridedSlice S8192x3072 ![0, 4608] (DP m c) slices_S8192x7680_S8192x3072_0_4608 := by
    unfold Pipeline.afterTail₀
    show StableHlo.after hostOps1 _ _ = _
    unfold hostOps1
    after_results
    exact congrArg (fun v : FVec Ideal S8192x7680 .bf16 => extractStridedSlice S8192x3072 ![0, 4608] v slices_S8192x7680_S8192x3072_0_4608)
      (((dats m 0 c).withArrays_arrAt sharedIn0 (V0 m c) (A_eq m c) 19).trans (final19 m c))
  rw [e]
  funext i
  obtain ⟨R, J, rfl⟩ : ∃ (R : Fin 8192) (J : Fin 3072), i = (ix2 R J : S8192x3072.Idx) := ⟨i 0, i 1, eq_ix2 (n0 := 8192) (n1 := 3072) i⟩
  refine (extractStridedSlice_apply ![0, 4608] (DP m c) slices_S8192x7680_S8192x3072_0_4608 (ix2 R J) (ix2 R (gc J)) (fun a => match a with
    | ⟨0, _⟩ => by show R.val = 0 + R.val; omega
    | ⟨1, _⟩ => rfl)).trans ?_
  exact DP_gates m c R J

end Cert.MixVal

end
-- ==== Proof.MixCb.lean ====
module

public import proofs.«01_k».proof.Proof.MixKer
public import proofs.«01_k».proof.Proof.Blocks

@[expose] public section

set_option maxRecDepth 16384

noncomputable section

namespace Cert.MixVal

open Cert.MixIdeal Cert.MixIdeal.Gen Cert.MixOpen Idealize.ShloMosaic Idealize.ShloMosaic.TcCoe Idealize.ShloMosaic.Tactic Idealize.SL.Sem

/-! ### The gradient of the short convolution's bias -/

/-- The column `o + l` of a row's block of 512. -/
abbrev col' (o : ℕ) (h : o + 512 ≤ 7680) (l : Fin 512) : Fin 7680 := ⟨o + l.val, by have := l.isLt; omega⟩

/-- The second branch's gated output's cotangent at a row and a column: the projected branch's cotangent against its weight. -/
def dbAt (p : FVec Ideal S8192x7680 .bf16) (wb : FVec Ideal S512x1024 .f32) (wo : FVec Ideal S1024x1024 .f32)
    (dx : FVec Ideal S8192x1024 .f32) (R : Fin 8192) (j : Fin 512) : EReal :=
  ∑ k : Fin 1024, dm dx wo R k * sg (p (ix2 R (col 5632 (by decide) k))) * (wb (ix2 j k) : EReal)

/-- The convolution's cotangent at a row and a column: through the branch's gate and the gate on the convolution's output. -/
def cbAt (p : FVec Ideal S8192x7680 .bf16) (wb : FVec Ideal S512x1024 .f32) (wo : FVec Ideal S1024x1024 .f32)
    (dx : FVec Ideal S8192x1024 .f32) (R : Fin 8192) (j : Fin 512) : EReal :=
  dbAt p wb wo dx R j * ((p (ix2 R (col' 3072 (by decide) j)) : EReal) * sg (p (ix2 R (col' 3072 (by decide) j))))
    * (p (ix2 R (col' 2048 (by decide) j)) : EReal)

/-- The bias's gradient: the convolution's cotangent summed over the rows. -/
def CB (p : FVec Ideal S8192x7680 .bf16) (wb : FVec Ideal S512x1024 .f32) (wo : FVec Ideal S1024x1024 .f32)
    (dx : FVec Ideal S8192x1024 .f32) : FVec Ideal S512 .f32 := fun i => ∑ R : Fin 8192, cbAt p wb wo dx R (i 0)

/-! ### One block's addend -/

/-- The columns of the gate on the convolution's output. -/
abbrev gB (p : Vec Ideal S256x7680 .bf16) : Vec Ideal S256x512 .bf16 :=
  View.ld (Val := Elt Ideal) (e' := .bf16) p (Rect.unit (s := S256x7680) ![0, 2048] ![256, 512] inb_S256x7680_S256x512_0_2048)
/-- The columns of the branch's own gate. -/
abbrev zB (p : Vec Ideal S256x7680 .bf16) : Vec Ideal S256x512 .bf16 :=
  View.ld (Val := Elt Ideal) (e' := .bf16) p (Rect.unit (s := S256x7680) ![0, 3072] ![256, 512] inb_S256x7680_S256x512_0_3072)

theorem gB_apply (p : Vec Ideal S256x7680 .bf16) (r : Fin 256) (l : Fin 512) :
    (gB p (ix2 r l) : EReal) = p (ix2 r (col' 2048 (by decide) l)) := by
  show p _ = p _
  congr 1
  funext a; apply Fin.ext
  match a with
  | ⟨0, _⟩ => show 0 + 1 * r.val = r.val; omega
  | ⟨1, _⟩ => show 2048 + 1 * l.val = 2048 + l.val; omega

theorem zB_apply (p : Vec Ideal S256x7680 .bf16) (r : Fin 256) (l : Fin 512) :
    (zB p (ix2 r l) : EReal) = p (ix2 r (col' 3072 (by decide) l)) := by
  show p _ = p _
  congr 1
  funext a; apply Fin.ext
  match a with
  | ⟨0, _⟩ => show 0 + 1 * r.val = r.val; omega
  | ⟨1, _⟩ => show 3072 + 1 * l.val = 3072 + l.val; omega

/-- The branch's gate's sigmoid. -/
theorem sz_apply (v : FVec Ideal S256x512 .f32) (r : Fin 256) (l : Fin 512) :
    (k0_pay56 (F := Ideal) (k0_pay55 (F := Ideal) v) (ix2 r l) : EReal) = sg (v (ix2 r l)) := by
  show Ideal.div (Ideal.ofBits .f32 0x3F800000#32) (Ideal.ofBits .f32 0x3F800000#32 + Ideal.exp (Ideal.ofBits .f32 0x00000000#32 - (v (ix2 r l) : EReal))) = _
  rw [Ideal.ofBits_one_f32, Ideal.ofBits_zero_f32, sub_eq_add_neg, zero_add]
  rfl

/-- The product against the branch's weight, at an index. -/
theorem db_apply (a b : FVec Ideal S256x1024 .bf16) (w : FVec Ideal S512x1024 .bf16) (r : Fin 256) (j : Fin 512) :
    (k0_pay92 (F := Ideal) a b w (ix2 r j) : EReal) = ∑ k : Fin 1024, (a (ix2 r k) : EReal) * (b (ix2 r k) : EReal) * (w (ix2 j k) : EReal) := by
  pointwise [k0_pay92, k0_pay89]

/-- The row the block stores: what it loads, and the convolution's cotangent summed over the block's rows. -/
theorem row_apply (g z s d : FVec Ideal S256x512 .f32) (v : Vec Ideal S1x512 .f32) (l : Fin 512) :
    (k0_pay128 (F := Ideal) g z s d v (ix2 0 l : S1x512.Idx) : EReal)
      = (v (ix2 0 l : S1x512.Idx) : EReal) + ∑ r : Fin 256, (d (ix2 r l) : EReal) * ((z (ix2 r l) : EReal) * (s (ix2 r l) : EReal)) * (g (ix2 r l) : EReal) := by
  pointwise [k0_pay128, k0_pay127, k0_pay124]

/-- One block's addend at a column. -/
def addB (p : Vec Ideal S256x7680 .bf16) (dx : FVec Ideal S256x1024 .f32) (wo : FVec Ideal S1024x1024 .bf16) (wb : FVec Ideal S512x1024 .bf16)
    (l : Fin 512) : EReal :=
  ∑ r : Fin 256, (∑ k : Fin 1024, (∑ q : Fin 1024, (dx (ix2 r q) : EReal) * (wo (ix2 k q) : EReal)) * sg (p (ix2 r (col 5632 (by decide) k))) * (wb (ix2 l k) : EReal))
    * ((p (ix2 r (col' 3072 (by decide) l)) : EReal) * sg (p (ix2 r (col' 3072 (by decide) l)))) * (p (ix2 r (col' 2048 (by decide) l)) : EReal)

/-- The row a block stores. -/
abbrev rowB (p : Vec Ideal S256x7680 .bf16) (dx : FVec Ideal S256x1024 .f32) (wo : FVec Ideal S1024x1024 .bf16) (wb : FVec Ideal S512x1024 .bf16)
    (v : Vec Ideal S1x512 .f32) : FVec Ideal S1x512 .f32 :=
  k0_pay128 (F := Ideal) (k0_pay20 (F := Ideal) (gB p)) (k0_pay22 (F := Ideal) (zB p)) (k0_pay56 (F := Ideal) (k0_pay55 (F := Ideal) (k0_pay22 (F := Ideal) (zB p))))
    (k0_pay92 (F := Ideal) (dmB dx wo) (k0_pay81 (F := Ideal) (q1 p)) wb) v

theorem rowB_apply (p : Vec Ideal S256x7680 .bf16) (dx : FVec Ideal S256x1024 .f32) (wo : FVec Ideal S1024x1024 .bf16) (wb : FVec Ideal S512x1024 .bf16)
    (v : Vec Ideal S1x512 .f32) (l : Fin 512) :
    (rowB p dx wo wb v (ix2 0 l : S1x512.Idx) : EReal) = (v (ix2 0 l : S1x512.Idx) : EReal) + addB p dx wo wb l := by
  refine (row_apply _ _ _ _ v l).trans ?_
  unfold addB
  refine congrArg ((v (ix2 0 l : S1x512.Idx) : EReal) + ·) (Finset.sum_congr rfl fun r _ => ?_)
  rw [sz_apply, db_apply]
  show (∑ k : Fin 1024, (dmB dx wo (ix2 r k) : EReal) * (k0_pay81 (F := Ideal) (q1 p) (ix2 r k) : EReal) * (wb (ix2 l k) : EReal))
      * ((zB p (ix2 r l) : EReal) * sg (zB p (ix2 r l))) * (gB p (ix2 r l) : EReal) = _
  rw [zB_apply, gB_apply]
  refine congrArg (· * _ * _) (Finset.sum_congr rfl fun k _ => ?_)
  rw [dmB_apply, s1_apply, q1_apply]

/-! ### Reading the row back -/

abbrev R2 : Rect S8x512 := Rect.unit (s := S8x512) ![2, 0] S1x512.size inb_S8x512_S1x512_2_0

/-- The rows stored after it. -/
abbrev laterRects : List (Rect S8x512) :=
  [Rect.unit (s := S8x512) ![3, 0] S1x512.size inb_S8x512_S1x512_3_0,
   Rect.unit (s := S8x512) ![6, 0] S1x512.size inb_S8x512_S1x512_6_0,
   Rect.unit (s := S8x512) ![5, 0] S1x512.size inb_S8x512_S1x512_5_0,
   Rect.unit (s := S8x512) ![4, 0] S1x512.size inb_S8x512_S1x512_4_0]

theorem row2_emb (l : Fin 512) : (ix2 2 l : S8x512.Idx) = R2.emb (ix2 0 l : S1x512.Idx) := by
  funext a; apply Fin.ext
  match a with
  | ⟨0, _⟩ => rfl
  | ⟨1, _⟩ => show l.val = 0 + 1 * l.val; omega

theorem later_not (l : Fin 512) : ∀ R ∈ laterRects, (ix2 2 l : S8x512.Idx) ∉ R.set := by
  intro R hR
  simp only [List.mem_cons, List.not_mem_nil, or_false] at hR
  rcases hR with rfl | rfl | rfl | rfl <;>
  · rw [Rect.mem_set_unit]
    intro hh
    have h1 := (hh (0 : Fin 2)).1
    have h3 : _ ≤ 2 := h1
    simp at h3

/-- What the stores leave in row 2. -/
theorem canon26 (Q : List (View.Piece (Elt Ideal) S8x512 .f32)) (w : FVec Ideal S1x512 .f32)
    (h1 : (Q.drop 4).take 1 = [⟨R2, w⟩]) (h2 : (Q.take 4).map (fun pc => pc.1) = laterRects) (l : Fin 512) :
    (∃ pc ∈ Q, (ix2 2 l : S8x512.Idx) ∈ pc.1.set) ∧ View.canon (Val := Elt Ideal) Q (ix2 2 l : S8x512.Idx) = w (ix2 0 l : S1x512.Idx) := by
  have e : Q = Q.take 4 ++ (⟨R2, w⟩ :: (Q.drop 4).drop 1) := by
    conv_lhs => rw [← List.take_append_drop 4 Q, ← List.take_append_drop 1 (Q.drop 4), h1]
    rfl
  constructor
  · refine ⟨⟨R2, w⟩, ?_, ?_⟩
    · rw [e]; exact List.mem_append_right _ (List.mem_cons_self ..)
    · show (ix2 2 l : S8x512.Idx) ∈ R2.set
      rw [Rect.mem_set_unit]
      intro a
      match a with
      | ⟨0, _⟩ => exact ⟨le_refl 2, by show 2 < 2 + 1; decide⟩
      | ⟨1, _⟩ => exact ⟨Nat.zero_le _, by show l.val < 0 + 512; have := l.isLt; omega⟩
  · rw [e]
    refine (canon_skip _ _ _ fun pc hpc => later_not l _ ?_).trans ?_
    · rw [← h2]; exact List.mem_map_of_mem hpc
    · rw [row2_emb]
      exact View.canon_cons_emb (Val := Elt Ideal) (e := EltTy.f32) R2 w _ (ix2 0 l : S1x512.Idx)

end Cert.MixVal

end
-- ==== Proof.MixRow.lean ====
module

public import proofs.«01_k».proof.Proof.MixCb

@[expose] public section

set_option maxRecDepth 16384

noncomputable section

namespace Cert.MixVal

open Cert.MixIdeal Cert.MixIdeal.Gen Cert.MixOpen Idealize.ShloMosaic Idealize.ShloMosaic.TcCoe Idealize.ShloMosaic.Tactic Idealize.SL.Sem

variable (m : (ℓ : Loc nD τ sig) → Buf (Elt Ideal) ℓ)

/-- The block of the output gate's weight a point reads, as an array, and the projection's. -/
abbrev wbB (c : Dev nD) (t : Fin cfg0.N) : FVec Ideal S512x1024 .bf16 := iblk m c 16 t
abbrev pB (c : Dev nD) (t : Fin cfg0.N) : Vec Ideal S256x7680 .bf16 := iblk m c 0 t

/-! ### The row as each case stores it -/

/-- The cleared buffer's row 2, read after the stores into rows 0 and 1. -/
theorem cleared (v : View sig .tc .vmem S8x512 .f32) (w1 w0 : FVec Ideal S1x512 .f32) (l : Fin 512) :
    (v.readCov (Val := Elt Ideal)
      [⟨Rect.unit (s := S8x512) ![1, 0] ![1, 512] inb_S8x512_S1x512_1_0, w1⟩, ⟨Rect.unit (s := S8x512) ![0, 0] ![1, 512] inb_S8x512_S1x512_0_0, w0⟩,
        ⟨Rect.unit (s := S8x512) ![0, 0] ![8, 512] inb_S8x512_S8x512_0_0, k0_pay11 (F := Ideal)⟩]
      (Rect.unit (s := S8x512) ![2, 0] ![1, 512] inb_S8x512_S1x512_2_0).toLoadRect (ix2 0 l : S1x512.Idx) : EReal) = 0 := by
  rw [View.readCov_eq_canon']
  show (View.canon (Val := Elt Ideal) (e := EltTy.f32) _ (R2.emb (ix2 0 l : S1x512.Idx)) : Elt Ideal EltTy.f32) = (0 : EReal)
  rw [← row2_emb]
  refine (View.canon_cons_of_not_mem (Val := Elt Ideal) _ _ ?_).trans ((View.canon_cons_of_not_mem (Val := Elt Ideal) _ _ ?_).trans ?_)
  · show (ix2 2 l : S8x512.Idx) ∉ (Rect.unit (s := S8x512) ![1, 0] ![1, 512] inb_S8x512_S1x512_1_0).set
    rw [Rect.mem_set_unit]
    intro hh
    exact absurd (show 2 < 1 + 1 from (hh (0 : Fin 2)).2) (by decide)
  · show (ix2 2 l : S8x512.Idx) ∉ (Rect.unit (s := S8x512) ![0, 0] ![1, 512] inb_S8x512_S1x512_0_0).set
    rw [Rect.mem_set_unit]
    intro hh
    exact absurd (show 2 < 0 + 1 from (hh (0 : Fin 2)).2) (by decide)
  · rw [View.canon_unit_zero hz]
    exact Ideal.ofBits_zero_f32

/-- Case A: the row as stored, over the buffer just cleared. -/
theorem e26_A (c : Dev nD) (t : Fin cfg0.N) (hc0 : cond0_0 (grid0.coords t)) (hc1 : ¬cond0_1 (grid0.coords t)) :
    ∃ v : Vec Ideal S1x512 .f32, ((runA m c t hc0 hc1).2.2.2.2.2.2.2.1.drop 4).take 1
      = [⟨R2, rowB (pB m c t) (dxB m c t) (woB m c t) (wbB m c t) v⟩] ∧ ∀ l : Fin 512, (v (ix2 0 l : S1x512.Idx) : EReal) = 0 := by
  unfold runA kernelRun0_A
  dsimp only [List.drop, List.take]
  sl_unfold_words
  simp only [View.readAt_eq_ld, (hs0_0 t).read_unread, (hs0_4 t).read_unread, (hs0_16 t).read_unread, (hs0_18 t).read_unread, View.ld_unit_zero (S := S256x1024) hz, View.ld_unit_zero (S := S1024x1024) hz, View.ld_unit_zero (S := S512x1024) hz]
  refine ⟨_, rfl, fun l => ?_⟩
  exact cleared _ _ _ l

/-- Case A: the rows stored after it. -/
theorem r26_A (c : Dev nD) (t : Fin cfg0.N) (hc0 : cond0_0 (grid0.coords t)) (hc1 : ¬cond0_1 (grid0.coords t)) :
    ((runA m c t hc0 hc1).2.2.2.2.2.2.2.1.take 4).map (fun pc => pc.1) = laterRects := by
  unfold runA kernelRun0_A
  rfl

/-- Case A: what the point leaves in row 2. -/
theorem o26_A (c : Dev nD) (t : Fin cfg0.N) (hc0 : cond0_0 (grid0.coords t)) (hc1 : ¬cond0_1 (grid0.coords t)) (l : Fin 512) :
    (out0_A_26 m c t hc0 hc1 (ix2 2 l : S8x512.Idx) : EReal) = addB (pB m c t) (dxB m c t) (woB m c t) (wbB m c t) l := by
  obtain ⟨v, h1, h0⟩ := e26_A m c t hc0 hc1
  obtain ⟨h2, h3⟩ := canon26 _ _ h1 (r26_A m c t hc0 hc1) l
  unfold out0_A_26
  refine (View.read_writes_apply_eq_canon (Val := Elt Ideal) _ _ _ _ h2).trans (h3.trans ?_)
  rw [rowB_apply, h0, zero_add]

/-- Case B: the row as stored, over the one the previous point left. -/
theorem e26_B (c : Dev nD) (t : Fin cfg0.N) (hc0 : ¬cond0_0 (grid0.coords t)) (hc1 : ¬cond0_1 (grid0.coords t)) (xo23 : Vec Ideal S1024x128 .f32) (xo25 : Vec Ideal S512x128 .f32) (xo26 : Vec Ideal S8x512 .f32) (xs2 : Vec Ideal S16x512 .f32) (xs3 : Vec Ideal S16x512 .bf16) (xs4 : Vec Ideal S128x512 .f32) :
    ((runB m c t hc0 hc1 xo23 xo25 xo26 xs2 xs3 xs4).2.2.2.2.2.2.2.1.drop 4).take 1
      = [⟨R2, rowB (pB m c t) (dxB m c t) (woB m c t) (wbB m c t) (View.ld (Val := Elt Ideal) (e' := .f32) xo26 R2)⟩] := by
  unfold runB kernelRun0_B
  dsimp only [List.drop, List.take]
  sl_unfold_words
  simp only [View.readAt_eq_ld, (hs0_0 t).read_unread, (hs0_4 t).read_unread, (hs0_16 t).read_unread, (hs0_18 t).read_unread, View.ld_unit_zero (S := S256x1024) hz, View.ld_unit_zero (S := S1024x1024) hz, View.ld_unit_zero (S := S512x1024) hz, (hs0_26 t).read_unread]

/-- Case B: the rows stored after it. -/
theorem r26_B (c : Dev nD) (t : Fin cfg0.N) (hc0 : ¬cond0_0 (grid0.coords t)) (hc1 : ¬cond0_1 (grid0.coords t)) (xo23 : Vec Ideal S1024x128 .f32) (xo25 : Vec Ideal S512x128 .f32) (xo26 : Vec Ideal S8x512 .f32) (xs2 : Vec Ideal S16x512 .f32) (xs3 : Vec Ideal S16x512 .bf16) (xs4 : Vec Ideal S128x512 .f32) :
    ((runB m c t hc0 hc1 xo23 xo25 xo26 xs2 xs3 xs4).2.2.2.2.2.2.2.1.take 4).map (fun pc => pc.1) = laterRects := by
  unfold runB kernelRun0_B
  rfl

/-- Case B: what the point leaves in row 2. -/
theorem o26_B (c : Dev nD) (t : Fin cfg0.N) (hc0 : ¬cond0_0 (grid0.coords t)) (hc1 : ¬cond0_1 (grid0.coords t)) (xo23 : Vec Ideal S1024x128 .f32) (xo25 : Vec Ideal S512x128 .f32) (xo26 : Vec Ideal S8x512 .f32) (xs2 : Vec Ideal S16x512 .f32) (xs3 : Vec Ideal S16x512 .bf16) (xs4 : Vec Ideal S128x512 .f32) (l : Fin 512) :
    (out0_B_26 m c t hc0 hc1 xo23 xo25 xo26 xs2 xs3 xs4 (ix2 2 l : S8x512.Idx) : EReal)
      = (xo26 (ix2 2 l : S8x512.Idx) : EReal) + addB (pB m c t) (dxB m c t) (woB m c t) (wbB m c t) l := by
  obtain ⟨h2, h3⟩ := canon26 _ _ (e26_B m c t hc0 hc1 xo23 xo25 xo26 xs2 xs3 xs4) (r26_B m c t hc0 hc1 xo23 xo25 xo26 xs2 xs3 xs4) l
  unfold out0_B_26
  refine (View.read_writes_apply_eq_canon (Val := Elt Ideal) _ _ _ _ h2).trans (h3.trans ?_)
  rw [rowB_apply, row2_emb]
  rfl

/-- Case C: the row as stored, over the one the previous point left. -/
theorem e26_C (c : Dev nD) (t : Fin cfg0.N) (hc0 : ¬cond0_0 (grid0.coords t)) (hc1 : cond0_1 (grid0.coords t)) (xo23 : Vec Ideal S1024x128 .f32) (xo25 : Vec Ideal S512x128 .f32) (xo26 : Vec Ideal S8x512 .f32) (xs2 : Vec Ideal S16x512 .f32) (xs3 : Vec Ideal S16x512 .bf16) (xs4 : Vec Ideal S128x512 .f32) :
    ((runC m c t hc0 hc1 xo23 xo25 xo26 xs2 xs3 xs4).2.2.2.2.2.2.2.1.drop 4).take 1
      = [⟨R2, rowB (pB m c t) (dxB m c t) (woB m c t) (wbB m c t) (View.ld (Val := Elt Ideal) (e' := .f32) xo26 R2)⟩] := by
  unfold runC kernelRun0_C
  dsimp only [List.drop, List.take]
  sl_unfold_words
  simp only [View.readAt_eq_ld, (hs0_0 t).read_unread, (hs0_4 t).read_unread, (hs0_16 t).read_unread, (hs0_18 t).read_unread, View.ld_unit_zero (S := S256x1024) hz, View.ld_unit_zero (S := S1024x1024) hz, View.ld_unit_zero (S := S512x1024) hz, (hs0_26 t).read_unread]

/-- Case C: the rows stored after it. -/
theorem r26_C (c : Dev nD) (t : Fin cfg0.N) (hc0 : ¬cond0_0 (grid0.coords t)) (hc1 : cond0_1 (grid0.coords t)) (xo23 : Vec Ideal S1024x128 .f32) (xo25 : Vec Ideal S512x128 .f32) (xo26 : Vec Ideal S8x512 .f32) (xs2 : Vec Ideal S16x512 .f32) (xs3 : Vec Ideal S16x512 .bf16) (xs4 : Vec Ideal S128x512 .f32) :
    ((runC m c t hc0 hc1 xo23 xo25 xo26 xs2 xs3 xs4).2.2.2.2.2.2.2.1.take 4).map (fun pc => pc.1) = laterRects := by
  unfold runC kernelRun0_C
  rfl

/-- Case C: what the point leaves in row 2. -/
theorem o26_C (c : Dev nD) (t : Fin cfg0.N) (hc0 : ¬cond0_0 (grid0.coords t)) (hc1 : cond0_1 (grid0.coords t)) (xo23 : Vec Ideal S1024x128 .f32) (xo25 : Vec Ideal S512x128 .f32) (xo26 : Vec Ideal S8x512 .f32) (xs2 : Vec Ideal S16x512 .f32) (xs3 : Vec Ideal S16x512 .bf16) (xs4 : Vec Ideal S128x512 .f32) (l : Fin 512) :
    (out0_C_26 m c t hc0 hc1 xo23 xo25 xo26 xs2 xs3 xs4 (ix2 2 l : S8x512.Idx) : EReal)
      = (xo26 (ix2 2 l : S8x512.Idx) : EReal) + addB (pB m c t) (dxB m c t) (woB m c t) (wbB m c t) l := by
  obtain ⟨h2, h3⟩ := canon26 _ _ (e26_C m c t hc0 hc1 xo23 xo25 xo26 xs2 xs3 xs4) (r26_C m c t hc0 hc1 xo23 xo25 xo26 xs2 xs3 xs4) l
  unfold out0_C_26
  refine (View.read_writes_apply_eq_canon (Val := Elt Ideal) _ _ _ _ h2).trans (h3.trans ?_)
  rw [rowB_apply, row2_emb]
  rfl

theorem at26_A (c : Dev nD) (t : Fin cfg0.N) (h0 : t.val % 32 = 0) (h1 : ¬t.val % 32 = 31) :
    (outsAt0 m c t.val t.isLt).2.2.2.2.2.2.2.1 = out0_A_26 m c t (cA0 t h0) (cB1 t h1) := by
  rw [outsAt0_A m c t h0 h1]

theorem at26_B (c : Dev nD) (t : Fin cfg0.N) (h0 : ¬t.val % 32 = 0) (h1 : ¬t.val % 32 = 31) :
    ∃ (xo23 : Vec Ideal S1024x128 .f32) (xo25 : Vec Ideal S512x128 .f32) (xs2 : Vec Ideal S16x512 .f32) (xs3 : Vec Ideal S16x512 .bf16) (xs4 : Vec Ideal S128x512 .f32),
      (outsAt0 m c t.val t.isLt).2.2.2.2.2.2.2.1 = out0_B_26 m c t (cB0 t h0) (cB1 t h1) xo23 xo25
        (outsAt0 m c (t.val - 1) (Nat.lt_of_le_of_lt (Nat.sub_le _ _) t.isLt)).2.2.2.2.2.2.2.1 xs2 xs3 xs4 := by
  have e := outsAt0_B m c t h0 h1
  generalize outsAt0 m c (t.val - 1) (Nat.lt_of_le_of_lt (Nat.sub_le _ _) t.isLt) = P at e ⊢
  rw [e]
  refine ⟨P.2.2.2.2.1, P.2.2.2.2.2.2.1, P.2.2.2.2.2.2.2.2.1, P.2.2.2.2.2.2.2.2.2.1, P.2.2.2.2.2.2.2.2.2.2, ?_⟩
  with_reducible rfl

theorem at26_C (c : Dev nD) (t : Fin cfg0.N) (h0 : ¬t.val % 32 = 0) (h1 : t.val % 32 = 31) :
    ∃ (xo23 : Vec Ideal S1024x128 .f32) (xo25 : Vec Ideal S512x128 .f32) (xs2 : Vec Ideal S16x512 .f32) (xs3 : Vec Ideal S16x512 .bf16) (xs4 : Vec Ideal S128x512 .f32),
      (outsAt0 m c t.val t.isLt).2.2.2.2.2.2.2.1 = out0_C_26 m c t (cB0 t h0) (cA1 t h1) xo23 xo25
        (outsAt0 m c (t.val - 1) (Nat.lt_of_le_of_lt (Nat.sub_le _ _) t.isLt)).2.2.2.2.2.2.2.1 xs2 xs3 xs4 := by
  have e := outsAt0_C m c t h0 h1
  generalize outsAt0 m c (t.val - 1) (Nat.lt_of_le_of_lt (Nat.sub_le _ _) t.isLt) = P at e ⊢
  rw [e]
  refine ⟨P.2.2.2.2.1, P.2.2.2.2.2.2.1, P.2.2.2.2.2.2.2.2.1, P.2.2.2.2.2.2.2.2.2.1, P.2.2.2.2.2.2.2.2.2.2, ?_⟩
  with_reducible rfl

/-! ### The row after the last point -/

/-- The projected branch's weight. -/
abbrev wbA (c : Dev nD) : FVec Ideal S512x1024 .f32 := m ((c : Thread nD τ).loc main_arg13)

/-- The host's cast of it. -/
theorem V10 (c : Dev nD) : (V m c main_v10 : FVec Ideal S512x1024 .bf16) = truncf .bf16 (wbA m c) bitsLt_bf16_f32 := by
  show StableHlo.after (List.flatten [hostOps0, hostOps0_1, hostOps0_2, hostOps0_3, hostOps0_4]) _ _ = _
  unfold hostOps0 hostOps0_1 hostOps0_2 hostOps0_3 hostOps0_4
  simp only [List.flatten_cons, List.flatten_nil, List.append_nil, List.cons_append, List.nil_append]
  after_results

/-- The weight and the vectors' buffer are one block each. -/
theorem idx26 : ∀ t : Fin cfg0.N, win0_16.index t (0 : Fin 2) = 0 ∧ win0_16.index t (1 : Fin 2) = 0
    ∧ win0_26.index t (0 : Fin 2) = 0 ∧ win0_26.index t (1 : Fin 2) = 0 :=
  (by decide +kernel : ∀ t : Fin grid0.N, _)

/-- The weight a point reads, at an index. -/
theorem blk16 (c : Dev nD) (t : Fin cfg0.N) (l : Fin 512) (k : Fin 1024) :
    ((iblk m c 16 t : FVec Ideal S512x1024 .bf16) (ix2 l k) : EReal) = wbA m c (ix2 l k) := by
  obtain ⟨e0, e1, -⟩ := idx26 t
  have hb0 : (((cfg0.win 16).blk t).view.emb (ix2 l k) 0).val = win0_16.index t (0 : Fin 2) * 512 + 1 * l.val := rfl
  have hb1 : (((cfg0.win 16).blk t).view.emb (ix2 l k) 1).val = win0_16.index t (1 : Fin 2) * 1024 + 1 * k.val := rfl
  show (V m c main_v10 : FVec Ideal S512x1024 .bf16) (((cfg0.win 16).blk t).view.emb (ix2 l k)) = _
  rw [V10]
  show wbA m c _ = wbA m c _
  congr 1
  funext a; apply Fin.ext
  match a with
  | ⟨0, _⟩ => show (((cfg0.win 16).blk t).view.emb (ix2 l k) 0).val = l.val; rw [hb0, e0]; omega
  | ⟨1, _⟩ => show (((cfg0.win 16).blk t).view.emb (ix2 l k) 1).val = k.val; rw [hb1, e1]; omega

/-- One row's addend is the convolution's cotangent at that row. -/
theorem cb_blk (c : Dev nD) (t : Fin cfg0.N) (r : Fin 256) (l : Fin 512) (R : Fin 8192) (h : R.val = (31 - t.val) * 256 + r.val) :
    (∑ k : Fin 1024, (∑ q : Fin 1024, (dxB m c t (ix2 r q) : EReal) * (woB m c t (ix2 k q) : EReal)) * sg (pB m c t (ix2 r (col 5632 (by decide) k)))
        * (wbB m c t (ix2 l k) : EReal))
      * ((pB m c t (ix2 r (col' 3072 (by decide) l)) : EReal) * sg (pB m c t (ix2 r (col' 3072 (by decide) l)))) * (pB m c t (ix2 r (col' 2048 (by decide) l)) : EReal)
      = cbAt (pA m c) (wbA m c) (wA m c) (xA m c) R l := by
  have e1 := blk0 m c t r (col' 3072 (by decide) l) R h
  exact congrArg₂ (· * ·) (congrArg₂ (· * ·)
    (Finset.sum_congr rfl fun k _ => congrArg₂ (· * ·) (congrArg₂ (· * ·) (dm_blk m c t r k R h)
      (congrArg sg (blk0 m c t r (col 5632 (by decide) k) R h))) (blk16 m c t l k))
    (congrArg₂ (· * ·) e1 (congrArg sg e1))) (blk0 m c t r (col' 2048 (by decide) l) R h)

/-- One block's addend, by the point's number. -/
def M26 (c : Dev nD) (n : ℕ) (l : Fin 512) : EReal :=
  if h : n < cfg0.N then addB (pB m c ⟨n, h⟩) (dxB m c ⟨n, h⟩) (woB m c ⟨n, h⟩) (wbB m c ⟨n, h⟩) l else 0

/-- Row 2 of the vectors' buffer after a point. -/
def f26 (c : Dev nD) (n : ℕ) (h : n < cfg0.N) (l : Fin 512) : EReal := (outsAt0 m c n h).2.2.2.2.2.2.2.1 (ix2 2 l : S8x512.Idx)

theorem f26_zero (c : Dev nD) (h : 0 < cfg0.N) (l : Fin 512) : f26 m c 0 h l = M26 m c 0 l := by
  unfold f26 M26
  rw [dif_pos h]
  refine (congrFun (at26_A m c ⟨0, h⟩ (Nat.zero_mod _) (by show ¬0 % 32 = 31; decide)) _).trans ?_
  exact o26_A m c ⟨0, h⟩ _ _ l

theorem f26_succ (c : Dev nD) (n : ℕ) (h : n + 1 < cfg0.N) (l : Fin 512) :
    f26 m c (n + 1) h l = f26 m c n (Nat.lt_of_succ_lt h) l + M26 m c (n + 1) l := by
  have hN := lt_of_lt_of_eq h N_0
  have h0 : ¬(⟨n + 1, h⟩ : Fin cfg0.N).val % 32 = 0 := by dsimp only; omega
  unfold f26 M26
  rw [dif_pos h]
  by_cases h1 : (⟨n + 1, h⟩ : Fin cfg0.N).val % 32 = 31
  · obtain ⟨xo23, xo25, xs2, xs3, xs4, e⟩ := at26_C m c ⟨n + 1, h⟩ h0 h1
    exact (congrFun e _).trans (o26_C m c ⟨n + 1, h⟩ _ _ xo23 xo25 _ xs2 xs3 xs4 l)
  · obtain ⟨xo23, xo25, xs2, xs3, xs4, e⟩ := at26_B m c ⟨n + 1, h⟩ h0 h1
    exact (congrFun e _).trans (o26_B m c ⟨n + 1, h⟩ _ _ xo23 xo25 _ xs2 xs3 xs4 l)

theorem f26_last (c : Dev nD) (h : 31 < cfg0.N) (l : Fin 512) :
    f26 m c 31 h l = ∑ R : Fin 8192, cbAt (pA m c) (wbA m c) (wA m c) (xA m c) R l := by
  rw [Blocks.acc_eq (f26 m c) (M26 m c) (f26_zero m c) (f26_succ m c) 31 h l]
  have e : ∀ s ∈ Finset.range 32, M26 m c (32 - 1 - s) l
      = ∑ k : Fin 256, (if h : s * 256 + k.val < 8192 then
          cbAt (pA m c) (wbA m c) (wA m c) (xA m c) ⟨s * 256 + k.val, h⟩ l else (0 : EReal)) := fun s hs => by
    have hs' : s < 32 := Finset.mem_range.1 hs
    have hn : 32 - 1 - s < cfg0.N := lt_of_lt_of_eq (by omega : 32 - 1 - s < 32) N_0.symm
    unfold M26
    rw [dif_pos hn]
    unfold addB
    refine Finset.sum_congr rfl fun k _ => ?_
    have hk := k.isLt
    have hlt : s * 256 + k.val < 8192 := by omega
    rw [dif_pos hlt]
    exact cb_blk m c ⟨32 - 1 - s, hn⟩ k l ⟨s * 256 + k.val, hlt⟩ (by
      show s * 256 + k.val = (31 - (32 - 1 - s)) * 256 + k.val
      rw [show 31 - (32 - 1 - s) = s by omega])
  refine (Finset.sum_range_reflect (fun s => M26 m c s l) 32).symm.trans ?_
  refine (Finset.sum_congr rfl e).trans ?_
  exact Blocks.sum_blocks (S := 32) (K := 256) (N := 8192) rfl _ _ (fun s _ k h => dif_pos h)

/-! ### The array the kernel leaves and the host's slice of it -/

def t31 : Fin cfg0.N := ⟨31, lt_of_lt_of_eq (by decide : 31 < 32) N_0.symm⟩
theorem t31_mod : t31.val % 32 = 31 := by show 31 % 32 = 31; rfl

/-- The vectors' buffer as the last point leaves it. -/
def GV (c : Dev nD) : FVec Ideal S8x512 .f32 := (outsAt0 m c t31.val t31.isLt).2.2.2.2.2.2.2.1

theorem emb26 (t : Fin cfg0.N) (y : S8x512.Idx) : ((cfg0.win 26).blk t).view.emb y = y := by
  obtain ⟨-, -, e0, e1⟩ := idx26 t
  have hb0 : (((cfg0.win 26).blk t).view.emb y 0).val = win0_26.index t (0 : Fin 2) * 8 + 1 * (y 0).val := rfl
  have hb1 : (((cfg0.win 26).blk t).view.emb y 1).val = win0_26.index t (1 : Fin 2) * 512 + 1 * (y 1).val := rfl
  funext a; apply Fin.ext
  match a with
  | ⟨0, _⟩ => show (((cfg0.win 26).blk t).view.emb y 0).val = (y 0).val; rw [hb0, e0]; omega
  | ⟨1, _⟩ => show (((cfg0.win 26).blk t).view.emb y 1).val = (y 1).val; rw [hb1, e1]; omega

theorem xinj26 (t : Fin cfg0.N) (y : S8x512.Idx) : (cfg0.win 26).xinj (grid0.coords t) y = y := by
  funext a; apply Fin.ext
  match a with
  | ⟨0, _⟩ => rfl
  | ⟨1, _⟩ => rfl

theorem written26 (c : Dev nD) (t : Fin cfg0.N) (ht : t = t31) :
    (dats m 0 c).flushed 26 t = ((cfg0.win 26).blk t).view.read (Elt Ideal) (GV m c) := by
  show (cfg0.win 26).cut (grid0.coords t) ((dats m 0 c).after 26 t) = _
  rw [after0_26]
  funext y
  show (outsAt0 m c t.val t.isLt).2.2.2.2.2.2.2.1 ((cfg0.win 26).xinj (grid0.coords t) y) = GV m c (((cfg0.win 26).blk t).view.emb y)
  rw [emb26 t y, xinj26 t y, ht]
  rfl

/-- The array of the vectors the kernel leaves. -/
theorem final26 (c : Dev nD) : (dats m 0 c).arrAt 26 cfg0.N = GV m c :=
  (dats m 0 c).arrAt_eq_of_cover 26 (GV m c)
    (fun t hf => written26 m c t (Fin.ext (by
      have h1 := (flush0_26 t).mp hf; have h2 := lt_of_lt_of_eq t.isLt N_0; show t.val = 31; omega)))
    (fun i => ⟨t31, (flush0_26 t31).mpr t31_mod, by
      have h := (((cfg0.win 26).blk t31).view).emb_mem_set i
      rwa [emb26 t31 i] at h⟩)

/-- Its row 2. -/
theorem GV_row (c : Dev nD) (l : Fin 512) :
    (GV m c (ix2 2 l : S8x512.Idx) : EReal) = ∑ R : Fin 8192, cbAt (pA m c) (wbA m c) (wA m c) (xA m c) R l :=
  f26_last m c t31.isLt l

/-- The host's row of it, as an operation on the array. -/
theorem tail138 (c : Dev nD) :
    (Pipeline.afterTail₀ cfgs (dats m) 0 (V0 m) [hostOps1] c main_v138 : FVec Ideal S512 .f32)
      = shapeCast S512 (extractStridedSlice S1x512 ![2, 0] (GV m c) slices_S8x512_S1x512_2_0) shapeCasts_S1x512_S512 := by
  unfold Pipeline.afterTail₀
  show StableHlo.after hostOps1 _ _ = _
  unfold hostOps1
  after_results
  have hx : (Pipeline.withArrays (cfgs 0).spec c (V0 m c) (fun w => (dats m 0 c).arrAt w (cfgs 0).N) (Proc.tc.devRef main_v135_7) : FVec Ideal S8x512 .f32) = GV m c :=
    ((dats m 0 c).withArrays_arrAt sharedIn0 (V0 m c) (A_eq m c) 26).trans (final26 m c)
  generalize Pipeline.withArrays (cfgs 0).spec c (V0 m c) (fun w => (dats m 0 c).arrAt w (cfgs 0).N) (Proc.tc.devRef main_v135_7) = X at hx ⊢
  subst hx
  rfl

/-- The operation, at an index. -/
theorem row138 (v : FVec Ideal S8x512 .f32) (i : S512.Idx) :
    shapeCast S512 (extractStridedSlice S1x512 ![2, 0] v slices_S8x512_S1x512_2_0) shapeCasts_S1x512_S512 i = v (ix2 2 (i 0) : S8x512.Idx) := by
  refine (shapeCast_apply (extractStridedSlice S1x512 ![2, 0] v slices_S8x512_S1x512_2_0) shapeCasts_S1x512_S512 i (ix2 0 (i 0) : S1x512.Idx)
    (by rewrite [Shape.rowMajor_val_one, Shape.rowMajor_val_two]; show 0 * 512 + (i 0).val = (i 0).val; omega)).trans ?_
  exact extractStridedSlice_apply ![2, 0] v slices_S8x512_S1x512_2_0 (ix2 0 (i 0) : S1x512.Idx) (ix2 2 (i 0) : S8x512.Idx) (fun a => match a with
    | ⟨0, _⟩ => rfl
    | ⟨1, _⟩ => by show (i 0).val = 0 + (i 0).val; omega)

/-- The gradient of the convolution's bias, as the host returns it. -/
theorem final138 (c : Dev nD) :
    (Pipeline.afterTail₀ cfgs (dats m) 0 (V0 m) [hostOps1] c main_v138 : FVec Ideal S512 .f32)
      = CB (pA m c) (wbA m c) (wA m c) (xA m c) := by
  rw [tail138]
  funext i
  rw [row138]
  unfold CB
  exact GV_row m c (i 0)

end Cert.MixVal

end
-- ==== Proof.MixBits.lean ====
module

public import proofs.«01_k».proof.Defs
public import proofs.«01_k».proof.Proof.MixFrame
public import proofs.«01_k».proof.Proof.Gen.Mix
public import proofs.«01_k».proof.Proof.Gen.MixReferenceIdeal

@[expose] public section

set_option maxHeartbeats 4000000
set_option maxRecDepth 16384

noncomputable section

namespace Cert.MixVal

open Idealize.ShloMosaic Idealize.ShloMosaic.TcCoe Idealize.SL.Sem

/-! ### The two prints of the kernel are one program -/

/-- The two prints have the same body, -/
theorem bodies_eq : (@Cert.Mix.defs₀ Bits _ _) = (@Cert.MixIdeal.defs₀ Bits _ _) := by
  unfold Cert.Mix.defs₀ Cert.MixIdeal.defs₀
  refine congrArg (Defs.onTc (nD := Cert.Mix.nD) (τ := Cert.Mix.τ) (sig := Cert.Mix.sig) (Val := Elt Bits) (Λ := Cert.Mix.Λ₀)) ?_
  funext l x
  match l, x with
  | 0, (t, s) => rfl
  | ⟨_ + 1, h⟩, _ => exact absurd h (Nat.not_lt.2 (Nat.le_add_left _ _))

/-- … the same table of bodies and pipelines, -/
theorem defs_eq : (@Cert.Mix.defs Bits _ _) = (@Cert.MixIdeal.defs Bits _ _) := by
  unfold Cert.Mix.defs Cert.MixIdeal.defs
  exact congrArg (Pipeline.defs (Cert.Mix.pcfgs (F := Bits))) bodies_eq

/-- … the same host operations: the first part, -/
theorem part0_eq : (@Cert.Mix.main_part0 Bits _ _) = (@Cert.MixIdeal.main_part0 Bits _ _) := by
  unfold Cert.Mix.main_part0 Cert.MixIdeal.main_part0
  rfl

/-- … the second, -/
theorem part1_eq : (@Cert.Mix.main_part1 Bits _ _) = (@Cert.MixIdeal.main_part1 Bits _ _) := by
  unfold Cert.Mix.main_part1 Cert.MixIdeal.main_part1
  rfl

/-- … the third, -/
theorem part2_eq : (@Cert.Mix.main_part2 Bits _ _) = (@Cert.MixIdeal.main_part2 Bits _ _) := by
  unfold Cert.Mix.main_part2 Cert.MixIdeal.main_part2
  rfl

/-- … and so the same program. -/
theorem main_eq : (@Cert.Mix.main Bits _ _) = (@Cert.MixIdeal.main Bits _ _) := by
  unfold Cert.Mix.main Cert.MixIdeal.main
  rw [part0_eq, part1_eq, part2_eq]
  rfl

/-- The kernel as the processor computes it: every fair execution ends, the arguments unchanged. One run serves both prints. -/
theorem frame_Mix : quiescent_Mix := fun m ρ _ => by
  rw [defs_eq, main_eq]
  exact Cert.MixIdeal.Gen.frame (F := Bits) m ρ

end Cert.MixVal

end
-- ==== Proof.MixVal.lean ====
module

public import proofs.«01_k».proof.Defs
public import proofs.«01_k».proof.Proof.MixRow
public import proofs.«01_k».proof.Proof.MixBits
public import proofs.«01_k».proof.Proof.Gen.Mix
public import proofs.«01_k».proof.Proof.Gen.MixReferenceIdeal
public import proofs.«01_k».proof.Proof.Gen.MixReferenceIdeal.Run
public import proofs.«01_k».proof.Proof.Gen.MixReferenceIdeal.Read
public import Idealize.ShloMosaic.Lib.KernelVsHost
public import Idealize.ShloMosaic.Lib.Claim

@[expose] public section

noncomputable section

namespace Cert.MixVal

open Cert.MixIdeal Cert.MixIdeal.Gen Cert.MixOpen Idealize.ShloMosaic Idealize.ShloMosaic.TcCoe Idealize.SL.Sem

/-! ### The reference's arrays -/

section Reference
open Cert.MixReferenceIdeal.Read

variable (p : FVec Ideal S8192x7680 .bf16) (ya yb yc : FVec Ideal S8192x1024 .bf16) (wo : FVec Ideal S1024x1024 .f32)
  (dx : FVec Ideal S8192x1024 .f32)

/-- The first gate's sigmoid. -/
theorem s_0 (R : Fin 8192) (l : Fin 1024) :
    (val_main_v13 (F := Ideal) p (ix2 R l : S8192x1024.Idx) : EReal) = sg (p (ix2 R (col 4608 (by decide) l))) := by
  rw [val_main_v13_apply, val_main_v12_apply, val_main_v11_apply, val_main_v10_apply, val_main_v9_apply, val_main_v8_apply,
    val_main_v5_apply, val_main_v1_apply, val_main_v0_apply, val_main_cst_apply, val_main_cst_0_apply]
  have e : idx_main_v0 (idx_main_v5 (ix2 R l : S8192x1024.Idx)) = (ix2 R (col 4608 (by decide) l) : S8192x7680.Idx) := by
    funext a; apply Fin.ext
    match a with
    | ⟨0, _⟩ => rfl
    | ⟨1, _⟩ => first | rfl | (show 4608 + (0 + l.val) = 4608 + l.val; omega)
  rw [e]
  show Ideal.div (Ideal.ofBits .f32 0x3F800000#32) (Ideal.ofBits .f32 0x3F800000#32 + Ideal.exp (-(p _ : EReal))) = _
  rw [Ideal.ofBits_one_f32]
  rfl

/-- The first gate's derivative. -/
theorem d_0 (R : Fin 8192) (l : Fin 1024) :
    (val_main_v16 (F := Ideal) p (ix2 R l : S8192x1024.Idx) : EReal)
      = sg (p (ix2 R (col 4608 (by decide) l))) * (1 - sg (p (ix2 R (col 4608 (by decide) l)))) := by
  rw [val_main_v16_apply, val_main_v15_apply, val_main_v14_apply, val_main_cst_1_apply]
  show (val_main_v13 (F := Ideal) p (ix2 R l : S8192x1024.Idx) : EReal) * (Ideal.ofBits .f32 0x3F800000#32 - (val_main_v13 (F := Ideal) p (ix2 R l : S8192x1024.Idx) : EReal)) = _
  rw [s_0, Ideal.ofBits_one_f32]

/-- The second gate's sigmoid. -/
theorem s_1 (R : Fin 8192) (l : Fin 1024) :
    (val_main_v23 (F := Ideal) p (ix2 R l : S8192x1024.Idx) : EReal) = sg (p (ix2 R (col 5632 (by decide) l))) := by
  rw [val_main_v23_apply, val_main_v22_apply, val_main_v21_apply, val_main_v20_apply, val_main_v19_apply, val_main_v18_apply,
    val_main_v6_apply, val_main_v1_apply, val_main_v0_apply, val_main_cst_2_apply, val_main_cst_3_apply]
  have e : idx_main_v0 (idx_main_v6 (ix2 R l : S8192x1024.Idx)) = (ix2 R (col 5632 (by decide) l) : S8192x7680.Idx) := by
    funext a; apply Fin.ext
    match a with
    | ⟨0, _⟩ => rfl
    | ⟨1, _⟩ => first | rfl | (show 4608 + (1024 + l.val) = 5632 + l.val; omega)
  rw [e]
  show Ideal.div (Ideal.ofBits .f32 0x3F800000#32) (Ideal.ofBits .f32 0x3F800000#32 + Ideal.exp (-(p _ : EReal))) = _
  rw [Ideal.ofBits_one_f32]
  rfl

/-- The second gate's derivative. -/
theorem d_1 (R : Fin 8192) (l : Fin 1024) :
    (val_main_v26 (F := Ideal) p (ix2 R l : S8192x1024.Idx) : EReal)
      = sg (p (ix2 R (col 5632 (by decide) l))) * (1 - sg (p (ix2 R (col 5632 (by decide) l)))) := by
  rw [val_main_v26_apply, val_main_v25_apply, val_main_v24_apply, val_main_cst_4_apply]
  show (val_main_v23 (F := Ideal) p (ix2 R l : S8192x1024.Idx) : EReal) * (Ideal.ofBits .f32 0x3F800000#32 - (val_main_v23 (F := Ideal) p (ix2 R l : S8192x1024.Idx) : EReal)) = _
  rw [s_1, Ideal.ofBits_one_f32]

/-- The third gate's sigmoid. -/
theorem s_2 (R : Fin 8192) (l : Fin 1024) :
    (val_main_v34 (F := Ideal) p (ix2 R l : S8192x1024.Idx) : EReal) = sg (p (ix2 R (col 6656 (by decide) l))) := by
  rw [val_main_v34_apply, val_main_v33_apply, val_main_v32_apply, val_main_v31_apply, val_main_v30_apply, val_main_v29_apply,
    val_main_v7_apply, val_main_v1_apply, val_main_v0_apply, val_main_cst_5_apply, val_main_cst_6_apply]
  have e : idx_main_v0 (idx_main_v7 (ix2 R l : S8192x1024.Idx)) = (ix2 R (col 6656 (by decide) l) : S8192x7680.Idx) := by
    funext a; apply Fin.ext
    match a with
    | ⟨0, _⟩ => rfl
    | ⟨1, _⟩ => first | rfl | (show 4608 + (2048 + l.val) = 6656 + l.val; omega)
  rw [e]
  show Ideal.div (Ideal.ofBits .f32 0x3F800000#32) (Ideal.ofBits .f32 0x3F800000#32 + Ideal.exp (-(p _ : EReal))) = _
  rw [Ideal.ofBits_one_f32]
  rfl

/-- The third gate's derivative. -/
theorem d_2 (R : Fin 8192) (l : Fin 1024) :
    (val_main_v37 (F := Ideal) p (ix2 R l : S8192x1024.Idx) : EReal)
      = sg (p (ix2 R (col 6656 (by decide) l))) * (1 - sg (p (ix2 R (col 6656 (by decide) l)))) := by
  rw [val_main_v37_apply, val_main_v36_apply, val_main_v35_apply, val_main_cst_7_apply]
  show (val_main_v34 (F := Ideal) p (ix2 R l : S8192x1024.Idx) : EReal) * (Ideal.ofBits .f32 0x3F800000#32 - (val_main_v34 (F := Ideal) p (ix2 R l : S8192x1024.Idx) : EReal)) = _
  rw [s_2, Ideal.ofBits_one_f32]

/-- The merged branches' cotangent. -/
theorem ref_dm (R : Fin 8192) (l : Fin 1024) :
    (val_main_v41 (F := Ideal) wo dx (ix2 R l : S8192x1024.Idx) : EReal) = dm dx wo R l := by
  rw [val_main_v41_apply]
  unfold dm
  refine Finset.sum_congr rfl fun k _ => ?_
  have e1 : lidx_main_v41 (ix2 R l : S8192x1024.Idx) k = (ix2 R k : S8192x1024.Idx) := by
    funext a; match a with | ⟨0, _⟩ => rfl | ⟨1, _⟩ => rfl
  have e2 : ridx_main_v41 (ix2 R l : S8192x1024.Idx) k = (ix2 l k : S1024x1024.Idx) := by
    funext a; match a with | ⟨0, _⟩ => rfl | ⟨1, _⟩ => rfl
  rw [e1, e2]

/-- The reference's merged branches. -/
theorem ref_m : val_main_v100 (F := Ideal) p ya yb yc = MG p ya yb yc := by
  funext i
  obtain ⟨R, l, rfl⟩ : ∃ (R : Fin 8192) (l : Fin 1024), i = (ix2 R l : S8192x1024.Idx) := ⟨i 0, i 1, eq_ix2 (n0 := 8192) (n1 := 1024) i⟩
  rw [val_main_v100_apply, val_main_v39_apply, val_main_v28_apply, val_main_v17_apply, val_main_v27_apply, val_main_v38_apply,
    val_main_v2_apply, val_main_v3_apply, val_main_v4_apply]
  show (val_main_v13 (F := Ideal) p (ix2 R l : S8192x1024.Idx) : EReal) * (ya (ix2 R l) : EReal)
      + (val_main_v23 (F := Ideal) p (ix2 R l : S8192x1024.Idx) : EReal) * (yb (ix2 R l) : EReal)
      + (val_main_v34 (F := Ideal) p (ix2 R l : S8192x1024.Idx) : EReal) * (yc (ix2 R l) : EReal) = mgAt p ya yb yc R l
  rw [s_0, s_1, s_2]
  rfl

/-- The first branch's cotangent. -/
theorem y_0 (R : Fin 8192) (l : Fin 1024) :
    (val_main_v48 (F := Ideal) p wo dx (ix2 R l : S8192x1024.Idx) : EReal)
      = dm dx wo R l * sg (p (ix2 R (col 4608 (by decide) l))) := by
  rw [val_main_v48_apply]
  show (val_main_v13 (F := Ideal) p (ix2 R l : S8192x1024.Idx) : EReal) * (val_main_v41 (F := Ideal) wo dx (ix2 R l : S8192x1024.Idx) : EReal) = _
  rw [s_0, ref_dm, mul_comm]

/-- The second branch's cotangent. -/
theorem y_1 (R : Fin 8192) (l : Fin 1024) :
    (val_main_v45 (F := Ideal) p wo dx (ix2 R l : S8192x1024.Idx) : EReal)
      = dm dx wo R l * sg (p (ix2 R (col 5632 (by decide) l))) := by
  rw [val_main_v45_apply]
  show (val_main_v23 (F := Ideal) p (ix2 R l : S8192x1024.Idx) : EReal) * (val_main_v41 (F := Ideal) wo dx (ix2 R l : S8192x1024.Idx) : EReal) = _
  rw [s_1, ref_dm, mul_comm]

/-- The third branch's cotangent. -/
theorem y_2 (R : Fin 8192) (l : Fin 1024) :
    (val_main_v42 (F := Ideal) p wo dx (ix2 R l : S8192x1024.Idx) : EReal)
      = dm dx wo R l * sg (p (ix2 R (col 6656 (by decide) l))) := by
  rw [val_main_v42_apply]
  show (val_main_v34 (F := Ideal) p (ix2 R l : S8192x1024.Idx) : EReal) * (val_main_v41 (F := Ideal) wo dx (ix2 R l : S8192x1024.Idx) : EReal) = _
  rw [s_2, ref_dm, mul_comm]

/-- The first gate's cotangent. -/
theorem t_0 (R : Fin 8192) (l : Fin 1024) :
    (val_main_v50 (F := Ideal) p ya wo dx (ix2 R l : S8192x1024.Idx) : EReal)
      = dm dx wo R l * sg (p (ix2 R (col 4608 (by decide) l))) * (ya (ix2 R l) : EReal)
        * (1 - sg (p (ix2 R (col 4608 (by decide) l)))) := by
  rw [val_main_v50_apply, val_main_v49_apply, val_main_v2_apply]
  show (val_main_v41 (F := Ideal) wo dx (ix2 R l : S8192x1024.Idx) : EReal) * (ya (ix2 R l) : EReal) * (val_main_v16 (F := Ideal) p (ix2 R l : S8192x1024.Idx) : EReal) = _
  rw [d_0, ref_dm, mul_assoc, ← mul_assoc (ya (ix2 R l) : EReal), mul_comm (ya (ix2 R l) : EReal), ← mul_assoc, ← mul_assoc]

/-- The second gate's cotangent. -/
theorem t_1 (R : Fin 8192) (l : Fin 1024) :
    (val_main_v47 (F := Ideal) p yb wo dx (ix2 R l : S8192x1024.Idx) : EReal)
      = dm dx wo R l * sg (p (ix2 R (col 5632 (by decide) l))) * (yb (ix2 R l) : EReal)
        * (1 - sg (p (ix2 R (col 5632 (by decide) l)))) := by
  rw [val_main_v47_apply, val_main_v46_apply, val_main_v3_apply]
  show (val_main_v41 (F := Ideal) wo dx (ix2 R l : S8192x1024.Idx) : EReal) * (yb (ix2 R l) : EReal) * (val_main_v26 (F := Ideal) p (ix2 R l : S8192x1024.Idx) : EReal) = _
  rw [d_1, ref_dm, mul_assoc, ← mul_assoc (yb (ix2 R l) : EReal), mul_comm (yb (ix2 R l) : EReal), ← mul_assoc, ← mul_assoc]

/-- The third gate's cotangent. -/
theorem t_2 (R : Fin 8192) (l : Fin 1024) :
    (val_main_v44 (F := Ideal) p yc wo dx (ix2 R l : S8192x1024.Idx) : EReal)
      = dm dx wo R l * sg (p (ix2 R (col 6656 (by decide) l))) * (yc (ix2 R l) : EReal)
        * (1 - sg (p (ix2 R (col 6656 (by decide) l)))) := by
  rw [val_main_v44_apply, val_main_v43_apply, val_main_v4_apply]
  show (val_main_v41 (F := Ideal) wo dx (ix2 R l : S8192x1024.Idx) : EReal) * (yc (ix2 R l) : EReal) * (val_main_v37 (F := Ideal) p (ix2 R l : S8192x1024.Idx) : EReal) = _
  rw [d_2, ref_dm, mul_assoc, ← mul_assoc (yc (ix2 R l) : EReal), mul_comm (yc (ix2 R l) : EReal), ← mul_assoc, ← mul_assoc]

/-- The reference's branch cotangents, side by side. -/
theorem ref_d : val_main_v102 (F := Ideal) p wo dx = DY p wo dx := by
  funext i
  obtain ⟨R, J, rfl⟩ : ∃ (R : Fin 8192) (J : Fin 3072), i = (ix2 R J : S8192x3072.Idx) := ⟨i 0, i 1, eq_ix2 (n0 := 8192) (n1 := 3072) i⟩
  obtain ⟨g, l, rfl⟩ := J_cases J
  have hl := l.isLt
  have hlc : ∀ (q : ℕ) (h : 1024 * q + l.val < 3072), lc ⟨1024 * q + l.val, h⟩ = l := fun q h => Fin.ext (by show (1024 * q + l.val) % 1024 = l.val; omega)
  rw [val_main_v102_apply]
  show (val_main_v101 (F := Ideal) p wo dx _ : EReal) = dyAt p wo dx R _
  unfold val_main_v101
  match g with
  | ⟨0, _⟩ =>
    have eL : gc ⟨1024 * 0 + l.val, by omega⟩ = col 4608 (by decide) l := Fin.ext (by show 4608 + (1024 * 0 + l.val) = 4608 + l.val; omega)
    show _ = dyAt p wo dx R (⟨1024 * 0 + l.val, by omega⟩ : Fin 3072)
    unfold dyAt
    rw [hlc, eL]
    refine Eq.trans ?_ (y_0 p wo dx R l)
    exact concatenate_apply_piece (t := S8192x3072) 1
      [⟨S8192x1024, val_main_v48 (F := Ideal) p wo dx⟩, ⟨S8192x1024, val_main_v45 (F := Ideal) p wo dx⟩, ⟨S8192x1024, val_main_v42 (F := Ideal) p wo dx⟩]
      Cert.MixReferenceIdeal.Gen.concatenates_S8192x1024_S8192x1024_S8192x1024_S8192x3072_d1
      (ix2 R (⟨1024 * 0 + l.val, by omega⟩ : Fin 3072)) 0 (show 0 < 3 by decide) S8192x1024
      (val_main_v48 (F := Ideal) p wo dx) rfl rfl 0 rfl (ix2 R l : S8192x1024.Idx) (fun b hb => match b, hb with
      | ⟨0, _⟩, _ => rfl
      | ⟨1, _⟩, hb => absurd rfl hb) (by show 0 + l.val = 1024 * 0 + l.val; omega)
  | ⟨1, _⟩ =>
    have eL : gc ⟨1024 * 1 + l.val, by omega⟩ = col 5632 (by decide) l := Fin.ext (by show 4608 + (1024 * 1 + l.val) = 5632 + l.val; omega)
    show _ = dyAt p wo dx R (⟨1024 * 1 + l.val, by omega⟩ : Fin 3072)
    unfold dyAt
    rw [hlc, eL]
    refine Eq.trans ?_ (y_1 p wo dx R l)
    exact concatenate_apply_piece (t := S8192x3072) 1
      [⟨S8192x1024, val_main_v48 (F := Ideal) p wo dx⟩, ⟨S8192x1024, val_main_v45 (F := Ideal) p wo dx⟩, ⟨S8192x1024, val_main_v42 (F := Ideal) p wo dx⟩]
      Cert.MixReferenceIdeal.Gen.concatenates_S8192x1024_S8192x1024_S8192x1024_S8192x3072_d1
      (ix2 R (⟨1024 * 1 + l.val, by omega⟩ : Fin 3072)) 1 (show 1 < 3 by decide) S8192x1024
      (val_main_v45 (F := Ideal) p wo dx) rfl rfl 1024 rfl (ix2 R l : S8192x1024.Idx) (fun b hb => match b, hb with
      | ⟨0, _⟩, _ => rfl
      | ⟨1, _⟩, hb => absurd rfl hb) (by show 1024 + l.val = 1024 * 1 + l.val; omega)
  | ⟨2, _⟩ =>
    have eL : gc ⟨1024 * 2 + l.val, by omega⟩ = col 6656 (by decide) l := Fin.ext (by show 4608 + (1024 * 2 + l.val) = 6656 + l.val; omega)
    show _ = dyAt p wo dx R (⟨1024 * 2 + l.val, by omega⟩ : Fin 3072)
    unfold dyAt
    rw [hlc, eL]
    refine Eq.trans ?_ (y_2 p wo dx R l)
    exact concatenate_apply_piece (t := S8192x3072) 1
      [⟨S8192x1024, val_main_v48 (F := Ideal) p wo dx⟩, ⟨S8192x1024, val_main_v45 (F := Ideal) p wo dx⟩, ⟨S8192x1024, val_main_v42 (F := Ideal) p wo dx⟩]
      Cert.MixReferenceIdeal.Gen.concatenates_S8192x1024_S8192x1024_S8192x1024_S8192x3072_d1
      (ix2 R (⟨1024 * 2 + l.val, by omega⟩ : Fin 3072)) 2 (show 2 < 3 by decide) S8192x1024
      (val_main_v42 (F := Ideal) p wo dx) rfl rfl 2048 rfl (ix2 R l : S8192x1024.Idx) (fun b hb => match b, hb with
      | ⟨0, _⟩, _ => rfl
      | ⟨1, _⟩, hb => absurd rfl hb) (by show 2048 + l.val = 1024 * 2 + l.val; omega)

/-- The third gate's columns of the sum: its cotangent in its own columns. -/
theorem in_2 (R : Fin 8192) (l : Fin 1024) (J : Fin 3072) (h : J.val = 2048 + l.val) :
    (val_main_v51 (F := Ideal) p yc wo dx (ix2 R J : S8192x3072.Idx) : EReal)
      = (val_main_v44 (F := Ideal) p yc wo dx (ix2 R l : S8192x1024.Idx) : EReal) := by
  unfold val_main_v51
  exact pad_apply_of_inside (s := S8192x1024) (t := S8192x3072) ![0, 2048] ![0, 0] ![0, 0] _ _ _ _ (ix2 R J) (ix2 R l) (fun a => match a with
    | ⟨0, _⟩ => by show R.val = 0 + R.val * (0 + 1); omega
    | ⟨1, _⟩ => by show J.val = 2048 + l.val * (0 + 1); omega)

/-- … and zero in the others'. -/
theorem out_2 (R : Fin 8192) (J : Fin 3072) (h : ¬(2048 ≤ J.val ∧ J.val < 3072)) :
    (val_main_v51 (F := Ideal) p yc wo dx (ix2 R J : S8192x3072.Idx) : EReal) = 0 := by
  unfold val_main_v51
  refine (pad_apply_of_not_inside (s := S8192x1024) (t := S8192x3072) ![0, 2048] ![0, 0] ![0, 0] _ _ _ _ (ix2 R J) 1 (fun hh => h ?_)).trans ?_
  · have h1 : 2048 ≤ J.val := hh.1
    have h2 : (J.val - 2048) / (0 + 1) < 1024 := hh.2.2
    omega
  · rw [val_main_cst_8_apply]
    exact Ideal.ofBits_zero_f32

/-- The second gate's columns of the sum: its cotangent in its own columns. -/
theorem in_1 (R : Fin 8192) (l : Fin 1024) (J : Fin 3072) (h : J.val = 1024 + l.val) :
    (val_main_v52 (F := Ideal) p yb wo dx (ix2 R J : S8192x3072.Idx) : EReal)
      = (val_main_v47 (F := Ideal) p yb wo dx (ix2 R l : S8192x1024.Idx) : EReal) := by
  unfold val_main_v52
  exact pad_apply_of_inside (s := S8192x1024) (t := S8192x3072) ![0, 1024] ![0, 1024] ![0, 0] _ _ _ _ (ix2 R J) (ix2 R l) (fun a => match a with
    | ⟨0, _⟩ => by show R.val = 0 + R.val * (0 + 1); omega
    | ⟨1, _⟩ => by show J.val = 1024 + l.val * (0 + 1); omega)

/-- … and zero in the others'. -/
theorem out_1 (R : Fin 8192) (J : Fin 3072) (h : ¬(1024 ≤ J.val ∧ J.val < 2048)) :
    (val_main_v52 (F := Ideal) p yb wo dx (ix2 R J : S8192x3072.Idx) : EReal) = 0 := by
  unfold val_main_v52
  refine (pad_apply_of_not_inside (s := S8192x1024) (t := S8192x3072) ![0, 1024] ![0, 1024] ![0, 0] _ _ _ _ (ix2 R J) 1 (fun hh => h ?_)).trans ?_
  · have h1 : 1024 ≤ J.val := hh.1
    have h2 : (J.val - 1024) / (0 + 1) < 1024 := hh.2.2
    omega
  · rw [val_main_cst_9_apply]
    exact Ideal.ofBits_zero_f32

/-- The first gate's columns of the sum: its cotangent in its own columns. -/
theorem in_0 (R : Fin 8192) (l : Fin 1024) (J : Fin 3072) (h : J.val = 0 + l.val) :
    (val_main_v54 (F := Ideal) p ya wo dx (ix2 R J : S8192x3072.Idx) : EReal)
      = (val_main_v50 (F := Ideal) p ya wo dx (ix2 R l : S8192x1024.Idx) : EReal) := by
  unfold val_main_v54
  exact pad_apply_of_inside (s := S8192x1024) (t := S8192x3072) ![0, 0] ![0, 2048] ![0, 0] _ _ _ _ (ix2 R J) (ix2 R l) (fun a => match a with
    | ⟨0, _⟩ => by show R.val = 0 + R.val * (0 + 1); omega
    | ⟨1, _⟩ => by show J.val = 0 + l.val * (0 + 1); omega)

/-- … and zero in the others'. -/
theorem out_0 (R : Fin 8192) (J : Fin 3072) (h : ¬(0 ≤ J.val ∧ J.val < 1024)) :
    (val_main_v54 (F := Ideal) p ya wo dx (ix2 R J : S8192x3072.Idx) : EReal) = 0 := by
  unfold val_main_v54
  refine (pad_apply_of_not_inside (s := S8192x1024) (t := S8192x3072) ![0, 0] ![0, 2048] ![0, 0] _ _ _ _ (ix2 R J) 1 (fun hh => h ?_)).trans ?_
  · have h1 : 0 ≤ J.val := hh.1
    have h2 : (J.val - 0) / (0 + 1) < 1024 := hh.2.2
    omega
  · rw [val_main_cst_10_apply]
    exact Ideal.ofBits_zero_f32

/-- The reference's gates' cotangent. -/
theorem ref_g : val_main_v99 (F := Ideal) p ya yb yc wo dx = GT p ya yb yc wo dx := by
  funext i
  obtain ⟨R, J, rfl⟩ : ∃ (R : Fin 8192) (J : Fin 3072), i = (ix2 R J : S8192x3072.Idx) := ⟨i 0, i 1, eq_ix2 (n0 := 8192) (n1 := 3072) i⟩
  obtain ⟨g, l, rfl⟩ := J_cases J
  have hl := l.isLt
  have hlc : ∀ (q : ℕ) (h : 1024 * q + l.val < 3072), lc ⟨1024 * q + l.val, h⟩ = l := fun q h => Fin.ext (by show (1024 * q + l.val) % 1024 = l.val; omega)
  rw [val_main_v99_apply, val_main_v55_apply, val_main_v53_apply]
  match g with
  | ⟨0, _⟩ =>
    have eL : gc ⟨1024 * 0 + l.val, by omega⟩ = col 4608 (by decide) l := Fin.ext (by show 4608 + (1024 * 0 + l.val) = 4608 + l.val; omega)
    have eY : yg ya yb yc R ⟨1024 * 0 + l.val, by omega⟩ = ya (ix2 R l) := by
      unfold yg
      rw [if_pos (show 1024 * 0 + l.val < 1024 by omega)]
      rw [hlc]
    show (val_main_v51 (F := Ideal) p yc wo dx (ix2 R (⟨1024 * 0 + l.val, by omega⟩ : Fin 3072) : S8192x3072.Idx) : EReal)
        + (val_main_v52 (F := Ideal) p yb wo dx (ix2 R (⟨1024 * 0 + l.val, by omega⟩ : Fin 3072) : S8192x3072.Idx) : EReal)
        + (val_main_v54 (F := Ideal) p ya wo dx (ix2 R (⟨1024 * 0 + l.val, by omega⟩ : Fin 3072) : S8192x3072.Idx) : EReal) = gtAt p ya yb yc wo dx R (⟨1024 * 0 + l.val, by omega⟩ : Fin 3072)
    unfold gtAt
    rw [eY, hlc, eL, out_2 p yc wo dx R (⟨1024 * 0 + l.val, by omega⟩ : Fin 3072) (by show ¬(2048 ≤ 1024 * 0 + l.val ∧ 1024 * 0 + l.val < 3072); omega),
      out_1 p yb wo dx R (⟨1024 * 0 + l.val, by omega⟩ : Fin 3072) (by show ¬(1024 ≤ 1024 * 0 + l.val ∧ 1024 * 0 + l.val < 2048); omega),
      in_0 p ya wo dx R l (⟨1024 * 0 + l.val, by omega⟩ : Fin 3072) (by show 1024 * 0 + l.val = 0 + l.val; omega), zero_add, zero_add]
    exact t_0 p ya wo dx R l
  | ⟨1, _⟩ =>
    have eL : gc ⟨1024 * 1 + l.val, by omega⟩ = col 5632 (by decide) l := Fin.ext (by show 4608 + (1024 * 1 + l.val) = 5632 + l.val; omega)
    have eY : yg ya yb yc R ⟨1024 * 1 + l.val, by omega⟩ = yb (ix2 R l) := by
      unfold yg
      rw [if_neg (show ¬1024 * 1 + l.val < 1024 by omega), if_pos (show 1024 * 1 + l.val < 2048 by omega)]
      rw [hlc]
    show (val_main_v51 (F := Ideal) p yc wo dx (ix2 R (⟨1024 * 1 + l.val, by omega⟩ : Fin 3072) : S8192x3072.Idx) : EReal)
        + (val_main_v52 (F := Ideal) p yb wo dx (ix2 R (⟨1024 * 1 + l.val, by omega⟩ : Fin 3072) : S8192x3072.Idx) : EReal)
        + (val_main_v54 (F := Ideal) p ya wo dx (ix2 R (⟨1024 * 1 + l.val, by omega⟩ : Fin 3072) : S8192x3072.Idx) : EReal) = gtAt p ya yb yc wo dx R (⟨1024 * 1 + l.val, by omega⟩ : Fin 3072)
    unfold gtAt
    rw [eY, hlc, eL, out_2 p yc wo dx R (⟨1024 * 1 + l.val, by omega⟩ : Fin 3072) (by show ¬(2048 ≤ 1024 * 1 + l.val ∧ 1024 * 1 + l.val < 3072); omega),
      in_1 p yb wo dx R l (⟨1024 * 1 + l.val, by omega⟩ : Fin 3072) (by show 1024 * 1 + l.val = 1024 + l.val; omega),
      out_0 p ya wo dx R (⟨1024 * 1 + l.val, by omega⟩ : Fin 3072) (by show ¬(0 ≤ 1024 * 1 + l.val ∧ 1024 * 1 + l.val < 1024); omega), zero_add, add_zero]
    exact t_1 p yb wo dx R l
  | ⟨2, _⟩ =>
    have eL : gc ⟨1024 * 2 + l.val, by omega⟩ = col 6656 (by decide) l := Fin.ext (by show 4608 + (1024 * 2 + l.val) = 6656 + l.val; omega)
    have eY : yg ya yb yc R ⟨1024 * 2 + l.val, by omega⟩ = yc (ix2 R l) := by
      unfold yg
      rw [if_neg (show ¬1024 * 2 + l.val < 1024 by omega), if_neg (show ¬1024 * 2 + l.val < 2048 by omega)]
      rw [hlc]
    show (val_main_v51 (F := Ideal) p yc wo dx (ix2 R (⟨1024 * 2 + l.val, by omega⟩ : Fin 3072) : S8192x3072.Idx) : EReal)
        + (val_main_v52 (F := Ideal) p yb wo dx (ix2 R (⟨1024 * 2 + l.val, by omega⟩ : Fin 3072) : S8192x3072.Idx) : EReal)
        + (val_main_v54 (F := Ideal) p ya wo dx (ix2 R (⟨1024 * 2 + l.val, by omega⟩ : Fin 3072) : S8192x3072.Idx) : EReal) = gtAt p ya yb yc wo dx R (⟨1024 * 2 + l.val, by omega⟩ : Fin 3072)
    unfold gtAt
    rw [eY, hlc, eL, in_2 p yc wo dx R l (⟨1024 * 2 + l.val, by omega⟩ : Fin 3072) (by show 1024 * 2 + l.val = 2048 + l.val; omega),
      out_1 p yb wo dx R (⟨1024 * 2 + l.val, by omega⟩ : Fin 3072) (by show ¬(1024 ≤ 1024 * 2 + l.val ∧ 1024 * 2 + l.val < 2048); omega),
      out_0 p ya wo dx R (⟨1024 * 2 + l.val, by omega⟩ : Fin 3072) (by show ¬(0 ≤ 1024 * 2 + l.val ∧ 1024 * 2 + l.val < 1024); omega), add_zero, add_zero]
    exact t_2 p yc wo dx R l

/-! ### The bias's gradient -/

variable (wb : FVec Ideal S512x1024 .f32)

/-- The gate on the convolution's output. -/
theorem b_g (R : Fin 8192) (l : Fin 512) :
    (val_main_v59 (F := Ideal) p (ix2 R l : Cert.MixReferenceIdeal.S8192x512.Idx) : EReal) = p (ix2 R (col' 2048 (by decide) l)) := by
  rw [val_main_v59_apply, val_main_v58_apply]
  have e : idx_main_v58 (ix2 R l : Cert.MixReferenceIdeal.S8192x512.Idx) = (ix2 R (col' 2048 (by decide) l) : S8192x7680.Idx) := by
    funext a; match a with | ⟨0, _⟩ => rfl | ⟨1, _⟩ => rfl
  rw [e]
  rfl

/-- The branch's own gate. -/
theorem b_z (R : Fin 8192) (l : Fin 512) :
    (val_main_v63 (F := Ideal) p (ix2 R l : Cert.MixReferenceIdeal.S8192x512.Idx) : EReal) = p (ix2 R (col' 3072 (by decide) l)) := by
  rw [val_main_v63_apply, val_main_v62_apply]
  have e : idx_main_v62 (ix2 R l : Cert.MixReferenceIdeal.S8192x512.Idx) = (ix2 R (col' 3072 (by decide) l) : S8192x7680.Idx) := by
    funext a; match a with | ⟨0, _⟩ => rfl | ⟨1, _⟩ => rfl
  rw [e]
  rfl

/-- The branch's gate through its activation. -/
theorem b_a (R : Fin 8192) (l : Fin 512) :
    (val_main_v90 (F := Ideal) p (ix2 R l : Cert.MixReferenceIdeal.S8192x512.Idx) : EReal)
      = p (ix2 R (col' 3072 (by decide) l)) * sg (p (ix2 R (col' 3072 (by decide) l))) := by
  rw [val_main_v90_apply, val_main_call1_v5_apply, val_main_call1_v4_apply, val_main_call1_v3_apply, val_main_call1_v2_apply,
    val_main_call1_v1_apply, val_main_call1_v0_apply, val_main_call1_cst_apply, val_main_call1_cst_0_apply]
  show (val_main_v63 (F := Ideal) p (ix2 R l : Cert.MixReferenceIdeal.S8192x512.Idx) : EReal)
      * Ideal.div (Ideal.ofBits .f32 0x3F800000#32) (Ideal.ofBits .f32 0x3F800000#32 + Ideal.exp (-(val_main_v63 (F := Ideal) p (ix2 R l : Cert.MixReferenceIdeal.S8192x512.Idx) : EReal))) = _
  rw [b_z, Ideal.ofBits_one_f32]
  rfl

/-- The projected branch's cotangent against its weight. -/
theorem b_d (R : Fin 8192) (l : Fin 512) :
    (val_main_v93 (F := Ideal) p wb wo dx (ix2 R l : Cert.MixReferenceIdeal.S8192x512.Idx) : EReal) = dbAt p wb wo dx R l := by
  rw [val_main_v93_apply]
  unfold dbAt
  refine Finset.sum_congr rfl fun k _ => ?_
  have e1 : lidx_main_v93 (ix2 R l : Cert.MixReferenceIdeal.S8192x512.Idx) k = (ix2 R k : S8192x1024.Idx) := by
    funext a; match a with | ⟨0, _⟩ => rfl | ⟨1, _⟩ => rfl
  have e2 : ridx_main_v93 (ix2 R l : Cert.MixReferenceIdeal.S8192x512.Idx) k = (ix2 l k : S512x1024.Idx) := by
    funext a; match a with | ⟨0, _⟩ => rfl | ⟨1, _⟩ => rfl
  rw [e1, e2, y_1]

/-- The convolution's cotangent. -/
theorem b_c (R : Fin 8192) (l : Fin 512) :
    (val_main_v95 (F := Ideal) p wb wo dx (ix2 R l : Cert.MixReferenceIdeal.S8192x512.Idx) : EReal) = cbAt p wb wo dx R l := by
  rw [val_main_v95_apply, val_main_v94_apply]
  show (val_main_v59 (F := Ideal) p (ix2 R l : Cert.MixReferenceIdeal.S8192x512.Idx) : EReal)
      * ((val_main_v93 (F := Ideal) p wb wo dx (ix2 R l : Cert.MixReferenceIdeal.S8192x512.Idx) : EReal) * (val_main_v90 (F := Ideal) p (ix2 R l : Cert.MixReferenceIdeal.S8192x512.Idx) : EReal)) = _
  rw [b_g, b_d, b_a, mul_comm]
  rfl

/-- The reference's gradient of the bias. -/
theorem ref_b : val_main_v98 (F := Ideal) p wb wo dx = CB p wb wo dx := by
  funext i
  rw [val_main_v98_apply, val_main_cst_12_apply]
  refine (congrArg (· + _) (Ideal.ofBits_zero_f32)).trans ?_
  rw [zero_add, Fin.sum_univ_one, val_main_v97_apply, val_main_v96_apply, val_main_cst_11_apply]
  refine (congrArg (· + _) (Ideal.ofBits_zero_f32)).trans ?_
  rw [zero_add]
  unfold CB
  refine Finset.sum_congr rfl fun R _ => ?_
  have e : idx_main_v96 (idx_main_v97 (idx_main_v98 i 0)) R = (ix2 R (i 0) : Cert.MixReferenceIdeal.S8192x512.Idx) := by
    funext a; apply Fin.ext
    match a with
    | ⟨0, _⟩ => rfl
    | ⟨1, _⟩ => show 0 * 512 + (i 0).val = (i 0).val; omega
  rw [e]
  exact b_c p wo dx wb R (i 0)

end Reference

/-! ### The claims -/

/-- The kernel at the extended reals: every fair execution ends, the arguments unchanged. -/
theorem frame_MixIdeal : quiescent_MixIdeal := fun m ρ _ => Cert.MixIdeal.Gen.frame m ρ

/-- The reference: host operations only. -/
theorem frame_MixReference : quiescent_MixReferenceIdeal := fun m ρ _ =>
  (θ_run _ _ _).mono (fun r h => ⟨fun c => (h c).2.2.2.2, sem_eq_zero_of_no_sems rfl r.2⟩) (Cert.MixReferenceIdeal.Value.run m ρ)

/-- The gates' cotangent, the merged branches, the branches' cotangent and the bias's gradient: kernel and reference leave the same arrays. -/
theorem values_Mix : algebraic_MixIdeal_MixReferenceIdeal := fun m g m' g' _ hm =>
  ⟨fun c => GT (pA m c) (aA m c) (bA m c) (cA m c) (wA m c) (xA m c), fun c => MG (pA m c) (aA m c) (bA m c) (cA m c),
    fun c => DY (pA m c) (wA m c) (xA m c), fun c => CB (pA m c) (wbA m c) (wA m c) (xA m c),
    (θ_run _ _ _).mono (fun r h c => ⟨((h.1 c).2 main_v136 (Pipeline.mem_restRefs_of main_v136 (by decide) (by decide))).trans (final136 m c),
      ((h.1 c).1 21).trans (final21 m c), ((h.1 c).1 22).trans (final22 m c),
      ((h.1 c).2 main_v138 (Pipeline.mem_restRefs_of main_v138 (by decide) (by decide))).trans (final138 m c), h.2 c⟩)
      (θ_run_and (run_main m g) (unchanged m g)),
    (θ_run _ _ _).mono (fun r h c => by
      obtain ⟨e0, e1, e2, e3, -, -, -, -, -, -, -, -, -, e13, -, e15, e16⟩ := hm c
      refine ⟨(h c).1.trans ?_, (h c).2.1.trans ?_, (h c).2.2.1.trans ?_, (h c).2.2.2.1.trans ?_, (h c).2.2.2.2⟩
      · rw [Cert.MixReferenceIdeal.Read.val_main_v99_eq, e0, e1, e2, e3, e15, e16]
        exact ref_g (pA m c) (aA m c) (bA m c) (cA m c) (wA m c) (xA m c)
      · rw [Cert.MixReferenceIdeal.Read.val_main_v100_eq, e0, e1, e2, e3]
        exact ref_m (pA m c) (aA m c) (bA m c) (cA m c)
      · rw [Cert.MixReferenceIdeal.Read.val_main_v102_eq, e0, e15, e16]
        exact ref_d (pA m c) (wA m c) (xA m c)
      · rw [Cert.MixReferenceIdeal.Read.val_main_v98_eq, e0, e13, e15, e16]
        exact ref_b (pA m c) (wA m c) (xA m c) (wbA m c))
      (Cert.MixReferenceIdeal.Value.run m' g')⟩

end Cert.MixVal

end
-- ==== Proof.lean ====
module

public import proofs.«01_k».proof.Defs
public import proofs.«01_k».proof.Proof.Gen.Proj
public import proofs.«01_k».proof.Proof.Gen.Proj.Frame
public import proofs.«01_k».proof.Proof.Gen.ProjIdeal
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.InW
public import proofs.«01_k».proof.Proof.Gen.InW.Frame
public import proofs.«01_k».proof.Proof.Gen.InWIdeal
public import proofs.«01_k».proof.Proof.Gen.InWIdeal.Value
public import proofs.«01_k».proof.Proof.Gen.InWReferenceIdeal
public import proofs.«01_k».proof.Proof.Gen.InWReferenceIdeal.Run
public import proofs.«01_k».proof.Proof.Gen.InWReferenceIdeal.Read
public import proofs.«01_k».proof.Proof.Gen.InX
public import proofs.«01_k».proof.Proof.Gen.InX.Frame
public import proofs.«01_k».proof.Proof.Gen.InXIdeal
public import proofs.«01_k».proof.Proof.Gen.InXIdeal.Value
public import proofs.«01_k».proof.Proof.Gen.InXReferenceIdeal
public import proofs.«01_k».proof.Proof.Gen.InXReferenceIdeal.Run
public import proofs.«01_k».proof.Proof.Gen.InXReferenceIdeal.Read
public import proofs.«01_k».proof.Proof.Gen.Pre_finite_x
public import proofs.«01_k».proof.Proof.Gen.InXA
public import proofs.«01_k».proof.Proof.Gen.InXA.Frame
public import proofs.«01_k».proof.Proof.Gen.InXAIdeal
public import proofs.«01_k».proof.Proof.Gen.InXAIdeal.Frame
public import proofs.«01_k».proof.Proof.Gen.InXAReferenceIdeal
public import proofs.«01_k».proof.Proof.Gen.InXAReferenceIdeal.Run
public import proofs.«01_k».proof.Proof.Gen.InXAReferenceIdeal.Read
public import proofs.«01_k».proof.Proof.Gen.InXB
public import proofs.«01_k».proof.Proof.Gen.InXB.Frame
public import proofs.«01_k».proof.Proof.Gen.InXBIdeal
public import proofs.«01_k».proof.Proof.Gen.InXBIdeal.Value
public import proofs.«01_k».proof.Proof.Gen.InXBReferenceIdeal
public import proofs.«01_k».proof.Proof.Gen.InXBReferenceIdeal.Run
public import proofs.«01_k».proof.Proof.Gen.InXBReferenceIdeal.Read
public import proofs.«01_k».proof.Proof.Gen.Pre_finite_xb
public import proofs.«01_k».proof.Proof.ProjVal
public import proofs.«01_k».proof.Proof.InWVal
public import proofs.«01_k».proof.Proof.InXVal
public import proofs.«01_k».proof.Proof.InXAVal
public import proofs.«01_k».proof.Proof.InXBVal
public import proofs.«01_k».proof.Proof.InPVal
public import proofs.«01_k».proof.Proof.MixVal
public import Idealize.ShloMosaic.Lib.Quiescent

@[expose] public section

noncomputable section

namespace Cert.Proof

open Idealize.ShloMosaic Idealize.ShloMosaic.TcCoe Idealize.SL.Sem

/-! ### The references' frames: host operations only, no semaphore declared -/

theorem frame_ProjReference : quiescent_ProjReferenceIdeal := fun m ρ _ =>
  (θ_run _ _ _).mono (fun r h => ⟨fun c => (h c).2.2.2.2, sem_eq_zero_of_no_sems rfl r.2⟩) (Cert.ProjReferenceIdeal.Value.run m ρ)

theorem frame_InWReference : quiescent_InWReferenceIdeal := fun m ρ _ =>
  (θ_run _ _ _).mono (fun r h => ⟨fun c => (h c).2, sem_eq_zero_of_no_sems rfl r.2⟩) (Cert.InWReferenceIdeal.Value.run m ρ)

theorem frame_InXReference : quiescent_InXReferenceIdeal := fun m ρ _ =>
  (θ_run _ _ _).mono (fun r h => ⟨fun c => (h c).2.2, sem_eq_zero_of_no_sems rfl r.2⟩) (Cert.InXReferenceIdeal.Value.run m ρ)

theorem frame_InXAReference : quiescent_InXAReferenceIdeal := fun m ρ _ =>
  (θ_run _ _ _).mono (fun r h => ⟨fun c => (h c).2.2, sem_eq_zero_of_no_sems rfl r.2⟩) (Cert.InXAReferenceIdeal.Value.run m ρ)

theorem frame_InXBReference : quiescent_InXBReferenceIdeal := fun m ρ _ =>
  (θ_run _ _ _).mono (fun r h => ⟨fun c => (h c).2.2, sem_eq_zero_of_no_sems rfl r.2⟩) (Cert.InXBReferenceIdeal.Value.run m ρ)

/-! ### The value claims: kernel and reference leave the same arrays -/

/-- The four products of the output projections' weight gradients. -/
theorem values_Proj : algebraic_ProjIdeal_ProjReferenceIdeal := fun m g m' g' _ hm =>
  ⟨fun c => Cert.ProjVal.P4 m c, fun c => Cert.ProjVal.P5 m c, fun c => Cert.ProjVal.P6 m c, fun c => Cert.ProjVal.P7 m c,
    (θ_run _ _ _).mono (fun r h c => ⟨(h c).1.trans (Cert.ProjVal.final4 m c), (h c).2.1.trans (Cert.ProjVal.final5 m c),
      (h c).2.2.1.trans (Cert.ProjVal.final6 m c), (h c).2.2.2.1.trans (Cert.ProjVal.final7 m c), (h c).2.2.2.2⟩)
      (Cert.ProjIdeal.Value.run_blocks m g),
    (θ_run _ _ _).mono (fun r h c => by
      obtain ⟨e0, e1, e2, e3⟩ := hm c
      refine ⟨(h c).1.trans ?_, (h c).2.1.trans ?_, (h c).2.2.1.trans ?_, (h c).2.2.2.1.trans ?_, (h c).2.2.2.2⟩
      · rw [Cert.ProjReferenceIdeal.Read.val_main_v28_eq, e0, e2]
        exact funext (Cert.ProjVal.ref4 (Cert.ProjVal.actsA m c) (Cert.ProjVal.dysA m c))
      · rw [Cert.ProjReferenceIdeal.Read.val_main_v26_eq, e0, e2]
        exact funext (Cert.ProjVal.ref5 (Cert.ProjVal.actsA m c) (Cert.ProjVal.dysA m c))
      · rw [Cert.ProjReferenceIdeal.Read.val_main_v24_eq, e0, e2]
        exact funext (Cert.ProjVal.ref6 (Cert.ProjVal.actsA m c) (Cert.ProjVal.dysA m c))
      · rw [Cert.ProjReferenceIdeal.Read.val_main_v22_eq, e1, e3]
        exact funext (Cert.ProjVal.ref7 (Cert.ProjVal.mergedA m c) (Cert.ProjVal.ctA m c)))
      (Cert.ProjReferenceIdeal.Value.run m' g')⟩

/-- The input projection's weight gradient. -/
theorem values_InW : algebraic_InWIdeal_InWReferenceIdeal := fun m g m' g' _ hm =>
  ⟨fun c => Cert.InWIdeal.Value.G2 m c, Cert.InWIdeal.Value.run m g,
    (θ_run _ _ _).mono (fun r h c => by
      obtain ⟨e0, e1⟩ := hm c
      refine ⟨(h c).1.trans ?_, (h c).2⟩
      rw [Cert.InWReferenceIdeal.Read.val_main_v6_eq, e0, e1]
      exact funext fun i => (Cert.InWVal.ref_apply (Cert.InWVal.hA m c) (Cert.InWVal.dpA m c) i).trans (Cert.InWVal.G2_apply m c i).symm)
      (Cert.InWReferenceIdeal.Value.run m' g')⟩

/-- The input projection's input gradient through the normalisation, and the normalisation's scale gradient. -/
theorem values_InX : algebraic_InXIdeal_InXReferenceIdeal_pre_finite_x := fun m g m' g' hpre hm =>
  ⟨fun c => Cert.InXVal.DX (Cert.InXVal.xA m c) (Cert.InXVal.gA m c) (Cert.InXVal.wA m c) (Cert.InXVal.dpA m c) (Cert.InXVal.ctA m c),
    fun c => Cert.InXVal.DG (Cert.InXVal.xA m c) (Cert.InXVal.wA m c) (Cert.InXVal.dpA m c),
    (θ_run _ _ _).mono (fun r h c => ⟨(h c).1.trans (Cert.InXVal.final5 m c), (h c).2.1.trans (Cert.InXVal.final6 m c), (h c).2.2⟩)
      (Cert.InXIdeal.Value.run_blocks m g),
    (θ_run _ _ _).mono (fun r h c => by
      obtain ⟨e0, e1, e2, e3, e4⟩ := hm c
      obtain ⟨p0, p1, p2, p3, -⟩ := hpre c
      obtain ⟨hx, hg, hw, hdp⟩ := Cert.InXVal.finite_of _ _ _ _ _ p0 p1 p2 p3
      refine ⟨(h c).1.trans ?_, (h c).2.1.trans ?_, (h c).2.2⟩
      · rw [Cert.InXReferenceIdeal.Read.val_main_v39_eq, e0, e1, e2, e3, e4]
        exact Cert.InXVal.dx_eq (Cert.InXVal.xA m c) (Cert.InXVal.gA m c) (Cert.InXVal.wA m c) (Cert.InXVal.dpA m c) (Cert.InXVal.ctA m c) hx hg hw hdp
      · rw [Cert.InXReferenceIdeal.Read.val_main_v41_eq, e0, e2, e3]
        exact Cert.InXVal.ref_dg (Cert.InXVal.xA m c) (Cert.InXVal.wA m c) (Cert.InXVal.dpA m c))
      (Cert.InXReferenceIdeal.Value.run m' g')⟩

/-- The first piece of the input gradient, and its part of the scale gradient. -/
theorem values_InXA : algebraic_InXAIdeal_InXAReferenceIdeal_pre_finite_x := fun m g m' g' hpre hm =>
  ⟨fun c => Cert.InXAVal.DX (Cert.InXAVal.xA m c) (Cert.InXAVal.gA m c) (Cert.InXAVal.wA m c) (Cert.InXAVal.dpA m c) (Cert.InXAVal.ctA m c),
    fun c => Cert.InXAVal.DG (Cert.InXAVal.xA m c) (Cert.InXAVal.wA m c) (Cert.InXAVal.dpA m c),
    (θ_run _ _ _).mono (fun r h c => ⟨((h.1 c).2 Cert.InXAIdeal.main_v4 (Pipeline.mem_restRefs_of Cert.InXAIdeal.main_v4 (by decide) (by decide))).trans (Cert.InXAVal.final5 m c),
      ((h.1 c).1 6).trans (Cert.InXAVal.final6 m c), h.2 c⟩)
      (θ_run_and (Cert.InXAIdeal.Gen.run_main m g) (Cert.InXAIdeal.Gen.unchanged m g)),
    (θ_run _ _ _).mono (fun r h c => by
      obtain ⟨e0, e1, e2, e3, e4⟩ := hm c
      obtain ⟨p0, p1, p2, p3, -⟩ := hpre c
      obtain ⟨hx, hg, hw, hdp⟩ := Cert.InXAVal.finite_of _ _ _ _ _ p0 p1 p2 p3
      refine ⟨(h c).1.trans ?_, (h c).2.1.trans ?_, (h c).2.2⟩
      · rw [Cert.InXAReferenceIdeal.Read.val_main_v42_eq, e0, e1, e2, e3, e4]
        exact Cert.InXAVal.dx_eq (Cert.InXAVal.xF m c) (Cert.InXAVal.gA m c) (Cert.InXAVal.wA m c) (Cert.InXAVal.dpF m c) (Cert.InXAVal.ctF m c) hx hg hw hdp
      · rw [Cert.InXAReferenceIdeal.Read.val_main_v44_eq, e0, e2, e3]
        refine (Cert.InXAVal.ref_dg (Cert.InXAVal.xF m c) (Cert.InXAVal.wA m c) (Cert.InXAVal.dpF m c)).trans ?_
        rw [Cert.InXAVal.cutX_eq0, Cert.InXAVal.cutP_eq])
      (Cert.InXAReferenceIdeal.Value.run m' g')⟩

/-- The second piece of the input gradient below the rows given, and its part of the scale gradient. -/
theorem values_InXB : algebraic_InXBIdeal_InXBReferenceIdeal_pre_finite_xb := fun m g m' g' hpre hm =>
  ⟨fun c => Cert.InXBVal.DXF m c,
    fun c => Cert.InXBVal.DG (Cert.InXBVal.xA m c) (Cert.InXBVal.wA m c) (Cert.InXBVal.dpA m c),
    (θ_run _ _ _).mono (fun r h c => ⟨(h c).1.trans (Cert.InXBVal.final5 m c), (h c).2.1.trans (Cert.InXBVal.final6 m c), (h c).2.2⟩)
      (Cert.InXBIdeal.Value.run_blocks m g),
    (θ_run _ _ _).mono (fun r h c => by
      obtain ⟨e0, e1, e2, e3, e4, e5⟩ := hm c
      obtain ⟨p0, p1, p2, p3, -⟩ := hpre c
      obtain ⟨hx, hg, hw, hdp⟩ := Cert.InXBVal.finite_of _ _ _ _ _ _ p0 p1 p2 p3
      refine ⟨(h c).1.trans ?_, (h c).2.1.trans ?_, (h c).2.2⟩
      · rw [Cert.InXBReferenceIdeal.Read.val_main_v46_eq, e0, e1, e2, e3, e4, e5]
        exact Cert.InXBVal.ref_all m c hx hg hw hdp
      · rw [Cert.InXBReferenceIdeal.Read.val_main_v44_eq, e0, e2, e3]
        refine (Cert.InXBVal.ref_dg (Cert.InXBVal.xF m c) (Cert.InXBVal.wA m c) (Cert.InXBVal.dpF m c)).trans ?_
        rw [Cert.InXBVal.cutX_eq0, Cert.InXBVal.cutP_eq])
      (Cert.InXBReferenceIdeal.Value.run m' g')⟩

/-- Everything certified. -/
theorem claim : Cert.Claim :=
  ⟨inferInstance, inferInstance, inferInstance, inferInstance, inferInstance, inferInstance, inferInstance, inferInstance,
    inferInstance, inferInstance, inferInstance, inferInstance, inferInstance, inferInstance, inferInstance,
    inferInstance, inferInstance, inferInstance, inferInstance, inferInstance, inferInstance, inferInstance, inferInstance,
    Cert.MixVal.frame_Mix, Cert.MixVal.frame_MixIdeal, Cert.MixVal.frame_MixReference,
    fun m ρ _ => Cert.Proj.Gen.frame m ρ, fun m ρ _ => Cert.ProjIdeal.Gen.frame m ρ, frame_ProjReference,
    fun m ρ _ => Cert.InW.Gen.frame m ρ, fun m ρ _ => Cert.InWIdeal.Gen.frame m ρ, frame_InWReference,
    fun m ρ _ => Cert.InX.Gen.frame m ρ, fun m ρ _ => Cert.InXIdeal.Gen.frame m ρ, fun m ρ _ => Cert.InXIdeal.Gen.frame m ρ,
    frame_InXReference, fun m ρ _ => frame_InXReference m ρ trivial,
    Cert.InPVal.frame_InP, Cert.InPVal.frame_InPIdeal, Cert.InPVal.frame_InPReference,
    fun m ρ _ => Cert.InXA.Gen.frame m ρ, fun m ρ _ => Cert.InXAIdeal.Gen.frame m ρ, fun m ρ _ => Cert.InXAIdeal.Gen.frame m ρ,
    frame_InXAReference, fun m ρ _ => frame_InXAReference m ρ trivial,
    fun m ρ _ => Cert.InXB.Gen.frame m ρ, fun m ρ _ => Cert.InXBIdeal.Gen.frame m ρ, fun m ρ _ => Cert.InXBIdeal.Gen.frame m ρ,
    frame_InXBReference, fun m ρ _ => frame_InXBReference m ρ trivial,
    trivial, Cert.MixVal.values_Mix, trivial, values_Proj, trivial, values_InW, trivial, values_InX,
    trivial, Cert.InPVal.values_InP, trivial, values_InXA, trivial, values_InXB⟩

end Cert.Proof

end
